-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8))).1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8))).2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8))).2.2 = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite19 [hPre_finite19 : Cert.Pre_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8))).1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8))).2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8))).2.2 = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8))
      ∧ r.2.sem = fun _ => 0)

def quiescent_Reference19Ideal_pre_finite19 [hReference19Ideal : Cert.Reference19Ideal.Facts] [hPre_finite19 : Cert.Pre_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7_2)) (v1 : (c : Dev Cert.Kernel2Ideal.nD) → Buf (Elt Ideal) ((c.tc : Thread Cert.Kernel2Ideal.nD Cert.Kernel2Ideal.τ).loc Cert.Kernel2Ideal.main_v11_0)) (v2 : (c : Dev Cert.Kernel2Ideal.nD) → Buf (Elt Ideal) ((c.tc : Thread Cert.Kernel2Ideal.nD Cert.Kernel2Ideal.τ).loc Cert.Kernel2Ideal.main_v11_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_2) = v0 c
          ∧ r.2.mem ((c.tc : Thread Cert.Kernel2Ideal.nD Cert.Kernel2Ideal.τ).loc Cert.Kernel2Ideal.main_v11_0) = v1 c
          ∧ r.2.mem ((c.tc : Thread Cert.Kernel2Ideal.nD Cert.Kernel2Ideal.τ).loc Cert.Kernel2Ideal.main_v11_1) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_v19) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v6)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v6) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v7)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v7) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v17) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v2_0)) (v1 : (c : Dev Cert.Kernel17Ideal.nD) → Buf (Elt Ideal) ((c.tc : Thread Cert.Kernel17Ideal.nD Cert.Kernel17Ideal.τ).loc Cert.Kernel17Ideal.main_v2_1)) (v2 : (c : Dev Cert.Kernel17Ideal.nD) → Buf (Elt Ideal) ((c.tc : Thread Cert.Kernel17Ideal.nD Cert.Kernel17Ideal.τ).loc Cert.Kernel17Ideal.main_v2_2)) (v3 : (c : Dev Cert.Kernel17Ideal.nD) → Buf (Elt Ideal) ((c.tc : Thread Cert.Kernel17Ideal.nD Cert.Kernel17Ideal.τ).loc Cert.Kernel17Ideal.main_v2_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2_0) = v0 c
          ∧ r.2.mem ((c.tc : Thread Cert.Kernel17Ideal.nD Cert.Kernel17Ideal.τ).loc Cert.Kernel17Ideal.main_v2_1) = v1 c
          ∧ r.2.mem ((c.tc : Thread Cert.Kernel17Ideal.nD Cert.Kernel17Ideal.τ).loc Cert.Kernel17Ideal.main_v2_2) = v2 c
          ∧ r.2.mem ((c.tc : Thread Cert.Kernel17Ideal.nD Cert.Kernel17Ideal.τ).loc Cert.Kernel17Ideal.main_v2_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v36) = v0 c
          ∧ r.2.mem ((c.tc : Thread Cert.Reference17Ideal.nD Cert.Reference17Ideal.τ).loc Cert.Reference17Ideal.main_v73) = v1 c
          ∧ r.2.mem ((c.tc : Thread Cert.Reference17Ideal.nD Cert.Reference17Ideal.τ).loc Cert.Reference17Ideal.main_v74) = v2 c
          ∧ r.2.mem ((c.tc : Thread Cert.Reference17Ideal.nD Cert.Reference17Ideal.τ).loc Cert.Reference17Ideal.main_v75) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel19_Kernel19Ideal : Prop :=
  True

def algebraic_Kernel19Ideal_Reference19Ideal_pre_finite19 [hKernel19Ideal : Cert.Kernel19Ideal.Facts] [hReference19Ideal : Cert.Reference19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)) →
    ∃ (v0 : (c : Dev Cert.Kernel19Ideal.nD) → Buf (Elt Ideal) ((c.tc : Thread Cert.Kernel19Ideal.nD Cert.Kernel19Ideal.τ).loc Cert.Kernel19Ideal.main_v28_0)) (v1 : (c : Dev Cert.Kernel19Ideal.nD) → Buf (Elt Ideal) ((c.tc : Thread Cert.Kernel19Ideal.nD Cert.Kernel19Ideal.τ).loc Cert.Kernel19Ideal.main_v28_1)) (v2 : (c : Dev Cert.Kernel19Ideal.nD) → Buf (Elt Ideal) ((c.tc : Thread Cert.Kernel19Ideal.nD Cert.Kernel19Ideal.τ).loc Cert.Kernel19Ideal.main_v28_2)) (v3 : (c : Dev Cert.Kernel19Ideal.nD) → Buf (Elt Ideal) ((c.tc : Thread Cert.Kernel19Ideal.nD Cert.Kernel19Ideal.τ).loc Cert.Kernel19Ideal.main_v28_3)) (v4 : (c : Dev Cert.Kernel19Ideal.nD) → Buf (Elt Ideal) ((c.tc : Thread Cert.Kernel19Ideal.nD Cert.Kernel19Ideal.τ).loc Cert.Kernel19Ideal.main_v28_4)) (v5 : (c : Dev Cert.Kernel19Ideal.nD) → Buf (Elt Ideal) ((c.tc : Thread Cert.Kernel19Ideal.nD Cert.Kernel19Ideal.τ).loc Cert.Kernel19Ideal.main_v28_5)) (v6 : (c : Dev Cert.Kernel19Ideal.nD) → Buf (Elt Ideal) ((c.tc : Thread Cert.Kernel19Ideal.nD Cert.Kernel19Ideal.τ).loc Cert.Kernel19Ideal.main_v28_6)) (v7 : (c : Dev Cert.Kernel19Ideal.nD) → Buf (Elt Ideal) ((c.tc : Thread Cert.Kernel19Ideal.nD Cert.Kernel19Ideal.τ).loc Cert.Kernel19Ideal.main_v28_7)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v28_0) = v0 c
          ∧ r.2.mem ((c.tc : Thread Cert.Kernel19Ideal.nD Cert.Kernel19Ideal.τ).loc Cert.Kernel19Ideal.main_v28_1) = v1 c
          ∧ r.2.mem ((c.tc : Thread Cert.Kernel19Ideal.nD Cert.Kernel19Ideal.τ).loc Cert.Kernel19Ideal.main_v28_2) = v2 c
          ∧ r.2.mem ((c.tc : Thread Cert.Kernel19Ideal.nD Cert.Kernel19Ideal.τ).loc Cert.Kernel19Ideal.main_v28_3) = v3 c
          ∧ r.2.mem ((c.tc : Thread Cert.Kernel19Ideal.nD Cert.Kernel19Ideal.τ).loc Cert.Kernel19Ideal.main_v28_4) = v4 c
          ∧ r.2.mem ((c.tc : Thread Cert.Kernel19Ideal.nD Cert.Kernel19Ideal.τ).loc Cert.Kernel19Ideal.main_v28_5) = v5 c
          ∧ r.2.mem ((c.tc : Thread Cert.Kernel19Ideal.nD Cert.Kernel19Ideal.τ).loc Cert.Kernel19Ideal.main_v28_6) = v6 c
          ∧ r.2.mem ((c.tc : Thread Cert.Kernel19Ideal.nD Cert.Kernel19Ideal.τ).loc Cert.Kernel19Ideal.main_v28_7) = v7 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v169) = v0 c
          ∧ r.2.mem ((c.tc : Thread Cert.Reference19Ideal.nD Cert.Reference19Ideal.τ).loc Cert.Reference19Ideal.main_v149) = v1 c
          ∧ r.2.mem ((c.tc : Thread Cert.Reference19Ideal.nD Cert.Reference19Ideal.τ).loc Cert.Reference19Ideal.main_v97) = v2 c
          ∧ r.2.mem ((c.tc : Thread Cert.Reference19Ideal.nD Cert.Reference19Ideal.τ).loc Cert.Reference19Ideal.main_v170) = v3 c
          ∧ r.2.mem ((c.tc : Thread Cert.Reference19Ideal.nD Cert.Reference19Ideal.τ).loc Cert.Reference19Ideal.main_v171) = v4 c
          ∧ r.2.mem ((c.tc : Thread Cert.Reference19Ideal.nD Cert.Reference19Ideal.τ).loc Cert.Reference19Ideal.main_v172) = v5 c
          ∧ r.2.mem ((c.tc : Thread Cert.Reference19Ideal.nD Cert.Reference19Ideal.τ).loc Cert.Reference19Ideal.main_v173) = v6 c
          ∧ r.2.mem ((c.tc : Thread Cert.Reference19Ideal.nD Cert.Reference19Ideal.τ).loc Cert.Reference19Ideal.main_v174) = v7 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v36) = v0 c
          ∧ r.2.mem ((c.tc : Thread Cert.Reference18Ideal.nD Cert.Reference18Ideal.τ).loc Cert.Reference18Ideal.main_v37) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4)) (v1 : (c : Dev Cert.Kernel20Ideal.nD) → Buf (Elt Ideal) ((c.tc : Thread Cert.Kernel20Ideal.nD Cert.Kernel20Ideal.τ).loc Cert.Kernel20Ideal.main_v1_1)) (v2 : (c : Dev Cert.Kernel20Ideal.nD) → Buf (Elt Ideal) ((c.tc : Thread Cert.Kernel20Ideal.nD Cert.Kernel20Ideal.τ).loc Cert.Kernel20Ideal.main_v1_2)) (v3 : (c : Dev Cert.Kernel20Ideal.nD) → Buf (Elt Ideal) ((c.tc : Thread Cert.Kernel20Ideal.nD Cert.Kernel20Ideal.τ).loc Cert.Kernel20Ideal.main_v1_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_v1_2) = v2 c
          ∧ r.2.mem ((c.tc : Thread Cert.Kernel20Ideal.nD Cert.Kernel20Ideal.τ).loc Cert.Kernel20Ideal.main_v1_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v25) = v0 c
          ∧ r.2.mem ((c.tc : Thread Cert.Reference20Ideal.nD Cert.Reference20Ideal.τ).loc Cert.Reference20Ideal.main_v31) = v1 c
          ∧ r.2.mem ((c.tc : Thread Cert.Reference20Ideal.nD Cert.Reference20Ideal.τ).loc Cert.Reference20Ideal.main_v52) = v2 c
          ∧ r.2.mem ((c.tc : Thread Cert.Reference20Ideal.nD Cert.Reference20Ideal.τ).loc Cert.Reference20Ideal.main_v53) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v13) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v2_0)) (v1 : (c : Dev Cert.Kernel22Ideal.nD) → Buf (Elt Ideal) ((c.tc : Thread Cert.Kernel22Ideal.nD Cert.Kernel22Ideal.τ).loc Cert.Kernel22Ideal.main_v2_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2_0) = v0 c
          ∧ r.2.mem ((c.tc : Thread Cert.Kernel22Ideal.nD Cert.Kernel22Ideal.τ).loc Cert.Kernel22Ideal.main_v2_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v13) = v0 c
          ∧ r.2.mem ((c.tc : Thread Cert.Reference22Ideal.nD Cert.Reference22Ideal.τ).loc Cert.Reference22Ideal.main_v27) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v3) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v40) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel19 : Cert.Kernel19.Facts) (hKernel19Ideal : Cert.Kernel19Ideal.Facts) (hReference19Ideal : Cert.Reference19Ideal.Facts) (hKernel18 : Cert.Kernel18.Facts) (hKernel18Ideal : Cert.Kernel18Ideal.Facts) (hReference18Ideal : Cert.Reference18Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts) (hPre_finite2 : Cert.Pre_finite2.Facts) (hPre_finite19 : Cert.Pre_finite19.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference19Ideal (hReference19Ideal := hReference19Ideal)
    ∧ quiescent_Reference19Ideal_pre_finite19 (hReference19Ideal := hReference19Ideal) (hPre_finite19 := hPre_finite19)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel19_Kernel19Ideal
    ∧ algebraic_Kernel19Ideal_Reference19Ideal_pre_finite19 (hKernel19Ideal := hKernel19Ideal) (hReference19Ideal := hReference19Ideal) (hPre_finite19 := hPre_finite19)
    ∧ preserves_Kernel18_Kernel18Ideal
    ∧ algebraic_Kernel18Ideal_Reference18Ideal (hKernel18Ideal := hKernel18Ideal) (hReference18Ideal := hReference18Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite.lean ====
abbrev S2048x5120 : Shape := ⟨2, ![2048, 5120]⟩
abbrev S2048x1024 : Shape := ⟨2, ![2048, 1024]⟩
abbrev S_ : Shape := ⟨0, ![]⟩

class Facts : Prop where
  bcast_S_S2048x5120 : S_.BroadcastsInDim S2048x5120 (![] : Fin 0 → Fin S2048x5120.rank)
  bcast_S_S2048x1024 : S_.BroadcastsInDim S2048x1024 (![] : Fin 0 → Fin S2048x1024.rank)

variable [Facts]

def fn {F : FTy → Type} [FloatOps F] (main_arg0 : FVec F S2048x5120 .f32) (main_arg1 : FVec F S2048x1024 .f32) : IVec S2048x5120 1 × IVec S2048x1024 1 :=
  let main_v0 : FVec F S2048x5120 .f32 := Host.absf main_arg0
  let main_cst : FVec F S_ .f32 := constant S_ .f32 0x7F800000#32
  let main_v1 : FVec F S2048x5120 .f32 := broadcastInDim S2048x5120 ![] bcast_S_S2048x5120 main_cst
  let main_v2 : IVec S2048x5120 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  (main_v2, main_v5)
-- ==== Pre_finite19.lean ====
abbrev S2048x2048 : Shape := ⟨2, ![2048, 2048]⟩
abbrev S2048x1024 : Shape := ⟨2, ![2048, 1024]⟩
abbrev S2048x512 : Shape := ⟨2, ![2048, 512]⟩
abbrev S1024 : Shape := ⟨1, ![1024]⟩
abbrev S512 : Shape := ⟨1, ![512]⟩
abbrev S_ : Shape := ⟨0, ![]⟩

class Facts : Prop where
  bcast_S_S2048x2048 : S_.BroadcastsInDim S2048x2048 (![] : Fin 0 → Fin S2048x2048.rank)
  bcast_S_S512 : S_.BroadcastsInDim S512 (![] : Fin 0 → Fin S512.rank)

variable [Facts]

def fn {F : FTy → Type} [FloatOps F] (main_arg0 : FVec F S2048x2048 .f32) (main_arg1 : FVec F S2048x1024 .f32) (main_arg2 : FVec F S2048x512 .f32) (main_arg3 : FVec F S2048x512 .f32) (main_arg4 : FVec F S1024 .f32) (main_arg5 : FVec F S512 .f32) (main_arg6 : FVec F S512 .f32) (main_arg7 : FVec F S512 .f32) (main_arg8 : FVec F S512 .f32) : IVec S2048x2048 1 × IVec S512 1 × IVec S512 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S512 .f32 := Host.absf main_arg5
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  let main_v6 : FVec F S512 .f32 := Host.absf main_arg7
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  (main_v2, main_v5, main_v8)
-- ==== Pre_finite2.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩

class Facts : Prop where
  bcast_S_S2048x2048 : S_.BroadcastsInDim S2048x2048 (![] : Fin 0 → Fin S2048x2048.rank)
  bcast_S_S2048x5632 : S_.BroadcastsInDim S2048x5632 (![] : Fin 0 → Fin S2048x5632.rank)
  bcast_S_S5632x2048 : S_.BroadcastsInDim S5632x2048 (![] : Fin 0 → Fin S5632x2048.rank)

variable [Facts]

def fn {F : FTy → Type} [FloatOps F] (main_arg0 : FVec F S2048x2048 .f32) (main_arg1 : FVec F S2048x5632 .f32) (main_arg2 : FVec F S2048x5632 .f32) (main_arg3 : FVec F S5632x2048 .f32) (main_arg4 : FVec F S2048x2048 .f32) : IVec S2048x2048 1 × IVec S2048x5632 1 × IVec S2048x5632 1 × IVec S5632x2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x5632 .f32 := Host.absf main_arg1
  let main_cst_0 : FVec F S_ .f32 := constant S_ .f32 0x7F800000#32
  let main_v4 : FVec F S2048x5632 .f32 := broadcastInDim S2048x5632 ![] bcast_S_S2048x5632 main_cst_0
  let main_v5 : IVec S2048x5632 1 := cmpf .olt main_v3 main_v4
  let main_v6 : FVec F S2048x5632 .f32 := Host.absf main_arg2
  let main_cst_1 : FVec F S_ .f32 := constant S_ .f32 0x7F800000#32
  let main_v7 : FVec F S2048x5632 .f32 := broadcastInDim S2048x5632 ![] bcast_S_S2048x5632 main_cst_1
  let main_v8 : IVec S2048x5632 1 := cmpf .olt main_v6 main_v7
  let main_v9 : FVec F S5632x2048 .f32 := Host.absf main_arg3
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_v12 : FVec F S2048x2048 .f32 := Host.absf main_arg4
  let main_cst_3 : FVec F S_ .f32 := constant S_ .f32 0x7F800000#32
  let main_v13 : FVec F S2048x2048 .f32 := broadcastInDim S2048x2048 ![] bcast_S_S2048x2048 main_cst_3
  let main_v14 : IVec S2048x2048 1 := cmpf .olt main_v12 main_v13
  (main_v2, main_v5, main_v8, main_v11, main_v14)
-- ==== Kernel.lean ====
abbrev S2048x5120 : Shape := ⟨2, ![2048, 5120]⟩
abbrev S2048x1024 : Shape := ⟨2, ![2048, 1024]⟩
abbrev S2048x8x128 : Shape := ⟨3, ![2048, 8, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048x4x512 : Shape := ⟨4, ![8, 2048, 4, 512]⟩
abbrev S8x2048x4 : Shape := ⟨3, ![8, 2048, 4]⟩
abbrev S8x4x512x4 : Shape := ⟨4, ![8, 4, 512, 4]⟩
abbrev S8x4x4x512 : Shape := ⟨4, ![8, 4, 4, 512]⟩
abbrev S8x4x4x1x512 : Shape := ⟨5, ![8, 4, 4, 1, 512]⟩
abbrev S8x4x4x8x512 : Shape := ⟨5, ![8, 4, 4, 8, 512]⟩
abbrev S2048x256 : Shape := ⟨2, ![2048, 256]⟩
abbrev S2x4x4x8x512 : Shape := ⟨5, ![2, 4, 4, 8, 512]⟩
abbrev S512x256 : Shape := ⟨2, ![512, 256]⟩
abbrev S512x512 : Shape := ⟨2, ![512, 512]⟩
abbrev S256x256 : Shape := ⟨2, ![256, 256]⟩
abbrev S512x128 : Shape := ⟨2, ![512, 128]⟩
abbrev S512x1 : Shape := ⟨2, ![512, 1]⟩
abbrev S512 : Shape := ⟨1, ![512]⟩
abbrev S1x1x1x8x512 : Shape := ⟨5, ![1, 1, 1, 8, 512]⟩
abbrev S8x512 : Shape := ⟨2, ![8, 512]⟩
abbrev S128x512 : Shape := ⟨2, ![128, 512]⟩

abbrev nBuf : Space → Nat
  | .hbm => 53
  | .vmem => 23
  | .smem => 0
  | _ => 0

abbrev bufTy : (tb : Table) → Fin (tcTables nBuf tb) → BufTy
  | .hbm, ⟨0, _⟩ => ⟨S2048x5120, .f32⟩
  | .hbm, ⟨1, _⟩ => ⟨S2048x1024, .f32⟩
  | .hbm, ⟨2, _⟩ => ⟨S2048x1024, .f32⟩
  | .hbm, ⟨3, _⟩ => ⟨S2048x8x128, .f32⟩
  | .hbm, ⟨4, _⟩ => ⟨S2048x1024, .f32⟩
  | .hbm, ⟨5, _⟩ => ⟨S2048x8x128, .f32⟩
  | .hbm, ⟨6, _⟩ => ⟨S8x2048x2048, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S2048, .i32⟩
  | .hbm, ⟨11, _⟩ => ⟨S1x2048, .i32⟩
  | .hbm, ⟨12, _⟩ => ⟨S2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S_, .f32⟩
  | .hbm, ⟨36, _⟩ => ⟨S8x2048x2048, .i1⟩
  | .hbm, ⟨37, _⟩ => ⟨S8x2048x2048, .f32⟩
  | .hbm, ⟨38, _⟩ => ⟨S8x2048x2048, .f32⟩
  | .hbm, ⟨39, _⟩ => ⟨S8x2048x4x512, .f32⟩
  | .hbm, ⟨40, _⟩ => ⟨S_, .f32⟩
  | .hbm, ⟨41, _⟩ => ⟨S8x2048x4, .f32⟩
  | .hbm, ⟨42, _⟩ => ⟨S_, .f32⟩
  | .hbm, ⟨43, _⟩ => ⟨S_, .f32⟩
  | .hbm, ⟨44, _⟩ => ⟨S8x2048x4, .f32⟩
  | .hbm, ⟨45, _⟩ => ⟨S8x2048x4, .f32⟩
  | .hbm, ⟨46, _⟩ => ⟨S8x4x512x4, .f32⟩
  | .hbm, ⟨47, _⟩ => ⟨S8x4x4x512, .f32⟩
  | .hbm, ⟨48, _⟩ => ⟨S8x4x4x1x512, .f32⟩
  | .hbm, ⟨49, _⟩ => ⟨S8x4x4x8x512, .f32⟩
  | .hbm, ⟨50, _⟩ => ⟨S2048x1024, .bf16⟩
  | .hbm, ⟨51, _⟩ => ⟨S2048x1024, .bf16⟩
  | .hbm, ⟨52, _⟩ => ⟨S2048x1024, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2x4x4x8x512, .f32⟩
  | .local _ .vmem, ⟨9, _⟩ => ⟨S2x4x4x8x512, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .f32⟩
  | .local _ .vmem, ⟨21, _⟩ => ⟨S2048x256, .f32⟩
  | .local _ .vmem, ⟨22, _⟩ => ⟨S512x256, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_call2_cst : Ref sig .tc := ⟨.hbm, 42, rfl⟩
abbrev main_call2_v0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25_0 : Ref sig .tc := ⟨.hbm, 50, rfl⟩
abbrev main_v25_1 : Ref sig .tc := ⟨.hbm, 51, rfl⟩
abbrev main_v25_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v41 : BitVec 32 := Scalar.addi c0_i32 c4_i32
  let c1_i32 : BitVec 32 := 1#32
  ⟨c0_i32, v41, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c512_i32 : BitVec 32 := 512#32
  let v48 : BitVec 32 := Scalar.muli arg16 c512_i32
  v48
def k0_off1 (k0_t1 : Fin k0_t1_loop.trips) : Fin 2 → Nat :=
  let c0_i32 : BitVec 32 := 0#32
  let c1_i32 : BitVec 32 := 1#32
  let arg16 : BitVec 32 := Scf.iv c0_i32 c1_i32 k0_t1
  let c512_i32 : BitVec 32 := 512#32
  let v48 : BitVec 32 := Scalar.muli arg16 c512_i32
  let v49 : BitVec 32 := v48
  let v50 : Index := Scalar.indexCast v49
  let c0_29 : Index := 0#32
  ![v50.toNat, 0]
def k0_off2 (k0_t1 : Fin k0_t1_loop.trips) : Fin 2 → Nat :=
  let c0_i32 : BitVec 32 := 0#32
  let c1_i32 : BitVec 32 := 1#32
  let arg16 : BitVec 32 := Scf.iv c0_i32 c1_i32 k0_t1
  let c512_i32 : BitVec 32 := 512#32
  let v48 : BitVec 32 := Scalar.muli arg16 c512_i32
  let v49 : BitVec 32 := v48
  let v52 : Index := Scalar.indexCast v49
  let c128 : Index := 128#32
  ![v52.toNat, 128]
@[reducible] def k0_t2_loop (k0_t1 : Fin k0_t1_loop.trips) : Scf.Loop 32 :=
  let c0_i32_47 : BitVec 32 := 0#32
  let c0_i32 : BitVec 32 := 0#32
  let c1_i32 : BitVec 32 := 1#32
  let arg16 : BitVec 32 := Scf.iv c0_i32 c1_i32 k0_t1
  let c512_i32 : BitVec 32 := 512#32
  let v48 : BitVec 32 := Scalar.muli arg16 c512_i32
  let v49 : BitVec 32 := v48
  let c512_i32_35 : BitVec 32 := 512#32
  let v62 : BitVec 32 := Scalar.addi v49 c512_i32_35
  let c512_i32_36 : BitVec 32 := 512#32
  let v63 : BitVec 32 := Scalar.addi v62 c512_i32_36
  let c1_i32_37 : BitVec 32 := 1#32
  let v64 : BitVec 32 := Scalar.subi v63 c1_i32_37
  let c0_i32_39 : BitVec 32 := 0#32
  let v66 : BitVec 1 := Scalar.cmpi .sgt v64 c0_i32_39
  let v67 : BitVec 32 := Scalar.extui v66
  let c0_i32_40 : BitVec 32 := 0#32
  let v68 : BitVec 1 := Scalar.cmpi .slt v64 c0_i32_40
  let v69 : BitVec 32 := Scalar.extui v68
  let v70 : BitVec 32 := Scalar.subi v67 v69
  let c512_i32_38 : BitVec 32 := 512#32
  let c0_i32_41 : BitVec 32 := 0#32
  let v71 : BitVec 1 := Scalar.cmpi .sgt c512_i32_38 c0_i32_41
  let v72 : BitVec 32 := Scalar.extui v71
  let c0_i32_42 : BitVec 32 := 0#32
  let v73 : BitVec 1 := Scalar.cmpi .slt c512_i32_38 c0_i32_42
  let v74 : BitVec 32 := Scalar.extui v73
  let v75 : BitVec 32 := Scalar.subi v72 v74
  let v76 : BitVec 1 := Scalar.cmpi .ne v70 v75
  let v77 : BitVec 32 := Scalar.remsi v64 c512_i32_38
  let c0_i32_43 : BitVec 32 := 0#32
  let v78 : BitVec 1 := Scalar.cmpi .ne v77 c0_i32_43
  let v79 : BitVec 1 := Scalar.andi v76 v78
  let v65 : BitVec 32 := Scalar.divsi v64 c512_i32_38
  let c1_i32_44 : BitVec 32 := 1#32
  let v80 : BitVec 32 := Scalar.subi v65 c1_i32_44
  let v81 : BitVec 32 := Scalar.select v79 v80 v65
  let v84 : BitVec 32 := Scalar.subi v81 c0_i32_47
  let c1_i32_48 : BitVec 32 := 1#32
  let v86 : BitVec 32 := Scalar.divsi v84 c1_i32_48
  let v87 : BitVec 32 := Scalar.muli v86 c1_i32_48
  let v88 : BitVec 32 := Scalar.addi c0_i32_47 v87
  let c1_i32_49 : BitVec 32 := 1#32
  ⟨c0_i32_47, v88, c1_i32_49⟩
def k0_mult2 (k0_t1 : Fin k0_t1_loop.trips) (k0_t2 : Fin (k0_t2_loop k0_t1).trips) : BitVec 32 :=
  let c0_i32_47 : BitVec 32 := 0#32
  let c1_i32_49 : BitVec 32 := 1#32
  let arg17 : BitVec 32 := Scf.iv c0_i32_47 c1_i32_49 k0_t2
  let c512_i32_54 : BitVec 32 := 512#32
  let v95 : BitVec 32 := Scalar.muli arg17 c512_i32_54
  v95
def k0_off3 (k0_t1 : Fin k0_t1_loop.trips) (k0_t2 : Fin (k0_t2_loop k0_t1).trips) : Fin 2 → Nat :=
  let c0_i32_47 : BitVec 32 := 0#32
  let c1_i32_49 : BitVec 32 := 1#32
  let arg17 : BitVec 32 := Scf.iv c0_i32_47 c1_i32_49 k0_t2
  let c512_i32_54 : BitVec 32 := 512#32
  let v95 : BitVec 32 := Scalar.muli arg17 c512_i32_54
  let v96 : BitVec 32 := v95
  let v97 : Index := Scalar.indexCast v96
  let c0_55 : Index := 0#32
  ![v97.toNat, 0]
def k0_off4 (k0_t1 : Fin k0_t1_loop.trips) (k0_t2 : Fin (k0_t2_loop k0_t1).trips) : Fin 5 → Nat :=
  let c0_70 : Index := 0#32
  let c0_i32 : BitVec 32 := 0#32
  let c1_i32 : BitVec 32 := 1#32
  let arg16 : BitVec 32 := Scf.iv c0_i32 c1_i32 k0_t1
  let v147 : Index := Scalar.indexCast arg16
  let c0_i32_47 : BitVec 32 := 0#32
  let c1_i32_49 : BitVec 32 := 1#32
  let arg17 : BitVec 32 := Scf.iv c0_i32_47 c1_i32_49 k0_t2
  let v148 : Index := Scalar.indexCast arg17
  let c0_71 : Index := 0#32
  let c0_72 : Index := 0#32
  ![0, v147.toNat, v148.toNat, 0, 0]
def k0_off5 (k0_t1 : Fin k0_t1_loop.trips) (k0_t2 : Fin (k0_t2_loop k0_t1).trips) : Fin 2 → Nat :=
  let c0_i32_47 : BitVec 32 := 0#32
  let c1_i32_49 : BitVec 32 := 1#32
  let arg17 : BitVec 32 := Scf.iv c0_i32_47 c1_i32_49 k0_t2
  let c512_i32_54 : BitVec 32 := 512#32
  let v95 : BitVec 32 := Scalar.muli arg17 c512_i32_54
  let v96 : BitVec 32 := v95
  let v222 : Index := Scalar.indexCast v96
  let c128_95 : Index := 128#32
  ![v222.toNat, 128]
def k0_off6 (k0_t1 : Fin k0_t1_loop.trips) (k0_t2 : Fin (k0_t2_loop k0_t1).trips) : Fin 5 → Nat :=
  let c1 : Index := 1#32
  let c0_i32 : BitVec 32 := 0#32
  let c1_i32 : BitVec 32 := 1#32
  let arg16 : BitVec 32 := Scf.iv c0_i32 c1_i32 k0_t1
  let v272 : Index := Scalar.indexCast arg16
  let c0_i32_47 : BitVec 32 := 0#32
  let c1_i32_49 : BitVec 32 := 1#32
  let arg17 : BitVec 32 := Scf.iv c0_i32_47 c1_i32_49 k0_t2
  let v273 : Index := Scalar.indexCast arg17
  let c0_110 : Index := 0#32
  let c0_111 : Index := 0#32
  ![1, v272.toNat, v273.toNat, 0, 0]
@[reducible] def k0_t3_loop (k0_t1 : Fin k0_t1_loop.trips) : Scf.Loop 32 :=
  let c0_i32_47 : BitVec 32 := 0#32
  let c0_i32 : BitVec 32 := 0#32
  let c1_i32 : BitVec 32 := 1#32
  let arg16 : BitVec 32 := Scf.iv c0_i32 c1_i32 k0_t1
  let c512_i32 : BitVec 32 := 512#32
  let v48 : BitVec 32 := Scalar.muli arg16 c512_i32
  let v49 : BitVec 32 := v48
  let c512_i32_35 : BitVec 32 := 512#32
  let v62 : BitVec 32 := Scalar.addi v49 c512_i32_35
  let c512_i32_36 : BitVec 32 := 512#32
  let v63 : BitVec 32 := Scalar.addi v62 c512_i32_36
  let c1_i32_37 : BitVec 32 := 1#32
  let v64 : BitVec 32 := Scalar.subi v63 c1_i32_37
  let c0_i32_39 : BitVec 32 := 0#32
  let v66 : BitVec 1 := Scalar.cmpi .sgt v64 c0_i32_39
  let v67 : BitVec 32 := Scalar.extui v66
  let c0_i32_40 : BitVec 32 := 0#32
  let v68 : BitVec 1 := Scalar.cmpi .slt v64 c0_i32_40
  let v69 : BitVec 32 := Scalar.extui v68
  let v70 : BitVec 32 := Scalar.subi v67 v69
  let c512_i32_38 : BitVec 32 := 512#32
  let c0_i32_41 : BitVec 32 := 0#32
  let v71 : BitVec 1 := Scalar.cmpi .sgt c512_i32_38 c0_i32_41
  let v72 : BitVec 32 := Scalar.extui v71
  let c0_i32_42 : BitVec 32 := 0#32
  let v73 : BitVec 1 := Scalar.cmpi .slt c512_i32_38 c0_i32_42
  let v74 : BitVec 32 := Scalar.extui v73
  let v75 : BitVec 32 := Scalar.subi v72 v74
  let v76 : BitVec 1 := Scalar.cmpi .ne v70 v75
  let v77 : BitVec 32 := Scalar.remsi v64 c512_i32_38
  let c0_i32_43 : BitVec 32 := 0#32
  let v78 : BitVec 1 := Scalar.cmpi .ne v77 c0_i32_43
  let v79 : BitVec 1 := Scalar.andi v76 v78
  let v65 : BitVec 32 := Scalar.divsi v64 c512_i32_38
  let c1_i32_44 : BitVec 32 := 1#32
  let v80 : BitVec 32 := Scalar.subi v65 c1_i32_44
  let v81 : BitVec 32 := Scalar.select v79 v80 v65
  let v84 : BitVec 32 := Scalar.subi v81 c0_i32_47
  let c1_i32_48 : BitVec 32 := 1#32
  let v86 : BitVec 32 := Scalar.divsi v84 c1_i32_48
  let v87 : BitVec 32 := Scalar.muli v86 c1_i32_48
  let v88 : BitVec 32 := Scalar.addi c0_i32_47 v87
  let v85 : BitVec 32 := Scalar.addi c0_i32_47 v84
  let c1_i32_50 : BitVec 32 := 1#32
  ⟨v88, v85, c1_i32_50⟩
def k0_mult3 (k0_t1 : Fin k0_t1_loop.trips) (k0_t3 : Fin (k0_t3_loop k0_t1).trips) : BitVec 32 :=
  let c0_i32_47 : BitVec 32 := 0#32
  let c0_i32 : BitVec 32 := 0#32
  let c1_i32 : BitVec 32 := 1#32
  let arg16 : BitVec 32 := Scf.iv c0_i32 c1_i32 k0_t1
  let c512_i32 : BitVec 32 := 512#32
  let v48 : BitVec 32 := Scalar.muli arg16 c512_i32
  let v49 : BitVec 32 := v48
  let c512_i32_35 : BitVec 32 := 512#32
  let v62 : BitVec 32 := Scalar.addi v49 c512_i32_35
  let c512_i32_36 : BitVec 32 := 512#32
  let v63 : BitVec 32 := Scalar.addi v62 c512_i32_36
  let c1_i32_37 : BitVec 32 := 1#32
  let v64 : BitVec 32 := Scalar.subi v63 c1_i32_37
  let c0_i32_39 : BitVec 32 := 0#32
  let v66 : BitVec 1 := Scalar.cmpi .sgt v64 c0_i32_39
  let v67 : BitVec 32 := Scalar.extui v66
  let c0_i32_40 : BitVec 32 := 0#32
  let v68 : BitVec 1 := Scalar.cmpi .slt v64 c0_i32_40
  let v69 : BitVec 32 := Scalar.extui v68
  let v70 : BitVec 32 := Scalar.subi v67 v69
  let c512_i32_38 : BitVec 32 := 512#32
  let c0_i32_41 : BitVec 32 := 0#32
  let v71 : BitVec 1 := Scalar.cmpi .sgt c512_i32_38 c0_i32_41
  let v72 : BitVec 32 := Scalar.extui v71
  let c0_i32_42 : BitVec 32 := 0#32
  let v73 : BitVec 1 := Scalar.cmpi .slt c512_i32_38 c0_i32_42
  let v74 : BitVec 32 := Scalar.extui v73
  let v75 : BitVec 32 := Scalar.subi v72 v74
  let v76 : BitVec 1 := Scalar.cmpi .ne v70 v75
  let v77 : BitVec 32 := Scalar.remsi v64 c512_i32_38
  let c0_i32_43 : BitVec 32 := 0#32
  let v78 : BitVec 1 := Scalar.cmpi .ne v77 c0_i32_43
  let v79 : BitVec 1 := Scalar.andi v76 v78
  let v65 : BitVec 32 := Scalar.divsi v64 c512_i32_38
  let c1_i32_44 : BitVec 32 := 1#32
  let v80 : BitVec 32 := Scalar.subi v65 c1_i32_44
  let v81 : BitVec 32 := Scalar.select v79 v80 v65
  let v84 : BitVec 32 := Scalar.subi v81 c0_i32_47
  let c1_i32_48 : BitVec 32 := 1#32
  let v86 : BitVec 32 := Scalar.divsi v84 c1_i32_48
  let v87 : BitVec 32 := Scalar.muli v86 c1_i32_48
  let v88 : BitVec 32 := Scalar.addi c0_i32_47 v87
  let c1_i32_50 : BitVec 32 := 1#32
  let arg17 : BitVec 32 := Scf.iv v88 c1_i32_50 k0_t3
  let c512_i32_54 : BitVec 32 := 512#32
  let v95 : BitVec 32 := Scalar.muli arg17 c512_i32_54
  v95
def k0_off7 (k0_t1 : Fin k0_t1_loop.trips) (k0_t3 : Fin (k0_t3_loop k0_t1).trips) : Fin 2 → Nat :=
  let c0_i32_47 : BitVec 32 := 0#32
  let c0_i32 : BitVec 32 := 0#32
  let c1_i32 : BitVec 32 := 1#32
  let arg16 : BitVec 32 := Scf.iv c0_i32 c1_i32 k0_t1
  let c512_i32 : BitVec 32 := 512#32
  let v48 : BitVec 32 := Scalar.muli arg16 c512_i32
  let v49 : BitVec 32 := v48
  let c512_i32_35 : BitVec 32 := 512#32
  let v62 : BitVec 32 := Scalar.addi v49 c512_i32_35
  let c512_i32_36 : BitVec 32 := 512#32
  let v63 : BitVec 32 := Scalar.addi v62 c512_i32_36
  let c1_i32_37 : BitVec 32 := 1#32
  let v64 : BitVec 32 := Scalar.subi v63 c1_i32_37
  let c0_i32_39 : BitVec 32 := 0#32
  let v66 : BitVec 1 := Scalar.cmpi .sgt v64 c0_i32_39
  let v67 : BitVec 32 := Scalar.extui v66
  let c0_i32_40 : BitVec 32 := 0#32
  let v68 : BitVec 1 := Scalar.cmpi .slt v64 c0_i32_40
  let v69 : BitVec 32 := Scalar.extui v68
  let v70 : BitVec 32 := Scalar.subi v67 v69
  let c512_i32_38 : BitVec 32 := 512#32
  let c0_i32_41 : BitVec 32 := 0#32
  let v71 : BitVec 1 := Scalar.cmpi .sgt c512_i32_38 c0_i32_41
  let v72 : BitVec 32 := Scalar.extui v71
  let c0_i32_42 : BitVec 32 := 0#32
  let v73 : BitVec 1 := Scalar.cmpi .slt c512_i32_38 c0_i32_42
  let v74 : BitVec 32 := Scalar.extui v73
  let v75 : BitVec 32 := Scalar.subi v72 v74
  let v76 : BitVec 1 := Scalar.cmpi .ne v70 v75
  let v77 : BitVec 32 := Scalar.remsi v64 c512_i32_38
  let c0_i32_43 : BitVec 32 := 0#32
  let v78 : BitVec 1 := Scalar.cmpi .ne v77 c0_i32_43
  let v79 : BitVec 1 := Scalar.andi v76 v78
  let v65 : BitVec 32 := Scalar.divsi v64 c512_i32_38
  let c1_i32_44 : BitVec 32 := 1#32
  let v80 : BitVec 32 := Scalar.subi v65 c1_i32_44
  let v81 : BitVec 32 := Scalar.select v79 v80 v65
  let v84 : BitVec 32 := Scalar.subi v81 c0_i32_47
  let c1_i32_48 : BitVec 32 := 1#32
  let v86 : BitVec 32 := Scalar.divsi v84 c1_i32_48
  let v87 : BitVec 32 := Scalar.muli v86 c1_i32_48
  let v88 : BitVec 32 := Scalar.addi c0_i32_47 v87
  let c1_i32_50 : BitVec 32 := 1#32
  let arg17 : BitVec 32 := Scf.iv v88 c1_i32_50 k0_t3
  let c512_i32_54 : BitVec 32 := 512#32
  let v95 : BitVec 32 := Scalar.muli arg17 c512_i32_54
  let v96 : BitVec 32 := v95
  let v97 : Index := Scalar.indexCast v96
  let c0_55 : Index := 0#32
  ![v97.toNat, 0]
def k0_off8 (k0_t1 : Fin k0_t1_loop.trips) (k0_t3 : Fin (k0_t3_loop k0_t1).trips) : Fin 5 → Nat :=
  let c0_70 : Index := 0#32
  let c0_i32 : BitVec 32 := 0#32
  let c1_i32 : BitVec 32 := 1#32
  let arg16 : BitVec 32 := Scf.iv c0_i32 c1_i32 k0_t1
  let v147 : Index := Scalar.indexCast arg16
  let c0_i32_47 : BitVec 32 := 0#32
  let c512_i32 : BitVec 32 := 512#32
  let v48 : BitVec 32 := Scalar.muli arg16 c512_i32
  let v49 : BitVec 32 := v48
  let c512_i32_35 : BitVec 32 := 512#32
  let v62 : BitVec 32 := Scalar.addi v49 c512_i32_35
  let c512_i32_36 : BitVec 32 := 512#32
  let v63 : BitVec 32 := Scalar.addi v62 c512_i32_36
  let c1_i32_37 : BitVec 32 := 1#32
  let v64 : BitVec 32 := Scalar.subi v63 c1_i32_37
  let c0_i32_39 : BitVec 32 := 0#32
  let v66 : BitVec 1 := Scalar.cmpi .sgt v64 c0_i32_39
  let v67 : BitVec 32 := Scalar.extui v66
  let c0_i32_40 : BitVec 32 := 0#32
  let v68 : BitVec 1 := Scalar.cmpi .slt v64 c0_i32_40
  let v69 : BitVec 32 := Scalar.extui v68
  let v70 : BitVec 32 := Scalar.subi v67 v69
  let c512_i32_38 : BitVec 32 := 512#32
  let c0_i32_41 : BitVec 32 := 0#32
  let v71 : BitVec 1 := Scalar.cmpi .sgt c512_i32_38 c0_i32_41
  let v72 : BitVec 32 := Scalar.extui v71
  let c0_i32_42 : BitVec 32 := 0#32
  let v73 : BitVec 1 := Scalar.cmpi .slt c512_i32_38 c0_i32_42
  let v74 : BitVec 32 := Scalar.extui v73
  let v75 : BitVec 32 := Scalar.subi v72 v74
  let v76 : BitVec 1 := Scalar.cmpi .ne v70 v75
  let v77 : BitVec 32 := Scalar.remsi v64 c512_i32_38
  let c0_i32_43 : BitVec 32 := 0#32
  let v78 : BitVec 1 := Scalar.cmpi .ne v77 c0_i32_43
  let v79 : BitVec 1 := Scalar.andi v76 v78
  let v65 : BitVec 32 := Scalar.divsi v64 c512_i32_38
  let c1_i32_44 : BitVec 32 := 1#32
  let v80 : BitVec 32 := Scalar.subi v65 c1_i32_44
  let v81 : BitVec 32 := Scalar.select v79 v80 v65
  let v84 : BitVec 32 := Scalar.subi v81 c0_i32_47
  let c1_i32_48 : BitVec 32 := 1#32
  let v86 : BitVec 32 := Scalar.divsi v84 c1_i32_48
  let v87 : BitVec 32 := Scalar.muli v86 c1_i32_48
  let v88 : BitVec 32 := Scalar.addi c0_i32_47 v87
  let c1_i32_50 : BitVec 32 := 1#32
  let arg17 : BitVec 32 := Scf.iv v88 c1_i32_50 k0_t3
  let v148 : Index := Scalar.indexCast arg17
  let c0_71 : Index := 0#32
  let c0_72 : Index := 0#32
  ![0, v147.toNat, v148.toNat, 0, 0]
def k0_off9 (k0_t1 : Fin k0_t1_loop.trips) (k0_t3 : Fin (k0_t3_loop k0_t1).trips) : Fin 2 → Nat :=
  let c0_i32_47 : BitVec 32 := 0#32
  let c0_i32 : BitVec 32 := 0#32
  let c1_i32 : BitVec 32 := 1#32
  let arg16 : BitVec 32 := Scf.iv c0_i32 c1_i32 k0_t1
  let c512_i32 : BitVec 32 := 512#32
  let v48 : BitVec 32 := Scalar.muli arg16 c512_i32
  let v49 : BitVec 32 := v48
  let c512_i32_35 : BitVec 32 := 512#32
  let v62 : BitVec 32 := Scalar.addi v49 c512_i32_35
  let c512_i32_36 : BitVec 32 := 512#32
  let v63 : BitVec 32 := Scalar.addi v62 c512_i32_36
  let c1_i32_37 : BitVec 32 := 1#32
  let v64 : BitVec 32 := Scalar.subi v63 c1_i32_37
  let c0_i32_39 : BitVec 32 := 0#32
  let v66 : BitVec 1 := Scalar.cmpi .sgt v64 c0_i32_39
  let v67 : BitVec 32 := Scalar.extui v66
  let c0_i32_40 : BitVec 32 := 0#32
  let v68 : BitVec 1 := Scalar.cmpi .slt v64 c0_i32_40
  let v69 : BitVec 32 := Scalar.extui v68
  let v70 : BitVec 32 := Scalar.subi v67 v69
  let c512_i32_38 : BitVec 32 := 512#32
  let c0_i32_41 : BitVec 32 := 0#32
  let v71 : BitVec 1 := Scalar.cmpi .sgt c512_i32_38 c0_i32_41
  let v72 : BitVec 32 := Scalar.extui v71
  let c0_i32_42 : BitVec 32 := 0#32
  let v73 : BitVec 1 := Scalar.cmpi .slt c512_i32_38 c0_i32_42
  let v74 : BitVec 32 := Scalar.extui v73
  let v75 : BitVec 32 := Scalar.subi v72 v74
  let v76 : BitVec 1 := Scalar.cmpi .ne v70 v75
  let v77 : BitVec 32 := Scalar.remsi v64 c512_i32_38
  let c0_i32_43 : BitVec 32 := 0#32
  let v78 : BitVec 1 := Scalar.cmpi .ne v77 c0_i32_43
  let v79 : BitVec 1 := Scalar.andi v76 v78
  let v65 : BitVec 32 := Scalar.divsi v64 c512_i32_38
  let c1_i32_44 : BitVec 32 := 1#32
  let v80 : BitVec 32 := Scalar.subi v65 c1_i32_44
  let v81 : BitVec 32 := Scalar.select v79 v80 v65
  let v84 : BitVec 32 := Scalar.subi v81 c0_i32_47
  let c1_i32_48 : BitVec 32 := 1#32
  let v86 : BitVec 32 := Scalar.divsi v84 c1_i32_48
  let v87 : BitVec 32 := Scalar.muli v86 c1_i32_48
  let v88 : BitVec 32 := Scalar.addi c0_i32_47 v87
  let c1_i32_50 : BitVec 32 := 1#32
  let arg17 : BitVec 32 := Scf.iv v88 c1_i32_50 k0_t3
  let c512_i32_54 : BitVec 32 := 512#32
  let v95 : BitVec 32 := Scalar.muli arg17 c512_i32_54
  let v96 : BitVec 32 := v95
  let v222 : Index := Scalar.indexCast v96
  let c128_95 : Index := 128#32
  ![v222.toNat, 128]
def k0_off10 (k0_t1 : Fin k0_t1_loop.trips) (k0_t3 : Fin (k0_t3_loop k0_t1).trips) : Fin 5 → Nat :=
  let c1 : Index := 1#32
  let c0_i32 : BitVec 32 := 0#32
  let c1_i32 : BitVec 32 := 1#32
  let arg16 : BitVec 32 := Scf.iv c0_i32 c1_i32 k0_t1
  let v272 : Index := Scalar.indexCast arg16
  let c0_i32_47 : BitVec 32 := 0#32
  let c512_i32 : BitVec 32 := 512#32
  let v48 : BitVec 32 := Scalar.muli arg16 c512_i32
  let v49 : BitVec 32 := v48
  let c512_i32_35 : BitVec 32 := 512#32
  let v62 : BitVec 32 := Scalar.addi v49 c512_i32_35
  let c512_i32_36 : BitVec 32 := 512#32
  let v63 : BitVec 32 := Scalar.addi v62 c512_i32_36
  let c1_i32_37 : BitVec 32 := 1#32
  let v64 : BitVec 32 := Scalar.subi v63 c1_i32_37
  let c0_i32_39 : BitVec 32 := 0#32
  let v66 : BitVec 1 := Scalar.cmpi .sgt v64 c0_i32_39
  let v67 : BitVec 32 := Scalar.extui v66
  let c0_i32_40 : BitVec 32 := 0#32
  let v68 : BitVec 1 := Scalar.cmpi .slt v64 c0_i32_40
  let v69 : BitVec 32 := Scalar.extui v68
  let v70 : BitVec 32 := Scalar.subi v67 v69
  let c512_i32_38 : BitVec 32 := 512#32
  let c0_i32_41 : BitVec 32 := 0#32
  let v71 : BitVec 1 := Scalar.cmpi .sgt c512_i32_38 c0_i32_41
  let v72 : BitVec 32 := Scalar.extui v71
  let c0_i32_42 : BitVec 32 := 0#32
  let v73 : BitVec 1 := Scalar.cmpi .slt c512_i32_38 c0_i32_42
  let v74 : BitVec 32 := Scalar.extui v73
  let v75 : BitVec 32 := Scalar.subi v72 v74
  let v76 : BitVec 1 := Scalar.cmpi .ne v70 v75
  let v77 : BitVec 32 := Scalar.remsi v64 c512_i32_38
  let c0_i32_43 : BitVec 32 := 0#32
  let v78 : BitVec 1 := Scalar.cmpi .ne v77 c0_i32_43
  let v79 : BitVec 1 := Scalar.andi v76 v78
  let v65 : BitVec 32 := Scalar.divsi v64 c512_i32_38
  let c1_i32_44 : BitVec 32 := 1#32
  let v80 : BitVec 32 := Scalar.subi v65 c1_i32_44
  let v81 : BitVec 32 := Scalar.select v79 v80 v65
  let v84 : BitVec 32 := Scalar.subi v81 c0_i32_47
  let c1_i32_48 : BitVec 32 := 1#32
  let v86 : BitVec 32 := Scalar.divsi v84 c1_i32_48
  let v87 : BitVec 32 := Scalar.muli v86 c1_i32_48
  let v88 : BitVec 32 := Scalar.addi c0_i32_47 v87
  let c1_i32_50 : BitVec 32 := 1#32
  let arg17 : BitVec 32 := Scf.iv v88 c1_i32_50 k0_t3
  let v273 : Index := Scalar.indexCast arg17
  let c0_110 : Index := 0#32
  let c0_111 : Index := 0#32
  ![1, v272.toNat, v273.toNat, 0, 0]
def k0_off11 (k0_t1 : Fin k0_t1_loop.trips) : Fin 2 → Nat :=
  let c0_i32 : BitVec 32 := 0#32
  let c1_i32 : BitVec 32 := 1#32
  let arg16 : BitVec 32 := Scf.iv c0_i32 c1_i32 k0_t1
  let c512_i32 : BitVec 32 := 512#32
  let v48 : BitVec 32 := Scalar.muli arg16 c512_i32
  let v49 : BitVec 32 := v48
  let v93 : Index := Scalar.indexCast v49
  let c0_53 : Index := 0#32
  ![v93.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x4x4x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2048x5120 : Shape := ⟨2, ![2048, 5120]⟩
abbrev S2048x1024 : Shape := ⟨2, ![2048, 1024]⟩
abbrev S2048x2048 : Shape := ⟨2, ![2048, 2048]⟩
abbrev S1x2048x8x128 : Shape := ⟨4, ![1, 2048, 8, 128]⟩
abbrev S1x8x2048x2048 : Shape := ⟨4, ![1, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S1x8x128x2048 : Shape := ⟨4, ![1, 8, 128, 2048]⟩
abbrev S1x8x2048x128 : Shape := ⟨4, ![1, 8, 2048, 128]⟩

abbrev nBuf : Space → Nat
  | .hbm => 178
  | .vmem => 0
  | .smem => 0
  | _ => 0

abbrev hbmTy0_0 (i : Nat) : BufTy := match i % 128 with
  | 0 => ⟨S2048x5120, .f32⟩
  | 1 => ⟨S2048x1024, .f32⟩
  | 2 => ⟨S2048x1024, .f32⟩
  | 3 => ⟨S2048x1024, .f32⟩
  | 4 => ⟨S2048x1024, .f32⟩
  | 5 => ⟨S2048x2048, .f32⟩
  | 6 => ⟨S1x2048x8x128, .f32⟩
  | 7 => ⟨S1x2048x8x128, .f32⟩
  | 8 => ⟨S1x2048x8x128, .f32⟩
  | 9 => ⟨S1x8x2048x2048, .f32⟩
  | 10 => ⟨S_, .f32⟩
  | 11 => ⟨S1x8x2048x2048, .f32⟩
  | 12 => ⟨S1x8x2048x2048, .f32⟩
  | 13 => ⟨S2048, .i32⟩
  | 14 => ⟨S2048, .i32⟩
  | 15 => ⟨S1x2048, .i32⟩
  | 16 => ⟨S2048x1, .i32⟩
  | 17 => ⟨S2048x2048, .i32⟩
  | 18 => ⟨S2048x2048, .i32⟩
  | 19 => ⟨S2048x2048, .i1⟩
  | 20 => ⟨S1x8x2048x2048, .f32⟩
  | 21 => ⟨S1x8x2048x2048, .f32⟩
  | 22 => ⟨S_, .f32⟩
  | 23 => ⟨S1x8x2048x2048, .f32⟩
  | 24 => ⟨S1x8x2048x2048, .f32⟩
  | 25 => ⟨S1x8x2048x2048, .f32⟩
  | 26 => ⟨S1x8x2048x2048, .f32⟩
  | 27 => ⟨S1x8x2048x2048, .i1⟩
  | 28 => ⟨S1x8x2048x2048, .f32⟩
  | 29 => ⟨S1x8x2048x2048, .f32⟩
  | 30 => ⟨S1x8x2048x2048, .f32⟩
  | 31 => ⟨S1x8x2048x2048, .f32⟩
  | 32 => ⟨S1x8x2048x2048, .f32⟩
  | 33 => ⟨S1x8x2048x2048, .f32⟩
  | 34 => ⟨S1x8x2048x2048, .f32⟩
  | 35 => ⟨S1x8x2048x2048, .f32⟩
  | 36 => ⟨S_, .f32⟩
  | 37 => ⟨S1x8x2048x2048, .f32⟩
  | 38 => ⟨S1x8x2048x2048, .i1⟩
  | 39 => ⟨S_, .f32⟩
  | 40 => ⟨S1x8x2048x2048, .f32⟩
  | 41 => ⟨S1x8x2048x2048, .f32⟩
  | 42 => ⟨S_, .f32⟩
  | 43 => ⟨S1x8x2048x2048, .f32⟩
  | 44 => ⟨S1x8x2048x2048, .i1⟩
  | 45 => ⟨S_, .f32⟩
  | 46 => ⟨S1x8x2048x2048, .f32⟩
  | 47 => ⟨S1x8x2048x2048, .f32⟩
  | 48 => ⟨S1x8x2048x2048, .f32⟩
  | 49 => ⟨S1x8x2048x2048, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S1x8x2048x2048, .f32⟩
  | 58 => ⟨S1x8x2048x2048, .i1⟩
  | 59 => ⟨S_, .f32⟩
  | 60 => ⟨S1x8x2048x2048, .f32⟩
  | 61 => ⟨S1x8x2048x2048, .f32⟩
  | 62 => ⟨S1x8x2048x2048, .f32⟩
  | 63 => ⟨S1x8x2048x2048, .f32⟩
  | 64 => ⟨S1x8x2048x2048, .f32⟩
  | 65 => ⟨S_, .f32⟩
  | 66 => ⟨S1x8x2048x2048, .f32⟩
  | 67 => ⟨S1x8x2048x2048, .f32⟩
  | 68 => ⟨S1x8x2048x2048, .f32⟩
  | 69 => ⟨S_, .f32⟩
  | 70 => ⟨S_, .f32⟩
  | 71 => ⟨S1x8x2048x2048, .i1⟩
  | 72 => ⟨S1x8x2048x2048, .f32⟩
  | 73 => ⟨S1x8x2048x2048, .f32⟩
  | 74 => ⟨S_, .f32⟩
  | 75 => ⟨S1x8x2048x2048, .f32⟩
  | 76 => ⟨S_, .f32⟩
  | 77 => ⟨S_, .f32⟩
  | 78 => ⟨S1x8x2048x2048, .f32⟩
  | 79 => ⟨S1x8x2048x2048, .f32⟩
  | 80 => ⟨S1x8x2048x2048, .f32⟩
  | 81 => ⟨S_, .f32⟩
  | 82 => ⟨S1x8x2048x2048, .f32⟩
  | 83 => ⟨S1x8x2048x2048, .f32⟩
  | 84 => ⟨S1x8x2048x2048, .f32⟩
  | 85 => ⟨S1x8x2048x2048, .f32⟩
  | 86 => ⟨S1x8x2048x2048, .i1⟩
  | 87 => ⟨S1x8x2048x2048, .f32⟩
  | 88 => ⟨S1x8x2048x2048, .f32⟩
  | 89 => ⟨S1x8x2048x2048, .f32⟩
  | 90 => ⟨S1x8x2048x2048, .f32⟩
  | 91 => ⟨S1x8x2048x2048, .f32⟩
  | 92 => ⟨S1x8x2048x2048, .f32⟩
  | 93 => ⟨S1x8x2048x2048, .f32⟩
  | 94 => ⟨S1x8x2048x2048, .f32⟩
  | 95 => ⟨S_, .f32⟩
  | 96 => ⟨S1x8x2048x2048, .f32⟩
  | 97 => ⟨S1x8x2048x2048, .i1⟩
  | 98 => ⟨S_, .f32⟩
  | 99 => ⟨S1x8x2048x2048, .f32⟩
  | 100 => ⟨S1x8x2048x2048, .f32⟩
  | 101 => ⟨S_, .f32⟩
  | 102 => ⟨S1x8x2048x2048, .f32⟩
  | 103 => ⟨S1x8x2048x2048, .i1⟩
  | 104 => ⟨S_, .f32⟩
  | 105 => ⟨S1x8x2048x2048, .f32⟩
  | 106 => ⟨S1x8x2048x2048, .f32⟩
  | 107 => ⟨S1x8x2048x2048, .f32⟩
  | 108 => ⟨S1x8x2048x2048, .f32⟩
  | 109 => ⟨S_, .f32⟩
  | 110 => ⟨S_, .f32⟩
  | 111 => ⟨S_, .i1⟩
  | 112 => ⟨S_, .f32⟩
  | 113 => ⟨S_, .f32⟩
  | 114 => ⟨S_, .f32⟩
  | 115 => ⟨S_, .f32⟩
  | 116 => ⟨S1x8x2048x2048, .f32⟩
  | 117 => ⟨S1x8x2048x2048, .i1⟩
  | 118 => ⟨S_, .f32⟩
  | 119 => ⟨S1x8x2048x2048, .f32⟩
  | 120 => ⟨S1x8x2048x2048, .f32⟩
  | 121 => ⟨S1x8x2048x2048, .f32⟩
  | 122 => ⟨S1x8x2048x2048, .f32⟩
  | 123 => ⟨S1x8x2048x2048, .f32⟩
  | 124 => ⟨S_, .f32⟩
  | 125 => ⟨S1x8x2048x2048, .f32⟩
  | 126 => ⟨S1x8x2048x2048, .f32⟩
  | 127 => ⟨S1x8x2048x2048, .f32⟩
  | _ => ⟨S2048x5120, .f32⟩

abbrev hbmTy0_1 (i : Nat) : BufTy := match i % 128 with
  | 0 => ⟨S1x8x2048x2048, .f32⟩
  | 1 => ⟨S1x8x2048x2048, .f32⟩
  | 2 => ⟨S_, .f32⟩
  | 3 => ⟨S_, .f32⟩
  | 4 => ⟨S1x8x2048x2048, .i1⟩
  | 5 => ⟨S1x8x2048x2048, .f32⟩
  | 6 => ⟨S1x8x2048x2048, .f32⟩
  | 7 => ⟨S_, .f32⟩
  | 8 => ⟨S1x8x2048x2048, .f32⟩
  | 9 => ⟨S1x8x128x2048, .f32⟩
  | 10 => ⟨S1x2048x8x128, .f32⟩
  | 11 => ⟨S2048x1024, .f32⟩
  | 12 => ⟨S1x2048x8x128, .f32⟩
  | 13 => ⟨S1x8x128x2048, .f32⟩
  | 14 => ⟨S1x8x2048x2048, .f32⟩
  | 15 => ⟨S1x8x128x2048, .f32⟩
  | 16 => ⟨S1x2048x8x128, .f32⟩
  | 17 => ⟨S_, .f32⟩
  | 18 => ⟨S1x8x2048x2048, .f32⟩
  | 19 => ⟨S1x8x2048x2048, .f32⟩
  | 20 => ⟨S1x8x2048x2048, .f32⟩
  | 21 => ⟨S1x8x2048x2048, .f32⟩
  | 22 => ⟨S1x8x2048x2048, .f32⟩
  | 23 => ⟨S1x8x2048x2048, .f32⟩
  | 24 => ⟨S1x8x2048x2048, .f32⟩
  | 25 => ⟨S_, .f32⟩
  | 26 => ⟨S_, .f32⟩
  | 27 => ⟨S1x8x2048x2048, .f32⟩
  | 28 => ⟨S1x8x2048x2048, .f32⟩
  | 29 => ⟨S_, .f32⟩
  | 30 => ⟨S1x8x2048x2048, .f32⟩
  | 31 => ⟨S1x8x2048x2048, .f32⟩
  | 32 => ⟨S1x8x2048x2048, .f32⟩
  | 33 => ⟨S1x8x2048x2048, .f32⟩
  | 34 => ⟨S1x8x2048x2048, .f32⟩
  | 35 => ⟨S1x8x2048x2048, .f32⟩
  | 36 => ⟨S1x8x2048x2048, .f32⟩
  | 37 => ⟨S_, .f32⟩
  | 38 => ⟨S1x8x2048x2048, .f32⟩
  | 39 => ⟨S1x8x2048x2048, .f32⟩
  | 40 => ⟨S1x8x2048x128, .f32⟩
  | 41 => ⟨S1x2048x8x128, .f32⟩
  | 42 => ⟨S1x8x2048x128, .f32⟩
  | 43 => ⟨S1x2048x8x128, .f32⟩
  | 44 => ⟨S2048x1024, .f32⟩
  | 45 => ⟨S2048x1024, .f32⟩
  | 46 => ⟨S2048x1024, .f32⟩
  | 47 => ⟨S2048x1024, .bf16⟩
  | 48 => ⟨S2048x1024, .bf16⟩
  | 49 => ⟨S2048x1024, .bf16⟩
  | _ => ⟨S2048x5120, .f32⟩

abbrev hbmTy (i : Nat) : BufTy := match i / 128 with
  | 0 => hbmTy0_0 i
  | 1 => hbmTy0_1 i
  | _ => ⟨S2048x5120, .f32⟩

abbrev bufTy : (tb : Table) → Fin (tcTables nBuf tb) → BufTy
  | .hbm, ⟨i, _⟩ => hbmTy i
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v18_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v18_2 : Ref sig .tc := ⟨.hbm, 67, rfl⟩
abbrev main_v18_0 : Ref sig .tc := ⟨.hbm, 68, rfl⟩
abbrev main_cst_0 : Ref sig .tc := ⟨.hbm, 69, rfl⟩
abbrev main_call1_v0 : Ref sig .tc := ⟨.hbm, 70, rfl⟩
abbrev main_v19_1 : Ref sig .tc := ⟨.hbm, 71, rfl⟩
abbrev main_call1_v2 : Ref sig .tc := ⟨.hbm, 72, rfl⟩
abbrev main_v19_0 : Ref sig .tc := ⟨.hbm, 73, rfl⟩
abbrev main_call1_cst : Ref sig .tc := ⟨.hbm, 74, rfl⟩
abbrev main_v19_2 : Ref sig .tc := ⟨.hbm, 75, rfl⟩
abbrev main_call2_cst : Ref sig .tc := ⟨.hbm, 76, rfl⟩
abbrev main_call2_v0 : Ref sig .tc := ⟨.hbm, 77, rfl⟩
abbrev main_v20 : Ref sig .tc := ⟨.hbm, 78, rfl⟩
abbrev main_v21 : Ref sig .tc := ⟨.hbm, 79, rfl⟩
abbrev main_call3_v0 : Ref sig .tc := ⟨.hbm, 80, rfl⟩
abbrev main_call3_call0_cst : Ref sig .tc := ⟨.hbm, 81, rfl⟩
abbrev main_call3_call0_v0 : Ref sig .tc := ⟨.hbm, 82, rfl⟩
abbrev main_call3_call0_v1 : Ref sig .tc := ⟨.hbm, 83, rfl⟩
abbrev main_call3_call0_v2 : Ref sig .tc := ⟨.hbm, 84, rfl⟩
abbrev main_call3_call0_v3 : Ref sig .tc := ⟨.hbm, 85, rfl⟩
abbrev main_call3_call0_v4 : Ref sig .tc := ⟨.hbm, 86, rfl⟩
abbrev main_call3_call0_v5 : Ref sig .tc := ⟨.hbm, 87, rfl⟩
abbrev main_call3_call0_v6 : Ref sig .tc := ⟨.hbm, 88, rfl⟩
abbrev main_call3_call0_v7 : Ref sig .tc := ⟨.hbm, 89, rfl⟩
abbrev main_call3_call0_v8 : Ref sig .tc := ⟨.hbm, 90, rfl⟩
abbrev main_call3_call0_v9 : Ref sig .tc := ⟨.hbm, 91, rfl⟩
abbrev main_call3_call0_v10 : Ref sig .tc := ⟨.hbm, 92, rfl⟩
abbrev main_call3_call0_v11 : Ref sig .tc := ⟨.hbm, 93, rfl⟩
abbrev main_call3_v1_0 : Ref sig .tc := ⟨.hbm, 94, rfl⟩
abbrev main_call3_call0_cst_0 : Ref sig .tc := ⟨.hbm, 95, rfl⟩
abbrev main_call3_call0_v13 : Ref sig .tc := ⟨.hbm, 96, rfl⟩
abbrev main_call3_call0_v14 : Ref sig .tc := ⟨.hbm, 97, rfl⟩
abbrev main_call3_call0_cst_1 : Ref sig .tc := ⟨.hbm, 98, rfl⟩
abbrev main_call3_call0_v15 : Ref sig .tc := ⟨.hbm, 99, rfl⟩
abbrev main_call3_call0_v16 : Ref sig .tc := ⟨.hbm, 100, rfl⟩
abbrev main_call3_call0_cst_2 : Ref sig .tc := ⟨.hbm, 101, rfl⟩
abbrev main_call3_call0_v17 : Ref sig .tc := ⟨.hbm, 102, rfl⟩
abbrev main_call3_call0_v18 : Ref sig .tc := ⟨.hbm, 103, rfl⟩
abbrev main_call3_call0_cst_3 : Ref sig .tc := ⟨.hbm, 104, rfl⟩
abbrev main_call3_call0_v19 : Ref sig .tc := ⟨.hbm, 105, rfl⟩
abbrev main_call3_call0_v20 : Ref sig .tc := ⟨.hbm, 106, rfl⟩
abbrev main_call3_call0_v21 : Ref sig .tc := ⟨.hbm, 107, rfl⟩
abbrev main_v22_1 : Ref sig .tc := ⟨.hbm, 108, rfl⟩
abbrev main_call3_call0_cst_4 : Ref sig .tc := ⟨.hbm, 109, rfl⟩
abbrev main_call3_call0_cst_5 : Ref sig .tc := ⟨.hbm, 110, rfl⟩
abbrev main_call3_call0_v23 : Ref sig .tc := ⟨.hbm, 111, rfl⟩
abbrev main_call3_call0_cst_6 : Ref sig .tc := ⟨.hbm, 112, rfl⟩
abbrev main_call3_call0_cst_7 : Ref sig .tc := ⟨.hbm, 113, rfl⟩
abbrev main_call3_call0_v24 : Ref sig .tc := ⟨.hbm, 114, rfl⟩
abbrev main_call3_call0_cst_8 : Ref sig .tc := ⟨.hbm, 115, rfl⟩
abbrev main_call3_call0_v25 : Ref sig .tc := ⟨.hbm, 116, rfl⟩
abbrev main_call3_call0_v26 : Ref sig .tc := ⟨.hbm, 117, rfl⟩
abbrev main_call3_call0_cst_9 : Ref sig .tc := ⟨.hbm, 118, rfl⟩
abbrev main_call3_call0_v27 : Ref sig .tc := ⟨.hbm, 119, rfl⟩
abbrev main_call3_call0_v28 : Ref sig .tc := ⟨.hbm, 120, rfl⟩
abbrev main_call3_call0_v29 : Ref sig .tc := ⟨.hbm, 121, rfl⟩
abbrev main_call3_call0_v30 : Ref sig .tc := ⟨.hbm, 122, rfl⟩
abbrev main_call3_call0_v31 : Ref sig .tc := ⟨.hbm, 123, rfl⟩
abbrev main_call3_call0_cst_10 : Ref sig .tc := ⟨.hbm, 124, rfl⟩
abbrev main_call3_call0_v32 : Ref sig .tc := ⟨.hbm, 125, rfl⟩
abbrev main_v22_2 : Ref sig .tc := ⟨.hbm, 126, rfl⟩
abbrev main_v22_0 : Ref sig .tc := ⟨.hbm, 127, rfl⟩
abbrev main_v23 : Ref sig .tc := ⟨.hbm, 128, rfl⟩
abbrev main_v24 : Ref sig .tc := ⟨.hbm, 129, rfl⟩
abbrev main_cst_1 : Ref sig .tc := ⟨.hbm, 130, rfl⟩
abbrev main_call4_v0 : Ref sig .tc := ⟨.hbm, 131, rfl⟩
abbrev main_v25_1 : Ref sig .tc := ⟨.hbm, 132, rfl⟩
abbrev main_call4_v2 : Ref sig .tc := ⟨.hbm, 133, rfl⟩
abbrev main_v25_0 : Ref sig .tc := ⟨.hbm, 134, rfl⟩
abbrev main_call4_cst : Ref sig .tc := ⟨.hbm, 135, rfl⟩
abbrev main_v25_2 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_call5_cst : Ref sig .tc := ⟨.hbm, 145, rfl⟩
abbrev main_call5_v0 : Ref sig .tc := ⟨.hbm, 146, rfl⟩
abbrev main_v34 : Ref sig .tc := ⟨.hbm, 147, rfl⟩
abbrev main_v35 : Ref sig .tc := ⟨.hbm, 148, rfl⟩
abbrev main_call6_v0 : Ref sig .tc := ⟨.hbm, 149, rfl⟩
abbrev main_call6_v1 : Ref sig .tc := ⟨.hbm, 150, rfl⟩
abbrev main_v36 : Ref sig .tc := ⟨.hbm, 151, rfl⟩
abbrev main_v37 : Ref sig .tc := ⟨.hbm, 152, rfl⟩
abbrev main_call7_cst : Ref sig .tc := ⟨.hbm, 153, rfl⟩
abbrev main_call7_v0 : Ref sig .tc := ⟨.hbm, 154, rfl⟩
abbrev main_v38 : Ref sig .tc := ⟨.hbm, 155, rfl⟩
abbrev main_v39 : Ref sig .tc := ⟨.hbm, 156, rfl⟩
abbrev main_call8_cst : Ref sig .tc := ⟨.hbm, 157, rfl⟩
abbrev main_call8_v0 : Ref sig .tc := ⟨.hbm, 158, rfl⟩
abbrev main_v40 : Ref sig .tc := ⟨.hbm, 159, rfl⟩
abbrev main_call9_v0 : Ref sig .tc := ⟨.hbm, 160, rfl⟩
abbrev main_call9_v1 : Ref sig .tc := ⟨.hbm, 161, rfl⟩
abbrev main_v41 : Ref sig .tc := ⟨.hbm, 162, rfl⟩
abbrev main_v42 : Ref sig .tc := ⟨.hbm, 163, rfl⟩
abbrev main_v43 : Ref sig .tc := ⟨.hbm, 164, rfl⟩
abbrev main_cst_2 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩

abbrev nD : Nat := 1
abbrev τ : Topo := Topo.v7x

variable {F : FTy → Type} [FloatOps F]
-- ==== Kernel2.lean ====
abbrev S2048x2048 : Shape := ⟨2, ![2048, 2048]⟩
abbrev S2048x5632 : Shape := ⟨2, ![2048, 5632]⟩
abbrev S5632x2048 : Shape := ⟨2, ![5632, 2048]⟩
abbrev S8x704x2048 : Shape := ⟨3, ![8, 704, 2048]⟩
abbrev S8x2048x704 : Shape := ⟨3, ![8, 2048, 704]⟩
abbrev S1x704x2048 : Shape := ⟨3, ![1, 704, 2048]⟩
abbrev S1x2048x704 : Shape := ⟨3, ![1, 2048, 704]⟩
abbrev S512x2048 : Shape := ⟨2, ![512, 2048]⟩
abbrev S704x2048 : Shape := ⟨2, ![704, 2048]⟩
abbrev S512x704 : Shape := ⟨2, ![512, 704]⟩
abbrev S1x512x704 : Shape := ⟨3, ![1, 512, 704]⟩

abbrev nBuf : Space → Nat
  | .hbm => 20
  | .vmem => 22
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .f32⟩
  | .hbm, ⟨5, _⟩ => ⟨S2048x2048, .bf16⟩
  | .hbm, ⟨6, _⟩ => ⟨S5632x2048, .f32⟩
  | .hbm, ⟨7, _⟩ => ⟨S8x704x2048, .f32⟩
  | .hbm, ⟨8, _⟩ => ⟨S8x704x2048, .bf16⟩
  | .hbm, ⟨9, _⟩ => ⟨S5632x2048, .f32⟩
  | .hbm, ⟨10, _⟩ => ⟨S8x704x2048, .f32⟩
  | .hbm, ⟨11, _⟩ => ⟨S8x704x2048, .bf16⟩
  | .hbm, ⟨12, _⟩ => ⟨S8x2048x704, .bf16⟩
  | .hbm, ⟨13, _⟩ => ⟨S8x2048x704, .bf16⟩
  | .hbm, ⟨14, _⟩ => ⟨S8x2048x704, .bf16⟩
  | .hbm, ⟨15, _⟩ => ⟨S2048x2048, .bf16⟩
  | .hbm, ⟨16, _⟩ => ⟨S8x704x2048, .f32⟩
  | .hbm, ⟨17, _⟩ => ⟨S8x704x2048, .bf16⟩
  | .hbm, ⟨18, _⟩ => ⟨S8x2048x704, .bf16⟩
  | .hbm, ⟨19, _⟩ => ⟨S8x2048x704, .bf16⟩
  | .local _ .vmem, ⟨0, _⟩ => ⟨S2048x2048, .bf16⟩
  | .local _ .vmem, ⟨1, _⟩ => ⟨S1x704x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x2048x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S1x2048x704, .bf16⟩
  | .local _ .vmem, ⟨11, _⟩ => ⟨S2048x2048, .bf16⟩
  | .local _ .vmem, ⟨12, _⟩ => ⟨S1x704x2048, .bf16⟩
  | .local _ .vmem, ⟨13, _⟩ => ⟨S1x704x2048, .bf16⟩
  | .local _ .vmem, ⟨14, _⟩ => ⟨S1x2048x704, .bf16⟩
  | .local _ .vmem, ⟨15, _⟩ => ⟨S1x2048x704, .bf16⟩
  | .local _ .vmem, ⟨16, _⟩ => ⟨S1x2048x704, .bf16⟩
  | .local _ .vmem, ⟨17, _⟩ => ⟨S1x2048x704, .bf16⟩
  | .local _ .vmem, ⟨18, _⟩ => ⟨S1x2048x704, .bf16⟩
  | .local _ .vmem, ⟨19, _⟩ => ⟨S1x2048x704, .bf16⟩
  | .local _ .vmem, ⟨20, _⟩ => ⟨S1x2048x704, .bf16⟩
  | .local _ .vmem, ⟨21, _⟩ => ⟨S1x2048x704, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x704x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2048x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x2048x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== Reference2Ideal.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩
abbrev S2048x8x704 : Shape := ⟨3, ![2048, 8, 704]⟩
abbrev S8x2048x704 : Shape := ⟨3, ![8, 2048, 704]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x2048, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S_, .f32⟩
  | .hbm, ⟨32, _⟩ => ⟨S2048x5632, .f32⟩
  | .hbm, ⟨33, _⟩ => ⟨S2048x5632, .f32⟩
  | .hbm, ⟨34, _⟩ => ⟨S_, .f32⟩
  | .hbm, ⟨35, _⟩ => ⟨S2048x5632, .f32⟩
  | .hbm, ⟨36, _⟩ => ⟨S2048x5632, .f32⟩
  | .hbm, ⟨37, _⟩ => ⟨S2048x5632, .f32⟩
  | .hbm, ⟨38, _⟩ => ⟨S2048x5632, .f32⟩
  | .hbm, ⟨39, _⟩ => ⟨S2048x8x704, .f32⟩
  | .hbm, ⟨40, _⟩ => ⟨S8x2048x704, .f32⟩
  | .hbm, ⟨41, _⟩ => ⟨S8x2048x704, .bf16⟩
  | .hbm, ⟨42, _⟩ => ⟨S2048x8x704, .f32⟩
  | .hbm, ⟨43, _⟩ => ⟨S8x2048x704, .f32⟩
  | .hbm, ⟨44, _⟩ => ⟨S8x2048x704, .bf16⟩
  | .hbm, ⟨45, _⟩ => ⟨S2048x8x704, .f32⟩
  | .hbm, ⟨46, _⟩ => ⟨S8x2048x704, .f32⟩
  | .hbm, ⟨47, _⟩ => ⟨S8x2048x704, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_call2_v0 : Ref sig .tc := ⟨.hbm, 29, rfl⟩
abbrev main_call2_v1 : Ref sig .tc := ⟨.hbm, 30, rfl⟩
abbrev main_call2_cst : Ref sig .tc := ⟨.hbm, 31, rfl⟩
abbrev main_call2_v2 : Ref sig .tc := ⟨.hbm, 32, rfl⟩
abbrev main_call2_v3 : Ref sig .tc := ⟨.hbm, 33, rfl⟩
abbrev main_call2_cst_0 : Ref sig .tc := ⟨.hbm, 34, rfl⟩
abbrev main_call2_v4 : Ref sig .tc := ⟨.hbm, 35, rfl⟩
abbrev main_call2_v5 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩

abbrev nD : Nat := 1
abbrev τ : Topo := Topo.v7x

variable {F : FTy → Type} [FloatOps F]
-- ==== Kernel3.lean ====
abbrev S2048x5632 : Shape := ⟨2, ![2048, 5632]⟩
abbrev S2048x8x704 : Shape := ⟨3, ![2048, 8, 704]⟩
abbrev S8x2048x704 : Shape := ⟨3, ![8, 2048, 704]⟩
abbrev S5632x2048 : Shape := ⟨2, ![5632, 2048]⟩
abbrev S8x704x2048 : Shape := ⟨3, ![8, 704, 2048]⟩
abbrev S2048x2048 : Shape := ⟨2, ![2048, 2048]⟩
abbrev S1x1024x704 : Shape := ⟨3, ![1, 1024, 704]⟩
abbrev S1x704x2048 : Shape := ⟨3, ![1, 704, 2048]⟩
abbrev S1024x2048 : Shape := ⟨2, ![1024, 2048]⟩
abbrev S1024x704 : Shape := ⟨2, ![1024, 704]⟩
abbrev S704x2048 : Shape := ⟨2, ![704, 2048]⟩

abbrev nBuf : Space → Nat
  | .hbm => 17
  | .vmem => 10
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x8x704, .f32⟩
  | .hbm, ⟨5, _⟩ => ⟨S8x2048x704, .f32⟩
  | .hbm, ⟨6, _⟩ => ⟨S8x2048x704, .bf16⟩
  | .hbm, ⟨7, _⟩ => ⟨S5632x2048, .f32⟩
  | .hbm, ⟨8, _⟩ => ⟨S8x704x2048, .f32⟩
  | .hbm, ⟨9, _⟩ => ⟨S8x704x2048, .bf16⟩
  | .hbm, ⟨10, _⟩ => ⟨S2048x8x704, .f32⟩
  | .hbm, ⟨11, _⟩ => ⟨S8x2048x704, .f32⟩
  | .hbm, ⟨12, _⟩ => ⟨S8x2048x704, .bf16⟩
  | .hbm, ⟨13, _⟩ => ⟨S5632x2048, .f32⟩
  | .hbm, ⟨14, _⟩ => ⟨S8x704x2048, .f32⟩
  | .hbm, ⟨15, _⟩ => ⟨S8x704x2048, .bf16⟩
  | .hbm, ⟨16, _⟩ => ⟨S2048x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x704x2048, .bf16⟩
  | .local _ .vmem, ⟨7, _⟩ => ⟨S1x704x2048, .bf16⟩
  | .local _ .vmem, ⟨8, _⟩ => ⟨S1024x2048, .f32⟩
  | .local _ .vmem, ⟨9, _⟩ => ⟨S1024x2048, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 1, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S2048x5632 : Shape := ⟨2, ![2048, 5632]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel4.lean ====
abbrev S2048x5632 : Shape := ⟨2, ![2048, 5632]⟩
abbrev S2048x2048 : Shape := ⟨2, ![2048, 2048]⟩
abbrev S1 : Shape := ⟨1, ![1]⟩
abbrev S2048x8x704 : Shape := ⟨3, ![2048, 8, 704]⟩
abbrev S8x2048x704 : Shape := ⟨3, ![8, 2048, 704]⟩
abbrev S_ : Shape := ⟨0, ![]⟩
abbrev S4x704x2048 : Shape := ⟨3, ![4, 704, 2048]⟩
abbrev S1x2048x704 : Shape := ⟨3, ![1, 2048, 704]⟩
abbrev S1x704x2048 : Shape := ⟨3, ![1, 704, 2048]⟩
abbrev S2048x704 : Shape := ⟨2, ![2048, 704]⟩
abbrev S704x2048 : Shape := ⟨2, ![704, 2048]⟩

abbrev nBuf : Space → Nat
  | .hbm => 10
  | .vmem => 5
  | .smem => 1
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S1, .i32⟩
  | .hbm, ⟨3, _⟩ => ⟨S2048x8x704, .f32⟩
  | .hbm, ⟨4, _⟩ => ⟨S8x2048x704, .f32⟩
  | .hbm, ⟨5, _⟩ => ⟨S8x2048x704, .bf16⟩
  | .hbm, ⟨6, _⟩ => ⟨S2048x2048, .bf16⟩
  | .hbm, ⟨7, _⟩ => ⟨S_, .i32⟩
  | .hbm, ⟨8, _⟩ => ⟨S1, .i32⟩
  | .hbm, ⟨9, _⟩ => ⟨S4x704x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x2048, .bf16⟩
  | .local _ .vmem, ⟨3, _⟩ => ⟨S1x704x2048, .bf16⟩
  | .local _ .vmem, ⟨4, _⟩ => ⟨S1x704x2048, .bf16⟩
  | .local _ .smem, ⟨0, _⟩ => ⟨S1, .i32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v6 : Ref sig .tc := ⟨.hbm, 9, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c2_i32 : BitVec 32 := 2#32
  let v2 : BitVec 32 := Scalar.muli c2_i32 arg0
  let v3 : BitVec 32 := Scalar.addi v2 v1
  let c0_i32 : BitVec 32 := 0#32
  let c0_i32_0 : BitVec 32 := 0#32
  let c0_i32_1 : BitVec 32 := 0#32
  ![v3.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference4Ideal.lean ====
abbrev S2048x5632 : Shape := ⟨2, ![2048, 5632]⟩
abbrev S2048x2048 : Shape := ⟨2, ![2048, 2048]⟩
abbrev S1 : Shape := ⟨1, ![1]⟩
abbrev S_ : Shape := ⟨0, ![]⟩
abbrev S5632x2048 : Shape := ⟨2, ![5632, 2048]⟩
abbrev S8x704x2048 : Shape := ⟨3, ![8, 704, 2048]⟩
abbrev S4x704x2048 : Shape := ⟨3, ![4, 704, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S1, .i32⟩
  | .hbm, ⟨3, _⟩ => ⟨S_, .f32⟩
  | .hbm, ⟨4, _⟩ => ⟨S5632x2048, .f32⟩
  | .hbm, ⟨5, _⟩ => ⟨S2048x2048, .f32⟩
  | .hbm, ⟨6, _⟩ => ⟨S2048x5632, .f32⟩
  | .hbm, ⟨7, _⟩ => ⟨S5632x2048, .f32⟩
  | .hbm, ⟨8, _⟩ => ⟨S8x704x2048, .f32⟩
  | .hbm, ⟨9, _⟩ => ⟨S8x704x2048, .bf16⟩
  | .hbm, ⟨10, _⟩ => ⟨S4x704x2048, .bf16⟩
  | .hbm, ⟨11, _⟩ => ⟨S4x704x2048, .bf16⟩
  | .hbm, ⟨12, _⟩ => ⟨S_, .i32⟩
  | .hbm, ⟨13, _⟩ => ⟨S1, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S1, .i1⟩
  | .hbm, ⟨18, _⟩ => ⟨S4x704x2048, .i1⟩
  | .hbm, ⟨19, _⟩ => ⟨S4x704x2048, .bf16⟩
  | .hbm, ⟨20, _⟩ => ⟨S4x704x2048, .i1⟩
  | .hbm, ⟨21, _⟩ => ⟨S4x704x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_v12 : Ref sig .tc := ⟨.hbm, 19, rfl⟩
abbrev main_call1_v0 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Kernel5.lean ====
abbrev S2048x5632 : Shape := ⟨2, ![2048, 5632]⟩
abbrev S2048x2048 : Shape := ⟨2, ![2048, 2048]⟩
abbrev S4x704x2048 : Shape := ⟨3, ![4, 704, 2048]⟩
abbrev S1 : Shape := ⟨1, ![1]⟩
abbrev S2048x8x704 : Shape := ⟨3, ![2048, 8, 704]⟩
abbrev S8x2048x704 : Shape := ⟨3, ![8, 2048, 704]⟩
abbrev S_ : Shape := ⟨0, ![]⟩
abbrev S1x2048x704 : Shape := ⟨3, ![1, 2048, 704]⟩
abbrev S1x704x2048 : Shape := ⟨3, ![1, 704, 2048]⟩
abbrev S2048x704 : Shape := ⟨2, ![2048, 704]⟩
abbrev S704x2048 : Shape := ⟨2, ![704, 2048]⟩

abbrev nBuf : Space → Nat
  | .hbm => 12
  | .vmem => 7
  | .smem => 1
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S4x704x2048, .f32⟩
  | .hbm, ⟨3, _⟩ => ⟨S1, .i32⟩
  | .hbm, ⟨4, _⟩ => ⟨S2048x8x704, .f32⟩
  | .hbm, ⟨5, _⟩ => ⟨S8x2048x704, .f32⟩
  | .hbm, ⟨6, _⟩ => ⟨S8x2048x704, .bf16⟩
  | .hbm, ⟨7, _⟩ => ⟨S2048x2048, .bf16⟩
  | .hbm, ⟨8, _⟩ => ⟨S_, .i32⟩
  | .hbm, ⟨9, _⟩ => ⟨S1, .i32⟩
  | .hbm, ⟨10, _⟩ => ⟨S4x704x2048, .bf16⟩
  | .hbm, ⟨11, _⟩ => ⟨S4x704x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x704x2048, .bf16⟩
  | .local _ .smem, ⟨0, _⟩ => ⟨S1, .i32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v6 : Ref sig .tc := ⟨.hbm, 10, rfl⟩
abbrev main_v7 : Ref sig .tc := ⟨.hbm, 11, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c2_i32 : BitVec 32 := 2#32
  let v1 : BitVec 32 := Scalar.muli c2_i32 arg0
  let v2 : BitVec 32 := Scalar.addi v1 v0
  let c0_i32 : BitVec 32 := 0#32
  let c0_i32_0 : BitVec 32 := 0#32
  let c0_i32_1 : BitVec 32 := 0#32
  ![v2.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference5Ideal.lean ====
abbrev S2048x5632 : Shape := ⟨2, ![2048, 5632]⟩
abbrev S2048x2048 : Shape := ⟨2, ![2048, 2048]⟩
abbrev S4x704x2048 : Shape := ⟨3, ![4, 704, 2048]⟩
abbrev S1 : Shape := ⟨1, ![1]⟩
abbrev S_ : Shape := ⟨0, ![]⟩
abbrev S5632x2048 : Shape := ⟨2, ![5632, 2048]⟩
abbrev S8x704x2048 : Shape := ⟨3, ![8, 704, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S4x704x2048, .f32⟩
  | .hbm, ⟨3, _⟩ => ⟨S1, .i32⟩
  | .hbm, ⟨4, _⟩ => ⟨S_, .f32⟩
  | .hbm, ⟨5, _⟩ => ⟨S5632x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S8x704x2048, .f32⟩
  | .hbm, ⟨10, _⟩ => ⟨S8x704x2048, .bf16⟩
  | .hbm, ⟨11, _⟩ => ⟨S4x704x2048, .bf16⟩
  | .hbm, ⟨12, _⟩ => ⟨S4x704x2048, .bf16⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S1, .i1⟩
  | .hbm, ⟨19, _⟩ => ⟨S4x704x2048, .i1⟩
  | .hbm, ⟨20, _⟩ => ⟨S4x704x2048, .bf16⟩
  | .hbm, ⟨21, _⟩ => ⟨S4x704x2048, .i1⟩
  | .hbm, ⟨22, _⟩ => ⟨S4x704x2048, .bf16⟩
  | .hbm, ⟨23, _⟩ => ⟨S4x704x2048, .f32⟩
  | .hbm, ⟨24, _⟩ => ⟨S4x704x2048, .f32⟩
  | .hbm, ⟨25, _⟩ => ⟨S4x704x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel6.lean ====
abbrev S2048x2048 : Shape := ⟨2, ![2048, 2048]⟩
abbrev S2048x5120 : Shape := ⟨2, ![2048, 5120]⟩
abbrev S1 : Shape := ⟨1, ![1]⟩
abbrev S_ : Shape := ⟨0, ![]⟩
abbrev S4x2048x640 : Shape := ⟨3, ![4, 2048, 640]⟩
abbrev S2048x640 : Shape := ⟨2, ![2048, 640]⟩
abbrev S1x2048x640 : Shape := ⟨3, ![1, 2048, 640]⟩

abbrev nBuf : Space → Nat
  | .hbm => 8
  | .vmem => 5
  | .smem => 1
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S1, .i32⟩
  | .hbm, ⟨3, _⟩ => ⟨S2048x2048, .bf16⟩
  | .hbm, ⟨4, _⟩ => ⟨S2048x5120, .bf16⟩
  | .hbm, ⟨5, _⟩ => ⟨S_, .i32⟩
  | .hbm, ⟨6, _⟩ => ⟨S1, .i32⟩
  | .hbm, ⟨7, _⟩ => ⟨S4x2048x640, .bf16⟩
  | .local _ .vmem, ⟨0, _⟩ => ⟨S2048x2048, .bf16⟩
  | .local _ .vmem, ⟨1, _⟩ => ⟨S2048x640, .bf16⟩
  | .local _ .vmem, ⟨2, _⟩ => ⟨S2048x640, .bf16⟩
  | .local _ .vmem, ⟨3, _⟩ => ⟨S1x2048x640, .bf16⟩
  | .local _ .vmem, ⟨4, _⟩ => ⟨S1x2048x640, .bf16⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v4 : Ref sig .tc := ⟨.hbm, 7, rfl⟩
abbrev main_v3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c2_i32 : BitVec 32 := 2#32
  let v2 : BitVec 32 := Scalar.muli c2_i32 arg0
  let v3 : BitVec 32 := Scalar.addi v2 v1
  let c0_i32 : BitVec 32 := 0#32
  let c0_i32_0 : BitVec 32 := 0#32
  ![c0_i32.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference6Ideal.lean ====
abbrev S2048x2048 : Shape := ⟨2, ![2048, 2048]⟩
abbrev S2048x5120 : Shape := ⟨2, ![2048, 5120]⟩
abbrev S1 : Shape := ⟨1, ![1]⟩
abbrev S_ : Shape := ⟨0, ![]⟩
abbrev S5120x2048 : Shape := ⟨2, ![5120, 2048]⟩
abbrev S2048x8x640 : Shape := ⟨3, ![2048, 8, 640]⟩
abbrev S8x2048x640 : Shape := ⟨3, ![8, 2048, 640]⟩
abbrev S4x2048x640 : Shape := ⟨3, ![4, 2048, 640]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S1, .i32⟩
  | .hbm, ⟨3, _⟩ => ⟨S_, .f32⟩
  | .hbm, ⟨4, _⟩ => ⟨S2048x5120, .f32⟩
  | .hbm, ⟨5, _⟩ => ⟨S2048x5120, .f32⟩
  | .hbm, ⟨6, _⟩ => ⟨S5120x2048, .f32⟩
  | .hbm, ⟨7, _⟩ => ⟨S2048x5120, .f32⟩
  | .hbm, ⟨8, _⟩ => ⟨S2048x8x640, .f32⟩
  | .hbm, ⟨9, _⟩ => ⟨S8x2048x640, .f32⟩
  | .hbm, ⟨10, _⟩ => ⟨S8x2048x640, .bf16⟩
  | .hbm, ⟨11, _⟩ => ⟨S4x2048x640, .bf16⟩
  | .hbm, ⟨12, _⟩ => ⟨S4x2048x640, .bf16⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S1, .i1⟩
  | .hbm, ⟨19, _⟩ => ⟨S4x2048x640, .i1⟩
  | .hbm, ⟨20, _⟩ => ⟨S4x2048x640, .bf16⟩
  | .hbm, ⟨21, _⟩ => ⟨S4x2048x640, .i1⟩
  | .hbm, ⟨22, _⟩ => ⟨S4x2048x640, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_v13 : Ref sig .tc := ⟨.hbm, 20, rfl⟩
abbrev main_call1_v0 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel7.lean ====
abbrev S2048x2048 : Shape := ⟨2, ![2048, 2048]⟩
abbrev S2048x5120 : Shape := ⟨2, ![2048, 5120]⟩
abbrev S4x2048x640 : Shape := ⟨3, ![4, 2048, 640]⟩
abbrev S1 : Shape := ⟨1, ![1]⟩
abbrev S_ : Shape := ⟨0, ![]⟩
abbrev S2048x640 : Shape := ⟨2, ![2048, 640]⟩
abbrev S1x2048x640 : Shape := ⟨3, ![1, 2048, 640]⟩

abbrev nBuf : Space → Nat
  | .hbm => 10
  | .vmem => 7
  | .smem => 1
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S4x2048x640, .f32⟩
  | .hbm, ⟨3, _⟩ => ⟨S1, .i32⟩
  | .hbm, ⟨4, _⟩ => ⟨S2048x2048, .bf16⟩
  | .hbm, ⟨5, _⟩ => ⟨S2048x5120, .bf16⟩
  | .hbm, ⟨6, _⟩ => ⟨S_, .i32⟩
  | .hbm, ⟨7, _⟩ => ⟨S1, .i32⟩
  | .hbm, ⟨8, _⟩ => ⟨S4x2048x640, .bf16⟩
  | .hbm, ⟨9, _⟩ => ⟨S4x2048x640, .bf16⟩
  | .local _ .vmem, ⟨0, _⟩ => ⟨S2048x2048, .bf16⟩
  | .local _ .vmem, ⟨1, _⟩ => ⟨S2048x640, .bf16⟩
  | .local _ .vmem, ⟨2, _⟩ => ⟨S2048x640, .bf16⟩
  | .local _ .vmem, ⟨3, _⟩ => ⟨S1x2048x640, .bf16⟩
  | .local _ .vmem, ⟨4, _⟩ => ⟨S1x2048x640, .bf16⟩
  | .local _ .vmem, ⟨5, _⟩ => ⟨S1x2048x640, .bf16⟩
  | .local _ .vmem, ⟨6, _⟩ => ⟨S1x2048x640, .bf16⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v4 : Ref sig .tc := ⟨.hbm, 8, rfl⟩
abbrev main_v5 : Ref sig .tc := ⟨.hbm, 9, rfl⟩
abbrev main_v3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c2_i32 : BitVec 32 := 2#32
  let v1 : BitVec 32 := Scalar.muli c2_i32 arg0
  let v2 : BitVec 32 := Scalar.addi v1 v0
  let c0_i32 : BitVec 32 := 0#32
  let c0_i32_0 : BitVec 32 := 0#32
  ![c0_i32.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference7Ideal.lean ====
abbrev S2048x2048 : Shape := ⟨2, ![2048, 2048]⟩
abbrev S2048x5120 : Shape := ⟨2, ![2048, 5120]⟩
abbrev S4x2048x640 : Shape := ⟨3, ![4, 2048, 640]⟩
abbrev S1 : Shape := ⟨1, ![1]⟩
abbrev S_ : Shape := ⟨0, ![]⟩
abbrev S5120x2048 : Shape := ⟨2, ![5120, 2048]⟩
abbrev S2048x8x640 : Shape := ⟨3, ![2048, 8, 640]⟩
abbrev S8x2048x640 : Shape := ⟨3, ![8, 2048, 640]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S4x2048x640, .f32⟩
  | .hbm, ⟨3, _⟩ => ⟨S1, .i32⟩
  | .hbm, ⟨4, _⟩ => ⟨S_, .f32⟩
  | .hbm, ⟨5, _⟩ => ⟨S2048x5120, .f32⟩
  | .hbm, ⟨6, _⟩ => ⟨S2048x5120, .f32⟩
  | .hbm, ⟨7, _⟩ => ⟨S5120x2048, .f32⟩
  | .hbm, ⟨8, _⟩ => ⟨S2048x5120, .f32⟩
  | .hbm, ⟨9, _⟩ => ⟨S2048x8x640, .f32⟩
  | .hbm, ⟨10, _⟩ => ⟨S8x2048x640, .f32⟩
  | .hbm, ⟨11, _⟩ => ⟨S8x2048x640, .bf16⟩
  | .hbm, ⟨12, _⟩ => ⟨S4x2048x640, .bf16⟩
  | .hbm, ⟨13, _⟩ => ⟨S4x2048x640, .bf16⟩
  | .hbm, ⟨14, _⟩ => ⟨S_, .i32⟩
  | .hbm, ⟨15, _⟩ => ⟨S1, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S1, .i1⟩
  | .hbm, ⟨20, _⟩ => ⟨S4x2048x640, .i1⟩
  | .hbm, ⟨21, _⟩ => ⟨S4x2048x640, .bf16⟩
  | .hbm, ⟨22, _⟩ => ⟨S4x2048x640, .i1⟩
  | .hbm, ⟨23, _⟩ => ⟨S4x2048x640, .bf16⟩
  | .hbm, ⟨24, _⟩ => ⟨S4x2048x640, .f32⟩
  | .hbm, ⟨25, _⟩ => ⟨S4x2048x640, .f32⟩
  | .hbm, ⟨26, _⟩ => ⟨S4x2048x640, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_v13 : Ref sig .tc := ⟨.hbm, 21, rfl⟩
abbrev main_call1_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel8.lean ====
abbrev S2048x2048 : Shape := ⟨2, ![2048, 2048]⟩
abbrev S1 : Shape := ⟨1, ![1]⟩
abbrev S_ : Shape := ⟨0, ![]⟩
abbrev S4x256x2048 : Shape := ⟨3, ![4, 256, 2048]⟩
abbrev S2048x256 : Shape := ⟨2, ![2048, 256]⟩
abbrev S1x256x2048 : Shape := ⟨3, ![1, 256, 2048]⟩
abbrev S256x2048 : Shape := ⟨2, ![256, 2048]⟩

abbrev nBuf : Space → Nat
  | .hbm => 8
  | .vmem => 5
  | .smem => 1
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1, .i32⟩
  | .hbm, ⟨3, _⟩ => ⟨S2048x2048, .bf16⟩
  | .hbm, ⟨4, _⟩ => ⟨S2048x2048, .bf16⟩
  | .hbm, ⟨5, _⟩ => ⟨S_, .i32⟩
  | .hbm, ⟨6, _⟩ => ⟨S1, .i32⟩
  | .hbm, ⟨7, _⟩ => ⟨S4x256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S1x256x2048, .bf16⟩
  | .local _ .vmem, ⟨4, _⟩ => ⟨S1x256x2048, .bf16⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v4 : Ref sig .tc := ⟨.hbm, 7, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c2_i32 : BitVec 32 := 2#32
  let v2 : BitVec 32 := Scalar.muli c2_i32 arg0
  let v3 : BitVec 32 := Scalar.addi v2 v1
  let c0_i32 : BitVec 32 := 0#32
  let c0_i32_0 : BitVec 32 := 0#32
  ![c0_i32.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference8Ideal.lean ====
abbrev S2048x2048 : Shape := ⟨2, ![2048, 2048]⟩
abbrev S1 : Shape := ⟨1, ![1]⟩
abbrev S_ : Shape := ⟨0, ![]⟩
abbrev S8x256x2048 : Shape := ⟨3, ![8, 256, 2048]⟩
abbrev S4x256x2048 : Shape := ⟨3, ![4, 256, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1, .i32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S8x256x2048, .f32⟩
  | .hbm, ⟨9, _⟩ => ⟨S8x256x2048, .bf16⟩
  | .hbm, ⟨10, _⟩ => ⟨S4x256x2048, .bf16⟩
  | .hbm, ⟨11, _⟩ => ⟨S4x256x2048, .bf16⟩
  | .hbm, ⟨12, _⟩ => ⟨S_, .i32⟩
  | .hbm, ⟨13, _⟩ => ⟨S1, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S1, .i1⟩
  | .hbm, ⟨18, _⟩ => ⟨S4x256x2048, .i1⟩
  | .hbm, ⟨19, _⟩ => ⟨S4x256x2048, .bf16⟩
  | .hbm, ⟨20, _⟩ => ⟨S4x256x2048, .i1⟩
  | .hbm, ⟨21, _⟩ => ⟨S4x256x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_v12 : Ref sig .tc := ⟨.hbm, 19, rfl⟩
abbrev main_call1_v0 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Kernel9.lean ====
abbrev S2048x2048 : Shape := ⟨2, ![2048, 2048]⟩
abbrev S4x256x2048 : Shape := ⟨3, ![4, 256, 2048]⟩
abbrev S1 : Shape := ⟨1, ![1]⟩
abbrev S_ : Shape := ⟨0, ![]⟩
abbrev S2048x256 : Shape := ⟨2, ![2048, 256]⟩
abbrev S1x256x2048 : Shape := ⟨3, ![1, 256, 2048]⟩
abbrev S256x2048 : Shape := ⟨2, ![256, 2048]⟩

abbrev nBuf : Space → Nat
  | .hbm => 10
  | .vmem => 7
  | .smem => 1
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x256x2048, .f32⟩
  | .hbm, ⟨3, _⟩ => ⟨S1, .i32⟩
  | .hbm, ⟨4, _⟩ => ⟨S2048x2048, .bf16⟩
  | .hbm, ⟨5, _⟩ => ⟨S2048x2048, .bf16⟩
  | .hbm, ⟨6, _⟩ => ⟨S_, .i32⟩
  | .hbm, ⟨7, _⟩ => ⟨S1, .i32⟩
  | .hbm, ⟨8, _⟩ => ⟨S4x256x2048, .bf16⟩
  | .hbm, ⟨9, _⟩ => ⟨S4x256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v4 : Ref sig .tc := ⟨.hbm, 8, rfl⟩
abbrev main_v5 : Ref sig .tc := ⟨.hbm, 9, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c2_i32 : BitVec 32 := 2#32
  let v1 : BitVec 32 := Scalar.muli c2_i32 arg0
  let v2 : BitVec 32 := Scalar.addi v1 v0
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference9Ideal.lean ====
abbrev S2048x2048 : Shape := ⟨2, ![2048, 2048]⟩
abbrev S4x256x2048 : Shape := ⟨3, ![4, 256, 2048]⟩
abbrev S1 : Shape := ⟨1, ![1]⟩
abbrev S_ : Shape := ⟨0, ![]⟩
abbrev S8x256x2048 : Shape := ⟨3, ![8, 256, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x256x2048, .f32⟩
  | .hbm, ⟨3, _⟩ => ⟨S1, .i32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S8x256x2048, .f32⟩
  | .hbm, ⟨10, _⟩ => ⟨S8x256x2048, .bf16⟩
  | .hbm, ⟨11, _⟩ => ⟨S4x256x2048, .bf16⟩
  | .hbm, ⟨12, _⟩ => ⟨S4x256x2048, .bf16⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S1, .i1⟩
  | .hbm, ⟨19, _⟩ => ⟨S4x256x2048, .i1⟩
  | .hbm, ⟨20, _⟩ => ⟨S4x256x2048, .bf16⟩
  | .hbm, ⟨21, _⟩ => ⟨S4x256x2048, .i1⟩
  | .hbm, ⟨22, _⟩ => ⟨S4x256x2048, .bf16⟩
  | .hbm, ⟨23, _⟩ => ⟨S4x256x2048, .f32⟩
  | .hbm, ⟨24, _⟩ => ⟨S4x256x2048, .f32⟩
  | .hbm, ⟨25, _⟩ => ⟨S4x256x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel10.lean ====
abbrev S2048x5120 : Shape := ⟨2, ![2048, 5120]⟩
abbrev S2048x8x640 : Shape := ⟨3, ![2048, 8, 640]⟩
abbrev S8x2048x640 : Shape := ⟨3, ![8, 2048, 640]⟩
abbrev S2048x2048 : Shape := ⟨2, ![2048, 2048]⟩
abbrev S1024x640 : Shape := ⟨2, ![1024, 640]⟩
abbrev S1x2048x640 : Shape := ⟨3, ![1, 2048, 640]⟩
abbrev S1024x2048 : Shape := ⟨2, ![1024, 2048]⟩
abbrev S2048x640 : Shape := ⟨2, ![2048, 640]⟩

abbrev nBuf : Space → Nat
  | .hbm => 7
  | .vmem => 6
  | .smem => 0
  | _ => 0

abbrev bufTy : (tb : Table) → Fin (tcTables nBuf tb) → BufTy
  | .hbm, ⟨0, _⟩ => ⟨S2048x5120, .f32⟩
  | .hbm, ⟨1, _⟩ => ⟨S2048x5120, .f32⟩
  | .hbm, ⟨2, _⟩ => ⟨S2048x5120, .bf16⟩
  | .hbm, ⟨3, _⟩ => ⟨S2048x8x640, .f32⟩
  | .hbm, ⟨4, _⟩ => ⟨S8x2048x640, .f32⟩
  | .hbm, ⟨5, _⟩ => ⟨S8x2048x640, .bf16⟩
  | .hbm, ⟨6, _⟩ => ⟨S2048x2048, .f32⟩
  | .local _ .vmem, ⟨0, _⟩ => ⟨S1024x640, .bf16⟩
  | .local _ .vmem, ⟨1, _⟩ => ⟨S1024x640, .bf16⟩
  | .local _ .vmem, ⟨2, _⟩ => ⟨S1x2048x640, .bf16⟩
  | .local _ .vmem, ⟨3, _⟩ => ⟨S1x2048x640, .bf16⟩
  | .local _ .vmem, ⟨4, _⟩ => ⟨S1024x2048, .f32⟩
  | .local _ .vmem, ⟨5, _⟩ => ⟨S1024x2048, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x5120 : Shape := ⟨2, ![2048, 5120]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x5120, .f32⟩
  | .hbm, ⟨1, _⟩ => ⟨S2048x5120, .f32⟩
  | .hbm, ⟨2, _⟩ => ⟨S_, .f32⟩
  | .hbm, ⟨3, _⟩ => ⟨S2048x2048, .f32⟩
  | .hbm, ⟨4, _⟩ => ⟨S2048x5120, .f32⟩
  | .hbm, ⟨5, _⟩ => ⟨S2048x2048, .f32⟩
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S2048x2048 : Shape := ⟨2, ![2048, 2048]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S2048x5632 : Shape := ⟨2, ![2048, 5632]⟩
abbrev S5632x2048 : Shape := ⟨2, ![5632, 2048]⟩
abbrev S2048x8x704 : Shape := ⟨3, ![2048, 8, 704]⟩
abbrev S8x2048x704 : Shape := ⟨3, ![8, 2048, 704]⟩
abbrev S8x704x2048 : Shape := ⟨3, ![8, 704, 2048]⟩
abbrev S2048x2048 : Shape := ⟨2, ![2048, 2048]⟩
abbrev S1x1024x704 : Shape := ⟨3, ![1, 1024, 704]⟩
abbrev S1x704x2048 : Shape := ⟨3, ![1, 704, 2048]⟩
abbrev S1024x2048 : Shape := ⟨2, ![1024, 2048]⟩
abbrev S1024x704 : Shape := ⟨2, ![1024, 704]⟩
abbrev S704x2048 : Shape := ⟨2, ![704, 2048]⟩

abbrev nBuf : Space → Nat
  | .hbm => 8
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x8x704, .f32⟩
  | .hbm, ⟨3, _⟩ => ⟨S8x2048x704, .f32⟩
  | .hbm, ⟨4, _⟩ => ⟨S8x2048x704, .bf16⟩
  | .hbm, ⟨5, _⟩ => ⟨S8x704x2048, .f32⟩
  | .hbm, ⟨6, _⟩ => ⟨S8x704x2048, .bf16⟩
  | .hbm, ⟨7, _⟩ => ⟨S2048x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x2048, .bf16⟩
  | .local _ .vmem, ⟨3, _⟩ => ⟨S1x704x2048, .bf16⟩
  | .local _ .vmem, ⟨4, _⟩ => ⟨S1024x2048, .f32⟩
  | .local _ .vmem, ⟨5, _⟩ => ⟨S1024x2048, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S2048x2048 : Shape := ⟨2, ![2048, 2048]⟩
abbrev S2048x5120 : Shape := ⟨2, ![2048, 5120]⟩
abbrev S2048x8x640 : Shape := ⟨3, ![2048, 8, 640]⟩
abbrev S8x2048x640 : Shape := ⟨3, ![8, 2048, 640]⟩
abbrev S1x2048x640 : Shape := ⟨3, ![1, 2048, 640]⟩
abbrev S2048x640 : Shape := ⟨2, ![2048, 640]⟩

abbrev nBuf : Space → Nat
  | .hbm => 7
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S2048x2048, .bf16⟩
  | .hbm, ⟨3, _⟩ => ⟨S2048x8x640, .f32⟩
  | .hbm, ⟨4, _⟩ => ⟨S8x2048x640, .f32⟩
  | .hbm, ⟨5, _⟩ => ⟨S8x2048x640, .bf16⟩
  | .hbm, ⟨6, _⟩ => ⟨S2048x5120, .f32⟩
  | .local _ .vmem, ⟨0, _⟩ => ⟨S2048x2048, .bf16⟩
  | .local _ .vmem, ⟨1, _⟩ => ⟨S1x2048x640, .bf16⟩
  | .local _ .vmem, ⟨2, _⟩ => ⟨S1x2048x640, .bf16⟩
  | .local _ .vmem, ⟨3, _⟩ => ⟨S2048x640, .f32⟩
  | .local _ .vmem, ⟨4, _⟩ => ⟨S2048x640, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x2048 : Shape := ⟨2, ![2048, 2048]⟩
abbrev S2048x5120 : Shape := ⟨2, ![2048, 5120]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S2048x5120, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S2048x2048 : Shape := ⟨2, ![2048, 2048]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S2048x2048 : Shape := ⟨2, ![2048, 2048]⟩
abbrev S2048x5632 : Shape := ⟨2, ![2048, 5632]⟩
abbrev S1 : Shape := ⟨1, ![1]⟩
abbrev S2048x8x704 : Shape := ⟨3, ![2048, 8, 704]⟩
abbrev S8x2048x704 : Shape := ⟨3, ![8, 2048, 704]⟩
abbrev S_ : Shape := ⟨0, ![]⟩
abbrev S4x704x2048 : Shape := ⟨3, ![4, 704, 2048]⟩
abbrev S1x2048x704 : Shape := ⟨3, ![1, 2048, 704]⟩
abbrev S1x704x2048 : Shape := ⟨3, ![1, 704, 2048]⟩
abbrev S2048x704 : Shape := ⟨2, ![2048, 704]⟩
abbrev S704x2048 : Shape := ⟨2, ![704, 2048]⟩

abbrev nBuf : Space → Nat
  | .hbm => 10
  | .vmem => 5
  | .smem => 1
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S1, .i32⟩
  | .hbm, ⟨3, _⟩ => ⟨S2048x8x704, .f32⟩
  | .hbm, ⟨4, _⟩ => ⟨S8x2048x704, .f32⟩
  | .hbm, ⟨5, _⟩ => ⟨S8x2048x704, .bf16⟩
  | .hbm, ⟨6, _⟩ => ⟨S2048x2048, .bf16⟩
  | .hbm, ⟨7, _⟩ => ⟨S_, .i32⟩
  | .hbm, ⟨8, _⟩ => ⟨S1, .i32⟩
  | .hbm, ⟨9, _⟩ => ⟨S4x704x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x2048, .bf16⟩
  | .local _ .vmem, ⟨3, _⟩ => ⟨S1x704x2048, .bf16⟩
  | .local _ .vmem, ⟨4, _⟩ => ⟨S1x704x2048, .bf16⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v6 : Ref sig .tc := ⟨.hbm, 9, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c2_i32 : BitVec 32 := 2#32
  let v2 : BitVec 32 := Scalar.muli c2_i32 arg0
  let v3 : BitVec 32 := Scalar.addi v2 v1
  let c0_i32 : BitVec 32 := 0#32
  let c0_i32_0 : BitVec 32 := 0#32
  let c0_i32_1 : BitVec 32 := 0#32
  ![v3.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference15Ideal.lean ====
abbrev S2048x2048 : Shape := ⟨2, ![2048, 2048]⟩
abbrev S2048x5632 : Shape := ⟨2, ![2048, 5632]⟩
abbrev S1 : Shape := ⟨1, ![1]⟩
abbrev S_ : Shape := ⟨0, ![]⟩
abbrev S5632x2048 : Shape := ⟨2, ![5632, 2048]⟩
abbrev S8x704x2048 : Shape := ⟨3, ![8, 704, 2048]⟩
abbrev S4x704x2048 : Shape := ⟨3, ![4, 704, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S1, .i32⟩
  | .hbm, ⟨3, _⟩ => ⟨S_, .f32⟩
  | .hbm, ⟨4, _⟩ => ⟨S2048x5632, .f32⟩
  | .hbm, ⟨5, _⟩ => ⟨S2048x5632, .f32⟩
  | .hbm, ⟨6, _⟩ => ⟨S5632x2048, .f32⟩
  | .hbm, ⟨7, _⟩ => ⟨S2048x5632, .f32⟩
  | .hbm, ⟨8, _⟩ => ⟨S5632x2048, .f32⟩
  | .hbm, ⟨9, _⟩ => ⟨S8x704x2048, .f32⟩
  | .hbm, ⟨10, _⟩ => ⟨S8x704x2048, .bf16⟩
  | .hbm, ⟨11, _⟩ => ⟨S4x704x2048, .bf16⟩
  | .hbm, ⟨12, _⟩ => ⟨S4x704x2048, .bf16⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S1, .i1⟩
  | .hbm, ⟨19, _⟩ => ⟨S4x704x2048, .i1⟩
  | .hbm, ⟨20, _⟩ => ⟨S4x704x2048, .bf16⟩
  | .hbm, ⟨21, _⟩ => ⟨S4x704x2048, .i1⟩
  | .hbm, ⟨22, _⟩ => ⟨S4x704x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_v13 : Ref sig .tc := ⟨.hbm, 20, rfl⟩
abbrev main_call1_v0 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel16.lean ====
abbrev S2048x2048 : Shape := ⟨2, ![2048, 2048]⟩
abbrev S2048x5632 : Shape := ⟨2, ![2048, 5632]⟩
abbrev S4x704x2048 : Shape := ⟨3, ![4, 704, 2048]⟩
abbrev S1 : Shape := ⟨1, ![1]⟩
abbrev S2048x8x704 : Shape := ⟨3, ![2048, 8, 704]⟩
abbrev S8x2048x704 : Shape := ⟨3, ![8, 2048, 704]⟩
abbrev S_ : Shape := ⟨0, ![]⟩
abbrev S1x2048x704 : Shape := ⟨3, ![1, 2048, 704]⟩
abbrev S1x704x2048 : Shape := ⟨3, ![1, 704, 2048]⟩
abbrev S2048x704 : Shape := ⟨2, ![2048, 704]⟩
abbrev S704x2048 : Shape := ⟨2, ![704, 2048]⟩

abbrev nBuf : Space → Nat
  | .hbm => 12
  | .vmem => 7
  | .smem => 1
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S4x704x2048, .f32⟩
  | .hbm, ⟨3, _⟩ => ⟨S1, .i32⟩
  | .hbm, ⟨4, _⟩ => ⟨S2048x8x704, .f32⟩
  | .hbm, ⟨5, _⟩ => ⟨S8x2048x704, .f32⟩
  | .hbm, ⟨6, _⟩ => ⟨S8x2048x704, .bf16⟩
  | .hbm, ⟨7, _⟩ => ⟨S2048x2048, .bf16⟩
  | .hbm, ⟨8, _⟩ => ⟨S_, .i32⟩
  | .hbm, ⟨9, _⟩ => ⟨S1, .i32⟩
  | .hbm, ⟨10, _⟩ => ⟨S4x704x2048, .bf16⟩
  | .hbm, ⟨11, _⟩ => ⟨S4x704x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x704x2048, .bf16⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v6 : Ref sig .tc := ⟨.hbm, 10, rfl⟩
abbrev main_v7 : Ref sig .tc := ⟨.hbm, 11, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c2_i32 : BitVec 32 := 2#32
  let v1 : BitVec 32 := Scalar.muli c2_i32 arg0
  let v2 : BitVec 32 := Scalar.addi v1 v0
  let c0_i32 : BitVec 32 := 0#32
  let c0_i32_0 : BitVec 32 := 0#32
  let c0_i32_1 : BitVec 32 := 0#32
  ![v2.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference16Ideal.lean ====
abbrev S2048x2048 : Shape := ⟨2, ![2048, 2048]⟩
abbrev S2048x5632 : Shape := ⟨2, ![2048, 5632]⟩
abbrev S4x704x2048 : Shape := ⟨3, ![4, 704, 2048]⟩
abbrev S1 : Shape := ⟨1, ![1]⟩
abbrev S_ : Shape := ⟨0, ![]⟩
abbrev S5632x2048 : Shape := ⟨2, ![5632, 2048]⟩
abbrev S8x704x2048 : Shape := ⟨3, ![8, 704, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S4x704x2048, .f32⟩
  | .hbm, ⟨3, _⟩ => ⟨S1, .i32⟩
  | .hbm, ⟨4, _⟩ => ⟨S_, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S8x704x2048, .f32⟩
  | .hbm, ⟨11, _⟩ => ⟨S8x704x2048, .bf16⟩
  | .hbm, ⟨12, _⟩ => ⟨S4x704x2048, .bf16⟩
  | .hbm, ⟨13, _⟩ => ⟨S4x704x2048, .bf16⟩
  | .hbm, ⟨14, _⟩ => ⟨S_, .i32⟩
  | .hbm, ⟨15, _⟩ => ⟨S1, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S1, .i1⟩
  | .hbm, ⟨20, _⟩ => ⟨S4x704x2048, .i1⟩
  | .hbm, ⟨21, _⟩ => ⟨S4x704x2048, .bf16⟩
  | .hbm, ⟨22, _⟩ => ⟨S4x704x2048, .i1⟩
  | .hbm, ⟨23, _⟩ => ⟨S4x704x2048, .bf16⟩
  | .hbm, ⟨24, _⟩ => ⟨S4x704x2048, .f32⟩
  | .hbm, ⟨25, _⟩ => ⟨S4x704x2048, .f32⟩
  | .hbm, ⟨26, _⟩ => ⟨S4x704x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_v13 : Ref sig .tc := ⟨.hbm, 21, rfl⟩
abbrev main_call1_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel17.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S2048x2048, .f32⟩
  | .hbm, ⟨9, _⟩ => ⟨S1x2048, .f32⟩
  | .hbm, ⟨10, _⟩ => ⟨S2048x2048, .bf16⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference17Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 100
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S1x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x2048, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x2048, .f32⟩
  | .hbm, ⟨39, _⟩ => ⟨S2048x2048, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S2048x2048, .f32⟩
  | .hbm, ⟨68, _⟩ => ⟨S2048x2048, .f32⟩
  | .hbm, ⟨69, _⟩ => ⟨S1x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S_, .f32⟩
  | .hbm, ⟨74, _⟩ => ⟨S2048, .f32⟩
  | .hbm, ⟨75, _⟩ => ⟨S1x2048, .f32⟩
  | .hbm, ⟨76, _⟩ => ⟨S2048x2048, .f32⟩
  | .hbm, ⟨77, _⟩ => ⟨S2048x2048, .f32⟩
  | .hbm, ⟨78, _⟩ => ⟨S_, .f32⟩
  | .hbm, ⟨79, _⟩ => ⟨S2048, .f32⟩
  | .hbm, ⟨80, _⟩ => ⟨S2048x2048, .f32⟩
  | .hbm, ⟨81, _⟩ => ⟨S_, .f32⟩
  | .hbm, ⟨82, _⟩ => ⟨S2048, .f32⟩
  | .hbm, ⟨83, _⟩ => ⟨S2048x1, .f32⟩
  | .hbm, ⟨84, _⟩ => ⟨S2048x2048, .f32⟩
  | .hbm, ⟨85, _⟩ => ⟨S2048x2048, .f32⟩
  | .hbm, ⟨86, _⟩ => ⟨S2048x1, .f32⟩
  | .hbm, ⟨87, _⟩ => ⟨S_, .f32⟩
  | .hbm, ⟨88, _⟩ => ⟨S2048x1, .f32⟩
  | .hbm, ⟨89, _⟩ => ⟨S2048x1, .f32⟩
  | .hbm, ⟨90, _⟩ => ⟨S_, .f32⟩
  | .hbm, ⟨91, _⟩ => ⟨S2048, .f32⟩
  | .hbm, ⟨92, _⟩ => ⟨S2048x2048, .f32⟩
  | .hbm, ⟨93, _⟩ => ⟨S2048x2048, .f32⟩
  | .hbm, ⟨94, _⟩ => ⟨S2048x2048, .f32⟩
  | .hbm, ⟨95, _⟩ => ⟨S2048x2048, .f32⟩
  | .hbm, ⟨96, _⟩ => ⟨S2048x2048, .f32⟩
  | .hbm, ⟨97, _⟩ => ⟨S1x2048, .f32⟩
  | .hbm, ⟨98, _⟩ => ⟨S2048x2048, .bf16⟩
  | .hbm, ⟨99, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_13 : Ref sig .tc := ⟨.hbm, 78, rfl⟩
abbrev main_v58 : Ref sig .tc := ⟨.hbm, 79, rfl⟩
abbrev main_v59 : Ref sig .tc := ⟨.hbm, 80, rfl⟩
abbrev main_cst_14 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_15 : Ref sig .tc := ⟨.hbm, 87, rfl⟩
abbrev main_v65 : Ref sig .tc := ⟨.hbm, 88, rfl⟩
abbrev main_v66 : Ref sig .tc := ⟨.hbm, 89, rfl⟩
abbrev main_cst_16 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== Kernel19.lean ====
abbrev S2048x2048 : Shape := ⟨2, ![2048, 2048]⟩
abbrev S2048x1024 : Shape := ⟨2, ![2048, 1024]⟩
abbrev S2048x512 : Shape := ⟨2, ![2048, 512]⟩
abbrev S1024 : Shape := ⟨1, ![1024]⟩
abbrev S512 : Shape := ⟨1, ![512]⟩
abbrev S_ : Shape := ⟨0, ![]⟩
abbrev S2048 : Shape := ⟨1, ![2048]⟩
abbrev S2048x1 : Shape := ⟨2, ![2048, 1]⟩
abbrev S1x512 : Shape := ⟨2, ![1, 512]⟩
abbrev S1x1024 : Shape := ⟨2, ![1, 1024]⟩
abbrev S256x2048 : Shape := ⟨2, ![256, 2048]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 58
  | .vmem => 26
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x512, .f32⟩
  | .hbm, ⟨3, _⟩ => ⟨S2048x512, .f32⟩
  | .hbm, ⟨4, _⟩ => ⟨S1024, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x512, .f32⟩
  | .hbm, ⟨29, _⟩ => ⟨S2048x512, .f32⟩
  | .hbm, ⟨30, _⟩ => ⟨S1x512, .f32⟩
  | .hbm, ⟨31, _⟩ => ⟨S2048x512, .f32⟩
  | .hbm, ⟨32, _⟩ => ⟨S2048x512, .f32⟩
  | .hbm, ⟨33, _⟩ => ⟨S1x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S_, .f32⟩
  | .hbm, ⟨39, _⟩ => ⟨S2048x512, .f32⟩
  | .hbm, ⟨40, _⟩ => ⟨S2048x512, .f32⟩
  | .hbm, ⟨41, _⟩ => ⟨S_, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S1x1024, .f32⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S1x512, .f32⟩
  | .hbm, ⟨50, _⟩ => ⟨S2048x1024, .f32⟩
  | .hbm, ⟨51, _⟩ => ⟨S2048x512, .f32⟩
  | .hbm, ⟨52, _⟩ => ⟨S2048x512, .f32⟩
  | .hbm, ⟨53, _⟩ => ⟨S1x1024, .f32⟩
  | .hbm, ⟨54, _⟩ => ⟨S1x512, .f32⟩
  | .hbm, ⟨55, _⟩ => ⟨S1x512, .f32⟩
  | .hbm, ⟨56, _⟩ => ⟨S1x512, .f32⟩
  | .hbm, ⟨57, _⟩ => ⟨S1x512, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1x1024, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S256x1024, .f32⟩
  | .local _ .vmem, ⟨16, _⟩ => ⟨S256x1024, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S1x1024, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28_0 : Ref sig .tc := ⟨.hbm, 50, rfl⟩
abbrev main_v28_1 : Ref sig .tc := ⟨.hbm, 51, rfl⟩
abbrev main_v28_2 : Ref sig .tc := ⟨.hbm, 52, rfl⟩
abbrev main_v28_3 : Ref sig .tc := ⟨.hbm, 53, rfl⟩
abbrev main_v28_4 : Ref sig .tc := ⟨.hbm, 54, rfl⟩
abbrev main_v28_5 : Ref sig .tc := ⟨.hbm, 55, rfl⟩
abbrev main_v28_6 : Ref sig .tc := ⟨.hbm, 56, rfl⟩
abbrev main_v28_7 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference19Ideal.lean ====
abbrev S2048x2048 : Shape := ⟨2, ![2048, 2048]⟩
abbrev S2048x1024 : Shape := ⟨2, ![2048, 1024]⟩
abbrev S2048x512 : Shape := ⟨2, ![2048, 512]⟩
abbrev S1024 : Shape := ⟨1, ![1024]⟩
abbrev S512 : Shape := ⟨1, ![512]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x512 : Shape := ⟨2, ![1, 512]⟩

abbrev nBuf : Space → Nat
  | .hbm => 242
  | .vmem => 0
  | .smem => 0
  | _ => 0

abbrev hbmTy0_0 (i : Nat) : BufTy := match i % 128 with
  | 0 => ⟨S2048x2048, .f32⟩
  | 1 => ⟨S2048x1024, .f32⟩
  | 2 => ⟨S2048x512, .f32⟩
  | 3 => ⟨S2048x512, .f32⟩
  | 4 => ⟨S1024, .f32⟩
  | 5 => ⟨S512, .f32⟩
  | 6 => ⟨S512, .f32⟩
  | 7 => ⟨S512, .f32⟩
  | 8 => ⟨S512, .f32⟩
  | 9 => ⟨S2048x1024, .f32⟩
  | 10 => ⟨S_, .f32⟩
  | 11 => ⟨S2048, .f32⟩
  | 12 => ⟨S2048x1, .f32⟩
  | 13 => ⟨S_, .f32⟩
  | 14 => ⟨S2048x1, .f32⟩
  | 15 => ⟨S2048x1, .f32⟩
  | 16 => ⟨S_, .f32⟩
  | 17 => ⟨S2048x1, .f32⟩
  | 18 => ⟨S2048x1, .f32⟩
  | 19 => ⟨S2048x1, .f32⟩
  | 20 => ⟨S2048x1, .f32⟩
  | 21 => ⟨S_, .f32⟩
  | 22 => ⟨S2048x1, .f32⟩
  | 23 => ⟨S2048x1, .f32⟩
  | 24 => ⟨S2048x1024, .f32⟩
  | 25 => ⟨S2048x1024, .f32⟩
  | 26 => ⟨S1x1024, .f32⟩
  | 27 => ⟨S2048x1024, .f32⟩
  | 28 => ⟨S2048x1024, .f32⟩
  | 29 => ⟨S_, .f32⟩
  | 30 => ⟨S2048, .f32⟩
  | 31 => ⟨S2048x1, .f32⟩
  | 32 => ⟨S_, .f32⟩
  | 33 => ⟨S2048x1, .f32⟩
  | 34 => ⟨S2048x1, .f32⟩
  | 35 => ⟨S2048x512, .f32⟩
  | 36 => ⟨S2048x512, .f32⟩
  | 37 => ⟨S2048x512, .f32⟩
  | 38 => ⟨S_, .f32⟩
  | 39 => ⟨S2048, .f32⟩
  | 40 => ⟨S2048x1, .f32⟩
  | 41 => ⟨S_, .f32⟩
  | 42 => ⟨S2048x1, .f32⟩
  | 43 => ⟨S2048x1, .f32⟩
  | 44 => ⟨S_, .f32⟩
  | 45 => ⟨S2048x1, .f32⟩
  | 46 => ⟨S2048x1, .f32⟩
  | 47 => ⟨S2048x1, .f32⟩
  | 48 => ⟨S2048x1, .f32⟩
  | 49 => ⟨S_, .f32⟩
  | 50 => ⟨S2048x1, .f32⟩
  | 51 => ⟨S2048x1, .f32⟩
  | 52 => ⟨S2048x512, .f32⟩
  | 53 => ⟨S2048x512, .f32⟩
  | 54 => ⟨S1x512, .f32⟩
  | 55 => ⟨S2048x512, .f32⟩
  | 56 => ⟨S2048x512, .f32⟩
  | 57 => ⟨S1x512, .f32⟩
  | 58 => ⟨S2048x512, .f32⟩
  | 59 => ⟨S2048x512, .f32⟩
  | 60 => ⟨S2048x512, .f32⟩
  | 61 => ⟨S2048x512, .f32⟩
  | 62 => ⟨S_, .f32⟩
  | 63 => ⟨S2048x512, .f32⟩
  | 64 => ⟨S2048x512, .f32⟩
  | 65 => ⟨S_, .f32⟩
  | 66 => ⟨S2048x512, .f32⟩
  | 67 => ⟨S2048x512, .f32⟩
  | 68 => ⟨S_, .f32⟩
  | 69 => ⟨S2048x512, .f32⟩
  | 70 => ⟨S2048x512, .f32⟩
  | 71 => ⟨S2048x512, .f32⟩
  | 72 => ⟨S2048x512, .f32⟩
  | 73 => ⟨S2048x512, .f32⟩
  | 74 => ⟨S_, .f32⟩
  | 75 => ⟨S2048, .f32⟩
  | 76 => ⟨S2048x1, .f32⟩
  | 77 => ⟨S_, .f32⟩
  | 78 => ⟨S2048x1, .f32⟩
  | 79 => ⟨S2048x1, .f32⟩
  | 80 => ⟨S_, .f32⟩
  | 81 => ⟨S2048x1, .f32⟩
  | 82 => ⟨S2048x1, .f32⟩
  | 83 => ⟨S2048x1, .f32⟩
  | 84 => ⟨S2048x1, .f32⟩
  | 85 => ⟨S_, .f32⟩
  | 86 => ⟨S2048x1, .f32⟩
  | 87 => ⟨S2048x1, .f32⟩
  | 88 => ⟨S2048x512, .f32⟩
  | 89 => ⟨S2048x512, .f32⟩
  | 90 => ⟨S1x512, .f32⟩
  | 91 => ⟨S2048x512, .f32⟩
  | 92 => ⟨S2048x512, .f32⟩
  | 93 => ⟨S2048x512, .f32⟩
  | 94 => ⟨S_, .f32⟩
  | 95 => ⟨S2048, .f32⟩
  | 96 => ⟨S2048x1, .f32⟩
  | 97 => ⟨S_, .f32⟩
  | 98 => ⟨S2048x1, .f32⟩
  | 99 => ⟨S2048x1, .f32⟩
  | 100 => ⟨S_, .f32⟩
  | 101 => ⟨S2048x1, .f32⟩
  | 102 => ⟨S2048x1, .f32⟩
  | 103 => ⟨S2048x1, .f32⟩
  | 104 => ⟨S2048x1, .f32⟩
  | 105 => ⟨S_, .f32⟩
  | 106 => ⟨S2048x1, .f32⟩
  | 107 => ⟨S2048x1, .f32⟩
  | 108 => ⟨S2048x512, .f32⟩
  | 109 => ⟨S2048x512, .f32⟩
  | 110 => ⟨S1x512, .f32⟩
  | 111 => ⟨S2048x512, .f32⟩
  | 112 => ⟨S2048x512, .f32⟩
  | 113 => ⟨S2048x2048, .f32⟩
  | 114 => ⟨S2048x1024, .f32⟩
  | 115 => ⟨S2048x512, .f32⟩
  | 116 => ⟨S2048x512, .f32⟩
  | 117 => ⟨S2048x512, .f32⟩
  | 118 => ⟨S_, .f32⟩
  | 119 => ⟨S512, .f32⟩
  | 120 => ⟨S1x512, .f32⟩
  | 121 => ⟨S2048x512, .f32⟩
  | 122 => ⟨S2048x512, .f32⟩
  | 123 => ⟨S_, .f32⟩
  | 124 => ⟨S512, .f32⟩
  | 125 => ⟨S2048x512, .f32⟩
  | 126 => ⟨S_, .f32⟩
  | 127 => ⟨S2048, .f32⟩
  | _ => ⟨S2048x2048, .f32⟩

abbrev hbmTy0_1 (i : Nat) : BufTy := match i % 128 with
  | 0 => ⟨S2048x1, .f32⟩
  | 1 => ⟨S2048x512, .f32⟩
  | 2 => ⟨S2048x512, .f32⟩
  | 3 => ⟨S2048x1, .f32⟩
  | 4 => ⟨S_, .f32⟩
  | 5 => ⟨S2048x1, .f32⟩
  | 6 => ⟨S2048x1, .f32⟩
  | 7 => ⟨S_, .f32⟩
  | 8 => ⟨S2048, .f32⟩
  | 9 => ⟨S2048x512, .f32⟩
  | 10 => ⟨S2048x512, .f32⟩
  | 11 => ⟨S2048x512, .f32⟩
  | 12 => ⟨S2048x512, .f32⟩
  | 13 => ⟨S2048x512, .f32⟩
  | 14 => ⟨S2048x512, .f32⟩
  | 15 => ⟨S_, .f32⟩
  | 16 => ⟨S512, .f32⟩
  | 17 => ⟨S1x512, .f32⟩
  | 18 => ⟨S2048x512, .f32⟩
  | 19 => ⟨S2048x512, .f32⟩
  | 20 => ⟨S_, .f32⟩
  | 21 => ⟨S512, .f32⟩
  | 22 => ⟨S2048x512, .f32⟩
  | 23 => ⟨S_, .f32⟩
  | 24 => ⟨S2048, .f32⟩
  | 25 => ⟨S2048x1, .f32⟩
  | 26 => ⟨S2048x512, .f32⟩
  | 27 => ⟨S2048x512, .f32⟩
  | 28 => ⟨S2048x1, .f32⟩
  | 29 => ⟨S_, .f32⟩
  | 30 => ⟨S2048x1, .f32⟩
  | 31 => ⟨S2048x1, .f32⟩
  | 32 => ⟨S_, .f32⟩
  | 33 => ⟨S2048, .f32⟩
  | 34 => ⟨S2048x512, .f32⟩
  | 35 => ⟨S2048x512, .f32⟩
  | 36 => ⟨S2048x512, .f32⟩
  | 37 => ⟨S2048x512, .f32⟩
  | 38 => ⟨S2048x512, .f32⟩
  | 39 => ⟨S2048x512, .f32⟩
  | 40 => ⟨S2048x512, .f32⟩
  | 41 => ⟨S2048x512, .f32⟩
  | 42 => ⟨S2048x512, .f32⟩
  | 43 => ⟨S_, .f32⟩
  | 44 => ⟨S512, .f32⟩
  | 45 => ⟨S1x512, .f32⟩
  | 46 => ⟨S_, .f32⟩
  | 47 => ⟨S512, .f32⟩
  | 48 => ⟨S2048x512, .f32⟩
  | 49 => ⟨S_, .f32⟩
  | 50 => ⟨S512, .f32⟩
  | 51 => ⟨S1x512, .f32⟩
  | 52 => ⟨S2048x512, .f32⟩
  | 53 => ⟨S2048x512, .f32⟩
  | 54 => ⟨S_, .f32⟩
  | 55 => ⟨S512, .f32⟩
  | 56 => ⟨S2048x512, .f32⟩
  | 57 => ⟨S_, .f32⟩
  | 58 => ⟨S2048, .f32⟩
  | 59 => ⟨S2048x1, .f32⟩
  | 60 => ⟨S2048x512, .f32⟩
  | 61 => ⟨S2048x512, .f32⟩
  | 62 => ⟨S2048x1, .f32⟩
  | 63 => ⟨S_, .f32⟩
  | 64 => ⟨S2048x1, .f32⟩
  | 65 => ⟨S2048x1, .f32⟩
  | 66 => ⟨S_, .f32⟩
  | 67 => ⟨S2048, .f32⟩
  | 68 => ⟨S2048x512, .f32⟩
  | 69 => ⟨S2048x512, .f32⟩
  | 70 => ⟨S2048x512, .f32⟩
  | 71 => ⟨S2048x512, .f32⟩
  | 72 => ⟨S2048x512, .f32⟩
  | 73 => ⟨S2048x512, .f32⟩
  | 74 => ⟨S_, .f32⟩
  | 75 => ⟨S2048, .f32⟩
  | 76 => ⟨S2048x1, .f32⟩
  | 77 => ⟨S_, .f32⟩
  | 78 => ⟨S2048x1, .f32⟩
  | 79 => ⟨S2048x1, .f32⟩
  | 80 => ⟨S_, .f32⟩
  | 81 => ⟨S2048, .f32⟩
  | 82 => ⟨S2048x512, .f32⟩
  | 83 => ⟨S2048x512, .f32⟩
  | 84 => ⟨S2048x1024, .f32⟩
  | 85 => ⟨S_, .f32⟩
  | 86 => ⟨S1024, .f32⟩
  | 87 => ⟨S1x1024, .f32⟩
  | 88 => ⟨S2048x1024, .f32⟩
  | 89 => ⟨S2048x1024, .f32⟩
  | 90 => ⟨S_, .f32⟩
  | 91 => ⟨S1024, .f32⟩
  | 92 => ⟨S2048x1024, .f32⟩
  | 93 => ⟨S_, .f32⟩
  | 94 => ⟨S2048, .f32⟩
  | 95 => ⟨S2048x1, .f32⟩
  | 96 => ⟨S2048x1024, .f32⟩
  | 97 => ⟨S2048x1024, .f32⟩
  | 98 => ⟨S2048x1, .f32⟩
  | 99 => ⟨S_, .f32⟩
  | 100 => ⟨S2048x1, .f32⟩
  | 101 => ⟨S2048x1, .f32⟩
  | 102 => ⟨S_, .f32⟩
  | 103 => ⟨S2048, .f32⟩
  | 104 => ⟨S2048x1024, .f32⟩
  | 105 => ⟨S2048x1024, .f32⟩
  | 106 => ⟨S2048x1024, .f32⟩
  | 107 => ⟨S2048x1024, .f32⟩
  | 108 => ⟨S2048x1024, .f32⟩
  | 109 => ⟨S1x1024, .f32⟩
  | 110 => ⟨S1x512, .f32⟩
  | 111 => ⟨S1x512, .f32⟩
  | 112 => ⟨S1x512, .f32⟩
  | 113 => ⟨S1x512, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_v41_2 : Ref sig .tc := ⟨.hbm, 67, rfl⟩
abbrev main_call0_cst_1 : Ref sig .tc := ⟨.hbm, 68, rfl⟩
abbrev main_call0_v6 : Ref sig .tc := ⟨.hbm, 69, rfl⟩
abbrev main_call0_v7 : Ref sig .tc := ⟨.hbm, 70, rfl⟩
abbrev main_v41_1 : Ref sig .tc := ⟨.hbm, 71, rfl⟩
abbrev main_v41_0 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_cst_10 : Ref sig .tc := ⟨.hbm, 77, rfl⟩
abbrev main_v45 : Ref sig .tc := ⟨.hbm, 78, rfl⟩
abbrev main_v46 : Ref sig .tc := ⟨.hbm, 79, rfl⟩
abbrev main_cst_11 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_12 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_13 : Ref sig .tc := ⟨.hbm, 94, rfl⟩
abbrev main_v59 : Ref sig .tc := ⟨.hbm, 95, rfl⟩
abbrev main_v60 : Ref sig .tc := ⟨.hbm, 96, rfl⟩
abbrev main_cst_14 : Ref sig .tc := ⟨.hbm, 97, rfl⟩
abbrev main_v61 : Ref sig .tc := ⟨.hbm, 98, rfl⟩
abbrev main_v62 : Ref sig .tc := ⟨.hbm, 99, rfl⟩
abbrev main_cst_15 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_16 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_17 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_18 : Ref sig .tc := ⟨.hbm, 123, rfl⟩
abbrev main_v83 : Ref sig .tc := ⟨.hbm, 124, rfl⟩
abbrev main_v84 : Ref sig .tc := ⟨.hbm, 125, rfl⟩
abbrev main_cst_19 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_20 : Ref sig .tc := ⟨.hbm, 132, rfl⟩
abbrev main_v90 : Ref sig .tc := ⟨.hbm, 133, rfl⟩
abbrev main_v91 : Ref sig .tc := ⟨.hbm, 134, rfl⟩
abbrev main_cst_21 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_22 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_23 : Ref sig .tc := ⟨.hbm, 148, rfl⟩
abbrev main_v103 : Ref sig .tc := ⟨.hbm, 149, rfl⟩
abbrev main_v104 : Ref sig .tc := ⟨.hbm, 150, rfl⟩
abbrev main_cst_24 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_25 : Ref sig .tc := ⟨.hbm, 157, rfl⟩
abbrev main_v110 : Ref sig .tc := ⟨.hbm, 158, rfl⟩
abbrev main_v111 : Ref sig .tc := ⟨.hbm, 159, rfl⟩
abbrev main_cst_26 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_call1_v0 : Ref sig .tc := ⟨.hbm, 167, rfl⟩
abbrev main_call1_v1 : Ref sig .tc := ⟨.hbm, 168, rfl⟩
abbrev main_call1_v2 : Ref sig .tc := ⟨.hbm, 169, rfl⟩
abbrev main_v118 : Ref sig .tc := ⟨.hbm, 170, rfl⟩
abbrev main_cst_27 : Ref sig .tc := ⟨.hbm, 171, rfl⟩
abbrev main_v119 : Ref sig .tc := ⟨.hbm, 172, rfl⟩
abbrev main_v120 : Ref sig .tc := ⟨.hbm, 173, rfl⟩
abbrev main_cst_28 : Ref sig .tc := ⟨.hbm, 174, rfl⟩
abbrev main_v121 : Ref sig .tc := ⟨.hbm, 175, rfl⟩
abbrev main_v122 : Ref sig .tc := ⟨.hbm, 176, rfl⟩
abbrev main_cst_29 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_cst_30 : Ref sig .tc := ⟨.hbm, 182, rfl⟩
abbrev main_v127 : Ref sig .tc := ⟨.hbm, 183, rfl⟩
abbrev main_v128 : Ref sig .tc := ⟨.hbm, 184, rfl⟩
abbrev main_cst_31 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_cst_32 : Ref sig .tc := ⟨.hbm, 191, rfl⟩
abbrev main_v134 : Ref sig .tc := ⟨.hbm, 192, rfl⟩
abbrev main_v135 : Ref sig .tc := ⟨.hbm, 193, rfl⟩
abbrev main_cst_33 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_cst_34 : Ref sig .tc := ⟨.hbm, 202, rfl⟩
abbrev main_v143 : Ref sig .tc := ⟨.hbm, 203, rfl⟩
abbrev main_v144 : Ref sig .tc := ⟨.hbm, 204, rfl⟩
abbrev main_cst_35 : Ref sig .tc := ⟨.hbm, 205, rfl⟩
abbrev main_v145 : Ref sig .tc := ⟨.hbm, 206, rfl⟩
abbrev main_v146 : Ref sig .tc := ⟨.hbm, 207, rfl⟩
abbrev main_cst_36 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_cst_37 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_cst_38 : Ref sig .tc := ⟨.hbm, 218, rfl⟩
abbrev main_v155 : Ref sig .tc := ⟨.hbm, 219, rfl⟩
abbrev main_v156 : Ref sig .tc := ⟨.hbm, 220, rfl⟩
abbrev main_cst_39 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_cst_40 : Ref sig .tc := ⟨.hbm, 227, rfl⟩
abbrev main_v162 : Ref sig .tc := ⟨.hbm, 228, rfl⟩
abbrev main_v163 : Ref sig .tc := ⟨.hbm, 229, rfl⟩
abbrev main_cst_41 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩

abbrev nD : Nat := 1
abbrev τ : Topo := Topo.v7x

variable {F : FTy → Type} [FloatOps F]
-- ==== Kernel18.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S1x2048, .f32⟩
  | .hbm, ⟨5, _⟩ => ⟨S2048x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference18Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel20.lean ====
abbrev S2048x2048 : Shape := ⟨2, ![2048, 2048]⟩
abbrev S2048 : Shape := ⟨1, ![2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 14
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S1x2048, .f32⟩
  | .hbm, ⟨5, _⟩ => ⟨S1x1, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S1x1, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference20Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 75
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2048, .f32⟩
  | .hbm, ⟨43, _⟩ => ⟨S_, .f32⟩
  | .hbm, ⟨44, _⟩ => ⟨S2048, .f32⟩
  | .hbm, ⟨45, _⟩ => ⟨S2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S2048x2048, .f32⟩
  | .hbm, ⟨61, _⟩ => ⟨S2048x2048, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .bf16⟩
  | .hbm, ⟨74, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Kernel21.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel22.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference22Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S1x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x2048, .f32⟩
  | .hbm, ⟨33, _⟩ => ⟨S2048x2048, .f32⟩
  | .hbm, ⟨34, _⟩ => ⟨S1x2048, .f32⟩
  | .hbm, ⟨35, _⟩ => ⟨S2048x2048, .f32⟩
  | .hbm, ⟨36, _⟩ => ⟨S2048x2048, .f32⟩
  | .hbm, ⟨37, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel23.lean ====
abbrev S2048x1024 : Shape := ⟨2, ![2048, 1024]⟩
abbrev S2048x512 : Shape := ⟨2, ![2048, 512]⟩
abbrev S1024 : Shape := ⟨1, ![1024]⟩
abbrev S512 : Shape := ⟨1, ![512]⟩
abbrev S1x1024 : Shape := ⟨2, ![1, 1024]⟩
abbrev S1x512 : Shape := ⟨2, ![1, 512]⟩
abbrev S2048x2048 : Shape := ⟨2, ![2048, 2048]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S1024, .f32⟩
  | .hbm, ⟨4, _⟩ => ⟨S512, .f32⟩
  | .hbm, ⟨5, _⟩ => ⟨S512, .f32⟩
  | .hbm, ⟨6, _⟩ => ⟨S1x1024, .f32⟩
  | .hbm, ⟨7, _⟩ => ⟨S1x512, .f32⟩
  | .hbm, ⟨8, _⟩ => ⟨S1x512, .f32⟩
  | .hbm, ⟨9, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x1024, .f32⟩
  | .local _ .vmem, ⟨7, _⟩ => ⟨S1x512, .f32⟩
  | .local _ .vmem, ⟨8, _⟩ => ⟨S1x512, .f32⟩
  | .local _ .vmem, ⟨9, _⟩ => ⟨S256x2048, .bf16⟩
  | .local _ .vmem, ⟨10, _⟩ => ⟨S256x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S2048x1024 : Shape := ⟨2, ![2048, 1024]⟩
abbrev S2048x512 : Shape := ⟨2, ![2048, 512]⟩
abbrev S1024 : Shape := ⟨1, ![1024]⟩
abbrev S512 : Shape := ⟨1, ![512]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x512 : Shape := ⟨2, ![1, 512]⟩
abbrev S2048x2048 : Shape := ⟨2, ![2048, 2048]⟩

abbrev nBuf : Space → Nat
  | .hbm => 56
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S1024, .f32⟩
  | .hbm, ⟨4, _⟩ => ⟨S512, .f32⟩
  | .hbm, ⟨5, _⟩ => ⟨S512, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x512, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x512, .f32⟩
  | .hbm, ⟨34, _⟩ => ⟨S2048x512, .f32⟩
  | .hbm, ⟨35, _⟩ => ⟨S1x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x1, .f32⟩
  | .hbm, ⟨49, _⟩ => ⟨S2048x512, .f32⟩
  | .hbm, ⟨50, _⟩ => ⟨S2048x512, .f32⟩
  | .hbm, ⟨51, _⟩ => ⟨S1x512, .f32⟩
  | .hbm, ⟨52, _⟩ => ⟨S2048x512, .f32⟩
  | .hbm, ⟨53, _⟩ => ⟨S2048x512, .f32⟩
  | .hbm, ⟨54, _⟩ => ⟨S2048x2048, .f32⟩
  | .hbm, ⟨55, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel24.lean ====
abbrev S4608x128 : Shape := ⟨2, ![4608, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S4608x128, .f32⟩
  | .hbm, ⟨1, _⟩ => ⟨S4608x128, .f32⟩
  | .hbm, ⟨2, _⟩ => ⟨S4608x128, .f32⟩
  | .hbm, ⟨3, _⟩ => ⟨S4608x128, .f32⟩
  | .hbm, ⟨4, _⟩ => ⟨S4608x128, .f32⟩
  | .hbm, ⟨5, _⟩ => ⟨S4608x128, .f32⟩
  | .hbm, ⟨6, _⟩ => ⟨S4608x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S4608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S4608x128 : Shape := ⟨2, ![4608, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4608x128, .f32⟩
  | .hbm, ⟨1, _⟩ => ⟨S4608x128, .f32⟩
  | .hbm, ⟨2, _⟩ => ⟨S4608x128, .f32⟩
  | .hbm, ⟨3, _⟩ => ⟨S4608x128, .f32⟩
  | .hbm, ⟨4, _⟩ => ⟨S_, .f32⟩
  | .hbm, ⟨5, _⟩ => ⟨S4608x128, .f32⟩
  | .hbm, ⟨6, _⟩ => ⟨S4608x128, .f32⟩
  | .hbm, ⟨7, _⟩ => ⟨S_, .f32⟩
  | .hbm, ⟨8, _⟩ => ⟨S4608x128, .f32⟩
  | .hbm, ⟨9, _⟩ => ⟨S4608x128, .f32⟩
  | .hbm, ⟨10, _⟩ => ⟨S4608x128, .f32⟩
  | .hbm, ⟨11, _⟩ => ⟨S_, .f32⟩
  | .hbm, ⟨12, _⟩ => ⟨S4608x128, .f32⟩
  | .hbm, ⟨13, _⟩ => ⟨S4608x128, .f32⟩
  | .hbm, ⟨14, _⟩ => ⟨S4608x128, .f32⟩
  | .hbm, ⟨15, _⟩ => ⟨S_, .f32⟩
  | .hbm, ⟨16, _⟩ => ⟨S4608x128, .f32⟩
  | .hbm, ⟨17, _⟩ => ⟨S4608x128, .f32⟩
  | .hbm, ⟨18, _⟩ => ⟨S4608x128, .f32⟩
  | .hbm, ⟨19, _⟩ => ⟨S_, .f32⟩
  | .hbm, ⟨20, _⟩ => ⟨S4608x128, .f32⟩
  | .hbm, ⟨21, _⟩ => ⟨S4608x128, .f32⟩
  | .hbm, ⟨22, _⟩ => ⟨S_, .f32⟩
  | .hbm, ⟨23, _⟩ => ⟨S4608x128, .f32⟩
  | .hbm, ⟨24, _⟩ => ⟨S4608x128, .f32⟩
  | .hbm, ⟨25, _⟩ => ⟨S4608x128, .f32⟩
  | .hbm, ⟨26, _⟩ => ⟨S_, .f32⟩
  | .hbm, ⟨27, _⟩ => ⟨S4608x128, .f32⟩
  | .hbm, ⟨28, _⟩ => ⟨S4608x128, .f32⟩
  | .hbm, ⟨29, _⟩ => ⟨S4608x128, .f32⟩
  | .hbm, ⟨30, _⟩ => ⟨S_, .f32⟩
  | .hbm, ⟨31, _⟩ => ⟨S4608x128, .f32⟩
  | .hbm, ⟨32, _⟩ => ⟨S4608x128, .f32⟩
  | .hbm, ⟨33, _⟩ => ⟨S4608x128, .f32⟩
  | .hbm, ⟨34, _⟩ => ⟨S_, .f32⟩
  | .hbm, ⟨35, _⟩ => ⟨S4608x128, .f32⟩
  | .hbm, ⟨36, _⟩ => ⟨S4608x128, .f32⟩
  | _, _ => ⟨S4608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S8x5120x128 : Shape := ⟨3, ![8, 5120, 128]⟩
abbrev S5120x128 : Shape := ⟨2, ![5120, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x5120x128, .f32⟩
  | .hbm, ⟨1, _⟩ => ⟨S5120x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | _, _ => ⟨S8x5120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference25Ideal.lean ====
abbrev S8x5120x128 : Shape := ⟨3, ![8, 5120, 128]⟩
abbrev S_ : Shape := ⟨0, ![]⟩
abbrev S5120x128 : Shape := ⟨2, ![5120, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x5120x128, .f32⟩
  | .hbm, ⟨1, _⟩ => ⟨S_, .f32⟩
  | .hbm, ⟨2, _⟩ => ⟨S5120x128, .f32⟩
  | _, _ => ⟨S8x5120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Attn.Loop.lean ====
/-
  The outer loop of the gradient kernel: one trip per block of 512 queries. A trip runs the loop over the strips of
  keys (its invariant is the generated one), adds into the two accumulators of the keys' and the values' gradients and
  stores its own rows of the queries' gradient. Here: what one trip writes, the state before a trip, and the invariant.
-/
module

public import proofs.«01_k».proof.Proof.Gen.KernelIdeal.Loops

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2x4x4x8x512 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .f32) (harg13 : arg13.IsWhole) (arg14 : Memref sig .tc .vmem S2048x256 .f32) (harg14 : arg14.IsWhole) (arg15 : Memref sig .tc .vmem S512x256 .f32) (harg15 : arg15.IsWhole) (v30 : IVec S512x512 32)

/-- What one trip holds: the saved row sums (`arg5`) and the four operands in bfloat16 (`arg9` … `arg12`) at the
    contents it reads, and the four buffers it writes: the queries' gradient, the two accumulators and the scratch. -/
abbrev Res (X5 : BufTy.Contents (Elt F) arg5.view.ty) (X9 : BufTy.Contents (Elt F) arg9.view.ty) (X10 : BufTy.Contents (Elt F) arg10.view.ty) (X11 : BufTy.Contents (Elt F) arg11.view.ty) (X12 : BufTy.Contents (Elt F) arg12.view.ty) (f6 : BufTy.Contents (Elt F) arg6.view.ty) (f13 : BufTy.Contents (Elt F) arg13.view.ty) (f14 : BufTy.Contents (Elt F) arg14.view.ty) (f15 : BufTy.Contents (Elt F) arg15.view.ty) : sProp 𝕄 :=
  iprop((arg5.view.loc (c : Thread nD τ) ↦[arg5.view.set]{fullShare} X5) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg6.view.loc (c : Thread nD τ) ↦[arg6.view.set]{fullShare} f6) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))

variable (X5 : BufTy.Contents (Elt F) arg5.view.ty) (X9 : BufTy.Contents (Elt F) arg9.view.ty) (X10 : BufTy.Contents (Elt F) arg10.view.ty) (X11 : BufTy.Contents (Elt F) arg11.view.ty) (X12 : BufTy.Contents (Elt F) arg12.view.ty)

/-- One trip: the block it stores of the queries' gradient, and the pieces it writes into the two accumulators, as
    functions of what the accumulators held. -/
@[irreducible] def trip (k : Fin k0_t1_loop.trips) :
    Σ' (V : BufTy.Contents (Elt F) arg13.view.ty → BufTy.Contents (Elt F) arg14.view.ty → FVec F S512x256 .bf16) (L13 : BufTy.Contents (Elt F) arg13.view.ty → BufTy.Contents (Elt F) arg14.view.ty → List (View.Piece (Elt F) S2048x256 .f32)),
      { L14 : BufTy.Contents (Elt F) arg13.view.ty → BufTy.Contents (Elt F) arg14.view.ty → List (View.Piece (Elt F) S2048x256 .f32) //
        ∀ (E : Set ℕ) (f6 : BufTy.Contents (Elt F) arg6.view.ty) (f13 : BufTy.Contents (Elt F) arg13.view.ty) (f14 : BufTy.Contents (Elt F) arg14.view.ty) (f15 : BufTy.Contents (Elt F) arg15.view.ty),
          Res (F := F) c arg5 arg6 arg9 arg10 arg11 arg12 arg13 arg14 arg15 X5 X9 X10 X11 X12 f6 f13 f14 f15
          ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v30 k ())
              (fun _ => iprop(∃ f15', Res (F := F) c arg5 arg6 arg9 arg10 arg11 arg12 arg13 arg14 arg15 X5 X9 X10 X11 X12
                (arg6.view.writes (Elt F) f6 [⟨Rect.unit (s := S2048x256) (k0_off11 k) S512x256.size (k0_off11_inb k), V f13 f14⟩])
                (arg13.view.writes (Elt F) f13 (L13 f13 f14)) (arg14.view.writes (Elt F) f14 (L14 f13 f14)) f15')) } := by
  refine ⟨?_, ?_, ?_, fun E f6 f13 f14 f15 => ?run⟩
  case run =>
    unfold k0_t1_body
    iintro ⟨H5, H9, H10, H11, H12, H6, H13, H14, H15⟩
    sl_exec
    sl_step
    sl_close

/-- The state before a trip: the pieces of the trips before it in the queries' gradient and in the two accumulators, last
    first, the accumulators starting at `G13` and `G14`. -/
def pieces (G13 : BufTy.Contents (Elt F) arg13.view.ty) (G14 : BufTy.Contents (Elt F) arg14.view.ty) : ℕ → List (View.Piece (Elt F) S2048x256 .bf16) × List (View.Piece (Elt F) S2048x256 .f32) × List (View.Piece (Elt F) S2048x256 .f32)
  | 0 => ([], [], [])
  | n + 1 =>
    let p := pieces G13 G14 n
    if h : n < k0_t1_loop.trips then
      let f13 := arg13.view.writes (Elt F) G13 p.2.1
      let f14 := arg14.view.writes (Elt F) G14 p.2.2
      let T := trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v30 X5 X9 X10 X11 X12 ⟨n, h⟩
      (⟨Rect.unit (s := S2048x256) (k0_off11 ⟨n, h⟩) S512x256.size (k0_off11_inb ⟨n, h⟩), T.1 f13 f14⟩ :: p.1,
        T.2.1 f13 f14 ++ p.2.1, T.2.2.1 f13 f14 ++ p.2.2)
    else p

/-- The state after one more trip. -/
theorem pieces_succ (G13 : BufTy.Contents (Elt F) arg13.view.ty) (G14 : BufTy.Contents (Elt F) arg14.view.ty) (k : Fin k0_t1_loop.trips) :
    pieces (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v30 X5 X9 X10 X11 X12 G13 G14 (k.val + 1)
      = (let p := pieces (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v30 X5 X9 X10 X11 X12 G13 G14 k.val
        let f13 := arg13.view.writes (Elt F) G13 p.2.1
        let f14 := arg14.view.writes (Elt F) G14 p.2.2
        let T := trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v30 X5 X9 X10 X11 X12 k
        (⟨Rect.unit (s := S2048x256) (k0_off11 k) S512x256.size (k0_off11_inb k), T.1 f13 f14⟩ :: p.1,
          T.2.1 f13 f14 ++ p.2.1, T.2.2.1 f13 f14 ++ p.2.2)) := by
  rw [pieces]; exact dif_pos k.isLt

/-- The invariant before trip `k`: the buffers read at their contents, the buffers written at the earlier trips' pieces over
    what they held, the scratch at any contents. -/
abbrev inv (G6 : BufTy.Contents (Elt F) arg6.view.ty) (G13 : BufTy.Contents (Elt F) arg13.view.ty) (G14 : BufTy.Contents (Elt F) arg14.view.ty) (k : ℕ) (_ : Unit) : sProp 𝕄 :=
  iprop((arg5.view.loc (c : Thread nD τ) ↦[arg5.view.set]{fullShare} X5) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12)
    ∗ (∃ f, (arg6.view.loc (c : Thread nD τ) ↦[arg6.view.set]{fullShare} f) ∗ ⌜f = arg6.view.writes (Elt F) G6 (pieces (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v30 X5 X9 X10 X11 X12 G13 G14 k).1⌝)
    ∗ (∃ f, (arg13.view.loc (c : Thread nD τ) ↦[arg13.view.set]{fullShare} f) ∗ ⌜f = arg13.view.writes (Elt F) G13 (pieces (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v30 X5 X9 X10 X11 X12 G13 G14 k).2.1⌝)
    ∗ (∃ f, (arg14.view.loc (c : Thread nD τ) ↦[arg14.view.set]{fullShare} f) ∗ ⌜f = arg14.view.writes (Elt F) G14 (pieces (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v30 X5 X9 X10 X11 X12 G13 G14 k).2.2⌝)
    ∗ (∃ f, arg15.view.loc (c : Thread nD τ) ↦[arg15.view.set]{fullShare} f))

set_option warn.classDefReducibility false in
/-- The loop by its invariant. -/
@[sl_loop] def loopInv (E : Set ℕ) (G6 : BufTy.Contents (Elt F) arg6.view.ty) (G13 : BufTy.Contents (Elt F) arg13.view.ty) (G14 : BufTy.Contents (Elt F) arg14.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v30 where
  inv := inv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v30 X5 X9 X10 X11 X12 G6 G13 G14
  step k acc := by
    iintro ⟨H5, H9, H10, H11, H12, ⟨%f6, H6, %h6⟩, ⟨%f13, H13, %h13⟩, ⟨%f14, H14, %h14⟩, ⟨%f15, H15⟩⟩
    iapply (wp_wand_r Idealize.ShloMosaic.frame (wpE (defs₀ (F := F)) 𝒱 (c : Thread nD τ) bd) E)
    isplitl [H5 H9 H10 H11 H12 H6 H13 H14 H15]
    · iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v30 X5 X9 X10 X11 X12 k).2.2.2 E f6 f13 f14 f15)
      isplitl [H5]; · iexact H5
      isplitl [H9]; · iexact H9
      isplitl [H10]; · iexact H10
      isplitl [H11]; · iexact H11
      isplitl [H12]; · iexact H12
      isplitl [H6]; · iexact H6
      isplitl [H13]; · iexact H13
      isplitl [H14]; · iexact H14
      iexact H15
    · iintro %yld ⟨%f15', H5, H9, H10, H11, H12, H6, H13, H14, H15⟩
      isplitl [H5]; · iexact H5
      isplitl [H9]; · iexact H9
      isplitl [H10]; · iexact H10
      isplitl [H11]; · iexact H11
      isplitl [H12]; · iexact H12
      simp only [pieces_succ]
      isplitl [H6]
      · iexists _; isplitl [H6]; · iexact H6
        ipureintro; rw [h6, h13, h14, ← View.writes_append]; rfl
      isplitl [H13]
      · iexists _; isplitl [H13]; · iexact H13
        ipureintro; rw [h13, h14, ← View.writes_append]
      isplitl [H14]
      · iexists _; isplitl [H14]; · iexact H14
        ipureintro; rw [h13, h14, ← View.writes_append]
      iexists _; iexact H15

end Cert.KernelIdeal.Attn

end
-- ==== Proof.Attn.Body.lean ====
/-
  The gradient kernel's body at one grid point (two heads): from the five input blocks, what it leaves in the three output
  blocks. The four operands go to bfloat16, the two accumulators are zeroed, the outer loop runs by its invariant
  (Attn/Loop.lean), and the accumulators are stored.
-/
module

public import proofs.«01_k».proof.Proof.Attn.Loop
public import proofs.«01_k».proof.Proof.Gen.KernelIdeal.Launch
public import proofs.«01_k».proof.Proof.Gen.KernelIdeal.Points
public import proofs.«01_k».proof.Proof.Gen.KernelIdeal.Frame

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The body on any staging memrefs, the inputs' at their blocks, everything else at anything: the pieces it leaves in the
    three outputs, with the proof that it runs and leaves them. -/
@[irreducible] def bodyRun (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2x4x4x8x512 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .f32) (harg13 : arg13.IsWhole) (arg14 : Memref sig .tc .vmem S2048x256 .f32) (harg14 : arg14.IsWhole) (arg15 : Memref sig .tc .vmem S512x256 .f32) (harg15 : arg15.IsWhole)
    (x1 x2 x3 x4 : Vec F S2048x256 .f32) (x5 : Vec F S2x4x4x8x512 .f32) :
    Σ' (L6 L7 : List (View.Piece (Elt F) S2048x256 .bf16)), { L8 : List (View.Piece (Elt F) S2048x256 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_attn_bwd_eq_skeleton]; unfold cc0_attn_bwd_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    obtain rfl := harg1.eq_unread hf1
    obtain rfl := harg2.eq_unread hf2
    obtain rfl := harg3.eq_unread hf3
    obtain rfl := harg4.eq_unread hf4
    obtain rfl := harg5.eq_unread hf5
    sl_exec
    sl_step
    iapply Hk
    isplitl [H1]; · (iexists _; isplitr; · (ipureintro; exact harg1.read_unread _)); iexact H1
    isplitl [H2]; · (iexists _; isplitr; · (ipureintro; exact harg2.read_unread _)); iexact H2
    isplitl [H3]; · (iexists _; isplitr; · (ipureintro; exact harg3.read_unread _)); iexact H3
    isplitl [H4]; · (iexists _; isplitr; · (ipureintro; exact harg4.read_unread _)); iexact H4
    isplitl [H5]; · (iexists _; isplitr; · (ipureintro; exact harg5.read_unread _)); iexact H5
    isplitl [H6]; · (iexists _; iexact H6)
    isplitl [H7]; · (iexists _; iexact H7)
    isplitl [H8]; · (iexists _; iexact H8)
    isplitl [H9]; · (iexists _; iexact H9)
    isplitl [H10]; · (iexists _; iexact H10)
    isplitl [H11]; · (iexists _; iexact H11)
    isplitl [H12]; · (iexists _; iexact H12)
    isplitl [H13]; · (iexists _; iexact H13)
    isplitl [H14]; · (iexists _; iexact H14)
    iexists _; iexact H15

end Cert.KernelIdeal.Attn

end
-- ==== Proof.Attn.Run.lean ====
/-
  The gradient kernel's pipeline: what its four grid points leave in the three results, the launch, and the frame.
-/
module

public import proofs.«01_k».proof.Proof.Attn.Body
public import Idealize.ShloMosaic.Lib.Claim
public import Idealize.ShloMosaic.Lib.Pipeline.Value

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The pieces cover the outputs -/

section Cover

variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2x4x4x8x512 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .f32) (harg13 : arg13.IsWhole) (arg14 : Memref sig .tc .vmem S2048x256 .f32) (harg14 : arg14.IsWhole) (arg15 : Memref sig .tc .vmem S512x256 .f32) (harg15 : arg15.IsWhole) (v30 : IVec S512x512 32)
  (X5 : BufTy.Contents (Elt F) arg5.view.ty) (X9 : BufTy.Contents (Elt F) arg9.view.ty) (X10 : BufTy.Contents (Elt F) arg10.view.ty) (X11 : BufTy.Contents (Elt F) arg11.view.ty) (X12 : BufTy.Contents (Elt F) arg12.view.ty) (G13 : BufTy.Contents (Elt F) arg13.view.ty) (G14 : BufTy.Contents (Elt F) arg14.view.ty)

/-- The first `n` trips' pieces cover the rows below `512 * n` of the queries' gradient. -/
theorem pieces_cover : ∀ n, n ≤ 4 → ∀ y : S2048x256.Idx, (y 0).val < 512 * n →
    ∃ pc ∈ (pieces (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v30 X5 X9 X10 X11 X12 G13 G14 n).1, y ∈ pc.1.set
  | 0, _, y, hy => absurd hy (by omega)
  | n + 1, hn, y, hy => by
    have hk : n < k0_t1_loop.trips := by
      have : k0_t1_loop.trips = 4 := by decide +kernel
      omega
    rw [pieces_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v30 X5 X9 X10 X11 X12 G13 G14 ⟨n, hk⟩]
    by_cases h : (y 0).val < 512 * n
    · obtain ⟨pc, hpc, hy'⟩ := pieces_cover n (by omega) y h
      exact ⟨pc, List.mem_cons_of_mem _ hpc, hy'⟩
    · refine ⟨_, List.mem_cons_self, ?_⟩
      rw [Rect.mem_set_unit, k0_off11_eq]
      intro a
      have h1 : (y 1).val < 256 := (y 1).isLt
      match a with
      | ⟨0, _⟩ => show 512 * n ≤ (y 0).val ∧ (y 0).val < 512 * n + 512; omega
      | ⟨1, _⟩ => show 0 ≤ (y 1).val ∧ (y 1).val < 0 + 256; omega

end Cover

section Outs

variable (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2x4x4x8x512 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .f32) (harg13 : arg13.IsWhole) (arg14 : Memref sig .tc .vmem S2048x256 .f32) (harg14 : arg14.IsWhole) (arg15 : Memref sig .tc .vmem S512x256 .f32) (harg15 : arg15.IsWhole) (x1 x2 x3 x4 : Vec F S2048x256 .f32) (x5 : Vec F S2x4x4x8x512 .f32)

theorem zero_off : (![0, 0] : Fin 2 → Nat) = fun _ => 0 := funext fun a => by fin_cases a <;> rfl

theorem cover6 (y : S2048x256.Idx) : ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5).1, y ∈ pc.1.set := by
  unfold bodyRun
  exact pieces_cover _ _ _ _ _ _ _ _ _ _ _ _ _ _ _ _ _ _ _ _ _ _ _ _ _ _ _ _ _ _ _ _ _ _ _ _ _ _ _ _ _ _ 4 le_rfl y (y 0).isLt

theorem cover7 (y : S2048x256.Idx) : ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5).2.1, y ∈ pc.1.set := by
  unfold bodyRun
  exact ⟨_, List.mem_cons_self, View.mem_set_unit_zero zero_off inb_S2048x256_S2048x256_0_0 y⟩

theorem cover8 (y : S2048x256.Idx) : ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5).2.2.1, y ∈ pc.1.set := by
  unfold bodyRun
  exact ⟨_, List.mem_cons_self, View.mem_set_unit_zero zero_off inb_S2048x256_S2048x256_0_0 y⟩

/-- What the body leaves in the blocks of the queries', the keys' and the values' gradient: its pieces read back. -/
def out6 : Vec F S2048x256 .bf16 :=
  (Memref.whole cc0_stg5_0 : Memref sig .tc .vmem S2048x256 .bf16).view.read (Elt F) ((Memref.whole cc0_stg5_0 : Memref sig .tc .vmem S2048x256 .bf16).view.writes (Elt F) (Memref.whole cc0_stg5_0 : Memref sig .tc .vmem S2048x256 .bf16).view.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5).1)
def out7 : Vec F S2048x256 .bf16 :=
  (Memref.whole cc0_stg5_0 : Memref sig .tc .vmem S2048x256 .bf16).view.read (Elt F) ((Memref.whole cc0_stg5_0 : Memref sig .tc .vmem S2048x256 .bf16).view.writes (Elt F) (Memref.whole cc0_stg5_0 : Memref sig .tc .vmem S2048x256 .bf16).view.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5).2.1)
def out8 : Vec F S2048x256 .bf16 :=
  (Memref.whole cc0_stg5_0 : Memref sig .tc .vmem S2048x256 .bf16).view.read (Elt F) ((Memref.whole cc0_stg5_0 : Memref sig .tc .vmem S2048x256 .bf16).view.writes (Elt F) (Memref.whole cc0_stg5_0 : Memref sig .tc .vmem S2048x256 .bf16).view.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5).2.2.1)

end Outs

/-! ## The pipeline's data -/

variable (m : (ℓ : Loc nD τ sig) → Buf (Elt F) ℓ) (ρ : Dev nD → PrngReg)

abbrev ms0 (t : Fin cfg0.N) : Memref sig .tc .vmem S2048x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x4x4x8x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x256 .bf16 := win0_7.stage (cfg0.slots t 7)
abbrev hs7 (t : Fin cfg0.N) : (ms7 t).IsWhole := hstage0_7 ((cfg0.slots t 7).cast nbuf0_7)
abbrev sc0 : Memref sig .tc .vmem S2048x256 .bf16 := Memref.whole cc0_scratch0
abbrev sc1 : Memref sig .tc .vmem S2048x256 .bf16 := Memref.whole cc0_scratch1
abbrev sc2 : Memref sig .tc .vmem S2048x256 .bf16 := Memref.whole cc0_scratch2
abbrev sc3 : Memref sig .tc .vmem S2048x256 .bf16 := Memref.whole cc0_scratch3
abbrev sc4 : Memref sig .tc .vmem S2048x256 .f32 := Memref.whole cc0_scratch4
abbrev sc5 : Memref sig .tc .vmem S2048x256 .f32 := Memref.whole cc0_scratch5
abbrev sc6 : Memref sig .tc .vmem S512x256 .f32 := Memref.whole cc0_scratch6

/-- The class invariant with the scratch buffers as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)) := by
  unfold Pipeline.ΦA; rw [scopedRest0_eq]; simp only [sc0, sc1, sc2, sc3, sc4, sc5, sc6, owns_whole]; try rfl

/-- What the three outputs hold after the body at point `t`. -/
def outs (c : Dev nD) (t : Fin cfg0.N) : Vec F S2048x256 .bf16 × Vec F S2048x256 .bf16 × Vec F S2048x256 .bf16 :=
  (out6 c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (iblk m c 0 t) (iblk m c 1 t) (iblk m c 2 t) (iblk m c 3 t) (iblk m c 4 t),
   out7 c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (iblk m c 0 t) (iblk m c 1 t) (iblk m c 2 t) (iblk m c 3 t) (iblk m c 4 t),
   out8 c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (iblk m c 0 t) (iblk m c 1 t) (iblk m c 2 t) (iblk m c 3 t) (iblk m c 4 t))

/-- The proof data: the arrays as the region finds them, each input's buffer at its block after the body, the outputs' at
    `outs`; the class invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outs m c t).1
    | ⟨6, _⟩ => (outs m c t).2.1
    | ⟨7, _⟩ => (outs m c t).2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outs m c t).1 := by dsimp only [dats]
theorem after_6 (c : Dev nD) (t : Fin cfg0.N) : (dats m 0 c).after 6 t = (outs m c t).2.1 := by dsimp only [dats]
theorem after_7 (c : Dev nD) (t : Fin cfg0.N) : (dats m 0 c).after 7 t = (outs m c t).2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body obligation -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, PhiA_eq]
  unfold outs out6 out7 out8; (try dsimp only)
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((bodyRun c (grid0.coords t) _ _ _ _ _ _ _ _ _ _ _ _ _ _ _ _ _ _ _ _ _ _ _ _ _ _ _ _ _ _ (iblk m c 0 t) (iblk m c 1 t) (iblk m c 2 t) (iblk m c 3 t) (iblk m c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, ⟨%e5, H5⟩, ⟨%e6, H6⟩, ⟨%e7, H7⟩, ⟨%s0, HS0⟩, ⟨%s1, HS1⟩, ⟨%s2, HS2⟩, ⟨%s3, HS3⟩, ⟨%s4, HS4⟩, ⟨%s5, HS5⟩, ⟨%s6, HS6⟩⟩
  isplitl [HS0 HS1 HS2 HS3 HS4 HS5 HS6 Hg]
  · isplitl [HS0 HS1 HS2 HS3 HS4 HS5 HS6]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      iexists _; unfold owns; iexists _; isplitr
      swap; · iexact HS6
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover6 c _ _ _ _ _ _ _ _ _ _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover7 c _ _ _ _ _ _ _ _ _ _ _ _ _ _ _ _ _ _ _ _ _ _ _ _ _ _ _ _ _ _ _ _ _ _ _ _)
  unfold owns; iexists _; isplitr
  swap; · iexact H7
  ipureintro; exact View.read_writes_of_cover _ _ _ _ _ (cover8 c _ _ _ _ _ _ _ _ _ _ _ _ _ _ _ _ _ _ _ _ _ _ _ _ _ _ _ _ _ _ _ _ _ _ _ _)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch and the frame -/

-- the conclusion is unified with the library's, which takes unfolding plain definitions in a metavariable's type
set_option backward.isDefEq.respectTransparency.types false in
/-- Every execution terminates, with every array of the pipeline at what the proof data gives and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: every execution terminates, the arguments end as they were, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

end Cert.KernelIdeal.Attn

end
-- ==== Proof.Frames.lean ====
/-
  The frames of the three programs: the kernel's and the idealized kernel's from the one run, at words and at extended
  reals, and the reference's from its own.
-/
module

public import proofs.«01_k».proof.Defs
public import proofs.«01_k».proof.Proof.Gen.Kernel
public import proofs.«01_k».proof.Proof.Attn.Run
public import proofs.«01_k».proof.Proof.Gen.ReferenceIdeal.Run
public import Idealize.ShloMosaic.Adequacy

@[expose] public section

noncomputable section

namespace Cert.Proof

open Idealize.ShloMosaic Idealize.SL.Sem

section Same

-- the two programs are one text printed twice: the comparison looks through each one's own names
set_option backward.isDefEq.respectTransparency.types false
set_option backward.isDefEq.respectTransparency false

set_option maxHeartbeats 4000000 in
/-- At words, the kernel's program is the idealized one's. -/
theorem main_same : Cert.Kernel.main (F := Bits) = Cert.KernelIdeal.main (F := Bits) := rfl

/-- So are the body table and the table of the regions. -/
theorem defs₀_same : Cert.Kernel.defs₀ (F := Bits) = Cert.KernelIdeal.defs₀ (F := Bits) :=
  congrArg Defs.onTc (funext fun l => match l with | ⟨0, _⟩ => rfl | ⟨n + 1, h⟩ => absurd h (by omega))
theorem defs_same : Cert.Kernel.defs (F := Bits) = Cert.KernelIdeal.defs (F := Bits) := by
  unfold Cert.Kernel.defs Cert.KernelIdeal.defs
  rw [defs₀_same]; rfl

/-- Every execution of the kernel terminates with its arguments unchanged and every semaphore at zero. -/
theorem frame_kernel : Cert.quiescent_Kernel := fun m ρ _ => by
  rw [defs_same, main_same]
  exact Cert.KernelIdeal.Attn.frame (F := Bits) m ρ

end Same

/-- So does every execution of the idealized kernel. -/
theorem frame_ideal : Cert.quiescent_KernelIdeal := fun m ρ _ =>
  Cert.KernelIdeal.Attn.frame (F := Ideal) m ρ

/-- So does every execution of the idealized reference, which has no semaphore. -/
theorem frame_reference : Cert.quiescent_ReferenceIdeal := fun m ρ _ =>
  (θ_run Cert.ReferenceIdeal.defs _ _).mono (fun r h => ⟨fun c => ⟨(h c).2.2.2.1, (h c).2.2.2.2⟩,
    Idealize.ShloMosaic.sem_eq_zero_of_no_sems (by decide) r.2⟩) (Cert.ReferenceIdeal.Value.run (F := Ideal) m ρ)

end Cert.Proof

end
-- ==== Proof.Attn.Spec.lean ====
/-
  The gradient of the stick-breaking attention of one head over the real numbers: what the kernel and the reference are
  both shown to compute. Rows and columns are natural numbers; a head's queries, keys, values and the gradient of its
  output are functions `Q K V D : ℕ → ℕ → ℝ` of the position and the coordinate within the head.
-/
module

public import Idealize.ShloMosaic.PureOps.Ideal

@[expose] public section

noncomputable section

namespace Cert.AttnSpec

open Idealize.ShloMosaic

/-- The scale of the scores: the number the programs' float constant denotes. -/
def scale : ℝ := (Ideal.ofBits .f32 0x3DB504F3#32).toReal

/-- `log (1 + exp x)` in the form both programs compute it. -/
def softplus (x : ℝ) : ℝ := max x 0 + Real.log (1 + Real.exp (-|x|))

variable (Q K V D Z : ℕ → ℕ → ℝ)

/-- The score of the key at `s` for the query at `t`. -/
def score (t s : ℕ) : ℝ := (∑ d ∈ Finset.range 128, Q t d * K s d) * scale

/-- The logarithm of what the key at `s` leaves of the stick for the query at `t`: only keys before the query take any. -/
def keep (t s : ℕ) : ℝ := if s < t then -softplus (Z t s) else 0

/-- The sum of `keep` over the keys after `s`. -/
def later (t s : ℕ) : ℝ := ∑ j ∈ Finset.range 2048, if s < j then keep Z t j else 0

/-- The weight of the key at `s` for the query at `t`. -/
def weight (t s : ℕ) : ℝ := if s < t then Real.exp (Z t s - softplus (Z t s) + later Z t s) else 0

/-- The weight times its own gradient. -/
def wgrad (t s : ℕ) : ℝ := weight Z t s * ∑ d ∈ Finset.range 128, D t d * V s d

/-- The sum of `wgrad` over the keys before `s`. -/
def before (t s : ℕ) : ℝ := ∑ j ∈ Finset.range s, wgrad V D Z t j

/-- The fraction the key at `s` takes of what is left of the stick. -/
def beta (t s : ℕ) : ℝ := Real.exp (Z t s - softplus (Z t s))

/-- The gradient of the unscaled score. -/
def dscore (t s : ℕ) : ℝ :=
  (if s < t then wgrad V D Z t s * (1 - beta Z t s) - before V D Z t s * beta Z t s else 0) * scale

/-- The gradients of the queries, the keys and the values. -/
def dq (t d : ℕ) : ℝ := ∑ s ∈ Finset.range 2048, dscore V D Z t s * K s d
def dk (s d : ℕ) : ℝ := ∑ t ∈ Finset.range 2048, dscore V D Z t s * Q t d
def dv (s d : ℕ) : ℝ := ∑ t ∈ Finset.range 2048, weight Z t s * D t d

/-! ## Reading extended reals that are real -/

theorem scale_eq : Ideal.ofBits .f32 0x3DB504F3#32 = ((scale : ℝ) : EReal) := by
  unfold scale
  rw [EReal.coe_toReal] <;> simp [Ideal.ofBits, Ideal.ieee]
  all_goals first | exact EReal.coe_ne_top _ | exact EReal.coe_ne_bot _ | skip

/-- A sum of extended reals that are all real is real. -/
theorem sum_coe {ι : Type*} (s : Finset ι) (g : ι → ℝ) : ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- A sum over `Fin n` of terms that are real is the sum over the numbers below `n`. -/
theorem sum_fin {n : ℕ} (f : Fin n → EReal) (g : ℕ → ℝ) (h : ∀ i : Fin n, f i = ((g i.val : ℝ) : EReal)) :
    ∑ i, f i = ((∑ i ∈ Finset.range n, g i : ℝ) : EReal) := by
  rw [Finset.sum_congr rfl fun i _ => h i, sum_coe, Fin.sum_univ_eq_sum_range]

theorem exp_coe (x : ℝ) : Ideal.exp (x : EReal) = ((Real.exp x : ℝ) : EReal) := rfl

theorem log_coe {x : ℝ} (h : 0 < x) : Ideal.log (x : EReal) = ((Real.log x : ℝ) : EReal) := by
  show (if x ≤ 0 then (⊥ : EReal) else (Real.log x : EReal)) = _
  rw [if_neg (not_le.mpr h)]

theorem max_coe (x y : ℝ) : max (x : EReal) (y : EReal) = ((max x y : ℝ) : EReal) := (EReal.coe_strictMono.monotone.map_max (a := x) (b := y)).symm

theorem abs_coe (x : ℝ) : max (x : EReal) (-(x : EReal)) = ((|x| : ℝ) : EReal) := by
  rw [← EReal.coe_neg, max_coe]; rfl

/-- The softplus of a real number, computed over the extended reals. -/
theorem softplus_coe (x : ℝ) :
    max (x : EReal) 0 + Ideal.log (1 + Ideal.exp (0 - ((|x| : ℝ) : EReal))) = ((softplus x : ℝ) : EReal) := by
  have h : (0 : ℝ) < 1 + Real.exp (-|x|) := by positivity
  have e : (0 : EReal) - ((|x| : ℝ) : EReal) = ((-|x| : ℝ) : EReal) := by rw [zero_sub, EReal.coe_neg]
  rw [e, exp_coe, ← EReal.coe_one, ← EReal.coe_add, log_coe h, ← EReal.coe_zero, max_coe, ← EReal.coe_add]
  rfl

/-- A sum over the numbers below `n + m`, in two pieces. -/
theorem sum_split (f : ℕ → ℝ) (n m : ℕ) :
    ∑ j ∈ Finset.range (n + m), f j = ∑ j ∈ Finset.range n, f j + ∑ j ∈ Finset.range m, f (n + j) :=
  Finset.sum_range_add f n m

end Cert.AttnSpec

end
-- ==== Proof.Attn.Strip.lean ====
/-
  One strip of the gradient kernel (512 queries by 512 keys of one head) over the extended reals: the vector functions it
  is made of, and what each reads at an index when what it is given is real.
-/
module

public import proofs.«01_k».proof.Proof.Attn.Spec
public import proofs.«01_k».proof.Proof.Gen.KernelIdeal.Skeleton
public import Idealize.ShloMosaic.Lib.Pointwise
public import Idealize.ShloMosaic.Lib.WordCmp
public import Idealize.ShloMosaic.Lib.Pipeline.Value

@[expose] public section

set_option maxRecDepth 16384

noncomputable section

namespace Cert.KernelIdeal.Attn

open Idealize.ShloMosaic
open Cert.KernelIdeal Cert.KernelIdeal.Gen Cert.AttnSpec

/-! ## Products with the triangles of ones, and row sums -/

/-- Products with a matrix of zeros and ones, the left factor in two parts. -/
def lanes (x : FVec Ideal S512x256 .f32) (tri : FVec Ideal S256x256 .bf16) : FVec Ideal S512x256 .f32 :=
  addf
    (matmul dot_S512x256_S256x256_S512x256_1_0_0_1_n_n none (truncf .bf16 x bitsLt_bf16_f32) tri (constant S512x256 .f32 0x00000000#32))
    (matmul dot_S512x256_S256x256_S512x256_1_0_0_1_n_n none
      (truncf .bf16 (subf x (extf .f32 (truncf .bf16 x bitsLt_bf16_f32) bitsLt_bf16_f32)) bitsLt_bf16_f32) tri
      (constant S512x256 .f32 0x00000000#32))

/-- The product with a column of zeros and ones is the sum of the row's entries where the column has a one. -/
theorem lanes_apply (x : FVec Ideal S512x256 .f32) (tri : FVec Ideal S256x256 .bf16) (r : Fin 512) (c : Fin 256)
    (X : ℕ → ℝ) (p : ℕ → Prop) [DecidablePred p] (hx : ∀ j : Fin 256, x (ix2 r j) = ((X j.val : ℝ) : EReal))
    (ht : ∀ j : Fin 256, tri (ix2 j c) = if p j.val then 1 else 0) :
    lanes x tri (ix2 r c) = ((∑ j ∈ Finset.range 256, if p j then X j else 0 : ℝ) : EReal) := by
  pointwise [lanes]
  have h0 : ∀ j : Fin 256, (x (ix2 r j) - x (ix2 r j)) * tri (ix2 j c) = 0 := fun j => by
    rw [hx, ← EReal.coe_sub, sub_self, EReal.coe_zero, zero_mul]
  rw [Finset.sum_congr rfl fun j _ => h0 j, Finset.sum_const_zero, add_zero]
  refine sum_fin _ (fun j => if p j then X j else 0) fun j => ?_
  rw [hx, ht]
  split <;> simp

/-- The bit of a comparison, as a number. -/
theorem bit_toInt (b : Bool) : (((BitVec.setWidth 32 (BitVec.ofBool b)).toInt : ℝ) : EReal) = if b then 1 else 0 := by
  cases b
  · simp
  · have h : (BitVec.setWidth 32 (BitVec.ofBool true)).toInt = 1 := by decide
    rw [h]; simp

/-- The triangle with ones below the diagonal. -/
theorem tri_gt_apply (j c : Fin 256) : (k0_pay1 (F := Ideal)) (ix2 j c) = if c.val < j.val then 1 else 0 := by
  pointwise [k0_pay1]
  rw [WordCmp.cmpi_sgt_ofNat (by omega) (by omega)]
  exact (bit_toInt _).trans (by simp)

/-- The triangle with ones above the diagonal. -/
theorem tri_lt_apply (j c : Fin 256) : (k0_pay2 (F := Ideal)) (ix2 j c) = if j.val < c.val then 1 else 0 := by
  pointwise [k0_pay2]
  rw [WordCmp.cmpi_slt_ofNat (by omega) (by omega)]
  exact (bit_toInt _).trans (by simp)

/-- The sum of each row. -/
def rowSum (x : FVec Ideal S512x256 .f32) : FVec Ideal S512x1 .f32 :=
  shapeCast S512x1 (multiReduction .add [1] S512 x 0x00000000#32 reduces_S512x256_S512 (.inl rfl) rfl) shapeCasts_S512_S512x1

theorem rowSum_apply (x : FVec Ideal S512x256 .f32) (r : Fin 512) (X : ℕ → ℝ)
    (hx : ∀ j : Fin 256, x (ix2 r j) = ((X j.val : ℝ) : EReal)) :
    rowSum x (ix2 r 0) = ((∑ j ∈ Finset.range 256, X j : ℝ) : EReal) := by
  pointwise [rowSum]
  exact sum_fin _ X hx

/-- The two halves of a strip's columns. -/
def left (x : FVec Ideal S512x512 .f32) : FVec Ideal S512x256 .f32 :=
  extractStridedSlice S512x256 ![0, 0] x slices_S512x512_o0_0_S512x256
def right (x : FVec Ideal S512x512 .f32) : FVec Ideal S512x256 .f32 :=
  extractStridedSlice S512x256 ![0, 256] x slices_S512x512_o0_256_S512x256

theorem left_apply (x : FVec Ideal S512x512 .f32) (r : Fin 512) (c : Fin 256) :
    left x (ix2 r c) = x (ix2 r ⟨c.val, by omega⟩) := by
  pointwise [left]
theorem right_apply (x : FVec Ideal S512x512 .f32) (r : Fin 512) (c : Fin 256) :
    right x (ix2 r c) = x (ix2 r ⟨256 + c.val, by omega⟩) := by
  pointwise [right]

/-- In each row, the sum of the entries after each column. -/
def after (x : FVec Ideal S512x512 .f32) : FVec Ideal S512x512 .f32 :=
  concatenate S512x512 1
    [⟨S512x256, addf (lanes (left x) k0_pay1) (broadcastTo S512x256 (rowSum (right x)) broadcasts_S512x1_S512x256)⟩,
     ⟨S512x256, lanes (right x) k0_pay1⟩] concatenates_S512x256_S512x256_S512x512_d1

/-- In each row, the sum of the entries before each column. -/
def prior (x : FVec Ideal S512x512 .f32) : FVec Ideal S512x512 .f32 :=
  concatenate S512x512 1
    [⟨S512x256, lanes (left x) k0_pay2⟩,
     ⟨S512x256, addf (lanes (right x) k0_pay2) (broadcastTo S512x256 (rowSum (left x)) broadcasts_S512x1_S512x256)⟩]
    concatenates_S512x256_S512x256_S512x512_d1

/-- The sum of each row of a strip. -/
def total (x : FVec Ideal S512x512 .f32) : FVec Ideal S512x1 .f32 := addf (rowSum (left x)) (rowSum (right x))

section Rows

variable (x : FVec Ideal S512x512 .f32) (r : Fin 512) (X : ℕ → ℝ) (hx : ∀ j : Fin 512, x (ix2 r j) = ((X j.val : ℝ) : EReal))

include hx

theorem left_coe (c : Fin 256) : left x (ix2 r c) = ((X c.val : ℝ) : EReal) := by rw [left_apply, hx]

theorem right_coe (c : Fin 256) : right x (ix2 r c) = ((X (256 + c.val) : ℝ) : EReal) := by rw [right_apply, hx]

theorem after_apply (c : Fin 512) :
    after x (ix2 r c) = ((∑ j ∈ Finset.range 512, if c.val < j then X j else 0 : ℝ) : EReal) := by
  pointwise [after]
  rw [sum_split _ 256 256]
  split
  · next h =>
    rw [lanes_apply (left x) k0_pay1 r ⟨c.val, h⟩ X (fun j => c.val < j) (left_coe x r X hx) (fun j => tri_gt_apply j _),
      rowSum_apply (right x) r (fun j => X (256 + j)) (right_coe x r X hx), ← EReal.coe_add]
    congr 2
    exact Finset.sum_congr rfl fun j _ => by rw [if_pos (by omega)]
  · next h =>
    rw [lanes_apply (right x) k0_pay1 r ⟨c.val - 256, by omega⟩ (fun j => X (256 + j)) (fun j => c.val - 256 < j)
      (right_coe x r X hx) (fun j => tri_gt_apply j _)]
    congr 1
    rw [Finset.sum_eq_zero (s := Finset.range 256) (f := fun j => if c.val < j then X j else 0), zero_add]
    · exact Finset.sum_congr rfl fun j _ => if_congr (by omega) rfl rfl
    · intro j hj
      rw [Finset.mem_range] at hj
      rw [if_neg (by omega)]

theorem prior_apply (c : Fin 512) :
    prior x (ix2 r c) = ((∑ j ∈ Finset.range 512, if j < c.val then X j else 0 : ℝ) : EReal) := by
  pointwise [prior]
  rw [sum_split _ 256 256]
  split
  · next h =>
    rw [lanes_apply (left x) k0_pay2 r ⟨c.val, h⟩ X (fun j => j < c.val) (left_coe x r X hx) (fun j => tri_lt_apply j _)]
    congr 1
    rw [Finset.sum_eq_zero (s := Finset.range 256) (f := fun j => if 256 + j < c.val then X (256 + j) else 0), add_zero]
    intro j hj
    rw [if_neg (by omega)]
  · next h =>
    rw [lanes_apply (right x) k0_pay2 r ⟨c.val - 256, by omega⟩ (fun j => X (256 + j)) (fun j => j < c.val - 256)
      (right_coe x r X hx) (fun j => tri_lt_apply j _), rowSum_apply (left x) r X (left_coe x r X hx), ← EReal.coe_add, add_comm]
    congr 2
    · exact Finset.sum_congr rfl fun j hj => by rw [Finset.mem_range] at hj; rw [if_pos (by omega)]
    · exact Finset.sum_congr rfl fun j _ => if_congr (by omega) rfl rfl

theorem total_apply : total x (ix2 r 0) = ((∑ j ∈ Finset.range 512, X j : ℝ) : EReal) := by
  pointwise [total]
  rw [sum_split _ 256 256, rowSum_apply (left x) r X (left_coe x r X hx),
    rowSum_apply (right x) r (fun j => X (256 + j)) (right_coe x r X hx), ← EReal.coe_add]

end Rows

/-! ## The strip's own values -/

/-- The scores of a strip. -/
theorem score_apply (q k : FVec Ideal S512x128 .bf16) (Q K : ℕ → ℕ → ℝ) (t0 s0 : ℕ)
    (hq : ∀ (r : Fin 512) (d : Fin 128), q (ix2 r d) = ((Q (t0 + r.val) d.val : ℝ) : EReal))
    (hk : ∀ (r : Fin 512) (d : Fin 128), k (ix2 r d) = ((K (s0 + r.val) d.val : ℝ) : EReal)) (r c : Fin 512) :
    k0_pay16 (F := Ideal) q k (ix2 r c) = ((score Q K (t0 + r.val) (s0 + c.val) : ℝ) : EReal) := by
  pointwise [k0_pay16]
  rw [scale_eq, sum_fin _ (fun d => Q (t0 + r.val) d * K (s0 + c.val) d) fun d => by rw [hq, hk, ← EReal.coe_mul], ← EReal.coe_mul]
  rfl

theorem softplus_apply (q k : FVec Ideal S512x128 .bf16) (Z : ℝ) (r c : Fin 512)
    (h : k0_pay16 (F := Ideal) q k (ix2 r c) = (Z : EReal)) :
    k0_pay17 (F := Ideal) q k (ix2 r c) = ((softplus Z : ℝ) : EReal) := by
  pointwise [k0_pay17]
  rw [h]
  refine Eq.trans ?_ (softplus_coe Z)
  rw [← abs_coe]
  rfl

/-- The keys before the query: `d` is the distance from the strip's first key to its first query. -/
def mask (d : BitVec 32) : IVec S512x512 1 := cmpi .slt k0_pay93 (broadcast S512x512 d)

theorem mask_apply (d : BitVec 32) (t0 s0 : ℕ) (ht : t0 < 2048) (hs : s0 < 2048) (hd : d = BitVec.ofNat 32 t0 - BitVec.ofNat 32 s0) (r c : Fin 512) :
    mask d (ix2 r c) = BitVec.ofBool (decide (s0 + c.val < t0 + r.val)) := by
  pointwise [mask, k0_pay93]
  rw [WordCmp.cmpi_slt_eq, hd]
  congr 1
  have h1 : (IntOp.subi (BitVec.ofNat 32 c.val) (BitVec.ofNat 32 r.val)).toInt = (c.val : ℤ) - r.val := by
    show (BitVec.ofNat 32 c.val - BitVec.ofNat 32 r.val).toInt = _
    rw [BitVec.toInt_sub, WordCmp.toInt_ofNat_of_lt (by omega), WordCmp.toInt_ofNat_of_lt (by omega)]
    exact Int.bmod_eq_of_le (by omega) (by omega)
  have h2 : (BitVec.ofNat 32 t0 - BitVec.ofNat 32 s0).toInt = (t0 : ℤ) - s0 := by
    rw [BitVec.toInt_sub, WordCmp.toInt_ofNat_of_lt (by omega), WordCmp.toInt_ofNat_of_lt (by omega)]
    exact Int.bmod_eq_of_le (by omega) (by omega)
  rw [h1, h2]
  exact decide_eq_decide.mpr (by omega)

/-- A choice by the mask's bit. -/
theorem select_bit {α : Type} (p : Prop) [Decidable p] (a b : α) :
    Scalar.select (BitVec.ofBool (decide p)) a b = if p then a else b := by
  by_cases h : p
  · rw [decide_eq_true h, if_pos h]; rfl
  · rw [decide_eq_false h, if_neg h]; rfl

/-- `keep` of a strip. -/
def keepV (q k : FVec Ideal S512x128 .bf16) (d : BitVec 32) : FVec Ideal S512x512 .f32 :=
  select (mask d) (subf (broadcast S512x512 (Scalar.ofBits .f32 0x00000000#32)) (k0_pay17 q k))
    (broadcast S512x512 (Scalar.ofBits .f32 0x00000000#32))

/-- Sixteen copies of eight rows. -/
def copies (a : FVec Ideal S8x512 .f32) : FVec Ideal S128x512 .f32 :=
  concatenate S128x512 0 [⟨S8x512, a⟩, ⟨S8x512, a⟩, ⟨S8x512, a⟩, ⟨S8x512, a⟩, ⟨S8x512, a⟩, ⟨S8x512, a⟩, ⟨S8x512, a⟩, ⟨S8x512, a⟩, ⟨S8x512, a⟩, ⟨S8x512, a⟩, ⟨S8x512, a⟩, ⟨S8x512, a⟩, ⟨S8x512, a⟩, ⟨S8x512, a⟩, ⟨S8x512, a⟩, ⟨S8x512, a⟩] concatenates_S8x512_S8x512_S8x512_S8x512_S8x512_S8x512_S8x512_S8x512_S8x512_S8x512_S8x512_S8x512_S8x512_S8x512_S8x512_S8x512_S128x512_d0

theorem copies_apply (a : FVec Ideal S8x512 .f32) (l : Fin 128) (r : Fin 512) (R : EReal) (h : ∀ j : Fin 8, a (ix2 j r) = R) :
    copies a (ix2 l r) = R := by
  have e := concatenate_replicate_apply (t := S128x512) (s₁ := S8x512) 0 16 a
    concatenates_S8x512_S8x512_S8x512_S8x512_S8x512_S8x512_S8x512_S8x512_S8x512_S8x512_S8x512_S8x512_S8x512_S8x512_S8x512_S8x512_S128x512_d0
    rfl (ix2 l r) (ix2 ⟨l.val % 8, by omega⟩ r) rfl fun b hb => by
      match b with
      | ⟨0, _⟩ => exact absurd rfl hb
      | ⟨1, _⟩ => rfl
  exact e.trans (h _)

/-- The saved sums over the strips beyond, one per row, along all columns. -/
def runV (x : FVec Ideal S1x1x1x8x512 .f32) : FVec Ideal S512x512 .f32 :=
  let t : FVec Ideal S512x128 .f32 := transpose S512x128 [1, 0] (copies (shapeCast S8x512 x shapeCasts_S1x1x1x8x512_S8x512)) transposes_S128x512_p1_0_S512x128
  concatenate S512x512 1 [⟨S512x128, t⟩, ⟨S512x128, t⟩, ⟨S512x128, t⟩, ⟨S512x128, t⟩] concatenates_S512x128_S512x128_S512x128_S512x128_S512x512_d1

theorem runV_apply (x : FVec Ideal S1x1x1x8x512 .f32) (r c : Fin 512) (R : ℝ)
    (hx : ∀ a : Fin 8, x (ix5 0 0 0 a r) = (R : EReal)) : runV x (ix2 r c) = (R : EReal) := by
  have h : ∀ l : Fin 128, copies (shapeCast S8x512 x shapeCasts_S1x1x1x8x512_S8x512) (ix2 l r) = (R : EReal) := fun l =>
    copies_apply _ l r _ fun j => by pointwise; exact hx j
  pointwise [runV]
  repeat' split
  all_goals exact h _

/-- The weights of a strip. -/
def weightV (q k : FVec Ideal S512x128 .bf16) (x : FVec Ideal S1x1x1x8x512 .f32) (d : BitVec 32) : FVec Ideal S512x512 .f32 :=
  select (mask d) (exp (addf (addf (subf (k0_pay16 q k) (k0_pay17 q k)) (after (keepV q k d))) (runV x)))
    (broadcast S512x512 (Scalar.ofBits .f32 0x00000000#32))

/-- The weights times their gradients. -/
def wgradV (q k o v : FVec Ideal S512x128 .bf16) (x : FVec Ideal S1x1x1x8x512 .f32) (d : BitVec 32) : FVec Ideal S512x512 .f32 :=
  mulf (weightV q k x d) (matmul dot_S512x128_S512x128_S512x512_1_1_0_0_n_n none o v (constant S512x512 .f32 0x00000000#32))

/-- The fractions of a strip. -/
def betaV (q k : FVec Ideal S512x128 .bf16) : FVec Ideal S512x512 .f32 := exp (subf (k0_pay16 q k) (k0_pay17 q k))

/-- The gradients of the unscaled scores of a strip, `gs` the sums of the strips before. -/
def dscoreV (q k o v : FVec Ideal S512x128 .bf16) (x : FVec Ideal S1x1x1x8x512 .f32) (d : BitVec 32) (gs : FVec Ideal S512x1 .f32) :
    FVec Ideal S512x512 .bf16 :=
  truncf .bf16 (mulf
    (select (mask d)
      (subf (mulf (wgradV q k o v x d) (subf (broadcast S512x512 (Scalar.ofBits .f32 0x3F800000#32)) (betaV q k)))
        (mulf (addf (prior (wgradV q k o v x d)) (broadcastTo S512x512 gs broadcasts_S512x1_S512x512)) (betaV q k)))
      (broadcast S512x512 (Scalar.ofBits .f32 0x00000000#32)))
    (broadcast S512x512 (Scalar.ofBits .f32 0x3DB504F3#32))) bitsLt_bf16_f32

/-- An accumulator with the product of a strip, transposed, and a block of rows added. -/
def addTn (acc : FVec Ideal S512x128 .f32) (a : FVec Ideal S512x512 .bf16) (b : FVec Ideal S512x128 .bf16) : FVec Ideal S512x128 .f32 :=
  addf acc (matmul dot_S512x512_S512x128_S512x128_0_0_1_1_n_n none a b (constant S512x128 .f32 0x00000000#32))

/-- An accumulator with the product of a strip and a block of rows added. -/
def addNn (acc : FVec Ideal S512x128 .f32) (a : FVec Ideal S512x512 .bf16) (b : FVec Ideal S512x128 .bf16) : FVec Ideal S512x128 .f32 :=
  addf acc (matmul dot_S512x512_S512x128_S512x128_1_0_0_1_n_n none a b (constant S512x128 .f32 0x00000000#32))

theorem addTn_apply (acc : FVec Ideal S512x128 .f32) (a : FVec Ideal S512x512 .bf16) (b : FVec Ideal S512x128 .bf16)
    (C : ℝ) (A B : ℕ → ℝ) (r : Fin 512) (d : Fin 128) (hc : acc (ix2 r d) = (C : EReal))
    (ha : ∀ j : Fin 512, a (ix2 j r) = ((A j.val : ℝ) : EReal)) (hb : ∀ j : Fin 512, b (ix2 j d) = ((B j.val : ℝ) : EReal)) :
    addTn acc a b (ix2 r d) = ((C + ∑ j ∈ Finset.range 512, A j * B j : ℝ) : EReal) := by
  pointwise [addTn]
  rw [hc, sum_fin _ (fun j => A j * B j) fun j => by rw [ha, hb, ← EReal.coe_mul], ← EReal.coe_add]

theorem addNn_apply (acc : FVec Ideal S512x128 .f32) (a : FVec Ideal S512x512 .bf16) (b : FVec Ideal S512x128 .bf16)
    (C : ℝ) (A B : ℕ → ℝ) (r : Fin 512) (d : Fin 128) (hc : acc (ix2 r d) = (C : EReal))
    (ha : ∀ j : Fin 512, a (ix2 r j) = ((A j.val : ℝ) : EReal)) (hb : ∀ j : Fin 512, b (ix2 j d) = ((B j.val : ℝ) : EReal)) :
    addNn acc a b (ix2 r d) = ((C + ∑ j ∈ Finset.range 512, A j * B j : ℝ) : EReal) := by
  pointwise [addNn]
  rw [hc, sum_fin _ (fun j => A j * B j) fun j => by rw [ha, hb, ← EReal.coe_mul], ← EReal.coe_add]

/-! ## The strip's values as those of the specification -/

section Strip

variable (q k o v : FVec Ideal S512x128 .bf16) (x : FVec Ideal S1x1x1x8x512 .f32) (w : BitVec 32) (gs : FVec Ideal S512x1 .f32)
variable (Q K V D : ℕ → ℕ → ℝ) (i n : ℕ) (hi : i < 4) (hn : n < 4)
variable (hq : ∀ (r : Fin 512) (d : Fin 128), q (ix2 r d) = ((Q (512 * i + r.val) d.val : ℝ) : EReal))
variable (hk : ∀ (r : Fin 512) (d : Fin 128), k (ix2 r d) = ((K (512 * n + r.val) d.val : ℝ) : EReal))
variable (ho : ∀ (r : Fin 512) (d : Fin 128), o (ix2 r d) = ((D (512 * i + r.val) d.val : ℝ) : EReal))
variable (hv : ∀ (r : Fin 512) (d : Fin 128), v (ix2 r d) = ((V (512 * n + r.val) d.val : ℝ) : EReal))
variable (hw : w = BitVec.ofNat 32 (512 * i) - BitVec.ofNat 32 (512 * n))
variable (hx : ∀ (a : Fin 8) (r : Fin 512), x (ix5 0 0 0 a r)
  = ((∑ j ∈ Finset.range 2048, if 512 * (n + 1) ≤ j then keep (score Q K) (512 * i + r.val) j else 0 : ℝ) : EReal))
variable (hg : ∀ r : Fin 512, gs (ix2 r 0) = ((∑ j ∈ Finset.range (512 * n), wgrad V D (score Q K) (512 * i + r.val) j : ℝ) : EReal))

include hi hn hq hk hw in
theorem keepV_apply (r c : Fin 512) :
    keepV q k w (ix2 r c) = ((keep (score Q K) (512 * i + r.val) (512 * n + c.val) : ℝ) : EReal) := by
  have h := softplus_apply q k _ r c (score_apply q k Q K _ _ hq hk r c)
  pointwise [keepV]
  rw [h, mask_apply w _ _ (by omega) (by omega) hw, select_bit, zero_sub, ← EReal.coe_neg]
  unfold keep
  split <;> simp

/-- The sum of `keep` after a column: that within the strip and that of the strips beyond. -/
theorem later_split (Z : ℕ → ℕ → ℝ) (t n c : ℕ) (hn : n < 4) (hc : c < 512) :
    later Z t (512 * n + c) = (∑ j ∈ Finset.range 512, if c < j then keep Z t (512 * n + j) else 0)
      + ∑ j ∈ Finset.range 2048, if 512 * (n + 1) ≤ j then keep Z t j else 0 := by
  unfold later
  have e : 2048 = 512 * n + (512 + (2048 - 512 * (n + 1))) := by omega
  rw [e, sum_split _ (512 * n), sum_split _ 512, sum_split _ (512 * n), sum_split _ 512]
  rw [Finset.sum_eq_zero (s := Finset.range (512 * n)) (f := fun j => if 512 * n + c < j then keep Z t j else 0),
    Finset.sum_eq_zero (s := Finset.range (512 * n)) (f := fun j => if 512 * (n + 1) ≤ j then keep Z t j else 0),
    Finset.sum_eq_zero (s := Finset.range 512) (f := fun j => if 512 * (n + 1) ≤ 512 * n + j then keep Z t (512 * n + j) else 0),
    zero_add, zero_add, zero_add]
  · congr 1
    · exact Finset.sum_congr rfl fun j _ => if_congr (by omega) rfl rfl
    · exact Finset.sum_congr rfl fun j _ => if_congr (by omega) rfl rfl
  all_goals intro j hj; rw [Finset.mem_range] at hj; rw [if_neg (by omega)]

include hi hn hq hk hw hx in
theorem weightV_apply (r c : Fin 512) :
    weightV q k x w (ix2 r c) = ((weight (score Q K) (512 * i + r.val) (512 * n + c.val) : ℝ) : EReal) := by
  have h1 := score_apply q k Q K _ _ hq hk r c
  have h := softplus_apply q k _ r c h1
  have ha := after_apply (keepV q k w) r (fun j => keep (score Q K) (512 * i + r.val) (512 * n + j))
    (fun j => keepV_apply q k w Q K i n hi hn hq hk hw r j) c
  have hr := runV_apply x r c _ (fun a => hx a r)
  pointwise [weightV]
  rw [h, h1, ha, hr, mask_apply w _ _ (by omega) (by omega) hw, select_bit, ← EReal.coe_sub, ← EReal.coe_add, ← EReal.coe_add, exp_coe]
  unfold weight
  rw [later_split _ _ _ _ hn c.isLt, ← add_assoc]
  split <;> simp

include hi hn hq hk ho hv hw hx in
theorem wgradV_apply (r c : Fin 512) :
    wgradV q k o v x w (ix2 r c) = ((wgrad V D (score Q K) (512 * i + r.val) (512 * n + c.val) : ℝ) : EReal) := by
  have h := weightV_apply q k x w Q K i n hi hn hq hk hw hx r c
  pointwise [wgradV]
  rw [h, sum_fin _ (fun d => D (512 * i + r.val) d * V (512 * n + c.val) d) fun d => by rw [ho, hv, ← EReal.coe_mul], ← EReal.coe_mul]
  rfl

include hi hn hq hk ho hv hw hx hg in
theorem dscoreV_apply (r c : Fin 512) :
    dscoreV q k o v x w gs (ix2 r c) = ((dscore V D (score Q K) (512 * i + r.val) (512 * n + c.val) : ℝ) : EReal) := by
  have h1 := score_apply q k Q K _ _ hq hk r c
  have h := softplus_apply q k _ r c h1
  have hw' := wgradV_apply q k o v x w Q K V D i n hi hn hq hk ho hv hw hx r
  have hp := prior_apply (wgradV q k o v x w) r (fun j => wgrad V D (score Q K) (512 * i + r.val) (512 * n + j)) hw' c
  have hc := hw' c
  have hg' := hg r
  pointwise [dscoreV, betaV]
  rw [h, h1, hc, hp, hg', mask_apply w _ _ (by omega) (by omega) hw, select_bit, scale_eq, ← EReal.coe_sub, exp_coe, ← EReal.coe_add,
    ← EReal.coe_mul, ← EReal.coe_one, ← EReal.coe_sub, ← EReal.coe_mul, ← EReal.coe_sub, ← EReal.coe_zero]
  have e : ∑ j ∈ Finset.range 512, (if j < c.val then wgrad V D (score Q K) (512 * i + r.val) (512 * n + j) else 0)
      = ∑ j ∈ Finset.range c.val, wgrad V D (score Q K) (512 * i + r.val) (512 * n + j) := by
    rw [← Finset.sum_filter]
    congr 1
    ext j
    simp only [Finset.mem_filter, Finset.mem_range]
    omega
  unfold dscore before beta
  rw [sum_split _ (512 * n) c.val, e, add_comm (∑ j ∈ Finset.range c.val, _)]
  split <;> simp

include hi hn hq hk ho hv hw hx hg in
/-- The sums of the strips before, after one more strip. -/
theorem gsum_apply (r : Fin 512) :
    (addf gs (total (wgradV q k o v x w))) (ix2 r 0)
      = ((∑ j ∈ Finset.range (512 * (n + 1)), wgrad V D (score Q K) (512 * i + r.val) j : ℝ) : EReal) := by
  have ht := total_apply (wgradV q k o v x w) r (fun j => wgrad V D (score Q K) (512 * i + r.val) (512 * n + j))
    (wgradV_apply q k o v x w Q K V D i n hi hn hq hk ho hv hw hx r)
  show gs (ix2 r 0) + total (wgradV q k o v x w) (ix2 r 0) = _
  rw [hg, ht, ← EReal.coe_add, show 512 * (n + 1) = 512 * n + 512 by ring, sum_split]

end Strip

end Cert.KernelIdeal.Attn

end
-- ==== Proof.Attn.Trip.lean ====
/-
  One trip over a strip of keys: what it adds to the running sums, and the pieces it stores into the three accumulators,
  in the vector functions of a strip.
-/
module

public import proofs.«01_k».proof.Proof.Attn.Strip
public import proofs.«01_k».proof.Proof.Gen.KernelIdeal.Loops

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

/-- The distance from strip `n`'s first key to block `t`'s first query. -/
def dist (t : Fin k0_t1_loop.trips) (n : Fin (k0_t2_loop t).trips) : BitVec 32 :=
  Scalar.subi (Scalar.muli (Scf.iv 0#32 1#32 t) 512#32) (Scalar.muli (Scf.iv 0#32 1#32 n) 512#32)

theorem dist_eq (t : Fin k0_t1_loop.trips) (n : Fin (k0_t2_loop t).trips) :
    dist t n = BitVec.ofNat 32 (512 * t.val) - BitVec.ofNat 32 (512 * n.val) := by
  revert t; unfold dist; decide +kernel

theorem off3_eq (t : Fin k0_t1_loop.trips) (n : Fin (k0_t2_loop t).trips) : k0_off3 t n = ![512 * n.val, 0] := by
  revert t; decide +kernel
theorem off5_eq (t : Fin k0_t1_loop.trips) (n : Fin (k0_t2_loop t).trips) : k0_off5 t n = ![512 * n.val, 128] := by
  revert t; decide +kernel
theorem off4_eq (t : Fin k0_t1_loop.trips) (n : Fin (k0_t2_loop t).trips) : k0_off4 t n = ![0, t.val, n.val, 0, 0] := by
  revert t; decide +kernel
theorem off6_eq (t : Fin k0_t1_loop.trips) (n : Fin (k0_t2_loop t).trips) : k0_off6 t n = ![1, t.val, n.val, 0, 0] := by
  revert t; decide +kernel

section Trip

variable (𝒱 : Variants) (c : Dev nD) (bd : Option 𝒱.V) (i : grid0.Coords)
  (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2x4x4x8x512 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .f32) (harg13 : arg13.IsWhole) (arg14 : Memref sig .tc .vmem S2048x256 .f32) (harg14 : arg14.IsWhole) (arg15 : Memref sig .tc .vmem S512x256 .f32) (harg15 : arg15.IsWhole)
variable (t : Fin k0_t1_loop.trips) (arg16 : BitVec 32) (q0 q1 o0 o1 : FVec Ideal S512x128 .bf16)
  (X5 : BufTy.Contents (Elt Ideal) arg5.view.ty) (X10 : BufTy.Contents (Elt Ideal) arg10.view.ty) (X11 : BufTy.Contents (Elt Ideal) arg11.view.ty)
  (n : Fin (k0_t2_loop t).trips) (acc : FVec Ideal S512x1 .f32 × FVec Ideal S512x1 .f32)
  (f13 : BufTy.Contents (Elt Ideal) arg13.view.ty) (f14 : BufTy.Contents (Elt Ideal) arg14.view.ty) (f15 : BufTy.Contents (Elt Ideal) arg15.view.ty)

/-- The running sums after the trip. -/
theorem trip_sums : (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 t arg16 (Scalar.muli (Scf.iv 0#32 1#32 t) 512#32) q0 q1 o0 o1 0#32 X5 X10 X11 n).1 acc f13 f14 f15
    = (addf acc.1 (total (wgradV q0 (arg10.view.readAt (Elt Ideal) (Rect.unit (s := S2048x256) (k0_off3 t n) S512x128.size (k0_off3_inb t n)).toLoadRect X10) o0 (arg11.view.readAt (Elt Ideal) (Rect.unit (s := S2048x256) (k0_off3 t n) S512x128.size (k0_off3_inb t n)).toLoadRect X11) (arg5.view.readAt (Elt Ideal) (Rect.unit (s := S2x4x4x8x512) (k0_off4 t n) S1x1x1x8x512.size (k0_off4_inb t n)).toLoadRect X5) (dist t n))),
       addf acc.2 (total (wgradV q1 (arg10.view.readAt (Elt Ideal) (Rect.unit (s := S2048x256) (k0_off5 t n) S512x128.size (k0_off5_inb t n)).toLoadRect X10) o1 (arg11.view.readAt (Elt Ideal) (Rect.unit (s := S2048x256) (k0_off5 t n) S512x128.size (k0_off5_inb t n)).toLoadRect X11) (arg5.view.readAt (Elt Ideal) (Rect.unit (s := S2x4x4x8x512) (k0_off6 t n) S1x1x1x8x512.size (k0_off6_inb t n)).toLoadRect X5) (dist t n)))) := by
  unfold trip_k0_t2
  dsimp only
  sl_unfold_words
  dsimp only
  rfl

/-- What the trip stores into the accumulator of the keys' gradient. -/
theorem trip_dk : (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 t arg16 (Scalar.muli (Scf.iv 0#32 1#32 t) 512#32) q0 q1 o0 o1 0#32 X5 X10 X11 n).2.1 acc f13 f14 f15
    = [⟨Rect.unit (s := S2048x256) (k0_off5 t n) S512x128.size (k0_off5_inb t n), addTn (arg13.view.readAt (Elt Ideal) (Rect.unit (s := S2048x256) (k0_off5 t n) S512x128.size (k0_off5_inb t n)).toLoadRect f13) (dscoreV q1 (arg10.view.readAt (Elt Ideal) (Rect.unit (s := S2048x256) (k0_off5 t n) S512x128.size (k0_off5_inb t n)).toLoadRect X10) o1 (arg11.view.readAt (Elt Ideal) (Rect.unit (s := S2048x256) (k0_off5 t n) S512x128.size (k0_off5_inb t n)).toLoadRect X11) (arg5.view.readAt (Elt Ideal) (Rect.unit (s := S2x4x4x8x512) (k0_off6 t n) S1x1x1x8x512.size (k0_off6_inb t n)).toLoadRect X5) (dist t n) acc.2) q1⟩,
       ⟨Rect.unit (s := S2048x256) (k0_off3 t n) S512x128.size (k0_off3_inb t n), addTn (arg13.view.readAt (Elt Ideal) (Rect.unit (s := S2048x256) (k0_off3 t n) S512x128.size (k0_off3_inb t n)).toLoadRect f13) (dscoreV q0 (arg10.view.readAt (Elt Ideal) (Rect.unit (s := S2048x256) (k0_off3 t n) S512x128.size (k0_off3_inb t n)).toLoadRect X10) o0 (arg11.view.readAt (Elt Ideal) (Rect.unit (s := S2048x256) (k0_off3 t n) S512x128.size (k0_off3_inb t n)).toLoadRect X11) (arg5.view.readAt (Elt Ideal) (Rect.unit (s := S2x4x4x8x512) (k0_off4 t n) S1x1x1x8x512.size (k0_off4_inb t n)).toLoadRect X5) (dist t n) acc.1) q0⟩] := by
  unfold trip_k0_t2
  dsimp only
  sl_unfold_words
  dsimp only
  refine congrArg₂ List.cons (congrArg (Sigma.mk _) ?_) (congrArg₂ List.cons (congrArg (Sigma.mk _) ?_) rfl)
  · exact shapeCast_self _ _
  · exact shapeCast_self _ _

/-- What the trip stores into the accumulator of the values' gradient. -/
theorem trip_dv : (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 t arg16 (Scalar.muli (Scf.iv 0#32 1#32 t) 512#32) q0 q1 o0 o1 0#32 X5 X10 X11 n).2.2.1 acc f13 f14 f15
    = [⟨Rect.unit (s := S2048x256) (k0_off5 t n) S512x128.size (k0_off5_inb t n), addTn (arg14.view.readAt (Elt Ideal) (Rect.unit (s := S2048x256) (k0_off5 t n) S512x128.size (k0_off5_inb t n)).toLoadRect f14) (truncf .bf16 (weightV q1 (arg10.view.readAt (Elt Ideal) (Rect.unit (s := S2048x256) (k0_off5 t n) S512x128.size (k0_off5_inb t n)).toLoadRect X10) (arg5.view.readAt (Elt Ideal) (Rect.unit (s := S2x4x4x8x512) (k0_off6 t n) S1x1x1x8x512.size (k0_off6_inb t n)).toLoadRect X5) (dist t n)) bitsLt_bf16_f32) o1⟩,
       ⟨Rect.unit (s := S2048x256) (k0_off3 t n) S512x128.size (k0_off3_inb t n), addTn (arg14.view.readAt (Elt Ideal) (Rect.unit (s := S2048x256) (k0_off3 t n) S512x128.size (k0_off3_inb t n)).toLoadRect f14) (truncf .bf16 (weightV q0 (arg10.view.readAt (Elt Ideal) (Rect.unit (s := S2048x256) (k0_off3 t n) S512x128.size (k0_off3_inb t n)).toLoadRect X10) (arg5.view.readAt (Elt Ideal) (Rect.unit (s := S2x4x4x8x512) (k0_off4 t n) S1x1x1x8x512.size (k0_off4_inb t n)).toLoadRect X5) (dist t n)) bitsLt_bf16_f32) o0⟩] := by
  unfold trip_k0_t2
  dsimp only
  sl_unfold_words
  dsimp only
  refine congrArg₂ List.cons (congrArg (Sigma.mk _) ?_) (congrArg₂ List.cons (congrArg (Sigma.mk _) ?_) rfl)
  · exact shapeCast_self _ _
  · exact shapeCast_self _ _

/-- What the trip stores into the accumulator of the queries' gradient. -/
theorem trip_dq : (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 t arg16 (Scalar.muli (Scf.iv 0#32 1#32 t) 512#32) q0 q1 o0 o1 0#32 X5 X10 X11 n).2.2.2.1 acc f13 f14 f15
    = [⟨Rect.unit (s := S512x256) ![0, 128] S512x128.size inb_S512x256_S512x128_0_128, addNn (arg15.view.readAt (Elt Ideal) (Rect.unit (s := S512x256) ![0, 128] S512x128.size inb_S512x256_S512x128_0_128).toLoadRect f15) (dscoreV q1 (arg10.view.readAt (Elt Ideal) (Rect.unit (s := S2048x256) (k0_off5 t n) S512x128.size (k0_off5_inb t n)).toLoadRect X10) o1 (arg11.view.readAt (Elt Ideal) (Rect.unit (s := S2048x256) (k0_off5 t n) S512x128.size (k0_off5_inb t n)).toLoadRect X11) (arg5.view.readAt (Elt Ideal) (Rect.unit (s := S2x4x4x8x512) (k0_off6 t n) S1x1x1x8x512.size (k0_off6_inb t n)).toLoadRect X5) (dist t n) acc.2) (arg10.view.readAt (Elt Ideal) (Rect.unit (s := S2048x256) (k0_off5 t n) S512x128.size (k0_off5_inb t n)).toLoadRect X10)⟩,
       ⟨Rect.unit (s := S512x256) ![0, 0] S512x128.size inb_S512x256_S512x128_0_0, addNn (arg15.view.readAt (Elt Ideal) (Rect.unit (s := S512x256) ![0, 0] S512x128.size inb_S512x256_S512x128_0_0).toLoadRect f15) (dscoreV q0 (arg10.view.readAt (Elt Ideal) (Rect.unit (s := S2048x256) (k0_off3 t n) S512x128.size (k0_off3_inb t n)).toLoadRect X10) o0 (arg11.view.readAt (Elt Ideal) (Rect.unit (s := S2048x256) (k0_off3 t n) S512x128.size (k0_off3_inb t n)).toLoadRect X11) (arg5.view.readAt (Elt Ideal) (Rect.unit (s := S2x4x4x8x512) (k0_off4 t n) S1x1x1x8x512.size (k0_off4_inb t n)).toLoadRect X5) (dist t n) acc.1) (arg10.view.readAt (Elt Ideal) (Rect.unit (s := S2048x256) (k0_off3 t n) S512x128.size (k0_off3_inb t n)).toLoadRect X10)⟩] := by
  unfold trip_k0_t2
  dsimp only
  sl_unfold_words
  dsimp only
  refine congrArg₂ List.cons (congrArg (Sigma.mk _) ?_) (congrArg₂ List.cons (congrArg (Sigma.mk _) ?_) rfl)
  · exact shapeCast_self _ _
  · exact shapeCast_self _ _

end Trip

end Cert.KernelIdeal.Attn

end
-- ==== Proof.Attn.Step.lean ====
/-
  What one trip over a strip of keys does to the running sums and to the three accumulators, entry by entry, for a pair of
  heads side by side: columns below 128 belong to head 0, the others to head 1.
-/
module

public import proofs.«01_k».proof.Proof.Attn.Strip
public import Idealize.ShloMosaic.Lib.VecWindow

@[expose] public section

set_option maxRecDepth 16384

noncomputable section

namespace Cert.KernelIdeal.Attn

open Idealize.ShloMosaic
open Cert.KernelIdeal Cert.KernelIdeal.Gen Cert.AttnSpec

/-- The operands of block `t` and strip `n` of one head hold that head's queries, keys, values, output gradients and saved sums. -/
structure IsStrip (Q K V D : ℕ → ℕ → ℝ) (t n : ℕ) (q k o v : FVec Ideal S512x128 .bf16) (x : FVec Ideal S1x1x1x8x512 .f32)
    (w : BitVec 32) : Prop where
  hi : t < 4
  hn : n < 4
  hq : ∀ (r : Fin 512) (d : Fin 128), q (ix2 r d) = ((Q (512 * t + r.val) d.val : ℝ) : EReal)
  hk : ∀ (r : Fin 512) (d : Fin 128), k (ix2 r d) = ((K (512 * n + r.val) d.val : ℝ) : EReal)
  ho : ∀ (r : Fin 512) (d : Fin 128), o (ix2 r d) = ((D (512 * t + r.val) d.val : ℝ) : EReal)
  hv : ∀ (r : Fin 512) (d : Fin 128), v (ix2 r d) = ((V (512 * n + r.val) d.val : ℝ) : EReal)
  hw : w = BitVec.ofNat 32 (512 * t) - BitVec.ofNat 32 (512 * n)
  hx : ∀ (a : Fin 8) (r : Fin 512), x (ix5 0 0 0 a r)
    = ((∑ j ∈ Finset.range 2048, if 512 * (n + 1) ≤ j then keep (score Q K) (512 * t + r.val) j else 0 : ℝ) : EReal)

/-- A pair of stores side by side into rows `o … o + 511`, read at an index. -/
theorem put_pair {α : Type} {R : ℕ} (x : (⟨2, ![R, 256]⟩ : Shape).Idx → α) (o : ℕ) (w0 w1 : S512x128.Idx → α) (s : Fin R) (c : Fin 256) :
    VecWindow.put (s := (⟨2, ![R, 256]⟩ : Shape)) (VecWindow.put (s := (⟨2, ![R, 256]⟩ : Shape)) x ![o, 0] S512x128.size w0) ![o, 128] S512x128.size w1 (ix2 s c)
      = if h : o ≤ s.val ∧ s.val < o + 512 then
          (if h' : c.val < 128 then w0 (ix2 ⟨s.val - o, by omega⟩ ⟨c.val, h'⟩) else w1 (ix2 ⟨s.val - o, by omega⟩ ⟨c.val - 128, by omega⟩))
        else x (ix2 s c) := by
  unfold VecWindow.put
  by_cases h : o ≤ s.val ∧ s.val < o + 512
  · rw [dif_pos h]
    by_cases h' : c.val < 128
    · rw [dif_pos h', dif_neg, dif_pos]
      · refine congrArg w0 (funext fun a => ?_)
        match a with
        | ⟨0, _⟩ => rfl
        | ⟨1, _⟩ => rfl
      · intro a
        match a with
        | ⟨0, _⟩ => exact h
        | ⟨1, _⟩ => exact ⟨Nat.zero_le _, by show c.val < 0 + 128; omega⟩
      · intro H
        have := (H ⟨1, Nat.one_lt_two⟩).1
        have : 128 ≤ c.val := this
        omega
    · rw [dif_neg h', dif_pos]
      · refine congrArg w1 (funext fun a => ?_)
        match a with
        | ⟨0, _⟩ => rfl
        | ⟨1, _⟩ => rfl
      · intro a
        match a with
        | ⟨0, _⟩ => exact h
        | ⟨1, _⟩ => exact ⟨by show 128 ≤ c.val; omega, by show c.val < 128 + 128; omega⟩
  · rw [dif_neg h, dif_neg, dif_neg]
    · intro H; exact h (H ⟨0, Nat.zero_lt_two⟩)
    · intro H; exact h (H ⟨0, Nat.zero_lt_two⟩)

/-- The window of 512 rows and 128 columns at `(o, b)`, read at an index. -/
theorem window_apply {α : Type} {R : ℕ} (x : (⟨2, ![R, 256]⟩ : Shape).Idx → α) (o b : ℕ)
    (inb : ∀ a, (![o, b] : Fin 2 → ℕ) a + S512x128.size a ≤ (⟨2, ![R, 256]⟩ : Shape).size a) (r : Fin 512) (d : Fin 128)
    (hr : o + r.val < R) (hd : b + d.val < 256) :
    VecWindow.window (s := (⟨2, ![R, 256]⟩ : Shape)) x ![o, b] S512x128.size inb (ix2 r d) = x (ix2 ⟨o + r.val, hr⟩ ⟨b + d.val, hd⟩) := by
  unfold VecWindow.window
  refine congrArg x (funext fun a => Fin.ext ?_)
  match a with
  | ⟨0, _⟩ => show o + 1 * r.val = o + r.val; omega
  | ⟨1, _⟩ => show b + 1 * d.val = b + d.val; omega

section Step

variable (Q K V D : ℕ → ℕ → ℕ → ℝ) (A B : ℕ → ℕ → ℝ) (t : ℕ)

/-- The gradient of the unscaled scores of head `h`. -/
abbrev ds (h : ℕ) : ℕ → ℕ → ℝ := dscore (V h) (D h) (score (Q h) (K h))

/-- The running sums and the accumulators before strip `n` of block `t`: `A` and `B` are what the accumulators of the keys'
    and the values' gradients held before the block. -/
structure Before (n : ℕ) (acc : FVec Ideal S512x1 .f32 × FVec Ideal S512x1 .f32) (g13 g14 : S2048x256.Idx → EReal)
    (g15 : S512x256.Idx → EReal) : Prop where
  s0 : ∀ r : Fin 512, acc.1 (ix2 r 0) = ((∑ j ∈ Finset.range (512 * n), wgrad (V 0) (D 0) (score (Q 0) (K 0)) (512 * t + r.val) j : ℝ) : EReal)
  s1 : ∀ r : Fin 512, acc.2 (ix2 r 0) = ((∑ j ∈ Finset.range (512 * n), wgrad (V 1) (D 1) (score (Q 1) (K 1)) (512 * t + r.val) j : ℝ) : EReal)
  dk : ∀ (s : Fin 2048) (c : Fin 256), g13 (ix2 s c) = ((A s.val c.val + (if s.val < 512 * n then
    ∑ r ∈ Finset.range 512, ds Q K V D (c.val / 128) (512 * t + r) s.val * Q (c.val / 128) (512 * t + r) (c.val % 128) else 0) : ℝ) : EReal)
  dv : ∀ (s : Fin 2048) (c : Fin 256), g14 (ix2 s c) = ((B s.val c.val + (if s.val < 512 * n then
    ∑ r ∈ Finset.range 512, weight (score (Q (c.val / 128)) (K (c.val / 128))) (512 * t + r) s.val * D (c.val / 128) (512 * t + r) (c.val % 128) else 0) : ℝ) : EReal)
  dq : ∀ (r : Fin 512) (c : Fin 256), g15 (ix2 r c) = ((∑ s ∈ Finset.range (512 * n),
    ds Q K V D (c.val / 128) (512 * t + r.val) s * K (c.val / 128) s (c.val % 128) : ℝ) : EReal)

variable (n : ℕ) (acc : FVec Ideal S512x1 .f32 × FVec Ideal S512x1 .f32) (g13 g14 : S2048x256.Idx → EReal) (g15 : S512x256.Idx → EReal)
variable (q0 k0 o0 v0 q1 k1 o1 v1 : FVec Ideal S512x128 .bf16) (x0 x1 : FVec Ideal S1x1x1x8x512 .f32) (w : BitVec 32)
variable (H0 : IsStrip (Q 0) (K 0) (V 0) (D 0) t n q0 k0 o0 v0 x0 w) (H1 : IsStrip (Q 1) (K 1) (V 1) (D 1) t n q1 k1 o1 v1 x1 w)
variable (HB : Before Q K V D A B t n acc g13 g14 g15)

/-- An accumulator of rows of keys after the trip. -/
def rowsAfter (g : S2048x256.Idx → EReal) (a0 a1 : FVec Ideal S512x512 .bf16) (b0 b1 : FVec Ideal S512x128 .bf16)
    (i0 : ∀ a, (![512 * n, 0] : Fin 2 → ℕ) a + S512x128.size a ≤ S2048x256.size a)
    (i1 : ∀ a, (![512 * n, 128] : Fin 2 → ℕ) a + S512x128.size a ≤ S2048x256.size a) : S2048x256.Idx → EReal :=
  VecWindow.put (s := S2048x256) (VecWindow.put (s := S2048x256) g ![512 * n, 0] S512x128.size
      (addTn (VecWindow.window (s := S2048x256) g ![512 * n, 0] S512x128.size i0) a0 b0)) ![512 * n, 128] S512x128.size
    (addTn (VecWindow.window (s := S2048x256) g ![512 * n, 128] S512x128.size i1) a1 b1)

theorem rowsAfter_apply (g : S2048x256.Idx → EReal) (a0 a1 : FVec Ideal S512x512 .bf16) (b0 b1 : FVec Ideal S512x128 .bf16)
    (i0 : ∀ a, (![512 * n, 0] : Fin 2 → ℕ) a + S512x128.size a ≤ S2048x256.size a)
    (i1 : ∀ a, (![512 * n, 128] : Fin 2 → ℕ) a + S512x128.size a ≤ S2048x256.size a) (G : ℕ → ℕ → ℝ) (W X : ℕ → ℕ → ℕ → ℝ)
    (hn : n < 4)
    (hg : ∀ (s : Fin 2048) (c : Fin 256), g (ix2 s c) = ((G s.val c.val + (if s.val < 512 * n then
      ∑ r ∈ Finset.range 512, W (c.val / 128) (512 * t + r) s.val * X (c.val / 128) (512 * t + r) (c.val % 128) else 0) : ℝ) : EReal))
    (ha0 : ∀ r j : Fin 512, a0 (ix2 r j) = ((W 0 (512 * t + r.val) (512 * n + j.val) : ℝ) : EReal))
    (ha1 : ∀ r j : Fin 512, a1 (ix2 r j) = ((W 1 (512 * t + r.val) (512 * n + j.val) : ℝ) : EReal))
    (hb0 : ∀ (r : Fin 512) (d : Fin 128), b0 (ix2 r d) = ((X 0 (512 * t + r.val) d.val : ℝ) : EReal))
    (hb1 : ∀ (r : Fin 512) (d : Fin 128), b1 (ix2 r d) = ((X 1 (512 * t + r.val) d.val : ℝ) : EReal))
    (s : Fin 2048) (c : Fin 256) :
    rowsAfter n g a0 a1 b0 b1 i0 i1 (ix2 s c) = ((G s.val c.val + (if s.val < 512 * (n + 1) then
      ∑ r ∈ Finset.range 512, W (c.val / 128) (512 * t + r) s.val * X (c.val / 128) (512 * t + r) (c.val % 128) else 0) : ℝ) : EReal) := by
  unfold rowsAfter
  refine (put_pair (R := 2048) g (512 * n) _ _ s c).trans ?_
  by_cases h : 512 * n ≤ s.val ∧ s.val < 512 * n + 512
  · have e : 512 * n + (s.val - 512 * n) = s.val := by omega
    rw [dif_pos h, if_pos (by omega)]
    have hG : ∀ (b : ℕ) (i : ∀ a, (![512 * n, b] : Fin 2 → ℕ) a + S512x128.size a ≤ S2048x256.size a) (d : Fin 128) (hd : b + d.val < 256),
        VecWindow.window (s := S2048x256) g ![512 * n, b] S512x128.size i (ix2 ⟨s.val - 512 * n, by omega⟩ d)
          = ((G s.val (b + d.val) : ℝ) : EReal) := fun b i d hd => by
      refine (window_apply (R := 2048) g (512 * n) b i ⟨s.val - 512 * n, by omega⟩ d (by show 512 * n + (s.val - 512 * n) < 2048; omega) hd).trans ?_
      rw [hg]
      show ((G (512 * n + (s.val - 512 * n)) (b + d.val) + (if 512 * n + (s.val - 512 * n) < 512 * n then _ else 0) : ℝ) : EReal) = _
      rw [if_neg (by omega), add_zero, e]
    by_cases h' : c.val < 128
    · rw [dif_pos h', Nat.div_eq_of_lt h', Nat.mod_eq_of_lt h']
      refine addTn_apply _ a0 b0 _ (fun j => W 0 (512 * t + j) s.val) (fun j => X 0 (512 * t + j) c.val) _ _ ?_ ?_ ?_
      · refine (hG 0 i0 ⟨c.val, h'⟩ (by show 0 + c.val < 256; omega)).trans ?_
        rw [Nat.zero_add]
      · intro j; rw [ha0]; show ((W 0 (512 * t + j.val) (512 * n + (s.val - 512 * n)) : ℝ) : EReal) = _; rw [e]
      · intro j; rw [hb0]
    · have h1 : c.val / 128 = 1 := by omega
      have h2 : c.val % 128 = c.val - 128 := by omega
      rw [dif_neg h', h1, h2]
      refine addTn_apply _ a1 b1 _ (fun j => W 1 (512 * t + j) s.val) (fun j => X 1 (512 * t + j) (c.val - 128)) _ _ ?_ ?_ ?_
      · refine (hG 128 i1 ⟨c.val - 128, by omega⟩ (by show 128 + (c.val - 128) < 256; omega)).trans ?_
        show ((G s.val (128 + (c.val - 128)) : ℝ) : EReal) = _
        rw [show 128 + (c.val - 128) = c.val by omega]
      · intro j; rw [ha1]; show ((W 1 (512 * t + j.val) (512 * n + (s.val - 512 * n)) : ℝ) : EReal) = _; rw [e]
      · intro j; rw [hb1]
  · rw [dif_neg h, hg]
    congr 3
    exact propext ⟨fun _ => by omega, fun _ => by omega⟩

/-- The accumulator of a block of queries after the trip. -/
def blockAfter (g : S512x256.Idx → EReal) (a0 a1 : FVec Ideal S512x512 .bf16) (b0 b1 : FVec Ideal S512x128 .bf16)
    (i0 : ∀ a, (![0, 0] : Fin 2 → ℕ) a + S512x128.size a ≤ S512x256.size a)
    (i1 : ∀ a, (![0, 128] : Fin 2 → ℕ) a + S512x128.size a ≤ S512x256.size a) : S512x256.Idx → EReal :=
  VecWindow.put (s := S512x256) (VecWindow.put (s := S512x256) g ![0, 0] S512x128.size
      (addNn (VecWindow.window (s := S512x256) g ![0, 0] S512x128.size i0) a0 b0)) ![0, 128] S512x128.size
    (addNn (VecWindow.window (s := S512x256) g ![0, 128] S512x128.size i1) a1 b1)

theorem blockAfter_apply (g : S512x256.Idx → EReal) (a0 a1 : FVec Ideal S512x512 .bf16) (b0 b1 : FVec Ideal S512x128 .bf16)
    (i0 : ∀ a, (![0, 0] : Fin 2 → ℕ) a + S512x128.size a ≤ S512x256.size a)
    (i1 : ∀ a, (![0, 128] : Fin 2 → ℕ) a + S512x128.size a ≤ S512x256.size a) (W X : ℕ → ℕ → ℕ → ℝ)
    (hg : ∀ (r : Fin 512) (c : Fin 256), g (ix2 r c) = ((∑ s ∈ Finset.range (512 * n),
      W (c.val / 128) (512 * t + r.val) s * X (c.val / 128) s (c.val % 128) : ℝ) : EReal))
    (ha0 : ∀ r j : Fin 512, a0 (ix2 r j) = ((W 0 (512 * t + r.val) (512 * n + j.val) : ℝ) : EReal))
    (ha1 : ∀ r j : Fin 512, a1 (ix2 r j) = ((W 1 (512 * t + r.val) (512 * n + j.val) : ℝ) : EReal))
    (hb0 : ∀ (r : Fin 512) (d : Fin 128), b0 (ix2 r d) = ((X 0 (512 * n + r.val) d.val : ℝ) : EReal))
    (hb1 : ∀ (r : Fin 512) (d : Fin 128), b1 (ix2 r d) = ((X 1 (512 * n + r.val) d.val : ℝ) : EReal))
    (r : Fin 512) (c : Fin 256) :
    blockAfter g a0 a1 b0 b1 i0 i1 (ix2 r c) = ((∑ s ∈ Finset.range (512 * (n + 1)),
      W (c.val / 128) (512 * t + r.val) s * X (c.val / 128) s (c.val % 128) : ℝ) : EReal) := by
  unfold blockAfter
  refine (put_pair (R := 512) g 0 _ _ r c).trans ?_
  rw [dif_pos ⟨Nat.zero_le _, by omega⟩, show 512 * (n + 1) = 512 * n + 512 by ring, sum_split]
  have hG : ∀ (b : ℕ) (i : ∀ a, (![0, b] : Fin 2 → ℕ) a + S512x128.size a ≤ S512x256.size a) (d : Fin 128) (hd : b + d.val < 256),
      VecWindow.window (s := S512x256) g ![0, b] S512x128.size i (ix2 ⟨r.val - 0, by omega⟩ d)
        = g (ix2 r ⟨b + d.val, hd⟩) := fun b i d hd => by
    refine (window_apply (R := 512) g 0 b i ⟨r.val - 0, by omega⟩ d (by show 0 + (r.val - 0) < 512; omega) hd).trans ?_
    congr 2
    exact Fin.ext (by show 0 + (r.val - 0) = r.val; omega)
  by_cases h' : c.val < 128
  · rw [dif_pos h', Nat.div_eq_of_lt h', Nat.mod_eq_of_lt h']
    refine addNn_apply _ a0 b0 _ (fun j => W 0 (512 * t + r.val) (512 * n + j)) (fun j => X 0 (512 * n + j) c.val) _ _ ?_ ?_ ?_
    · refine (hG 0 i0 ⟨c.val, h'⟩ (by show 0 + c.val < 256; omega)).trans ?_
      rw [hg]
      show ((∑ s ∈ Finset.range (512 * n), W ((0 + c.val) / 128) (512 * t + r.val) s * X ((0 + c.val) / 128) s ((0 + c.val) % 128) : ℝ) : EReal) = _
      rw [Nat.zero_add, Nat.div_eq_of_lt h', Nat.mod_eq_of_lt h']
    · intro j; rw [ha0]; rfl
    · intro j; rw [hb0]
  · have h1 : c.val / 128 = 1 := by omega
    have h2 : c.val % 128 = c.val - 128 := by omega
    rw [dif_neg h', h1, h2]
    refine addNn_apply _ a1 b1 _ (fun j => W 1 (512 * t + r.val) (512 * n + j)) (fun j => X 1 (512 * n + j) (c.val - 128)) _ _ ?_ ?_ ?_
    · refine (hG 128 i1 ⟨c.val - 128, by omega⟩ (by show 128 + (c.val - 128) < 256; omega)).trans ?_
      rw [hg]
      show ((∑ s ∈ Finset.range (512 * n), W ((128 + (c.val - 128)) / 128) (512 * t + r.val) s * X ((128 + (c.val - 128)) / 128) s ((128 + (c.val - 128)) % 128) : ℝ) : EReal) = _
      rw [show 128 + (c.val - 128) = c.val by omega, h1, h2]
    · intro j; rw [ha1]; rfl
    · intro j; rw [hb1]

include H0 H1 HB in
/-- One more strip. -/
theorem before_succ
    (i0 : ∀ a, (![512 * n, 0] : Fin 2 → ℕ) a + S512x128.size a ≤ S2048x256.size a)
    (i1 : ∀ a, (![512 * n, 128] : Fin 2 → ℕ) a + S512x128.size a ≤ S2048x256.size a)
    (j0 : ∀ a, (![0, 0] : Fin 2 → ℕ) a + S512x128.size a ≤ S512x256.size a)
    (j1 : ∀ a, (![0, 128] : Fin 2 → ℕ) a + S512x128.size a ≤ S512x256.size a) :
    Before Q K V D A B t (n + 1)
      (addf acc.1 (total (wgradV q0 k0 o0 v0 x0 w)), addf acc.2 (total (wgradV q1 k1 o1 v1 x1 w)))
      (rowsAfter n g13 (dscoreV q0 k0 o0 v0 x0 w acc.1) (dscoreV q1 k1 o1 v1 x1 w acc.2) q0 q1 i0 i1)
      (rowsAfter n g14 (truncf .bf16 (weightV q0 k0 x0 w) bitsLt_bf16_f32) (truncf .bf16 (weightV q1 k1 x1 w) bitsLt_bf16_f32) o0 o1 i0 i1)
      (blockAfter g15 (dscoreV q0 k0 o0 v0 x0 w acc.1) (dscoreV q1 k1 o1 v1 x1 w acc.2) k0 k1 j0 j1) where
  s0 := gsum_apply q0 k0 o0 v0 x0 w acc.1 (Q 0) (K 0) (V 0) (D 0) t n H0.hi H0.hn H0.hq H0.hk H0.ho H0.hv H0.hw H0.hx HB.s0
  s1 := gsum_apply q1 k1 o1 v1 x1 w acc.2 (Q 1) (K 1) (V 1) (D 1) t n H1.hi H1.hn H1.hq H1.hk H1.ho H1.hv H1.hw H1.hx HB.s1
  dk := rowsAfter_apply t n g13 _ _ q0 q1 i0 i1 A (ds Q K V D) Q H0.hn HB.dk
    (dscoreV_apply q0 k0 o0 v0 x0 w acc.1 (Q 0) (K 0) (V 0) (D 0) t n H0.hi H0.hn H0.hq H0.hk H0.ho H0.hv H0.hw H0.hx HB.s0)
    (dscoreV_apply q1 k1 o1 v1 x1 w acc.2 (Q 1) (K 1) (V 1) (D 1) t n H1.hi H1.hn H1.hq H1.hk H1.ho H1.hv H1.hw H1.hx HB.s1)
    H0.hq H1.hq
  dv := rowsAfter_apply t n g14 _ _ o0 o1 i0 i1 B (fun h => weight (score (Q h) (K h))) D H0.hn HB.dv
    (fun r j => weightV_apply q0 k0 x0 w (Q 0) (K 0) t n H0.hi H0.hn H0.hq H0.hk H0.hw H0.hx r j)
    (fun r j => weightV_apply q1 k1 x1 w (Q 1) (K 1) t n H1.hi H1.hn H1.hq H1.hk H1.hw H1.hx r j)
    H0.ho H1.ho
  dq := blockAfter_apply t n g15 _ _ k0 k1 j0 j1 (ds Q K V D) K HB.dq
    (dscoreV_apply q0 k0 o0 v0 x0 w acc.1 (Q 0) (K 0) (V 0) (D 0) t n H0.hi H0.hn H0.hq H0.hk H0.ho H0.hv H0.hw H0.hx HB.s0)
    (dscoreV_apply q1 k1 o1 v1 x1 w acc.2 (Q 1) (K 1) (V 1) (D 1) t n H1.hi H1.hn H1.hq H1.hk H1.ho H1.hv H1.hw H1.hx HB.s1)
    H0.hk H1.hk

end Step

end Cert.KernelIdeal.Attn

end
-- ==== Proof.Attn.Inner.lean ====
/-
  The loop over the strips of keys of one block of queries, over the extended reals: the running sums and the three
  accumulators before every strip.
-/
module

public import proofs.«01_k».proof.Proof.Attn.Trip
public import proofs.«01_k».proof.Proof.Attn.Step

@[expose] public section

set_option maxRecDepth 16384

noncomputable section

namespace Cert.KernelIdeal.Attn

open Idealize.ShloMosaic Idealize.ShloMosaic.TcCoe
open Cert.KernelIdeal Cert.KernelIdeal.Gen Cert.AttnSpec

theorem strips_trips (t : Fin k0_t1_loop.trips) : (k0_t2_loop t).trips = t.val + 1 := by revert t; decide +kernel
theorem blocks_trips : k0_t1_loop.trips = 4 := by decide +kernel

/-- A block of 512 rows and 128 columns loaded from a buffer of rows. -/
theorem load_rows {e : EltTy} (m : Memref sig .tc .vmem S2048x256 e) (f : BufTy.Contents (Elt Ideal) m.view.ty) (off : Fin 2 → ℕ) (o b : ℕ)
    (inb : ∀ a, off a + S512x128.size a ≤ S2048x256.size a) (h : off = ![o, b]) (r : Fin 512) (d : Fin 128)
    (hr : o + r.val < 2048) (hd : b + d.val < 256) :
    m.view.readAt (Elt Ideal) (Rect.unit (s := S2048x256) off S512x128.size inb).toLoadRect f (ix2 r d)
      = m.view.read (Elt Ideal) f (ix2 ⟨o + r.val, hr⟩ ⟨b + d.val, hd⟩) := by
  subst h
  refine congrArg (m.view.read (Elt Ideal) f) (funext fun a => Fin.ext ?_)
  match a with
  | ⟨0, _⟩ => show o + 1 * r.val = o + r.val; omega
  | ⟨1, _⟩ => show b + 1 * d.val = b + d.val; omega

/-- The saved sums of one head, block and strip, loaded. -/
theorem load_sums (m : Memref sig .tc .vmem S2x4x4x8x512 .f32) (f : BufTy.Contents (Elt Ideal) m.view.ty) (off : Fin 5 → ℕ)
    (h : Fin 2) (t n : Fin 4) (inb : ∀ a, off a + S1x1x1x8x512.size a ≤ S2x4x4x8x512.size a) (e : off = ![h.val, t.val, n.val, 0, 0])
    (a : Fin 8) (r : Fin 512) :
    m.view.readAt (Elt Ideal) (Rect.unit (s := S2x4x4x8x512) off S1x1x1x8x512.size inb).toLoadRect f (ix5 0 0 0 a r)
      = m.view.read (Elt Ideal) f (ix5 h t n a r) := by
  subst e
  refine congrArg (m.view.read (Elt Ideal) f) (funext fun b => Fin.ext ?_)
  match b with
  | ⟨0, _⟩ => show h.val + 1 * 0 = h.val; omega
  | ⟨1, _⟩ => show t.val + 1 * 0 = t.val; omega
  | ⟨2, _⟩ => show n.val + 1 * 0 = n.val; omega
  | ⟨3, _⟩ => show 0 + 1 * a.val = a.val; omega
  | ⟨4, _⟩ => show 0 + 1 * r.val = r.val; omega

section Inner

variable (𝒱 : Variants) (c : Dev nD) (bd : Option 𝒱.V) (i : grid0.Coords)
  (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2x4x4x8x512 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .f32) (harg13 : arg13.IsWhole) (arg14 : Memref sig .tc .vmem S2048x256 .f32) (harg14 : arg14.IsWhole) (arg15 : Memref sig .tc .vmem S512x256 .f32) (harg15 : arg15.IsWhole)
variable (t : Fin k0_t1_loop.trips) (arg16 : BitVec 32) (q0 q1 o0 o1 : FVec Ideal S512x128 .bf16)
  (X5 : BufTy.Contents (Elt Ideal) arg5.view.ty) (X10 : BufTy.Contents (Elt Ideal) arg10.view.ty) (X11 : BufTy.Contents (Elt Ideal) arg11.view.ty)
  (G13 : BufTy.Contents (Elt Ideal) arg13.view.ty) (G14 : BufTy.Contents (Elt Ideal) arg14.view.ty) (G15 : BufTy.Contents (Elt Ideal) arg15.view.ty)
variable (Q K V D : ℕ → ℕ → ℕ → ℝ) (A B : ℕ → ℕ → ℝ)

/-- What the operands hold: the head's queries and output gradients of the block, all keys and values, and the saved sums. -/
structure Holds : Prop where
  q0 : ∀ (r : Fin 512) (d : Fin 128), q0 (ix2 r d) = ((Q 0 (512 * t.val + r.val) d.val : ℝ) : EReal)
  q1 : ∀ (r : Fin 512) (d : Fin 128), q1 (ix2 r d) = ((Q 1 (512 * t.val + r.val) d.val : ℝ) : EReal)
  o0 : ∀ (r : Fin 512) (d : Fin 128), o0 (ix2 r d) = ((D 0 (512 * t.val + r.val) d.val : ℝ) : EReal)
  o1 : ∀ (r : Fin 512) (d : Fin 128), o1 (ix2 r d) = ((D 1 (512 * t.val + r.val) d.val : ℝ) : EReal)
  k : ∀ (s : Fin 2048) (c : Fin 256), arg10.view.read (Elt Ideal) X10 (ix2 s c) = ((K (c.val / 128) s.val (c.val % 128) : ℝ) : EReal)
  v : ∀ (s : Fin 2048) (c : Fin 256), arg11.view.read (Elt Ideal) X11 (ix2 s c) = ((V (c.val / 128) s.val (c.val % 128) : ℝ) : EReal)
  x : ∀ (h : Fin 2) (t n : Fin 4) (a : Fin 8) (r : Fin 512), arg5.view.read (Elt Ideal) X5 (ix5 h t n a r)
    = ((∑ j ∈ Finset.range 2048, if 512 * (n.val + 1) ≤ j then keep (score (Q h.val) (K h.val)) (512 * t.val + r.val) j else 0 : ℝ) : EReal)

variable (HH : Holds arg5 arg10 arg11 t q0 q1 o0 o1 X5 X10 X11 Q K V D)

include HH in
theorem isStrip0 (n : Fin (k0_t2_loop t).trips) : IsStrip (Q 0) (K 0) (V 0) (D 0) t.val n.val q0
    (arg10.view.readAt (Elt Ideal) (Rect.unit (s := S2048x256) (k0_off3 t n) S512x128.size (k0_off3_inb t n)).toLoadRect X10) o0
    (arg11.view.readAt (Elt Ideal) (Rect.unit (s := S2048x256) (k0_off3 t n) S512x128.size (k0_off3_inb t n)).toLoadRect X11)
    (arg5.view.readAt (Elt Ideal) (Rect.unit (s := S2x4x4x8x512) (k0_off4 t n) S1x1x1x8x512.size (k0_off4_inb t n)).toLoadRect X5) (dist t n) := by
  have ht : t.val < 4 := blocks_trips ▸ t.isLt
  have hn : n.val < t.val + 1 := strips_trips t ▸ n.isLt
  refine ⟨ht, by omega, HH.q0, fun r d => ?_, HH.o0, fun r d => ?_, dist_eq t n, fun a r => ?_⟩
  · rw [load_rows arg10 X10 _ (512 * n.val) 0 _ (off3_eq t n) r d (by omega) (by omega), HH.k]
    show ((K ((0 + d.val) / 128) _ ((0 + d.val) % 128) : ℝ) : EReal) = _
    rw [Nat.zero_add, Nat.div_eq_of_lt d.isLt, Nat.mod_eq_of_lt d.isLt]
  · rw [load_rows arg11 X11 _ (512 * n.val) 0 _ (off3_eq t n) r d (by omega) (by omega), HH.v]
    show ((V ((0 + d.val) / 128) _ ((0 + d.val) % 128) : ℝ) : EReal) = _
    rw [Nat.zero_add, Nat.div_eq_of_lt d.isLt, Nat.mod_eq_of_lt d.isLt]
  · rw [load_sums arg5 X5 _ 0 ⟨t.val, ht⟩ ⟨n.val, by omega⟩ _ (off4_eq t n) a r, HH.x]
    rfl

include HH in
theorem isStrip1 (n : Fin (k0_t2_loop t).trips) : IsStrip (Q 1) (K 1) (V 1) (D 1) t.val n.val q1
    (arg10.view.readAt (Elt Ideal) (Rect.unit (s := S2048x256) (k0_off5 t n) S512x128.size (k0_off5_inb t n)).toLoadRect X10) o1
    (arg11.view.readAt (Elt Ideal) (Rect.unit (s := S2048x256) (k0_off5 t n) S512x128.size (k0_off5_inb t n)).toLoadRect X11)
    (arg5.view.readAt (Elt Ideal) (Rect.unit (s := S2x4x4x8x512) (k0_off6 t n) S1x1x1x8x512.size (k0_off6_inb t n)).toLoadRect X5) (dist t n) := by
  have ht : t.val < 4 := blocks_trips ▸ t.isLt
  have hn : n.val < t.val + 1 := strips_trips t ▸ n.isLt
  have e1 : ∀ d : Fin 128, (128 + d.val) / 128 = 1 := fun d => by omega
  have e2 : ∀ d : Fin 128, (128 + d.val) % 128 = d.val := fun d => by omega
  refine ⟨ht, by omega, HH.q1, fun r d => ?_, HH.o1, fun r d => ?_, dist_eq t n, fun a r => ?_⟩
  · rw [load_rows arg10 X10 _ (512 * n.val) 128 _ (off5_eq t n) r d (by omega) (by omega), HH.k]
    show ((K ((128 + d.val) / 128) _ ((128 + d.val) % 128) : ℝ) : EReal) = _
    rw [e1, e2]
  · rw [load_rows arg11 X11 _ (512 * n.val) 128 _ (off5_eq t n) r d (by omega) (by omega), HH.v]
    show ((V ((128 + d.val) / 128) _ ((128 + d.val) % 128) : ℝ) : EReal) = _
    rw [e1, e2]
  · rw [load_sums arg5 X5 _ 1 ⟨t.val, ht⟩ ⟨n.val, by omega⟩ _ (off6_eq t n) a r, HH.x]
    rfl

/-- Two stores side by side into rows of an accumulator, read back. -/
theorem read_rows (m : Memref sig .tc .vmem S2048x256 .f32) (f : BufTy.Contents (Elt Ideal) m.view.ty) (L : List (View.Piece (Elt Ideal) S2048x256 .f32))
    (n : ℕ) (off0 off1 : Fin 2 → ℕ) (h0 : off0 = ![512 * n, 0]) (h1 : off1 = ![512 * n, 128])
    (b0 : ∀ a, off0 a + S512x128.size a ≤ S2048x256.size a) (b1 : ∀ a, off1 a + S512x128.size a ≤ S2048x256.size a)
    (i0 : ∀ a, (![512 * n, 0] : Fin 2 → ℕ) a + S512x128.size a ≤ S2048x256.size a)
    (i1 : ∀ a, (![512 * n, 128] : Fin 2 → ℕ) a + S512x128.size a ≤ S2048x256.size a)
    (a0 a1 : FVec Ideal S512x512 .bf16) (c0 c1 : FVec Ideal S512x128 .bf16) :
    m.view.read (Elt Ideal) (m.view.writes (Elt Ideal) f
      ([⟨Rect.unit (s := S2048x256) off1 S512x128.size b1, addTn (m.view.readAt (Elt Ideal) (Rect.unit (s := S2048x256) off1 S512x128.size b1).toLoadRect (m.view.writes (Elt Ideal) f L)) a1 c1⟩,
        ⟨Rect.unit (s := S2048x256) off0 S512x128.size b0, addTn (m.view.readAt (Elt Ideal) (Rect.unit (s := S2048x256) off0 S512x128.size b0).toLoadRect (m.view.writes (Elt Ideal) f L)) a0 c0⟩] ++ L))
      = rowsAfter n (m.view.read (Elt Ideal) (m.view.writes (Elt Ideal) f L)) a0 a1 c0 c1 i0 i1 := by
  subst h0 h1
  unfold rowsAfter
  exact (View.read_writes_cons_put m.view f b1 _ _ rfl).trans (congrArg (fun z => VecWindow.put (s := S2048x256) z ![512 * n, 128] S512x128.size _)
    (View.read_writes_cons_put m.view f b0 _ _ rfl))

/-- The same of the accumulator of a block of queries. -/
theorem read_block (m : Memref sig .tc .vmem S512x256 .f32) (f : BufTy.Contents (Elt Ideal) m.view.ty) (L : List (View.Piece (Elt Ideal) S512x256 .f32))
    (b0 : ∀ a, (![0, 0] : Fin 2 → ℕ) a + S512x128.size a ≤ S512x256.size a) (b1 : ∀ a, (![0, 128] : Fin 2 → ℕ) a + S512x128.size a ≤ S512x256.size a)
    (a0 a1 : FVec Ideal S512x512 .bf16) (c0 c1 : FVec Ideal S512x128 .bf16) :
    m.view.read (Elt Ideal) (m.view.writes (Elt Ideal) f
      ([⟨Rect.unit (s := S512x256) ![0, 128] S512x128.size b1, addNn (m.view.readAt (Elt Ideal) (Rect.unit (s := S512x256) ![0, 128] S512x128.size b1).toLoadRect (m.view.writes (Elt Ideal) f L)) a1 c1⟩,
        ⟨Rect.unit (s := S512x256) ![0, 0] S512x128.size b0, addNn (m.view.readAt (Elt Ideal) (Rect.unit (s := S512x256) ![0, 0] S512x128.size b0).toLoadRect (m.view.writes (Elt Ideal) f L)) a0 c0⟩] ++ L))
      = blockAfter (m.view.read (Elt Ideal) (m.view.writes (Elt Ideal) f L)) a0 a1 c0 c1 b0 b1 := by
  unfold blockAfter
  exact (View.read_writes_cons_put m.view f b1 _ _ rfl).trans (congrArg (fun z => VecWindow.put (s := S512x256) z ![0, 128] S512x128.size _)
    (View.read_writes_cons_put m.view f b0 _ _ rfl))

include HH in
/-- The state before strip `n`. -/
theorem inner (h13 : ∀ (s : Fin 2048) (c : Fin 256), arg13.view.read (Elt Ideal) G13 (ix2 s c) = ((A s.val c.val : ℝ) : EReal))
    (h14 : ∀ (s : Fin 2048) (c : Fin 256), arg14.view.read (Elt Ideal) G14 (ix2 s c) = ((B s.val c.val : ℝ) : EReal))
    (h15 : ∀ (r : Fin 512) (c : Fin 256), arg15.view.read (Elt Ideal) G15 (ix2 r c) = 0) :
    ∀ n, n ≤ (k0_t2_loop t).trips → Before Q K V D A B t.val n
      (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 t arg16 (Scalar.muli (Scf.iv 0#32 1#32 t) 512#32) q0 q1 o0 o1 0#32 X5 X10 X11 G13 G14 G15 (k0_pay85, k0_pay86) n).1
      (arg13.view.read (Elt Ideal) (arg13.view.writes (Elt Ideal) G13 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 t arg16 (Scalar.muli (Scf.iv 0#32 1#32 t) 512#32) q0 q1 o0 o1 0#32 X5 X10 X11 G13 G14 G15 (k0_pay85, k0_pay86) n).2.1))
      (arg14.view.read (Elt Ideal) (arg14.view.writes (Elt Ideal) G14 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 t arg16 (Scalar.muli (Scf.iv 0#32 1#32 t) 512#32) q0 q1 o0 o1 0#32 X5 X10 X11 G13 G14 G15 (k0_pay85, k0_pay86) n).2.2.1))
      (arg15.view.read (Elt Ideal) (arg15.view.writes (Elt Ideal) G15 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 t arg16 (Scalar.muli (Scf.iv 0#32 1#32 t) 512#32) q0 q1 o0 o1 0#32 X5 X10 X11 G13 G14 G15 (k0_pay85, k0_pay86) n).2.2.2)) := by
  intro n
  induction n with
  | zero =>
    intro _
    refine ⟨fun r => ?_, fun r => ?_, fun s c => ?_, fun s c => ?_, fun r c => ?_⟩
    · rw [Nat.mul_zero, Finset.sum_range_zero, st_k0_t2_zero]
      exact Ideal.ofBits_zero_f32
    · rw [Nat.mul_zero, Finset.sum_range_zero, st_k0_t2_zero]
      exact Ideal.ofBits_zero_f32
    · rw [if_neg (by omega), add_zero]; exact h13 s c
    · rw [if_neg (by omega), add_zero]; exact h14 s c
    · rw [Nat.mul_zero, Finset.sum_range_zero]; exact h15 r c
  | succ n ih =>
    intro hn
    have IH := ih (by omega)
    have e := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 t arg16 (Scalar.muli (Scf.iv 0#32 1#32 t) 512#32) q0 q1 o0 o1 0#32 X5 X10 X11 G13 G14 G15 (k0_pay85, k0_pay86) ⟨n, by omega⟩
    have ht : t.val < 4 := blocks_trips ▸ t.isLt
    have hn' : n + 1 ≤ t.val + 1 := strips_trips t ▸ hn
    have i0 : ∀ a, (![512 * n, 0] : Fin 2 → ℕ) a + S512x128.size a ≤ S2048x256.size a := fun a =>
      off3_eq t ⟨n, by omega⟩ ▸ k0_off3_inb t ⟨n, by omega⟩ a
    have i1 : ∀ a, (![512 * n, 128] : Fin 2 → ℕ) a + S512x128.size a ≤ S2048x256.size a := fun a =>
      off5_eq t ⟨n, by omega⟩ ▸ k0_off5_inb t ⟨n, by omega⟩ a
    have S := before_succ Q K V D A B t.val n _ _ _ _ q0 _ o0 _ q1 _ o1 _ _ _ _
      (isStrip0 arg5 arg10 arg11 t q0 q1 o0 o1 X5 X10 X11 Q K V D HH ⟨n, by omega⟩)
      (isStrip1 arg5 arg10 arg11 t q0 q1 o0 o1 X5 X10 X11 Q K V D HH ⟨n, by omega⟩) IH i0 i1
      inb_S512x256_S512x128_0_0 inb_S512x256_S512x128_0_128
    rw [show ((st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 t arg16 (Scalar.muli (Scf.iv 0#32 1#32 t) 512#32) q0 q1 o0 o1 0#32 X5 X10 X11 G13 G14 G15 (k0_pay85, k0_pay86) (n + 1))) = _ from e]
    refine Eq.mp ?_ S
    refine congr (congr (congr (congrArg (Before Q K V D A B t.val (n + 1)) ?_) ?_) ?_) ?_
    · exact (trip_sums 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 t arg16 q0 q1 o0 o1 X5 X10 X11 ⟨n, by omega⟩ _ _ _ _).symm
    · refine Eq.trans ?_ (congrArg (fun L => arg13.view.read (Elt Ideal) (arg13.view.writes (Elt Ideal) G13 (L ++ (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 t arg16 (Scalar.muli (Scf.iv 0#32 1#32 t) 512#32) q0 q1 o0 o1 0#32 X5 X10 X11 G13 G14 G15 (k0_pay85, k0_pay86) n).2.1)))
        (trip_dk 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 t arg16 q0 q1 o0 o1 X5 X10 X11 ⟨n, by omega⟩ _ _ _ _).symm)
      exact (read_rows arg13 G13 _ n _ _ (off3_eq t ⟨n, by omega⟩) (off5_eq t ⟨n, by omega⟩) _ _ i0 i1 _ _ _ _).symm
    · refine Eq.trans ?_ (congrArg (fun L => arg14.view.read (Elt Ideal) (arg14.view.writes (Elt Ideal) G14 (L ++ (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 t arg16 (Scalar.muli (Scf.iv 0#32 1#32 t) 512#32) q0 q1 o0 o1 0#32 X5 X10 X11 G13 G14 G15 (k0_pay85, k0_pay86) n).2.2.1)))
        (trip_dv 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 t arg16 q0 q1 o0 o1 X5 X10 X11 ⟨n, by omega⟩ _ _ _ _).symm)
      exact (read_rows arg14 G14 _ n _ _ (off3_eq t ⟨n, by omega⟩) (off5_eq t ⟨n, by omega⟩) _ _ i0 i1 _ _ _ _).symm
    · refine Eq.trans ?_ (congrArg (fun L => arg15.view.read (Elt Ideal) (arg15.view.writes (Elt Ideal) G15 (L ++ (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 t arg16 (Scalar.muli (Scf.iv 0#32 1#32 t) 512#32) q0 q1 o0 o1 0#32 X5 X10 X11 G13 G14 G15 (k0_pay85, k0_pay86) n).2.2.2)))
        (trip_dq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 t arg16 q0 q1 o0 o1 X5 X10 X11 ⟨n, by omega⟩ _ _ _ _).symm)
      exact (read_block arg15 G15 _ _ _ _ _ _ _).symm

end Inner

end Cert.KernelIdeal.Attn

end
-- ==== Proof.Attn.Block.lean ====
/-
  One block of 512 queries over the extended reals: what it stores of the queries' gradient and what it adds to the
  gradients of the keys and the values.
-/
module

public import proofs.«01_k».proof.Proof.Attn.Inner
public import proofs.«01_k».proof.Proof.Attn.Loop

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen Cert.AttnSpec

theorem rest_trips (t : Fin k0_t1_loop.trips) : (k0_t3_loop t).trips = 0 := by revert t; decide +kernel
theorem off1_eq (t : Fin k0_t1_loop.trips) : k0_off1 t = ![512 * t.val, 0] := by revert t; decide +kernel
theorem off2_eq (t : Fin k0_t1_loop.trips) : k0_off2 t = ![512 * t.val, 128] := by revert t; decide +kernel

section Block

variable (𝒱 : Variants) (c : Dev nD) (bd : Option 𝒱.V) (i : grid0.Coords)
  (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2x4x4x8x512 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .f32) (harg13 : arg13.IsWhole) (arg14 : Memref sig .tc .vmem S2048x256 .f32) (harg14 : arg14.IsWhole) (arg15 : Memref sig .tc .vmem S512x256 .f32) (harg15 : arg15.IsWhole)

/-- The second loop of a block makes no trip and stores nothing. -/
theorem rest_dk {v30 : IVec S512x512 32} {k0_t1 : Fin k0_t1_loop.trips} {arg16 v49 v88 : BitVec 32} {v51 v53 v55 v57 : Vec Ideal S512x128 .bf16} {Y5 : BufTy.Contents (Elt Ideal) arg5.view.ty} {Y10 : BufTy.Contents (Elt Ideal) arg10.view.ty} {Y11 : BufTy.Contents (Elt Ideal) arg11.view.ty} {Y13 : BufTy.Contents (Elt Ideal) arg13.view.ty} {Y14 : BufTy.Contents (Elt Ideal) arg14.view.ty} {Y15 : BufTy.Contents (Elt Ideal) arg15.view.ty} {init : FVec Ideal S512x1 .f32 × FVec Ideal S512x1 .f32} : (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v30 k0_t1 arg16 v49 v51 v53 v55 v57 v88 Y5 Y10 Y11 Y13 Y14 Y15 init (k0_t3_loop k0_t1).trips).2.1 = [] := by rw [rest_trips]; rfl
theorem rest_dv {v30 : IVec S512x512 32} {k0_t1 : Fin k0_t1_loop.trips} {arg16 v49 v88 : BitVec 32} {v51 v53 v55 v57 : Vec Ideal S512x128 .bf16} {Y5 : BufTy.Contents (Elt Ideal) arg5.view.ty} {Y10 : BufTy.Contents (Elt Ideal) arg10.view.ty} {Y11 : BufTy.Contents (Elt Ideal) arg11.view.ty} {Y13 : BufTy.Contents (Elt Ideal) arg13.view.ty} {Y14 : BufTy.Contents (Elt Ideal) arg14.view.ty} {Y15 : BufTy.Contents (Elt Ideal) arg15.view.ty} {init : FVec Ideal S512x1 .f32 × FVec Ideal S512x1 .f32} : (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v30 k0_t1 arg16 v49 v51 v53 v55 v57 v88 Y5 Y10 Y11 Y13 Y14 Y15 init (k0_t3_loop k0_t1).trips).2.2.1 = [] := by rw [rest_trips]; rfl
theorem rest_dq {v30 : IVec S512x512 32} {k0_t1 : Fin k0_t1_loop.trips} {arg16 v49 v88 : BitVec 32} {v51 v53 v55 v57 : Vec Ideal S512x128 .bf16} {Y5 : BufTy.Contents (Elt Ideal) arg5.view.ty} {Y10 : BufTy.Contents (Elt Ideal) arg10.view.ty} {Y11 : BufTy.Contents (Elt Ideal) arg11.view.ty} {Y13 : BufTy.Contents (Elt Ideal) arg13.view.ty} {Y14 : BufTy.Contents (Elt Ideal) arg14.view.ty} {Y15 : BufTy.Contents (Elt Ideal) arg15.view.ty} {init : FVec Ideal S512x1 .f32 × FVec Ideal S512x1 .f32} : (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v30 k0_t1 arg16 v49 v51 v53 v55 v57 v88 Y5 Y10 Y11 Y13 Y14 Y15 init (k0_t3_loop k0_t1).trips).2.2.2 = [] := by rw [rest_trips]; rfl

variable (X5 : BufTy.Contents (Elt Ideal) arg5.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (t : Fin k0_t1_loop.trips)
  (f13 : BufTy.Contents (Elt Ideal) arg13.view.ty) (f14 : BufTy.Contents (Elt Ideal) arg14.view.ty)

/-- The state after the strips of block `t`. -/
def strips := (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 t (Scf.iv 0#32 1#32 t) (Scalar.muli (Scf.iv 0#32 1#32 t) 512#32) (arg9.view.readAt (Elt Ideal) (Rect.unit (s := S2048x256) (k0_off1 t) S512x128.size (k0_off1_inb t)).toLoadRect X9) (arg9.view.readAt (Elt Ideal) (Rect.unit (s := S2048x256) (k0_off2 t) S512x128.size (k0_off2_inb t)).toLoadRect X9) (arg12.view.readAt (Elt Ideal) (Rect.unit (s := S2048x256) (k0_off1 t) S512x128.size (k0_off1_inb t)).toLoadRect X12) (arg12.view.readAt (Elt Ideal) (Rect.unit (s := S2048x256) (k0_off2 t) S512x128.size (k0_off2_inb t)).toLoadRect X12) 0#32 X5 X10 X11 f13 f14 (arg15.view.writes (Elt Ideal) arg15.view.junk [⟨Rect.unit (s := S512x256) ![0, 0] S512x256.size inb_S512x256_S512x256_0_0, k0_pay84 (F := Ideal)⟩]) (k0_pay85, k0_pay86) (k0_t2_loop t).trips)

theorem block_dk : (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 X5 X9 X10 X11 X12 t).2.1 f13 f14 = (strips 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X5 X9 X10 X11 X12 t f13 f14).2.1 := by
  unfold trip
  dsimp only
  sl_unfold_words
  dsimp only
  exact congrArg (· ++ (strips 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X5 X9 X10 X11 X12 t f13 f14).2.1) (rest_dk 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_t1 := t))

theorem block_dv : (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 X5 X9 X10 X11 X12 t).2.2.1 f13 f14 = (strips 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X5 X9 X10 X11 X12 t f13 f14).2.2.1 := by
  unfold trip
  dsimp only
  sl_unfold_words
  dsimp only
  exact congrArg (· ++ (strips 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X5 X9 X10 X11 X12 t f13 f14).2.2.1) (rest_dv 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_t1 := t))

theorem block_dq : (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 X5 X9 X10 X11 X12 t).1 f13 f14 = k0_pay13 (arg15.view.readCov ((strips 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X5 X9 X10 X11 X12 t f13 f14).2.2.2 ++ [⟨Rect.unit (s := S512x256) ![0, 0] S512x256.size inb_S512x256_S512x256_0_0, k0_pay84 (F := Ideal)⟩]) (Rect.unit (s := S512x256) ![0, 0] S512x256.size inb_S512x256_S512x256_0_0).toLoadRect) := by
  unfold trip
  dsimp only
  sl_unfold_words
  dsimp only
  refine congrArg (fun z => k0_pay13 (arg15.view.readCov z (Rect.unit (s := S512x256) ![0, 0] S512x256.size inb_S512x256_S512x256_0_0).toLoadRect)) ?_
  exact congrArg (· ++ ((strips 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X5 X9 X10 X11 X12 t f13 f14).2.2.2 ++ [⟨Rect.unit (s := S512x256) ![0, 0] S512x256.size inb_S512x256_S512x256_0_0, k0_pay84 (F := Ideal)⟩])) (rest_dq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_t1 := t))

theorem block_dq_read : (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 X5 X9 X10 X11 X12 t).1 f13 f14 = k0_pay13 (arg15.view.read (Elt Ideal) (arg15.view.writes (Elt Ideal) (arg15.view.writes (Elt Ideal) arg15.view.junk [⟨Rect.unit (s := S512x256) ![0, 0] S512x256.size inb_S512x256_S512x256_0_0, k0_pay84 (F := Ideal)⟩]) (strips 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X5 X9 X10 X11 X12 t f13 f14).2.2.2)) := by
  rw [block_dq]
  unfold View.readCov
  rw [View.writes_append]
  exact congrArg k0_pay13 (View.readAt_full arg15.view _ _)

variable (Q K V D : ℕ → ℕ → ℕ → ℝ) (A B : ℕ → ℕ → ℝ)

/-- What the four operands and the saved sums hold. -/
structure Rows : Prop where
  q : ∀ (s : Fin 2048) (c : Fin 256), arg9.view.read (Elt Ideal) X9 (ix2 s c) = ((Q (c.val / 128) s.val (c.val % 128) : ℝ) : EReal)
  k : ∀ (s : Fin 2048) (c : Fin 256), arg10.view.read (Elt Ideal) X10 (ix2 s c) = ((K (c.val / 128) s.val (c.val % 128) : ℝ) : EReal)
  v : ∀ (s : Fin 2048) (c : Fin 256), arg11.view.read (Elt Ideal) X11 (ix2 s c) = ((V (c.val / 128) s.val (c.val % 128) : ℝ) : EReal)
  o : ∀ (s : Fin 2048) (c : Fin 256), arg12.view.read (Elt Ideal) X12 (ix2 s c) = ((D (c.val / 128) s.val (c.val % 128) : ℝ) : EReal)
  x : ∀ (h : Fin 2) (t n : Fin 4) (a : Fin 8) (r : Fin 512), arg5.view.read (Elt Ideal) X5 (ix5 h t n a r)
    = ((∑ j ∈ Finset.range 2048, if 512 * (n.val + 1) ≤ j then keep (score (Q h.val) (K h.val)) (512 * t.val + r.val) j else 0 : ℝ) : EReal)

variable (HR : Rows arg5 arg9 arg10 arg11 arg12 X5 X9 X10 X11 X12 Q K V D)

include HR in
theorem holds : Holds arg5 arg10 arg11 t (arg9.view.readAt (Elt Ideal) (Rect.unit (s := S2048x256) (k0_off1 t) S512x128.size (k0_off1_inb t)).toLoadRect X9) (arg9.view.readAt (Elt Ideal) (Rect.unit (s := S2048x256) (k0_off2 t) S512x128.size (k0_off2_inb t)).toLoadRect X9) (arg12.view.readAt (Elt Ideal) (Rect.unit (s := S2048x256) (k0_off1 t) S512x128.size (k0_off1_inb t)).toLoadRect X12) (arg12.view.readAt (Elt Ideal) (Rect.unit (s := S2048x256) (k0_off2 t) S512x128.size (k0_off2_inb t)).toLoadRect X12) X5 X10 X11 Q K V D := by
  have ht : t.val < 4 := blocks_trips ▸ t.isLt
  have e0 : ∀ d : Fin 128, (0 + d.val) / 128 = 0 := fun d => by omega
  have e0' : ∀ d : Fin 128, (0 + d.val) % 128 = d.val := fun d => by omega
  have e1 : ∀ d : Fin 128, (128 + d.val) / 128 = 1 := fun d => by omega
  have e2 : ∀ d : Fin 128, (128 + d.val) % 128 = d.val := fun d => by omega
  refine ⟨fun r d => ?_, fun r d => ?_, fun r d => ?_, fun r d => ?_, HR.k, HR.v, HR.x⟩
  · rw [load_rows arg9 X9 _ (512 * t.val) 0 _ (off1_eq t) r d (by omega) (by omega), HR.q]
    show ((Q ((0 + d.val) / 128) _ ((0 + d.val) % 128) : ℝ) : EReal) = _
    rw [e0, e0']
  · rw [load_rows arg9 X9 _ (512 * t.val) 128 _ (off2_eq t) r d (by omega) (by omega), HR.q]
    show ((Q ((128 + d.val) / 128) _ ((128 + d.val) % 128) : ℝ) : EReal) = _
    rw [e1, e2]
  · rw [load_rows arg12 X12 _ (512 * t.val) 0 _ (off1_eq t) r d (by omega) (by omega), HR.o]
    show ((D ((0 + d.val) / 128) _ ((0 + d.val) % 128) : ℝ) : EReal) = _
    rw [e0, e0']
  · rw [load_rows arg12 X12 _ (512 * t.val) 128 _ (off2_eq t) r d (by omega) (by omega), HR.o]
    show ((D ((128 + d.val) / 128) _ ((128 + d.val) % 128) : ℝ) : EReal) = _
    rw [e1, e2]

include HR in
/-- The state after the strips of block `t`, read. -/
theorem block_before (h13 : ∀ (s : Fin 2048) (c : Fin 256), arg13.view.read (Elt Ideal) f13 (ix2 s c) = ((A s.val c.val : ℝ) : EReal))
    (h14 : ∀ (s : Fin 2048) (c : Fin 256), arg14.view.read (Elt Ideal) f14 (ix2 s c) = ((B s.val c.val : ℝ) : EReal)) :
    Before Q K V D A B t.val (t.val + 1) (strips 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X5 X9 X10 X11 X12 t f13 f14).1
      (arg13.view.read (Elt Ideal) (arg13.view.writes (Elt Ideal) f13 ((trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 X5 X9 X10 X11 X12 t).2.1 f13 f14)))
      (arg14.view.read (Elt Ideal) (arg14.view.writes (Elt Ideal) f14 ((trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 X5 X9 X10 X11 X12 t).2.2.1 f13 f14)))
      ((trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 X5 X9 X10 X11 X12 t).1 f13 f14) := by
  rw [block_dk, block_dv, block_dq_read]
  have h := inner 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 t (Scf.iv 0#32 1#32 t) (arg9.view.readAt (Elt Ideal) (Rect.unit (s := S2048x256) (k0_off1 t) S512x128.size (k0_off1_inb t)).toLoadRect X9) (arg9.view.readAt (Elt Ideal) (Rect.unit (s := S2048x256) (k0_off2 t) S512x128.size (k0_off2_inb t)).toLoadRect X9) (arg12.view.readAt (Elt Ideal) (Rect.unit (s := S2048x256) (k0_off1 t) S512x128.size (k0_off1_inb t)).toLoadRect X12) (arg12.view.readAt (Elt Ideal) (Rect.unit (s := S2048x256) (k0_off2 t) S512x128.size (k0_off2_inb t)).toLoadRect X12) X5 X10 X11 f13 f14 (arg15.view.writes (Elt Ideal) arg15.view.junk [⟨Rect.unit (s := S512x256) ![0, 0] S512x256.size inb_S512x256_S512x256_0_0, k0_pay84 (F := Ideal)⟩]) Q K V D A B
    (holds arg5 arg9 arg10 arg11 arg12 X5 X9 X10 X11 X12 t Q K V D HR) h13 h14
    (fun r c => (congrFun (View.read_writes_full (Val := Elt Ideal) arg15.view arg15.view.junk inb_S512x256_S512x256_0_0 (k0_pay84 (F := Ideal)) []) (ix2 r c)).trans Ideal.ofBits_zero_f32)
    (k0_t2_loop t).trips le_rfl
  rw [show ((k0_t2_loop t).trips) = t.val + 1 from strips_trips t] at h
  have e : (strips 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X5 X9 X10 X11 X12 t f13 f14) = st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 t (Scf.iv 0#32 1#32 t) (Scalar.muli (Scf.iv 0#32 1#32 t) 512#32) (arg9.view.readAt (Elt Ideal) (Rect.unit (s := S2048x256) (k0_off1 t) S512x128.size (k0_off1_inb t)).toLoadRect X9) (arg9.view.readAt (Elt Ideal) (Rect.unit (s := S2048x256) (k0_off2 t) S512x128.size (k0_off2_inb t)).toLoadRect X9) (arg12.view.readAt (Elt Ideal) (Rect.unit (s := S2048x256) (k0_off1 t) S512x128.size (k0_off1_inb t)).toLoadRect X12) (arg12.view.readAt (Elt Ideal) (Rect.unit (s := S2048x256) (k0_off2 t) S512x128.size (k0_off2_inb t)).toLoadRect X12) 0#32 X5 X10 X11 f13 f14 (arg15.view.writes (Elt Ideal) arg15.view.junk [⟨Rect.unit (s := S512x256) ![0, 0] S512x256.size inb_S512x256_S512x256_0_0, k0_pay84 (F := Ideal)⟩]) (k0_pay85, k0_pay86) (t.val + 1) := by
    unfold strips; rw [strips_trips]
  rw [e]
  exact h

end Block

end Cert.KernelIdeal.Attn

end
-- ==== Proof.Attn.Outer.lean ====
/-
  The loop over the blocks of queries and the body of one grid point over the extended reals: the three output blocks hold
  the gradients of the queries, the keys and the values of the two heads.
-/
module

public import proofs.«01_k».proof.Proof.Attn.Block
public import proofs.«01_k».proof.Proof.Attn.Run

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen Cert.AttnSpec

/-- A query takes nothing of the keys at or after it. -/
theorem dscore_zero (V D Z : ℕ → ℕ → ℝ) {t s : ℕ} (h : t ≤ s) : dscore V D Z t s = 0 := by
  unfold dscore; rw [if_neg (by omega), zero_mul]
theorem weight_zero (Z : ℕ → ℕ → ℝ) {t s : ℕ} (h : t ≤ s) : weight Z t s = 0 := by
  unfold weight; rw [if_neg (by omega)]

section Outer

variable (𝒱 : Variants) (c : Dev nD) (bd : Option 𝒱.V) (i : grid0.Coords)
  (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2x4x4x8x512 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .f32) (harg13 : arg13.IsWhole) (arg14 : Memref sig .tc .vmem S2048x256 .f32) (harg14 : arg14.IsWhole) (arg15 : Memref sig .tc .vmem S512x256 .f32) (harg15 : arg15.IsWhole)
variable (X5 : BufTy.Contents (Elt Ideal) arg5.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty)
  (G6 : BufTy.Contents (Elt Ideal) arg6.view.ty) (G13 : BufTy.Contents (Elt Ideal) arg13.view.ty) (G14 : BufTy.Contents (Elt Ideal) arg14.view.ty)
variable (Q K V D : ℕ → ℕ → ℕ → ℝ)

/-- The outputs before block `n`. -/
structure Done (n : ℕ) (g6 : S2048x256.Idx → EReal) (g13 g14 : S2048x256.Idx → EReal) : Prop where
  dq : ∀ (s : Fin 2048) (c : Fin 256), s.val < 512 * n → g6 (ix2 s c)
    = ((dq (K (c.val / 128)) (V (c.val / 128)) (D (c.val / 128)) (score (Q (c.val / 128)) (K (c.val / 128))) s.val (c.val % 128) : ℝ) : EReal)
  dk : ∀ (s : Fin 2048) (c : Fin 256), g13 (ix2 s c)
    = ((∑ r ∈ Finset.range (512 * n), ds Q K V D (c.val / 128) r s.val * Q (c.val / 128) r (c.val % 128) : ℝ) : EReal)
  dv : ∀ (s : Fin 2048) (c : Fin 256), g14 (ix2 s c)
    = ((∑ r ∈ Finset.range (512 * n), weight (score (Q (c.val / 128)) (K (c.val / 128))) r s.val * D (c.val / 128) r (c.val % 128) : ℝ) : EReal)

variable (HR : Rows arg5 arg9 arg10 arg11 arg12 X5 X9 X10 X11 X12 Q K V D)

/-- The rows of a block, with the keys its queries do not see. -/
theorem rows_add (W X : ℕ → ℕ → ℝ) (hW : ∀ t s, t ≤ s → W t s = 0) (n s d : ℕ) :
    (∑ r ∈ Finset.range (512 * n), W r s * X r d) + (if s < 512 * (n + 1) then ∑ r ∈ Finset.range 512, W (512 * n + r) s * X (512 * n + r) d else 0)
      = ∑ r ∈ Finset.range (512 * (n + 1)), W r s * X r d := by
  rw [show 512 * (n + 1) = 512 * n + 512 by ring, sum_split]
  congr 1
  split
  · rfl
  · next h =>
    refine (Finset.sum_eq_zero fun r hr => ?_).symm
    rw [Finset.mem_range] at hr
    rw [hW _ _ (by omega), zero_mul]

include HR in
theorem outer (h13 : ∀ (s : Fin 2048) (c : Fin 256), arg13.view.read (Elt Ideal) G13 (ix2 s c) = 0)
    (h14 : ∀ (s : Fin 2048) (c : Fin 256), arg14.view.read (Elt Ideal) G14 (ix2 s c) = 0) : ∀ n, n ≤ 4 →
    Done Q K V D n (arg6.view.read (Elt Ideal) (arg6.view.writes (Elt Ideal) G6 (pieces (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 X5 X9 X10 X11 X12 G13 G14 n).1))
      (arg13.view.read (Elt Ideal) (arg13.view.writes (Elt Ideal) G13 (pieces (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 X5 X9 X10 X11 X12 G13 G14 n).2.1))
      (arg14.view.read (Elt Ideal) (arg14.view.writes (Elt Ideal) G14 (pieces (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 X5 X9 X10 X11 X12 G13 G14 n).2.2)) := by
  intro n
  induction n with
  | zero =>
    intro _
    refine ⟨fun s c h => absurd h (by omega), fun s c => ?_, fun s c => ?_⟩
    · rw [Nat.mul_zero, Finset.sum_range_zero]; exact h13 s c
    · rw [Nat.mul_zero, Finset.sum_range_zero]; exact h14 s c
  | succ n ih =>
    intro hn
    have IH := ih (by omega)
    have hk : n < k0_t1_loop.trips := by rw [blocks_trips]; omega
    have B := block_before 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X5 X9 X10 X11 X12 ⟨n, hk⟩
      (arg13.view.writes (Elt Ideal) G13 (pieces (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 X5 X9 X10 X11 X12 G13 G14 n).2.1) (arg14.view.writes (Elt Ideal) G14 (pieces (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 X5 X9 X10 X11 X12 G13 G14 n).2.2) Q K V D
      (fun s c => ∑ r ∈ Finset.range (512 * n), ds Q K V D (c / 128) r s * Q (c / 128) r (c % 128))
      (fun s c => ∑ r ∈ Finset.range (512 * n), weight (score (Q (c / 128)) (K (c / 128))) r s * D (c / 128) r (c % 128))
      HR IH.dk IH.dv
    rw [pieces_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 X5 X9 X10 X11 X12 G13 G14 ⟨n, hk⟩]
    dsimp only
    rw [View.writes_append, View.writes_append]
    refine ⟨fun s c hs => ?_, fun s c => ?_, fun s c => ?_⟩
    · by_cases h : 512 * n ≤ s.val
      · refine (View.read_writes_cons_unit_of_mem (s := S2048x256) arg6.view G6 (k0_off11_inb ⟨n, hk⟩) _ _ (ix2 s c) (ix2 ⟨s.val - 512 * n, by omega⟩ c) (k0_off11_eq ⟨n, hk⟩) ?_).trans ?_
        · intro a
          match a with
          | ⟨0, _⟩ => show s.val = 512 * n + (s.val - 512 * n); omega
          | ⟨1, _⟩ => show c.val = 0 + c.val; omega
        · refine (B.dq ⟨s.val - 512 * n, by omega⟩ c).trans ?_
          show ((∑ j ∈ Finset.range (512 * (n + 1)), ds Q K V D (c.val / 128) (512 * n + (s.val - 512 * n)) j * K (c.val / 128) j (c.val % 128) : ℝ) : EReal) = _
          rw [show 512 * n + (s.val - 512 * n) = s.val by omega]
          refine congrArg _ (Finset.sum_subset (Finset.range_subset_range.mpr (by omega)) fun j _ hj => ?_)
          rw [Finset.mem_range] at hj
          show dscore _ _ _ _ _ * _ = 0
          rw [dscore_zero _ _ _ (by omega), zero_mul]
      · refine (View.read_writes_cons_unit_of_not_mem (s := S2048x256) arg6.view G6 (k0_off11_inb ⟨n, hk⟩) _ _ (ix2 s c) (k0_off11_eq ⟨n, hk⟩) ⟨0, by decide⟩ (Or.inl ?_)).trans ?_
        · show s.val < 512 * n; omega
        · exact IH.dq s c (by omega)
    · refine (B.dk s c).trans (congrArg _ ?_)
      exact rows_add (ds Q K V D (c.val / 128)) (Q (c.val / 128)) (fun t s h => dscore_zero _ _ _ h) n s.val (c.val % 128)
    · refine (B.dv s c).trans (congrArg _ ?_)
      exact rows_add (weight (score (Q (c.val / 128)) (K (c.val / 128)))) (D (c.val / 128)) (fun t s h => weight_zero _ h) n s.val (c.val % 128)

end Outer

section Outs

variable (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2x4x4x8x512 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .f32) (harg13 : arg13.IsWhole) (arg14 : Memref sig .tc .vmem S2048x256 .f32) (harg14 : arg14.IsWhole) (arg15 : Memref sig .tc .vmem S512x256 .f32) (harg15 : arg15.IsWhole)
variable (x1 x2 x3 x4 : Vec Ideal S2048x256 .f32) (x5 : Vec Ideal S2x4x4x8x512 .f32) (Q K V D : ℕ → ℕ → ℕ → ℝ)

/-- What the blocks of one grid point hold: the queries, the keys, the values, the output's gradient, the saved sums. -/
structure Blocks : Prop where
  q : ∀ (s : Fin 2048) (c : Fin 256), x1 (ix2 s c) = ((Q (c.val / 128) s.val (c.val % 128) : ℝ) : EReal)
  k : ∀ (s : Fin 2048) (c : Fin 256), x2 (ix2 s c) = ((K (c.val / 128) s.val (c.val % 128) : ℝ) : EReal)
  v : ∀ (s : Fin 2048) (c : Fin 256), x3 (ix2 s c) = ((V (c.val / 128) s.val (c.val % 128) : ℝ) : EReal)
  o : ∀ (s : Fin 2048) (c : Fin 256), x4 (ix2 s c) = ((D (c.val / 128) s.val (c.val % 128) : ℝ) : EReal)
  x : ∀ (h : Fin 2) (t n : Fin 4) (a : Fin 8) (r : Fin 512), x5 (ix5 h t n a r)
    = ((∑ j ∈ Finset.range 2048, if 512 * (n.val + 1) ≤ j then keep (score (Q h.val) (K h.val)) (512 * t.val + r.val) j else 0 : ℝ) : EReal)

/-- The pieces of the body. -/
def bodyPieces := (pieces (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k0_pay93 (harg5.unread x5) (arg9.view.writes (Elt Ideal) arg9.view.junk [⟨Rect.unit (s := S2048x256) ![0, 0] S2048x256.size inb_S2048x256_S2048x256_0_0, k0_pay87 (F := Ideal) (arg1.view.readAt (Elt Ideal) (Rect.unit (s := S2048x256) ![0, 0] S2048x256.size inb_S2048x256_S2048x256_0_0).toLoadRect (harg1.unread x1))⟩]) (arg10.view.writes (Elt Ideal) arg10.view.junk [⟨Rect.unit (s := S2048x256) ![0, 0] S2048x256.size inb_S2048x256_S2048x256_0_0, k0_pay88 (F := Ideal) (arg2.view.readAt (Elt Ideal) (Rect.unit (s := S2048x256) ![0, 0] S2048x256.size inb_S2048x256_S2048x256_0_0).toLoadRect (harg2.unread x2))⟩]) (arg11.view.writes (Elt Ideal) arg11.view.junk [⟨Rect.unit (s := S2048x256) ![0, 0] S2048x256.size inb_S2048x256_S2048x256_0_0, k0_pay89 (F := Ideal) (arg3.view.readAt (Elt Ideal) (Rect.unit (s := S2048x256) ![0, 0] S2048x256.size inb_S2048x256_S2048x256_0_0).toLoadRect (harg3.unread x3))⟩]) (arg12.view.writes (Elt Ideal) arg12.view.junk [⟨Rect.unit (s := S2048x256) ![0, 0] S2048x256.size inb_S2048x256_S2048x256_0_0, k0_pay90 (F := Ideal) (arg4.view.readAt (Elt Ideal) (Rect.unit (s := S2048x256) ![0, 0] S2048x256.size inb_S2048x256_S2048x256_0_0).toLoadRect (harg4.unread x4))⟩]) (arg13.view.writes (Elt Ideal) arg13.view.junk [⟨Rect.unit (s := S2048x256) ![0, 0] S2048x256.size inb_S2048x256_S2048x256_0_0, k0_pay91 (F := Ideal)⟩]) (arg14.view.writes (Elt Ideal) arg14.view.junk [⟨Rect.unit (s := S2048x256) ![0, 0] S2048x256.size inb_S2048x256_S2048x256_0_0, k0_pay92 (F := Ideal)⟩]) 4)

theorem bodyRun_dq : (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5).1 = (bodyPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5).1 := by
  unfold bodyRun
  rfl

theorem bodyRun_dk : (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5).2.1
    = [⟨(Rect.unit (s := S2048x256) ![0, 0] S2048x256.size inb_S2048x256_S2048x256_0_0), k0_pay14 (F := Ideal) (arg13.view.readCov ((bodyPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5).2.1 ++ [⟨(Rect.unit (s := S2048x256) ![0, 0] S2048x256.size inb_S2048x256_S2048x256_0_0), k0_pay91 (F := Ideal)⟩]) (Rect.unit (s := S2048x256) ![0, 0] S2048x256.size inb_S2048x256_S2048x256_0_0).toLoadRect)⟩] := by
  unfold bodyRun
  rfl

theorem bodyRun_dv : (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5).2.2.1
    = [⟨(Rect.unit (s := S2048x256) ![0, 0] S2048x256.size inb_S2048x256_S2048x256_0_0), k0_pay15 (F := Ideal) (arg14.view.readCov ((bodyPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5).2.2 ++ [⟨(Rect.unit (s := S2048x256) ![0, 0] S2048x256.size inb_S2048x256_S2048x256_0_0), k0_pay92 (F := Ideal)⟩]) (Rect.unit (s := S2048x256) ![0, 0] S2048x256.size inb_S2048x256_S2048x256_0_0).toLoadRect)⟩] := by
  unfold bodyRun
  rfl

theorem pay87 (x : Vec Ideal S2048x256 .f32) : k0_pay87 (F := Ideal) x = x := by
  unfold k0_pay87
  dsimp only
  rw [shapeCast_self]
  rfl
theorem pay88 (x : Vec Ideal S2048x256 .f32) : k0_pay88 (F := Ideal) x = x := by
  unfold k0_pay88
  dsimp only
  rw [shapeCast_self]
  rfl
theorem pay89 (x : Vec Ideal S2048x256 .f32) : k0_pay89 (F := Ideal) x = x := by
  unfold k0_pay89
  dsimp only
  rw [shapeCast_self]
  rfl
theorem pay90 (x : Vec Ideal S2048x256 .f32) : k0_pay90 (F := Ideal) x = x := by
  unfold k0_pay90
  dsimp only
  rw [shapeCast_self]
  rfl

variable (HX : Blocks x1 x2 x3 x4 x5 Q K V D)

include HX in
theorem body_done (G6 : BufTy.Contents (Elt Ideal) arg6.view.ty) : Done Q K V D 4 (arg6.view.read (Elt Ideal) (arg6.view.writes (Elt Ideal) G6 (bodyPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5).1))
    (arg13.view.read (Elt Ideal) (arg13.view.writes (Elt Ideal) (arg13.view.writes (Elt Ideal) arg13.view.junk [⟨Rect.unit (s := S2048x256) ![0, 0] S2048x256.size inb_S2048x256_S2048x256_0_0, k0_pay91 (F := Ideal)⟩]) (bodyPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5).2.1))
    (arg14.view.read (Elt Ideal) (arg14.view.writes (Elt Ideal) (arg14.view.writes (Elt Ideal) arg14.view.junk [⟨Rect.unit (s := S2048x256) ![0, 0] S2048x256.size inb_S2048x256_S2048x256_0_0, k0_pay92 (F := Ideal)⟩]) (bodyPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5).2.2)) := by
  refine outer Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ G6 _ _ Q K V D ⟨fun s c => ?_, fun s c => ?_, fun s c => ?_, fun s c => ?_, fun h t n a r => ?_⟩ (fun s c => ?_) (fun s c => ?_) 4 le_rfl
  · refine (congrFun (View.read_writes_full (Val := Elt Ideal) arg9.view arg9.view.junk inb_S2048x256_S2048x256_0_0 _ []) (ix2 s c)).trans ?_
    rw [View.readAt_full, harg1.read_unread]
    exact (congrFun (pay87 _) _).trans (HX.q s c)
  · refine (congrFun (View.read_writes_full (Val := Elt Ideal) arg10.view arg10.view.junk inb_S2048x256_S2048x256_0_0 _ []) (ix2 s c)).trans ?_
    rw [View.readAt_full, harg2.read_unread]
    exact (congrFun (pay88 _) _).trans (HX.k s c)
  · refine (congrFun (View.read_writes_full (Val := Elt Ideal) arg11.view arg11.view.junk inb_S2048x256_S2048x256_0_0 _ []) (ix2 s c)).trans ?_
    rw [View.readAt_full, harg3.read_unread]
    exact (congrFun (pay89 _) _).trans (HX.v s c)
  · refine (congrFun (View.read_writes_full (Val := Elt Ideal) arg12.view arg12.view.junk inb_S2048x256_S2048x256_0_0 _ []) (ix2 s c)).trans ?_
    rw [View.readAt_full, harg4.read_unread]
    exact (congrFun (pay90 _) _).trans (HX.o s c)
  · rw [harg5.read_unread]
    exact HX.x h t n a r
  · exact (congrFun (View.read_writes_full (Val := Elt Ideal) arg13.view arg13.view.junk inb_S2048x256_S2048x256_0_0 _ []) (ix2 s c)).trans Ideal.ofBits_zero_f32
  · exact (congrFun (View.read_writes_full (Val := Elt Ideal) arg14.view arg14.view.junk inb_S2048x256_S2048x256_0_0 _ []) (ix2 s c)).trans Ideal.ofBits_zero_f32

include HX in
/-- The queries' gradient of the two heads. -/
theorem out6_apply (s : Fin 2048) (b : Fin 256) : out6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 (ix2 s b)
    = ((dq (K (b.val / 128)) (V (b.val / 128)) (D (b.val / 128)) (score (Q (b.val / 128)) (K (b.val / 128))) s.val (b.val % 128) : ℝ) : EReal) := by
  unfold out6
  have e := (body_done c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 Q K V D HX arg6.view.junk).dq s b s.isLt
  rw [← bodyRun_dq] at e
  refine Eq.trans (congrFun ?_ _) e
  exact View.read_writes_of_cover _ _ _ _ _ (cover6 c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5)

include HX in
/-- The keys' gradient of the two heads. -/
theorem out7_apply (s : Fin 2048) (b : Fin 256) : out7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 (ix2 s b)
    = ((dk (Q (b.val / 128)) (V (b.val / 128)) (D (b.val / 128)) (score (Q (b.val / 128)) (K (b.val / 128))) s.val (b.val % 128) : ℝ) : EReal) := by
  unfold out7
  rw [bodyRun_dk]
  refine (congrFun (View.read_writes_full (Val := Elt Ideal) (s := S2048x256) (Memref.whole cc0_stg5_0).view (Memref.whole cc0_stg5_0).view.junk inb_S2048x256_S2048x256_0_0 _ []) (ix2 s b)).trans ?_
  refine Eq.trans ?_ ((body_done c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 Q K V D HX arg6.view.junk).dk s b)
  rw [← View.writes_append]
  exact congrFun (View.readAt_full arg13.view _ _) _

include HX in
/-- The values' gradient of the two heads. -/
theorem out8_apply (s : Fin 2048) (b : Fin 256) : out8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 (ix2 s b)
    = ((dv (D (b.val / 128)) (score (Q (b.val / 128)) (K (b.val / 128))) s.val (b.val % 128) : ℝ) : EReal) := by
  unfold out8
  rw [bodyRun_dv]
  refine (congrFun (View.read_writes_full (Val := Elt Ideal) (s := S2048x256) (Memref.whole cc0_stg5_0).view (Memref.whole cc0_stg5_0).view.junk inb_S2048x256_S2048x256_0_0 _ []) (ix2 s b)).trans ?_
  refine Eq.trans ?_ ((body_done c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 Q K V D HX arg6.view.junk).dv s b)
  rw [← View.writes_append]
  exact congrFun (View.readAt_full arg14.view _ _) _

end Outs

end Cert.KernelIdeal.Attn

end
-- ==== Proof.Attn.Window.lean ====
/-
  Running sums of real numbers along the last axis, as the host programs compute them: a sum over a window of the padded
  operand.
-/
module

public import proofs.«01_k».proof.Proof.Attn.Spec
public import Idealize.ShloMosaic.Lib.Pipeline.Value
public import Idealize.ShloMosaic.Lib.ValueIdx
public import Idealize.ShloMosaic.Lib.Pointwise.Index
public import Idealize.ShloMosaic.PureOps.Ideal.Laws

@[expose] public section

set_option maxRecDepth 16384

noncomputable section

namespace Cert.AttnSpec

open Idealize.ShloMosaic

/-- A left fold of additions from zero is the sum. -/
theorem foldl_add {ι : Type} (l : List ι) (g : ι → EReal) (a : EReal) : l.foldl (fun r n => r + g n) a = a + (l.map g).sum := by
  induction l generalizing a with
  | nil => simp
  | cons n l ih => rw [List.foldl_cons, ih, List.map_cons, List.sum_cons, add_assoc]

/-- The host's window sum from zero: the sum over the window's positions inside the operand. -/
theorem window_sum {s t u : Shape} (window strides lo hi : Fin s.rank → Nat) (x : s.Idx → EReal) (init : u.Idx → EReal)
    (h : s.ReduceWindows window strides lo hi t) (hu : 0 < u.numel) (hv : init (Shape.Idx.first hu) = 0) (j : t.Idx) :
    Host.reduceWindowAdd (F := Ideal) (φ := .f32) window strides lo hi x init h hu j
      = ∑ w : (⟨s.rank, window⟩ : Shape).Idx,
        if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0 := by
  show Ideal.hostReduceWindowAdd window strides lo hi h x (init (Shape.Idx.first hu)) j = _
  unfold Ideal.hostReduceWindowAdd Host.reduceWindow
  rw [hv]
  refine (foldl_add _ _ _).trans ?_
  rw [zero_add]
  rw [← Fin.sum_univ_def]
  refine Eq.trans (Finset.sum_congr rfl fun w _ => ?_) (Equiv.sum_comp (Shape.rowMajor ⟨s.rank, window⟩).symm (fun w : (⟨s.rank, window⟩ : Shape).Idx =>
    if hin : ∀ a, lo a ≤ (j (a.cast h.1.symm)).val * strides a + (w a).val ∧ (j (a.cast h.1.symm)).val * strides a + (w a).val - lo a < s.size a
      then x (fun a => ⟨(j (a.cast h.1.symm)).val * strides a + (w a).val - lo a, (hin a).2⟩) else 0))
  dsimp only
  congr

/-- The sum over the numbers from `s` on. -/
theorem suffix_real (f : ℕ → ℝ) (n s : ℕ) (hs : s ≤ n) :
    ∑ k ∈ Finset.range n, (if s + k < n then f (s + k) else 0) = ∑ j ∈ Finset.range n, if s ≤ j then f j else 0 := by
  have e1 : ∑ j ∈ Finset.range n, (if s ≤ j then f j else 0) = ∑ k ∈ Finset.range (n - s), f (s + k) := by
    rw [show n = s + (n - s) by omega, sum_split, Finset.sum_eq_zero, zero_add, show s + (n - s) - s = n - s by omega]
    · exact Finset.sum_congr rfl fun k _ => if_pos (by omega)
    · intro k hk; rw [Finset.mem_range] at hk; exact if_neg (by omega)
  have e2 : ∑ k ∈ Finset.range n, (if s + k < n then f (s + k) else 0) = ∑ k ∈ Finset.range (n - s), f (s + k) := by
    refine (Finset.sum_subset (Finset.range_subset_range.mpr (Nat.sub_le n s)) fun k _ hk => ?_).symm.trans (Finset.sum_congr rfl fun k hk => ?_)
    · rw [Finset.mem_range] at hk; exact if_neg (by omega)
    · rw [Finset.mem_range] at hk; exact if_pos (by omega)
  rw [e1, e2]

/-- The sum over the numbers up to `s`. -/
theorem prefix_real (f : ℕ → ℝ) (n s : ℕ) (hs : s < n) :
    ∑ k ∈ Finset.range n, (if n - 1 ≤ s + k then f (s + k - (n - 1)) else 0) = ∑ j ∈ Finset.range (s + 1), f j := by
  obtain ⟨d, rfl⟩ : ∃ d, n = d + (s + 1) := ⟨n - (s + 1), by omega⟩
  rw [sum_split, Finset.sum_eq_zero, zero_add]
  · refine Finset.sum_congr rfl fun k _ => ?_
    rw [if_pos (by omega)]
    congr 1
    omega
  · intro k hk; rw [Finset.mem_range] at hk; exact if_neg (by omega)

/-- The sums from each position on, along the last axis of four. -/
theorem suffix4 {A B C : ℕ} {n : ℕ} {u : Shape} (x : (⟨4, ![A, B, C, n + 1]⟩ : Shape).Idx → EReal) (init : u.Idx → EReal)
    (h : (⟨4, ![A, B, C, n + 1]⟩ : Shape).ReduceWindows (![1, 1, 1, n + 1] : Fin 4 → ℕ) ![1, 1, 1, 1] ![0, 0, 0, 0] ![0, 0, 0, n] ⟨4, ![A, B, C, n + 1]⟩)
    (hu : 0 < u.numel) (hv : init (Shape.Idx.first hu) = 0) (a : Fin A) (b : Fin B) (c : Fin C) (s : Fin (n + 1)) (f : ℕ → ℝ)
    (hf : ∀ j : Fin (n + 1), x (ix4 a b c j) = ((f j.val : ℝ) : EReal)) :
    Host.reduceWindowAdd (F := Ideal) (φ := .f32) ![1, 1, 1, n + 1] ![1, 1, 1, 1] ![0, 0, 0, 0] ![0, 0, 0, n] x init h hu (ix4 a b c s)
      = ((∑ j ∈ Finset.range (n + 1), if s.val ≤ j then f j else 0 : ℝ) : EReal) := by
  refine (window_sum _ _ _ _ x init h hu hv _).trans ?_
  rw [← suffix_real f (n + 1) s.val (by omega), ← Fin.sum_univ_eq_sum_range (fun k => if s.val + k < n + 1 then f (s.val + k) else 0), ← sum_coe]
  refine Fintype.sum_bijective (fun w => (w 3 : Fin (n + 1))) ⟨fun w w' e => ?_, fun k => ⟨ix4 (0 : Fin 1) (0 : Fin 1) (0 : Fin 1) k, rfl⟩⟩ _ _ (fun w => ?_)
  · funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact e
  · have h0 : (w 0).val < 1 := (w 0).isLt
    have h1 : (w 1).val < 1 := (w 1).isLt
    have h2 : (w 2).val < 1 := (w 2).isLt
    by_cases hk : s.val + (w 3).val < n + 1
    · rw [dif_pos, if_pos hk]
      · refine Eq.trans (congrArg x ?_) (hf ⟨s.val + (w 3).val, hk⟩)
        funext d
        match d with
        | ⟨0, _⟩ => exact Fin.ext (show a.val * 1 + (w 0).val - 0 = a.val by omega)
        | ⟨1, _⟩ => exact Fin.ext (show b.val * 1 + (w 1).val - 0 = b.val by omega)
        | ⟨2, _⟩ => exact Fin.ext (show c.val * 1 + (w 2).val - 0 = c.val by omega)
        | ⟨3, _⟩ => exact Fin.ext (show s.val * 1 + (w 3).val - 0 = s.val + (w 3).val by omega)
      · intro d
        match d with
        | ⟨0, _⟩ => exact (show 0 ≤ a.val * 1 + (w 0).val ∧ a.val * 1 + (w 0).val - 0 < A by have := a.isLt; omega)
        | ⟨1, _⟩ => exact (show 0 ≤ b.val * 1 + (w 1).val ∧ b.val * 1 + (w 1).val - 0 < B by have := b.isLt; omega)
        | ⟨2, _⟩ => exact (show 0 ≤ c.val * 1 + (w 2).val ∧ c.val * 1 + (w 2).val - 0 < C by have := c.isLt; omega)
        | ⟨3, _⟩ => exact (show 0 ≤ s.val * 1 + (w 3).val ∧ s.val * 1 + (w 3).val - 0 < n + 1 by omega)
    · rw [dif_neg, if_neg hk]
      · rfl
      · intro hin
        have := (hin 3).2
        change s.val * 1 + (w 3).val - 0 < n + 1 at this
        omega

/-- The sums up to each position, along the last axis of four. -/
theorem prefix4 {A B C : ℕ} {n : ℕ} {u : Shape} (x : (⟨4, ![A, B, C, n + 1]⟩ : Shape).Idx → EReal) (init : u.Idx → EReal)
    (h : (⟨4, ![A, B, C, n + 1]⟩ : Shape).ReduceWindows (![1, 1, 1, n + 1] : Fin 4 → ℕ) ![1, 1, 1, 1] ![0, 0, 0, n] ![0, 0, 0, 0] ⟨4, ![A, B, C, n + 1]⟩)
    (hu : 0 < u.numel) (hv : init (Shape.Idx.first hu) = 0) (a : Fin A) (b : Fin B) (c : Fin C) (s : Fin (n + 1)) (f : ℕ → ℝ)
    (hf : ∀ j : Fin (n + 1), x (ix4 a b c j) = ((f j.val : ℝ) : EReal)) :
    Host.reduceWindowAdd (F := Ideal) (φ := .f32) ![1, 1, 1, n + 1] ![1, 1, 1, 1] ![0, 0, 0, n] ![0, 0, 0, 0] x init h hu (ix4 a b c s)
      = ((∑ j ∈ Finset.range (s.val + 1), f j : ℝ) : EReal) := by
  refine (window_sum _ _ _ _ x init h hu hv _).trans ?_
  rw [← prefix_real f (n + 1) s.val s.isLt, ← Fin.sum_univ_eq_sum_range (fun k => if n + 1 - 1 ≤ s.val + k then f (s.val + k - (n + 1 - 1)) else 0), ← sum_coe]
  refine Fintype.sum_bijective (fun w => (w 3 : Fin (n + 1))) ⟨fun w w' e => ?_, fun k => ⟨ix4 (0 : Fin 1) (0 : Fin 1) (0 : Fin 1) k, rfl⟩⟩ _ _ (fun w => ?_)
  · funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact e
  · have h0 : (w 0).val < 1 := (w 0).isLt
    have h1 : (w 1).val < 1 := (w 1).isLt
    have h2 : (w 2).val < 1 := (w 2).isLt
    have h3 : (w 3).val < n + 1 := (w 3).isLt
    have hs := s.isLt
    by_cases hk : n + 1 - 1 ≤ s.val + (w 3).val
    · rw [dif_pos, if_pos hk]
      · refine Eq.trans (congrArg x ?_) (hf ⟨s.val + (w 3).val - (n + 1 - 1), by omega⟩)
        funext d
        match d with
        | ⟨0, _⟩ => exact Fin.ext (show a.val * 1 + (w 0).val - 0 = a.val by omega)
        | ⟨1, _⟩ => exact Fin.ext (show b.val * 1 + (w 1).val - 0 = b.val by omega)
        | ⟨2, _⟩ => exact Fin.ext (show c.val * 1 + (w 2).val - 0 = c.val by omega)
        | ⟨3, _⟩ => exact Fin.ext (show s.val * 1 + (w 3).val - n = s.val + (w 3).val - (n + 1 - 1) by omega)
      · intro d
        match d with
        | ⟨0, _⟩ => exact (show 0 ≤ a.val * 1 + (w 0).val ∧ a.val * 1 + (w 0).val - 0 < A by have := a.isLt; omega)
        | ⟨1, _⟩ => exact (show 0 ≤ b.val * 1 + (w 1).val ∧ b.val * 1 + (w 1).val - 0 < B by have := b.isLt; omega)
        | ⟨2, _⟩ => exact (show 0 ≤ c.val * 1 + (w 2).val ∧ c.val * 1 + (w 2).val - 0 < C by have := c.isLt; omega)
        | ⟨3, _⟩ => exact (show n ≤ s.val * 1 + (w 3).val ∧ s.val * 1 + (w 3).val - n < n + 1 by omega)
    · rw [dif_neg, if_neg hk]
      · rfl
      · intro hin
        have := (hin 3).1
        change n ≤ s.val * 1 + (w 3).val at this
        omega

/-- The sums from each position on, along the last axis of three. -/
theorem suffix3 {A B : ℕ} {n : ℕ} {u : Shape} (x : (⟨3, ![A, B, n + 1]⟩ : Shape).Idx → EReal) (init : u.Idx → EReal)
    (h : (⟨3, ![A, B, n + 1]⟩ : Shape).ReduceWindows (![1, 1, n + 1] : Fin 3 → ℕ) ![1, 1, 1] ![0, 0, 0] ![0, 0, n] ⟨3, ![A, B, n + 1]⟩)
    (hu : 0 < u.numel) (hv : init (Shape.Idx.first hu) = 0) (a : Fin A) (b : Fin B) (s : Fin (n + 1)) (f : ℕ → ℝ)
    (hf : ∀ j : Fin (n + 1), x (ix3 a b j) = ((f j.val : ℝ) : EReal)) :
    Host.reduceWindowAdd (F := Ideal) (φ := .f32) ![1, 1, n + 1] ![1, 1, 1] ![0, 0, 0] ![0, 0, n] x init h hu (ix3 a b s)
      = ((∑ j ∈ Finset.range (n + 1), if s.val ≤ j then f j else 0 : ℝ) : EReal) := by
  refine (window_sum _ _ _ _ x init h hu hv _).trans ?_
  rw [← suffix_real f (n + 1) s.val (by omega), ← Fin.sum_univ_eq_sum_range (fun k => if s.val + k < n + 1 then f (s.val + k) else 0), ← sum_coe]
  refine Fintype.sum_bijective (fun w => (w 2 : Fin (n + 1))) ⟨fun w w' e => ?_, fun k => ⟨ix3 (0 : Fin 1) (0 : Fin 1) k, rfl⟩⟩ _ _ (fun w => ?_)
  · funext a
    match a with
    | ⟨0, _⟩ => exact Subsingleton.elim (α := Fin 1) _ _
    | ⟨1, _⟩ => exact Subsingleton.elim (α := Fin 1) _ _
    | ⟨2, _⟩ => exact e
  · have h0 : (w 0).val < 1 := (w 0).isLt
    have h1 : (w 1).val < 1 := (w 1).isLt
    by_cases hk : s.val + (w 2).val < n + 1
    · rw [dif_pos, if_pos hk]
      · refine Eq.trans (congrArg x ?_) (hf ⟨s.val + (w 2).val, hk⟩)
        funext d
        match d with
        | ⟨0, _⟩ => exact Fin.ext (show a.val * 1 + (w 0).val - 0 = a.val by omega)
        | ⟨1, _⟩ => exact Fin.ext (show b.val * 1 + (w 1).val - 0 = b.val by omega)
        | ⟨2, _⟩ => exact Fin.ext (show s.val * 1 + (w 2).val - 0 = s.val + (w 2).val by omega)
      · intro d
        match d with
        | ⟨0, _⟩ => exact (show 0 ≤ a.val * 1 + (w 0).val ∧ a.val * 1 + (w 0).val - 0 < A by have := a.isLt; omega)
        | ⟨1, _⟩ => exact (show 0 ≤ b.val * 1 + (w 1).val ∧ b.val * 1 + (w 1).val - 0 < B by have := b.isLt; omega)
        | ⟨2, _⟩ => exact (show 0 ≤ s.val * 1 + (w 2).val ∧ s.val * 1 + (w 2).val - 0 < n + 1 by omega)
    · rw [dif_neg, if_neg hk]
      · rfl
      · intro hin
        have := (hin 2).2
        change s.val * 1 + (w 2).val - 0 < n + 1 at this
        omega

end Cert.AttnSpec

end
-- ==== Proof.Attn.Host.lean ====
/-
  The host's softplus and logistic fraction at a real number, and the columns of the arrays that belong to one head.
-/
module
public import proofs.«01_k».proof.Proof.Attn.Window
@[expose] public section
noncomputable section
namespace Cert.AttnSpec
open Idealize.ShloMosaic

theorem zero_word : (FloatOps.ofBits (F := Ideal) .f32 0x00000000#32 : EReal) = 0 := Ideal.ofBits_zero_f32

theorem inf_word : (FloatOps.ofBits (F := Ideal) .f32 0x7F800000#32 : EReal) = ⊤ := by
  show Ideal.ofBits .f32 0x7F800000#32 = ⊤
  simp [Ideal.ofBits, Ideal.ieee]

/-- The host's softplus at a real number. -/
theorem softplus_host (z : ℝ) :
    Scalar.select (FloatOps.cmpf (F := Ideal) (φ := .f32) .une (FloatOps.subf (F := Ideal) (φ := .f32) ((z : ℝ) : EReal) (FloatOps.ofBits .f32 0x00000000#32))
        (FloatOps.subf (F := Ideal) (φ := .f32) ((z : ℝ) : EReal) (FloatOps.ofBits .f32 0x00000000#32)))
      (FloatOps.addf (F := Ideal) (φ := .f32) ((z : ℝ) : EReal) (FloatOps.ofBits .f32 0x00000000#32))
      (FloatOps.addf (F := Ideal) (φ := .f32) (FloatOps.maximumf (F := Ideal) (φ := .f32) ((z : ℝ) : EReal) (FloatOps.ofBits .f32 0x00000000#32))
        (FloatOps.hostUnary (F := Ideal) (φ := .f32) .log1p (FloatOps.hostUnary (F := Ideal) (φ := .f32) .exp (FloatOps.hostNegf (F := Ideal) (φ := .f32)
          (FloatOps.hostAbsf (F := Ideal) (φ := .f32) (FloatOps.subf (F := Ideal) (φ := .f32) ((z : ℝ) : EReal) (FloatOps.ofBits .f32 0x00000000#32)))))))
      = ((softplus z : ℝ) : EReal) := by
  have h : FloatOps.subf (F := Ideal) (φ := .f32) ((z : ℝ) : EReal) (FloatOps.ofBits .f32 0x00000000#32) = ((z : ℝ) : EReal) := by
    rw [zero_word]; exact sub_zero _
  rw [h]
  have e : FloatOps.cmpf (F := Ideal) (φ := .f32) .une ((z : ℝ) : EReal) ((z : ℝ) : EReal) = 0#1 := by
    show Ideal.cmp .une ((z : ℝ) : EReal) ((z : ℝ) : EReal) = _
    simp [Ideal.cmp]
  rw [e, zero_word]
  refine Eq.trans ?_ (softplus_coe z)
  show max (z : EReal) 0 + Ideal.log (1 + Ideal.exp (-(max (z : EReal) (-(z : EReal))))) = _
  rw [abs_coe, zero_sub]

/-- A number that is not infinite stays. -/
theorem finite_host (x : ℝ) (y : EReal) :
    Scalar.select (FloatOps.cmpf (F := Ideal) (φ := .f32) .oeq ((x : ℝ) : EReal) (FloatOps.ofBits .f32 0x7F800000#32)) y ((x : ℝ) : EReal) = ((x : ℝ) : EReal) := by
  have e : FloatOps.cmpf (F := Ideal) (φ := .f32) .oeq ((x : ℝ) : EReal) (FloatOps.ofBits .f32 0x7F800000#32) = 0#1 := by
    rw [inf_word]
    show Ideal.cmp .oeq ((x : ℝ) : EReal) ⊤ = _
    simp [Ideal.cmp]
  rw [e]
  rfl

/-- `log (1 + exp (-x)) = log (1 + exp x) - x`. -/
theorem softplus_neg (x : ℝ) : softplus (-x) = softplus x - x := by
  unfold softplus
  rw [abs_neg]
  rcases le_total x 0 with h | h
  · rw [max_eq_left (by linarith), max_eq_right h]; ring
  · rw [max_eq_right (by linarith), max_eq_left h]; ring

/-- `exp (softplus x) = 1 + exp x`. -/
theorem exp_softplus (x : ℝ) : Real.exp (softplus x) = 1 + Real.exp x := by
  unfold softplus
  rw [Real.exp_add, Real.exp_log (by positivity)]
  rcases le_total x 0 with h | h
  · rw [max_eq_right h, abs_of_nonpos h, Real.exp_zero, neg_neg, one_mul]
  · rw [max_eq_left h, abs_of_nonneg h, mul_add, ← Real.exp_add, add_neg_cancel, Real.exp_zero, mul_one, add_comm]

/-- The two logistic fractions add up to one. -/
theorem logistic_neg (x : ℝ) : Real.exp (-x - softplus (-x)) = 1 - Real.exp (x - softplus x) := by
  rw [softplus_neg, show -x - (softplus x - x) = -softplus x by ring, Real.exp_sub, Real.exp_neg, exp_softplus]
  have : (1 : ℝ) + Real.exp x ≠ 0 := by positivity
  field_simp
  ring

/-- Head `h` of the queries, the keys and the values in the columns of the projection, and of the output's gradient. -/
def colq (X : ℕ → ℕ → ℝ) (h t d : ℕ) : ℝ := X t (128 * h + d)
def colk (X : ℕ → ℕ → ℝ) (h t d : ℕ) : ℝ := X t (1024 + (128 * h + d))
def colv (X : ℕ → ℕ → ℝ) (h t d : ℕ) : ℝ := X t (2048 + (128 * h + d))

/-- The scores of head `h`. -/
abbrev scores (X : ℕ → ℕ → ℝ) (h : ℕ) : ℕ → ℕ → ℝ := score (colq X h) (colk X h)

end Cert.AttnSpec

end
-- ==== Proof.Attn.Runs.lean ====
/-
  The sums that the host lines before the kernel compute: for a query and a strip of 512 keys, the sum of the logarithms
  of what the keys beyond the strip leave.
-/
module

public import proofs.«01_k».proof.Proof.Attn.Host
public import proofs.«01_k».proof.Proof.Gen.KernelIdeal.Frame
public import Idealize.ShloMosaic.Lib.StableHlo.Run
public import Idealize.ShloMosaic.Lib.WordCmp
public import Idealize.ShloMosaic.Lib.Pointwise

@[expose] public section

set_option maxRecDepth 16384

noncomputable section

namespace Cert.KernelIdeal.Attn

open Idealize.ShloMosaic Idealize.ShloMosaic.TcCoe Idealize.ShloMosaic.StableHlo
open Cert.KernelIdeal Cert.KernelIdeal.Gen Cert.AttnSpec

variable (x0 : (⟨S2048x5120, .f32⟩ : BufTy).Contents (Elt Ideal))

/-- The queries and the keys by head. -/
def hq : FVec Ideal S2048x8x128 .f32 := shapeCast _ (extractStridedSlice S2048x1024 ![0, 0] x0 slices_S2048x5120_S2048x1024_0_0) shapeCasts_S2048x1024_S2048x8x128
def hk : FVec Ideal S2048x8x128 .f32 := shapeCast _ (extractStridedSlice S2048x1024 ![0, 1024] x0 slices_S2048x5120_S2048x1024_0_1024) shapeCasts_S2048x1024_S2048x8x128

/-- The scores. -/
def hz : FVec Ideal S8x2048x2048 .f32 :=
  mulf (Host.dotGeneral dot_S2048x8x128_S2048x8x128_S8x2048x2048_2_2_0_0_1_1 none (hq x0) (hk x0)) (broadcastInDim S8x2048x2048 ![] bcast_S_S8x2048x2048 (constant S_ .f32 0x3DB504F3#32))

/-- The mask. -/
def hmask : IVec S2048x2048 1 :=
  cmpi .slt (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

/-- A zero everywhere. -/
def hzero : FVec Ideal S8x2048x2048 .f32 := broadcastInDim S8x2048x2048 ![] bcast_S_S8x2048x2048 (constant S_ .f32 0x00000000#32)

/-- The softplus of an array. -/
def hsoftplus (z : FVec Ideal S8x2048x2048 .f32) : FVec Ideal S8x2048x2048 .f32 :=
  select (cmpf .une (subf z hzero) (subf z hzero)) (addf z hzero) (addf (maximumf z hzero) (Host.log1p (Host.exp (Host.negf (Host.absf (subf z hzero))))))

/-- The logarithms. -/
def hkeep : FVec Ideal S8x2048x2048 .f32 :=
  select (broadcastInDim S8x2048x2048 ![1, 2] bcast_S2048x2048_S8x2048x2048_1_2 hmask) (Host.negf (hsoftplus (Host.negf (Host.negf (hz x0))))) hzero

/-- The sums over each strip. -/
def hstrips : FVec Ideal S8x2048x4 .f32 :=
  Host.reduceAdd (shapeCast S8x2048x4x512 (hkeep x0) shapeCasts_S8x2048x2048_S8x2048x4x512) (constant S_ .f32 0x00000000#32) reducesTo_S8x2048x4x512_S8x2048x4_d3 h_S_

/-- The sums beyond each strip. -/
def hbeyond : FVec Ideal S8x2048x4 .f32 :=
  subf (Host.reduceWindowAdd ![1, 1, 4] ![1, 1, 1] ![0, 0, 0] ![0, 0, 3] (hstrips x0) (broadcastInDim S_ ![] bcast_S_S_ (constant S_ .f32 0x00000000#32))
    reduceWindows_S8x2048x4_S8x2048x4_w1s1p0_0_w1s1p0_0_w4s1p0_3 h_S_) (hstrips x0)

/-- The array the kernel reads. -/
def hruns : FVec Ideal S8x4x4x8x512 .f32 :=
  broadcastInDim S8x4x4x8x512 ![0, 1, 2, 3, 4] bcast_S8x4x4x1x512_S8x4x4x8x512_0_1_2_3_4 (broadcastInDim S8x4x4x1x512 ![0, 1, 2, 4] bcast_S8x4x4x512_S8x4x4x1x512_0_1_2_4
    (transpose S8x4x4x512 [0, 1, 3, 2] (shapeCast S8x4x512x4 (hbeyond x0) shapeCasts_S8x2048x4_S8x4x512x4) transposes_S8x4x512x4_S8x4x4x512_0_1_3_2))

set_option maxHeartbeats 4000000 in
theorem V_runs (m : (ℓ : Loc nD τ sig) → Buf (Elt Ideal) ℓ) (c : Dev nD) : V m c main_v24 = hruns (m ((c : Thread nD τ).loc main_arg0)) := by
  unfold V
  simp only [hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp
  rfl

/-- A sum over strips of 512. -/
theorem sum_strips (f : ℕ → ℝ) (m : ℕ) : ∑ j ∈ Finset.range (512 * m), f j = ∑ n ∈ Finset.range m, ∑ r ∈ Finset.range 512, f (512 * n + r) := by
  induction m with
  | zero => rfl
  | succ m ih => rw [Finset.sum_range_succ _ m, Nat.mul_succ, sum_split, ih]

/-- The sums of the strips from one on, without that one: the sum over what lies beyond it. -/
theorem beyond_real (f : ℕ → ℝ) (n : ℕ) (hn : n < 4) :
    (∑ k ∈ Finset.range 4, if n ≤ k then ∑ r ∈ Finset.range 512, f (512 * k + r) else 0) - ∑ r ∈ Finset.range 512, f (512 * n + r)
      = ∑ j ∈ Finset.range 2048, if 512 * (n + 1) ≤ j then f j else 0 := by
  refine Eq.trans ?_ (sum_strips _ 4).symm
  rw [sub_eq_iff_eq_add, ← Finset.sum_ite_eq_of_mem' (Finset.range 4) n (fun k => ∑ r ∈ Finset.range 512, f (512 * k + r)) (Finset.mem_range.mpr hn), ← Finset.sum_add_distrib]
  refine Finset.sum_congr rfl fun k _ => ?_
  rcases lt_trichotomy n k with h | h | h
  · rw [if_pos h.le, if_neg (by omega), add_zero]
    exact Finset.sum_congr rfl fun r _ => (if_pos (by omega)).symm
  · subst h
    rw [if_pos le_rfl, if_pos rfl, Finset.sum_eq_zero fun r hr => if_neg (by have := Finset.mem_range.mp hr; omega), zero_add]
  · rw [if_neg (by omega), if_neg (by omega), add_zero]
    exact (Finset.sum_eq_zero fun r hr => if_neg (by have := Finset.mem_range.mp hr; omega)).symm

/-- The mask: the key comes before the query. -/
theorem hmask_apply (i : S2048x2048.Idx) (a b : EReal) : Scalar.select (hmask i) a b = if (i 1).val < (i 0).val then a else b := by
  have h0 : (i 0).val < 2048 := (i 0).isLt
  have h1 : (i 1).val < 2048 := (i 1).isLt
  show Scalar.select (IntOp.cmpi .slt (BitVec.ofNat 32 (i 1).val) (BitVec.ofNat 32 (i 0).val)) a b = _
  rw [WordCmp.cmpi_slt_ofNat (by omega) (by omega)]
  by_cases h : (i 1).val < (i 0).val
  · rw [if_pos h, decide_eq_true h]; rfl
  · rw [if_neg h, decide_eq_false h]; rfl

/-- How the product of queries and keys reads its two arrays. -/
theorem dot_l0 (i : S8x2048x2048.Idx) (q : dot_S2048x8x128_S2048x8x128_S8x2048x2048_2_2_0_0_1_1.contr.Idx) : (dot_S2048x8x128_S2048x8x128_S8x2048x2048_2_2_0_0_1_1.lhsIdx i q 0).val = (i 1).val := by
  unfold DotDims.lhsIdx
  rw [dif_neg (show ¬(0 : Fin S2048x8x128.rank) ∈ dot_S2048x8x128_S2048x8x128_S8x2048x2048_2_2_0_0_1_1.lhsBatch by decide), dif_pos (show (0 : Fin S2048x8x128.rank) ∈ dot_S2048x8x128_S2048x8x128_S8x2048x2048_2_2_0_0_1_1.lhsNonContracting by decide)]
  rfl
theorem dot_l1 (i : S8x2048x2048.Idx) (q : dot_S2048x8x128_S2048x8x128_S8x2048x2048_2_2_0_0_1_1.contr.Idx) : (dot_S2048x8x128_S2048x8x128_S8x2048x2048_2_2_0_0_1_1.lhsIdx i q 1).val = (i 0).val := by
  unfold DotDims.lhsIdx
  rw [dif_pos (show (1 : Fin S2048x8x128.rank) ∈ dot_S2048x8x128_S2048x8x128_S8x2048x2048_2_2_0_0_1_1.lhsBatch by decide)]
  rfl
theorem dot_r0 (i : S8x2048x2048.Idx) (q : dot_S2048x8x128_S2048x8x128_S8x2048x2048_2_2_0_0_1_1.contr.Idx) : (dot_S2048x8x128_S2048x8x128_S8x2048x2048_2_2_0_0_1_1.rhsIdx i q 0).val = (i 2).val := by
  unfold DotDims.rhsIdx
  rw [dif_neg (show ¬(0 : Fin S2048x8x128.rank) ∈ dot_S2048x8x128_S2048x8x128_S8x2048x2048_2_2_0_0_1_1.rhsBatch by decide), dif_pos (show (0 : Fin S2048x8x128.rank) ∈ dot_S2048x8x128_S2048x8x128_S8x2048x2048_2_2_0_0_1_1.rhsNonContracting by decide)]
  rfl
theorem dot_r1 (i : S8x2048x2048.Idx) (q : dot_S2048x8x128_S2048x8x128_S8x2048x2048_2_2_0_0_1_1.contr.Idx) : (dot_S2048x8x128_S2048x8x128_S8x2048x2048_2_2_0_0_1_1.rhsIdx i q 1).val = (i 0).val := by
  unfold DotDims.rhsIdx
  rw [dif_pos (show (1 : Fin S2048x8x128.rank) ∈ dot_S2048x8x128_S2048x8x128_S8x2048x2048_2_2_0_0_1_1.rhsBatch by decide)]
  rfl

section Entries

variable (X : ℕ → ℕ → ℝ) (hx : ∀ i, x0 i = ((X (i 0).val (i 1).val : ℝ) : EReal))

include hx

theorem hq_apply (t : Fin 2048) (h : Fin 8) (d : Fin 128) : hq x0 (ix3 t h d) = ((colq X h.val t.val d.val : ℝ) : EReal) := by
  refine (shapeCast_apply _ _ (ix3 t h d) (ix2 t (⟨128 * h.val + d.val, by omega⟩ : Fin 1024)) ?_).trans ?_
  · rewrite [Shape.rowMajor_val_two, Shape.rowMajor_val_three]
    show t.val * 1024 + (128 * h.val + d.val) = (t.val * 8 + h.val) * 128 + d.val
    omega
  · refine (extractStridedSlice_apply _ _ _ _ (ix2 t (⟨128 * h.val + d.val, by omega⟩ : Fin 5120)) fun a => ?_).trans (hx _)
    match a with
    | ⟨0, _⟩ => exact (Nat.zero_add _).symm
    | ⟨1, _⟩ => exact (Nat.zero_add _).symm

theorem hk_apply (t : Fin 2048) (h : Fin 8) (d : Fin 128) : hk x0 (ix3 t h d) = ((colk X h.val t.val d.val : ℝ) : EReal) := by
  refine (shapeCast_apply _ _ (ix3 t h d) (ix2 t (⟨128 * h.val + d.val, by omega⟩ : Fin 1024)) ?_).trans ?_
  · rewrite [Shape.rowMajor_val_two, Shape.rowMajor_val_three]
    show t.val * 1024 + (128 * h.val + d.val) = (t.val * 8 + h.val) * 128 + d.val
    omega
  · refine (extractStridedSlice_apply _ _ _ _ (ix2 t (⟨1024 + (128 * h.val + d.val), by omega⟩ : Fin 5120)) fun a => ?_).trans (hx _)
    match a with
    | ⟨0, _⟩ => exact (Nat.zero_add _).symm
    | ⟨1, _⟩ => rfl

/-- The scores of a head. -/
theorem hz_apply (h : Fin 8) (t s : Fin 2048) : hz x0 (ix3 h t s) = ((scores X h.val t.val s.val : ℝ) : EReal) := by
  have e : Host.dotGeneral (F := Ideal) dot_S2048x8x128_S2048x8x128_S8x2048x2048_2_2_0_0_1_1 none (hq x0) (hk x0) (ix3 h t s)
      = ((∑ d ∈ Finset.range 128, colq X h.val t.val d * colk X h.val s.val d : ℝ) : EReal) := by
    simp only [Host.dotGeneral]
    rw [Ideal.dotGeneral_apply, ← Equiv.sum_comp (ValueIdx.contrEquiv1 dot_S2048x8x128_S2048x8x128_S8x2048x2048_2_2_0_0_1_1 128 rfl rfl).symm]
    refine sum_fin _ (fun d => colq X h.val t.val d * colk X h.val s.val d) fun k => ?_
    have hk' := ValueIdx.contrEquiv1_symm_val dot_S2048x8x128_S2048x8x128_S8x2048x2048_2_2_0_0_1_1 128 rfl rfl k
    have el : dot_S2048x8x128_S2048x8x128_S8x2048x2048_2_2_0_0_1_1.lhsIdx (ix3 h t s) ((ValueIdx.contrEquiv1 dot_S2048x8x128_S2048x8x128_S8x2048x2048_2_2_0_0_1_1 128 rfl rfl).symm k) = ix3 t h k := funext fun a => Fin.ext (by
      match a with
      | ⟨0, _⟩ => exact dot_l0 _ _
      | ⟨1, _⟩ => exact dot_l1 _ _
      | ⟨2, _⟩ => exact (dot_S2048x8x128_S2048x8x128_S8x2048x2048_2_2_0_0_1_1.lhsIdx_val_of_single rfl _ _).trans hk')
    have er : dot_S2048x8x128_S2048x8x128_S8x2048x2048_2_2_0_0_1_1.rhsIdx (ix3 h t s) ((ValueIdx.contrEquiv1 dot_S2048x8x128_S2048x8x128_S8x2048x2048_2_2_0_0_1_1 128 rfl rfl).symm k) = ix3 s h k := funext fun a => Fin.ext (by
      match a with
      | ⟨0, _⟩ => exact dot_r0 _ _
      | ⟨1, _⟩ => exact dot_r1 _ _
      | ⟨2, _⟩ => exact (dot_S2048x8x128_S2048x8x128_S8x2048x2048_2_2_0_0_1_1.rhsIdx_val_of_single rfl _ _).trans hk')
    rw [el, er, hq_apply x0 X hx, hk_apply x0 X hx, EReal.coe_mul]
  show Host.dotGeneral (F := Ideal) dot_S2048x8x128_S2048x8x128_S8x2048x2048_2_2_0_0_1_1 none (hq x0) (hk x0) (ix3 h t s) * Ideal.ofBits .f32 0x3DB504F3#32 = _
  rw [e, scale_eq, ← EReal.coe_mul]
  rfl

/-- The logarithm of what a key leaves. -/
theorem hkeep_apply (h : Fin 8) (t s : Fin 2048) : hkeep x0 (ix3 h t s) = ((keep (scores X h.val) t.val s.val : ℝ) : EReal) := by
  have e0 : Host.negf (F := Ideal) (Host.negf (hz x0)) (ix3 h t s) = ((scores X h.val t.val s.val : ℝ) : EReal) :=
    (neg_neg (hz x0 (ix3 h t s))).trans (hz_apply x0 X hx h t s)
  have e1 : hsoftplus (Host.negf (Host.negf (hz x0))) (ix3 h t s) = ((softplus (scores X h.val t.val s.val) : ℝ) : EReal) := by
    generalize Host.negf (F := Ideal) (Host.negf (hz x0)) = z at e0 ⊢
    refine Eq.trans ?_ (softplus_host (scores X h.val t.val s.val))
    rw [← e0]
    rfl
  have e2 : broadcastInDim S8x2048x2048 ![1, 2] bcast_S2048x2048_S8x2048x2048_1_2 hmask (ix3 h t s) = hmask (ix2 t s) :=
    broadcastInDim_apply _ _ _ _ _ fun a => by
      match a with
      | ⟨0, _⟩ => rfl
      | ⟨1, _⟩ => rfl
  show Scalar.select (broadcastInDim S8x2048x2048 ![1, 2] bcast_S2048x2048_S8x2048x2048_1_2 hmask (ix3 h t s))
    (-(hsoftplus (Host.negf (Host.negf (hz x0))) (ix3 h t s))) (Ideal.ofBits .f32 0x00000000#32) = _
  rw [e2, hmask_apply, e1]
  unfold keep
  show (if s.val < t.val then _ else _) = _
  split
  · rfl
  · exact zero_word

/-- The sum over a strip. -/
theorem hstrips_apply (h : Fin 8) (t : Fin 2048) (n : Fin 4) :
    hstrips x0 (ix3 h t n) = ((∑ r ∈ Finset.range 512, keep (scores X h.val) t.val (512 * n.val + r) : ℝ) : EReal) := by
  have e := sum_fin (fun r : Fin 512 => shapeCast S8x2048x4x512 (hkeep x0) shapeCasts_S8x2048x2048_S8x2048x4x512 (ix4 h t n r))
    (fun r => keep (scores X h.val) t.val (512 * n.val + r)) fun r => by
      refine (shapeCast_apply _ _ (ix4 h t n r) (ix3 h t (⟨512 * n.val + r.val, by omega⟩ : Fin 2048)) ?_).trans (hkeep_apply x0 X hx _ _ _)
      rewrite [Shape.rowMajor_val_three, Shape.rowMajor_val_four]
      show (h.val * 2048 + t.val) * 2048 + (512 * n.val + r.val) = ((h.val * 2048 + t.val) * 4 + n.val) * 512 + r.val
      omega
  rw [← e]
  refine (Ideal.hostReduceAdd_r4_a3 _ _ _ _).trans ?_
  refine (congrArg₂ (· + ·) zero_word rfl).trans (zero_add _)

/-- The sum beyond a strip. -/
theorem hbeyond_apply (h : Fin 8) (t : Fin 2048) (n : Fin 4) :
    hbeyond x0 (ix3 h t n) = ((∑ j ∈ Finset.range 2048, if 512 * (n.val + 1) ≤ j then keep (scores X h.val) t.val j else 0 : ℝ) : EReal) := by
  rw [← beyond_real _ n.val n.isLt, EReal.coe_sub, ← hstrips_apply x0 X hx h t n]
  refine congrArg (· - hstrips x0 (ix3 h t n)) ?_
  exact suffix3 (n := 3) (hstrips x0) _ _ _ zero_word h t n (fun k => ∑ r ∈ Finset.range 512, keep (scores X h.val) t.val (512 * k + r)) fun j => hstrips_apply x0 X hx h t j

/-- What the kernel reads: for a query and a strip, the sum beyond the strip. -/
theorem hruns_apply (h : Fin 8) (t n : Fin 4) (a : Fin 8) (r : Fin 512) :
    hruns x0 (ix5 h t n a r) = ((∑ j ∈ Finset.range 2048, if 512 * (n.val + 1) ≤ j then keep (scores X h.val) (512 * t.val + r.val) j else 0 : ℝ) : EReal) := by
  refine (broadcastInDim_apply _ _ _ _ (ix5 h t n (0 : Fin 1) r) fun b => ?_).trans ?_
  · match b with
    | ⟨0, _⟩ => rfl
    | ⟨1, _⟩ => rfl
    | ⟨2, _⟩ => rfl
    | ⟨3, _⟩ => rfl
    | ⟨4, _⟩ => rfl
  refine (broadcastInDim_apply _ _ _ _ (ix4 h t n r) fun b => ?_).trans ?_
  · match b with
    | ⟨0, _⟩ => rfl
    | ⟨1, _⟩ => rfl
    | ⟨2, _⟩ => rfl
    | ⟨3, _⟩ => rfl
  refine (transpose_apply _ _ _ _ (ix4 h t r n) fun b => ?_).trans ?_
  · match b with
    | ⟨0, _⟩ => rfl
    | ⟨1, _⟩ => rfl
    | ⟨2, _⟩ => rfl
    | ⟨3, _⟩ => rfl
  refine (shapeCast_apply _ _ _ (ix3 h (⟨512 * t.val + r.val, by omega⟩ : Fin 2048) n) ?_).trans (hbeyond_apply x0 X hx _ _ _)
  rewrite [Shape.rowMajor_val_three, Shape.rowMajor_val_four]
  show (h.val * 2048 + (512 * t.val + r.val)) * 4 + n.val = ((h.val * 4 + t.val) * 512 + r.val) * 4 + n.val
  omega

end Entries

end Cert.KernelIdeal.Attn

end
-- ==== Proof.Attn.Value.lean ====
/-
  The arrays that the kernel leaves: where the arguments are real, its three results are the gradients of the queries,
  the keys and the values of every head.
-/
module

public import proofs.«01_k».proof.Proof.Attn.Outer
public import proofs.«01_k».proof.Proof.Attn.Runs
public import proofs.«01_k».proof.Proof.Attn.Run
public import Idealize.ShloMosaic.Lib.Pipeline.ValueKit.Geometry

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen Cert.AttnSpec

/-- The block of each window at a grid point. -/
theorem index_0 : ∀ t : Fin cfg0.N, win0_0.index t 0 = 0 ∧ win0_0.index t 1 = t.val := (by decide +kernel : ∀ t : Fin grid0.N, _)
theorem index_1 : ∀ t : Fin cfg0.N, win0_1.index t 0 = 0 ∧ win0_1.index t 1 = 4 + t.val := (by decide +kernel : ∀ t : Fin grid0.N, _)
theorem index_2 : ∀ t : Fin cfg0.N, win0_2.index t 0 = 0 ∧ win0_2.index t 1 = 8 + t.val := (by decide +kernel : ∀ t : Fin grid0.N, _)
theorem index_3 : ∀ t : Fin cfg0.N, win0_3.index t 0 = 0 ∧ win0_3.index t 1 = t.val := (by decide +kernel : ∀ t : Fin grid0.N, _)
theorem index_4 : ∀ t : Fin cfg0.N, win0_4.index t 0 = t.val ∧ win0_4.index t 1 = 0 ∧ win0_4.index t 2 = 0 ∧ win0_4.index t 3 = 0 ∧ win0_4.index t 4 = 0 :=
  (by decide +kernel : ∀ t : Fin grid0.N, _)
theorem index_5 : ∀ t : Fin cfg0.N, win0_5.index t 0 = 0 ∧ win0_5.index t 1 = t.val := (by decide +kernel : ∀ t : Fin grid0.N, _)
theorem index_6 : ∀ t : Fin cfg0.N, win0_6.index t 0 = 0 ∧ win0_6.index t 1 = t.val := (by decide +kernel : ∀ t : Fin grid0.N, _)
theorem index_7 : ∀ t : Fin cfg0.N, win0_7.index t 0 = 0 ∧ win0_7.index t 1 = t.val := (by decide +kernel : ∀ t : Fin grid0.N, _)

/-- What the three results hold, from the real entries of the arguments. -/
def dqs (X Y : ℕ → ℕ → ℝ) (i : S2048x1024.Idx) : EReal :=
  ((dq (colk X ((i 1).val / 128)) (colv X ((i 1).val / 128)) (colq Y ((i 1).val / 128)) (scores X ((i 1).val / 128)) (i 0).val ((i 1).val % 128) : ℝ) : EReal)
def dks (X Y : ℕ → ℕ → ℝ) (i : S2048x1024.Idx) : EReal :=
  ((dk (colq X ((i 1).val / 128)) (colv X ((i 1).val / 128)) (colq Y ((i 1).val / 128)) (scores X ((i 1).val / 128)) (i 0).val ((i 1).val % 128) : ℝ) : EReal)
def dvs (X Y : ℕ → ℕ → ℝ) (i : S2048x1024.Idx) : EReal :=
  ((dv (colq Y ((i 1).val / 128)) (scores X ((i 1).val / 128)) (i 0).val ((i 1).val % 128) : ℝ) : EReal)

variable (m : (ℓ : Loc nD τ sig) → Buf (Elt Ideal) ℓ) (c : Dev nD) (X Y : ℕ → ℕ → ℝ)

section Block

variable (hX : ∀ i : S2048x5120.Idx, m ((c : Thread nD τ).loc main_arg0) i = ((X (i 0).val (i 1).val : ℝ) : EReal))
  (hY : ∀ i : S2048x1024.Idx, m ((c : Thread nD τ).loc main_arg1) i = ((Y (i 0).val (i 1).val : ℝ) : EReal)) (t : Fin cfg0.N)

section
include hX

theorem blk_q (s : Fin 2048) (b : Fin 256) : iblk m c 0 t (ix2 s b) = ((colq X (2 * t.val + b.val / 128) s.val (b.val % 128) : ℝ) : EReal) := by
  have e := index_0 t
  unfold iblk
  rw [View.read_apply]
  show V m c main_arg0 _ = _
  rw [V_main_arg0, hX]
  refine congrArg Real.toEReal (congrArg₂ X ?_ ?_)
  · show win0_0.index t 0 * 2048 + 1 * s.val = s.val
    rw [e.1]; omega
  · show win0_0.index t 1 * 256 + 1 * b.val = _
    rw [e.2]; omega

theorem blk_k (s : Fin 2048) (b : Fin 256) : iblk m c 1 t (ix2 s b) = ((colk X (2 * t.val + b.val / 128) s.val (b.val % 128) : ℝ) : EReal) := by
  have e := index_1 t
  unfold iblk
  rw [View.read_apply]
  show V m c main_arg0 _ = _
  rw [V_main_arg0, hX]
  refine congrArg Real.toEReal (congrArg₂ X ?_ ?_)
  · show win0_1.index t 0 * 2048 + 1 * s.val = s.val
    rw [e.1]; omega
  · show win0_1.index t 1 * 256 + 1 * b.val = _
    rw [e.2]; omega

theorem blk_v (s : Fin 2048) (b : Fin 256) : iblk m c 2 t (ix2 s b) = ((colv X (2 * t.val + b.val / 128) s.val (b.val % 128) : ℝ) : EReal) := by
  have e := index_2 t
  unfold iblk
  rw [View.read_apply]
  show V m c main_arg0 _ = _
  rw [V_main_arg0, hX]
  refine congrArg Real.toEReal (congrArg₂ X ?_ ?_)
  · show win0_2.index t 0 * 2048 + 1 * s.val = s.val
    rw [e.1]; omega
  · show win0_2.index t 1 * 256 + 1 * b.val = _
    rw [e.2]; omega

theorem blk_r (h : Fin 2) (u n : Fin 4) (a : Fin 8) (r : Fin 512) : iblk m c 4 t (ix5 h u n a r)
    = ((∑ j ∈ Finset.range 2048, if 512 * (n.val + 1) ≤ j then keep (scores X (2 * t.val + h.val)) (512 * u.val + r.val) j else 0 : ℝ) : EReal) := by
  have e := index_4 t
  have ht : t.val < 4 := t.isLt.trans_eq N_0
  unfold iblk
  rw [View.read_apply]
  show V m c main_v24 _ = _
  rw [V_runs]
  refine Eq.trans (congrArg _ ?_) (hruns_apply _ X hX (⟨2 * t.val + h.val, by omega⟩ : Fin 8) u n a r)
  funext b
  refine Fin.ext ?_
  match b with
  | ⟨0, _⟩ => show win0_4.index t 0 * 2 + 1 * h.val = 2 * t.val + h.val; rw [e.1]; omega
  | ⟨1, _⟩ => show win0_4.index t 1 * 4 + 1 * u.val = u.val; rw [e.2.1]; omega
  | ⟨2, _⟩ => show win0_4.index t 2 * 4 + 1 * n.val = n.val; rw [e.2.2.1]; omega
  | ⟨3, _⟩ => show win0_4.index t 3 * 8 + 1 * a.val = a.val; rw [e.2.2.2.1]; omega
  | ⟨4, _⟩ => show win0_4.index t 4 * 512 + 1 * r.val = r.val; rw [e.2.2.2.2]; omega

end

section
include hY

theorem blk_d (s : Fin 2048) (b : Fin 256) : iblk m c 3 t (ix2 s b) = ((colq Y (2 * t.val + b.val / 128) s.val (b.val % 128) : ℝ) : EReal) := by
  have e := index_3 t
  unfold iblk
  rw [View.read_apply]
  show V m c main_arg1 _ = _
  rw [V_main_arg1, hY]
  refine congrArg Real.toEReal (congrArg₂ Y ?_ ?_)
  · show win0_3.index t 0 * 2048 + 1 * s.val = s.val
    rw [e.1]; omega
  · show win0_3.index t 1 * 256 + 1 * b.val = _
    rw [e.2]; omega

end

include hX hY

/-- The blocks of a grid point hold two heads. -/
theorem blocks : Blocks (iblk m c 0 t) (iblk m c 1 t) (iblk m c 2 t) (iblk m c 3 t) (iblk m c 4 t)
    (fun e => colq X (2 * t.val + e)) (fun e => colk X (2 * t.val + e)) (fun e => colv X (2 * t.val + e)) (fun e => colq Y (2 * t.val + e)) where
  q := blk_q m c X hX t
  k := blk_k m c X hX t
  v := blk_v m c X hX t
  o := blk_d m c Y hY t
  x := blk_r m c X hX t

theorem after_dqs (s : Fin 2048) (b : Fin 256) (i : S2048x1024.Idx) (h0 : (i 0).val = s.val) (h1 : (i 1).val = 256 * t.val + b.val) :
    (outs m c t).1 (ix2 s b) = dqs X Y i := by
  have e1 : 2 * t.val + b.val / 128 = (i 1).val / 128 := by omega
  have e2 : b.val % 128 = (i 1).val % 128 := by omega
  unfold outs
  dsimp only
  rw [out6_apply (HX := blocks m c X Y hX hY t)]
  unfold dqs scores
  rw [h0, ← e1, ← e2]

theorem after_dks (s : Fin 2048) (b : Fin 256) (i : S2048x1024.Idx) (h0 : (i 0).val = s.val) (h1 : (i 1).val = 256 * t.val + b.val) :
    (outs m c t).2.1 (ix2 s b) = dks X Y i := by
  have e1 : 2 * t.val + b.val / 128 = (i 1).val / 128 := by omega
  have e2 : b.val % 128 = (i 1).val % 128 := by omega
  unfold outs
  dsimp only
  rw [out7_apply (HX := blocks m c X Y hX hY t)]
  unfold dks scores
  rw [h0, ← e1, ← e2]

theorem after_dvs (s : Fin 2048) (b : Fin 256) (i : S2048x1024.Idx) (h0 : (i 0).val = s.val) (h1 : (i 1).val = 256 * t.val + b.val) :
    (outs m c t).2.2 (ix2 s b) = dvs X Y i := by
  have e1 : 2 * t.val + b.val / 128 = (i 1).val / 128 := by omega
  have e2 : b.val % 128 = (i 1).val % 128 := by omega
  unfold outs
  dsimp only
  rw [out8_apply (HX := blocks m c X Y hX hY t)]
  unfold dvs scores
  rw [h0, ← e1, ← e2]

end Block

section Arrays

variable (hX : ∀ i : S2048x5120.Idx, m ((c : Thread nD τ).loc main_arg0) i = ((X (i 0).val (i 1).val : ℝ) : EReal))
  (hY : ∀ i : S2048x1024.Idx, m ((c : Thread nD τ).loc main_arg1) i = ((Y (i 0).val (i 1).val : ℝ) : EReal))

include hX hY

theorem final_dqs : (dats m 0 c).arrAt 5 cfg0.N = dqs X Y := by
  refine (dats m 0 c).arrAt_eq_of_covers 5 _ (by decide +kernel) fun t _ y => ?_
  have e := index_5 t
  refine (congrFun (after_5 m c t) _).trans ?_
  refine Eq.trans (congrArg _ (eq_ix2 y)) (after_dqs m c X Y hX hY t (y 0) (y 1) _ ?_ ?_)
  · show win0_5.index t 0 * 2048 + 1 * (y 0).val = (y 0).val
    rw [e.1]; omega
  · show win0_5.index t 1 * 256 + 1 * (y 1).val = 256 * t.val + (y 1).val
    rw [e.2]; omega

theorem final_dks : (dats m 0 c).arrAt 6 cfg0.N = dks X Y := by
  refine (dats m 0 c).arrAt_eq_of_covers 6 _ (by decide +kernel) fun t _ y => ?_
  have e := index_6 t
  refine (congrFun (after_6 m c t) _).trans ?_
  refine Eq.trans (congrArg _ (eq_ix2 y)) (after_dks m c X Y hX hY t (y 0) (y 1) _ ?_ ?_)
  · show win0_6.index t 0 * 2048 + 1 * (y 0).val = (y 0).val
    rw [e.1]; omega
  · show win0_6.index t 1 * 256 + 1 * (y 1).val = 256 * t.val + (y 1).val
    rw [e.2]; omega

theorem final_dvs : (dats m 0 c).arrAt 7 cfg0.N = dvs X Y := by
  refine (dats m 0 c).arrAt_eq_of_covers 7 _ (by decide +kernel) fun t _ y => ?_
  have e := index_7 t
  refine (congrFun (after_7 m c t) _).trans ?_
  refine Eq.trans (congrArg _ (eq_ix2 y)) (after_dvs m c X Y hX hY t (y 0) (y 1) _ ?_ ?_)
  · show win0_7.index t 0 * 2048 + 1 * (y 0).val = (y 0).val
    rw [e.1]; omega
  · show win0_7.index t 1 * 256 + 1 * (y 1).val = 256 * t.val + (y 1).val
    rw [e.2]; omega

end Arrays

/-- The kernel's run: where the arguments are real, the three results end holding the gradients, and the arguments end as they were. -/
theorem run_value (ρ : Dev nD → PrngReg)
    (hX : ∀ (c : Dev nD) (i : S2048x5120.Idx), m ((c : Thread nD τ).loc main_arg0) i = ((X (i 0).val (i 1).val : ℝ) : EReal))
    (hY : ∀ (c : Dev nD) (i : S2048x1024.Idx), m ((c : Thread nD τ).loc main_arg1) i = ((Y (i 0).val (i 1).val : ℝ) : EReal)) :
    θ_run defs (onTc (τ := τ) (main (F := Ideal))) ⟨m, fun _ => 0, ρ⟩ (fun r => ∀ c : Dev nD,
      r.2.mem ((c.tc : Thread nD τ).loc main_v25_0) = dqs X Y
      ∧ r.2.mem ((c.tc : Thread nD τ).loc main_v25_1) = dks X Y
      ∧ r.2.mem ((c.tc : Thread nD τ).loc main_v25_2) = dvs X Y
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 5).trans (final_dqs m c X Y (hX c) (hY c)), ((h.1 c).1 6).trans (final_dks m c X Y (hX c) (hY c)),
      ((h.1 c).1 7).trans (final_dvs m c X Y (hX c) (hY c)), (h.2 c).1, (h.2 c).2⟩)
    (θ_run_and (run_main m ρ) (frame_of m ρ (dats m) (A_eq m) (run_main m ρ)))

end Cert.KernelIdeal.Attn

end
-- ==== Proof.Attn.Ref.lean ====
/-
  The reference over the extended reals, read entry by entry: where the arguments are real, its three results are the
  gradients of the queries, the keys and the values of every head.
-/
module

public import proofs.«01_k».proof.Proof.Attn.Host
public import proofs.«01_k».proof.Proof.Gen.ReferenceIdeal.Read
public import Idealize.ShloMosaic.Lib.WordCmp

@[expose] public section

set_option maxRecDepth 16384

noncomputable section

namespace Cert.ReferenceIdeal.Attn

open Idealize.ShloMosaic Cert.ReferenceIdeal Cert.ReferenceIdeal.Gen Cert.ReferenceIdeal.Read Cert.AttnSpec

variable (x0 : (⟨S2048x5120, .f32⟩ : BufTy).Contents (Elt Ideal)) (x1 : (⟨S2048x1024, .f32⟩ : BufTy).Contents (Elt Ideal))
  (X Y : ℕ → ℕ → ℝ)

section One

variable (hx : ∀ i, x0 i = ((X (i 0).val (i 1).val : ℝ) : EReal))

include hx

theorem v4_apply (i : S1x2048x8x128.Idx) : val_main_v4 (F := Ideal) x0 i = ((colq X (i 2).val (i 1).val (i 3).val : ℝ) : EReal) := by
  have h0 : (i 0).val < 1 := (i 0).isLt
  have h2 : (i 2).val < 8 := (i 2).isLt
  have h3 : (i 3).val < 128 := (i 3).isLt
  rw [val_main_v4_apply, val_main_v0_apply, hx]
  refine congrArg Real.toEReal (congrArg₂ X ?_ ?_)
  · show ((((i 0).val * 2048 + (i 1).val) * 8 + (i 2).val) * 128 + (i 3).val) / 1024 = (i 1).val; omega
  · show ((((i 0).val * 2048 + (i 1).val) * 8 + (i 2).val) * 128 + (i 3).val) % 1024 = 128 * (i 2).val + (i 3).val; omega

theorem v5_apply (i : S1x2048x8x128.Idx) : val_main_v5 (F := Ideal) x0 i = ((colk X (i 2).val (i 1).val (i 3).val : ℝ) : EReal) := by
  have h0 : (i 0).val < 1 := (i 0).isLt
  have h2 : (i 2).val < 8 := (i 2).isLt
  have h3 : (i 3).val < 128 := (i 3).isLt
  rw [val_main_v5_apply, val_main_v1_apply, hx]
  refine congrArg Real.toEReal (congrArg₂ X ?_ ?_)
  · show ((((i 0).val * 2048 + (i 1).val) * 8 + (i 2).val) * 128 + (i 3).val) / 1024 = (i 1).val; omega
  · show 1024 + ((((i 0).val * 2048 + (i 1).val) * 8 + (i 2).val) * 128 + (i 3).val) % 1024 = 1024 + (128 * (i 2).val + (i 3).val); omega

theorem v6_apply (i : S1x2048x8x128.Idx) : val_main_v6 (F := Ideal) x0 i = ((colv X (i 2).val (i 1).val (i 3).val : ℝ) : EReal) := by
  have h0 : (i 0).val < 1 := (i 0).isLt
  have h2 : (i 2).val < 8 := (i 2).isLt
  have h3 : (i 3).val < 128 := (i 3).isLt
  rw [val_main_v6_apply, val_main_v2_apply, hx]
  refine congrArg Real.toEReal (congrArg₂ X ?_ ?_)
  · show ((((i 0).val * 2048 + (i 1).val) * 8 + (i 2).val) * 128 + (i 3).val) / 1024 = (i 1).val; omega
  · show 2048 + ((((i 0).val * 2048 + (i 1).val) * 8 + (i 2).val) * 128 + (i 3).val) % 1024 = 2048 + (128 * (i 2).val + (i 3).val); omega

/-- The scores. -/
theorem v9_apply (i : S1x8x2048x2048.Idx) : val_main_v9 (F := Ideal) x0 i = ((scores X (i 1).val (i 2).val (i 3).val : ℝ) : EReal) := by
  rw [val_main_v9_apply, val_main_v7_apply, val_main_v8_apply, val_main_cst_apply]
  rw [sum_fin _ (fun d => colq X (i 1).val (i 2).val d * colk X (i 1).val (i 3).val d) fun k => by
    rw [v4_apply x0 X hx, v5_apply x0 X hx, EReal.coe_mul]]
  show _ * Ideal.ofBits .f32 0x3DB504F3#32 = _
  rw [scale_eq, ← EReal.coe_mul]
  rfl

end One

/-- The mask: the key comes before the query. -/
theorem v16_apply (i : S2048x2048.Idx) (a b : EReal) :
    Scalar.select (val_main_v16 (F := Ideal) i) a b = if (i 1).val < (i 0).val then a else b := by
  have h0 : (i 0).val < 2048 := (i 0).isLt
  have h1 : (i 1).val < 2048 := (i 1).isLt
  rw [val_main_v16_apply, val_main_v14_apply, val_main_v15_apply, val_main_v12_apply, val_main_v13_apply, val_main_v11_apply, val_main_v10_apply]
  show Scalar.select (IntOp.cmpi .slt (BitVec.ofNat 32 (i 1).val) (BitVec.ofNat 32 (i 0).val)) a b = _
  rw [WordCmp.cmpi_slt_ofNat (by omega) (by omega)]
  by_cases h : (i 1).val < (i 0).val
  · rw [if_pos h, decide_eq_true h]; rfl
  · rw [if_neg h, decide_eq_false h]; rfl

section Two

variable (hx : ∀ i, x0 i = ((X (i 0).val (i 1).val : ℝ) : EReal))

include hx

theorem call0_v0_apply (i : S1x8x2048x2048.Idx) : val_main_call0_v0 (F := Ideal) x0 i = ((scores X (i 1).val (i 2).val (i 3).val : ℝ) : EReal) := by
  rw [val_main_call0_v0_apply, val_main_v17_apply, v9_apply x0 X hx]
  exact neg_neg _

theorem call0_v1_apply (i : S1x8x2048x2048.Idx) : val_main_call0_v1_0 (F := Ideal) x0 i = ((softplus (scores X (i 1).val (i 2).val (i 3).val) : ℝ) : EReal) := by
  rw [val_main_call0_v1_0_apply]
  simp only [val_main_call0_call0_v4_apply, val_main_call0_call0_v6_apply, val_main_call0_call0_v11_apply, val_main_call0_call0_v10_apply,
    val_main_call0_call0_v9_apply, val_main_call0_call0_v8_apply, val_main_call0_call0_v7_apply, val_main_call0_call0_v3_apply,
    val_main_call0_call0_v1_apply, val_main_call0_call0_v0_apply, val_main_call0_call0_v2_apply, val_main_call0_call0_v5_apply,
    val_main_call0_call0_cst_apply, call0_v0_apply x0 X hx]
  exact softplus_host _

/-- The fraction of the stick a key takes. -/
theorem v18_1_apply (i : S1x8x2048x2048.Idx) : val_main_v18_1 (F := Ideal) x0 i = ((beta (scores X (i 1).val) (i 2).val (i 3).val : ℝ) : EReal) := by
  rw [val_main_v18_1_apply]
  simp only [val_main_call0_call0_v21_apply, val_main_call0_call0_v20_apply, val_main_call0_call0_v16_apply, val_main_call0_call0_v14_apply, val_main_call0_call0_v18_apply,
    val_main_call0_call0_v13_apply, val_main_call0_call0_v17_apply, val_main_call0_call0_cst_0_apply, val_main_call0_call0_cst_2_apply, call0_v0_apply x0 X hx, call0_v1_apply x0 X hx, finite_host]
  show Ideal.exp (((scores X (i 1).val (i 2).val (i 3).val : ℝ) : EReal) - ((softplus (scores X (i 1).val (i 2).val (i 3).val) : ℝ) : EReal)) = _
  rw [← EReal.coe_sub, exp_coe]
  rfl

/-- The logarithm of what a key leaves. -/
theorem v19_0_apply (i : S1x8x2048x2048.Idx) : val_main_v19_0 (F := Ideal) x0 i = ((keep (scores X (i 1).val) (i 2).val (i 3).val : ℝ) : EReal) := by
  rw [val_main_v19_0_apply, val_main_v19_1_apply, v16_apply, val_main_v18_0_apply, call0_v1_apply x0 X hx, val_main_call1_v2_apply, val_main_call1_v0_apply, val_main_cst_0_apply]
  unfold keep
  show (if (i 3).val < (i 2).val then _ else _) = _
  split
  · rfl
  · exact zero_word

theorem call3_v0_apply (i : S1x8x2048x2048.Idx) : val_main_call3_v0 (F := Ideal) x0 i = ((-scores X (i 1).val (i 2).val (i 3).val : ℝ) : EReal) := by
  rw [val_main_call3_v0_apply, v9_apply x0 X hx]
  exact (EReal.coe_neg _).symm

theorem call3_v1_apply (i : S1x8x2048x2048.Idx) : val_main_call3_v1_0 (F := Ideal) x0 i = ((softplus (-scores X (i 1).val (i 2).val (i 3).val) : ℝ) : EReal) := by
  rw [val_main_call3_v1_0_apply]
  simp only [val_main_call3_call0_v4_apply, val_main_call3_call0_v6_apply, val_main_call3_call0_v11_apply, val_main_call3_call0_v10_apply,
    val_main_call3_call0_v9_apply, val_main_call3_call0_v8_apply, val_main_call3_call0_v7_apply, val_main_call3_call0_v3_apply,
    val_main_call3_call0_v1_apply, val_main_call3_call0_v0_apply, val_main_call3_call0_v2_apply, val_main_call3_call0_v5_apply,
    val_main_call3_call0_cst_apply, call3_v0_apply x0 X hx]
  exact softplus_host _

theorem v22_1_apply (i : S1x8x2048x2048.Idx) : val_main_v22_1 (F := Ideal) x0 i = ((1 - beta (scores X (i 1).val) (i 2).val (i 3).val : ℝ) : EReal) := by
  rw [val_main_v22_1_apply]
  simp only [val_main_call3_call0_v21_apply, val_main_call3_call0_v20_apply, val_main_call3_call0_v16_apply, val_main_call3_call0_v14_apply, val_main_call3_call0_v18_apply,
    val_main_call3_call0_v13_apply, val_main_call3_call0_v17_apply, val_main_call3_call0_cst_0_apply, val_main_call3_call0_cst_2_apply, call3_v0_apply x0 X hx, call3_v1_apply x0 X hx, finite_host]
  show Ideal.exp (((-scores X (i 1).val (i 2).val (i 3).val : ℝ) : EReal) - ((softplus (-scores X (i 1).val (i 2).val (i 3).val) : ℝ) : EReal)) = _
  rw [← EReal.coe_sub, exp_coe, logistic_neg]
  rfl

/-- The sum of the logarithms over the keys after a key. -/
theorem v21_apply (i : S1x8x2048x2048.Idx) : val_main_v21 (F := Ideal) x0 i = ((later (scores X (i 1).val) (i 2).val (i 3).val : ℝ) : EReal) := by
  have h3 : (i 3).val < 2048 := (i 3).isLt
  have e : val_main_v20 (F := Ideal) x0 i = ((∑ j ∈ Finset.range 2048, if (i 3).val ≤ j then keep (scores X (i 1).val) (i 2).val j else 0 : ℝ) : EReal) := by
    unfold val_main_v20
    rw [eq_ix4 i]
    exact suffix4 (n := 2047) (val_main_v19_0 (F := Ideal) x0) (val_main_call2_v0 (F := Ideal)) _ _
      (by rw [val_main_call2_v0_apply, val_main_call2_cst_apply]; exact zero_word) (i 0) (i 1) (i 2) (i 3) (keep (scores X (i 1).val) (i 2).val)
      (fun j => v19_0_apply x0 X hx _)
  rw [val_main_v21_apply, e, v19_0_apply x0 X hx]
  refine (EReal.coe_sub _ _).symm.trans (congrArg Real.toEReal ?_)
  unfold later
  rw [sub_eq_iff_eq_add, ← Finset.sum_ite_eq_of_mem' (Finset.range 2048) (i 3).val (keep (scores X (i 1).val) (i 2).val) (Finset.mem_range.mpr h3), ← Finset.sum_add_distrib]
  refine Finset.sum_congr rfl fun j _ => ?_
  rcases lt_trichotomy (i 3).val j with h | h | h
  · rw [if_pos h.le, if_pos h, if_neg (by omega), add_zero]
  · rw [if_pos h.le, if_neg (by omega), if_pos h.symm, zero_add]
  · rw [if_neg (by omega), if_neg (by omega), if_neg (by omega), add_zero]

/-- The weight before the mask. -/
theorem v24_apply (i : S1x8x2048x2048.Idx) : val_main_v24 (F := Ideal) x0 i
    = ((Real.exp (scores X (i 1).val (i 2).val (i 3).val - softplus (scores X (i 1).val (i 2).val (i 3).val) + later (scores X (i 1).val) (i 2).val (i 3).val) : ℝ) : EReal) := by
  rw [val_main_v24_apply, val_main_v23_apply, val_main_v22_0_apply, call3_v1_apply x0 X hx, v21_apply x0 X hx, softplus_neg]
  show Ideal.exp (-((_ : ℝ) : EReal) + ((_ : ℝ) : EReal)) = _
  rw [← EReal.coe_neg, ← EReal.coe_add, exp_coe, neg_sub]

/-- The weights. -/
theorem v25_0_apply (i : S1x8x2048x2048.Idx) : val_main_v25_0 (F := Ideal) x0 i = ((weight (scores X (i 1).val) (i 2).val (i 3).val : ℝ) : EReal) := by
  rw [val_main_v25_0_apply, val_main_v25_1_apply, v16_apply, v24_apply x0 X hx, val_main_call4_v2_apply, val_main_call4_v0_apply, val_main_cst_1_apply]
  unfold weight
  show (if (i 3).val < (i 2).val then _ else _) = _
  split
  · rfl
  · exact zero_word

end Two

section Three

variable (hx : ∀ i, x0 i = ((X (i 0).val (i 1).val : ℝ) : EReal)) (hy : ∀ i, x1 i = ((Y (i 0).val (i 1).val : ℝ) : EReal))

include hy in
theorem v30_apply (i : S1x8x128x2048.Idx) : val_main_v30 (F := Ideal) x1 i = ((colq Y (i 1).val (i 3).val (i 2).val : ℝ) : EReal) := by
  have h0 : (i 0).val < 1 := (i 0).isLt
  have h1 : (i 1).val < 8 := (i 1).isLt
  have h2 : (i 2).val < 128 := (i 2).isLt
  rw [val_main_v30_apply, val_main_v29_apply, hy]
  refine congrArg Real.toEReal (congrArg₂ Y ?_ ?_)
  · show ((((i 0).val * 2048 + (i 3).val) * 8 + (i 1).val) * 128 + (i 2).val) / 1024 = (i 3).val; omega
  · show ((((i 0).val * 2048 + (i 3).val) * 8 + (i 1).val) * 128 + (i 2).val) % 1024 = 128 * (i 1).val + (i 2).val; omega

include hx hy

/-- The values' gradient of one head. -/
theorem v32_apply (i : S1x8x128x2048.Idx) : val_main_v32 (F := Ideal) x0 x1 i
    = ((dv (colq Y (i 1).val) (scores X (i 1).val) (i 3).val (i 2).val : ℝ) : EReal) := by
  rw [val_main_v32_apply, sum_fin _ (fun t => weight (scores X (i 1).val) t (i 3).val * colq Y (i 1).val t (i 2).val) fun k => by
    rw [v30_apply x1 Y hy, v25_0_apply x0 X hx, ← EReal.coe_mul]
    exact congrArg Real.toEReal (mul_comm _ _)]
  rfl

/-- The weights times their gradients. -/
theorem v35_apply (i : S1x8x2048x2048.Idx) : val_main_v35 (F := Ideal) x0 x1 i
    = ((wgrad (colv X (i 1).val) (colq Y (i 1).val) (scores X (i 1).val) (i 2).val (i 3).val : ℝ) : EReal) := by
  have e : val_main_v31 (F := Ideal) x0 x1 i = ((∑ d ∈ Finset.range 128, colq Y (i 1).val (i 2).val d * colv X (i 1).val (i 3).val d : ℝ) : EReal) := by
    rw [val_main_v31_apply, sum_fin _ (fun d => colq Y (i 1).val (i 2).val d * colv X (i 1).val (i 3).val d) fun k => by
      rw [v30_apply x1 Y hy, v6_apply x0 X hx, EReal.coe_mul]]
  rw [val_main_v35_apply, val_main_v34_apply, val_main_v25_1_apply, v16_apply, e, v24_apply x0 X hx, val_main_call5_v0_apply, val_main_call5_cst_apply, zero_word]
  unfold wgrad weight
  show (if (i 3).val < (i 2).val then _ else _) * _ = _
  split
  · rw [← EReal.coe_mul, mul_comm]
  · rw [zero_mul, zero_mul]; rfl

/-- The sum of those over the keys before a key. -/
theorem v39_apply (i : S1x8x2048x2048.Idx) : val_main_v39 (F := Ideal) x0 x1 i
    = ((before (colv X (i 1).val) (colq Y (i 1).val) (scores X (i 1).val) (i 2).val (i 3).val : ℝ) : EReal) := by
  have e : val_main_v38 (F := Ideal) x0 x1 i
      = ((∑ j ∈ Finset.range ((i 3).val + 1), wgrad (colv X (i 1).val) (colq Y (i 1).val) (scores X (i 1).val) (i 2).val j : ℝ) : EReal) := by
    unfold val_main_v38
    rw [eq_ix4 i]
    exact prefix4 (n := 2047) (val_main_v35 (F := Ideal) x0 x1) (val_main_call7_v0 (F := Ideal)) _ _
      (by rw [val_main_call7_v0_apply, val_main_call7_cst_apply]; exact zero_word) (i 0) (i 1) (i 2) (i 3)
      (wgrad (colv X (i 1).val) (colq Y (i 1).val) (scores X (i 1).val) (i 2).val) (fun j => v35_apply x0 x1 X Y hx hy _)
  rw [val_main_v39_apply, val_main_v37_apply, e, v35_apply x0 x1 X Y hx hy]
  show -((_ : ℝ) : EReal) + ((_ : ℝ) : EReal) = _
  rw [← EReal.coe_neg, ← EReal.coe_add, Finset.sum_range_succ]
  unfold before
  exact congrArg Real.toEReal (by ring)

/-- The scores' gradients. -/
theorem v45_apply (i : S1x8x2048x2048.Idx) : val_main_v45 (F := Ideal) x0 x1 i
    = ((dscore (colv X (i 1).val) (colq Y (i 1).val) (scores X (i 1).val) (i 2).val (i 3).val : ℝ) : EReal) := by
  rw [val_main_v45_apply, val_main_v43_apply, val_main_v36_apply, val_main_call6_v1_apply, val_main_call6_v0_apply, val_main_v42_apply,
    val_main_v41_apply, val_main_call9_v1_apply, val_main_call9_v0_apply, val_main_v40_apply, val_main_v19_1_apply, v16_apply, v39_apply x0 x1 X Y hx hy, v35_apply x0 x1 X Y hx hy,
    v22_1_apply x0 X hx, v18_1_apply x0 X hx, val_main_v44_apply, val_main_cst_2_apply, val_main_call8_v0_apply, val_main_call8_cst_apply, zero_word]
  unfold dscore
  show (-(-((_ : ℝ) : EReal) * ((_ : ℝ) : EReal)) + -(-(-(if (i 3).val < (i 2).val then _ else _) * ((_ : ℝ) : EReal)))) * Ideal.ofBits .f32 0x3DB504F3#32 = _
  rw [scale_eq]
  split
  · simp only [← EReal.coe_neg, ← EReal.coe_mul, ← EReal.coe_add]
    exact congrArg Real.toEReal (by ring)
  · next h =>
    have hw : wgrad (colv X (i 1).val) (colq Y (i 1).val) (scores X (i 1).val) (i 2).val (i 3).val = 0 := by
      unfold wgrad weight; rw [if_neg h, zero_mul]
    rw [hw, ← EReal.coe_zero]
    simp only [← EReal.coe_neg, ← EReal.coe_mul, ← EReal.coe_add]
    exact congrArg Real.toEReal (by ring)

/-- The queries' gradient. -/
theorem v53_apply (i : S2048x1024.Idx) : val_main_v53 (F := Ideal) x0 x1 i
    = ((dq (colk X ((i 1).val / 128)) (colv X ((i 1).val / 128)) (colq Y ((i 1).val / 128)) (scores X ((i 1).val / 128)) (i 0).val ((i 1).val % 128) : ℝ) : EReal) := by
  have h0 : (i 0).val < 2048 := (i 0).isLt
  have h1 : (i 1).val < 1024 := (i 1).isLt
  have e1 : ((i 0).val * 1024 + (i 1).val) / 1024 % 2048 = (i 0).val := by omega
  have e2 : ((i 0).val * 1024 + (i 1).val) / 128 % 8 = (i 1).val / 128 := by omega
  have e3 : ((i 0).val * 1024 + (i 1).val) % 128 = (i 1).val % 128 := by omega
  rw [val_main_v53_apply, val_main_v52_apply, val_main_v49_apply, val_main_v48_apply]
  rw [sum_fin _ (fun s => dscore (colv X ((i 1).val / 128)) (colq Y ((i 1).val / 128)) (scores X ((i 1).val / 128)) (i 0).val s * colk X ((i 1).val / 128) s ((i 1).val % 128)) fun k => by
    rw [v45_apply x0 x1 X Y hx hy, v5_apply x0 X hx, ← EReal.coe_mul]
    show ((dscore (colv X (((i 0).val * 1024 + (i 1).val) / 128 % 8)) (colq Y (((i 0).val * 1024 + (i 1).val) / 128 % 8)) (scores X (((i 0).val * 1024 + (i 1).val) / 128 % 8))
      (((i 0).val * 1024 + (i 1).val) / 1024 % 2048) k.val * colk X (((i 0).val * 1024 + (i 1).val) / 128 % 8) k.val (((i 0).val * 1024 + (i 1).val) % 128) : ℝ) : EReal) = _
    rw [e1, e2, e3]]
  rfl

/-- The keys' gradient. -/
theorem v54_apply (i : S2048x1024.Idx) : val_main_v54 (F := Ideal) x0 x1 i
    = ((dk (colq X ((i 1).val / 128)) (colv X ((i 1).val / 128)) (colq Y ((i 1).val / 128)) (scores X ((i 1).val / 128)) (i 0).val ((i 1).val % 128) : ℝ) : EReal) := by
  have h0 : (i 0).val < 2048 := (i 0).isLt
  have h1 : (i 1).val < 1024 := (i 1).isLt
  have e1 : ((i 0).val * 1024 + (i 1).val) / 1024 % 2048 = (i 0).val := by omega
  have e2 : ((i 0).val * 1024 + (i 1).val) / 128 % 8 = (i 1).val / 128 := by omega
  have e3 : ((i 0).val * 1024 + (i 1).val) % 128 = (i 1).val % 128 := by omega
  rw [val_main_v54_apply, val_main_v51_apply, val_main_v47_apply, val_main_v46_apply]
  rw [sum_fin _ (fun t => dscore (colv X ((i 1).val / 128)) (colq Y ((i 1).val / 128)) (scores X ((i 1).val / 128)) t (i 0).val * colq X ((i 1).val / 128) t ((i 1).val % 128)) fun k => by
    rw [v45_apply x0 x1 X Y hx hy, v4_apply x0 X hx, ← EReal.coe_mul]
    show ((dscore (colv X (((i 0).val * 1024 + (i 1).val) / 128 % 8)) (colq Y (((i 0).val * 1024 + (i 1).val) / 128 % 8)) (scores X (((i 0).val * 1024 + (i 1).val) / 128 % 8))
      k.val (((i 0).val * 1024 + (i 1).val) / 1024 % 2048) * colq X (((i 0).val * 1024 + (i 1).val) / 128 % 8) k.val (((i 0).val * 1024 + (i 1).val) % 128) : ℝ) : EReal) = _
    rw [e1, e2, e3]]
  rfl

/-- The values' gradient. -/
theorem v55_apply (i : S2048x1024.Idx) : val_main_v55 (F := Ideal) x0 x1 i
    = ((dv (colq Y ((i 1).val / 128)) (scores X ((i 1).val / 128)) (i 0).val ((i 1).val % 128) : ℝ) : EReal) := by
  have h0 : (i 0).val < 2048 := (i 0).isLt
  have h1 : (i 1).val < 1024 := (i 1).isLt
  have e1 : ((i 0).val * 1024 + (i 1).val) / 1024 % 2048 = (i 0).val := by omega
  have e2 : ((i 0).val * 1024 + (i 1).val) / 128 % 8 = (i 1).val / 128 := by omega
  have e3 : ((i 0).val * 1024 + (i 1).val) % 128 = (i 1).val % 128 := by omega
  rw [val_main_v55_apply, val_main_v50_apply, val_main_v33_apply, v32_apply x0 x1 X Y hx hy]
  show ((dv (colq Y (((i 0).val * 1024 + (i 1).val) / 128 % 8)) (scores X (((i 0).val * 1024 + (i 1).val) / 128 % 8))
    (((i 0).val * 1024 + (i 1).val) / 1024 % 2048) (((i 0).val * 1024 + (i 1).val) % 128) : ℝ) : EReal) = _
  rw [e1, e2, e3]

end Three

end Cert.ReferenceIdeal.Attn

end
-- ==== Proof.Attn.Claims.lean ====
/-
  The kernel's results are the reference's: finite arguments are real, and for real arguments both programs end with the
  same gradients.
-/
module

public import proofs.«01_k».proof.Defs
public import proofs.«01_k».proof.Proof.Attn.Value
public import proofs.«01_k».proof.Proof.Attn.Ref
public import proofs.«01_k».proof.Proof.Gen.ReferenceIdeal.Run

@[expose] public section

set_option maxRecDepth 16384

noncomputable section

namespace Cert.Proof

open Idealize.ShloMosaic Idealize.ShloMosaic.TcCoe Idealize.SL.Sem Cert.AttnSpec

/-- The shapes of the precondition's two broadcasts of a scalar. -/
theorem finite_facts : Cert.Pre_finite.Facts where
  bcast_S_S2048x5120 := by decide
  bcast_S_S2048x1024 := by decide

/-- An extended real whose absolute value is below infinity is real. -/
theorem real_of_finite (x : EReal) (h : Ideal.cmp .olt (max x (-x)) ⊤ = 1#1) : x = ((x.toReal : ℝ) : EReal) := by
  have hlt : max x (-x) < ⊤ := by
    by_contra hn
    simp [Ideal.cmp, hn] at h
  refine (EReal.coe_toReal ?_ ?_).symm
  · rintro rfl; simp at hlt
  · rintro rfl; simp at hlt

/-- The real entries of an array, zero outside it. -/
def entries {a b : ℕ} (x : (⟨2, ![a, b]⟩ : Shape).Idx → EReal) (t s : ℕ) : ℝ :=
  if h : t < a ∧ s < b then (x (ix2 (⟨t, h.1⟩ : Fin a) (⟨s, h.2⟩ : Fin b))).toReal else 0

/-- An array of finite entries is the array of its real entries. -/
theorem eq_entries {a b : ℕ} (x : (⟨2, ![a, b]⟩ : Shape).Idx → EReal) (h : ∀ i, Ideal.cmp .olt (max (x i) (-(x i))) ⊤ = 1#1)
    (i : (⟨2, ![a, b]⟩ : Shape).Idx) : x i = ((entries x (i 0).val (i 1).val : ℝ) : EReal) := by
  unfold entries
  rw [dif_pos ⟨(i 0).isLt, (i 1).isLt⟩]
  exact (real_of_finite _ (h i)).trans (congrArg (fun j => ((EReal.toReal (x j) : ℝ) : EReal)) (eq_ix2 i))

/-- The two programs end with equal results. -/
theorem algebraic : Cert.algebraic_KernelIdeal_ReferenceIdeal_pre_finite (hPre_finite := finite_facts) := by
  intro m ρ m' ρ' hfin hagree
  have h0 : ∀ (c : Dev Cert.KernelIdeal.nD) (i : Cert.KernelIdeal.S2048x5120.Idx),
      m ((c.tc : Thread Cert.KernelIdeal.nD Cert.KernelIdeal.τ).loc Cert.KernelIdeal.main_arg0) i
        = ((entries (a := 2048) (b := 5120) (m (((0 : Dev Cert.KernelIdeal.nD).tc : Thread Cert.KernelIdeal.nD Cert.KernelIdeal.τ).loc Cert.KernelIdeal.main_arg0)) (i 0).val (i 1).val : ℝ) : EReal) := by
    intro c i
    obtain rfl : c = 0 := Subsingleton.elim _ _
    refine eq_entries (a := 2048) (b := 5120) _ (fun j => ?_) i
    have h := congrFun (hfin 0).1 j
    rw [← inf_word]
    exact h
  have h1 : ∀ (c : Dev Cert.KernelIdeal.nD) (i : Cert.KernelIdeal.S2048x1024.Idx),
      m ((c.tc : Thread Cert.KernelIdeal.nD Cert.KernelIdeal.τ).loc Cert.KernelIdeal.main_arg1) i
        = ((entries (a := 2048) (b := 1024) (m (((0 : Dev Cert.KernelIdeal.nD).tc : Thread Cert.KernelIdeal.nD Cert.KernelIdeal.τ).loc Cert.KernelIdeal.main_arg1)) (i 0).val (i 1).val : ℝ) : EReal) := by
    intro c i
    obtain rfl : c = 0 := Subsingleton.elim _ _
    refine eq_entries (a := 2048) (b := 1024) _ (fun j => ?_) i
    have h := congrFun (hfin 0).2 j
    rw [← inf_word]
    exact h
  generalize entries (a := 2048) (b := 5120) _ = X at h0
  generalize entries (a := 2048) (b := 1024) _ = Y at h1
  refine ⟨fun _ => Cert.KernelIdeal.Attn.dqs X Y, fun _ => Cert.KernelIdeal.Attn.dks X Y, fun _ => Cert.KernelIdeal.Attn.dvs X Y,
    Cert.KernelIdeal.Attn.run_value m X Y ρ h0 h1, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v53_eq, (hagree c).1, (hagree c).2]
    exact funext fun i => Cert.ReferenceIdeal.Attn.v53_apply _ _ X Y (h0 c) (h1 c) i
  · rw [Cert.ReferenceIdeal.Read.val_main_v54_eq, (hagree c).1, (hagree c).2]
    exact funext fun i => Cert.ReferenceIdeal.Attn.v54_apply _ _ X Y (h0 c) (h1 c) i
  · rw [Cert.ReferenceIdeal.Read.val_main_v55_eq, (hagree c).1, (hagree c).2]
    exact funext fun i => Cert.ReferenceIdeal.Attn.v55_apply _ _ X Y (h0 c) (h1 c) i

end Cert.Proof

end
-- ==== Proof.Dense.Base.lean ====
/-
  A matrix product of the kernel at an entry, over the extended reals, where its accumulator starts at zero: the sum over the
  contracted axis, for the three orders of the axes that the kernels use.
-/
module

public import Idealize.ShloMosaic.Lib.MatmulPlain
public import Idealize.ShloMosaic.Lib.KernelVsHost
public import Idealize.ShloMosaic.Lib.Pipeline.ValueKit.Acc
public import Idealize.ShloMosaic.Lib.Pipeline.ValueKit.Geometry

@[expose] public section

noncomputable section

namespace Cert.Dense

open Idealize.ShloMosaic Idealize.ShloMosaic.ValueIdx

/-- Rows times columns. -/
theorem mm_nn {M K N : ℕ} {φ₁ φ₂ : FTy} (x : FVec Ideal ⟨2, ![M, K]⟩ φ₁) (w : FVec Ideal ⟨2, ![K, N]⟩ φ₂) (r : Fin M) (c : Fin N) :
    matmul (DotDims.plain M K N) none x w (constant (F := Ideal) ⟨2, ![M, N]⟩ .f32 0x00000000#32) (ix2 r c) = ∑ k : Fin K, x (ix2 r k) * w (ix2 k c) := by
  refine (Ideal.matmul_plain_apply none x w _ r c).trans ?_
  show Ideal.ofBits .f32 0x00000000#32 + _ = _
  rw [Ideal.ofBits_zero_f32, zero_add]

/-- Rows times rows. -/
theorem mm_nt {M K N : ℕ} {φ₁ φ₂ : FTy} (x : FVec Ideal ⟨2, ![M, K]⟩ φ₁) (w : FVec Ideal ⟨2, ![N, K]⟩ φ₂) (r : Fin M) (c : Fin N) :
    matmul (DotDims.transposedRhs M K N) none x w (constant (F := Ideal) ⟨2, ![M, N]⟩ .f32 0x00000000#32) (ix2 r c) = ∑ k : Fin K, x (ix2 r k) * w (ix2 c k) := by
  refine (Ideal.matmul_transposedRhs_apply none x w _ r c).trans ?_
  show Ideal.ofBits .f32 0x00000000#32 + _ = _
  rw [Ideal.ofBits_zero_f32, zero_add]

/-- The product that contracts the first axis of both. -/
def tn (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, (by decide : (([] ++ [1] ++ [0] : List (Fin 2))).Perm (List.finRange 2)),
    (by decide : (([] ++ [1] ++ [0] : List (Fin 2))).Perm (List.finRange 2)), by simp⟩

/-- Columns times columns. -/
theorem mm_tn {M K N : ℕ} {φ₁ φ₂ : FTy} (x : FVec Ideal ⟨2, ![K, M]⟩ φ₁) (w : FVec Ideal ⟨2, ![K, N]⟩ φ₂) (r : Fin M) (c : Fin N) :
    matmul (tn K M N) none x w (constant (F := Ideal) ⟨2, ![M, N]⟩ .f32 0x00000000#32) (ix2 r c) = ∑ k : Fin K, x (ix2 k r) * w (ix2 k c) := by
  show FloatOps.matmul (tn K M N) none x w (constant (F := Ideal) ⟨2, ![M, N]⟩ .f32 0x00000000#32) (ix2 r c) = _
  rw [Ideal.matmul_constant_zero_apply, ← Equiv.sum_comp (contrEquiv1 (tn K M N) K rfl rfl).symm]
  refine Finset.sum_congr rfl fun k _ => ?_
  have hk := contrEquiv1_symm_val (tn K M N) K rfl rfl k
  have el : (tn K M N).lhsIdx (ix2 r c) ((contrEquiv1 (tn K M N) K rfl rfl).symm k) = ix2 k r := by
    funext a; apply Fin.ext
    match a with
    | ⟨0, _⟩ => exact hk
    | ⟨1, _⟩ => rfl
  have er : (tn K M N).rhsIdx (ix2 r c) ((contrEquiv1 (tn K M N) K rfl rfl).symm k) = ix2 k c := by
    funext a; apply Fin.ext
    match a with
    | ⟨0, _⟩ => exact hk
    | ⟨1, _⟩ => rfl
  rw [el, er]

section Layout

variable {α : Type}

/-- The eight blocks of columns, one after another. -/
theorem cols_apply {R C n : ℕ} (x : (⟨2, ![R, C]⟩ : Shape).Idx → α) (s1 : (⟨2, ![R, C]⟩ : Shape).ShapeCasts ⟨3, ![R, 8, n]⟩)
    (s2 : (⟨3, ![R, 8, n]⟩ : Shape).Transposes [1, 0, 2] ⟨3, ![8, R, n]⟩) (hC : C = 8 * n)
    (j : (⟨3, ![8, R, n]⟩ : Shape).Idx) (i : (⟨2, ![R, C]⟩ : Shape).Idx) (h0 : (i 0).val = (j 1).val) (h1 : (i 1).val = (j 0).val * n + (j 2).val) :
    transpose ⟨3, ![8, R, n]⟩ [1, 0, 2] (shapeCast ⟨3, ![R, 8, n]⟩ x s1) s2 j = x i := by
  refine (transpose_apply _ _ _ _ (@ix3 R 8 n (j 1) (j 0) (j 2)) fun b => ?_).trans (shapeCast_apply _ _ _ i ?_)
  · match b with
    | ⟨0, _⟩ => rfl
    | ⟨1, _⟩ => rfl
    | ⟨2, _⟩ => rfl
  · rewrite [Shape.rowMajor_val_two, Shape.rowMajor_val_three]
    show (i 0).val * C + (i 1).val = ((j 1).val * 8 + (j 0).val) * n + (j 2).val
    rw [h1, show (i 0).val * C = (j 1).val * (8 * n) from congrArg₂ (· * ·) h0 hC]
    ring

/-- The eight blocks of rows, one after another. -/
theorem rows_apply {R C n : ℕ} (x : (⟨2, ![R, C]⟩ : Shape).Idx → α) (s1 : (⟨2, ![R, C]⟩ : Shape).ShapeCasts ⟨3, ![8, n, C]⟩)
    (j : (⟨3, ![8, n, C]⟩ : Shape).Idx) (i : (⟨2, ![R, C]⟩ : Shape).Idx) (h0 : (i 0).val = (j 0).val * n + (j 1).val) (h1 : (i 1).val = (j 2).val) :
    shapeCast ⟨3, ![8, n, C]⟩ x s1 j = x i := by
  refine shapeCast_apply _ _ _ i ?_
  rewrite [Shape.rowMajor_val_two, Shape.rowMajor_val_three]
  show (i 0).val * C + (i 1).val = ((j 0).val * n + (j 1).val) * C + (j 2).val
  rw [h0, h1]

/-- The eight blocks of rows of the transposed array. -/
theorem rowsT_apply {R C n : ℕ} (x : (⟨2, ![C, R]⟩ : Shape).Idx → α) (s0 : (⟨2, ![C, R]⟩ : Shape).Transposes [1, 0] ⟨2, ![R, C]⟩)
    (s1 : (⟨2, ![R, C]⟩ : Shape).ShapeCasts ⟨3, ![8, n, C]⟩)
    (j : (⟨3, ![8, n, C]⟩ : Shape).Idx) (i : (⟨2, ![C, R]⟩ : Shape).Idx) (h0 : (i 0).val = (j 2).val) (h1 : (i 1).val = (j 0).val * n + (j 1).val) :
    shapeCast ⟨3, ![8, n, C]⟩ (transpose ⟨2, ![R, C]⟩ [1, 0] x s0) s1 j = x i := by
  refine (rows_apply _ s1 j (@ix2 R C (i 1) (i 0)) h1 h0).trans (transpose_apply _ _ _ _ i fun b => ?_)
  match b with
  | ⟨0, _⟩ => rfl
  | ⟨1, _⟩ => rfl

/-- A block of one plane, read without that axis. -/
theorem plane_apply {R C : ℕ} (x : (⟨3, ![1, R, C]⟩ : Shape).Idx → α) (h : (⟨3, ![1, R, C]⟩ : Shape).ShapeCasts ⟨2, ![R, C]⟩) (r : Fin R) (c : Fin C) :
    shapeCast ⟨2, ![R, C]⟩ x h (ix2 r c) = x (ix3 0 r c) := by
  refine shapeCast_apply _ _ _ (ix3 0 r c) ?_
  rewrite [Shape.rowMajor_val_two, Shape.rowMajor_val_three]
  show (0 * R + r.val) * C + c.val = r.val * C + c.val
  rw [Nat.zero_mul, Nat.zero_add]

end Layout

end Cert.Dense

end
-- ==== Proof.Dense.Half.lean ====
/-
  What the six weight-gradient calls share. Each of them computes half of a weight gradient: of eight blocks, the four of
  the core itself or the four of the other core of its chip. Which four is the last bit of the core's number.
-/
module

public import proofs.«01_k».proof.Proof.Dense.Base

@[expose] public section

set_option maxRecDepth 16384

noncomputable section

namespace Cert.Dense

open Idealize.ShloMosaic Idealize.ShloMosaic.ValueIdx

/-- The last bit of a number is zero or one. -/
theorem bit_cases (x : BitVec 32) : IntOp.andi x 1#32 = 0#32 ∨ IntOp.andi x 1#32 = 1#32 := by
  have h : (IntOp.andi x 1#32).toNat = x.toNat % 2 := (BitVec.toNat_and x 1#32).trans (Nat.and_one_is_mod _)
  rcases Nat.mod_two_eq_zero_or_one x.toNat with e | e
  · exact .inl (BitVec.eq_of_toNat_eq (h.trans e))
  · exact .inr (BitVec.eq_of_toNat_eq (h.trans e))

/-- An array of one entry has one index. -/
theorem one_place (i : (⟨1, ![1]⟩ : Shape).Idx) : i = ix1 (0 : Fin 1) := by
  funext a
  match a with
  | ⟨0, _⟩ => exact Subsingleton.elim (α := Fin 1) _ _

/-- The block the index map names, when it takes the blocks of the other core, -/
theorem pick_other (b : BitVec 32) (hb : b = 0#32 ∨ b = 1#32) :
    ∀ j : Fin 4, (Scalar.addi (Scalar.muli 2#32 (BitVec.ofNat 32 j.val)) (Scalar.subi 1#32 b)).toNat = 2 * j.val + (1 - b.toNat) := by
  rcases hb with rfl | rfl
  · decide +kernel
  · decide +kernel

/-- and when it takes those of the core itself. -/
theorem pick_own (b : BitVec 32) (hb : b = 0#32 ∨ b = 1#32) :
    ∀ j : Fin 4, (Scalar.addi (Scalar.muli 2#32 (BitVec.ofNat 32 j.val)) b).toNat = 2 * j.val + b.toNat := by
  rcases hb with rfl | rfl
  · decide +kernel
  · decide +kernel

/-- A choice on the bit, case by case. -/
theorem select_bit {α : Type} (b : BitVec 32) (hb : b = 0#32 ∨ b = 1#32) {x y z : α} (h0 : b = 0#32 → x = z) (h1 : b = 1#32 → y = z) :
    Scalar.select (IntOp.cmpi .eq b 0#32) x y = z := by
  rcases hb with rfl | rfl
  · exact h0 rfl
  · exact h1 rfl

/-- Every other block of eight, from the first or from the second. -/
theorem every_other {α : Type} {M N : ℕ} (x : (⟨3, ![8, M, N]⟩ : Shape).Idx → α) (s : ℕ) (h : (⟨3, ![8, M, N]⟩ : Shape).SlicesBy ![s, 0, 0] ![2, 1, 1] ⟨3, ![4, M, N]⟩)
    (i : (⟨3, ![4, M, N]⟩ : Shape).Idx) (hs : s + 2 * (i 0).val < 8) :
    Host.slice ⟨3, ![4, M, N]⟩ ![s, 0, 0] ![2, 1, 1] x h i = x (@ix3 8 M N ⟨s + 2 * (i 0).val, hs⟩ (i 1) (i 2)) := by
  refine congrArg x (funext fun a => Fin.ext ?_)
  match a with
  | ⟨0, _⟩ => rfl
  | ⟨1, _⟩ =>
      show 0 + 1 * (i 1).val = (i 1).val
      omega
  | ⟨2, _⟩ =>
      show 0 + 1 * (i 2).val = (i 2).val
      omega

/-- A bit is at most one. -/
theorem bit_le (b : BitVec 32) (hb : b = 0#32 ∨ b = 1#32) : b.toNat ≤ 1 := by
  rcases hb with rfl | rfl
  · decide
  · decide

/-- Four of eight blocks, chosen on the bit: those of the core itself, -/
theorem own_half {α : Type} {M N : ℕ} (x : (⟨3, ![8, M, N]⟩ : Shape).Idx → α) (b : BitVec 32) (h0 : (⟨3, ![8, M, N]⟩ : Shape).SlicesBy ![0, 0, 0] ![2, 1, 1] ⟨3, ![4, M, N]⟩)
    (h1 : (⟨3, ![8, M, N]⟩ : Shape).SlicesBy ![1, 0, 0] ![2, 1, 1] ⟨3, ![4, M, N]⟩) (hb : b = 0#32 ∨ b = 1#32) (i : (⟨3, ![4, M, N]⟩ : Shape).Idx) {z : α}
    (hz : ∀ j : (⟨3, ![8, M, N]⟩ : Shape).Idx, (j 0).val = 2 * (i 0).val + b.toNat → (j 1).val = (i 1).val → (j 2).val = (i 2).val → x j = z) :
    Scalar.select (IntOp.cmpi .eq b 0#32) (Host.slice ⟨3, ![4, M, N]⟩ ![0, 0, 0] ![2, 1, 1] x h0 i) (Host.slice ⟨3, ![4, M, N]⟩ ![1, 0, 0] ![2, 1, 1] x h1 i) = z := by
  have hi : (i 0).val < 4 := (i 0).isLt
  refine select_bit b hb (fun e => ?_) (fun e => ?_)
  · subst e
    exact (every_other x 0 h0 i (by omega)).trans (hz _ (Nat.zero_add _) rfl rfl)
  · subst e
    exact (every_other x 1 h1 i (by omega)).trans (hz _ (Nat.add_comm _ _) rfl rfl)

/-- and those of the other core. -/
theorem other_half {α : Type} {M N : ℕ} (x : (⟨3, ![8, M, N]⟩ : Shape).Idx → α) (b : BitVec 32) (h0 : (⟨3, ![8, M, N]⟩ : Shape).SlicesBy ![0, 0, 0] ![2, 1, 1] ⟨3, ![4, M, N]⟩)
    (h1 : (⟨3, ![8, M, N]⟩ : Shape).SlicesBy ![1, 0, 0] ![2, 1, 1] ⟨3, ![4, M, N]⟩) (hb : b = 0#32 ∨ b = 1#32) (i : (⟨3, ![4, M, N]⟩ : Shape).Idx) {z : α}
    (hz : ∀ j : (⟨3, ![8, M, N]⟩ : Shape).Idx, (j 0).val = 2 * (i 0).val + (1 - b.toNat) → (j 1).val = (i 1).val → (j 2).val = (i 2).val → x j = z) :
    Scalar.select (IntOp.cmpi .eq b 0#32) (Host.slice ⟨3, ![4, M, N]⟩ ![1, 0, 0] ![2, 1, 1] x h1 i) (Host.slice ⟨3, ![4, M, N]⟩ ![0, 0, 0] ![2, 1, 1] x h0 i) = z := by
  have hi : (i 0).val < 4 := (i 0).isLt
  refine select_bit b hb (fun e => ?_) (fun e => ?_)
  · subst e
    exact (every_other x 1 h1 i (by omega)).trans (hz _ (Nat.add_comm _ _) rfl rfl)
  · subst e
    exact (every_other x 0 h0 i (by omega)).trans (hz _ (Nat.zero_add _) rfl rfl)

/-- A block as an array of one plane. -/
theorem unplane_apply {α : Type} {R C : ℕ} (x : (⟨2, ![R, C]⟩ : Shape).Idx → α) (h : (⟨2, ![R, C]⟩ : Shape).ShapeCasts ⟨3, ![1, R, C]⟩)
    (y : (⟨3, ![1, R, C]⟩ : Shape).Idx) : shapeCast ⟨3, ![1, R, C]⟩ x h y = x (@ix2 R C (y 1) (y 2)) := by
  refine shapeCast_apply _ _ _ (@ix2 R C (y 1) (y 2)) ?_
  rewrite [Shape.rowMajor_val_two, Shape.rowMajor_val_three]
  have h0 : (y 0).val < 1 := (y 0).isLt
  show (y 1).val * C + (y 2).val = ((y 0).val * R + (y 1).val) * C + (y 2).val
  rw [Nat.lt_one_iff.mp h0, Nat.zero_mul, Nat.zero_add]

end Cert.Dense

end
-- ==== Proof.Dense.K4.lean ====
/-
  The gradient of the projection out of the feed-forward layer: what the kernel leaves is the half of it that belongs to the other core of the chip.
-/
module

public import proofs.«01_k».proof.Defs
public import proofs.«01_k».proof.Proof.Dense.Half
public import proofs.«01_k».proof.Proof.Gen.Kernel4.Frame
public import proofs.«01_k».proof.Proof.Gen.Kernel4Ideal.Frame
public import proofs.«01_k».proof.Proof.Gen.Reference4Ideal.Read

@[expose] public section

set_option maxRecDepth 16384

noncomputable section

namespace Cert.Kernel4.Dense

open Idealize.ShloMosaic Idealize.ShloMosaic.TcCoe Idealize.SL.Sem
open Idealize.ShloMosaic.ValueIdx
open Cert.Kernel4 Cert.Kernel4.Gen Cert.Dense

section Table

variable {F : FTy → Type} [FloatOps F] (m : (ℓ : Loc nD τ sig) → Buf (Elt F) ℓ)

/-- The core's place on its chip: the last bit of its number. -/
def place : BitVec 32 := IntOp.andi ((m (((0 : Dev nD) : Thread nD τ).loc main_arg2) : S1.Idx → BitVec 32) (ix1 0)) 1#32

theorem place_cases : place m = 0#32 ∨ place m = 1#32 := bit_cases _

/-- The table the index map reads holds it. -/
theorem table : (tbl m).at 0 (Rect.unit (s := S1) ![0] S1.size inb_S1_S1_0) numel1_S1 = place m := by
  show (V m 0 main_v5 : S1.Idx → BitVec 32) _ = _
  unfold V
  simp only [hostOps0]
  after_results_simp
  unfold place
  exact congrArg (fun j => IntOp.andi ((m (((0 : Dev nD) : Thread nD τ).loc main_arg2) : S1.Idx → BitVec 32) j) 1#32) (one_place _)

theorem map_table (i : grid0.Coords) : cc0_transform_0 inb_S1_S1_0 numel1_S1 (tbl m) i = ![(Scalar.addi (Scalar.muli 2#32 (BitVec.ofNat 32 (i 0).val)) (Scalar.subi 1#32 (place m))).toNat, 0, 0] := by
  rw [← table m]
  rfl

/-- The index map's blocks lie inside the array. -/
theorem ok : Ok m := fun i => by
  rw [map_table m i]
  rcases place_cases m with h | h <;>
  · rw [h]
    revert i
    decide +kernel

/-- Which of two neighbouring blocks the call takes. -/
def side : ℕ := 1 - (place m).toNat

theorem side_le : side m ≤ 1 := Nat.sub_le _ _

/-- The block the index map names. -/
theorem map_eq (i : grid0.Coords) : cc0_transform_0 inb_S1_S1_0 numel1_S1 (tbl m) i = ![2 * (i 0).val + side m, 0, 0] :=
  (map_table m i).trans (congrArg (fun n : ℕ => ((![n, 0, 0] : Fin 3 → ℕ))) (pick_other _ (place_cases m) (i 0)))

end Table

end Cert.Kernel4.Dense

namespace Cert.Kernel4Ideal.Dense

open Idealize.ShloMosaic Idealize.ShloMosaic.TcCoe Idealize.SL.Sem
open Idealize.ShloMosaic.ValueIdx
open Cert.Kernel4Ideal Cert.Kernel4Ideal.Gen Cert.Dense

section Table

variable {F : FTy → Type} [FloatOps F] (m : (ℓ : Loc nD τ sig) → Buf (Elt F) ℓ)

/-- What the table says does not depend on how numbers are represented. -/
theorem ok : Ok m := Cert.Kernel4.Dense.ok m
/-- Which of two neighbouring blocks the call takes. -/
def side : ℕ := Cert.Kernel4.Dense.side m
theorem side_le : side m ≤ 1 := Cert.Kernel4.Dense.side_le m
theorem map_eq (i : grid0.Coords) : cc0_transform_0 inb_S1_S1_0 numel1_S1 (tbl m) i 0 = 2 * (i 0).val + side m ∧ cc0_transform_0 inb_S1_S1_0 numel1_S1 (tbl m) i 1 = 0 ∧ cc0_transform_0 inb_S1_S1_0 numel1_S1 (tbl m) i 2 = 0 :=
  have e := Cert.Kernel4.Dense.map_eq m i
  ⟨congrFun e 0, congrFun e 1, congrFun e 2⟩

end Table

/-- The body's product at an entry. -/
theorem pay (x0 : Vec Ideal S1x2048x704 .bf16) (x1 : Vec Ideal S2048x2048 .bf16) (y : S1x704x2048.Idx) :
    k0_pay1 x0 x1 y = (∑ k : Fin 2048, x0 (ix3 0 k (y 1)) * x1 (ix2 k (y 2))) := by
  unfold k0_pay1
  refine (unplane_apply _ _ y).trans ?_
  refine (mm_tn (M := 704) (K := 2048) (N := 2048) _ _ _ _).trans (Finset.sum_congr rfl fun k _ => congrArg₂ (· * ·) ?_ ?_)
  · exact plane_apply _ _ _ _
  · rw [shapeCast_self]

/-- A block of the reference's weight gradient at an entry. -/
theorem weight (x0 : S2048x5632.Idx → EReal) (x1 : S2048x2048.Idx → EReal) (j : Cert.Reference4Ideal.S8x704x2048.Idx) (r : Fin 5632) (c : Fin 2048)
    (hr : r.val = (j 0).val * 704 + (j 1).val) (hc : c.val = (j 2).val) :
    Cert.Reference4Ideal.Read.val_main_v5 (F := Ideal) x0 x1 j = ∑ k : Fin 2048, x0 (ix2 k r) * x1 (ix2 k c) := by
  refine Eq.trans (rows_apply _ _ j (ix2 r c) hr hc : _ = Cert.Reference4Ideal.Read.val_main_v3 (F := Ideal) x0 x1 (ix2 r c)) ?_
  refine (Cert.Reference4Ideal.Read.val_main_v3_apply _ _ _).trans ((Cert.Reference4Ideal.Read.val_main_v2_apply _ _ _).trans ?_)
  refine Finset.sum_congr rfl fun k _ => (EReal.mul_comm _ _).trans (congrArg₂ (· * ·) (congrArg x0 (funext fun a => ?_)) (congrArg x1 (funext fun a => ?_)))
  · match a with
    | ⟨0, _⟩ => rfl
    | ⟨1, _⟩ => rfl
  · match a with
    | ⟨0, _⟩ => rfl
    | ⟨1, _⟩ => rfl

/-- The half of the reference's weight gradient that the bit names, at an entry. -/
theorem half (x0 : S2048x5632.Idx → EReal) (x1 : S2048x2048.Idx → EReal) (x2 : S1.Idx → BitVec 32) (i : S4x704x2048.Idx) (r : Fin 5632) (c : Fin 2048)
    (hr : r.val = (2 * (i 0).val + (1 - (IntOp.andi (x2 (ix1 0)) 1#32).toNat)) * 704 + (i 1).val) (hc : c.val = (i 2).val) :
    Cert.Reference4Ideal.Read.val_main_v12 (F := Ideal) x0 x1 x2 i = ∑ k : Fin 2048, x0 (ix2 k r) * x1 (ix2 k c) := by
  rw [Cert.Reference4Ideal.Read.val_main_v12_apply, Cert.Reference4Ideal.Read.val_main_call0_v0_apply, one_place (Cert.Reference4Ideal.Read.idx_main_call0_v0 i)]
  exact other_half (Cert.Reference4Ideal.Read.val_main_v5 (F := Ideal) x0 x1) _ _ _ (bit_cases _) i fun j j0 j1 j2 => weight x0 x1 j r c (by rw [hr, j0, j1]) (by rw [hc, j2])

variable (m : (ℓ : Loc nD τ sig) → Buf (Elt Ideal) ℓ) (c : Dev nD)

/-- What the region finds in the arrays it reads. -/
theorem V_v2 (j : S8x2048x704.Idx) (i : S2048x5632.Idx) (h0 : (i 0).val = (j 1).val) (h1 : (i 1).val = (j 0).val * 704 + (j 2).val) : (V m c main_v2 : S8x2048x704.Idx → EReal) j = (m ((c : Thread nD τ).loc main_arg0) : S2048x5632.Idx → EReal) i := by
  unfold V
  simp only [hostOps0]
  after_results_simp
  exact cols_apply _ _ _ rfl j i h0 h1
theorem V_v3 (j i : S2048x2048.Idx) (h : i = j) : (V m c main_v3 : S2048x2048.Idx → EReal) j = (m ((c : Thread nD τ).loc main_arg1) : S2048x2048.Idx → EReal) i := by
  subst h
  unfold V
  simp only [hostOps0]
  after_results_simp
  rfl

/-- A block of each of them. -/
theorem blk_0 (t : Fin (cfgM m (ok m)).N) (k : Fin 2048) (r : Fin 704) (i : S2048x5632.Idx) (h0 : (i 0).val = k.val)
    (h1 : (i 1).val = (2 * (grid0.coords t 0).val + side m) * 704 + r.val) : iblk m (ok m) c 0 t (ix3 0 k r) = (m ((c : Thread nD τ).loc main_arg0) : S2048x5632.Idx → EReal) i := by
  obtain ⟨e0, e1, e2⟩ := map_eq m (grid0.coords t)
  unfold iblk
  refine (View.read_apply _ _).trans ?_
  refine V_v2 m c _ i ?_ ?_
  · show (i 0).val = cc0_transform_0 inb_S1_S1_0 numel1_S1 (tbl m) (grid0.coords t) 1 * 2048 + 1 * k.val
    rw [e1]
    omega
  · show (i 1).val = (cc0_transform_0 inb_S1_S1_0 numel1_S1 (tbl m) (grid0.coords t) 0 * 1 + 1 * 0) * 704 + (cc0_transform_0 inb_S1_S1_0 numel1_S1 (tbl m) (grid0.coords t) 2 * 704 + 1 * r.val)
    rw [e0, e2]
    omega
theorem map_1 : ∀ i : grid0.Coords, cc0_transform_1 i 0 = 0 ∧ cc0_transform_1 i 1 = 0 := by decide +kernel
theorem blk_1 (t : Fin (cfgM m (ok m)).N) (k : Fin 2048) (r : Fin 2048) (i : S2048x2048.Idx) (h0 : (i 0).val = k.val)
    (h1 : (i 1).val = r.val) : iblk m (ok m) c 1 t (ix2 k r) = (m ((c : Thread nD τ).loc main_arg1) : S2048x2048.Idx → EReal) i := by
  obtain ⟨e0, e1⟩ := map_1 (grid0.coords t)
  unfold iblk
  refine (View.read_apply _ _).trans ?_
  refine V_v3 m c _ i (funext fun a => Fin.ext ?_)
  match a with
  | ⟨0, _⟩ =>
      show (i 0).val = cc0_transform_1 (grid0.coords t) 0 * 2048 + 1 * k.val
      rw [e0]
      omega
  | ⟨1, _⟩ =>
      show (i 1).val = cc0_transform_1 (grid0.coords t) 1 * 2048 + 1 * r.val
      rw [e1]
      omega
theorem map_2 : ∀ i : grid0.Coords, cc0_transform_2 i 0 = (i 0).val ∧ cc0_transform_2 i 1 = 0 ∧ cc0_transform_2 i 2 = 0 := by decide +kernel

/-- The result array is the half the bit names. -/
theorem final : (dats m (ok m) 0 c).arrAt 2 (cfgM m (ok m)).N
    = Cert.Reference4Ideal.Read.val_main_v12 (F := Ideal) (m ((c : Thread nD τ).loc main_arg0)) (m ((c : Thread nD τ).loc main_arg1)) (m ((c : Thread nD τ).loc main_arg2)) := by
  obtain rfl : c = 0 := Subsingleton.elim _ _
  refine (dats m (ok m) 0 0).arrAt_eq_of_covers 2 _ (of_decide_eq_true (by sl_kernel_rfl)) fun t _ (y : S1x704x2048.Idx) => ?_
  refine (congrFun (after0_2 m (ok m) 0 t) _).trans ?_
  unfold outsAt0
  frame_out
  obtain ⟨e0, e1, e2⟩ := map_2 (grid0.coords t)
  have hp : (grid0.coords t 0).val < 4 := (grid0.coords t 0).isLt
  have hs := side_le m
  have y0 : (y 0).val < 1 := (y 0).isLt
  have y1 : (y 1).val < 704 := (y 1).isLt
  have y2 : (y 2).val < 2048 := (y 2).isLt
  refine (pay _ _ y).trans (Eq.trans ?_ (half _ _ _ _ ⟨(2 * (grid0.coords t 0).val + side m) * 704 + (y 1).val, by omega⟩ (y 2) ?_ ?_).symm)
  · exact Finset.sum_congr rfl fun k _ => congrArg₂ (· * ·) ((congrFun (Memref.IsWhole.read_unread _ _) _).trans (blk_0 m 0 t _ _ _ rfl rfl)) ((congrFun (Memref.IsWhole.read_unread _ _) _).trans (blk_1 m 0 t _ _ _ rfl rfl))
  · show (2 * (grid0.coords t 0).val + side m) * 704 + (y 1).val = (2 * (cc0_transform_2 (grid0.coords t) 0 * 1 + 1 * (y 0).val) + side m) * 704 + (cc0_transform_2 (grid0.coords t) 1 * 704 + 1 * (y 1).val)
    rw [e0, e1]
    omega
  · show (y 2).val = (cc0_transform_2 (grid0.coords t) 2 * 2048 + 1 * (y 2).val)
    rw [e2]
    omega

end Cert.Kernel4Ideal.Dense

namespace Cert.Proof

open Idealize.ShloMosaic Idealize.ShloMosaic.TcCoe Idealize.SL.Sem

/-- The two programs end with equal results. -/
theorem algebraic4 : Cert.algebraic_Kernel4Ideal_Reference4Ideal := by
  intro m ρ m' ρ' _ hagree
  refine ⟨_, (θ_run Cert.Kernel4Ideal.defs _ _).mono (fun _ h c => ⟨((h.1 c).1 2).trans (Cert.Kernel4Ideal.Dense.final m c), h.2 c⟩)
    (θ_run_and (Cert.Kernel4Ideal.Gen.run_main m ρ (Cert.Kernel4Ideal.Dense.ok m)) (Cert.Kernel4Ideal.Gen.unchanged m ρ (Cert.Kernel4Ideal.Dense.ok m))), ?_⟩
  refine (θ_run Cert.Reference4Ideal.defs _ _).mono (fun _ h c => ⟨(h c).1.trans ?_, (h c).2⟩) (Cert.Reference4Ideal.Value.run (F := Ideal) m' ρ')
  rw [Cert.Reference4Ideal.Read.val_main_v12_eq, (hagree c).1, (hagree c).2.1, (hagree c).2.2]

end Cert.Proof

end
-- ==== Proof.Dense.K5.lean ====
/-
  The gradient of the projection out of the feed-forward layer: what the kernel leaves is the half of it that belongs to the core itself, added to what came from the other core.
-/
module

public import proofs.«01_k».proof.Defs
public import proofs.«01_k».proof.Proof.Dense.K4
public import proofs.«01_k».proof.Proof.Gen.Kernel5.Frame
public import proofs.«01_k».proof.Proof.Gen.Kernel5Ideal.Frame
public import proofs.«01_k».proof.Proof.Gen.Reference5Ideal.Read

@[expose] public section

set_option maxRecDepth 16384

noncomputable section

namespace Cert.Kernel5.Dense

open Idealize.ShloMosaic Idealize.ShloMosaic.TcCoe Idealize.SL.Sem
open Idealize.ShloMosaic.ValueIdx
open Cert.Kernel5 Cert.Kernel5.Gen Cert.Dense

section Table

variable {F : FTy → Type} [FloatOps F] (m : (ℓ : Loc nD τ sig) → Buf (Elt F) ℓ)

/-- The core's place on its chip: the last bit of its number. -/
def place : BitVec 32 := IntOp.andi ((m (((0 : Dev nD) : Thread nD τ).loc main_arg3) : S1.Idx → BitVec 32) (ix1 0)) 1#32

theorem place_cases : place m = 0#32 ∨ place m = 1#32 := bit_cases _

/-- The table the index map reads holds it. -/
theorem table : (tbl m).at 0 (Rect.unit (s := S1) ![0] S1.size inb_S1_S1_0) numel1_S1 = place m := by
  show (V m 0 main_v5 : S1.Idx → BitVec 32) _ = _
  unfold V
  simp only [hostOps0]
  after_results_simp
  unfold place
  exact congrArg (fun j => IntOp.andi ((m (((0 : Dev nD) : Thread nD τ).loc main_arg3) : S1.Idx → BitVec 32) j) 1#32) (one_place _)

theorem map_table (i : grid0.Coords) : cc0_transform_0 inb_S1_S1_0 numel1_S1 (tbl m) i = ![(Scalar.addi (Scalar.muli 2#32 (BitVec.ofNat 32 (i 0).val)) (place m)).toNat, 0, 0] := by
  rw [← table m]
  rfl

/-- The index map's blocks lie inside the array. -/
theorem ok : Ok m := fun i => by
  rw [map_table m i]
  rcases place_cases m with h | h <;>
  · rw [h]
    revert i
    decide +kernel

/-- Which of two neighbouring blocks the call takes. -/
def side : ℕ := (place m).toNat

theorem side_le : side m ≤ 1 := bit_le _ (place_cases m)

/-- The block the index map names. -/
theorem map_eq (i : grid0.Coords) : cc0_transform_0 inb_S1_S1_0 numel1_S1 (tbl m) i = ![2 * (i 0).val + side m, 0, 0] :=
  (map_table m i).trans (congrArg (fun n : ℕ => ((![n, 0, 0] : Fin 3 → ℕ))) (pick_own _ (place_cases m) (i 0)))

end Table

end Cert.Kernel5.Dense

namespace Cert.Kernel5Ideal.Dense

open Idealize.ShloMosaic Idealize.ShloMosaic.TcCoe Idealize.SL.Sem
open Idealize.ShloMosaic.ValueIdx
open Cert.Kernel5Ideal Cert.Kernel5Ideal.Gen Cert.Dense

section Table

variable {F : FTy → Type} [FloatOps F] (m : (ℓ : Loc nD τ sig) → Buf (Elt F) ℓ)

/-- What the table says does not depend on how numbers are represented. -/
theorem ok : Ok m := Cert.Kernel5.Dense.ok m
/-- Which of two neighbouring blocks the call takes. -/
def side : ℕ := Cert.Kernel5.Dense.side m
theorem side_le : side m ≤ 1 := Cert.Kernel5.Dense.side_le m
theorem map_eq (i : grid0.Coords) : cc0_transform_0 inb_S1_S1_0 numel1_S1 (tbl m) i 0 = 2 * (i 0).val + side m ∧ cc0_transform_0 inb_S1_S1_0 numel1_S1 (tbl m) i 1 = 0 ∧ cc0_transform_0 inb_S1_S1_0 numel1_S1 (tbl m) i 2 = 0 :=
  have e := Cert.Kernel5.Dense.map_eq m i
  ⟨congrFun e 0, congrFun e 1, congrFun e 2⟩

end Table

/-- The body's product at an entry, added to what came from the other core. -/
theorem pay (x0 : Vec Ideal S1x2048x704 .bf16) (x1 : Vec Ideal S2048x2048 .bf16) (x2 : Vec Ideal S1x704x2048 .bf16) (y : S1x704x2048.Idx) :
    k0_pay1 x0 x1 x2 y = (∑ k : Fin 2048, x0 (ix3 0 k (y 1)) * x1 (ix2 k (y 2))) + x2 y := by
  unfold k0_pay1
  refine (unplane_apply _ _ y).trans ?_
  refine congrArg₂ (α := EReal) (β := EReal) (γ := EReal) (· + ·) ?_ ?_
  · refine (mm_tn (M := 704) (K := 2048) (N := 2048) _ _ _ _).trans (Finset.sum_congr rfl fun k _ => congrArg₂ (· * ·) ?_ ?_)
    · exact plane_apply _ _ _ _
    · rw [shapeCast_self]
  · refine (plane_apply _ _ _ _).trans (congrArg x2 (funext fun a => ?_))
    match a with
    | ⟨0, _⟩ => exact Subsingleton.elim (α := Fin 1) _ _
    | ⟨1, _⟩ => rfl
    | ⟨2, _⟩ => rfl

/-- A block of the reference's weight gradient at an entry. -/
theorem weight (x0 : S2048x5632.Idx → EReal) (x1 : S2048x2048.Idx → EReal) (j : Cert.Reference5Ideal.S8x704x2048.Idx) (r : Fin 5632) (c : Fin 2048)
    (hr : r.val = (j 0).val * 704 + (j 1).val) (hc : c.val = (j 2).val) :
    Cert.Reference5Ideal.Read.val_main_v5 (F := Ideal) x0 x1 j = ∑ k : Fin 2048, x0 (ix2 k r) * x1 (ix2 k c) :=
  Cert.Kernel4Ideal.Dense.weight x0 x1 j r c hr hc

/-- The half of the reference's weight gradient that the bit names, at an entry. -/
theorem half (x0 : S2048x5632.Idx → EReal) (x1 : S2048x2048.Idx → EReal) (x2 : S1.Idx → BitVec 32) (i : S4x704x2048.Idx) (r : Fin 5632) (c : Fin 2048)
    (hr : r.val = (2 * (i 0).val + (IntOp.andi (x2 (ix1 0)) 1#32).toNat) * 704 + (i 1).val) (hc : c.val = (i 2).val) :
    Cert.Reference5Ideal.Read.val_main_v13 (F := Ideal) x0 x1 x2 i = ∑ k : Fin 2048, x0 (ix2 k r) * x1 (ix2 k c) := by
  rw [Cert.Reference5Ideal.Read.val_main_v13_apply, Cert.Reference5Ideal.Read.val_main_call1_v0_apply, one_place (Cert.Reference5Ideal.Read.idx_main_call1_v0 i)]
  exact own_half (Cert.Reference5Ideal.Read.val_main_v5 (F := Ideal) x0 x1) _ _ _ (bit_cases _) i fun j j0 j1 j2 => weight x0 x1 j r c (by rw [hr, j0, j1]) (by rw [hc, j2])

variable (m : (ℓ : Loc nD τ sig) → Buf (Elt Ideal) ℓ) (c : Dev nD)

/-- What the region finds in the arrays it reads. -/
theorem V_v2 (j : S8x2048x704.Idx) (i : S2048x5632.Idx) (h0 : (i 0).val = (j 1).val) (h1 : (i 1).val = (j 0).val * 704 + (j 2).val) : (V m c main_v2 : S8x2048x704.Idx → EReal) j = (m ((c : Thread nD τ).loc main_arg0) : S2048x5632.Idx → EReal) i := by
  unfold V
  simp only [hostOps0]
  after_results_simp
  exact cols_apply _ _ _ rfl j i h0 h1
theorem V_v3 (j i : S2048x2048.Idx) (h : i = j) : (V m c main_v3 : S2048x2048.Idx → EReal) j = (m ((c : Thread nD τ).loc main_arg1) : S2048x2048.Idx → EReal) i := by
  subst h
  unfold V
  simp only [hostOps0]
  after_results_simp
  rfl
theorem V_v6 (j i : S4x704x2048.Idx) (h : i = j) : (V m c main_v6 : S4x704x2048.Idx → EReal) j = (m ((c : Thread nD τ).loc main_arg2) : S4x704x2048.Idx → EReal) i := by
  subst h
  unfold V
  simp only [hostOps0]
  after_results_simp
  rfl

/-- A block of each of them. -/
theorem blk_0 (t : Fin (cfgM m (ok m)).N) (k : Fin 2048) (r : Fin 704) (i : S2048x5632.Idx) (h0 : (i 0).val = k.val)
    (h1 : (i 1).val = (2 * (grid0.coords t 0).val + side m) * 704 + r.val) : iblk m (ok m) c 0 t (ix3 0 k r) = (m ((c : Thread nD τ).loc main_arg0) : S2048x5632.Idx → EReal) i := by
  obtain ⟨e0, e1, e2⟩ := map_eq m (grid0.coords t)
  unfold iblk
  refine (View.read_apply _ _).trans ?_
  refine V_v2 m c _ i ?_ ?_
  · show (i 0).val = cc0_transform_0 inb_S1_S1_0 numel1_S1 (tbl m) (grid0.coords t) 1 * 2048 + 1 * k.val
    rw [e1]
    omega
  · show (i 1).val = (cc0_transform_0 inb_S1_S1_0 numel1_S1 (tbl m) (grid0.coords t) 0 * 1 + 1 * 0) * 704 + (cc0_transform_0 inb_S1_S1_0 numel1_S1 (tbl m) (grid0.coords t) 2 * 704 + 1 * r.val)
    rw [e0, e2]
    omega
theorem map_1 : ∀ i : grid0.Coords, cc0_transform_1 i 0 = 0 ∧ cc0_transform_1 i 1 = 0 := by decide +kernel
theorem blk_1 (t : Fin (cfgM m (ok m)).N) (k : Fin 2048) (r : Fin 2048) (i : S2048x2048.Idx) (h0 : (i 0).val = k.val)
    (h1 : (i 1).val = r.val) : iblk m (ok m) c 1 t (ix2 k r) = (m ((c : Thread nD τ).loc main_arg1) : S2048x2048.Idx → EReal) i := by
  obtain ⟨e0, e1⟩ := map_1 (grid0.coords t)
  unfold iblk
  refine (View.read_apply _ _).trans ?_
  refine V_v3 m c _ i (funext fun a => Fin.ext ?_)
  match a with
  | ⟨0, _⟩ =>
      show (i 0).val = cc0_transform_1 (grid0.coords t) 0 * 2048 + 1 * k.val
      rw [e0]
      omega
  | ⟨1, _⟩ =>
      show (i 1).val = cc0_transform_1 (grid0.coords t) 1 * 2048 + 1 * r.val
      rw [e1]
      omega
theorem map_2 : ∀ i : grid0.Coords, cc0_transform_2 i 0 = (i 0).val ∧ cc0_transform_2 i 1 = 0 ∧ cc0_transform_2 i 2 = 0 := by decide +kernel
theorem blk_2 (t : Fin (cfgM m (ok m)).N) (y : S1x704x2048.Idx) (i : S4x704x2048.Idx) (h0 : (i 0).val = (grid0.coords t 0).val) (h1 : (i 1).val = (y 1).val)
    (h2 : (i 2).val = (y 2).val) : iblk m (ok m) c 2 t y = (m ((c : Thread nD τ).loc main_arg2) : S4x704x2048.Idx → EReal) i := by
  obtain ⟨e0, e1, e2⟩ := map_2 (grid0.coords t)
  have y0 : (y 0).val < 1 := (y 0).isLt
  unfold iblk
  refine (View.read_apply _ _).trans ?_
  refine V_v6 m c _ i (funext fun a => Fin.ext ?_)
  match a with
  | ⟨0, _⟩ =>
      show (i 0).val = cc0_transform_2 (grid0.coords t) 0 * 1 + 1 * (y 0).val
      rw [e0]
      omega
  | ⟨1, _⟩ =>
      show (i 1).val = cc0_transform_2 (grid0.coords t) 1 * 704 + 1 * (y 1).val
      rw [e1]
      omega
  | ⟨2, _⟩ =>
      show (i 2).val = cc0_transform_2 (grid0.coords t) 2 * 2048 + 1 * (y 2).val
      rw [e2]
      omega
theorem map_3 : ∀ i : grid0.Coords, cc0_transform_3 i 0 = (i 0).val ∧ cc0_transform_3 i 1 = 0 ∧ cc0_transform_3 i 2 = 0 := by decide +kernel

/-- The result array is the half the bit names, added to what came from the other core. -/
theorem final : (dats m (ok m) 0 c).arrAt 3 (cfgM m (ok m)).N
    = Cert.Reference5Ideal.Read.val_main_v16 (F := Ideal) (m ((c : Thread nD τ).loc main_arg0)) (m ((c : Thread nD τ).loc main_arg1)) (m ((c : Thread nD τ).loc main_arg2)) (m ((c : Thread nD τ).loc main_arg3)) := by
  obtain rfl : c = 0 := Subsingleton.elim _ _
  refine (dats m (ok m) 0 0).arrAt_eq_of_covers 3 _ (of_decide_eq_true (by sl_kernel_rfl)) fun t _ (y : S1x704x2048.Idx) => ?_
  refine (congrFun (after0_3 m (ok m) 0 t) _).trans ?_
  unfold outsAt0
  frame_out
  obtain ⟨e0, e1, e2⟩ := map_3 (grid0.coords t)
  have hp : (grid0.coords t 0).val < 4 := (grid0.coords t 0).isLt
  have hs := side_le m
  have y0 : (y 0).val < 1 := (y 0).isLt
  have y1 : (y 1).val < 704 := (y 1).isLt
  have y2 : (y 2).val < 2048 := (y 2).isLt
  refine (pay _ _ _ y).trans ?_
  refine congrArg₂ (α := EReal) (β := EReal) (γ := EReal) (· + ·) (Eq.trans ?_ (half _ _ _ _ ⟨(2 * (grid0.coords t 0).val + side m) * 704 + (y 1).val, by omega⟩ (y 2) ?_ ?_).symm) ((congrFun (Memref.IsWhole.read_unread _ _) _).trans (blk_2 m 0 t y _ ?_ ?_ ?_))
  · exact Finset.sum_congr rfl fun k _ => congrArg₂ (· * ·) ((congrFun (Memref.IsWhole.read_unread _ _) _).trans (blk_0 m 0 t _ _ _ rfl rfl)) ((congrFun (Memref.IsWhole.read_unread _ _) _).trans (blk_1 m 0 t _ _ _ rfl rfl))
  · show (2 * (grid0.coords t 0).val + side m) * 704 + (y 1).val = (2 * (cc0_transform_3 (grid0.coords t) 0 * 1 + 1 * (y 0).val) + side m) * 704 + (cc0_transform_3 (grid0.coords t) 1 * 704 + 1 * (y 1).val)
    rw [e0, e1]
    omega
  · show (y 2).val = (cc0_transform_3 (grid0.coords t) 2 * 2048 + 1 * (y 2).val)
    rw [e2]
    omega
  · show (cc0_transform_3 (grid0.coords t) 0 * 1 + 1 * (y 0).val) = (grid0.coords t 0).val
    rw [e0]
    omega
  · show (cc0_transform_3 (grid0.coords t) 1 * 704 + 1 * (y 1).val) = (y 1).val
    rw [e1]
    omega
  · show (cc0_transform_3 (grid0.coords t) 2 * 2048 + 1 * (y 2).val) = (y 2).val
    rw [e2]
    omega

end Cert.Kernel5Ideal.Dense

namespace Cert.Proof

open Idealize.ShloMosaic Idealize.ShloMosaic.TcCoe Idealize.SL.Sem

/-- The two programs end with equal results. -/
theorem algebraic5 : Cert.algebraic_Kernel5Ideal_Reference5Ideal := by
  intro m ρ m' ρ' _ hagree
  refine ⟨_, (θ_run Cert.Kernel5Ideal.defs _ _).mono (fun _ h c => ⟨((h.1 c).1 3).trans (Cert.Kernel5Ideal.Dense.final m c), h.2 c⟩)
    (θ_run_and (Cert.Kernel5Ideal.Gen.run_main m ρ (Cert.Kernel5Ideal.Dense.ok m)) (Cert.Kernel5Ideal.Gen.unchanged m ρ (Cert.Kernel5Ideal.Dense.ok m))), ?_⟩
  refine (θ_run Cert.Reference5Ideal.defs _ _).mono (fun _ h c => ⟨(h c).1.trans ?_, (h c).2⟩) (Cert.Reference5Ideal.Value.run (F := Ideal) m' ρ')
  rw [Cert.Reference5Ideal.Read.val_main_v16_eq, (hagree c).1, (hagree c).2.1, (hagree c).2.2.1, (hagree c).2.2.2]

end Cert.Proof

end
-- ==== Proof.Dense.K6.lean ====
/-
  The gradient of the projection into the mixer: what the kernel leaves is the half of it that belongs to the other core of the chip.
-/
module

public import proofs.«01_k».proof.Defs
public import proofs.«01_k».proof.Proof.Dense.Half
public import proofs.«01_k».proof.Proof.Gen.Kernel6.Frame
public import proofs.«01_k».proof.Proof.Gen.Kernel6Ideal.Frame
public import proofs.«01_k».proof.Proof.Gen.Reference6Ideal.Read

@[expose] public section

set_option maxRecDepth 16384

noncomputable section

namespace Cert.Kernel6.Dense

open Idealize.ShloMosaic Idealize.ShloMosaic.TcCoe Idealize.SL.Sem
open Idealize.ShloMosaic.ValueIdx
open Cert.Kernel6 Cert.Kernel6.Gen Cert.Dense

section Table

variable {F : FTy → Type} [FloatOps F] (m : (ℓ : Loc nD τ sig) → Buf (Elt F) ℓ)

/-- The core's place on its chip: the last bit of its number. -/
def place : BitVec 32 := IntOp.andi ((m (((0 : Dev nD) : Thread nD τ).loc main_arg2) : S1.Idx → BitVec 32) (ix1 0)) 1#32

theorem place_cases : place m = 0#32 ∨ place m = 1#32 := bit_cases _

/-- The table the index map reads holds it. -/
theorem table : (tbl m).at 0 (Rect.unit (s := S1) ![0] S1.size inb_S1_S1_0) numel1_S1 = place m := by
  show (V m 0 main_v3 : S1.Idx → BitVec 32) _ = _
  unfold V
  simp only [hostOps0]
  after_results_simp
  unfold place
  exact congrArg (fun j => IntOp.andi ((m (((0 : Dev nD) : Thread nD τ).loc main_arg2) : S1.Idx → BitVec 32) j) 1#32) (one_place _)

theorem map_table (i : grid0.Coords) : cc0_transform_1 inb_S1_S1_0 numel1_S1 (tbl m) i = ![0, (Scalar.addi (Scalar.muli 2#32 (BitVec.ofNat 32 (i 0).val)) (Scalar.subi 1#32 (place m))).toNat] := by
  rw [← table m]
  rfl

/-- The index map's blocks lie inside the array. -/
theorem ok : Ok m := fun i => by
  rw [map_table m i]
  rcases place_cases m with h | h <;>
  · rw [h]
    revert i
    decide +kernel

/-- Which of two neighbouring blocks the call takes. -/
def side : ℕ := 1 - (place m).toNat

theorem side_le : side m ≤ 1 := Nat.sub_le _ _

/-- The block the index map names. -/
theorem map_eq (i : grid0.Coords) : cc0_transform_1 inb_S1_S1_0 numel1_S1 (tbl m) i = ![0, 2 * (i 0).val + side m] :=
  (map_table m i).trans (congrArg (fun n : ℕ => ((![0, n] : Fin 2 → ℕ))) (pick_other _ (place_cases m) (i 0)))

end Table

end Cert.Kernel6.Dense

namespace Cert.Kernel6Ideal.Dense

open Idealize.ShloMosaic Idealize.ShloMosaic.TcCoe Idealize.SL.Sem
open Idealize.ShloMosaic.ValueIdx
open Cert.Kernel6Ideal Cert.Kernel6Ideal.Gen Cert.Dense

section Table

variable {F : FTy → Type} [FloatOps F] (m : (ℓ : Loc nD τ sig) → Buf (Elt F) ℓ)

/-- What the table says does not depend on how numbers are represented. -/
theorem ok : Ok m := Cert.Kernel6.Dense.ok m
/-- Which of two neighbouring blocks the call takes. -/
def side : ℕ := Cert.Kernel6.Dense.side m
theorem side_le : side m ≤ 1 := Cert.Kernel6.Dense.side_le m
theorem map_eq (i : grid0.Coords) : cc0_transform_1 inb_S1_S1_0 numel1_S1 (tbl m) i 0 = 0 ∧ cc0_transform_1 inb_S1_S1_0 numel1_S1 (tbl m) i 1 = 2 * (i 0).val + side m :=
  have e := Cert.Kernel6.Dense.map_eq m i
  ⟨congrFun e 0, congrFun e 1⟩

end Table

/-- The body's product at an entry. -/
theorem pay (x0 : Vec Ideal S2048x2048 .bf16) (x1 : Vec Ideal S2048x640 .bf16) (y : S1x2048x640.Idx) :
    k0_pay1 x0 x1 y = (∑ k : Fin 2048, x0 (ix2 k (y 1)) * x1 (ix2 k (y 2))) := by
  unfold k0_pay1
  refine (unplane_apply _ _ y).trans ?_
  refine (mm_tn (M := 2048) (K := 2048) (N := 640) _ _ _ _).trans (Finset.sum_congr rfl fun k _ => congrArg₂ (· * ·) ?_ ?_)
  · rw [shapeCast_self]
  · rw [shapeCast_self]

/-- A block of the reference's weight gradient at an entry. -/
theorem weight (x0 : S2048x2048.Idx → EReal) (x1 : S2048x5120.Idx → EReal) (j : Cert.Reference6Ideal.S8x2048x640.Idx) (r : Fin 2048) (c : Fin 5120)
    (hr : r.val = (j 1).val) (hc : c.val = (j 0).val * 640 + (j 2).val) :
    Cert.Reference6Ideal.Read.val_main_v6 (F := Ideal) x0 x1 j = ∑ k : Fin 2048, x0 (ix2 k r) * x1 (ix2 k c) := by
  refine Eq.trans (cols_apply _ _ _ rfl j (ix2 r c) hr hc : _ = Cert.Reference6Ideal.Read.val_main_v3 (F := Ideal) x0 x1 (ix2 r c)) ?_
  refine (Cert.Reference6Ideal.Read.val_main_v3_apply _ _ _).trans ((Cert.Reference6Ideal.Read.val_main_v2_apply _ _ _).trans ?_)
  refine Finset.sum_congr rfl fun k _ => (EReal.mul_comm _ _).trans (congrArg₂ (· * ·) (congrArg x0 (funext fun a => ?_)) (congrArg x1 (funext fun a => ?_)))
  · match a with
    | ⟨0, _⟩ => rfl
    | ⟨1, _⟩ => rfl
  · match a with
    | ⟨0, _⟩ => rfl
    | ⟨1, _⟩ => rfl

/-- The half of the reference's weight gradient that the bit names, at an entry. -/
theorem half (x0 : S2048x2048.Idx → EReal) (x1 : S2048x5120.Idx → EReal) (x2 : S1.Idx → BitVec 32) (i : S4x2048x640.Idx) (r : Fin 2048) (c : Fin 5120)
    (hr : r.val = (i 1).val) (hc : c.val = (2 * (i 0).val + (1 - (IntOp.andi (x2 (ix1 0)) 1#32).toNat)) * 640 + (i 2).val) :
    Cert.Reference6Ideal.Read.val_main_v13 (F := Ideal) x0 x1 x2 i = ∑ k : Fin 2048, x0 (ix2 k r) * x1 (ix2 k c) := by
  rw [Cert.Reference6Ideal.Read.val_main_v13_apply, Cert.Reference6Ideal.Read.val_main_call0_v0_apply, one_place (Cert.Reference6Ideal.Read.idx_main_call0_v0 i)]
  exact other_half (Cert.Reference6Ideal.Read.val_main_v6 (F := Ideal) x0 x1) _ _ _ (bit_cases _) i fun j j0 j1 j2 => weight x0 x1 j r c (by rw [hr, j1]) (by rw [hc, j0, j2])

variable (m : (ℓ : Loc nD τ sig) → Buf (Elt Ideal) ℓ) (c : Dev nD)

/-- What the region finds in the arrays it reads. -/
theorem V_v0 (j i : S2048x2048.Idx) (h : i = j) : (V m c main_v0 : S2048x2048.Idx → EReal) j = (m ((c : Thread nD τ).loc main_arg0) : S2048x2048.Idx → EReal) i := by
  subst h
  unfold V
  simp only [hostOps0]
  after_results_simp
  rfl
theorem V_v1 (j i : S2048x5120.Idx) (h : i = j) : (V m c main_v1 : S2048x5120.Idx → EReal) j = (m ((c : Thread nD τ).loc main_arg1) : S2048x5120.Idx → EReal) i := by
  subst h
  unfold V
  simp only [hostOps0]
  after_results_simp
  rfl

/-- A block of each of them. -/
theorem map_0 : ∀ i : grid0.Coords, cc0_transform_0 i 0 = 0 ∧ cc0_transform_0 i 1 = 0 := by decide +kernel
theorem blk_0 (t : Fin (cfgM m (ok m)).N) (k : Fin 2048) (r : Fin 2048) (i : S2048x2048.Idx) (h0 : (i 0).val = k.val)
    (h1 : (i 1).val = r.val) : iblk m (ok m) c 0 t (ix2 k r) = (m ((c : Thread nD τ).loc main_arg0) : S2048x2048.Idx → EReal) i := by
  obtain ⟨e0, e1⟩ := map_0 (grid0.coords t)
  unfold iblk
  refine (View.read_apply _ _).trans ?_
  refine V_v0 m c _ i (funext fun a => Fin.ext ?_)
  match a with
  | ⟨0, _⟩ =>
      show (i 0).val = cc0_transform_0 (grid0.coords t) 0 * 2048 + 1 * k.val
      rw [e0]
      omega
  | ⟨1, _⟩ =>
      show (i 1).val = cc0_transform_0 (grid0.coords t) 1 * 2048 + 1 * r.val
      rw [e1]
      omega
theorem blk_1 (t : Fin (cfgM m (ok m)).N) (k : Fin 2048) (r : Fin 640) (i : S2048x5120.Idx) (h0 : (i 0).val = k.val)
    (h1 : (i 1).val = (2 * (grid0.coords t 0).val + side m) * 640 + r.val) : iblk m (ok m) c 1 t (ix2 k r) = (m ((c : Thread nD τ).loc main_arg1) : S2048x5120.Idx → EReal) i := by
  obtain ⟨e0, e1⟩ := map_eq m (grid0.coords t)
  unfold iblk
  refine (View.read_apply _ _).trans ?_
  refine V_v1 m c _ i (funext fun a => Fin.ext ?_)
  match a with
  | ⟨0, _⟩ =>
      show (i 0).val = cc0_transform_1 inb_S1_S1_0 numel1_S1 (tbl m) (grid0.coords t) 0 * 2048 + 1 * k.val
      rw [e0]
      omega
  | ⟨1, _⟩ =>
      show (i 1).val = cc0_transform_1 inb_S1_S1_0 numel1_S1 (tbl m) (grid0.coords t) 1 * 640 + 1 * r.val
      rw [e1]
      omega
theorem map_2 : ∀ i : grid0.Coords, cc0_transform_2 i 0 = (i 0).val ∧ cc0_transform_2 i 1 = 0 ∧ cc0_transform_2 i 2 = 0 := by decide +kernel

/-- The result array is the half the bit names. -/
theorem final : (dats m (ok m) 0 c).arrAt 2 (cfgM m (ok m)).N
    = Cert.Reference6Ideal.Read.val_main_v13 (F := Ideal) (m ((c : Thread nD τ).loc main_arg0)) (m ((c : Thread nD τ).loc main_arg1)) (m ((c : Thread nD τ).loc main_arg2)) := by
  obtain rfl : c = 0 := Subsingleton.elim _ _
  refine (dats m (ok m) 0 0).arrAt_eq_of_covers 2 _ (of_decide_eq_true (by sl_kernel_rfl)) fun t _ (y : S1x2048x640.Idx) => ?_
  refine (congrFun (after0_2 m (ok m) 0 t) _).trans ?_
  unfold outsAt0
  frame_out
  obtain ⟨e0, e1, e2⟩ := map_2 (grid0.coords t)
  have hp : (grid0.coords t 0).val < 4 := (grid0.coords t 0).isLt
  have hs := side_le m
  have y0 : (y 0).val < 1 := (y 0).isLt
  have y1 : (y 1).val < 2048 := (y 1).isLt
  have y2 : (y 2).val < 640 := (y 2).isLt
  refine (pay _ _ y).trans (Eq.trans ?_ (half _ _ _ _ (y 1) ⟨(2 * (grid0.coords t 0).val + side m) * 640 + (y 2).val, by omega⟩ ?_ ?_).symm)
  · exact Finset.sum_congr rfl fun k _ => congrArg₂ (· * ·) ((congrFun (Memref.IsWhole.read_unread _ _) _).trans (blk_0 m 0 t _ _ _ rfl rfl)) ((congrFun (Memref.IsWhole.read_unread _ _) _).trans (blk_1 m 0 t _ _ _ rfl rfl))
  · show (y 1).val = (cc0_transform_2 (grid0.coords t) 1 * 2048 + 1 * (y 1).val)
    rw [e1]
    omega
  · show (2 * (grid0.coords t 0).val + side m) * 640 + (y 2).val = (2 * (cc0_transform_2 (grid0.coords t) 0 * 1 + 1 * (y 0).val) + side m) * 640 + (cc0_transform_2 (grid0.coords t) 2 * 640 + 1 * (y 2).val)
    rw [e0, e2]
    omega

end Cert.Kernel6Ideal.Dense

namespace Cert.Proof

open Idealize.ShloMosaic Idealize.ShloMosaic.TcCoe Idealize.SL.Sem

/-- The two programs end with equal results. -/
theorem algebraic6 : Cert.algebraic_Kernel6Ideal_Reference6Ideal := by
  intro m ρ m' ρ' _ hagree
  refine ⟨_, (θ_run Cert.Kernel6Ideal.defs _ _).mono (fun _ h c => ⟨((h.1 c).1 2).trans (Cert.Kernel6Ideal.Dense.final m c), h.2 c⟩)
    (θ_run_and (Cert.Kernel6Ideal.Gen.run_main m ρ (Cert.Kernel6Ideal.Dense.ok m)) (Cert.Kernel6Ideal.Gen.unchanged m ρ (Cert.Kernel6Ideal.Dense.ok m))), ?_⟩
  refine (θ_run Cert.Reference6Ideal.defs _ _).mono (fun _ h c => ⟨(h c).1.trans ?_, (h c).2⟩) (Cert.Reference6Ideal.Value.run (F := Ideal) m' ρ')
  rw [Cert.Reference6Ideal.Read.val_main_v13_eq, (hagree c).1, (hagree c).2.1, (hagree c).2.2]

end Cert.Proof

end
-- ==== Proof.Dense.K7.lean ====
/-
  The gradient of the projection into the mixer: what the kernel leaves is the half of it that belongs to the core itself, added to what came from the other core.
-/
module

public import proofs.«01_k».proof.Defs
public import proofs.«01_k».proof.Proof.Dense.K6
public import proofs.«01_k».proof.Proof.Gen.Kernel7.Frame
public import proofs.«01_k».proof.Proof.Gen.Kernel7Ideal.Frame
public import proofs.«01_k».proof.Proof.Gen.Reference7Ideal.Read

@[expose] public section

set_option maxRecDepth 16384

noncomputable section

namespace Cert.Kernel7.Dense

open Idealize.ShloMosaic Idealize.ShloMosaic.TcCoe Idealize.SL.Sem
open Idealize.ShloMosaic.ValueIdx
open Cert.Kernel7 Cert.Kernel7.Gen Cert.Dense

section Table

variable {F : FTy → Type} [FloatOps F] (m : (ℓ : Loc nD τ sig) → Buf (Elt F) ℓ)

/-- The core's place on its chip: the last bit of its number. -/
def place : BitVec 32 := IntOp.andi ((m (((0 : Dev nD) : Thread nD τ).loc main_arg3) : S1.Idx → BitVec 32) (ix1 0)) 1#32

theorem place_cases : place m = 0#32 ∨ place m = 1#32 := bit_cases _

/-- The table the index map reads holds it. -/
theorem table : (tbl m).at 0 (Rect.unit (s := S1) ![0] S1.size inb_S1_S1_0) numel1_S1 = place m := by
  show (V m 0 main_v3 : S1.Idx → BitVec 32) _ = _
  unfold V
  simp only [hostOps0]
  after_results_simp
  unfold place
  exact congrArg (fun j => IntOp.andi ((m (((0 : Dev nD) : Thread nD τ).loc main_arg3) : S1.Idx → BitVec 32) j) 1#32) (one_place _)

theorem map_table (i : grid0.Coords) : cc0_transform_1 inb_S1_S1_0 numel1_S1 (tbl m) i = ![0, (Scalar.addi (Scalar.muli 2#32 (BitVec.ofNat 32 (i 0).val)) (place m)).toNat] := by
  rw [← table m]
  rfl

/-- The index map's blocks lie inside the array. -/
theorem ok : Ok m := fun i => by
  rw [map_table m i]
  rcases place_cases m with h | h <;>
  · rw [h]
    revert i
    decide +kernel

/-- Which of two neighbouring blocks the call takes. -/
def side : ℕ := (place m).toNat

theorem side_le : side m ≤ 1 := bit_le _ (place_cases m)

/-- The block the index map names. -/
theorem map_eq (i : grid0.Coords) : cc0_transform_1 inb_S1_S1_0 numel1_S1 (tbl m) i = ![0, 2 * (i 0).val + side m] :=
  (map_table m i).trans (congrArg (fun n : ℕ => ((![0, n] : Fin 2 → ℕ))) (pick_own _ (place_cases m) (i 0)))

end Table

end Cert.Kernel7.Dense

namespace Cert.Kernel7Ideal.Dense

open Idealize.ShloMosaic Idealize.ShloMosaic.TcCoe Idealize.SL.Sem
open Idealize.ShloMosaic.ValueIdx
open Cert.Kernel7Ideal Cert.Kernel7Ideal.Gen Cert.Dense

section Table

variable {F : FTy → Type} [FloatOps F] (m : (ℓ : Loc nD τ sig) → Buf (Elt F) ℓ)

/-- What the table says does not depend on how numbers are represented. -/
theorem ok : Ok m := Cert.Kernel7.Dense.ok m
/-- Which of two neighbouring blocks the call takes. -/
def side : ℕ := Cert.Kernel7.Dense.side m
theorem side_le : side m ≤ 1 := Cert.Kernel7.Dense.side_le m
theorem map_eq (i : grid0.Coords) : cc0_transform_1 inb_S1_S1_0 numel1_S1 (tbl m) i 0 = 0 ∧ cc0_transform_1 inb_S1_S1_0 numel1_S1 (tbl m) i 1 = 2 * (i 0).val + side m :=
  have e := Cert.Kernel7.Dense.map_eq m i
  ⟨congrFun e 0, congrFun e 1⟩

end Table

/-- The body's product at an entry, added to what came from the other core. -/
theorem pay (x0 : Vec Ideal S2048x2048 .bf16) (x1 : Vec Ideal S2048x640 .bf16) (x2 : Vec Ideal S1x2048x640 .bf16) (y : S1x2048x640.Idx) :
    k0_pay1 x0 x1 x2 y = (∑ k : Fin 2048, x0 (ix2 k (y 1)) * x1 (ix2 k (y 2))) + x2 y := by
  unfold k0_pay1
  refine (unplane_apply _ _ y).trans ?_
  refine congrArg₂ (α := EReal) (β := EReal) (γ := EReal) (· + ·) ?_ ?_
  · refine (mm_tn (M := 2048) (K := 2048) (N := 640) _ _ _ _).trans (Finset.sum_congr rfl fun k _ => congrArg₂ (· * ·) ?_ ?_)
    · rw [shapeCast_self]
    · rw [shapeCast_self]
  · refine (plane_apply _ _ _ _).trans (congrArg x2 (funext fun a => ?_))
    match a with
    | ⟨0, _⟩ => exact Subsingleton.elim (α := Fin 1) _ _
    | ⟨1, _⟩ => rfl
    | ⟨2, _⟩ => rfl

/-- A block of the reference's weight gradient at an entry. -/
theorem weight (x0 : S2048x2048.Idx → EReal) (x1 : S2048x5120.Idx → EReal) (j : Cert.Reference7Ideal.S8x2048x640.Idx) (r : Fin 2048) (c : Fin 5120)
    (hr : r.val = (j 1).val) (hc : c.val = (j 0).val * 640 + (j 2).val) :
    Cert.Reference7Ideal.Read.val_main_v6 (F := Ideal) x0 x1 j = ∑ k : Fin 2048, x0 (ix2 k r) * x1 (ix2 k c) :=
  Cert.Kernel6Ideal.Dense.weight x0 x1 j r c hr hc

/-- The half of the reference's weight gradient that the bit names, at an entry. -/
theorem half (x0 : S2048x2048.Idx → EReal) (x1 : S2048x5120.Idx → EReal) (x2 : S1.Idx → BitVec 32) (i : S4x2048x640.Idx) (r : Fin 2048) (c : Fin 5120)
    (hr : r.val = (i 1).val) (hc : c.val = (2 * (i 0).val + (IntOp.andi (x2 (ix1 0)) 1#32).toNat) * 640 + (i 2).val) :
    Cert.Reference7Ideal.Read.val_main_v14 (F := Ideal) x0 x1 x2 i = ∑ k : Fin 2048, x0 (ix2 k r) * x1 (ix2 k c) := by
  rw [Cert.Reference7Ideal.Read.val_main_v14_apply, Cert.Reference7Ideal.Read.val_main_call1_v0_apply, one_place (Cert.Reference7Ideal.Read.idx_main_call1_v0 i)]
  exact own_half (Cert.Reference7Ideal.Read.val_main_v6 (F := Ideal) x0 x1) _ _ _ (bit_cases _) i fun j j0 j1 j2 => weight x0 x1 j r c (by rw [hr, j1]) (by rw [hc, j0, j2])

variable (m : (ℓ : Loc nD τ sig) → Buf (Elt Ideal) ℓ) (c : Dev nD)

/-- What the region finds in the arrays it reads. -/
theorem V_v0 (j i : S2048x2048.Idx) (h : i = j) : (V m c main_v0 : S2048x2048.Idx → EReal) j = (m ((c : Thread nD τ).loc main_arg0) : S2048x2048.Idx → EReal) i := by
  subst h
  unfold V
  simp only [hostOps0]
  after_results_simp
  rfl
theorem V_v1 (j i : S2048x5120.Idx) (h : i = j) : (V m c main_v1 : S2048x5120.Idx → EReal) j = (m ((c : Thread nD τ).loc main_arg1) : S2048x5120.Idx → EReal) i := by
  subst h
  unfold V
  simp only [hostOps0]
  after_results_simp
  rfl
theorem V_v4 (j i : S4x2048x640.Idx) (h : i = j) : (V m c main_v4 : S4x2048x640.Idx → EReal) j = (m ((c : Thread nD τ).loc main_arg2) : S4x2048x640.Idx → EReal) i := by
  subst h
  unfold V
  simp only [hostOps0]
  after_results_simp
  rfl

/-- A block of each of them. -/
theorem map_0 : ∀ i : grid0.Coords, cc0_transform_0 i 0 = 0 ∧ cc0_transform_0 i 1 = 0 := by decide +kernel
theorem blk_0 (t : Fin (cfgM m (ok m)).N) (k : Fin 2048) (r : Fin 2048) (i : S2048x2048.Idx) (h0 : (i 0).val = k.val)
    (h1 : (i 1).val = r.val) : iblk m (ok m) c 0 t (ix2 k r) = (m ((c : Thread nD τ).loc main_arg0) : S2048x2048.Idx → EReal) i := by
  obtain ⟨e0, e1⟩ := map_0 (grid0.coords t)
  unfold iblk
  refine (View.read_apply _ _).trans ?_
  refine V_v0 m c _ i (funext fun a => Fin.ext ?_)
  match a with
  | ⟨0, _⟩ =>
      show (i 0).val = cc0_transform_0 (grid0.coords t) 0 * 2048 + 1 * k.val
      rw [e0]
      omega
  | ⟨1, _⟩ =>
      show (i 1).val = cc0_transform_0 (grid0.coords t) 1 * 2048 + 1 * r.val
      rw [e1]
      omega
theorem blk_1 (t : Fin (cfgM m (ok m)).N) (k : Fin 2048) (r : Fin 640) (i : S2048x5120.Idx) (h0 : (i 0).val = k.val)
    (h1 : (i 1).val = (2 * (grid0.coords t 0).val + side m) * 640 + r.val) : iblk m (ok m) c 1 t (ix2 k r) = (m ((c : Thread nD τ).loc main_arg1) : S2048x5120.Idx → EReal) i := by
  obtain ⟨e0, e1⟩ := map_eq m (grid0.coords t)
  unfold iblk
  refine (View.read_apply _ _).trans ?_
  refine V_v1 m c _ i (funext fun a => Fin.ext ?_)
  match a with
  | ⟨0, _⟩ =>
      show (i 0).val = cc0_transform_1 inb_S1_S1_0 numel1_S1 (tbl m) (grid0.coords t) 0 * 2048 + 1 * k.val
      rw [e0]
      omega
  | ⟨1, _⟩ =>
      show (i 1).val = cc0_transform_1 inb_S1_S1_0 numel1_S1 (tbl m) (grid0.coords t) 1 * 640 + 1 * r.val
      rw [e1]
      omega
theorem map_2 : ∀ i : grid0.Coords, cc0_transform_2 i 0 = (i 0).val ∧ cc0_transform_2 i 1 = 0 ∧ cc0_transform_2 i 2 = 0 := by decide +kernel
theorem blk_2 (t : Fin (cfgM m (ok m)).N) (y : S1x2048x640.Idx) (i : S4x2048x640.Idx) (h0 : (i 0).val = (grid0.coords t 0).val) (h1 : (i 1).val = (y 1).val)
    (h2 : (i 2).val = (y 2).val) : iblk m (ok m) c 2 t y = (m ((c : Thread nD τ).loc main_arg2) : S4x2048x640.Idx → EReal) i := by
  obtain ⟨e0, e1, e2⟩ := map_2 (grid0.coords t)
  have y0 : (y 0).val < 1 := (y 0).isLt
  unfold iblk
  refine (View.read_apply _ _).trans ?_
  refine V_v4 m c _ i (funext fun a => Fin.ext ?_)
  match a with
  | ⟨0, _⟩ =>
      show (i 0).val = cc0_transform_2 (grid0.coords t) 0 * 1 + 1 * (y 0).val
      rw [e0]
      omega
  | ⟨1, _⟩ =>
      show (i 1).val = cc0_transform_2 (grid0.coords t) 1 * 2048 + 1 * (y 1).val
      rw [e1]
      omega
  | ⟨2, _⟩ =>
      show (i 2).val = cc0_transform_2 (grid0.coords t) 2 * 640 + 1 * (y 2).val
      rw [e2]
      omega
theorem map_3 : ∀ i : grid0.Coords, cc0_transform_3 i 0 = (i 0).val ∧ cc0_transform_3 i 1 = 0 ∧ cc0_transform_3 i 2 = 0 := by decide +kernel

/-- The result array is the half the bit names, added to what came from the other core. -/
theorem final : (dats m (ok m) 0 c).arrAt 3 (cfgM m (ok m)).N
    = Cert.Reference7Ideal.Read.val_main_v17 (F := Ideal) (m ((c : Thread nD τ).loc main_arg0)) (m ((c : Thread nD τ).loc main_arg1)) (m ((c : Thread nD τ).loc main_arg2)) (m ((c : Thread nD τ).loc main_arg3)) := by
  obtain rfl : c = 0 := Subsingleton.elim _ _
  refine (dats m (ok m) 0 0).arrAt_eq_of_covers 3 _ (of_decide_eq_true (by sl_kernel_rfl)) fun t _ (y : S1x2048x640.Idx) => ?_
  refine (congrFun (after0_3 m (ok m) 0 t) _).trans ?_
  unfold outsAt0
  frame_out
  obtain ⟨e0, e1, e2⟩ := map_3 (grid0.coords t)
  have hp : (grid0.coords t 0).val < 4 := (grid0.coords t 0).isLt
  have hs := side_le m
  have y0 : (y 0).val < 1 := (y 0).isLt
  have y1 : (y 1).val < 2048 := (y 1).isLt
  have y2 : (y 2).val < 640 := (y 2).isLt
  refine (pay _ _ _ y).trans ?_
  refine congrArg₂ (α := EReal) (β := EReal) (γ := EReal) (· + ·) (Eq.trans ?_ (half _ _ _ _ (y 1) ⟨(2 * (grid0.coords t 0).val + side m) * 640 + (y 2).val, by omega⟩ ?_ ?_).symm) ((congrFun (Memref.IsWhole.read_unread _ _) _).trans (blk_2 m 0 t y _ ?_ ?_ ?_))
  · exact Finset.sum_congr rfl fun k _ => congrArg₂ (· * ·) ((congrFun (Memref.IsWhole.read_unread _ _) _).trans (blk_0 m 0 t _ _ _ rfl rfl)) ((congrFun (Memref.IsWhole.read_unread _ _) _).trans (blk_1 m 0 t _ _ _ rfl rfl))
  · show (y 1).val = (cc0_transform_3 (grid0.coords t) 1 * 2048 + 1 * (y 1).val)
    rw [e1]
    omega
  · show (2 * (grid0.coords t 0).val + side m) * 640 + (y 2).val = (2 * (cc0_transform_3 (grid0.coords t) 0 * 1 + 1 * (y 0).val) + side m) * 640 + (cc0_transform_3 (grid0.coords t) 2 * 640 + 1 * (y 2).val)
    rw [e0, e2]
    omega
  · show (cc0_transform_3 (grid0.coords t) 0 * 1 + 1 * (y 0).val) = (grid0.coords t 0).val
    rw [e0]
    omega
  · show (cc0_transform_3 (grid0.coords t) 1 * 2048 + 1 * (y 1).val) = (y 1).val
    rw [e1]
    omega
  · show (cc0_transform_3 (grid0.coords t) 2 * 640 + 1 * (y 2).val) = (y 2).val
    rw [e2]
    omega

end Cert.Kernel7Ideal.Dense

namespace Cert.Proof

open Idealize.ShloMosaic Idealize.ShloMosaic.TcCoe Idealize.SL.Sem

/-- The two programs end with equal results. -/
theorem algebraic7 : Cert.algebraic_Kernel7Ideal_Reference7Ideal := by
  intro m ρ m' ρ' _ hagree
  refine ⟨_, (θ_run Cert.Kernel7Ideal.defs _ _).mono (fun _ h c => ⟨((h.1 c).1 3).trans (Cert.Kernel7Ideal.Dense.final m c), h.2 c⟩)
    (θ_run_and (Cert.Kernel7Ideal.Gen.run_main m ρ (Cert.Kernel7Ideal.Dense.ok m)) (Cert.Kernel7Ideal.Gen.unchanged m ρ (Cert.Kernel7Ideal.Dense.ok m))), ?_⟩
  refine (θ_run Cert.Reference7Ideal.defs _ _).mono (fun _ h c => ⟨(h c).1.trans ?_, (h c).2⟩) (Cert.Reference7Ideal.Value.run (F := Ideal) m' ρ')
  rw [Cert.Reference7Ideal.Read.val_main_v17_eq, (hagree c).1, (hagree c).2.1, (hagree c).2.2.1, (hagree c).2.2.2]

end Cert.Proof

end
-- ==== Proof.Dense.K8.lean ====
/-
  The gradient of the projection out of the mixer: what the kernel leaves is the half of it that belongs to the other core of the chip.
-/
module

public import proofs.«01_k».proof.Defs
public import proofs.«01_k».proof.Proof.Dense.Half
public import proofs.«01_k».proof.Proof.Gen.Kernel8.Frame
public import proofs.«01_k».proof.Proof.Gen.Kernel8Ideal.Frame
public import proofs.«01_k».proof.Proof.Gen.Reference8Ideal.Read

@[expose] public section

set_option maxRecDepth 16384

noncomputable section

namespace Cert.Kernel8.Dense

open Idealize.ShloMosaic Idealize.ShloMosaic.TcCoe Idealize.SL.Sem
open Idealize.ShloMosaic.ValueIdx
open Cert.Kernel8 Cert.Kernel8.Gen Cert.Dense

section Table

variable {F : FTy → Type} [FloatOps F] (m : (ℓ : Loc nD τ sig) → Buf (Elt F) ℓ)

/-- The core's place on its chip: the last bit of its number. -/
def place : BitVec 32 := IntOp.andi ((m (((0 : Dev nD) : Thread nD τ).loc main_arg2) : S1.Idx → BitVec 32) (ix1 0)) 1#32

theorem place_cases : place m = 0#32 ∨ place m = 1#32 := bit_cases _

/-- The table the index map reads holds it. -/
theorem table : (tbl m).at 0 (Rect.unit (s := S1) ![0] S1.size inb_S1_S1_0) numel1_S1 = place m := by
  show (V m 0 main_v3 : S1.Idx → BitVec 32) _ = _
  unfold V
  simp only [hostOps0]
  after_results_simp
  unfold place
  exact congrArg (fun j => IntOp.andi ((m (((0 : Dev nD) : Thread nD τ).loc main_arg2) : S1.Idx → BitVec 32) j) 1#32) (one_place _)

theorem map_table (i : grid0.Coords) : cc0_transform_0 inb_S1_S1_0 numel1_S1 (tbl m) i = ![0, (Scalar.addi (Scalar.muli 2#32 (BitVec.ofNat 32 (i 0).val)) (Scalar.subi 1#32 (place m))).toNat] := by
  rw [← table m]
  rfl

/-- The index map's blocks lie inside the array. -/
theorem ok : Ok m := fun i => by
  rw [map_table m i]
  rcases place_cases m with h | h <;>
  · rw [h]
    revert i
    decide +kernel

/-- Which of two neighbouring blocks the call takes. -/
def side : ℕ := 1 - (place m).toNat

theorem side_le : side m ≤ 1 := Nat.sub_le _ _

/-- The block the index map names. -/
theorem map_eq (i : grid0.Coords) : cc0_transform_0 inb_S1_S1_0 numel1_S1 (tbl m) i = ![0, 2 * (i 0).val + side m] :=
  (map_table m i).trans (congrArg (fun n : ℕ => ((![0, n] : Fin 2 → ℕ))) (pick_other _ (place_cases m) (i 0)))

end Table

end Cert.Kernel8.Dense

namespace Cert.Kernel8Ideal.Dense

open Idealize.ShloMosaic Idealize.ShloMosaic.TcCoe Idealize.SL.Sem
open Idealize.ShloMosaic.ValueIdx
open Cert.Kernel8Ideal Cert.Kernel8Ideal.Gen Cert.Dense

section Table

variable {F : FTy → Type} [FloatOps F] (m : (ℓ : Loc nD τ sig) → Buf (Elt F) ℓ)

/-- What the table says does not depend on how numbers are represented. -/
theorem ok : Ok m := Cert.Kernel8.Dense.ok m
/-- Which of two neighbouring blocks the call takes. -/
def side : ℕ := Cert.Kernel8.Dense.side m
theorem side_le : side m ≤ 1 := Cert.Kernel8.Dense.side_le m
theorem map_eq (i : grid0.Coords) : cc0_transform_0 inb_S1_S1_0 numel1_S1 (tbl m) i 0 = 0 ∧ cc0_transform_0 inb_S1_S1_0 numel1_S1 (tbl m) i 1 = 2 * (i 0).val + side m :=
  have e := Cert.Kernel8.Dense.map_eq m i
  ⟨congrFun e 0, congrFun e 1⟩

end Table

/-- The body's product at an entry. -/
theorem pay (x0 : Vec Ideal S2048x256 .bf16) (x1 : Vec Ideal S2048x2048 .bf16) (y : S1x256x2048.Idx) :
    k0_pay1 x0 x1 y = (∑ k : Fin 2048, x0 (ix2 k (y 1)) * x1 (ix2 k (y 2))) := by
  unfold k0_pay1
  refine (unplane_apply _ _ y).trans ?_
  refine (mm_tn (M := 256) (K := 2048) (N := 2048) _ _ _ _).trans (Finset.sum_congr rfl fun k _ => congrArg₂ (· * ·) ?_ ?_)
  · rw [shapeCast_self]
  · rw [shapeCast_self]

/-- A block of the reference's weight gradient at an entry. -/
theorem weight (x0 : S2048x2048.Idx → EReal) (x1 : S2048x2048.Idx → EReal) (j : Cert.Reference8Ideal.S8x256x2048.Idx) (r : Fin 2048) (c : Fin 2048)
    (hr : r.val = (j 0).val * 256 + (j 1).val) (hc : c.val = (j 2).val) :
    Cert.Reference8Ideal.Read.val_main_v5 (F := Ideal) x0 x1 j = ∑ k : Fin 2048, x0 (ix2 k r) * x1 (ix2 k c) := by
  refine Eq.trans (rows_apply _ _ j (ix2 r c) hr hc : _ = Cert.Reference8Ideal.Read.val_main_v3 (F := Ideal) x0 x1 (ix2 r c)) ?_
  refine (Cert.Reference8Ideal.Read.val_main_v3_apply _ _ _).trans ((Cert.Reference8Ideal.Read.val_main_v2_apply _ _ _).trans ?_)
  refine Finset.sum_congr rfl fun k _ => (EReal.mul_comm _ _).trans (congrArg₂ (· * ·) (congrArg x0 (funext fun a => ?_)) (congrArg x1 (funext fun a => ?_)))
  · match a with
    | ⟨0, _⟩ => rfl
    | ⟨1, _⟩ => rfl
  · match a with
    | ⟨0, _⟩ => rfl
    | ⟨1, _⟩ => rfl

/-- The half of the reference's weight gradient that the bit names, at an entry. -/
theorem half (x0 : S2048x2048.Idx → EReal) (x1 : S2048x2048.Idx → EReal) (x2 : S1.Idx → BitVec 32) (i : S4x256x2048.Idx) (r : Fin 2048) (c : Fin 2048)
    (hr : r.val = (2 * (i 0).val + (1 - (IntOp.andi (x2 (ix1 0)) 1#32).toNat)) * 256 + (i 1).val) (hc : c.val = (i 2).val) :
    Cert.Reference8Ideal.Read.val_main_v12 (F := Ideal) x0 x1 x2 i = ∑ k : Fin 2048, x0 (ix2 k r) * x1 (ix2 k c) := by
  rw [Cert.Reference8Ideal.Read.val_main_v12_apply, Cert.Reference8Ideal.Read.val_main_call0_v0_apply, one_place (Cert.Reference8Ideal.Read.idx_main_call0_v0 i)]
  exact other_half (Cert.Reference8Ideal.Read.val_main_v5 (F := Ideal) x0 x1) _ _ _ (bit_cases _) i fun j j0 j1 j2 => weight x0 x1 j r c (by rw [hr, j0, j1]) (by rw [hc, j2])

variable (m : (ℓ : Loc nD τ sig) → Buf (Elt Ideal) ℓ) (c : Dev nD)

/-- What the region finds in the arrays it reads. -/
theorem V_v0 (j i : S2048x2048.Idx) (h : i = j) : (V m c main_v0 : S2048x2048.Idx → EReal) j = (m ((c : Thread nD τ).loc main_arg0) : S2048x2048.Idx → EReal) i := by
  subst h
  unfold V
  simp only [hostOps0]
  after_results_simp
  rfl
theorem V_v1 (j i : S2048x2048.Idx) (h : i = j) : (V m c main_v1 : S2048x2048.Idx → EReal) j = (m ((c : Thread nD τ).loc main_arg1) : S2048x2048.Idx → EReal) i := by
  subst h
  unfold V
  simp only [hostOps0]
  after_results_simp
  rfl

/-- A block of each of them. -/
theorem blk_0 (t : Fin (cfgM m (ok m)).N) (k : Fin 2048) (r : Fin 256) (i : S2048x2048.Idx) (h0 : (i 0).val = k.val)
    (h1 : (i 1).val = (2 * (grid0.coords t 0).val + side m) * 256 + r.val) : iblk m (ok m) c 0 t (ix2 k r) = (m ((c : Thread nD τ).loc main_arg0) : S2048x2048.Idx → EReal) i := by
  obtain ⟨e0, e1⟩ := map_eq m (grid0.coords t)
  unfold iblk
  refine (View.read_apply _ _).trans ?_
  refine V_v0 m c _ i (funext fun a => Fin.ext ?_)
  match a with
  | ⟨0, _⟩ =>
      show (i 0).val = cc0_transform_0 inb_S1_S1_0 numel1_S1 (tbl m) (grid0.coords t) 0 * 2048 + 1 * k.val
      rw [e0]
      omega
  | ⟨1, _⟩ =>
      show (i 1).val = cc0_transform_0 inb_S1_S1_0 numel1_S1 (tbl m) (grid0.coords t) 1 * 256 + 1 * r.val
      rw [e1]
      omega
theorem map_1 : ∀ i : grid0.Coords, cc0_transform_1 i 0 = 0 ∧ cc0_transform_1 i 1 = 0 := by decide +kernel
theorem blk_1 (t : Fin (cfgM m (ok m)).N) (k : Fin 2048) (r : Fin 2048) (i : S2048x2048.Idx) (h0 : (i 0).val = k.val)
    (h1 : (i 1).val = r.val) : iblk m (ok m) c 1 t (ix2 k r) = (m ((c : Thread nD τ).loc main_arg1) : S2048x2048.Idx → EReal) i := by
  obtain ⟨e0, e1⟩ := map_1 (grid0.coords t)
  unfold iblk
  refine (View.read_apply _ _).trans ?_
  refine V_v1 m c _ i (funext fun a => Fin.ext ?_)
  match a with
  | ⟨0, _⟩ =>
      show (i 0).val = cc0_transform_1 (grid0.coords t) 0 * 2048 + 1 * k.val
      rw [e0]
      omega
  | ⟨1, _⟩ =>
      show (i 1).val = cc0_transform_1 (grid0.coords t) 1 * 2048 + 1 * r.val
      rw [e1]
      omega
theorem map_2 : ∀ i : grid0.Coords, cc0_transform_2 i 0 = (i 0).val ∧ cc0_transform_2 i 1 = 0 ∧ cc0_transform_2 i 2 = 0 := by decide +kernel

/-- The result array is the half the bit names. -/
theorem final : (dats m (ok m) 0 c).arrAt 2 (cfgM m (ok m)).N
    = Cert.Reference8Ideal.Read.val_main_v12 (F := Ideal) (m ((c : Thread nD τ).loc main_arg0)) (m ((c : Thread nD τ).loc main_arg1)) (m ((c : Thread nD τ).loc main_arg2)) := by
  obtain rfl : c = 0 := Subsingleton.elim _ _
  refine (dats m (ok m) 0 0).arrAt_eq_of_covers 2 _ (of_decide_eq_true (by sl_kernel_rfl)) fun t _ (y : S1x256x2048.Idx) => ?_
  refine (congrFun (after0_2 m (ok m) 0 t) _).trans ?_
  unfold outsAt0
  frame_out
  obtain ⟨e0, e1, e2⟩ := map_2 (grid0.coords t)
  have hp : (grid0.coords t 0).val < 4 := (grid0.coords t 0).isLt
  have hs := side_le m
  have y0 : (y 0).val < 1 := (y 0).isLt
  have y1 : (y 1).val < 256 := (y 1).isLt
  have y2 : (y 2).val < 2048 := (y 2).isLt
  refine (pay _ _ y).trans (Eq.trans ?_ (half _ _ _ _ ⟨(2 * (grid0.coords t 0).val + side m) * 256 + (y 1).val, by omega⟩ (y 2) ?_ ?_).symm)
  · exact Finset.sum_congr rfl fun k _ => congrArg₂ (· * ·) ((congrFun (Memref.IsWhole.read_unread _ _) _).trans (blk_0 m 0 t _ _ _ rfl rfl)) ((congrFun (Memref.IsWhole.read_unread _ _) _).trans (blk_1 m 0 t _ _ _ rfl rfl))
  · show (2 * (grid0.coords t 0).val + side m) * 256 + (y 1).val = (2 * (cc0_transform_2 (grid0.coords t) 0 * 1 + 1 * (y 0).val) + side m) * 256 + (cc0_transform_2 (grid0.coords t) 1 * 256 + 1 * (y 1).val)
    rw [e0, e1]
    omega
  · show (y 2).val = (cc0_transform_2 (grid0.coords t) 2 * 2048 + 1 * (y 2).val)
    rw [e2]
    omega

end Cert.Kernel8Ideal.Dense

namespace Cert.Proof

open Idealize.ShloMosaic Idealize.ShloMosaic.TcCoe Idealize.SL.Sem

/-- The two programs end with equal results. -/
theorem algebraic8 : Cert.algebraic_Kernel8Ideal_Reference8Ideal := by
  intro m ρ m' ρ' _ hagree
  refine ⟨_, (θ_run Cert.Kernel8Ideal.defs _ _).mono (fun _ h c => ⟨((h.1 c).1 2).trans (Cert.Kernel8Ideal.Dense.final m c), h.2 c⟩)
    (θ_run_and (Cert.Kernel8Ideal.Gen.run_main m ρ (Cert.Kernel8Ideal.Dense.ok m)) (Cert.Kernel8Ideal.Gen.unchanged m ρ (Cert.Kernel8Ideal.Dense.ok m))), ?_⟩
  refine (θ_run Cert.Reference8Ideal.defs _ _).mono (fun _ h c => ⟨(h c).1.trans ?_, (h c).2⟩) (Cert.Reference8Ideal.Value.run (F := Ideal) m' ρ')
  rw [Cert.Reference8Ideal.Read.val_main_v12_eq, (hagree c).1, (hagree c).2.1, (hagree c).2.2]

end Cert.Proof

end
-- ==== Proof.Dense.K9.lean ====
/-
  The gradient of the projection out of the mixer: what the kernel leaves is the half of it that belongs to the core itself, added to what came from the other core.
-/
module

public import proofs.«01_k».proof.Defs
public import proofs.«01_k».proof.Proof.Dense.K8
public import proofs.«01_k».proof.Proof.Gen.Kernel9.Frame
public import proofs.«01_k».proof.Proof.Gen.Kernel9Ideal.Frame
public import proofs.«01_k».proof.Proof.Gen.Reference9Ideal.Read

@[expose] public section

set_option maxRecDepth 16384

noncomputable section

namespace Cert.Kernel9.Dense

open Idealize.ShloMosaic Idealize.ShloMosaic.TcCoe Idealize.SL.Sem
open Idealize.ShloMosaic.ValueIdx
open Cert.Kernel9 Cert.Kernel9.Gen Cert.Dense

section Table

variable {F : FTy → Type} [FloatOps F] (m : (ℓ : Loc nD τ sig) → Buf (Elt F) ℓ)

/-- The core's place on its chip: the last bit of its number. -/
def place : BitVec 32 := IntOp.andi ((m (((0 : Dev nD) : Thread nD τ).loc main_arg3) : S1.Idx → BitVec 32) (ix1 0)) 1#32

theorem place_cases : place m = 0#32 ∨ place m = 1#32 := bit_cases _

/-- The table the index map reads holds it. -/
theorem table : (tbl m).at 0 (Rect.unit (s := S1) ![0] S1.size inb_S1_S1_0) numel1_S1 = place m := by
  show (V m 0 main_v3 : S1.Idx → BitVec 32) _ = _
  unfold V
  simp only [hostOps0]
  after_results_simp
  unfold place
  exact congrArg (fun j => IntOp.andi ((m (((0 : Dev nD) : Thread nD τ).loc main_arg3) : S1.Idx → BitVec 32) j) 1#32) (one_place _)

theorem map_table (i : grid0.Coords) : cc0_transform_0 inb_S1_S1_0 numel1_S1 (tbl m) i = ![0, (Scalar.addi (Scalar.muli 2#32 (BitVec.ofNat 32 (i 0).val)) (place m)).toNat] := by
  rw [← table m]
  rfl

/-- The index map's blocks lie inside the array. -/
theorem ok : Ok m := fun i => by
  rw [map_table m i]
  rcases place_cases m with h | h <;>
  · rw [h]
    revert i
    decide +kernel

/-- Which of two neighbouring blocks the call takes. -/
def side : ℕ := (place m).toNat

theorem side_le : side m ≤ 1 := bit_le _ (place_cases m)

/-- The block the index map names. -/
theorem map_eq (i : grid0.Coords) : cc0_transform_0 inb_S1_S1_0 numel1_S1 (tbl m) i = ![0, 2 * (i 0).val + side m] :=
  (map_table m i).trans (congrArg (fun n : ℕ => ((![0, n] : Fin 2 → ℕ))) (pick_own _ (place_cases m) (i 0)))

end Table

end Cert.Kernel9.Dense

namespace Cert.Kernel9Ideal.Dense

open Idealize.ShloMosaic Idealize.ShloMosaic.TcCoe Idealize.SL.Sem
open Idealize.ShloMosaic.ValueIdx
open Cert.Kernel9Ideal Cert.Kernel9Ideal.Gen Cert.Dense

section Table

variable {F : FTy → Type} [FloatOps F] (m : (ℓ : Loc nD τ sig) → Buf (Elt F) ℓ)

/-- What the table says does not depend on how numbers are represented. -/
theorem ok : Ok m := Cert.Kernel9.Dense.ok m
/-- Which of two neighbouring blocks the call takes. -/
def side : ℕ := Cert.Kernel9.Dense.side m
theorem side_le : side m ≤ 1 := Cert.Kernel9.Dense.side_le m
theorem map_eq (i : grid0.Coords) : cc0_transform_0 inb_S1_S1_0 numel1_S1 (tbl m) i 0 = 0 ∧ cc0_transform_0 inb_S1_S1_0 numel1_S1 (tbl m) i 1 = 2 * (i 0).val + side m :=
  have e := Cert.Kernel9.Dense.map_eq m i
  ⟨congrFun e 0, congrFun e 1⟩

end Table

/-- The body's product at an entry, added to what came from the other core. -/
theorem pay (x0 : Vec Ideal S2048x256 .bf16) (x1 : Vec Ideal S2048x2048 .bf16) (x2 : Vec Ideal S1x256x2048 .bf16) (y : S1x256x2048.Idx) :
    k0_pay1 x0 x1 x2 y = (∑ k : Fin 2048, x0 (ix2 k (y 1)) * x1 (ix2 k (y 2))) + x2 y := by
  unfold k0_pay1
  refine (unplane_apply _ _ y).trans ?_
  refine congrArg₂ (α := EReal) (β := EReal) (γ := EReal) (· + ·) ?_ ?_
  · refine (mm_tn (M := 256) (K := 2048) (N := 2048) _ _ _ _).trans (Finset.sum_congr rfl fun k _ => congrArg₂ (· * ·) ?_ ?_)
    · rw [shapeCast_self]
    · rw [shapeCast_self]
  · refine (plane_apply _ _ _ _).trans (congrArg x2 (funext fun a => ?_))
    match a with
    | ⟨0, _⟩ => exact Subsingleton.elim (α := Fin 1) _ _
    | ⟨1, _⟩ => rfl
    | ⟨2, _⟩ => rfl

/-- A block of the reference's weight gradient at an entry. -/
theorem weight (x0 : S2048x2048.Idx → EReal) (x1 : S2048x2048.Idx → EReal) (j : Cert.Reference9Ideal.S8x256x2048.Idx) (r : Fin 2048) (c : Fin 2048)
    (hr : r.val = (j 0).val * 256 + (j 1).val) (hc : c.val = (j 2).val) :
    Cert.Reference9Ideal.Read.val_main_v5 (F := Ideal) x0 x1 j = ∑ k : Fin 2048, x0 (ix2 k r) * x1 (ix2 k c) :=
  Cert.Kernel8Ideal.Dense.weight x0 x1 j r c hr hc

/-- The half of the reference's weight gradient that the bit names, at an entry. -/
theorem half (x0 : S2048x2048.Idx → EReal) (x1 : S2048x2048.Idx → EReal) (x2 : S1.Idx → BitVec 32) (i : S4x256x2048.Idx) (r : Fin 2048) (c : Fin 2048)
    (hr : r.val = (2 * (i 0).val + (IntOp.andi (x2 (ix1 0)) 1#32).toNat) * 256 + (i 1).val) (hc : c.val = (i 2).val) :
    Cert.Reference9Ideal.Read.val_main_v13 (F := Ideal) x0 x1 x2 i = ∑ k : Fin 2048, x0 (ix2 k r) * x1 (ix2 k c) := by
  rw [Cert.Reference9Ideal.Read.val_main_v13_apply, Cert.Reference9Ideal.Read.val_main_call1_v0_apply, one_place (Cert.Reference9Ideal.Read.idx_main_call1_v0 i)]
  exact own_half (Cert.Reference9Ideal.Read.val_main_v5 (F := Ideal) x0 x1) _ _ _ (bit_cases _) i fun j j0 j1 j2 => weight x0 x1 j r c (by rw [hr, j0, j1]) (by rw [hc, j2])

variable (m : (ℓ : Loc nD τ sig) → Buf (Elt Ideal) ℓ) (c : Dev nD)

/-- What the region finds in the arrays it reads. -/
theorem V_v0 (j i : S2048x2048.Idx) (h : i = j) : (V m c main_v0 : S2048x2048.Idx → EReal) j = (m ((c : Thread nD τ).loc main_arg0) : S2048x2048.Idx → EReal) i := by
  subst h
  unfold V
  simp only [hostOps0]
  after_results_simp
  rfl
theorem V_v1 (j i : S2048x2048.Idx) (h : i = j) : (V m c main_v1 : S2048x2048.Idx → EReal) j = (m ((c : Thread nD τ).loc main_arg1) : S2048x2048.Idx → EReal) i := by
  subst h
  unfold V
  simp only [hostOps0]
  after_results_simp
  rfl
theorem V_v4 (j i : S4x256x2048.Idx) (h : i = j) : (V m c main_v4 : S4x256x2048.Idx → EReal) j = (m ((c : Thread nD τ).loc main_arg2) : S4x256x2048.Idx → EReal) i := by
  subst h
  unfold V
  simp only [hostOps0]
  after_results_simp
  rfl

/-- A block of each of them. -/
theorem blk_0 (t : Fin (cfgM m (ok m)).N) (k : Fin 2048) (r : Fin 256) (i : S2048x2048.Idx) (h0 : (i 0).val = k.val)
    (h1 : (i 1).val = (2 * (grid0.coords t 0).val + side m) * 256 + r.val) : iblk m (ok m) c 0 t (ix2 k r) = (m ((c : Thread nD τ).loc main_arg0) : S2048x2048.Idx → EReal) i := by
  obtain ⟨e0, e1⟩ := map_eq m (grid0.coords t)
  unfold iblk
  refine (View.read_apply _ _).trans ?_
  refine V_v0 m c _ i (funext fun a => Fin.ext ?_)
  match a with
  | ⟨0, _⟩ =>
      show (i 0).val = cc0_transform_0 inb_S1_S1_0 numel1_S1 (tbl m) (grid0.coords t) 0 * 2048 + 1 * k.val
      rw [e0]
      omega
  | ⟨1, _⟩ =>
      show (i 1).val = cc0_transform_0 inb_S1_S1_0 numel1_S1 (tbl m) (grid0.coords t) 1 * 256 + 1 * r.val
      rw [e1]
      omega
theorem map_1 : ∀ i : grid0.Coords, cc0_transform_1 i 0 = 0 ∧ cc0_transform_1 i 1 = 0 := by decide +kernel
theorem blk_1 (t : Fin (cfgM m (ok m)).N) (k : Fin 2048) (r : Fin 2048) (i : S2048x2048.Idx) (h0 : (i 0).val = k.val)
    (h1 : (i 1).val = r.val) : iblk m (ok m) c 1 t (ix2 k r) = (m ((c : Thread nD τ).loc main_arg1) : S2048x2048.Idx → EReal) i := by
  obtain ⟨e0, e1⟩ := map_1 (grid0.coords t)
  unfold iblk
  refine (View.read_apply _ _).trans ?_
  refine V_v1 m c _ i (funext fun a => Fin.ext ?_)
  match a with
  | ⟨0, _⟩ =>
      show (i 0).val = cc0_transform_1 (grid0.coords t) 0 * 2048 + 1 * k.val
      rw [e0]
      omega
  | ⟨1, _⟩ =>
      show (i 1).val = cc0_transform_1 (grid0.coords t) 1 * 2048 + 1 * r.val
      rw [e1]
      omega
theorem map_2 : ∀ i : grid0.Coords, cc0_transform_2 i 0 = (i 0).val ∧ cc0_transform_2 i 1 = 0 ∧ cc0_transform_2 i 2 = 0 := by decide +kernel
theorem blk_2 (t : Fin (cfgM m (ok m)).N) (y : S1x256x2048.Idx) (i : S4x256x2048.Idx) (h0 : (i 0).val = (grid0.coords t 0).val) (h1 : (i 1).val = (y 1).val)
    (h2 : (i 2).val = (y 2).val) : iblk m (ok m) c 2 t y = (m ((c : Thread nD τ).loc main_arg2) : S4x256x2048.Idx → EReal) i := by
  obtain ⟨e0, e1, e2⟩ := map_2 (grid0.coords t)
  have y0 : (y 0).val < 1 := (y 0).isLt
  unfold iblk
  refine (View.read_apply _ _).trans ?_
  refine V_v4 m c _ i (funext fun a => Fin.ext ?_)
  match a with
  | ⟨0, _⟩ =>
      show (i 0).val = cc0_transform_2 (grid0.coords t) 0 * 1 + 1 * (y 0).val
      rw [e0]
      omega
  | ⟨1, _⟩ =>
      show (i 1).val = cc0_transform_2 (grid0.coords t) 1 * 256 + 1 * (y 1).val
      rw [e1]
      omega
  | ⟨2, _⟩ =>
      show (i 2).val = cc0_transform_2 (grid0.coords t) 2 * 2048 + 1 * (y 2).val
      rw [e2]
      omega
theorem map_3 : ∀ i : grid0.Coords, cc0_transform_3 i 0 = (i 0).val ∧ cc0_transform_3 i 1 = 0 ∧ cc0_transform_3 i 2 = 0 := by decide +kernel

/-- The result array is the half the bit names, added to what came from the other core. -/
theorem final : (dats m (ok m) 0 c).arrAt 3 (cfgM m (ok m)).N
    = Cert.Reference9Ideal.Read.val_main_v16 (F := Ideal) (m ((c : Thread nD τ).loc main_arg0)) (m ((c : Thread nD τ).loc main_arg1)) (m ((c : Thread nD τ).loc main_arg2)) (m ((c : Thread nD τ).loc main_arg3)) := by
  obtain rfl : c = 0 := Subsingleton.elim _ _
  refine (dats m (ok m) 0 0).arrAt_eq_of_covers 3 _ (of_decide_eq_true (by sl_kernel_rfl)) fun t _ (y : S1x256x2048.Idx) => ?_
  refine (congrFun (after0_3 m (ok m) 0 t) _).trans ?_
  unfold outsAt0
  frame_out
  obtain ⟨e0, e1, e2⟩ := map_3 (grid0.coords t)
  have hp : (grid0.coords t 0).val < 4 := (grid0.coords t 0).isLt
  have hs := side_le m
  have y0 : (y 0).val < 1 := (y 0).isLt
  have y1 : (y 1).val < 256 := (y 1).isLt
  have y2 : (y 2).val < 2048 := (y 2).isLt
  refine (pay _ _ _ y).trans ?_
  refine congrArg₂ (α := EReal) (β := EReal) (γ := EReal) (· + ·) (Eq.trans ?_ (half _ _ _ _ ⟨(2 * (grid0.coords t 0).val + side m) * 256 + (y 1).val, by omega⟩ (y 2) ?_ ?_).symm) ((congrFun (Memref.IsWhole.read_unread _ _) _).trans (blk_2 m 0 t y _ ?_ ?_ ?_))
  · exact Finset.sum_congr rfl fun k _ => congrArg₂ (· * ·) ((congrFun (Memref.IsWhole.read_unread _ _) _).trans (blk_0 m 0 t _ _ _ rfl rfl)) ((congrFun (Memref.IsWhole.read_unread _ _) _).trans (blk_1 m 0 t _ _ _ rfl rfl))
  · show (2 * (grid0.coords t 0).val + side m) * 256 + (y 1).val = (2 * (cc0_transform_3 (grid0.coords t) 0 * 1 + 1 * (y 0).val) + side m) * 256 + (cc0_transform_3 (grid0.coords t) 1 * 256 + 1 * (y 1).val)
    rw [e0, e1]
    omega
  · show (y 2).val = (cc0_transform_3 (grid0.coords t) 2 * 2048 + 1 * (y 2).val)
    rw [e2]
    omega
  · show (cc0_transform_3 (grid0.coords t) 0 * 1 + 1 * (y 0).val) = (grid0.coords t 0).val
    rw [e0]
    omega
  · show (cc0_transform_3 (grid0.coords t) 1 * 256 + 1 * (y 1).val) = (y 1).val
    rw [e1]
    omega
  · show (cc0_transform_3 (grid0.coords t) 2 * 2048 + 1 * (y 2).val) = (y 2).val
    rw [e2]
    omega

end Cert.Kernel9Ideal.Dense

namespace Cert.Proof

open Idealize.ShloMosaic Idealize.ShloMosaic.TcCoe Idealize.SL.Sem

/-- The two programs end with equal results. -/
theorem algebraic9 : Cert.algebraic_Kernel9Ideal_Reference9Ideal := by
  intro m ρ m' ρ' _ hagree
  refine ⟨_, (θ_run Cert.Kernel9Ideal.defs _ _).mono (fun _ h c => ⟨((h.1 c).1 3).trans (Cert.Kernel9Ideal.Dense.final m c), h.2 c⟩)
    (θ_run_and (Cert.Kernel9Ideal.Gen.run_main m ρ (Cert.Kernel9Ideal.Dense.ok m)) (Cert.Kernel9Ideal.Gen.unchanged m ρ (Cert.Kernel9Ideal.Dense.ok m))), ?_⟩
  refine (θ_run Cert.Reference9Ideal.defs _ _).mono (fun _ h c => ⟨(h c).1.trans ?_, (h c).2⟩) (Cert.Reference9Ideal.Value.run (F := Ideal) m' ρ')
  rw [Cert.Reference9Ideal.Read.val_main_v16_eq, (hagree c).1, (hagree c).2.1, (hagree c).2.2.1, (hagree c).2.2.2]

end Cert.Proof

end
-- ==== Proof.Dense.K15.lean ====
/-
  The transposed gradient of a projection into the feed-forward layer: what the kernel leaves is the half of it that belongs to the other core of the chip.
-/
module

public import proofs.«01_k».proof.Defs
public import proofs.«01_k».proof.Proof.Dense.K4
public import proofs.«01_k».proof.Proof.Gen.Kernel15.Frame
public import proofs.«01_k».proof.Proof.Gen.Kernel15Ideal.Frame
public import proofs.«01_k».proof.Proof.Gen.Reference15Ideal.Read

@[expose] public section

set_option maxRecDepth 16384

noncomputable section

namespace Cert.Kernel15.Dense

open Idealize.ShloMosaic Idealize.ShloMosaic.TcCoe Idealize.SL.Sem
open Idealize.ShloMosaic.ValueIdx
open Cert.Kernel15 Cert.Kernel15.Gen Cert.Dense

section Table

variable {F : FTy → Type} [FloatOps F] (m : (ℓ : Loc nD τ sig) → Buf (Elt F) ℓ)

/-- The core's place on its chip: the last bit of its number. -/
def place : BitVec 32 := IntOp.andi ((m (((0 : Dev nD) : Thread nD τ).loc main_arg2) : S1.Idx → BitVec 32) (ix1 0)) 1#32

theorem place_cases : place m = 0#32 ∨ place m = 1#32 := bit_cases _

/-- The table the index map reads holds it. -/
theorem table : (tbl m).at 0 (Rect.unit (s := S1) ![0] S1.size inb_S1_S1_0) numel1_S1 = place m := by
  show (V m 0 main_v5 : S1.Idx → BitVec 32) _ = _
  unfold V
  simp only [hostOps0]
  after_results_simp
  unfold place
  exact congrArg (fun j => IntOp.andi ((m (((0 : Dev nD) : Thread nD τ).loc main_arg2) : S1.Idx → BitVec 32) j) 1#32) (one_place _)

theorem map_table (i : grid0.Coords) : cc0_transform_0 inb_S1_S1_0 numel1_S1 (tbl m) i = ![(Scalar.addi (Scalar.muli 2#32 (BitVec.ofNat 32 (i 0).val)) (Scalar.subi 1#32 (place m))).toNat, 0, 0] := by
  rw [← table m]
  rfl

/-- The index map's blocks lie inside the array. -/
theorem ok : Ok m := fun i => by
  rw [map_table m i]
  rcases place_cases m with h | h <;>
  · rw [h]
    revert i
    decide +kernel

/-- Which of two neighbouring blocks the call takes. -/
def side : ℕ := 1 - (place m).toNat

theorem side_le : side m ≤ 1 := Nat.sub_le _ _

/-- The block the index map names. -/
theorem map_eq (i : grid0.Coords) : cc0_transform_0 inb_S1_S1_0 numel1_S1 (tbl m) i = ![2 * (i 0).val + side m, 0, 0] :=
  (map_table m i).trans (congrArg (fun n : ℕ => ((![n, 0, 0] : Fin 3 → ℕ))) (pick_other _ (place_cases m) (i 0)))

end Table

end Cert.Kernel15.Dense

namespace Cert.Kernel15Ideal.Dense

open Idealize.ShloMosaic Idealize.ShloMosaic.TcCoe Idealize.SL.Sem
open Idealize.ShloMosaic.ValueIdx
open Cert.Kernel15Ideal Cert.Kernel15Ideal.Gen Cert.Dense

section Table

variable {F : FTy → Type} [FloatOps F] (m : (ℓ : Loc nD τ sig) → Buf (Elt F) ℓ)

/-- What the table says does not depend on how numbers are represented. -/
theorem ok : Ok m := Cert.Kernel15.Dense.ok m
/-- Which of two neighbouring blocks the call takes. -/
def side : ℕ := Cert.Kernel15.Dense.side m
theorem side_le : side m ≤ 1 := Cert.Kernel15.Dense.side_le m
theorem map_eq (i : grid0.Coords) : cc0_transform_0 inb_S1_S1_0 numel1_S1 (tbl m) i 0 = 2 * (i 0).val + side m ∧ cc0_transform_0 inb_S1_S1_0 numel1_S1 (tbl m) i 1 = 0 ∧ cc0_transform_0 inb_S1_S1_0 numel1_S1 (tbl m) i 2 = 0 :=
  have e := Cert.Kernel15.Dense.map_eq m i
  ⟨congrFun e 0, congrFun e 1, congrFun e 2⟩

end Table

/-- The body's product at an entry. -/
theorem pay (x0 : Vec Ideal S1x2048x704 .bf16) (x1 : Vec Ideal S2048x2048 .bf16) (y : S1x704x2048.Idx) :
    k0_pay1 x0 x1 y = (∑ k : Fin 2048, x0 (ix3 0 k (y 1)) * x1 (ix2 k (y 2))) :=
  Cert.Kernel4Ideal.Dense.pay x0 x1 y

/-- A block of the reference's weight gradient at an entry. -/
theorem weight (x0 : S2048x2048.Idx → EReal) (x1 : S2048x5632.Idx → EReal) (j : Cert.Reference15Ideal.S8x704x2048.Idx) (r : Fin 5632) (c : Fin 2048)
    (hr : r.val = (j 0).val * 704 + (j 1).val) (hc : c.val = (j 2).val) :
    Cert.Reference15Ideal.Read.val_main_v6 (F := Ideal) x0 x1 j = ∑ k : Fin 2048, x1 (ix2 k r) * x0 (ix2 k c) := by
  refine Eq.trans (rows_apply _ _ j (ix2 r c) hr hc : _ = Cert.Reference15Ideal.Read.val_main_v4 (F := Ideal) x0 x1 (ix2 r c)) ?_
  refine (Cert.Reference15Ideal.Read.val_main_v4_apply _ _ _).trans ((Cert.Reference15Ideal.Read.val_main_v3_apply _ _ _).trans ((Cert.Reference15Ideal.Read.val_main_v2_apply _ _ _).trans ?_))
  refine Finset.sum_congr rfl fun k _ => congrArg₂ (· * ·) (congrArg x1 (funext fun a => ?_)) (congrArg x0 (funext fun a => ?_))
  · match a with
    | ⟨0, _⟩ => rfl
    | ⟨1, _⟩ => rfl
  · match a with
    | ⟨0, _⟩ => rfl
    | ⟨1, _⟩ => rfl

/-- The half of the reference's weight gradient that the bit names, at an entry. -/
theorem half (x0 : S2048x2048.Idx → EReal) (x1 : S2048x5632.Idx → EReal) (x2 : S1.Idx → BitVec 32) (i : S4x704x2048.Idx) (r : Fin 5632) (c : Fin 2048)
    (hr : r.val = (2 * (i 0).val + (1 - (IntOp.andi (x2 (ix1 0)) 1#32).toNat)) * 704 + (i 1).val) (hc : c.val = (i 2).val) :
    Cert.Reference15Ideal.Read.val_main_v13 (F := Ideal) x0 x1 x2 i = ∑ k : Fin 2048, x1 (ix2 k r) * x0 (ix2 k c) := by
  rw [Cert.Reference15Ideal.Read.val_main_v13_apply, Cert.Reference15Ideal.Read.val_main_call0_v0_apply, one_place (Cert.Reference15Ideal.Read.idx_main_call0_v0 i)]
  exact other_half (Cert.Reference15Ideal.Read.val_main_v6 (F := Ideal) x0 x1) _ _ _ (bit_cases _) i fun j j0 j1 j2 => weight x0 x1 j r c (by rw [hr, j0, j1]) (by rw [hc, j2])

variable (m : (ℓ : Loc nD τ sig) → Buf (Elt Ideal) ℓ) (c : Dev nD)

/-- What the region finds in the arrays it reads. -/
theorem V_v2 (j : S8x2048x704.Idx) (i : S2048x5632.Idx) (h0 : (i 0).val = (j 1).val) (h1 : (i 1).val = (j 0).val * 704 + (j 2).val) : (V m c main_v2 : S8x2048x704.Idx → EReal) j = (m ((c : Thread nD τ).loc main_arg1) : S2048x5632.Idx → EReal) i := by
  unfold V
  simp only [hostOps0]
  after_results_simp
  exact cols_apply _ _ _ rfl j i h0 h1
theorem V_v3 (j i : S2048x2048.Idx) (h : i = j) : (V m c main_v3 : S2048x2048.Idx → EReal) j = (m ((c : Thread nD τ).loc main_arg0) : S2048x2048.Idx → EReal) i := by
  subst h
  unfold V
  simp only [hostOps0]
  after_results_simp
  rfl

/-- A block of each of them. -/
theorem blk_0 (t : Fin (cfgM m (ok m)).N) (k : Fin 2048) (r : Fin 704) (i : S2048x5632.Idx) (h0 : (i 0).val = k.val)
    (h1 : (i 1).val = (2 * (grid0.coords t 0).val + side m) * 704 + r.val) : iblk m (ok m) c 0 t (ix3 0 k r) = (m ((c : Thread nD τ).loc main_arg1) : S2048x5632.Idx → EReal) i := by
  obtain ⟨e0, e1, e2⟩ := map_eq m (grid0.coords t)
  unfold iblk
  refine (View.read_apply _ _).trans ?_
  refine V_v2 m c _ i ?_ ?_
  · show (i 0).val = cc0_transform_0 inb_S1_S1_0 numel1_S1 (tbl m) (grid0.coords t) 1 * 2048 + 1 * k.val
    rw [e1]
    omega
  · show (i 1).val = (cc0_transform_0 inb_S1_S1_0 numel1_S1 (tbl m) (grid0.coords t) 0 * 1 + 1 * 0) * 704 + (cc0_transform_0 inb_S1_S1_0 numel1_S1 (tbl m) (grid0.coords t) 2 * 704 + 1 * r.val)
    rw [e0, e2]
    omega
theorem map_1 : ∀ i : grid0.Coords, cc0_transform_1 i 0 = 0 ∧ cc0_transform_1 i 1 = 0 := by decide +kernel
theorem blk_1 (t : Fin (cfgM m (ok m)).N) (k : Fin 2048) (r : Fin 2048) (i : S2048x2048.Idx) (h0 : (i 0).val = k.val)
    (h1 : (i 1).val = r.val) : iblk m (ok m) c 1 t (ix2 k r) = (m ((c : Thread nD τ).loc main_arg0) : S2048x2048.Idx → EReal) i := by
  obtain ⟨e0, e1⟩ := map_1 (grid0.coords t)
  unfold iblk
  refine (View.read_apply _ _).trans ?_
  refine V_v3 m c _ i (funext fun a => Fin.ext ?_)
  match a with
  | ⟨0, _⟩ =>
      show (i 0).val = cc0_transform_1 (grid0.coords t) 0 * 2048 + 1 * k.val
      rw [e0]
      omega
  | ⟨1, _⟩ =>
      show (i 1).val = cc0_transform_1 (grid0.coords t) 1 * 2048 + 1 * r.val
      rw [e1]
      omega
theorem map_2 : ∀ i : grid0.Coords, cc0_transform_2 i 0 = (i 0).val ∧ cc0_transform_2 i 1 = 0 ∧ cc0_transform_2 i 2 = 0 := by decide +kernel

/-- The result array is the half the bit names. -/
theorem final : (dats m (ok m) 0 c).arrAt 2 (cfgM m (ok m)).N
    = Cert.Reference15Ideal.Read.val_main_v13 (F := Ideal) (m ((c : Thread nD τ).loc main_arg0)) (m ((c : Thread nD τ).loc main_arg1)) (m ((c : Thread nD τ).loc main_arg2)) := by
  obtain rfl : c = 0 := Subsingleton.elim _ _
  refine (dats m (ok m) 0 0).arrAt_eq_of_covers 2 _ (of_decide_eq_true (by sl_kernel_rfl)) fun t _ (y : S1x704x2048.Idx) => ?_
  refine (congrFun (after0_2 m (ok m) 0 t) _).trans ?_
  unfold outsAt0
  frame_out
  obtain ⟨e0, e1, e2⟩ := map_2 (grid0.coords t)
  have hp : (grid0.coords t 0).val < 4 := (grid0.coords t 0).isLt
  have hs := side_le m
  have y0 : (y 0).val < 1 := (y 0).isLt
  have y1 : (y 1).val < 704 := (y 1).isLt
  have y2 : (y 2).val < 2048 := (y 2).isLt
  refine (pay _ _ y).trans (Eq.trans ?_ (half _ _ _ _ ⟨(2 * (grid0.coords t 0).val + side m) * 704 + (y 1).val, by omega⟩ (y 2) ?_ ?_).symm)
  · exact Finset.sum_congr rfl fun k _ => congrArg₂ (· * ·) ((congrFun (Memref.IsWhole.read_unread _ _) _).trans (blk_0 m 0 t _ _ _ rfl rfl)) ((congrFun (Memref.IsWhole.read_unread _ _) _).trans (blk_1 m 0 t _ _ _ rfl rfl))
  · show (2 * (grid0.coords t 0).val + side m) * 704 + (y 1).val = (2 * (cc0_transform_2 (grid0.coords t) 0 * 1 + 1 * (y 0).val) + side m) * 704 + (cc0_transform_2 (grid0.coords t) 1 * 704 + 1 * (y 1).val)
    rw [e0, e1]
    omega
  · show (y 2).val = (cc0_transform_2 (grid0.coords t) 2 * 2048 + 1 * (y 2).val)
    rw [e2]
    omega

end Cert.Kernel15Ideal.Dense

namespace Cert.Proof

open Idealize.ShloMosaic Idealize.ShloMosaic.TcCoe Idealize.SL.Sem

/-- The two programs end with equal results. -/
theorem algebraic15 : Cert.algebraic_Kernel15Ideal_Reference15Ideal := by
  intro m ρ m' ρ' _ hagree
  refine ⟨_, (θ_run Cert.Kernel15Ideal.defs _ _).mono (fun _ h c => ⟨((h.1 c).1 2).trans (Cert.Kernel15Ideal.Dense.final m c), h.2 c⟩)
    (θ_run_and (Cert.Kernel15Ideal.Gen.run_main m ρ (Cert.Kernel15Ideal.Dense.ok m)) (Cert.Kernel15Ideal.Gen.unchanged m ρ (Cert.Kernel15Ideal.Dense.ok m))), ?_⟩
  refine (θ_run Cert.Reference15Ideal.defs _ _).mono (fun _ h c => ⟨(h c).1.trans ?_, (h c).2⟩) (Cert.Reference15Ideal.Value.run (F := Ideal) m' ρ')
  rw [Cert.Reference15Ideal.Read.val_main_v13_eq, (hagree c).1, (hagree c).2.1, (hagree c).2.2]

end Cert.Proof

end
-- ==== Proof.Dense.K16.lean ====
/-
  The transposed gradient of a projection into the feed-forward layer: what the kernel leaves is the half of it that belongs to the core itself, added to what came from the other core.
-/
module

public import proofs.«01_k».proof.Defs
public import proofs.«01_k».proof.Proof.Dense.K15
public import proofs.«01_k».proof.Proof.Dense.K5
public import proofs.«01_k».proof.Proof.Gen.Kernel16.Frame
public import proofs.«01_k».proof.Proof.Gen.Kernel16Ideal.Frame
public import proofs.«01_k».proof.Proof.Gen.Reference16Ideal.Read

@[expose] public section

set_option maxRecDepth 16384

noncomputable section

namespace Cert.Kernel16.Dense

open Idealize.ShloMosaic Idealize.ShloMosaic.TcCoe Idealize.SL.Sem
open Idealize.ShloMosaic.ValueIdx
open Cert.Kernel16 Cert.Kernel16.Gen Cert.Dense

section Table

variable {F : FTy → Type} [FloatOps F] (m : (ℓ : Loc nD τ sig) → Buf (Elt F) ℓ)

/-- The core's place on its chip: the last bit of its number. -/
def place : BitVec 32 := IntOp.andi ((m (((0 : Dev nD) : Thread nD τ).loc main_arg3) : S1.Idx → BitVec 32) (ix1 0)) 1#32

theorem place_cases : place m = 0#32 ∨ place m = 1#32 := bit_cases _

/-- The table the index map reads holds it. -/
theorem table : (tbl m).at 0 (Rect.unit (s := S1) ![0] S1.size inb_S1_S1_0) numel1_S1 = place m := by
  show (V m 0 main_v5 : S1.Idx → BitVec 32) _ = _
  unfold V
  simp only [hostOps0]
  after_results_simp
  unfold place
  exact congrArg (fun j => IntOp.andi ((m (((0 : Dev nD) : Thread nD τ).loc main_arg3) : S1.Idx → BitVec 32) j) 1#32) (one_place _)

theorem map_table (i : grid0.Coords) : cc0_transform_0 inb_S1_S1_0 numel1_S1 (tbl m) i = ![(Scalar.addi (Scalar.muli 2#32 (BitVec.ofNat 32 (i 0).val)) (place m)).toNat, 0, 0] := by
  rw [← table m]
  rfl

/-- The index map's blocks lie inside the array. -/
theorem ok : Ok m := fun i => by
  rw [map_table m i]
  rcases place_cases m with h | h <;>
  · rw [h]
    revert i
    decide +kernel

/-- Which of two neighbouring blocks the call takes. -/
def side : ℕ := (place m).toNat

theorem side_le : side m ≤ 1 := bit_le _ (place_cases m)

/-- The block the index map names. -/
theorem map_eq (i : grid0.Coords) : cc0_transform_0 inb_S1_S1_0 numel1_S1 (tbl m) i = ![2 * (i 0).val + side m, 0, 0] :=
  (map_table m i).trans (congrArg (fun n : ℕ => ((![n, 0, 0] : Fin 3 → ℕ))) (pick_own _ (place_cases m) (i 0)))

end Table

end Cert.Kernel16.Dense

namespace Cert.Kernel16Ideal.Dense

open Idealize.ShloMosaic Idealize.ShloMosaic.TcCoe Idealize.SL.Sem
open Idealize.ShloMosaic.ValueIdx
open Cert.Kernel16Ideal Cert.Kernel16Ideal.Gen Cert.Dense

section Table

variable {F : FTy → Type} [FloatOps F] (m : (ℓ : Loc nD τ sig) → Buf (Elt F) ℓ)

/-- What the table says does not depend on how numbers are represented. -/
theorem ok : Ok m := Cert.Kernel16.Dense.ok m
/-- Which of two neighbouring blocks the call takes. -/
def side : ℕ := Cert.Kernel16.Dense.side m
theorem side_le : side m ≤ 1 := Cert.Kernel16.Dense.side_le m
theorem map_eq (i : grid0.Coords) : cc0_transform_0 inb_S1_S1_0 numel1_S1 (tbl m) i 0 = 2 * (i 0).val + side m ∧ cc0_transform_0 inb_S1_S1_0 numel1_S1 (tbl m) i 1 = 0 ∧ cc0_transform_0 inb_S1_S1_0 numel1_S1 (tbl m) i 2 = 0 :=
  have e := Cert.Kernel16.Dense.map_eq m i
  ⟨congrFun e 0, congrFun e 1, congrFun e 2⟩

end Table

/-- The body's product at an entry, added to what came from the other core. -/
theorem pay (x0 : Vec Ideal S1x2048x704 .bf16) (x1 : Vec Ideal S2048x2048 .bf16) (x2 : Vec Ideal S1x704x2048 .bf16) (y : S1x704x2048.Idx) :
    k0_pay1 x0 x1 x2 y = (∑ k : Fin 2048, x0 (ix3 0 k (y 1)) * x1 (ix2 k (y 2))) + x2 y :=
  Cert.Kernel5Ideal.Dense.pay x0 x1 x2 y

/-- A block of the reference's weight gradient at an entry. -/
theorem weight (x0 : S2048x2048.Idx → EReal) (x1 : S2048x5632.Idx → EReal) (j : Cert.Reference16Ideal.S8x704x2048.Idx) (r : Fin 5632) (c : Fin 2048)
    (hr : r.val = (j 0).val * 704 + (j 1).val) (hc : c.val = (j 2).val) :
    Cert.Reference16Ideal.Read.val_main_v6 (F := Ideal) x0 x1 j = ∑ k : Fin 2048, x1 (ix2 k r) * x0 (ix2 k c) :=
  Cert.Kernel15Ideal.Dense.weight x0 x1 j r c hr hc

/-- The half of the reference's weight gradient that the bit names, at an entry. -/
theorem half (x0 : S2048x2048.Idx → EReal) (x1 : S2048x5632.Idx → EReal) (x2 : S1.Idx → BitVec 32) (i : S4x704x2048.Idx) (r : Fin 5632) (c : Fin 2048)
    (hr : r.val = (2 * (i 0).val + (IntOp.andi (x2 (ix1 0)) 1#32).toNat) * 704 + (i 1).val) (hc : c.val = (i 2).val) :
    Cert.Reference16Ideal.Read.val_main_v14 (F := Ideal) x0 x1 x2 i = ∑ k : Fin 2048, x1 (ix2 k r) * x0 (ix2 k c) := by
  rw [Cert.Reference16Ideal.Read.val_main_v14_apply, Cert.Reference16Ideal.Read.val_main_call1_v0_apply, one_place (Cert.Reference16Ideal.Read.idx_main_call1_v0 i)]
  exact own_half (Cert.Reference16Ideal.Read.val_main_v6 (F := Ideal) x0 x1) _ _ _ (bit_cases _) i fun j j0 j1 j2 => weight x0 x1 j r c (by rw [hr, j0, j1]) (by rw [hc, j2])

variable (m : (ℓ : Loc nD τ sig) → Buf (Elt Ideal) ℓ) (c : Dev nD)

/-- What the region finds in the arrays it reads. -/
theorem V_v2 (j : S8x2048x704.Idx) (i : S2048x5632.Idx) (h0 : (i 0).val = (j 1).val) (h1 : (i 1).val = (j 0).val * 704 + (j 2).val) : (V m c main_v2 : S8x2048x704.Idx → EReal) j = (m ((c : Thread nD τ).loc main_arg1) : S2048x5632.Idx → EReal) i := by
  unfold V
  simp only [hostOps0]
  after_results_simp
  exact cols_apply _ _ _ rfl j i h0 h1
theorem V_v3 (j i : S2048x2048.Idx) (h : i = j) : (V m c main_v3 : S2048x2048.Idx → EReal) j = (m ((c : Thread nD τ).loc main_arg0) : S2048x2048.Idx → EReal) i := by
  subst h
  unfold V
  simp only [hostOps0]
  after_results_simp
  rfl
theorem V_v6 (j i : S4x704x2048.Idx) (h : i = j) : (V m c main_v6 : S4x704x2048.Idx → EReal) j = (m ((c : Thread nD τ).loc main_arg2) : S4x704x2048.Idx → EReal) i := by
  subst h
  unfold V
  simp only [hostOps0]
  after_results_simp
  rfl

/-- A block of each of them. -/
theorem blk_0 (t : Fin (cfgM m (ok m)).N) (k : Fin 2048) (r : Fin 704) (i : S2048x5632.Idx) (h0 : (i 0).val = k.val)
    (h1 : (i 1).val = (2 * (grid0.coords t 0).val + side m) * 704 + r.val) : iblk m (ok m) c 0 t (ix3 0 k r) = (m ((c : Thread nD τ).loc main_arg1) : S2048x5632.Idx → EReal) i := by
  obtain ⟨e0, e1, e2⟩ := map_eq m (grid0.coords t)
  unfold iblk
  refine (View.read_apply _ _).trans ?_
  refine V_v2 m c _ i ?_ ?_
  · show (i 0).val = cc0_transform_0 inb_S1_S1_0 numel1_S1 (tbl m) (grid0.coords t) 1 * 2048 + 1 * k.val
    rw [e1]
    omega
  · show (i 1).val = (cc0_transform_0 inb_S1_S1_0 numel1_S1 (tbl m) (grid0.coords t) 0 * 1 + 1 * 0) * 704 + (cc0_transform_0 inb_S1_S1_0 numel1_S1 (tbl m) (grid0.coords t) 2 * 704 + 1 * r.val)
    rw [e0, e2]
    omega
theorem map_1 : ∀ i : grid0.Coords, cc0_transform_1 i 0 = 0 ∧ cc0_transform_1 i 1 = 0 := by decide +kernel
theorem blk_1 (t : Fin (cfgM m (ok m)).N) (k : Fin 2048) (r : Fin 2048) (i : S2048x2048.Idx) (h0 : (i 0).val = k.val)
    (h1 : (i 1).val = r.val) : iblk m (ok m) c 1 t (ix2 k r) = (m ((c : Thread nD τ).loc main_arg0) : S2048x2048.Idx → EReal) i := by
  obtain ⟨e0, e1⟩ := map_1 (grid0.coords t)
  unfold iblk
  refine (View.read_apply _ _).trans ?_
  refine V_v3 m c _ i (funext fun a => Fin.ext ?_)
  match a with
  | ⟨0, _⟩ =>
      show (i 0).val = cc0_transform_1 (grid0.coords t) 0 * 2048 + 1 * k.val
      rw [e0]
      omega
  | ⟨1, _⟩ =>
      show (i 1).val = cc0_transform_1 (grid0.coords t) 1 * 2048 + 1 * r.val
      rw [e1]
      omega
theorem map_2 : ∀ i : grid0.Coords, cc0_transform_2 i 0 = (i 0).val ∧ cc0_transform_2 i 1 = 0 ∧ cc0_transform_2 i 2 = 0 := by decide +kernel
theorem blk_2 (t : Fin (cfgM m (ok m)).N) (y : S1x704x2048.Idx) (i : S4x704x2048.Idx) (h0 : (i 0).val = (grid0.coords t 0).val) (h1 : (i 1).val = (y 1).val)
    (h2 : (i 2).val = (y 2).val) : iblk m (ok m) c 2 t y = (m ((c : Thread nD τ).loc main_arg2) : S4x704x2048.Idx → EReal) i := by
  obtain ⟨e0, e1, e2⟩ := map_2 (grid0.coords t)
  have y0 : (y 0).val < 1 := (y 0).isLt
  unfold iblk
  refine (View.read_apply _ _).trans ?_
  refine V_v6 m c _ i (funext fun a => Fin.ext ?_)
  match a with
  | ⟨0, _⟩ =>
      show (i 0).val = cc0_transform_2 (grid0.coords t) 0 * 1 + 1 * (y 0).val
      rw [e0]
      omega
  | ⟨1, _⟩ =>
      show (i 1).val = cc0_transform_2 (grid0.coords t) 1 * 704 + 1 * (y 1).val
      rw [e1]
      omega
  | ⟨2, _⟩ =>
      show (i 2).val = cc0_transform_2 (grid0.coords t) 2 * 2048 + 1 * (y 2).val
      rw [e2]
      omega
theorem map_3 : ∀ i : grid0.Coords, cc0_transform_3 i 0 = (i 0).val ∧ cc0_transform_3 i 1 = 0 ∧ cc0_transform_3 i 2 = 0 := by decide +kernel

/-- The result array is the half the bit names, added to what came from the other core. -/
theorem final : (dats m (ok m) 0 c).arrAt 3 (cfgM m (ok m)).N
    = Cert.Reference16Ideal.Read.val_main_v17 (F := Ideal) (m ((c : Thread nD τ).loc main_arg0)) (m ((c : Thread nD τ).loc main_arg1)) (m ((c : Thread nD τ).loc main_arg2)) (m ((c : Thread nD τ).loc main_arg3)) := by
  obtain rfl : c = 0 := Subsingleton.elim _ _
  refine (dats m (ok m) 0 0).arrAt_eq_of_covers 3 _ (of_decide_eq_true (by sl_kernel_rfl)) fun t _ (y : S1x704x2048.Idx) => ?_
  refine (congrFun (after0_3 m (ok m) 0 t) _).trans ?_
  unfold outsAt0
  frame_out
  obtain ⟨e0, e1, e2⟩ := map_3 (grid0.coords t)
  have hp : (grid0.coords t 0).val < 4 := (grid0.coords t 0).isLt
  have hs := side_le m
  have y0 : (y 0).val < 1 := (y 0).isLt
  have y1 : (y 1).val < 704 := (y 1).isLt
  have y2 : (y 2).val < 2048 := (y 2).isLt
  refine (pay _ _ _ y).trans ?_
  refine congrArg₂ (α := EReal) (β := EReal) (γ := EReal) (· + ·) (Eq.trans ?_ (half _ _ _ _ ⟨(2 * (grid0.coords t 0).val + side m) * 704 + (y 1).val, by omega⟩ (y 2) ?_ ?_).symm) ((congrFun (Memref.IsWhole.read_unread _ _) _).trans (blk_2 m 0 t y _ ?_ ?_ ?_))
  · exact Finset.sum_congr rfl fun k _ => congrArg₂ (· * ·) ((congrFun (Memref.IsWhole.read_unread _ _) _).trans (blk_0 m 0 t _ _ _ rfl rfl)) ((congrFun (Memref.IsWhole.read_unread _ _) _).trans (blk_1 m 0 t _ _ _ rfl rfl))
  · show (2 * (grid0.coords t 0).val + side m) * 704 + (y 1).val = (2 * (cc0_transform_3 (grid0.coords t) 0 * 1 + 1 * (y 0).val) + side m) * 704 + (cc0_transform_3 (grid0.coords t) 1 * 704 + 1 * (y 1).val)
    rw [e0, e1]
    omega
  · show (y 2).val = (cc0_transform_3 (grid0.coords t) 2 * 2048 + 1 * (y 2).val)
    rw [e2]
    omega
  · show (cc0_transform_3 (grid0.coords t) 0 * 1 + 1 * (y 0).val) = (grid0.coords t 0).val
    rw [e0]
    omega
  · show (cc0_transform_3 (grid0.coords t) 1 * 704 + 1 * (y 1).val) = (y 1).val
    rw [e1]
    omega
  · show (cc0_transform_3 (grid0.coords t) 2 * 2048 + 1 * (y 2).val) = (y 2).val
    rw [e2]
    omega

end Cert.Kernel16Ideal.Dense

namespace Cert.Proof

open Idealize.ShloMosaic Idealize.ShloMosaic.TcCoe Idealize.SL.Sem

/-- The two programs end with equal results. -/
theorem algebraic16 : Cert.algebraic_Kernel16Ideal_Reference16Ideal := by
  intro m ρ m' ρ' _ hagree
  refine ⟨_, (θ_run Cert.Kernel16Ideal.defs _ _).mono (fun _ h c => ⟨((h.1 c).1 3).trans (Cert.Kernel16Ideal.Dense.final m c), h.2 c⟩)
    (θ_run_and (Cert.Kernel16Ideal.Gen.run_main m ρ (Cert.Kernel16Ideal.Dense.ok m)) (Cert.Kernel16Ideal.Gen.unchanged m ρ (Cert.Kernel16Ideal.Dense.ok m))), ?_⟩
  refine (θ_run Cert.Reference16Ideal.defs _ _).mono (fun _ h c => ⟨(h c).1.trans ?_, (h c).2⟩) (Cert.Reference16Ideal.Value.run (F := Ideal) m' ρ')
  rw [Cert.Reference16Ideal.Read.val_main_v17_eq, (hagree c).1, (hagree c).2.1, (hagree c).2.2.1, (hagree c).2.2.2]

end Cert.Proof

end
-- ==== Proof.Dense.Frames.lean ====
/-
  The runs of the programs other than the attention's. Every execution of each kernel, of its idealized kernel and of its reference
  ends, faults nowhere, and leaves its arguments unchanged and every semaphore at zero.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Dense.K4
public import proofs.«01_k».proof.Proof.Gen.Kernel5.Frame
public import proofs.«01_k».proof.Proof.Gen.Kernel5Ideal.Frame
public import proofs.«01_k».proof.Proof.Gen.Reference5Ideal.Run
public import proofs.«01_k».proof.Proof.Dense.K5
public import proofs.«01_k».proof.Proof.Gen.Kernel6.Frame
public import proofs.«01_k».proof.Proof.Gen.Kernel6Ideal.Frame
public import proofs.«01_k».proof.Proof.Gen.Reference6Ideal.Run
public import proofs.«01_k».proof.Proof.Dense.K6
public import proofs.«01_k».proof.Proof.Gen.Kernel7.Frame
public import proofs.«01_k».proof.Proof.Gen.Kernel7Ideal.Frame
public import proofs.«01_k».proof.Proof.Gen.Reference7Ideal.Run
public import proofs.«01_k».proof.Proof.Dense.K7
public import proofs.«01_k».proof.Proof.Gen.Kernel8.Frame
public import proofs.«01_k».proof.Proof.Gen.Kernel8Ideal.Frame
public import proofs.«01_k».proof.Proof.Gen.Reference8Ideal.Run
public import proofs.«01_k».proof.Proof.Dense.K8
public import proofs.«01_k».proof.Proof.Gen.Kernel9.Frame
public import proofs.«01_k».proof.Proof.Gen.Kernel9Ideal.Frame
public import proofs.«01_k».proof.Proof.Gen.Reference9Ideal.Run
public import proofs.«01_k».proof.Proof.Dense.K9
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Dense.K15
public import proofs.«01_k».proof.Proof.Gen.Kernel16.Frame
public import proofs.«01_k».proof.Proof.Gen.Kernel16Ideal.Frame
public import proofs.«01_k».proof.Proof.Gen.Reference16Ideal.Run
public import proofs.«01_k».proof.Proof.Dense.K16
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Reference25Ideal.Run
public import Idealize.ShloMosaic.Adequacy

@[expose] public section

noncomputable section

namespace Cert.Proof

open Idealize.ShloMosaic Idealize.SL.Sem

/-- The kernel for the gated layer and its gradient. -/
theorem frame_kernel2 : Cert.quiescent_Kernel2 := fun m ρ _ => Cert.Kernel2.Gen.frame m ρ
theorem frame_ideal2 : Cert.quiescent_Kernel2Ideal := fun m ρ _ => Cert.Kernel2Ideal.Gen.frame m ρ
theorem frame_reference2 : Cert.quiescent_Reference2Ideal := fun m ρ _ =>
  (θ_run Cert.Reference2Ideal.defs _ _).mono (fun r h => ⟨fun c => (h c).2.2.2,
    sem_eq_zero_of_no_sems (by decide) r.2⟩) (Cert.Reference2Ideal.Value.run (F := Ideal) m ρ)

/-- The kernel for the gradient of the gate and up products' input. -/
theorem frame_kernel3 : Cert.quiescent_Kernel3 := fun m ρ _ => Cert.Kernel3.Gen.frame m ρ
theorem frame_ideal3 : Cert.quiescent_Kernel3Ideal := fun m ρ _ => Cert.Kernel3Ideal.Gen.frame m ρ
theorem frame_reference3 : Cert.quiescent_Reference3Ideal := fun m ρ _ =>
  (θ_run Cert.Reference3Ideal.defs _ _).mono (fun r h => ⟨fun c => (h c).2,
    sem_eq_zero_of_no_sems (by decide) r.2⟩) (Cert.Reference3Ideal.Value.run (F := Ideal) m ρ)

/-- The kernel for the other core's half of a weight gradient, row blocks. -/
theorem frame_kernel4 : Cert.quiescent_Kernel4 := fun m ρ _ => Cert.Kernel4.Gen.frame m ρ (Cert.Kernel4.Dense.ok m)
theorem frame_ideal4 : Cert.quiescent_Kernel4Ideal := fun m ρ _ => Cert.Kernel4Ideal.Gen.frame m ρ (Cert.Kernel4Ideal.Dense.ok m)
theorem frame_reference4 : Cert.quiescent_Reference4Ideal := fun m ρ _ =>
  (θ_run Cert.Reference4Ideal.defs _ _).mono (fun r h => ⟨fun c => (h c).2,
    sem_eq_zero_of_no_sems (by decide) r.2⟩) (Cert.Reference4Ideal.Value.run (F := Ideal) m ρ)

/-- The kernel for the own half of a weight gradient, row blocks. -/
theorem frame_kernel5 : Cert.quiescent_Kernel5 := fun m ρ _ => Cert.Kernel5.Gen.frame m ρ (Cert.Kernel5.Dense.ok m)
theorem frame_ideal5 : Cert.quiescent_Kernel5Ideal := fun m ρ _ => Cert.Kernel5Ideal.Gen.frame m ρ (Cert.Kernel5Ideal.Dense.ok m)
theorem frame_reference5 : Cert.quiescent_Reference5Ideal := fun m ρ _ =>
  (θ_run Cert.Reference5Ideal.defs _ _).mono (fun r h => ⟨fun c => (h c).2,
    sem_eq_zero_of_no_sems (by decide) r.2⟩) (Cert.Reference5Ideal.Value.run (F := Ideal) m ρ)

/-- The kernel for the other core's half, column blocks. -/
theorem frame_kernel6 : Cert.quiescent_Kernel6 := fun m ρ _ => Cert.Kernel6.Gen.frame m ρ (Cert.Kernel6.Dense.ok m)
theorem frame_ideal6 : Cert.quiescent_Kernel6Ideal := fun m ρ _ => Cert.Kernel6Ideal.Gen.frame m ρ (Cert.Kernel6Ideal.Dense.ok m)
theorem frame_reference6 : Cert.quiescent_Reference6Ideal := fun m ρ _ =>
  (θ_run Cert.Reference6Ideal.defs _ _).mono (fun r h => ⟨fun c => (h c).2,
    sem_eq_zero_of_no_sems (by decide) r.2⟩) (Cert.Reference6Ideal.Value.run (F := Ideal) m ρ)

/-- The kernel for the own half, column blocks. -/
theorem frame_kernel7 : Cert.quiescent_Kernel7 := fun m ρ _ => Cert.Kernel7.Gen.frame m ρ (Cert.Kernel7.Dense.ok m)
theorem frame_ideal7 : Cert.quiescent_Kernel7Ideal := fun m ρ _ => Cert.Kernel7Ideal.Gen.frame m ρ (Cert.Kernel7Ideal.Dense.ok m)
theorem frame_reference7 : Cert.quiescent_Reference7Ideal := fun m ρ _ =>
  (θ_run Cert.Reference7Ideal.defs _ _).mono (fun r h => ⟨fun c => (h c).2,
    sem_eq_zero_of_no_sems (by decide) r.2⟩) (Cert.Reference7Ideal.Value.run (F := Ideal) m ρ)

/-- The kernel for the other core's half, row blocks cut inside the call. -/
theorem frame_kernel8 : Cert.quiescent_Kernel8 := fun m ρ _ => Cert.Kernel8.Gen.frame m ρ (Cert.Kernel8.Dense.ok m)
theorem frame_ideal8 : Cert.quiescent_Kernel8Ideal := fun m ρ _ => Cert.Kernel8Ideal.Gen.frame m ρ (Cert.Kernel8Ideal.Dense.ok m)
theorem frame_reference8 : Cert.quiescent_Reference8Ideal := fun m ρ _ =>
  (θ_run Cert.Reference8Ideal.defs _ _).mono (fun r h => ⟨fun c => (h c).2,
    sem_eq_zero_of_no_sems (by decide) r.2⟩) (Cert.Reference8Ideal.Value.run (F := Ideal) m ρ)

/-- The kernel for the own half, row blocks cut inside the call. -/
theorem frame_kernel9 : Cert.quiescent_Kernel9 := fun m ρ _ => Cert.Kernel9.Gen.frame m ρ (Cert.Kernel9.Dense.ok m)
theorem frame_ideal9 : Cert.quiescent_Kernel9Ideal := fun m ρ _ => Cert.Kernel9Ideal.Gen.frame m ρ (Cert.Kernel9Ideal.Dense.ok m)
theorem frame_reference9 : Cert.quiescent_Reference9Ideal := fun m ρ _ =>
  (θ_run Cert.Reference9Ideal.defs _ _).mono (fun r h => ⟨fun c => (h c).2,
    sem_eq_zero_of_no_sems (by decide) r.2⟩) (Cert.Reference9Ideal.Value.run (F := Ideal) m ρ)

/-- The kernel for the gradient of the input projection's input. -/
theorem frame_kernel10 : Cert.quiescent_Kernel10 := fun m ρ _ => Cert.Kernel10.Gen.frame m ρ
theorem frame_ideal10 : Cert.quiescent_Kernel10Ideal := fun m ρ _ => Cert.Kernel10Ideal.Gen.frame m ρ
theorem frame_reference10 : Cert.quiescent_Reference10Ideal := fun m ρ _ =>
  (θ_run Cert.Reference10Ideal.defs _ _).mono (fun r h => ⟨fun c => (h c).2,
    sem_eq_zero_of_no_sems (by decide) r.2⟩) (Cert.Reference10Ideal.Value.run (F := Ideal) m ρ)

/-- The kernel for the gradient of the output projection's input. -/
theorem frame_kernel11 : Cert.quiescent_Kernel11 := fun m ρ _ => Cert.Kernel11.Gen.frame m ρ
theorem frame_ideal11 : Cert.quiescent_Kernel11Ideal := fun m ρ _ => Cert.Kernel11Ideal.Gen.frame m ρ
theorem frame_reference11 : Cert.quiescent_Reference11Ideal := fun m ρ _ =>
  (θ_run Cert.Reference11Ideal.defs _ _).mono (fun r h => ⟨fun c => (h c).2,
    sem_eq_zero_of_no_sems (by decide) r.2⟩) (Cert.Reference11Ideal.Value.run (F := Ideal) m ρ)

/-- The kernel for the down product. -/
theorem frame_kernel12 : Cert.quiescent_Kernel12 := fun m ρ _ => Cert.Kernel12.Gen.frame m ρ
theorem frame_ideal12 : Cert.quiescent_Kernel12Ideal := fun m ρ _ => Cert.Kernel12Ideal.Gen.frame m ρ
theorem frame_reference12 : Cert.quiescent_Reference12Ideal := fun m ρ _ =>
  (θ_run Cert.Reference12Ideal.defs _ _).mono (fun r h => ⟨fun c => (h c).2,
    sem_eq_zero_of_no_sems (by decide) r.2⟩) (Cert.Reference12Ideal.Value.run (F := Ideal) m ρ)

/-- The kernel for the input projection. -/
theorem frame_kernel13 : Cert.quiescent_Kernel13 := fun m ρ _ => Cert.Kernel13.Gen.frame m ρ
theorem frame_ideal13 : Cert.quiescent_Kernel13Ideal := fun m ρ _ => Cert.Kernel13Ideal.Gen.frame m ρ
theorem frame_reference13 : Cert.quiescent_Reference13Ideal := fun m ρ _ =>
  (θ_run Cert.Reference13Ideal.defs _ _).mono (fun r h => ⟨fun c => (h c).2,
    sem_eq_zero_of_no_sems (by decide) r.2⟩) (Cert.Reference13Ideal.Value.run (F := Ideal) m ρ)

/-- The kernel for the output projection. -/
theorem frame_kernel14 : Cert.quiescent_Kernel14 := fun m ρ _ => Cert.Kernel14.Gen.frame m ρ
theorem frame_ideal14 : Cert.quiescent_Kernel14Ideal := fun m ρ _ => Cert.Kernel14Ideal.Gen.frame m ρ
theorem frame_reference14 : Cert.quiescent_Reference14Ideal := fun m ρ _ =>
  (θ_run Cert.Reference14Ideal.defs _ _).mono (fun r h => ⟨fun c => (h c).2,
    sem_eq_zero_of_no_sems (by decide) r.2⟩) (Cert.Reference14Ideal.Value.run (F := Ideal) m ρ)

/-- The kernel for the other core's half of a transposed weight gradient, row blocks. -/
theorem frame_kernel15 : Cert.quiescent_Kernel15 := fun m ρ _ => Cert.Kernel15.Gen.frame m ρ (Cert.Kernel15.Dense.ok m)
theorem frame_ideal15 : Cert.quiescent_Kernel15Ideal := fun m ρ _ => Cert.Kernel15Ideal.Gen.frame m ρ (Cert.Kernel15Ideal.Dense.ok m)
theorem frame_reference15 : Cert.quiescent_Reference15Ideal := fun m ρ _ =>
  (θ_run Cert.Reference15Ideal.defs _ _).mono (fun r h => ⟨fun c => (h c).2,
    sem_eq_zero_of_no_sems (by decide) r.2⟩) (Cert.Reference15Ideal.Value.run (F := Ideal) m ρ)

/-- The kernel for the own half of a transposed weight gradient, row blocks. -/
theorem frame_kernel16 : Cert.quiescent_Kernel16 := fun m ρ _ => Cert.Kernel16.Gen.frame m ρ (Cert.Kernel16.Dense.ok m)
theorem frame_ideal16 : Cert.quiescent_Kernel16Ideal := fun m ρ _ => Cert.Kernel16Ideal.Gen.frame m ρ (Cert.Kernel16Ideal.Dense.ok m)
theorem frame_reference16 : Cert.quiescent_Reference16Ideal := fun m ρ _ =>
  (θ_run Cert.Reference16Ideal.defs _ _).mono (fun r h => ⟨fun c => (h c).2,
    sem_eq_zero_of_no_sems (by decide) r.2⟩) (Cert.Reference16Ideal.Value.run (F := Ideal) m ρ)

/-- The kernel for the gradients of a norm and of the norm before it. -/
theorem frame_kernel17 : Cert.quiescent_Kernel17 := fun m ρ _ => Cert.Kernel17.Gen.frame m ρ
theorem frame_ideal17 : Cert.quiescent_Kernel17Ideal := fun m ρ _ => Cert.Kernel17Ideal.Gen.frame m ρ
theorem frame_reference17 : Cert.quiescent_Reference17Ideal := fun m ρ _ =>
  (θ_run Cert.Reference17Ideal.defs _ _).mono (fun r h => ⟨fun c => (h c).2.2.2.2,
    sem_eq_zero_of_no_sems (by decide) r.2⟩) (Cert.Reference17Ideal.Value.run (F := Ideal) m ρ)

/-- The kernel for the gradient of the mixing of the three branches. -/
theorem frame_kernel19 : Cert.quiescent_Kernel19 := fun m ρ _ => Cert.Kernel19.Gen.frame m ρ
theorem frame_ideal19 : Cert.quiescent_Kernel19Ideal := fun m ρ _ => Cert.Kernel19Ideal.Gen.frame m ρ
theorem frame_reference19 : Cert.quiescent_Reference19Ideal := fun m ρ _ =>
  (θ_run Cert.Reference19Ideal.defs _ _).mono (fun r h => ⟨fun c => (h c).2.2.2.2.2.2.2.2,
    sem_eq_zero_of_no_sems (by decide) r.2⟩) (Cert.Reference19Ideal.Value.run (F := Ideal) m ρ)

/-- The kernel for the gradient of the first norm. -/
theorem frame_kernel18 : Cert.quiescent_Kernel18 := fun m ρ _ => Cert.Kernel18.Gen.frame m ρ
theorem frame_ideal18 : Cert.quiescent_Kernel18Ideal := fun m ρ _ => Cert.Kernel18Ideal.Gen.frame m ρ
theorem frame_reference18 : Cert.quiescent_Reference18Ideal := fun m ρ _ =>
  (θ_run Cert.Reference18Ideal.defs _ _).mono (fun r h => ⟨fun c => (h c).2.2,
    sem_eq_zero_of_no_sems (by decide) r.2⟩) (Cert.Reference18Ideal.Value.run (F := Ideal) m ρ)

/-- The kernel for the loss and its gradients. -/
theorem frame_kernel20 : Cert.quiescent_Kernel20 := fun m ρ _ => Cert.Kernel20.Gen.frame m ρ
theorem frame_ideal20 : Cert.quiescent_Kernel20Ideal := fun m ρ _ => Cert.Kernel20Ideal.Gen.frame m ρ
theorem frame_reference20 : Cert.quiescent_Reference20Ideal := fun m ρ _ =>
  (θ_run Cert.Reference20Ideal.defs _ _).mono (fun r h => ⟨fun c => (h c).2.2.2.2,
    sem_eq_zero_of_no_sems (by decide) r.2⟩) (Cert.Reference20Ideal.Value.run (F := Ideal) m ρ)

/-- The kernel for the first norm. -/
theorem frame_kernel21 : Cert.quiescent_Kernel21 := fun m ρ _ => Cert.Kernel21.Gen.frame m ρ
theorem frame_ideal21 : Cert.quiescent_Kernel21Ideal := fun m ρ _ => Cert.Kernel21Ideal.Gen.frame m ρ
theorem frame_reference21 : Cert.quiescent_Reference21Ideal := fun m ρ _ =>
  (θ_run Cert.Reference21Ideal.defs _ _).mono (fun r h => ⟨fun c => (h c).2,
    sem_eq_zero_of_no_sems (by decide) r.2⟩) (Cert.Reference21Ideal.Value.run (F := Ideal) m ρ)

/-- The kernel for a norm added to its branch's input and the norm of the sum. -/
theorem frame_kernel22 : Cert.quiescent_Kernel22 := fun m ρ _ => Cert.Kernel22.Gen.frame m ρ
theorem frame_ideal22 : Cert.quiescent_Kernel22Ideal := fun m ρ _ => Cert.Kernel22Ideal.Gen.frame m ρ
theorem frame_reference22 : Cert.quiescent_Reference22Ideal := fun m ρ _ =>
  (θ_run Cert.Reference22Ideal.defs _ _).mono (fun r h => ⟨fun c => (h c).2.2,
    sem_eq_zero_of_no_sems (by decide) r.2⟩) (Cert.Reference22Ideal.Value.run (F := Ideal) m ρ)

/-- The kernel for the norms of the three branches. -/
theorem frame_kernel23 : Cert.quiescent_Kernel23 := fun m ρ _ => Cert.Kernel23.Gen.frame m ρ
theorem frame_ideal23 : Cert.quiescent_Kernel23Ideal := fun m ρ _ => Cert.Kernel23Ideal.Gen.frame m ρ
theorem frame_reference23 : Cert.quiescent_Reference23Ideal := fun m ρ _ =>
  (θ_run Cert.Reference23Ideal.defs _ _).mono (fun r h => ⟨fun c => (h c).2,
    sem_eq_zero_of_no_sems (by decide) r.2⟩) (Cert.Reference23Ideal.Value.run (F := Ideal) m ρ)

/-- The kernel for the optimiser's step of the small weights. -/
theorem frame_kernel24 : Cert.quiescent_Kernel24 := fun m ρ _ => Cert.Kernel24.Gen.frame m ρ
theorem frame_ideal24 : Cert.quiescent_Kernel24Ideal := fun m ρ _ => Cert.Kernel24Ideal.Gen.frame m ρ
theorem frame_reference24 : Cert.quiescent_Reference24Ideal := fun m ρ _ =>
  (θ_run Cert.Reference24Ideal.defs _ _).mono (fun r h => ⟨fun c => (h c).2.2.2,
    sem_eq_zero_of_no_sems (by decide) r.2⟩) (Cert.Reference24Ideal.Value.run (F := Ideal) m ρ)

/-- The kernel for the sum of the small weights' gradients over the devices. -/
theorem frame_kernel25 : Cert.quiescent_Kernel25 := fun m ρ _ => Cert.Kernel25.Gen.frame m ρ
theorem frame_ideal25 : Cert.quiescent_Kernel25Ideal := fun m ρ _ => Cert.Kernel25Ideal.Gen.frame m ρ
theorem frame_reference25 : Cert.quiescent_Reference25Ideal := fun m ρ _ =>
  (θ_run Cert.Reference25Ideal.defs _ _).mono (fun r h => ⟨fun c => (h c).2,
    sem_eq_zero_of_no_sems (by decide) r.2⟩) (Cert.Reference25Ideal.Value.run (F := Ideal) m ρ)

end Cert.Proof

end
-- ==== Proof.Dense.K2Body.lean ====
/-
  The two feed-forward calls at one grid point: what each leaves in its result blocks, entry by entry. The rows are taken in four
  chunks of 512, and every chunk computes the same function of its rows.
-/
module

public import proofs.«01_k».proof.Proof.Dense.Half
public import proofs.«01_k».proof.Proof.Gen.Kernel2Ideal.Frame
public import Idealize.ShloMosaic.Lib.Pipeline.ValueKit.Tiles

@[expose] public section

set_option maxRecDepth 16384

noncomputable section

namespace Cert.Kernel2Ideal.Dense

open Idealize.ShloMosaic Idealize.ShloMosaic.TcCoe Idealize.SL.Sem
open Idealize.ShloMosaic.ValueIdx
open Cert.Kernel2Ideal Cert.Kernel2Ideal.Gen Cert.Dense

/-- The logistic function, as the kernel writes it. -/
def sgm (g : EReal) : EReal := Ideal.div (Ideal.ofBits .f32 0x3F800000#32) (Ideal.ofBits .f32 0x3F800000#32 + Ideal.exp (Ideal.ofBits .f32 0x00000000#32 - g))

/-- The factor of the gate's gradient: the derivative of the activation, times the other branch. -/
def fgate (g u : EReal) : EReal := (u * sgm g) * (Ideal.ofBits .f32 0x3F800000#32 + g * (Ideal.ofBits .f32 0x3F800000#32 - sgm g))

/-- A row of the activations times a row of a weight block. -/
def dot (x0 : Vec Ideal S2048x2048 .bf16) (x1 : Vec Ideal S1x704x2048 .bf16) (y : S1x2048x704.Idx) : EReal :=
  ∑ k : Fin 2048, x0 (@ix2 2048 2048 (y 1) k) * x1 (@ix3 1 704 2048 0 (y 2) k)

/-- The product of a chunk at an entry. -/
theorem mm (v0 : Vec Ideal S512x2048 .bf16) (v2 : Vec Ideal S1x704x2048 .bf16) (r : Fin 512) (q : Fin 704) :
    k0_pay4 v0 v2 (ix2 r q) = ∑ k : Fin 2048, v0 (ix2 r k) * v2 (ix3 0 q k) := by
  unfold k0_pay4 k0_pay3
  try dsimp only
  refine (mm_nt (M := 512) (K := 2048) (N := 704) _ _ _ _).trans (Finset.sum_congr rfl fun k _ => congrArg₂ (· * ·) ?_ ?_)
  · rw [shapeCast_self]
  · exact plane_apply _ _ _ _

/-- The same of the chunk of rows from `o` on, at the entry of the whole block. -/
theorem chunk (o : ℕ) (inb : ∀ a, (![o, 0] : Fin 2 → ℕ) a + S512x2048.size a ≤ S2048x2048.size a) (x0 : Vec Ideal S2048x2048 .bf16) (x1 : Vec Ideal S1x704x2048 .bf16)
    (y : S1x2048x704.Idx) (x : S1x512x704.Idx) (hx : ∀ a, (y a : ℕ) = (![0, o, 0] : Fin 3 → ℕ) a + x a) :
    k0_pay4 (View.ld x0 (Rect.unit (s := S2048x2048) ![o, 0] S512x2048.size inb)) (View.ld x1 r0_1) (@ix2 512 704 (x 1) (x 2)) = dot x0 x1 y := by
  refine (mm _ _ _ _).trans (Finset.sum_congr rfl fun k _ => congrArg₂ (· * ·) ?_ ?_)
  · refine View.ld_unit_apply_of _ _ _ _ _ _ fun a => ?_
    match a with
    | ⟨0, _⟩ => exact hx 1
    | ⟨1, _⟩ => exact (Nat.zero_add k.val).symm
  · refine View.ld_unit_apply_of _ _ _ _ _ _ fun a => ?_
    match a with
    | ⟨0, _⟩ => rfl
    | ⟨1, _⟩ => exact hx 2
    | ⟨2, _⟩ => exact (Nat.zero_add k.val).symm

/-- The chunk's three results, from its two products. -/
theorem pay8 (v0 : Vec Ideal S512x2048 .bf16) (v2 v5 : Vec Ideal S1x704x2048 .bf16) (x : S1x512x704.Idx) :
    k0_pay8 v0 v2 v5 x = fgate (k0_pay4 v0 v2 (@ix2 512 704 (x 1) (x 2))) (k0_pay4 v0 v5 (@ix2 512 704 (x 1) (x 2))) := by
  unfold k0_pay8
  try dsimp only
  exact unplane_apply _ _ x
theorem pay9 (v0 : Vec Ideal S512x2048 .bf16) (v2 : Vec Ideal S1x704x2048 .bf16) (x : S1x512x704.Idx) :
    k0_pay9 v0 v2 x = k0_pay4 v0 v2 (@ix2 512 704 (x 1) (x 2)) * sgm (k0_pay4 v0 v2 (@ix2 512 704 (x 1) (x 2))) := by
  unfold k0_pay9
  try dsimp only
  exact unplane_apply _ _ x
theorem pay11 (v0 : Vec Ideal S512x2048 .bf16) (v2 v5 : Vec Ideal S1x704x2048 .bf16) (x : S1x512x704.Idx) :
    k0_pay11 (k0_pay10 v0 v2 v5) x = (k0_pay4 v0 v2 (@ix2 512 704 (x 1) (x 2)) * sgm (k0_pay4 v0 v2 (@ix2 512 704 (x 1) (x 2)))) * k0_pay4 v0 v5 (@ix2 512 704 (x 1) (x 2)) := by
  unfold k0_pay11
  try dsimp only
  exact unplane_apply _ _ x

/-- The four chunks compute the same functions. -/
theorem pay17 : @k0_pay17 Ideal _ = k0_pay8 := rfl
theorem pay26 : @k0_pay26 Ideal _ = k0_pay8 := rfl
theorem pay34 : @k0_pay34 Ideal _ = k0_pay8 := rfl
theorem pay18 : @k0_pay18 Ideal _ = k0_pay9 := rfl
theorem pay27 : @k0_pay27 Ideal _ = k0_pay9 := rfl
theorem pay35 (v0 : Vec Ideal S512x2048 .bf16) (v2 : Vec Ideal S1x704x2048 .bf16) : k0_pay1 (k0_pay35 v0 v2) = k0_pay9 v0 v2 := rfl
theorem pay20 (v0 : Vec Ideal S512x2048 .bf16) (v2 v5 : Vec Ideal S1x704x2048 .bf16) : k0_pay20 (k0_pay19 v0 v2 v5) = k0_pay11 (k0_pay10 v0 v2 v5) := rfl
theorem pay28 (v0 : Vec Ideal S512x2048 .bf16) (v2 v5 : Vec Ideal S1x704x2048 .bf16) : k0_pay28 (k0_pay23 v0 v5) (k0_pay25 v0 v2) = k0_pay11 (k0_pay10 v0 v2 v5) := rfl
theorem pay2 (v0 : Vec Ideal S512x2048 .bf16) (v2 v5 : Vec Ideal S1x704x2048 .bf16) : k0_pay2 (k0_pay31 v0 v5) (k0_pay33 v0 v2) = k0_pay11 (k0_pay10 v0 v2 v5) := rfl

/-- The block of the gate's factor. -/
theorem out3 (x0 : Vec Ideal S2048x2048 .bf16) (x1 x2 : Vec Ideal S1x704x2048 .bf16) (y : S1x2048x704.Idx) :
    out0_3 x0 x1 x2 y = fgate (dot x0 x1 y) (dot x0 x2 y) := by
  unfold out0_3
  rw [pay17, pay26, pay34]
  have key : ∀ (o : ℕ) (inb : ∀ a, (![o, 0] : Fin 2 → ℕ) a + S512x2048.size a ≤ S2048x2048.size a),
      View.TileAt (Val := Elt Ideal) (S := S1x2048x704) (e := .bf16) y ![0, o, 0] S1x512x704.size (k0_pay8 (View.ld x0 (Rect.unit (s := S2048x2048) ![o, 0] S512x2048.size inb)) (View.ld x1 r0_1) (View.ld x2 r0_1)) (fgate (dot x0 x1 y) (dot x0 x2 y)) :=
    fun o inb x hx => (pay8 _ _ _ x).trans (congrArg₂ fgate (chunk o inb x0 x1 y x hx) (chunk o inb x0 x2 y x hx))
  exact View.canon_eq_of_allAt _ y _ (cover0_3 _ _ _ _ y)
    (View.allAt_cons_unit _ _ _ _ _ (key _ _) (View.allAt_cons_unit _ _ _ _ _ (key _ _) (View.allAt_cons_unit _ _ _ _ _ (key _ _) (View.allAt_cons_unit _ _ _ _ _ (key _ _) (View.allAt_nil _ _)))))

/-- The block of the other branch's factor: the activation of the gate. -/
theorem out4 (x0 : Vec Ideal S2048x2048 .bf16) (x1 x2 : Vec Ideal S1x704x2048 .bf16) (y : S1x2048x704.Idx) :
    out0_4 x0 x1 x2 y = dot x0 x1 y * sgm (dot x0 x1 y) := by
  unfold out0_4
  rw [pay18, pay27, pay35]
  have key : ∀ (o : ℕ) (inb : ∀ a, (![o, 0] : Fin 2 → ℕ) a + S512x2048.size a ≤ S2048x2048.size a),
      View.TileAt (Val := Elt Ideal) (S := S1x2048x704) (e := .bf16) y ![0, o, 0] S1x512x704.size (k0_pay9 (View.ld x0 (Rect.unit (s := S2048x2048) ![o, 0] S512x2048.size inb)) (View.ld x1 r0_1)) (dot x0 x1 y * sgm (dot x0 x1 y)) :=
    fun o inb x hx => (pay9 _ _ x).trans (congrArg (fun g => g * sgm g) (chunk o inb x0 x1 y x hx))
  exact View.canon_eq_of_allAt _ y _ (cover0_4 _ _ _ _ y)
    (View.allAt_cons_unit _ _ _ _ _ (key _ _) (View.allAt_cons_unit _ _ _ _ _ (key _ _) (View.allAt_cons_unit _ _ _ _ _ (key _ _) (View.allAt_cons_unit _ _ _ _ _ (key _ _) (View.allAt_nil _ _)))))

/-- The block of the layer's hidden activations. -/
theorem out5 (x0 : Vec Ideal S2048x2048 .bf16) (x1 x2 : Vec Ideal S1x704x2048 .bf16) (y : S1x2048x704.Idx) :
    out0_5 x0 x1 x2 y = (dot x0 x1 y * sgm (dot x0 x1 y)) * dot x0 x2 y := by
  unfold out0_5
  rw [pay20, pay28, pay2]
  have key : ∀ (o : ℕ) (inb : ∀ a, (![o, 0] : Fin 2 → ℕ) a + S512x2048.size a ≤ S2048x2048.size a),
      View.TileAt (Val := Elt Ideal) (S := S1x2048x704) (e := .bf16) y ![0, o, 0] S1x512x704.size (k0_pay11 (k0_pay10 (View.ld x0 (Rect.unit (s := S2048x2048) ![o, 0] S512x2048.size inb)) (View.ld x1 r0_1) (View.ld x2 r0_1))) ((dot x0 x1 y * sgm (dot x0 x1 y)) * dot x0 x2 y) :=
    fun o inb x hx => (pay11 _ _ _ x).trans (congrArg₂ (fun g u => (g * sgm g) * u) (chunk o inb x0 x1 y x hx) (chunk o inb x0 x2 y x hx))
  exact View.canon_eq_of_allAt _ y _ (cover0_5 _ _ _ _ y)
    (View.allAt_cons_unit _ _ _ _ _ (key _ _) (View.allAt_cons_unit _ _ _ _ _ (key _ _) (View.allAt_cons_unit _ _ _ _ _ (key _ _) (View.allAt_cons_unit _ _ _ _ _ (key _ _) (View.allAt_nil _ _)))))

/-- The second call's chunk: its product times the factor. -/
theorem pay6 (v0 : Vec Ideal S512x2048 .bf16) (v2 : Vec Ideal S1x704x2048 .bf16) (v5 : Vec Ideal S1x512x704 .bf16) (x : S1x512x704.Idx) :
    k1_pay6 v0 v2 v5 x = k0_pay4 v0 v2 (@ix2 512 704 (x 1) (x 2)) * v5 x := by
  unfold k1_pay6
  try dsimp only
  refine (unplane_apply _ _ x).trans ?_
  refine congrArg (k0_pay4 v0 v2 (@ix2 512 704 (x 1) (x 2)) * ·) ((plane_apply _ _ _ _).trans (congrArg v5 ?_))
  funext a
  match a with
  | ⟨0, _⟩ => exact Subsingleton.elim (α := Fin 1) _ _
  | ⟨1, _⟩ => rfl
  | ⟨2, _⟩ => rfl
theorem pay7 : @k1_pay7 Ideal _ = k1_pay6 := rfl
theorem pay3 : @k1_pay3 Ideal _ = k1_pay6 := rfl
theorem pay4 : @k1_pay4 Ideal _ = k1_pay6 := rfl
theorem pay13 : @k1_pay13 Ideal _ = k1_pay6 := rfl
theorem pay10 (v0 : Vec Ideal S512x2048 .bf16) (v2 : Vec Ideal S1x704x2048 .bf16) (v5 : Vec Ideal S1x512x704 .bf16) : k1_pay10 (k1_pay9 v0 v2 v5) = k1_pay6 v0 v2 v5 := rfl
theorem pay14 (v0 : Vec Ideal S512x2048 .bf16) (v2 : Vec Ideal S1x704x2048 .bf16) (v5 : Vec Ideal S1x512x704 .bf16) : k1_pay1 (k1_pay14 v0 v2 v5) = k1_pay6 v0 v2 v5 := rfl
theorem pay11' (v0 : Vec Ideal S512x2048 .bf16) (v2 : Vec Ideal S1x704x2048 .bf16) (v5 : Vec Ideal S1x512x704 .bf16) : k1_pay11 (k1_pay8 v0 v2) v5 = k1_pay6 v0 v2 v5 := rfl

/-- A chunk of the second call, at the entry of the whole block. -/
theorem tile1 (x0 : Vec Ideal S2048x2048 .bf16) (x1 : Vec Ideal S1x704x2048 .bf16) (x2 : Vec Ideal S1x2048x704 .bf16) (y : S1x2048x704.Idx)
    (o : ℕ) (inb : ∀ a, (![o, 0] : Fin 2 → ℕ) a + S512x2048.size a ≤ S2048x2048.size a) (inb' : ∀ a, (![0, o, 0] : Fin 3 → ℕ) a + S1x512x704.size a ≤ S1x2048x704.size a) :
    View.TileAt (Val := Elt Ideal) (S := S1x2048x704) (e := .bf16) y ![0, o, 0] S1x512x704.size (k1_pay6 (View.ld x0 (Rect.unit (s := S2048x2048) ![o, 0] S512x2048.size inb)) (View.ld x1 r1_1) (View.ld x2 (Rect.unit (s := S1x2048x704) ![0, o, 0] S1x512x704.size inb'))) (dot x0 x1 y * x2 y) :=
  fun x hx => (pay6 _ _ _ x).trans (congrArg₂ (· * ·) (chunk o inb x0 x1 y x hx) (View.ld_unit_apply_of _ _ _ _ _ _ hx))

/-- The blocks of the two gradients: the product times the factor that the first call left. -/
theorem out14 (x0 : Vec Ideal S2048x2048 .bf16) (x1 : Vec Ideal S1x704x2048 .bf16) (x2 x3 : Vec Ideal S1x2048x704 .bf16) (y : S1x2048x704.Idx) :
    out1_4 x0 x1 x2 x3 y = dot x0 x1 y * x2 y := by
  unfold out1_4
  rw [pay3, pay13, pay10]
  exact View.canon_eq_of_allAt _ y _ (cover1_4 _ _ _ _ y)
    (View.allAt_cons_unit _ _ _ _ _ (tile1 x0 x1 x2 y _ _ _) (View.allAt_cons_unit _ _ _ _ _ (tile1 x0 x1 x2 y _ _ _) (View.allAt_cons_unit _ _ _ _ _ (tile1 x0 x1 x2 y _ _ _) (View.allAt_cons_unit _ _ _ _ _ (tile1 x0 x1 x2 y _ _ _) (View.allAt_nil _ _)))))
theorem out15 (x0 : Vec Ideal S2048x2048 .bf16) (x1 : Vec Ideal S1x704x2048 .bf16) (x2 x3 : Vec Ideal S1x2048x704 .bf16) (y : S1x2048x704.Idx) :
    out1_5 x0 x1 x2 x3 y = dot x0 x1 y * x3 y := by
  unfold out1_5
  rw [pay4, pay14, pay11', pay7]
  exact View.canon_eq_of_allAt _ y _ (cover1_5 _ _ _ _ y)
    (View.allAt_cons_unit _ _ _ _ _ (tile1 x0 x1 x3 y _ _ _) (View.allAt_cons_unit _ _ _ _ _ (tile1 x0 x1 x3 y _ _ _) (View.allAt_cons_unit _ _ _ _ _ (tile1 x0 x1 x3 y _ _ _) (View.allAt_cons_unit _ _ _ _ _ (tile1 x0 x1 x3 y _ _ _) (View.allAt_nil _ _)))))

end Cert.Kernel2Ideal.Dense

end
-- ==== Proof.Dense.K2Run.lean ====
/-
  The two feed-forward calls as a program: what their result arrays hold at the end, in terms of the products of the arguments.
-/
module

public import proofs.«01_k».proof.Proof.Dense.K2Body
public import proofs.«01_k».proof.Proof.Gen.Reference2Ideal.Read

@[expose] public section

set_option maxRecDepth 16384

noncomputable section

namespace Cert.Kernel2Ideal.Dense

open Idealize.ShloMosaic Idealize.ShloMosaic.TcCoe Idealize.SL.Sem
open Idealize.ShloMosaic.ValueIdx
open Cert.Kernel2Ideal Cert.Kernel2Ideal.Gen Cert.Dense
open Cert.Reference2Ideal.Read (val_main_v0 val_main_v1 val_main_v5 idx_main_v11 idx_main_v12)

variable (m : (ℓ : Loc nD τ sig) → Buf (Elt Ideal) ℓ) (ρ : Dev nD → PrngReg) (c : Dev nD)

/-- The column of the whole array that an entry of the eight column blocks holds. -/
abbrev col (j : S8x2048x704.Idx) : S2048x5632.Idx := idx_main_v11 (idx_main_v12 j)
theorem col_0 (j : S8x2048x704.Idx) : (col j 0).val = (j 1).val := by
  have h0 : (j 0).val < 8 := (j 0).isLt
  have h2 : (j 2).val < 704 := (j 2).isLt
  show (((j 1).val * 8 + (j 0).val) * 704 + (j 2).val) / 5632 = (j 1).val
  omega
theorem col_1 (j : S8x2048x704.Idx) : (col j 1).val = (j 0).val * 704 + (j 2).val := by
  have h0 : (j 0).val < 8 := (j 0).isLt
  have h2 : (j 2).val < 704 := (j 2).isLt
  show (((j 1).val * 8 + (j 0).val) * 704 + (j 2).val) % 5632 = (j 0).val * 704 + (j 2).val
  omega

/-- The arguments, and the three products of the step. -/
abbrev U : S2048x2048.Idx → EReal := m ((c : Thread nD τ).loc main_arg0)
abbrev Wg : S2048x5632.Idx → EReal := m ((c : Thread nD τ).loc main_arg1)
abbrev Wu : S2048x5632.Idx → EReal := m ((c : Thread nD τ).loc main_arg2)
abbrev Wd : S5632x2048.Idx → EReal := m ((c : Thread nD τ).loc main_arg3)
abbrev Dn : S2048x2048.Idx → EReal := m ((c : Thread nD τ).loc main_arg4)
abbrev gate (i : S2048x5632.Idx) : EReal := val_main_v0 (F := Ideal) (U m c) (Wg m c) i
abbrev up (i : S2048x5632.Idx) : EReal := val_main_v1 (F := Ideal) (U m c) (Wu m c) i
abbrev back (i : S2048x5632.Idx) : EReal := val_main_v5 (F := Ideal) (Wd m c) (Dn m c) i

/-- What the first call finds in the arrays it reads, -/
theorem V_v0 (i : S2048x2048.Idx) : (V1 m ρ c main_v0 : S2048x2048.Idx → EReal) i = U m c i := by
  show StableHlo.after hostOps0 (W0 m ρ c) (Proc.devRef .tc main_v0) i = _
  simp only [hostOps0]
  after_results_simp
  rfl
theorem V_v3 (j : S8x704x2048.Idx) (i : S2048x5632.Idx) (h0 : (i 0).val = (j 2).val) (h1 : (i 1).val = (j 0).val * 704 + (j 1).val) :
    (V1 m ρ c main_v3 : S8x704x2048.Idx → EReal) j = Wg m c i := by
  show StableHlo.after hostOps0 (W0 m ρ c) (Proc.devRef .tc main_v3) j = _
  simp only [hostOps0]
  after_results_simp
  exact rowsT_apply _ _ _ j i h0 h1
theorem V_v6 (j : S8x704x2048.Idx) (i : S2048x5632.Idx) (h0 : (i 0).val = (j 2).val) (h1 : (i 1).val = (j 0).val * 704 + (j 1).val) :
    (V1 m ρ c main_v6 : S8x704x2048.Idx → EReal) j = Wu m c i := by
  show StableHlo.after hostOps0 (W0 m ρ c) (Proc.devRef .tc main_v6) j = _
  simp only [hostOps0]
  after_results_simp
  exact rowsT_apply _ _ _ j i h0 h1

/-- and the second. -/
theorem V_v8 (i : S2048x2048.Idx) : (V3 m ρ c main_v8 : S2048x2048.Idx → EReal) i = Dn m c i := by
  refine Eq.trans ?_ (congrFun (W2_args m ρ c main_arg4 (by decide)) i)
  show StableHlo.after hostOps1 (W2 m ρ c) (Proc.devRef .tc main_v8) i = _
  simp only [hostOps1]
  after_results_simp
  rfl
theorem V_v10 (j : S8x704x2048.Idx) (i : S5632x2048.Idx) (h0 : (i 0).val = (j 0).val * 704 + (j 1).val) (h1 : (i 1).val = (j 2).val) :
    (V3 m ρ c main_v10 : S8x704x2048.Idx → EReal) j = Wd m c i := by
  refine Eq.trans ?_ (congrFun (W2_args m ρ c main_arg3 (by decide)) i)
  show StableHlo.after hostOps1 (W2 m ρ c) (Proc.devRef .tc main_v10) j = _
  simp only [hostOps1]
  after_results_simp
  exact rows_apply _ _ j i h0 h1

/-- The blocks of a grid point. -/
theorem index0 : ∀ t : Fin cfg0.N, win0_0.index t 0 = 0 ∧ win0_0.index t 1 = 0 ∧ win0_1.index t 0 = t.val ∧ win0_1.index t 1 = 0 ∧ win0_1.index t 2 = 0 ∧ win0_2.index t 0 = t.val ∧ win0_2.index t 1 = 0 ∧ win0_2.index t 2 = 0 :=
  (by decide +kernel : ∀ t : Fin grid0.N, _)
theorem index0' : ∀ t : Fin cfg0.N, win0_3.index t 0 = t.val ∧ win0_3.index t 1 = 0 ∧ win0_3.index t 2 = 0 ∧ win0_4.index t 0 = t.val ∧ win0_4.index t 1 = 0 ∧ win0_4.index t 2 = 0 ∧ win0_5.index t 0 = t.val ∧ win0_5.index t 1 = 0 ∧ win0_5.index t 2 = 0 :=
  (by decide +kernel : ∀ t : Fin grid0.N, _)
theorem index1 : ∀ t : Fin cfg1.N, win1_0.index t 0 = 0 ∧ win1_0.index t 1 = 0 ∧ win1_1.index t 0 = t.val ∧ win1_1.index t 1 = 0 ∧ win1_1.index t 2 = 0 ∧ win1_2.index t 0 = t.val ∧ win1_2.index t 1 = 0 ∧ win1_2.index t 2 = 0 :=
  (by decide +kernel : ∀ t : Fin grid1.N, _)
theorem index1' : ∀ t : Fin cfg1.N, win1_3.index t 0 = t.val ∧ win1_3.index t 1 = 0 ∧ win1_3.index t 2 = 0 ∧ win1_4.index t 0 = t.val ∧ win1_4.index t 1 = 0 ∧ win1_4.index t 2 = 0 ∧ win1_5.index t 0 = t.val ∧ win1_5.index t 1 = 0 ∧ win1_5.index t 2 = 0 :=
  (by decide +kernel : ∀ t : Fin grid1.N, _)

/-- The products of a point's blocks are entries of the products of the arrays. -/
theorem dot_gate (t : Fin cfg0.N) (y : S1x2048x704.Idx) (j : S8x2048x704.Idx) (h0 : (j 0).val = t.val) (h1 : (j 1).val = (y 1).val) (h2 : (j 2).val = (y 2).val) :
    dot (iblk0 (V1 m ρ) c 0 t) (iblk0 (V1 m ρ) c 1 t) y = gate m c (col j) := by
  have e := index0 t
  have e0 := col_0 j
  have e1 := col_1 j
  refine Eq.trans (Finset.sum_congr rfl fun k _ => congrArg₂ (· * ·) ?_ ?_) (Cert.Reference2Ideal.Read.val_main_v0_apply _ _ _).symm
  · unfold iblk0
    refine (View.read_apply _ _).trans ((V_v0 m ρ c _).trans (congrArg (U m c) ?_))
    funext a; apply Fin.ext
    match a with
    | ⟨0, _⟩ =>
      show win0_0.index t 0 * 2048 + 1 * (y 1).val = (col j 0).val
      omega
    | ⟨1, _⟩ =>
      show win0_0.index t 1 * 2048 + 1 * k.val = k.val
      omega
  · unfold iblk0
    refine (View.read_apply _ _).trans (V_v3 m ρ c _ _ ?_ ?_)
    · show k.val = win0_1.index t 2 * 2048 + 1 * k.val
      omega
    · show (col j 1).val = (win0_1.index t 0 * 1 + 1 * 0) * 704 + (win0_1.index t 1 * 704 + 1 * (y 2).val)
      omega
theorem dot_up (t : Fin cfg0.N) (y : S1x2048x704.Idx) (j : S8x2048x704.Idx) (h0 : (j 0).val = t.val) (h1 : (j 1).val = (y 1).val) (h2 : (j 2).val = (y 2).val) :
    dot (iblk0 (V1 m ρ) c 0 t) (iblk0 (V1 m ρ) c 2 t) y = up m c (col j) := by
  have e := index0 t
  have e0 := col_0 j
  have e1 := col_1 j
  refine Eq.trans (Finset.sum_congr rfl fun k _ => congrArg₂ (· * ·) ?_ ?_) (Cert.Reference2Ideal.Read.val_main_v1_apply _ _ _).symm
  · unfold iblk0
    refine (View.read_apply _ _).trans ((V_v0 m ρ c _).trans (congrArg (U m c) ?_))
    funext a; apply Fin.ext
    match a with
    | ⟨0, _⟩ =>
      show win0_0.index t 0 * 2048 + 1 * (y 1).val = (col j 0).val
      omega
    | ⟨1, _⟩ =>
      show win0_0.index t 1 * 2048 + 1 * k.val = k.val
      omega
  · unfold iblk0
    refine (View.read_apply _ _).trans (V_v6 m ρ c _ _ ?_ ?_)
    · show k.val = win0_2.index t 2 * 2048 + 1 * k.val
      omega
    · show (col j 1).val = (win0_2.index t 0 * 1 + 1 * 0) * 704 + (win0_2.index t 1 * 704 + 1 * (y 2).val)
      omega
theorem dot_back (t : Fin cfg1.N) (y : S1x2048x704.Idx) (j : S8x2048x704.Idx) (h0 : (j 0).val = t.val) (h1 : (j 1).val = (y 1).val) (h2 : (j 2).val = (y 2).val) :
    dot (iblk1 (V3 m ρ) c 0 t) (iblk1 (V3 m ρ) c 1 t) y = back m c (col j) := by
  have e := index1 t
  have e0 := col_0 j
  have e1 := col_1 j
  refine Eq.trans (Finset.sum_congr rfl fun k _ => congrArg₂ (· * ·) ?_ ?_) (Cert.Reference2Ideal.Read.val_main_v5_apply _ _ _).symm
  · unfold iblk1
    refine (View.read_apply _ _).trans ((V_v8 m ρ c _).trans (congrArg (Dn m c) ?_))
    funext a; apply Fin.ext
    match a with
    | ⟨0, _⟩ =>
      show win1_0.index t 0 * 2048 + 1 * (y 1).val = (col j 0).val
      omega
    | ⟨1, _⟩ =>
      show win1_0.index t 1 * 2048 + 1 * k.val = k.val
      omega
  · unfold iblk1
    refine (View.read_apply _ _).trans (V_v10 m ρ c _ _ ?_ ?_)
    · show (col j 1).val = (win1_1.index t 0 * 1 + 1 * 0) * 704 + (win1_1.index t 1 * 704 + 1 * (y 2).val)
      omega
    · show k.val = win1_1.index t 2 * 2048 + 1 * k.val
      omega

/-- The first call's result arrays. -/
def Fg (j : S8x2048x704.Idx) : EReal := fgate (gate m c (col j)) (up m c (col j))
def Fu (j : S8x2048x704.Idx) : EReal := gate m c (col j) * sgm (gate m c (col j))
def Hid (j : S8x2048x704.Idx) : EReal := (gate m c (col j) * sgm (gate m c (col j))) * up m c (col j)
theorem final3 : (dat0 (V1 m ρ) c).arrAt 3 cfg0.N = Fg m c := by
  refine (dat0 (V1 m ρ) c).arrAt_eq_of_covers 3 _ (by decide +kernel) fun t hf y => ?_
  refine (congrFun (after0_3 (V1 m ρ) c t) _).trans ((out3 _ _ _ _).trans ?_)
  have e := index0' t
  have hy : (y 0).val < 1 := (y 0).isLt
  refine congrArg₂ fgate (dot_gate m ρ c t _ _ ?_ ?_ ?_) (dot_up m ρ c t _ _ ?_ ?_ ?_)
  · show win0_3.index t 0 * 1 + 1 * (y 0).val = t.val
    omega
  · show win0_3.index t 1 * 2048 + 1 * (y 1).val = (y 1).val
    omega
  · show win0_3.index t 2 * 704 + 1 * (y 2).val = (y 2).val
    omega
  · show win0_3.index t 0 * 1 + 1 * (y 0).val = t.val
    omega
  · show win0_3.index t 1 * 2048 + 1 * (y 1).val = (y 1).val
    omega
  · show win0_3.index t 2 * 704 + 1 * (y 2).val = (y 2).val
    omega
theorem final4 : (dat0 (V1 m ρ) c).arrAt 4 cfg0.N = Fu m c := by
  refine (dat0 (V1 m ρ) c).arrAt_eq_of_covers 4 _ (by decide +kernel) fun t hf y => ?_
  refine (congrFun (after0_4 (V1 m ρ) c t) _).trans ((out4 _ _ _ _).trans ?_)
  have e := index0' t
  have hy : (y 0).val < 1 := (y 0).isLt
  refine congrArg (fun g => g * sgm g) (dot_gate m ρ c t _ _ ?_ ?_ ?_)
  · show win0_4.index t 0 * 1 + 1 * (y 0).val = t.val
    omega
  · show win0_4.index t 1 * 2048 + 1 * (y 1).val = (y 1).val
    omega
  · show win0_4.index t 2 * 704 + 1 * (y 2).val = (y 2).val
    omega
theorem final5 : (dat0 (V1 m ρ) c).arrAt 5 cfg0.N = Hid m c := by
  refine (dat0 (V1 m ρ) c).arrAt_eq_of_covers 5 _ (by decide +kernel) fun t hf y => ?_
  refine (congrFun (after0_5 (V1 m ρ) c t) _).trans ((out5 _ _ _ _).trans ?_)
  have e := index0' t
  have hy : (y 0).val < 1 := (y 0).isLt
  refine congrArg₂ (fun g u => (g * sgm g) * u) (dot_gate m ρ c t _ _ ?_ ?_ ?_) (dot_up m ρ c t _ _ ?_ ?_ ?_)
  · show win0_5.index t 0 * 1 + 1 * (y 0).val = t.val
    omega
  · show win0_5.index t 1 * 2048 + 1 * (y 1).val = (y 1).val
    omega
  · show win0_5.index t 2 * 704 + 1 * (y 2).val = (y 2).val
    omega
  · show win0_5.index t 0 * 1 + 1 * (y 0).val = t.val
    omega
  · show win0_5.index t 1 * 2048 + 1 * (y 1).val = (y 1).val
    omega
  · show win0_5.index t 2 * 704 + 1 * (y 2).val = (y 2).val
    omega

/-- The second call finds the two factors where the first left them. -/
theorem V_v7_0 : (V3 m ρ c main_v7_0 : S8x2048x704.Idx → EReal) = Fg m c :=
  (W3_of m ρ c main_v7_0 (by decide)).trans ((W2_arr m ρ c 3).trans (final3 m ρ c))
theorem V_v7_1 : (V3 m ρ c main_v7_1 : S8x2048x704.Idx → EReal) = Fu m c :=
  (W3_of m ρ c main_v7_1 (by decide)).trans ((W2_arr m ρ c 4).trans (final4 m ρ c))

/-- The second call's result arrays: the two gradients. -/
def Dgate (j : S8x2048x704.Idx) : EReal := back m c (col j) * Fg m c j
def Dup (j : S8x2048x704.Idx) : EReal := back m c (col j) * Fu m c j
theorem final14 : (dat1 (V3 m ρ) c).arrAt 4 cfg1.N = Dgate m c := by
  refine (dat1 (V3 m ρ) c).arrAt_eq_of_covers 4 _ (by decide +kernel) fun t hf y => ?_
  refine (congrFun (after1_4 (V3 m ρ) c t) _).trans ((out14 _ _ _ _ _).trans ?_)
  have e := index1 t
  have e' := index1' t
  have hy : (y 0).val < 1 := (y 0).isLt
  refine congrArg₂ (· * ·) (dot_back m ρ c t _ _ ?_ ?_ ?_) ?_
  · show win1_4.index t 0 * 1 + 1 * (y 0).val = t.val
    omega
  · show win1_4.index t 1 * 2048 + 1 * (y 1).val = (y 1).val
    omega
  · show win1_4.index t 2 * 704 + 1 * (y 2).val = (y 2).val
    omega
  · unfold iblk1
    refine (View.read_apply _ _).trans ((congrFun (V_v7_0 m ρ c) _).trans (congrArg (Fg m c) ?_))
    funext a; apply Fin.ext
    match a with
    | ⟨0, _⟩ =>
      show win1_2.index t 0 * 1 + 1 * (y 0).val = win1_4.index t 0 * 1 + 1 * (y 0).val
      omega
    | ⟨1, _⟩ =>
      show win1_2.index t 1 * 2048 + 1 * (y 1).val = win1_4.index t 1 * 2048 + 1 * (y 1).val
      omega
    | ⟨2, _⟩ =>
      show win1_2.index t 2 * 704 + 1 * (y 2).val = win1_4.index t 2 * 704 + 1 * (y 2).val
      omega
theorem final15 : (dat1 (V3 m ρ) c).arrAt 5 cfg1.N = Dup m c := by
  refine (dat1 (V3 m ρ) c).arrAt_eq_of_covers 5 _ (by decide +kernel) fun t hf y => ?_
  refine (congrFun (after1_5 (V3 m ρ) c t) _).trans ((out15 _ _ _ _ _).trans ?_)
  have e := index1 t
  have e' := index1' t
  have hy : (y 0).val < 1 := (y 0).isLt
  refine congrArg₂ (· * ·) (dot_back m ρ c t _ _ ?_ ?_ ?_) ?_
  · show win1_5.index t 0 * 1 + 1 * (y 0).val = t.val
    omega
  · show win1_5.index t 1 * 2048 + 1 * (y 1).val = (y 1).val
    omega
  · show win1_5.index t 2 * 704 + 1 * (y 2).val = (y 2).val
    omega
  · unfold iblk1
    refine (View.read_apply _ _).trans ((congrFun (V_v7_1 m ρ c) _).trans (congrArg (Fu m c) ?_))
    funext a; apply Fin.ext
    match a with
    | ⟨0, _⟩ =>
      show win1_3.index t 0 * 1 + 1 * (y 0).val = win1_5.index t 0 * 1 + 1 * (y 0).val
      omega
    | ⟨1, _⟩ =>
      show win1_3.index t 1 * 2048 + 1 * (y 1).val = win1_5.index t 1 * 2048 + 1 * (y 1).val
      omega
    | ⟨2, _⟩ =>
      show win1_3.index t 2 * 704 + 1 * (y 2).val = win1_5.index t 2 * 704 + 1 * (y 2).val
      omega

/-- The three results at the end of the program. -/
theorem W_f : (W4 m ρ c (Proc.devRef .tc main_v7_2) : S8x2048x704.Idx → EReal) = Hid m c :=
  (W4_of m ρ c main_v7_2 (by decide)).trans ((W3_of m ρ c main_v7_2 (by decide)).trans ((W2_arr m ρ c 5).trans (final5 m ρ c)))
theorem W_dgate : (W4 m ρ c (Proc.devRef .tc main_v11_0) : S8x2048x704.Idx → EReal) = Dgate m c :=
  (W4_arr m ρ c 4).trans (final14 m ρ c)
theorem W_dup : (W4 m ρ c (Proc.devRef .tc main_v11_1) : S8x2048x704.Idx → EReal) = Dup m c :=
  (W4_arr m ρ c 5).trans (final15 m ρ c)

end Cert.Kernel2Ideal.Dense

end
-- ==== Proof.Dense.K2.lean ====
/-
  The two feed-forward calls end with the reference's results, for finite arguments.
-/
module

public import proofs.«01_k».proof.Defs
public import proofs.«01_k».proof.Proof.Attn.Claims
public import proofs.«01_k».proof.Proof.Dense.K2Run
public import proofs.«01_k».proof.Proof.Gen.Reference2Ideal.Run

@[expose] public section

set_option maxRecDepth 16384

noncomputable section

namespace Cert.Kernel2Ideal.Dense

open Cert.Kernel2Ideal Cert.Kernel2Ideal.Gen Cert.Dense

section Launch

open Idealize.ShloMosaic Idealize.ShloMosaic.TcCoe Idealize.ShloMosaic.Tactic
open Idealize.SL Idealize.SL.RA Idealize.SL.BI Idealize.ShloMosaic.Rounds
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The program ends with its three result arrays at the values above, and its arguments as they were. -/
theorem run_value : θ_run defs (onTc (τ := τ) (main (F := Ideal))) ⟨m, fun _ => 0, ρ⟩ (fun r => ∀ c : Dev nD,
      r.2.mem ((c.tc : Thread nD τ).loc main_v7_2) = Hid m c
      ∧ r.2.mem ((c.tc : Thread nD τ).loc main_v11_0) = Dgate m c
      ∧ r.2.mem ((c.tc : Thread nD τ).loc main_v11_1) = Dup m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v7_2 (by decide))).trans (W_f m ρ c),
       (h c _ (mem_uc main_v11_0 (by decide))).trans (W_dgate m ρ c),
       (h c _ (mem_uc main_v11_1 (by decide))).trans (W_dup m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Launch

section Reference

open Idealize.ShloMosaic Idealize.ShloMosaic.TcCoe Idealize.SL.Sem Idealize.ShloMosaic.ValueIdx
open Cert.Reference2Ideal.Read

variable (m : (ℓ : Loc nD τ sig) → Buf (Elt Ideal) ℓ) (c : Dev nD)

/-- The kernel's logistic function is the reference's. -/
theorem sgm_host (x0 : S2048x2048.Idx → EReal) (x1 : S2048x5632.Idx → EReal) (i : S2048x5632.Idx) :
    sgm (val_main_v0 (F := Ideal) x0 x1 i) = val_main_v2_2 (F := Ideal) x0 x1 i := by
  unfold sgm
  rw [Ideal.ofBits_zero_f32, zero_sub]
  rfl

/-- A sum of products of real numbers is real. -/
theorem real_sum {n : ℕ} (f g : Fin n → EReal) (hf : ∀ k, ∃ r : ℝ, f k = r) (hg : ∀ k, ∃ r : ℝ, g k = r) : ∃ r : ℝ, ∑ k, f k * g k = r := by
  refine Finset.sum_induction _ (fun x : EReal => ∃ r : ℝ, x = r) ?_ ⟨0, rfl⟩ fun k _ => ?_
  · rintro _ _ ⟨a, rfl⟩ ⟨b, rfl⟩
    exact ⟨a + b, (EReal.coe_add a b).symm⟩
  · obtain ⟨a, ha⟩ := hf k
    obtain ⟨b, hb⟩ := hg k
    exact ⟨a * b, by rw [ha, hb, EReal.coe_mul]⟩

/-- The logistic function of a real number is real. -/
theorem sgm_real (g : ℝ) : ∃ s : ℝ, sgm (g : EReal) = s := by
  refine ⟨(1 + Real.exp (-g))⁻¹, ?_⟩
  rw [← Ideal.logistic_coe]
  unfold sgm Ideal.logistic
  rw [Ideal.ofBits_zero_f32, zero_sub, Ideal.ofBits_one_f32]

/-- The hidden activations are the reference's: the same product, in the same order. -/
theorem eq_f (j : S8x2048x704.Idx) : Hid m c j = val_main_v13 (F := Ideal) (U m c) (Wg m c) (Wu m c) j := by
  refine Eq.trans ?_ ((val_main_v12_apply (F := Ideal) (U m c) (Wg m c) (Wu m c) j).trans (val_main_v11_apply (F := Ideal) (U m c) (Wg m c) (Wu m c) _)).symm
  unfold Hid
  rw [sgm_host]
  rfl

/-- The gradient of the other branch: the same factors, in another order. -/
theorem eq_dup (j : S8x2048x704.Idx) : Dup m c j = val_main_v19 (F := Ideal) (U m c) (Wg m c) (Wd m c) (Dn m c) j := by
  refine Eq.trans ?_ ((val_main_v18_apply (F := Ideal) (U m c) (Wg m c) (Wd m c) (Dn m c) j).trans (val_main_v17_apply (F := Ideal) (U m c) (Wg m c) (Wd m c) (Dn m c) _)).symm
  unfold Dup Fu
  rw [sgm_host]
  exact mul_comm (G := EReal) _ _

/-- The gradient of the gate: for real numbers the product rule's two terms are the kernel's one product. -/
theorem eq_dgate (hg : ∀ i, ∃ r : ℝ, gate m c i = r) (hu : ∀ i, ∃ r : ℝ, up m c i = r) (hb : ∀ i, ∃ r : ℝ, back m c i = r) (j : S8x2048x704.Idx) :
    Dgate m c j = val_main_v16 (F := Ideal) (U m c) (Wg m c) (Wu m c) (Wd m c) (Dn m c) j := by
  refine Eq.trans ?_ ((val_main_v15_apply (F := Ideal) (U m c) (Wg m c) (Wu m c) (Wd m c) (Dn m c) j).trans (val_main_v14_apply (F := Ideal) (U m c) (Wg m c) (Wu m c) (Wd m c) (Dn m c) _)).symm
  obtain ⟨g, eg⟩ := hg (col j)
  obtain ⟨u, eu⟩ := hu (col j)
  obtain ⟨b, eb⟩ := hb (col j)
  obtain ⟨s, es⟩ := sgm_real g
  have es' : val_main_v2_2 (F := Ideal) (U m c) (Wg m c) (col j) = s := (sgm_host (U m c) (Wg m c) (col j)).symm.trans ((congrArg sgm eg).trans es)
  unfold Dgate Fg fgate
  rw [eg, eu, eb, es, Ideal.ofBits_one_f32]
  show _ = (back m c (col j) * up m c (col j)) * val_main_v2_2 (F := Ideal) (U m c) (Wg m c) (col j)
    + (gate m c (col j) * (back m c (col j) * up m c (col j))) * (val_main_v2_2 (F := Ideal) (U m c) (Wg m c) (col j) * (Ideal.ofBits .f32 0x3F800000#32 - val_main_v2_2 (F := Ideal) (U m c) (Wg m c) (col j)))
  rw [es', eg, eu, eb, Ideal.ofBits_one_f32]
  rw [← EReal.coe_one]
  simp only [← EReal.coe_mul, ← EReal.coe_sub, ← EReal.coe_add]
  refine congrArg _ ?_
  ring

end Reference

end Cert.Kernel2Ideal.Dense

namespace Cert.Proof

open Idealize.ShloMosaic Idealize.ShloMosaic.TcCoe Idealize.SL.Sem
open Cert.Kernel2Ideal.Dense

/-- The shapes of the precondition's broadcasts of a scalar. -/
theorem finite2_facts : Cert.Pre_finite2.Facts where
  bcast_S_S2048x2048 := by decide
  bcast_S_S2048x5632 := by decide
  bcast_S_S5632x2048 := by decide

/-- For finite arguments the two programs end with equal results. -/
theorem algebraic2 : Cert.algebraic_Kernel2Ideal_Reference2Ideal_pre_finite2 (hPre_finite2 := finite2_facts) := by
  intro m ρ m' ρ' hfin hagree
  have real : ∀ x : EReal, Ideal.cmp .olt (max x (-x)) (FloatOps.ofBits (F := Ideal) .f32 0x7F800000#32 : EReal) = 1#1 → ∃ r : ℝ, x = r :=
    fun x h => ⟨_, real_of_finite x (by rw [Cert.AttnSpec.inf_word] at h; exact h)⟩
  have h0 : ∀ c i, ∃ r : ℝ, U m c i = r := fun c i => real _ (congrFun (hfin c).1 i)
  have h1 : ∀ c i, ∃ r : ℝ, Wg m c i = r := fun c i => real _ (congrFun (hfin c).2.1 i)
  have h2 : ∀ c i, ∃ r : ℝ, Wu m c i = r := fun c i => real _ (congrFun (hfin c).2.2.1 i)
  have h3 : ∀ c i, ∃ r : ℝ, Wd m c i = r := fun c i => real _ (congrFun (hfin c).2.2.2.1 i)
  have h4 : ∀ c i, ∃ r : ℝ, Dn m c i = r := fun c i => real _ (congrFun (hfin c).2.2.2.2 i)
  have hg : ∀ c i, ∃ r : ℝ, gate m c i = r := fun c i => by
    obtain ⟨r, hr⟩ := real_sum _ _ (fun k => h0 c _) (fun k => h1 c _)
    exact ⟨r, (Cert.Reference2Ideal.Read.val_main_v0_apply _ _ _).trans hr⟩
  have hu : ∀ c i, ∃ r : ℝ, up m c i = r := fun c i => by
    obtain ⟨r, hr⟩ := real_sum _ _ (fun k => h0 c _) (fun k => h2 c _)
    exact ⟨r, (Cert.Reference2Ideal.Read.val_main_v1_apply _ _ _).trans hr⟩
  have hb : ∀ c i, ∃ r : ℝ, back m c i = r := fun c i => by
    obtain ⟨r, hr⟩ := real_sum _ _ (fun k => h4 c _) (fun k => h3 c _)
    exact ⟨r, (Cert.Reference2Ideal.Read.val_main_v5_apply _ _ _).trans hr⟩
  refine ⟨Hid m, Dgate m, Dup m, run_value m ρ, ?_⟩
  refine (θ_run Cert.Reference2Ideal.defs _ _).mono (fun _ h c => ⟨(h c).1.trans ?_, (h c).2.1.trans ?_, (h c).2.2.1.trans ?_, (h c).2.2.2⟩)
    (Cert.Reference2Ideal.Value.run (F := Ideal) m' ρ')
  · rw [Cert.Reference2Ideal.Read.val_main_v13_eq, (hagree c).1, (hagree c).2.1, (hagree c).2.2.1]
    exact funext fun j => (eq_f m c j).symm
  · rw [Cert.Reference2Ideal.Read.val_main_v16_eq, (hagree c).1, (hagree c).2.1, (hagree c).2.2.1, (hagree c).2.2.2.1, (hagree c).2.2.2.2]
    exact funext fun j => (eq_dgate m c (hg c) (hu c) (hb c) j).symm
  · rw [Cert.Reference2Ideal.Read.val_main_v19_eq, (hagree c).1, (hagree c).2.1, (hagree c).2.2.2.1, (hagree c).2.2.2.2]
    exact funext fun j => (eq_dup m c j).symm

end Cert.Proof

end
-- ==== Proof.Dense.K3.lean ====
/-
  The gradient of the feed-forward layer's input: what the kernel leaves is the sum of the products of the two gradients with
  their transposed weights.
-/
module

public import proofs.«01_k».proof.Defs
public import proofs.«01_k».proof.Proof.Dense.Base
public import proofs.«01_k».proof.Proof.Gen.Kernel3Ideal.Frame
public import proofs.«01_k».proof.Proof.Gen.Reference3Ideal.Read

@[expose] public section

set_option maxRecDepth 16384

noncomputable section

namespace Cert.Kernel3Ideal.Dense

open Idealize.ShloMosaic Idealize.ShloMosaic.TcCoe Idealize.SL.Sem
open Idealize.ShloMosaic.ValueIdx
open Cert.Kernel3Ideal Cert.Kernel3Ideal.Gen Cert.Dense

/-- The blocks of a grid point: eight points in a row add to one block of the result. -/
theorem index : ∀ t : Fin cfg0.N, win0_0.index t 0 = t.val % 8 ∧ win0_0.index t 1 = t.val / 8 ∧ win0_1.index t 0 = t.val % 8 ∧ win0_1.index t 2 = 0 ∧ win0_2.index t 0 = t.val % 8 ∧ win0_2.index t 1 = t.val / 8 ∧ win0_3.index t 0 = t.val % 8 ∧ win0_3.index t 2 = 0 ∧ win0_4.index t 0 = t.val / 8 ∧ win0_4.index t 1 = 0 :=
  (by decide +kernel : ∀ t : Fin grid0.N, _)

/-- What a point adds to an entry of the block. -/
def part (x0 : Vec Ideal S1x1024x704 .bf16) (x1 : Vec Ideal S1x704x2048 .bf16) (x2 : Vec Ideal S1x1024x704 .bf16) (x3 : Vec Ideal S1x704x2048 .bf16) (y : S1024x2048.Idx) : EReal := (∑ k : Fin 704, x0 (ix3 0 (y 0) k) * x1 (ix3 0 k (y 1))) + (∑ k : Fin 704, x2 (ix3 0 (y 0) k) * x3 (ix3 0 k (y 1)))

/-- The first point of a run stores it, -/
theorem pay1 (x0 : Vec Ideal S1x1024x704 .bf16) (x1 : Vec Ideal S1x704x2048 .bf16) (x2 : Vec Ideal S1x1024x704 .bf16) (x3 : Vec Ideal S1x704x2048 .bf16) (y : S1024x2048.Idx) : k0_pay1 x0 x1 x2 x3 y = part x0 x1 x2 x3 y := by
  unfold k0_pay1 part
  try dsimp only
  rw [eq_ix2 y]
  refine congrArg₂ (· + ·) ?_ ?_
  · refine (mm_nn (M := 1024) (K := 704) (N := 2048) _ _ _ _).trans (Finset.sum_congr rfl fun k _ => congrArg₂ (· * ·) ?_ ?_)
    · exact plane_apply _ _ _ _
    · exact plane_apply _ _ _ _
  · refine (mm_nn (M := 1024) (K := 704) (N := 2048) _ _ _ _).trans (Finset.sum_congr rfl fun k _ => congrArg₂ (· * ·) ?_ ?_)
    · exact plane_apply _ _ _ _
    · exact plane_apply _ _ _ _

/-- and every later point adds it to what the block holds. -/
theorem pay2 (a : Vec Ideal S1024x2048 .f32) (x0 : Vec Ideal S1x1024x704 .bf16) (x1 : Vec Ideal S1x704x2048 .bf16) (x2 : Vec Ideal S1x1024x704 .bf16) (x3 : Vec Ideal S1x704x2048 .bf16) (y : S1024x2048.Idx) : k0_pay2 a x0 x1 x2 x3 y = a y + part x0 x1 x2 x3 y := by
  refine Eq.trans ?_ (congrArg (a y + ·) (pay1 x0 x1 x2 x3 y))
  unfold k0_pay2 k0_pay1
  try dsimp only
  rw [shapeCast_self]
  rfl

variable (m : (ℓ : Loc nD τ sig) → Buf (Elt Ideal) ℓ) (c : Dev nD)

/-- What the region finds in the arrays it reads. -/
theorem V_v2 (j : S8x2048x704.Idx) (i : S2048x5632.Idx) (h0 : (i 0).val = (j 1).val) (h1 : (i 1).val = (j 0).val * 704 + (j 2).val) : (V m c main_v2 : S8x2048x704.Idx → EReal) j = (m ((c : Thread nD τ).loc main_arg0) : S2048x5632.Idx → EReal) i := by
  unfold V
  simp only [hostOps0]
  after_results_simp
  exact cols_apply _ _ _ rfl j i h0 h1
theorem V_v5 (j : S8x704x2048.Idx) (i : S2048x5632.Idx) (h0 : (i 0).val = (j 2).val) (h1 : (i 1).val = (j 0).val * 704 + (j 1).val) : (V m c main_v5 : S8x704x2048.Idx → EReal) j = (m ((c : Thread nD τ).loc main_arg2) : S2048x5632.Idx → EReal) i := by
  unfold V
  simp only [hostOps0]
  after_results_simp
  exact rowsT_apply _ _ _ j i h0 h1
theorem V_v8 (j : S8x2048x704.Idx) (i : S2048x5632.Idx) (h0 : (i 0).val = (j 1).val) (h1 : (i 1).val = (j 0).val * 704 + (j 2).val) : (V m c main_v8 : S8x2048x704.Idx → EReal) j = (m ((c : Thread nD τ).loc main_arg1) : S2048x5632.Idx → EReal) i := by
  unfold V
  simp only [hostOps0]
  after_results_simp
  exact cols_apply _ _ _ rfl j i h0 h1
theorem V_v11 (j : S8x704x2048.Idx) (i : S2048x5632.Idx) (h0 : (i 0).val = (j 2).val) (h1 : (i 1).val = (j 0).val * 704 + (j 1).val) : (V m c main_v11 : S8x704x2048.Idx → EReal) j = (m ((c : Thread nD τ).loc main_arg3) : S2048x5632.Idx → EReal) i := by
  unfold V
  simp only [hostOps0]
  after_results_simp
  exact rowsT_apply _ _ _ j i h0 h1

/-- A block of each of them. -/
theorem zero_0 : ∀ t : Fin cfg0.N, win0_0.index t 2 = 0 := (by decide +kernel : ∀ t : Fin grid0.N, _)
theorem blk_0 (t : Fin cfg0.N) (r : Fin 1024) (k : Fin 704) (i : S2048x5632.Idx) (h0 : (i 0).val = win0_0.index t 1 * 1024 + r.val) (h1 : (i 1).val = win0_0.index t 0 * 704 + k.val) :
    iblk m c 0 t (ix3 0 r k) = (m ((c : Thread nD τ).loc main_arg0) : S2048x5632.Idx → EReal) i := by
  have hz := zero_0 t
  unfold iblk
  rw [View.read_apply]
  refine V_v2 m c _ i ?_ ?_
  · show (i 0).val = win0_0.index t 1 * 1024 + 1 * r.val
    omega
  · show (i 1).val = (win0_0.index t 0 * 1 + 1 * 0) * 704 + (win0_0.index t 2 * 704 + 1 * k.val)
    omega
theorem zero_1 : ∀ t : Fin cfg0.N, win0_1.index t 1 = 0 := (by decide +kernel : ∀ t : Fin grid0.N, _)
theorem blk_1 (t : Fin cfg0.N) (r : Fin 704) (k : Fin 2048) (i : S2048x5632.Idx) (h0 : (i 0).val = win0_1.index t 2 * 2048 + k.val) (h1 : (i 1).val = win0_1.index t 0 * 704 + r.val) :
    iblk m c 1 t (ix3 0 r k) = (m ((c : Thread nD τ).loc main_arg2) : S2048x5632.Idx → EReal) i := by
  have hz := zero_1 t
  unfold iblk
  rw [View.read_apply]
  refine V_v5 m c _ i ?_ ?_
  · show (i 0).val = win0_1.index t 2 * 2048 + 1 * k.val
    omega
  · show (i 1).val = (win0_1.index t 0 * 1 + 1 * 0) * 704 + (win0_1.index t 1 * 704 + 1 * r.val)
    omega
theorem zero_2 : ∀ t : Fin cfg0.N, win0_2.index t 2 = 0 := (by decide +kernel : ∀ t : Fin grid0.N, _)
theorem blk_2 (t : Fin cfg0.N) (r : Fin 1024) (k : Fin 704) (i : S2048x5632.Idx) (h0 : (i 0).val = win0_2.index t 1 * 1024 + r.val) (h1 : (i 1).val = win0_2.index t 0 * 704 + k.val) :
    iblk m c 2 t (ix3 0 r k) = (m ((c : Thread nD τ).loc main_arg1) : S2048x5632.Idx → EReal) i := by
  have hz := zero_2 t
  unfold iblk
  rw [View.read_apply]
  refine V_v8 m c _ i ?_ ?_
  · show (i 0).val = win0_2.index t 1 * 1024 + 1 * r.val
    omega
  · show (i 1).val = (win0_2.index t 0 * 1 + 1 * 0) * 704 + (win0_2.index t 2 * 704 + 1 * k.val)
    omega
theorem zero_3 : ∀ t : Fin cfg0.N, win0_3.index t 1 = 0 := (by decide +kernel : ∀ t : Fin grid0.N, _)
theorem blk_3 (t : Fin cfg0.N) (r : Fin 704) (k : Fin 2048) (i : S2048x5632.Idx) (h0 : (i 0).val = win0_3.index t 2 * 2048 + k.val) (h1 : (i 1).val = win0_3.index t 0 * 704 + r.val) :
    iblk m c 3 t (ix3 0 r k) = (m ((c : Thread nD τ).loc main_arg3) : S2048x5632.Idx → EReal) i := by
  have hz := zero_3 t
  unfold iblk
  rw [View.read_apply]
  refine V_v11 m c _ i ?_ ?_
  · show (i 0).val = win0_3.index t 2 * 2048 + 1 * k.val
    omega
  · show (i 1).val = (win0_3.index t 0 * 1 + 1 * 0) * 704 + (win0_3.index t 1 * 704 + 1 * r.val)
    omega

/-- A block of the result, when it is written back: the sum of what the eight points of its run add. -/
theorem block (t : Fin cfg0.N) (h : t.val % 8 = 7) (y : S1024x2048.Idx) (hl : ∀ s : Fin 8, 8 * (t.val / 8) + s.val < cfg0.N) :
    outsAt0 m c t.val t.isLt y = ∑ s : Fin 8, part (iblk m c 0 ⟨8 * (t.val / 8) + s.val, hl s⟩) (iblk m c 1 ⟨8 * (t.val / 8) + s.val, hl s⟩) (iblk m c 2 ⟨8 * (t.val / 8) + s.val, hl s⟩) (iblk m c 3 ⟨8 * (t.val / 8) + s.val, hl s⟩) y := by
  refine (Pipeline.eq_sum_fin_of_reset_step_apply_of_flush (fun n h => outsAt0 m c n h) 8 (fun _ => (0 : EReal)) (fun t y => part (iblk m c 0 t) (iblk m c 1 t) (iblk m c 2 t) (iblk m c 3 t) y)
    (fun t h y => ?_) (fun t h y => ?_) t h y).trans (zero_add _)
  · try dsimp only
    rw [outsAt0_A m c t h (by omega)]
    frame_out
    exact (pay1 _ _ _ _ y).trans (zero_add _).symm
  · try dsimp only
    rw [outsAt0_B m c t h (by omega)]
    frame_out
    exact pay2 _ _ _ _ _ y

/-- The result array is the sum of the two products. -/
theorem final : (dats m 0 c).arrAt 4 cfg0.N
    = Cert.Reference3Ideal.Read.val_main_v5 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  refine (congrFun (after0_4 m c t) _).trans ?_
  have h7 : t.val % 8 = 7 := (flush0_4 t).mp hf
  have ht : t.val < 16 := lt_of_lt_of_eq t.isLt N_0
  have hl : ∀ s : Fin 8, 8 * (t.val / 8) + s.val < cfg0.N := fun s => lt_of_lt_of_eq (by omega : _ < 16) N_0.symm
  refine (block m c t h7 y hl).trans ?_
  unfold part
  rw [Finset.sum_add_distrib]
  refine Eq.trans ?_ ((Cert.Reference3Ideal.Read.val_main_v5_apply _ _ _ _ _).trans (add_comm (G := EReal) _ _)).symm
  refine congrArg₂ (· + ·) ?_ ?_
  · refine (Eq.trans ?_ (Cert.Reference3Ideal.Read.val_main_v4_apply _ _ _).symm)
    refine Fin.sum_mul_add_congr (S := 8) (n := 704) fun s k hk => ?_
    have e := index ⟨8 * (t.val / 8) + s.val, hl s⟩
    have e' := index t
    have hs := s.isLt
    try dsimp only at e
    refine congrArg₂ (· * ·) (blk_0 m c _ _ _ _ ?_ ?_) (blk_1 m c _ _ _ _ ?_ ?_)
    · show win0_4.index t 0 * 1024 + 1 * (y 0).val = win0_0.index ⟨8 * (t.val / 8) + s.val, hl s⟩ 1 * 1024 + (y 0).val
      omega
    · show s.val * 704 + k.val = win0_0.index ⟨8 * (t.val / 8) + s.val, hl s⟩ 0 * 704 + k.val
      omega
    · show win0_4.index t 1 * 2048 + 1 * (y 1).val = win0_1.index ⟨8 * (t.val / 8) + s.val, hl s⟩ 2 * 2048 + (y 1).val
      omega
    · show s.val * 704 + k.val = win0_1.index ⟨8 * (t.val / 8) + s.val, hl s⟩ 0 * 704 + k.val
      omega
  · refine (Eq.trans ?_ (Cert.Reference3Ideal.Read.val_main_v3_apply _ _ _).symm)
    refine Fin.sum_mul_add_congr (S := 8) (n := 704) fun s k hk => ?_
    have e := index ⟨8 * (t.val / 8) + s.val, hl s⟩
    have e' := index t
    have hs := s.isLt
    try dsimp only at e
    refine congrArg₂ (· * ·) (blk_2 m c _ _ _ _ ?_ ?_) (blk_3 m c _ _ _ _ ?_ ?_)
    · show win0_4.index t 0 * 1024 + 1 * (y 0).val = win0_2.index ⟨8 * (t.val / 8) + s.val, hl s⟩ 1 * 1024 + (y 0).val
      omega
    · show s.val * 704 + k.val = win0_2.index ⟨8 * (t.val / 8) + s.val, hl s⟩ 0 * 704 + k.val
      omega
    · show win0_4.index t 1 * 2048 + 1 * (y 1).val = win0_3.index ⟨8 * (t.val / 8) + s.val, hl s⟩ 2 * 2048 + (y 1).val
      omega
    · show s.val * 704 + k.val = win0_3.index ⟨8 * (t.val / 8) + s.val, hl s⟩ 0 * 704 + k.val
      omega

end Cert.Kernel3Ideal.Dense

namespace Cert.Proof

open Idealize.ShloMosaic Idealize.ShloMosaic.TcCoe Idealize.SL.Sem

/-- The two programs end with equal results. -/
theorem algebraic3 : Cert.algebraic_Kernel3Ideal_Reference3Ideal := by
  intro m ρ m' ρ' _ hagree
  refine ⟨_, (θ_run Cert.Kernel3Ideal.defs _ _).mono (fun _ h c => ⟨((h.1 c).1 4).trans (Cert.Kernel3Ideal.Dense.final m c), h.2 c⟩)
    (θ_run_and (Cert.Kernel3Ideal.Gen.run_main m ρ) (Cert.Kernel3Ideal.Gen.unchanged m ρ)), ?_⟩
  refine (θ_run Cert.Reference3Ideal.defs _ _).mono (fun _ h c => ⟨(h c).1.trans ?_, (h c).2⟩) (Cert.Reference3Ideal.Value.run (F := Ideal) m' ρ')
  rw [Cert.Reference3Ideal.Read.val_main_v5_eq, (hagree c).1, (hagree c).2.1, (hagree c).2.2.1, (hagree c).2.2.2]

end Cert.Proof

end
-- ==== Proof.Dense.K10.lean ====
/-
  The gradient of the mixer's input: what the kernel leaves is the product of the first argument with the transposed second.
-/
module

public import proofs.«01_k».proof.Defs
public import proofs.«01_k».proof.Proof.Dense.Base
public import proofs.«01_k».proof.Proof.Gen.Kernel10Ideal.Frame
public import proofs.«01_k».proof.Proof.Gen.Reference10Ideal.Read

@[expose] public section

set_option maxRecDepth 16384

noncomputable section

namespace Cert.Kernel10Ideal.Dense

open Idealize.ShloMosaic Idealize.ShloMosaic.TcCoe Idealize.SL.Sem
open Idealize.ShloMosaic.ValueIdx
open Cert.Kernel10Ideal Cert.Kernel10Ideal.Gen Cert.Dense

/-- The blocks of a grid point: eight points in a row add to one block of the result. -/
theorem index : ∀ t : Fin cfg0.N, win0_0.index t 0 = t.val / 8 ∧ win0_0.index t 1 = t.val % 8 ∧ win0_1.index t 0 = t.val % 8 ∧ win0_1.index t 1 = 0 ∧ win0_2.index t 0 = t.val / 8 ∧ win0_2.index t 1 = 0 :=
  (by decide +kernel : ∀ t : Fin grid0.N, _)

/-- What a point adds to an entry of the block. -/
def part (x0 : Vec Ideal S1024x640 .bf16) (x1 : Vec Ideal S1x2048x640 .bf16) (y : S1024x2048.Idx) : EReal := (∑ k : Fin 640, x0 (ix2 (y 0) k) * x1 (ix3 0 (y 1) k))

/-- The first point of a run stores it, -/
theorem pay1 (x0 : Vec Ideal S1024x640 .bf16) (x1 : Vec Ideal S1x2048x640 .bf16) (y : S1024x2048.Idx) : k0_pay1 x0 x1 y = part x0 x1 y := by
  unfold k0_pay1 part
  try dsimp only
  rw [eq_ix2 y]
  refine (mm_nt (M := 1024) (K := 640) (N := 2048) _ _ _ _).trans (Finset.sum_congr rfl fun k _ => congrArg₂ (· * ·) ?_ ?_)
  · rw [shapeCast_self]
  · exact plane_apply _ _ _ _

/-- and every later point adds it to what the block holds. -/
theorem pay2 (a : Vec Ideal S1024x2048 .f32) (x0 : Vec Ideal S1024x640 .bf16) (x1 : Vec Ideal S1x2048x640 .bf16) (y : S1024x2048.Idx) : k0_pay2 a x0 x1 y = a y + part x0 x1 y := by
  refine Eq.trans ?_ (congrArg (a y + ·) (pay1 x0 x1 y))
  unfold k0_pay2 k0_pay1
  try dsimp only
  rw [shapeCast_self]
  rfl

variable (m : (ℓ : Loc nD τ sig) → Buf (Elt Ideal) ℓ) (c : Dev nD)

/-- What the region finds in the arrays it reads. -/
theorem V_v0 (j i : S2048x5120.Idx) (h : i = j) : (V m c main_v0 : S2048x5120.Idx → EReal) j = (m ((c : Thread nD τ).loc main_arg0) : S2048x5120.Idx → EReal) i := by
  subst h
  unfold V
  simp only [hostOps0]
  after_results_simp
  rfl
theorem V_v3 (j : S8x2048x640.Idx) (i : S2048x5120.Idx) (h0 : (i 0).val = (j 1).val) (h1 : (i 1).val = (j 0).val * 640 + (j 2).val) : (V m c main_v3 : S8x2048x640.Idx → EReal) j = (m ((c : Thread nD τ).loc main_arg1) : S2048x5120.Idx → EReal) i := by
  unfold V
  simp only [hostOps0]
  after_results_simp
  exact cols_apply _ _ _ rfl j i h0 h1

/-- A block of each of them. -/
theorem blk_0 (t : Fin cfg0.N) (r : Fin 1024) (k : Fin 640) (i : S2048x5120.Idx) (h0 : (i 0).val = win0_0.index t 0 * 1024 + r.val) (h1 : (i 1).val = win0_0.index t 1 * 640 + k.val) :
    iblk m c 0 t (ix2 r k) = (m ((c : Thread nD τ).loc main_arg0) : S2048x5120.Idx → EReal) i := by
  unfold iblk
  rw [View.read_apply]
  refine V_v0 m c _ i (funext fun a => Fin.ext ?_)
  match a with
  | ⟨0, _⟩ =>
      show (i 0).val = win0_0.index t 0 * 1024 + 1 * (r).val
      omega
  | ⟨1, _⟩ =>
      show (i 1).val = win0_0.index t 1 * 640 + 1 * (k).val
      omega
theorem zero_1 : ∀ t : Fin cfg0.N, win0_1.index t 2 = 0 := (by decide +kernel : ∀ t : Fin grid0.N, _)
theorem blk_1 (t : Fin cfg0.N) (r : Fin 2048) (k : Fin 640) (i : S2048x5120.Idx) (h0 : (i 0).val = win0_1.index t 1 * 2048 + r.val) (h1 : (i 1).val = win0_1.index t 0 * 640 + k.val) :
    iblk m c 1 t (ix3 0 r k) = (m ((c : Thread nD τ).loc main_arg1) : S2048x5120.Idx → EReal) i := by
  have hz := zero_1 t
  unfold iblk
  rw [View.read_apply]
  refine V_v3 m c _ i ?_ ?_
  · show (i 0).val = win0_1.index t 1 * 2048 + 1 * r.val
    omega
  · show (i 1).val = (win0_1.index t 0 * 1 + 1 * 0) * 640 + (win0_1.index t 2 * 640 + 1 * k.val)
    omega

/-- A block of the result, when it is written back: the sum of what the eight points of its run add. -/
theorem block (t : Fin cfg0.N) (h : t.val % 8 = 7) (y : S1024x2048.Idx) (hl : ∀ s : Fin 8, 8 * (t.val / 8) + s.val < cfg0.N) :
    outsAt0 m c t.val t.isLt y = ∑ s : Fin 8, part (iblk m c 0 ⟨8 * (t.val / 8) + s.val, hl s⟩) (iblk m c 1 ⟨8 * (t.val / 8) + s.val, hl s⟩) y := by
  refine (Pipeline.eq_sum_fin_of_reset_step_apply_of_flush (fun n h => outsAt0 m c n h) 8 (fun _ => (0 : EReal)) (fun t y => part (iblk m c 0 t) (iblk m c 1 t) y)
    (fun t h y => ?_) (fun t h y => ?_) t h y).trans (zero_add _)
  · try dsimp only
    rw [outsAt0_A m c t h (by omega)]
    frame_out
    exact (pay1 _ _ y).trans (zero_add _).symm
  · try dsimp only
    rw [outsAt0_B m c t h (by omega)]
    frame_out
    exact pay2 _ _ _ y

/-- The result array is the product of the first argument with the transposed second. -/
theorem final : (dats m 0 c).arrAt 2 cfg0.N
    = Cert.Reference10Ideal.Read.val_main_v2 (F := Ideal) (m ((c : Thread nD τ).loc main_arg0)) (m ((c : Thread nD τ).loc main_arg1)) := by
  refine (dats m 0 c).arrAt_eq_of_covers 2 _ (by decide +kernel) fun t hf y => ?_
  refine (congrFun (after0_2 m c t) _).trans ?_
  have h7 : t.val % 8 = 7 := (flush0_2 t).mp hf
  have ht : t.val < 16 := lt_of_lt_of_eq t.isLt N_0
  have hl : ∀ s : Fin 8, 8 * (t.val / 8) + s.val < cfg0.N := fun s => lt_of_lt_of_eq (by omega : _ < 16) N_0.symm
  refine (block m c t h7 y hl).trans ?_
  unfold part
  refine (Eq.trans ?_ (Cert.Reference10Ideal.Read.val_main_v2_apply _ _ _).symm)
  refine Fin.sum_mul_add_congr (S := 8) (n := 640) fun s k hk => ?_
  have e := index ⟨8 * (t.val / 8) + s.val, hl s⟩
  have e' := index t
  have hs := s.isLt
  try dsimp only at e
  refine congrArg₂ (· * ·) (blk_0 m c _ _ _ _ ?_ ?_) (blk_1 m c _ _ _ _ ?_ ?_)
  · show win0_2.index t 0 * 1024 + 1 * (y 0).val = win0_0.index ⟨8 * (t.val / 8) + s.val, hl s⟩ 0 * 1024 + (y 0).val
    omega
  · show s.val * 640 + k.val = win0_0.index ⟨8 * (t.val / 8) + s.val, hl s⟩ 1 * 640 + k.val
    omega
  · show win0_2.index t 1 * 2048 + 1 * (y 1).val = win0_1.index ⟨8 * (t.val / 8) + s.val, hl s⟩ 1 * 2048 + (y 1).val
    omega
  · show s.val * 640 + k.val = win0_1.index ⟨8 * (t.val / 8) + s.val, hl s⟩ 0 * 640 + k.val
    omega

end Cert.Kernel10Ideal.Dense

namespace Cert.Proof

open Idealize.ShloMosaic Idealize.ShloMosaic.TcCoe Idealize.SL.Sem

/-- The two programs end with equal results. -/
theorem algebraic10 : Cert.algebraic_Kernel10Ideal_Reference10Ideal := by
  intro m ρ m' ρ' _ hagree
  refine ⟨_, (θ_run Cert.Kernel10Ideal.defs _ _).mono (fun _ h c => ⟨((h.1 c).1 2).trans (Cert.Kernel10Ideal.Dense.final m c), h.2 c⟩)
    (θ_run_and (Cert.Kernel10Ideal.Gen.run_main m ρ) (Cert.Kernel10Ideal.Gen.unchanged m ρ)), ?_⟩
  refine (θ_run Cert.Reference10Ideal.defs _ _).mono (fun _ h c => ⟨(h c).1.trans ?_, (h c).2⟩) (Cert.Reference10Ideal.Value.run (F := Ideal) m' ρ')
  rw [Cert.Reference10Ideal.Read.val_main_v2_eq, (hagree c).1, (hagree c).2]

end Cert.Proof

end
-- ==== Proof.Dense.K11.lean ====
/-
  The gradient of the mixer's output: what the kernel leaves is the product of the first argument with the transposed second.
-/
module

public import proofs.«01_k».proof.Defs
public import proofs.«01_k».proof.Proof.Dense.Base
public import proofs.«01_k».proof.Proof.Gen.Kernel11Ideal.Frame
public import proofs.«01_k».proof.Proof.Gen.Reference11Ideal.Read

@[expose] public section

set_option maxRecDepth 16384

noncomputable section

namespace Cert.Kernel11Ideal.Dense

open Idealize.ShloMosaic Idealize.ShloMosaic.TcCoe Idealize.SL.Sem
open Idealize.ShloMosaic.ValueIdx
open Cert.Kernel11Ideal Cert.Kernel11Ideal.Gen Cert.Dense

/-- The blocks of a grid point. -/
theorem index : ∀ t : Fin cfg0.N, win0_0.index t 0 = win0_2.index t 0 ∧ win0_0.index t 1 = 0 ∧ win0_1.index t 1 = 0 ∧ win0_1.index t 0 = win0_2.index t 1 :=
  (by decide +kernel : ∀ t : Fin grid0.N, _)

/-- The body's product at an entry. -/
theorem pay (x0 : Vec Ideal S1024x2048 .bf16) (x1 : Vec Ideal S2048x2048 .bf16) (y : S1024x2048.Idx) :
    k0_pay1 x0 x1 y = ∑ k : Fin 2048, x0 (ix2 (y 0) k) * x1 (ix2 (y 1) k) := by
  unfold k0_pay1
  try dsimp only
  rw [eq_ix2 y]
  refine (mm_nt (M := 1024) (K := 2048) (N := 2048) _ _ _ _).trans ?_
  refine Finset.sum_congr rfl fun k _ => congrArg₂ (· * ·) ?_ ?_
  · rw [shapeCast_self]
  · rw [shapeCast_self]

variable (m : (ℓ : Loc nD τ sig) → Buf (Elt Ideal) ℓ) (c : Dev nD)

/-- What the region finds in the arrays it reads. -/
theorem V_v0 (j i : S2048x2048.Idx) (h : i = j) : (V m c main_v0 : S2048x2048.Idx → EReal) j = (m ((c : Thread nD τ).loc main_arg0) : S2048x2048.Idx → EReal) i := by
  subst h
  unfold V
  simp only [hostOps0]
  after_results_simp
  rfl
theorem V_v1 (j i : S2048x2048.Idx) (h : i = j) : (V m c main_v1 : S2048x2048.Idx → EReal) j = (m ((c : Thread nD τ).loc main_arg1) : S2048x2048.Idx → EReal) i := by
  subst h
  unfold V
  simp only [hostOps0]
  after_results_simp
  rfl

/-- A block of each of them. -/
theorem blk_0 (t : Fin cfg0.N) (r : Fin 1024) (k : Fin 2048) (i : S2048x2048.Idx) (h0 : (i 0).val = win0_0.index t 0 * 1024 + r.val) (h1 : (i 1).val = win0_0.index t 1 * 2048 + k.val) :
    iblk m c 0 t (ix2 r k) = (m ((c : Thread nD τ).loc main_arg0) : S2048x2048.Idx → EReal) i := by
  unfold iblk
  rw [View.read_apply]
  refine V_v0 m c _ i (funext fun a => Fin.ext ?_)
  match a with
  | ⟨0, _⟩ =>
      show (i 0).val = win0_0.index t 0 * 1024 + 1 * (r).val
      omega
  | ⟨1, _⟩ =>
      show (i 1).val = win0_0.index t 1 * 2048 + 1 * (k).val
      omega
theorem blk_1 (t : Fin cfg0.N) (r : Fin 2048) (k : Fin 2048) (i : S2048x2048.Idx) (h0 : (i 0).val = win0_1.index t 0 * 2048 + r.val) (h1 : (i 1).val = win0_1.index t 1 * 2048 + k.val) :
    iblk m c 1 t (ix2 r k) = (m ((c : Thread nD τ).loc main_arg1) : S2048x2048.Idx → EReal) i := by
  unfold iblk
  rw [View.read_apply]
  refine V_v1 m c _ i (funext fun a => Fin.ext ?_)
  match a with
  | ⟨0, _⟩ =>
      show (i 0).val = win0_1.index t 0 * 2048 + 1 * (r).val
      omega
  | ⟨1, _⟩ =>
      show (i 1).val = win0_1.index t 1 * 2048 + 1 * (k).val
      omega

/-- The result array is the product of the first argument with the transposed second. -/
theorem final : (dats m 0 c).arrAt 2 cfg0.N
    = Cert.Reference11Ideal.Read.val_main_v2 (F := Ideal) (m ((c : Thread nD τ).loc main_arg0)) (m ((c : Thread nD τ).loc main_arg1)) := by
  refine (dats m 0 c).arrAt_eq_of_covers 2 _ (by decide +kernel) fun t _ y => ?_
  refine (congrFun (after0_2 m c t) _).trans ?_
  frame_out
  have e := index t
  refine (pay _ _ y).trans (Eq.trans ?_ (Cert.Reference11Ideal.Read.val_main_v2_apply _ _ _).symm)
  refine Finset.sum_congr rfl fun k _ => congrArg₂ (· * ·) (blk_0 m c t _ _ _ ?_ ?_) (blk_1 m c t _ _ _ ?_ ?_)
  · show win0_2.index t 0 * 1024 + 1 * (y 0).val = win0_0.index t 0 * 1024 + (y 0).val
    omega
  · show k.val = win0_0.index t 1 * 2048 + k.val
    omega
  · show win0_2.index t 1 * 2048 + 1 * (y 1).val = win0_1.index t 0 * 2048 + (y 1).val
    omega
  · show k.val = win0_1.index t 1 * 2048 + k.val
    omega

end Cert.Kernel11Ideal.Dense

namespace Cert.Proof

open Idealize.ShloMosaic Idealize.ShloMosaic.TcCoe Idealize.SL.Sem

/-- The two programs end with equal results. -/
theorem algebraic11 : Cert.algebraic_Kernel11Ideal_Reference11Ideal := by
  intro m ρ m' ρ' _ hagree
  refine ⟨_, (θ_run Cert.Kernel11Ideal.defs _ _).mono (fun _ h c => ⟨((h.1 c).1 2).trans (Cert.Kernel11Ideal.Dense.final m c), h.2 c⟩)
    (θ_run_and (Cert.Kernel11Ideal.Gen.run_main m ρ) (Cert.Kernel11Ideal.Gen.unchanged m ρ)), ?_⟩
  refine (θ_run Cert.Reference11Ideal.defs _ _).mono (fun _ h c => ⟨(h c).1.trans ?_, (h c).2⟩) (Cert.Reference11Ideal.Value.run (F := Ideal) m' ρ')
  rw [Cert.Reference11Ideal.Read.val_main_v2_eq, (hagree c).1, (hagree c).2]

end Cert.Proof

end
-- ==== Proof.Dense.K12.lean ====
/-
  The projection out of the feed-forward layer: what the kernel leaves is the product of its two arguments.
-/
module

public import proofs.«01_k».proof.Defs
public import proofs.«01_k».proof.Proof.Dense.Base
public import proofs.«01_k».proof.Proof.Gen.Kernel12Ideal.Frame
public import proofs.«01_k».proof.Proof.Gen.Reference12Ideal.Read

@[expose] public section

set_option maxRecDepth 16384

noncomputable section

namespace Cert.Kernel12Ideal.Dense

open Idealize.ShloMosaic Idealize.ShloMosaic.TcCoe Idealize.SL.Sem
open Idealize.ShloMosaic.ValueIdx
open Cert.Kernel12Ideal Cert.Kernel12Ideal.Gen Cert.Dense

/-- The blocks of a grid point: eight points in a row add to one block of the result. -/
theorem index : ∀ t : Fin cfg0.N, win0_0.index t 0 = t.val % 8 ∧ win0_0.index t 1 = t.val / 8 ∧ win0_1.index t 0 = t.val % 8 ∧ win0_1.index t 2 = 0 ∧ win0_2.index t 0 = t.val / 8 ∧ win0_2.index t 1 = 0 :=
  (by decide +kernel : ∀ t : Fin grid0.N, _)

/-- What a point adds to an entry of the block. -/
def part (x0 : Vec Ideal S1x1024x704 .bf16) (x1 : Vec Ideal S1x704x2048 .bf16) (y : S1024x2048.Idx) : EReal := (∑ k : Fin 704, x0 (ix3 0 (y 0) k) * x1 (ix3 0 k (y 1)))

/-- The first point of a run stores it, -/
theorem pay1 (x0 : Vec Ideal S1x1024x704 .bf16) (x1 : Vec Ideal S1x704x2048 .bf16) (y : S1024x2048.Idx) : k0_pay1 x0 x1 y = part x0 x1 y := by
  unfold k0_pay1 part
  try dsimp only
  rw [eq_ix2 y]
  refine (mm_nn (M := 1024) (K := 704) (N := 2048) _ _ _ _).trans (Finset.sum_congr rfl fun k _ => congrArg₂ (· * ·) ?_ ?_)
  · exact plane_apply _ _ _ _
  · exact plane_apply _ _ _ _

/-- and every later point adds it to what the block holds. -/
theorem pay2 (a : Vec Ideal S1024x2048 .f32) (x0 : Vec Ideal S1x1024x704 .bf16) (x1 : Vec Ideal S1x704x2048 .bf16) (y : S1024x2048.Idx) : k0_pay2 a x0 x1 y = a y + part x0 x1 y := by
  refine Eq.trans ?_ (congrArg (a y + ·) (pay1 x0 x1 y))
  unfold k0_pay2 k0_pay1
  try dsimp only
  rw [shapeCast_self]
  rfl

variable (m : (ℓ : Loc nD τ sig) → Buf (Elt Ideal) ℓ) (c : Dev nD)

/-- What the region finds in the arrays it reads. -/
theorem V_v2 (j : S8x2048x704.Idx) (i : S2048x5632.Idx) (h0 : (i 0).val = (j 1).val) (h1 : (i 1).val = (j 0).val * 704 + (j 2).val) : (V m c main_v2 : S8x2048x704.Idx → EReal) j = (m ((c : Thread nD τ).loc main_arg0) : S2048x5632.Idx → EReal) i := by
  unfold V
  simp only [hostOps0]
  after_results_simp
  exact cols_apply _ _ _ rfl j i h0 h1
theorem V_v4 (j : S8x704x2048.Idx) (i : S5632x2048.Idx) (h0 : (i 0).val = (j 0).val * 704 + (j 1).val) (h1 : (i 1).val = (j 2).val) : (V m c main_v4 : S8x704x2048.Idx → EReal) j = (m ((c : Thread nD τ).loc main_arg1) : S5632x2048.Idx → EReal) i := by
  unfold V
  simp only [hostOps0]
  after_results_simp
  exact rows_apply _ _ j i h0 h1

/-- A block of each of them. -/
theorem zero_0 : ∀ t : Fin cfg0.N, win0_0.index t 2 = 0 := (by decide +kernel : ∀ t : Fin grid0.N, _)
theorem blk_0 (t : Fin cfg0.N) (r : Fin 1024) (k : Fin 704) (i : S2048x5632.Idx) (h0 : (i 0).val = win0_0.index t 1 * 1024 + r.val) (h1 : (i 1).val = win0_0.index t 0 * 704 + k.val) :
    iblk m c 0 t (ix3 0 r k) = (m ((c : Thread nD τ).loc main_arg0) : S2048x5632.Idx → EReal) i := by
  have hz := zero_0 t
  unfold iblk
  rw [View.read_apply]
  refine V_v2 m c _ i ?_ ?_
  · show (i 0).val = win0_0.index t 1 * 1024 + 1 * r.val
    omega
  · show (i 1).val = (win0_0.index t 0 * 1 + 1 * 0) * 704 + (win0_0.index t 2 * 704 + 1 * k.val)
    omega
theorem zero_1 : ∀ t : Fin cfg0.N, win0_1.index t 1 = 0 := (by decide +kernel : ∀ t : Fin grid0.N, _)
theorem blk_1 (t : Fin cfg0.N) (r : Fin 704) (k : Fin 2048) (i : S5632x2048.Idx) (h0 : (i 0).val = win0_1.index t 0 * 704 + r.val) (h1 : (i 1).val = win0_1.index t 2 * 2048 + k.val) :
    iblk m c 1 t (ix3 0 r k) = (m ((c : Thread nD τ).loc main_arg1) : S5632x2048.Idx → EReal) i := by
  have hz := zero_1 t
  unfold iblk
  rw [View.read_apply]
  refine V_v4 m c _ i ?_ ?_
  · show (i 0).val = (win0_1.index t 0 * 1 + 1 * 0) * 704 + (win0_1.index t 1 * 704 + 1 * r.val)
    omega
  · show (i 1).val = win0_1.index t 2 * 2048 + 1 * k.val
    omega

/-- A block of the result, when it is written back: the sum of what the eight points of its run add. -/
theorem block (t : Fin cfg0.N) (h : t.val % 8 = 7) (y : S1024x2048.Idx) (hl : ∀ s : Fin 8, 8 * (t.val / 8) + s.val < cfg0.N) :
    outsAt0 m c t.val t.isLt y = ∑ s : Fin 8, part (iblk m c 0 ⟨8 * (t.val / 8) + s.val, hl s⟩) (iblk m c 1 ⟨8 * (t.val / 8) + s.val, hl s⟩) y := by
  refine (Pipeline.eq_sum_fin_of_reset_step_apply_of_flush (fun n h => outsAt0 m c n h) 8 (fun _ => (0 : EReal)) (fun t y => part (iblk m c 0 t) (iblk m c 1 t) y)
    (fun t h y => ?_) (fun t h y => ?_) t h y).trans (zero_add _)
  · try dsimp only
    rw [outsAt0_A m c t h (by omega)]
    frame_out
    exact (pay1 _ _ y).trans (zero_add _).symm
  · try dsimp only
    rw [outsAt0_B m c t h (by omega)]
    frame_out
    exact pay2 _ _ _ y

/-- The result array is the product of the arguments. -/
theorem final : (dats m 0 c).arrAt 2 cfg0.N
    = Cert.Reference12Ideal.Read.val_main_v0 (F := Ideal) (m ((c : Thread nD τ).loc main_arg0)) (m ((c : Thread nD τ).loc main_arg1)) := by
  refine (dats m 0 c).arrAt_eq_of_covers 2 _ (by decide +kernel) fun t hf y => ?_
  refine (congrFun (after0_2 m c t) _).trans ?_
  have h7 : t.val % 8 = 7 := (flush0_2 t).mp hf
  have ht : t.val < 16 := lt_of_lt_of_eq t.isLt N_0
  have hl : ∀ s : Fin 8, 8 * (t.val / 8) + s.val < cfg0.N := fun s => lt_of_lt_of_eq (by omega : _ < 16) N_0.symm
  refine (block m c t h7 y hl).trans ?_
  unfold part
  refine (Eq.trans ?_ (Cert.Reference12Ideal.Read.val_main_v0_apply _ _ _).symm)
  refine Fin.sum_mul_add_congr (S := 8) (n := 704) fun s k hk => ?_
  have e := index ⟨8 * (t.val / 8) + s.val, hl s⟩
  have e' := index t
  have hs := s.isLt
  try dsimp only at e
  refine congrArg₂ (· * ·) (blk_0 m c _ _ _ _ ?_ ?_) (blk_1 m c _ _ _ _ ?_ ?_)
  · show win0_2.index t 0 * 1024 + 1 * (y 0).val = win0_0.index ⟨8 * (t.val / 8) + s.val, hl s⟩ 1 * 1024 + (y 0).val
    omega
  · show s.val * 704 + k.val = win0_0.index ⟨8 * (t.val / 8) + s.val, hl s⟩ 0 * 704 + k.val
    omega
  · show s.val * 704 + k.val = win0_1.index ⟨8 * (t.val / 8) + s.val, hl s⟩ 0 * 704 + k.val
    omega
  · show win0_2.index t 1 * 2048 + 1 * (y 1).val = win0_1.index ⟨8 * (t.val / 8) + s.val, hl s⟩ 2 * 2048 + (y 1).val
    omega

end Cert.Kernel12Ideal.Dense

namespace Cert.Proof

open Idealize.ShloMosaic Idealize.ShloMosaic.TcCoe Idealize.SL.Sem

/-- The two programs end with equal results. -/
theorem algebraic12 : Cert.algebraic_Kernel12Ideal_Reference12Ideal := by
  intro m ρ m' ρ' _ hagree
  refine ⟨_, (θ_run Cert.Kernel12Ideal.defs _ _).mono (fun _ h c => ⟨((h.1 c).1 2).trans (Cert.Kernel12Ideal.Dense.final m c), h.2 c⟩)
    (θ_run_and (Cert.Kernel12Ideal.Gen.run_main m ρ) (Cert.Kernel12Ideal.Gen.unchanged m ρ)), ?_⟩
  refine (θ_run Cert.Reference12Ideal.defs _ _).mono (fun _ h c => ⟨(h c).1.trans ?_, (h c).2⟩) (Cert.Reference12Ideal.Value.run (F := Ideal) m' ρ')
  rw [Cert.Reference12Ideal.Read.val_main_v0_eq, (hagree c).1, (hagree c).2]

end Cert.Proof

end
-- ==== Proof.Dense.K13.lean ====
/-
  The projection into the mixer: what the kernel leaves is the product of its two arguments.
-/
module

public import proofs.«01_k».proof.Defs
public import proofs.«01_k».proof.Proof.Dense.Base
public import proofs.«01_k».proof.Proof.Gen.Kernel13Ideal.Frame
public import proofs.«01_k».proof.Proof.Gen.Reference13Ideal.Read

@[expose] public section

set_option maxRecDepth 16384

noncomputable section

namespace Cert.Kernel13Ideal.Dense

open Idealize.ShloMosaic Idealize.ShloMosaic.TcCoe Idealize.SL.Sem
open Idealize.ShloMosaic.ValueIdx
open Cert.Kernel13Ideal Cert.Kernel13Ideal.Gen Cert.Dense

/-- The blocks of a grid point. -/
theorem index : ∀ t : Fin cfg0.N, win0_0.index t 0 = win0_2.index t 0 ∧ win0_0.index t 1 = 0 ∧ win0_1.index t 1 = 0 ∧ win0_1.index t 0 = win0_2.index t 1 :=
  (by decide +kernel : ∀ t : Fin grid0.N, _)

/-- The body's product at an entry. -/
theorem pay (x0 : Vec Ideal S2048x2048 .bf16) (x1 : Vec Ideal S1x2048x640 .bf16) (y : S2048x640.Idx) :
    k0_pay1 x0 x1 y = ∑ k : Fin 2048, x0 (ix2 (y 0) k) * x1 (ix3 0 k (y 1)) := by
  unfold k0_pay1
  try dsimp only
  rw [eq_ix2 y]
  refine (mm_nn (M := 2048) (K := 2048) (N := 640) _ _ _ _).trans ?_
  refine Finset.sum_congr rfl fun k _ => congrArg₂ (· * ·) ?_ ?_
  · rw [shapeCast_self]
  · exact plane_apply _ _ _ _

variable (m : (ℓ : Loc nD τ sig) → Buf (Elt Ideal) ℓ) (c : Dev nD)

/-- What the region finds in the arrays it reads. -/
theorem V_v0 (j i : S2048x2048.Idx) (h : i = j) : (V m c main_v0 : S2048x2048.Idx → EReal) j = (m ((c : Thread nD τ).loc main_arg0) : S2048x2048.Idx → EReal) i := by
  subst h
  unfold V
  simp only [hostOps0]
  after_results_simp
  rfl
theorem V_v3 (j : S8x2048x640.Idx) (i : S2048x5120.Idx) (h0 : (i 0).val = (j 1).val) (h1 : (i 1).val = (j 0).val * 640 + (j 2).val) : (V m c main_v3 : S8x2048x640.Idx → EReal) j = (m ((c : Thread nD τ).loc main_arg1) : S2048x5120.Idx → EReal) i := by
  unfold V
  simp only [hostOps0]
  after_results_simp
  exact cols_apply _ _ _ rfl j i h0 h1

/-- A block of each of them. -/
theorem blk_0 (t : Fin cfg0.N) (r : Fin 2048) (k : Fin 2048) (i : S2048x2048.Idx) (h0 : (i 0).val = win0_0.index t 0 * 2048 + r.val) (h1 : (i 1).val = win0_0.index t 1 * 2048 + k.val) :
    iblk m c 0 t (ix2 r k) = (m ((c : Thread nD τ).loc main_arg0) : S2048x2048.Idx → EReal) i := by
  unfold iblk
  rw [View.read_apply]
  refine V_v0 m c _ i (funext fun a => Fin.ext ?_)
  match a with
  | ⟨0, _⟩ =>
      show (i 0).val = win0_0.index t 0 * 2048 + 1 * (r).val
      omega
  | ⟨1, _⟩ =>
      show (i 1).val = win0_0.index t 1 * 2048 + 1 * (k).val
      omega
theorem zero_1 : ∀ t : Fin cfg0.N, win0_1.index t 2 = 0 := (by decide +kernel : ∀ t : Fin grid0.N, _)
theorem blk_1 (t : Fin cfg0.N) (r : Fin 2048) (k : Fin 640) (i : S2048x5120.Idx) (h0 : (i 0).val = win0_1.index t 1 * 2048 + r.val) (h1 : (i 1).val = win0_1.index t 0 * 640 + k.val) :
    iblk m c 1 t (ix3 0 r k) = (m ((c : Thread nD τ).loc main_arg1) : S2048x5120.Idx → EReal) i := by
  have hz := zero_1 t
  unfold iblk
  rw [View.read_apply]
  refine V_v3 m c _ i ?_ ?_
  · show (i 0).val = win0_1.index t 1 * 2048 + 1 * r.val
    omega
  · show (i 1).val = (win0_1.index t 0 * 1 + 1 * 0) * 640 + (win0_1.index t 2 * 640 + 1 * k.val)
    omega

/-- The result array is the product of the arguments. -/
theorem final : (dats m 0 c).arrAt 2 cfg0.N
    = Cert.Reference13Ideal.Read.val_main_v0 (F := Ideal) (m ((c : Thread nD τ).loc main_arg0)) (m ((c : Thread nD τ).loc main_arg1)) := by
  refine (dats m 0 c).arrAt_eq_of_covers 2 _ (by decide +kernel) fun t _ y => ?_
  refine (congrFun (after0_2 m c t) _).trans ?_
  frame_out
  have e := index t
  refine (pay _ _ y).trans (Eq.trans ?_ (Cert.Reference13Ideal.Read.val_main_v0_apply _ _ _).symm)
  refine Finset.sum_congr rfl fun k _ => congrArg₂ (· * ·) (blk_0 m c t _ _ _ ?_ ?_) (blk_1 m c t _ _ _ ?_ ?_)
  · show win0_2.index t 0 * 2048 + 1 * (y 0).val = win0_0.index t 0 * 2048 + (y 0).val
    omega
  · show k.val = win0_0.index t 1 * 2048 + k.val
    omega
  · show k.val = win0_1.index t 1 * 2048 + k.val
    omega
  · show win0_2.index t 1 * 640 + 1 * (y 1).val = win0_1.index t 0 * 640 + (y 1).val
    omega

end Cert.Kernel13Ideal.Dense

namespace Cert.Proof

open Idealize.ShloMosaic Idealize.ShloMosaic.TcCoe Idealize.SL.Sem

/-- The two programs end with equal results. -/
theorem algebraic13 : Cert.algebraic_Kernel13Ideal_Reference13Ideal := by
  intro m ρ m' ρ' _ hagree
  refine ⟨_, (θ_run Cert.Kernel13Ideal.defs _ _).mono (fun _ h c => ⟨((h.1 c).1 2).trans (Cert.Kernel13Ideal.Dense.final m c), h.2 c⟩)
    (θ_run_and (Cert.Kernel13Ideal.Gen.run_main m ρ) (Cert.Kernel13Ideal.Gen.unchanged m ρ)), ?_⟩
  refine (θ_run Cert.Reference13Ideal.defs _ _).mono (fun _ h c => ⟨(h c).1.trans ?_, (h c).2⟩) (Cert.Reference13Ideal.Value.run (F := Ideal) m' ρ')
  rw [Cert.Reference13Ideal.Read.val_main_v0_eq, (hagree c).1, (hagree c).2]

end Cert.Proof

end
-- ==== Proof.Dense.K14.lean ====
/-
  The projection out of the mixer: what the kernel leaves is the product of its two arguments.
-/
module

public import proofs.«01_k».proof.Defs
public import proofs.«01_k».proof.Proof.Dense.Base
public import proofs.«01_k».proof.Proof.Gen.Kernel14Ideal.Frame
public import proofs.«01_k».proof.Proof.Gen.Reference14Ideal.Read

@[expose] public section

set_option maxRecDepth 16384

noncomputable section

namespace Cert.Kernel14Ideal.Dense

open Idealize.ShloMosaic Idealize.ShloMosaic.TcCoe Idealize.SL.Sem
open Idealize.ShloMosaic.ValueIdx
open Cert.Kernel14Ideal Cert.Kernel14Ideal.Gen Cert.Dense

/-- The blocks of a grid point. -/
theorem index : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, _)

/-- The body's product at an entry. -/
theorem pay (x0 : Vec Ideal S1024x2048 .bf16) (x1 : Vec Ideal S2048x2048 .bf16) (y : S1024x2048.Idx) :
    k0_pay1 x0 x1 y = ∑ k : Fin 2048, x0 (ix2 (y 0) k) * x1 (ix2 k (y 1)) := by
  unfold k0_pay1
  try dsimp only
  rw [eq_ix2 y]
  refine (mm_nn (M := 1024) (K := 2048) (N := 2048) _ _ _ _).trans ?_
  refine Finset.sum_congr rfl fun k _ => congrArg₂ (· * ·) ?_ ?_
  · rw [shapeCast_self]
  · rw [shapeCast_self]

variable (m : (ℓ : Loc nD τ sig) → Buf (Elt Ideal) ℓ) (c : Dev nD)

/-- What the region finds in the arrays it reads. -/
theorem V_v0 (j i : S2048x2048.Idx) (h : i = j) : (V m c main_v0 : S2048x2048.Idx → EReal) j = (m ((c : Thread nD τ).loc main_arg0) : S2048x2048.Idx → EReal) i := by
  subst h
  unfold V
  simp only [hostOps0]
  after_results_simp
  rfl
theorem V_v1 (j i : S2048x2048.Idx) (h : i = j) : (V m c main_v1 : S2048x2048.Idx → EReal) j = (m ((c : Thread nD τ).loc main_arg1) : S2048x2048.Idx → EReal) i := by
  subst h
  unfold V
  simp only [hostOps0]
  after_results_simp
  rfl

/-- A block of each of them. -/
theorem blk_0 (t : Fin cfg0.N) (r : Fin 1024) (k : Fin 2048) (i : S2048x2048.Idx) (h0 : (i 0).val = win0_0.index t 0 * 1024 + r.val) (h1 : (i 1).val = win0_0.index t 1 * 2048 + k.val) :
    iblk m c 0 t (ix2 r k) = (m ((c : Thread nD τ).loc main_arg0) : S2048x2048.Idx → EReal) i := by
  unfold iblk
  rw [View.read_apply]
  refine V_v0 m c _ i (funext fun a => Fin.ext ?_)
  match a with
  | ⟨0, _⟩ =>
      show (i 0).val = win0_0.index t 0 * 1024 + 1 * (r).val
      omega
  | ⟨1, _⟩ =>
      show (i 1).val = win0_0.index t 1 * 2048 + 1 * (k).val
      omega
theorem blk_1 (t : Fin cfg0.N) (r : Fin 2048) (k : Fin 2048) (i : S2048x2048.Idx) (h0 : (i 0).val = win0_1.index t 0 * 2048 + r.val) (h1 : (i 1).val = win0_1.index t 1 * 2048 + k.val) :
    iblk m c 1 t (ix2 r k) = (m ((c : Thread nD τ).loc main_arg1) : S2048x2048.Idx → EReal) i := by
  unfold iblk
  rw [View.read_apply]
  refine V_v1 m c _ i (funext fun a => Fin.ext ?_)
  match a with
  | ⟨0, _⟩ =>
      show (i 0).val = win0_1.index t 0 * 2048 + 1 * (r).val
      omega
  | ⟨1, _⟩ =>
      show (i 1).val = win0_1.index t 1 * 2048 + 1 * (k).val
      omega

/-- The result array is the product of the arguments. -/
theorem final : (dats m 0 c).arrAt 2 cfg0.N
    = Cert.Reference14Ideal.Read.val_main_v0 (F := Ideal) (m ((c : Thread nD τ).loc main_arg0)) (m ((c : Thread nD τ).loc main_arg1)) := by
  refine (dats m 0 c).arrAt_eq_of_covers 2 _ (by decide +kernel) fun t _ y => ?_
  refine (congrFun (after0_2 m c t) _).trans ?_
  frame_out
  have e := index t
  refine (pay _ _ y).trans (Eq.trans ?_ (Cert.Reference14Ideal.Read.val_main_v0_apply _ _ _).symm)
  refine Finset.sum_congr rfl fun k _ => congrArg₂ (· * ·) (blk_0 m c t _ _ _ ?_ ?_) (blk_1 m c t _ _ _ ?_ ?_)
  · show win0_2.index t 0 * 1024 + 1 * (y 0).val = win0_0.index t 0 * 1024 + (y 0).val
    omega
  · show k.val = win0_0.index t 1 * 2048 + k.val
    omega
  · show k.val = win0_1.index t 0 * 2048 + k.val
    omega
  · show win0_2.index t 1 * 2048 + 1 * (y 1).val = win0_1.index t 1 * 2048 + (y 1).val
    omega

end Cert.Kernel14Ideal.Dense

namespace Cert.Proof

open Idealize.ShloMosaic Idealize.ShloMosaic.TcCoe Idealize.SL.Sem

/-- The two programs end with equal results. -/
theorem algebraic14 : Cert.algebraic_Kernel14Ideal_Reference14Ideal := by
  intro m ρ m' ρ' _ hagree
  refine ⟨_, (θ_run Cert.Kernel14Ideal.defs _ _).mono (fun _ h c => ⟨((h.1 c).1 2).trans (Cert.Kernel14Ideal.Dense.final m c), h.2 c⟩)
    (θ_run_and (Cert.Kernel14Ideal.Gen.run_main m ρ) (Cert.Kernel14Ideal.Gen.unchanged m ρ)), ?_⟩
  refine (θ_run Cert.Reference14Ideal.defs _ _).mono (fun _ h c => ⟨(h c).1.trans ?_, (h c).2⟩) (Cert.Reference14Ideal.Value.run (F := Ideal) m' ρ')
  rw [Cert.Reference14Ideal.Read.val_main_v0_eq, (hagree c).1, (hagree c).2]

end Cert.Proof

end
-- ==== Proof.Norm.Row.lean ====
/-
  The gradient of a norm that divides a row by the root of its mean square, one row at a time: the form the kernels compute, the
  form differentiation gives, and that the two agree, for infinite entries also.
-/
module

public import proofs.«01_k».proof.Proof.Attn.Spec
public import proofs.«01_k».proof.Proof.Dense.Base
public import Idealize.ShloMosaic.Lib.Pointwise.Reduce
public import Idealize.ShloMosaic.Lib.ValueLayout

@[expose] public section

set_option maxRecDepth 16384

noncomputable section

namespace Cert.Norm

open Idealize.ShloMosaic hiding ix1 ix2 ix3
open Idealize.ShloMosaic.ValueIdx

/-- A vector as an array of one row: the one block of the row's columns. -/
theorem row_block {C : ℕ} (x : (⟨1, ![C]⟩ : Shape).Idx → EReal) (h : (⟨1, ![C]⟩ : Shape).ShapeCasts ⟨2, ![1, C]⟩) (j : (⟨2, ![1, C]⟩ : Shape).Idx) (k : Fin C) {b : ℕ} (hb : b = 0)
    (hj : (j 1).val = b * C + 1 * k.val) : shapeCast ⟨2, ![1, C]⟩ x h j = x (ix1 k) := by
  subst hb
  refine shapeCast_apply _ _ _ (ix1 k) ?_
  rewrite [Shape.rowMajor_val_one, Shape.rowMajor_val_two]
  have h0 : (j 0).val < 1 := (j 0).isLt
  have h1 : (j 0).val = 0 := by omega
  show k.val = (j 0).val * C + (j 1).val
  rw [h1, hj]
  omega

/-- The entry of an array of rows at an entry of a block of rows: the block is the `t`-th one, and there is one block of columns. -/
theorem at_block {R C B D : ℕ} (i : (⟨2, ![R, C]⟩ : Shape).Idx) (r : Fin R) (k : Fin C) {a b p q t : ℕ} (ha : a = t) (hb : b = 0) (hr : r.val = t * B + p) (hk : k.val = q)
    (h0 : (i 0).val = a * B + 1 * p) (h1 : (i 1).val = b * D + 1 * q) : i = ix2 r k := by
  subst ha hb
  refine funext fun x => Fin.ext ?_
  match x with
  | ⟨0, _⟩ => exact h0.trans ((congrArg _ (Nat.one_mul p)).trans hr.symm)
  | ⟨1, _⟩ => exact h1.trans ((congrArg₂ (· + ·) (Nat.zero_mul D) (Nat.one_mul q)).trans ((Nat.zero_add q).trans hk.symm))

/-! ## One row -/

section Row

variable {d : ℕ} (n e : EReal) (x w : Fin d → EReal)

/-- The mean square of a row, plus the small constant. -/
def meansq : EReal := Ideal.div (∑ k, x k * x k) n + e

/-- The factor that normalises a row. -/
def rms : EReal := Ideal.rsqrt (meansq n e x)

/-- The gradient of the row as the kernels compute it, from the gradient `w` of the normalised row. -/
def kgrad (j : Fin d) : EReal := rms n e x * (w j - (x j * rms n e x) * Ideal.div (∑ k, w k * (x k * rms n e x)) n)

/-- The gradient of the mean square, by the chain rule: `h` is minus one half. -/
def hfac (h : EReal) : EReal := Ideal.div ((∑ k, x k * w k) * (h * Ideal.div (rms n e x) (meansq n e x))) n

/-- The gradient of the row by the product rule: one term of the factor left alone, two of the square. -/
def hgrad (h : EReal) (j : Fin d) : EReal := w j * rms n e x + x j * hfac n e x w h + hfac n e x w h * x j

end Row

/-- A number that is neither infinity. -/
def Real' (x : EReal) : Prop := ∃ r : ℝ, x = r

theorem Real'.mul {x y : EReal} (hx : Real' x) (hy : Real' y) : Real' (x * y) := by
  obtain ⟨a, rfl⟩ := hx
  obtain ⟨b, rfl⟩ := hy
  exact ⟨a * b, (EReal.coe_mul a b).symm⟩
theorem Real'.add {x y : EReal} (hx : Real' x) (hy : Real' y) : Real' (x + y) := by
  obtain ⟨a, rfl⟩ := hx
  obtain ⟨b, rfl⟩ := hy
  exact ⟨a + b, (EReal.coe_add a b).symm⟩
theorem Real'.sub {x y : EReal} (hx : Real' x) (hy : Real' y) : Real' (x - y) := by
  obtain ⟨a, rfl⟩ := hx
  obtain ⟨b, rfl⟩ := hy
  exact ⟨a - b, (EReal.coe_sub a b).symm⟩
theorem Real'.sum {d : ℕ} {f : Fin d → EReal} (hf : ∀ k, Real' (f k)) : Real' (∑ k, f k) := by
  choose g hg using hf
  exact ⟨∑ k, g k, by rw [← AttnSpec.sum_coe]; exact Finset.sum_congr rfl fun k _ => hg k⟩

theorem div_real (a : ℝ) {b : ℝ} (hb : b ≠ 0) : Ideal.div (a : EReal) (b : EReal) = ((a / b : ℝ) : EReal) := by
  rw [Ideal.div_coe hb, ← EReal.coe_mul, mul_one_div]

theorem rsqrt_real {v : ℝ} (hv : 0 < v) : Ideal.rsqrt (v : EReal) = (((Real.sqrt v)⁻¹ : ℝ) : EReal) := by
  rw [Ideal.rsqrt_coe, if_neg (not_lt.mpr hv.le), if_neg hv.ne']

/-- A factor that is a real number, and not negative, is taken out of a sum. -/
theorem sum_mul_coe {d : ℕ} {r : ℝ} (hr : 0 ≤ r) (f : Fin d → EReal) : ∑ k, f k * (r : EReal) = (∑ k, f k) * r := by
  induction d with
  | zero => simp
  | succ d ih =>
    rw [Fin.sum_univ_succ, Fin.sum_univ_succ, ih, EReal.right_distrib_of_nonneg_of_ne_top (EReal.coe_nonneg.mpr hr) (EReal.coe_ne_top r)]

/-- Twice a negative multiple is minus the double multiple, of an infinite number also. -/
theorem neg_halves {k : ℝ} (hk : 0 < k) (a T : EReal) :
    a - (k : EReal) * T = a + ((-(1/2) * k : ℝ) : EReal) * T + ((-(1/2) * k : ℝ) : EReal) * T := by
  have hq : -(1/2) * k < 0 := by linarith
  have h : -((k : EReal) * T) = ((-(1/2) * k : ℝ) : EReal) * T + ((-(1/2) * k : ℝ) : EReal) * T := by
    induction T with
    | bot => rw [EReal.coe_mul_bot_of_pos hk, EReal.coe_mul_bot_of_neg hq]; rfl
    | top => rw [EReal.coe_mul_top_of_pos hk, EReal.coe_mul_top_of_neg hq]; rfl
    | coe t =>
      rw [← EReal.coe_mul, ← EReal.coe_mul, ← EReal.coe_neg, ← EReal.coe_add]
      exact congrArg _ (by ring)
  rw [sub_eq_add_neg, h, add_assoc]

section Agree

variable {d : ℕ} {n e : ℝ} (hn : 0 < n) (he : 0 < e)
include hn he

/-- The mean square of a real row. -/
theorem meansq_real (x : Fin d → ℝ) : ∃ v : ℝ, 0 < v ∧ meansq (n : EReal) (e : EReal) (fun k => ((x k : ℝ) : EReal)) = v := by
  refine ⟨(∑ k, x k * x k) / n + e, ?_, ?_⟩
  · have : 0 ≤ (∑ k, x k * x k) / n := div_nonneg (Finset.sum_nonneg fun k _ => mul_self_nonneg _) hn.le
    linarith
  · unfold meansq
    simp only [← EReal.coe_mul]
    rw [AttnSpec.sum_coe, div_real _ hn.ne', ← EReal.coe_add]

/-- The mean square of a row with an infinite entry. -/
theorem meansq_top {x : Fin d → EReal} {k : Fin d} (hk : ¬ Real' (x k)) : meansq (n : EReal) (e : EReal) x = ⊤ := by
  have sq : ∀ y : EReal, 0 ≤ y * y := fun y => by
    induction y with
    | bot => simp
    | top => simp
    | coe r => rw [← EReal.coe_mul]; exact EReal.coe_nonneg.mpr (mul_self_nonneg r)
  have h : x k * x k = ⊤ := by
    revert hk
    induction x k with
    | bot => intro _; rfl
    | top => intro _; rfl
    | coe r => exact fun hk => (hk ⟨r, rfl⟩).elim
  have hs : ∑ k, x k * x k = ⊤ := top_le_iff.mp (h ▸ Finset.single_le_sum (f := fun k => x k * x k) (fun i _ => sq (x i)) (Finset.mem_univ k))
  unfold meansq
  rw [hs, Ideal.div_coe hn.ne', EReal.top_mul_coe_of_pos (by positivity)]
  rfl

/-- The kernels' gradient is the one differentiation gives. Where an entry of the row is infinite the factor is zero, and so is either. -/
theorem grad_coe (x w : Fin d → EReal) (j : Fin d) : kgrad (n : EReal) (e : EReal) x w j = hgrad (n : EReal) (e : EReal) x w ((-(1/2) : ℝ) : EReal) j := by
  by_cases hx : ∀ k, Real' (x k)
  · choose x' hx using hx
    obtain rfl : x = fun k => ((x' k : ℝ) : EReal) := funext hx
    obtain ⟨v, hv, hm⟩ := meansq_real hn he x'
    have h0 : 0 < (Real.sqrt v)⁻¹ := inv_pos.mpr (Real.sqrt_pos.mpr hv)
    have hs : (Real.sqrt v)⁻¹ * (Real.sqrt v)⁻¹ = v⁻¹ := by rw [← mul_inv, Real.mul_self_sqrt hv.le]
    have hr : rms (n : EReal) (e : EReal) (fun k => ((x' k : ℝ) : EReal)) = (((Real.sqrt v)⁻¹ : ℝ) : EReal) := by
      unfold rms
      rw [hm, rsqrt_real hv]
    generalize (Real.sqrt v)⁻¹ = r at hs hr h0
    have h1 : (∑ k, w k * ((x' k : EReal) * (r : EReal))) = (∑ k, (x' k : EReal) * w k) * r := by
      rw [← sum_mul_coe h0.le]
      exact Finset.sum_congr rfl fun k _ => by rw [← mul_assoc, mul_comm (w k)]
    unfold kgrad hgrad hfac
    rw [hr, hm, div_real _ hv.ne', h1, Ideal.div_coe hn.ne', Ideal.div_coe hn.ne', EReal.mul_sub_of_nonneg_of_ne_top (EReal.coe_nonneg.mpr h0.le) (EReal.coe_ne_top r)]
    generalize (∑ k, (x' k : EReal) * w k) = S
    have hp : 0 < r * r * r * (1 / n) := by positivity
    have hq : (-(1/2) : ℝ) * (r / v) * (1 / n) = -(1/2) * (r * r * r * (1 / n)) := by
      rw [div_eq_mul_inv r v, ← hs]
      ring
    have a1 : (r : EReal) * ((x' j : EReal) * (r : EReal) * (S * (r : EReal) * ((1 / n : ℝ) : EReal))) = ((r * r * r * (1 / n) : ℝ) : EReal) * ((x' j : EReal) * S) := by
      rw [EReal.coe_mul, EReal.coe_mul, EReal.coe_mul]
      ac_rfl
    have a2 : (x' j : EReal) * (S * (((-(1/2) : ℝ) : EReal) * ((r / v : ℝ) : EReal)) * ((1 / n : ℝ) : EReal)) = ((-(1/2) * (r * r * r * (1 / n)) : ℝ) : EReal) * ((x' j : EReal) * S) := by
      rw [← hq, EReal.coe_mul, EReal.coe_mul]
      ac_rfl
    rw [mul_comm (S * _ * _) (x' j : EReal), a1, a2, neg_halves hp, mul_comm (r : EReal) (w j)]
  · obtain ⟨k, hk⟩ := not_forall.mp hx
    have hm := meansq_top hn he hk
    have hr : rms (n : EReal) (e : EReal) x = 0 := by unfold rms; rw [hm]; rfl
    have hz : Ideal.div 0 ⊤ = 0 := by simp [Ideal.div]
    have hd : Ideal.div 0 (n : EReal) = 0 := by rw [Ideal.div_coe hn.ne', zero_mul]
    unfold kgrad hgrad hfac
    rw [hr, hm, hz]
    simp [hd]

end Agree

/-- The same with the constants as numbers of the extended reals. -/
theorem grad_eq {d : ℕ} {n e h : EReal} (hn : ∃ r : ℝ, 0 < r ∧ n = r) (he : ∃ r : ℝ, 0 < r ∧ e = r) (hh : h = ((-(1/2) : ℝ) : EReal))
    (x w : Fin d → EReal) (j : Fin d) : kgrad n e x w j = hgrad n e x w h j := by
  obtain ⟨n, n0, rfl⟩ := hn
  obtain ⟨e, e0, rfl⟩ := he
  exact hh ▸ grad_coe n0 e0 x w j

/-! ## The constants -/

/-- The small constant is positive. -/
theorem eps_pos : ∃ r : ℝ, 0 < r ∧ Ideal.ofBits .f32 0x358637BD#32 = r := by
  refine ⟨_, ?_, by simp [Ideal.ofBits, Ideal.ieee]; rfl⟩
  positivity
theorem w2048 : ∃ r : ℝ, 0 < r ∧ Ideal.ofBits .f32 0x45000000#32 = r := by
  refine ⟨_, ?_, by simp [Ideal.ofBits, Ideal.ieee]; rfl⟩
  positivity
theorem neg_half : Ideal.ofBits .f32 0xBF000000#32 = ((-(1/2) : ℝ) : EReal) := by
  simp [Ideal.ofBits, Ideal.ieee]
  rw [← EReal.coe_mul]
  norm_num

/-! ## Blocks of rows -/

section Block

variable {R C : ℕ}

/-- A column spread over the rows. -/
theorem spread_apply {α : Type} (v : (⟨2, ![R, 1]⟩ : Shape).Idx → α) (h : (⟨2, ![R, 1]⟩ : Shape).Broadcasts ⟨2, ![R, C]⟩) (p : Fin R) (c : Fin C) :
    broadcastTo ⟨2, ![R, C]⟩ v h (ix2 p c) = v (ix2 p (0 : Fin 1)) := by
  refine broadcastTo_apply v h (ix2 p c) (ix2 p (0 : Fin 1)) fun ax => ?_
  match ax with
  | ⟨0, _⟩ =>
    show p.val = if R = 1 then 0 else p.val
    split
    · have := p.isLt; omega
    · rfl
  | ⟨1, _⟩ => rfl

/-- The sums of the rows, as a column. -/
def rowsum (hr : (⟨2, ![R, C]⟩ : Shape).Reduces [1] ⟨1, ![R]⟩) (hc : (⟨1, ![R]⟩ : Shape).ShapeCasts ⟨2, ![R, 1]⟩) (v : FVec Ideal ⟨2, ![R, C]⟩ .f32) :
    FVec Ideal ⟨2, ![R, 1]⟩ .f32 := shapeCast ⟨2, ![R, 1]⟩ (multiReduction .add [1] ⟨1, ![R]⟩ v 0x00000000#32 hr (.inl rfl) rfl) hc

/-- The sums of the columns, as a row. -/
def colsum (hr : (⟨2, ![R, C]⟩ : Shape).Reduces [0] ⟨1, ![C]⟩) (hc : (⟨1, ![C]⟩ : Shape).ShapeCasts ⟨2, ![1, C]⟩) (v : FVec Ideal ⟨2, ![R, C]⟩ .f32) :
    FVec Ideal ⟨2, ![1, C]⟩ .f32 := shapeCast ⟨2, ![1, C]⟩ (multiReduction .add [0] ⟨1, ![C]⟩ v 0x00000000#32 hr (.inl rfl) rfl) hc

theorem rowsum_apply (hr : (⟨2, ![R, C]⟩ : Shape).Reduces [1] ⟨1, ![R]⟩) (hc : (⟨1, ![R]⟩ : Shape).ShapeCasts ⟨2, ![R, 1]⟩) (v : FVec Ideal ⟨2, ![R, C]⟩ .f32) (p : Fin R) :
    rowsum hr hc v (ix2 p (0 : Fin 1)) = ∑ k : Fin C, v (ix2 p k) := by
  unfold rowsum
  refine (shapeCast_apply _ _ _ (ix1 p) ?_).trans (Ideal.reduceAdd_r2_a1 hr v (ix1 p))
  rewrite [Shape.rowMajor_val_one, Shape.rowMajor_val_two]
  show p.val = p.val * 1 + 0
  omega

theorem colsum_apply (hr : (⟨2, ![R, C]⟩ : Shape).Reduces [0] ⟨1, ![C]⟩) (hc : (⟨1, ![C]⟩ : Shape).ShapeCasts ⟨2, ![1, C]⟩) (v : FVec Ideal ⟨2, ![R, C]⟩ .f32) (c : Fin C) :
    colsum hr hc v (ix2 (0 : Fin 1) c) = ∑ k : Fin R, v (ix2 k c) := by
  unfold colsum
  refine (shapeCast_apply _ _ _ (ix1 c) ?_).trans (Ideal.reduceAdd_r2_a0 hr v (ix1 c))
  rewrite [Shape.rowMajor_val_one, Shape.rowMajor_val_two]
  show c.val = 0 * C + c.val
  omega

variable (n e : BitVec 32) (hr : (⟨2, ![R, C]⟩ : Shape).Reduces [1] ⟨1, ![R]⟩) (hc : (⟨1, ![R]⟩ : Shape).ShapeCasts ⟨2, ![R, 1]⟩)
  (hb : (⟨2, ![R, 1]⟩ : Shape).Broadcasts ⟨2, ![R, C]⟩) (hg : (⟨2, ![1, C]⟩ : Shape).Broadcasts ⟨2, ![R, C]⟩)

/-- The factors of a block of rows, as the kernels compute them. -/
def brms (x : FVec Ideal ⟨2, ![R, C]⟩ .f32) : FVec Ideal ⟨2, ![R, 1]⟩ .f32 :=
  rsqrt (addf (divf (rowsum hr hc (mulf x x)) (broadcast ⟨2, ![R, 1]⟩ (Scalar.ofBits .f32 n))) (broadcast ⟨2, ![R, 1]⟩ (Scalar.ofBits .f32 e)))

/-- The normalised rows. -/
def bnorm (x : FVec Ideal ⟨2, ![R, C]⟩ .f32) : FVec Ideal ⟨2, ![R, C]⟩ .f32 := mulf x (broadcastTo ⟨2, ![R, C]⟩ (brms n e hr hc x) hb)

/-- The gradient of the rows. -/
def bgrad (dy x : FVec Ideal ⟨2, ![R, C]⟩ .f32) (g : FVec Ideal ⟨2, ![1, C]⟩ .f32) : FVec Ideal ⟨2, ![R, C]⟩ .f32 :=
  have w : FVec Ideal ⟨2, ![R, C]⟩ .f32 := mulf dy (broadcastTo ⟨2, ![R, C]⟩ g hg)
  mulf (broadcastTo ⟨2, ![R, C]⟩ (brms n e hr hc x) hb) (subf w (mulf (bnorm n e hr hc hb x)
    (broadcastTo ⟨2, ![R, C]⟩ (divf (rowsum hr hc (mulf w (bnorm n e hr hc hb x))) (broadcast ⟨2, ![R, 1]⟩ (Scalar.ofBits .f32 n))) hb)))

theorem brms_apply (x : FVec Ideal ⟨2, ![R, C]⟩ .f32) (p : Fin R) :
    brms n e hr hc x (ix2 p (0 : Fin 1)) = rms (Ideal.ofBits .f32 n) (Ideal.ofBits .f32 e) (fun k => x (ix2 p k)) := by
  show Ideal.rsqrt (Ideal.div (rowsum hr hc (mulf x x) (ix2 p (0 : Fin 1))) _ + _) = _
  rw [rowsum_apply]
  rfl

theorem bnorm_apply (x : FVec Ideal ⟨2, ![R, C]⟩ .f32) (p : Fin R) (c : Fin C) :
    bnorm n e hr hc hb x (ix2 p c) = x (ix2 p c) * rms (Ideal.ofBits .f32 n) (Ideal.ofBits .f32 e) (fun k => x (ix2 p k)) := by
  show x (ix2 p c) * broadcastTo ⟨2, ![R, C]⟩ (brms n e hr hc x) hb (ix2 p c) = _
  rw [spread_apply, brms_apply]

theorem bgrad_apply (dy x : FVec Ideal ⟨2, ![R, C]⟩ .f32) (g : FVec Ideal ⟨2, ![1, C]⟩ .f32) (p : Fin R) (c : Fin C) :
    bgrad n e hr hc hb hg dy x g (ix2 p c)
      = kgrad (Ideal.ofBits .f32 n) (Ideal.ofBits .f32 e) (fun k => x (ix2 p k)) (fun k => dy (ix2 p k) * g (ix2 (0 : Fin 1) k)) c := by
  have hw : ∀ k : Fin C, mulf dy (broadcastTo ⟨2, ![R, C]⟩ g hg) (ix2 p k) = dy (ix2 p k) * g (ix2 (0 : Fin 1) k) := fun k =>
    congrArg (dy (ix2 p k) * ·) (broadcastTo_1b_ab_apply g hg p k)
  show broadcastTo ⟨2, ![R, C]⟩ (brms n e hr hc x) hb (ix2 p c) * (mulf dy (broadcastTo ⟨2, ![R, C]⟩ g hg) (ix2 p c) - bnorm n e hr hc hb x (ix2 p c)
    * broadcastTo ⟨2, ![R, C]⟩ (divf (rowsum hr hc (mulf (mulf dy (broadcastTo ⟨2, ![R, C]⟩ g hg)) (bnorm n e hr hc hb x))) (broadcast ⟨2, ![R, 1]⟩ (Scalar.ofBits .f32 n))) hb (ix2 p c)) = _
  rw [spread_apply, brms_apply, hw, bnorm_apply, spread_apply]
  have hs : rowsum hr hc (mulf (mulf dy (broadcastTo ⟨2, ![R, C]⟩ g hg)) (bnorm n e hr hc hb x)) (ix2 p (0 : Fin 1))
      = ∑ k, (dy (ix2 p k) * g (ix2 (0 : Fin 1) k)) * (x (ix2 p k) * rms (Ideal.ofBits .f32 n) (Ideal.ofBits .f32 e) (fun k => x (ix2 p k))) :=
    (rowsum_apply hr hc _ p).trans (Finset.sum_congr rfl fun k _ => congrArg₂ (· * ·) (hw k) (bnorm_apply n e hr hc hb x p k))
  unfold kgrad
  show _ * (_ - _ * Ideal.div (rowsum hr hc _ (ix2 p (0 : Fin 1))) _) = _
  rw [hs]
  rfl

end Block

end Cert.Norm

end
-- ==== Proof.Norm.Host.lean ====
/-
  The gradient of a norm of an array of rows, as differentiation writes it out operation by operation: at an entry it is the
  gradient of that row.
-/
module

public import proofs.«01_k».proof.Proof.Norm.Row

@[expose] public section

set_option maxRecDepth 16384

noncomputable section

namespace Cert.Norm

open Idealize.ShloMosaic hiding ix1 ix2 ix3 eq_ix2
open Idealize.ShloMosaic.ValueIdx

section HostBlock

variable {R C : ℕ}

/-- The shape of a single number. -/
abbrev S0 : Shape := ⟨0, ![]⟩

/-- A number in every place. -/
theorem splat_apply {s : Shape} (h : S0.BroadcastsInDim s ![]) (b : BitVec 32) (i : s.Idx) :
    broadcastInDim s ![] h (constant (F := Ideal) S0 .f32 b) i = Ideal.ofBits .f32 b :=
  (broadcastInDim_apply _ h _ i (fun a => a.elim0) (fun a => a.elim0)).trans rfl

/-- A vector as a column, -/
theorem asCol_apply {α : Type} (h : (⟨1, ![R]⟩ : Shape).BroadcastsInDim ⟨2, ![R, 1]⟩ ![0]) (x : (⟨1, ![R]⟩ : Shape).Idx → α) (p : Fin R) :
    broadcastInDim ⟨2, ![R, 1]⟩ ![0] h x (ix2 p (0 : Fin 1)) = x (ix1 p) :=
  broadcastInDim_apply _ h x _ (ix1 p) fun a => match a with
    | ⟨0, _⟩ => by
      show p.val = if R = 1 then 0 else p.val
      split
      · have := p.isLt; omega
      · rfl
/-- in every column, -/
theorem asCols_apply {α : Type} (h : (⟨1, ![R]⟩ : Shape).BroadcastsInDim ⟨2, ![R, C]⟩ ![0]) (x : (⟨1, ![R]⟩ : Shape).Idx → α) (p : Fin R) (c : Fin C) :
    broadcastInDim ⟨2, ![R, C]⟩ ![0] h x (ix2 p c) = x (ix1 p) :=
  broadcastInDim_apply _ h x _ (ix1 p) fun a => match a with
    | ⟨0, _⟩ => by
      show p.val = if R = 1 then 0 else p.val
      split
      · have := p.isLt; omega
      · rfl
/-- as a row, -/
theorem asRow_apply {α : Type} (h : (⟨1, ![C]⟩ : Shape).BroadcastsInDim ⟨2, ![1, C]⟩ ![1]) (x : (⟨1, ![C]⟩ : Shape).Idx → α) (p : Fin 1) (c : Fin C) :
    broadcastInDim ⟨2, ![1, C]⟩ ![1] h x (ix2 p c) = x (ix1 c) :=
  broadcastInDim_apply _ h x _ (ix1 c) fun a => match a with
    | ⟨0, _⟩ => by
      show c.val = if C = 1 then 0 else c.val
      split
      · have := c.isLt; omega
      · rfl
/-- a column in every column, -/
theorem cols_of_apply {α : Type} (h : (⟨2, ![R, 1]⟩ : Shape).BroadcastsInDim ⟨2, ![R, C]⟩ ![0, 1]) (x : (⟨2, ![R, 1]⟩ : Shape).Idx → α) (p : Fin R) (c : Fin C) :
    broadcastInDim ⟨2, ![R, C]⟩ ![0, 1] h x (ix2 p c) = x (ix2 p (0 : Fin 1)) :=
  broadcastInDim_apply _ h x _ (ix2 p (0 : Fin 1)) fun a => match a with
    | ⟨0, _⟩ => by
      show p.val = if R = 1 then 0 else p.val
      split
      · have := p.isLt; omega
      · rfl
    | ⟨1, _⟩ => by
      show (0 : ℕ) = if (1 : ℕ) = 1 then 0 else c.val
      rw [if_pos rfl]
/-- and a row in every row. -/
theorem rows_of_apply {α : Type} (h : (⟨2, ![1, C]⟩ : Shape).BroadcastsInDim ⟨2, ![R, C]⟩ ![0, 1]) (x : (⟨2, ![1, C]⟩ : Shape).Idx → α) (p : Fin R) (c : Fin C) :
    broadcastInDim ⟨2, ![R, C]⟩ ![0, 1] h x (ix2 p c) = x (ix2 (0 : Fin 1) c) :=
  broadcastInDim_apply _ h x _ (ix2 (0 : Fin 1) c) fun a => match a with
    | ⟨0, _⟩ => by
      show (0 : ℕ) = if (1 : ℕ) = 1 then 0 else p.val
      rw [if_pos rfl]
    | ⟨1, _⟩ => by
      show c.val = if C = 1 then 0 else c.val
      split
      · have := c.isLt; omega
      · rfl

/-- The sum of a row, -/
theorem hrow_apply (hr : (⟨2, ![R, C]⟩ : Shape).ReducesTo [1] ⟨1, ![R]⟩) (hS : 0 < S0.numel) (v : FVec Ideal ⟨2, ![R, C]⟩ .f32) (p : Fin R) :
    Host.reduceAdd v (constant (F := Ideal) S0 .f32 0x00000000#32) hr hS (ix1 p) = ∑ k : Fin C, v (ix2 p k) :=
  (Ideal.hostReduceAdd_r2_a1 hr v (Ideal.ofBits .f32 0x00000000#32) (ix1 p)).trans ((congrArg (· + _) Ideal.ofBits_zero_f32).trans (zero_add _))
/-- and of a column. -/
theorem hcol_apply (hr : (⟨2, ![R, C]⟩ : Shape).ReducesTo [0] ⟨1, ![C]⟩) (hS : 0 < S0.numel) (v : FVec Ideal ⟨2, ![R, C]⟩ .f32) (c : Fin C) :
    Host.reduceAdd v (constant (F := Ideal) S0 .f32 0x00000000#32) hr hS (ix1 c) = ∑ k : Fin R, v (ix2 k c) :=
  (Ideal.hostReduceAdd_r2_a0 hr v (Ideal.ofBits .f32 0x00000000#32) (ix1 c)).trans ((congrArg (· + _) Ideal.ofBits_zero_f32).trans (zero_add _))

/-- A vector's reshapes to a column and to a row. -/
theorem reCol_apply {α : Type} (h : (⟨1, ![R]⟩ : Shape).ShapeCasts ⟨2, ![R, 1]⟩) (x : (⟨1, ![R]⟩ : Shape).Idx → α) (p : Fin R) :
    shapeCast ⟨2, ![R, 1]⟩ x h (ix2 p (0 : Fin 1)) = x (ix1 p) := by
  refine shapeCast_apply _ _ _ (ix1 p) ?_
  rewrite [Shape.rowMajor_val_one, Shape.rowMajor_val_two]
  show p.val = p.val * 1 + 0
  omega
theorem reRow_apply {α : Type} (h : (⟨1, ![C]⟩ : Shape).ShapeCasts ⟨2, ![1, C]⟩) (x : (⟨1, ![C]⟩ : Shape).Idx → α) (c : Fin C) :
    shapeCast ⟨2, ![1, C]⟩ x h (ix2 (0 : Fin 1) c) = x (ix1 c) := by
  refine shapeCast_apply _ _ _ (ix1 c) ?_
  rewrite [Shape.rowMajor_val_one, Shape.rowMajor_val_two]
  show c.val = 0 * C + c.val
  omega

variable (n e h : BitVec 32) (hs : (⟨1, ![R]⟩ : Shape).BroadcastsInDim ⟨2, ![R, 1]⟩ ![0]) (hk : S0.BroadcastsInDim ⟨2, ![R, 1]⟩ ![])
  (hb : (⟨2, ![R, 1]⟩ : Shape).BroadcastsInDim ⟨2, ![R, C]⟩ ![0, 1]) (hb1 : (⟨1, ![R]⟩ : Shape).BroadcastsInDim ⟨2, ![R, C]⟩ ![0])
  (hr : (⟨2, ![R, C]⟩ : Shape).ReducesTo [1] ⟨1, ![R]⟩) (hr1 : (⟨2, ![R, 1]⟩ : Shape).ReducesTo [1] ⟨1, ![R]⟩) (hS : 0 < S0.numel)
  (hc : (⟨1, ![R]⟩ : Shape).ShapeCasts ⟨2, ![R, 1]⟩) (x w : FVec Ideal ⟨2, ![R, C]⟩ .f32)

/-- The mean squares of the rows, plus the small constant; -/
def hbms : FVec Ideal ⟨2, ![R, 1]⟩ .f32 :=
  addf (Host.divf (broadcastInDim ⟨2, ![R, 1]⟩ ![0] hs (Host.reduceAdd (mulf x x) (constant (F := Ideal) S0 .f32 0x00000000#32) hr hS))
    (broadcastInDim ⟨2, ![R, 1]⟩ ![] hk (constant (F := Ideal) S0 .f32 n))) (broadcastInDim ⟨2, ![R, 1]⟩ ![] hk (constant (F := Ideal) S0 .f32 e))
/-- the rows' factors; -/
def hbrms : FVec Ideal ⟨2, ![R, 1]⟩ .f32 := Host.rsqrt (hbms n e hs hk hr hS x)
/-- the gradient of the mean square; -/
def hbfac : FVec Ideal ⟨2, ![R, C]⟩ .f32 :=
  broadcastInDim ⟨2, ![R, C]⟩ ![0] hb1 (Host.reduceAdd (Host.divf (mulf (shapeCast ⟨2, ![R, 1]⟩ (Host.reduceAdd (mulf x w) (constant (F := Ideal) S0 .f32 0x00000000#32) hr hS) hc)
      (mulf (broadcastInDim ⟨2, ![R, 1]⟩ ![] hk (constant (F := Ideal) S0 .f32 h)) (Host.divf (hbrms n e hs hk hr hS x) (hbms n e hs hk hr hS x))))
    (broadcastInDim ⟨2, ![R, 1]⟩ ![] hk (constant (F := Ideal) S0 .f32 n))) (constant (F := Ideal) S0 .f32 0x00000000#32) hr1 hS)
/-- the gradient of the rows. -/
def hbgrad : FVec Ideal ⟨2, ![R, C]⟩ .f32 :=
  addf (addf (mulf w (broadcastInDim ⟨2, ![R, C]⟩ ![0, 1] hb (hbrms n e hs hk hr hS x))) (mulf x (hbfac n e h hs hk hb1 hr hr1 hS hc x w)))
    (mulf (hbfac n e h hs hk hb1 hr hr1 hS hc x w) x)

theorem hbms_apply (p : Fin R) : hbms n e hs hk hr hS x (ix2 p (0 : Fin 1)) = meansq (Ideal.ofBits .f32 n) (Ideal.ofBits .f32 e) (fun k => x (ix2 p k)) := by
  show Ideal.div (broadcastInDim ⟨2, ![R, 1]⟩ ![0] hs (Host.reduceAdd (mulf x x) (constant (F := Ideal) S0 .f32 0x00000000#32) hr hS) (ix2 p (0 : Fin 1))) (broadcastInDim ⟨2, ![R, 1]⟩ ![] hk (constant (F := Ideal) S0 .f32 n) (ix2 p (0 : Fin 1)))
    + broadcastInDim ⟨2, ![R, 1]⟩ ![] hk (constant (F := Ideal) S0 .f32 e) (ix2 p (0 : Fin 1)) = _
  rw [splat_apply, splat_apply, asCol_apply, hrow_apply]
  rfl
theorem hbrms_apply (p : Fin R) : hbrms n e hs hk hr hS x (ix2 p (0 : Fin 1)) = rms (Ideal.ofBits .f32 n) (Ideal.ofBits .f32 e) (fun k => x (ix2 p k)) :=
  congrArg Ideal.rsqrt (hbms_apply n e hs hk hr hS x p)
theorem hbfac_apply (p : Fin R) (c : Fin C) : hbfac n e h hs hk hb1 hr hr1 hS hc x w (ix2 p c)
    = hfac (Ideal.ofBits .f32 n) (Ideal.ofBits .f32 e) (fun k => x (ix2 p k)) (fun k => w (ix2 p k)) (Ideal.ofBits .f32 h) := by
  unfold hbfac
  rw [asCols_apply, hrow_apply, Fin.sum_univ_one]
  show Ideal.div (shapeCast ⟨2, ![R, 1]⟩ _ hc (ix2 p (0 : Fin 1)) * (broadcastInDim ⟨2, ![R, 1]⟩ ![] hk (constant (F := Ideal) S0 .f32 h) (ix2 p (0 : Fin 1))
    * Ideal.div (hbrms n e hs hk hr hS x (ix2 p (0 : Fin 1))) (hbms n e hs hk hr hS x (ix2 p (0 : Fin 1))))) (broadcastInDim ⟨2, ![R, 1]⟩ ![] hk (constant (F := Ideal) S0 .f32 n) (ix2 p (0 : Fin 1))) = _
  rw [splat_apply, splat_apply, reCol_apply, hrow_apply, hbrms_apply, hbms_apply]
  rfl
theorem hbgrad_apply (p : Fin R) (c : Fin C) : hbgrad n e h hs hk hb hb1 hr hr1 hS hc x w (ix2 p c)
    = hgrad (Ideal.ofBits .f32 n) (Ideal.ofBits .f32 e) (fun k => x (ix2 p k)) (fun k => w (ix2 p k)) (Ideal.ofBits .f32 h) c := by
  show w (ix2 p c) * broadcastInDim ⟨2, ![R, C]⟩ ![0, 1] hb (hbrms n e hs hk hr hS x) (ix2 p c) + x (ix2 p c) * hbfac n e h hs hk hb1 hr hr1 hS hc x w (ix2 p c)
    + hbfac n e h hs hk hb1 hr hr1 hS hc x w (ix2 p c) * x (ix2 p c) = _
  rw [cols_of_apply, hbrms_apply, hbfac_apply]
  rfl

/-- A sum of columns, written in two steps. -/
theorem hcols_apply (hr : (⟨2, ![R, C]⟩ : Shape).ReducesTo [0] ⟨1, ![C]⟩) (hr1 : (⟨2, ![1, C]⟩ : Shape).ReducesTo [0] ⟨1, ![C]⟩)
    (hc : (⟨1, ![C]⟩ : Shape).ShapeCasts ⟨2, ![1, C]⟩) (v : FVec Ideal ⟨2, ![R, C]⟩ .f32) (c : Fin C) :
    shapeCast ⟨2, ![1, C]⟩ (Host.reduceAdd (shapeCast ⟨2, ![1, C]⟩ (Host.reduceAdd v (constant (F := Ideal) S0 .f32 0x00000000#32) hr hS) hc)
      (constant (F := Ideal) S0 .f32 0x00000000#32) hr1 hS) hc (ix2 (0 : Fin 1) c) = ∑ k : Fin R, v (ix2 k c) := by
  rw [reRow_apply, hcol_apply, Fin.sum_univ_one, reRow_apply, hcol_apply]

end HostBlock

end Cert.Norm

end
-- ==== Proof.Norm.K17Run.lean ====
/-
  The gradients of a norm and of the norm before it: what the kernel leaves in its four results, entry by entry.
-/
module

public import proofs.«01_k».proof.Proof.Norm.Row
public import proofs.«01_k».proof.Proof.Gen.Kernel17Ideal.Frame

@[expose] public section

set_option maxRecDepth 16384

noncomputable section

namespace Cert.Kernel17Ideal.Norm

open Idealize.ShloMosaic hiding ix1 ix2 ix3 eq_ix2
open Idealize.ShloMosaic.TcCoe Idealize.SL.Sem
open Idealize.ShloMosaic.ValueIdx
open Cert.Kernel17Ideal Cert.Kernel17Ideal.Gen Cert.Norm

/-- Every row block is the block of the grid point's number, and there is one block of columns. -/
theorem index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_4.index t 0 = t.val ∧ win0_4.index t 1 = 0)
    ∧ (win0_6.index t 0 = t.val ∧ win0_6.index t 1 = 0) ∧ (win0_8.index t 0 = t.val ∧ win0_8.index t 1 = 0)
    ∧ win0_3.index t 1 = 0 ∧ win0_5.index t 1 = 0 ∧ win0_7.index t 1 = 0 ∧ win0_9.index t 1 = 0 :=
  (by decide +kernel : ∀ t : Fin grid0.N, _)

/-- The width of a row and the small constant. -/
def n : EReal := Ideal.ofBits .f32 0x45000000#32
def e : EReal := Ideal.ofBits .f32 0x358637BD#32

/-! ## One grid point -/

section Point

variable (dh du h o : Vec Ideal S256x2048 .f32) (g a : Vec Ideal S1x2048 .f32)

/-- The gradient of a block of rows. -/
def grad (dy x : Vec Ideal S256x2048 .f32) (g : Vec Ideal S1x2048 .f32) (y : S256x2048.Idx) : EReal :=
  kgrad n e (fun k : Fin 2048 => x (ix2 (y 0) k)) (fun k => dy (ix2 (y 0) k) * g (ix2 (0 : Fin 1) k)) (y 1)

/-- What a block adds to the gradient of the gains. -/
def part (dy x : Vec Ideal S256x2048 .f32) (y : S1x2048.Idx) : EReal :=
  ∑ p : Fin 256, dy (ix2 p (y 1)) * (x (ix2 p (y 1)) * rms n e (fun k : Fin 2048 => x (ix2 p k)))

theorem pay3 : k0_pay3 (F := Ideal) o = bnorm 0x45000000#32 0x358637BD#32 reduces_S256x2048_S256 shapeCasts_S256_S256x1 broadcasts_S256x1_S256x2048 o := rfl

theorem pay4 (y : S256x2048.Idx) : k0_pay4 (F := Ideal) dh o g y = grad dh o g y := by
  rw [eq_ix2 y]
  refine Eq.trans ?_ (bgrad_apply 0x45000000#32 0x358637BD#32 reduces_S256x2048_S256 shapeCasts_S256_S256x1 broadcasts_S256x1_S256x2048 broadcasts_S1x2048_S256x2048 dh o g (y 0) (y 1))
  unfold k0_pay4
  try dsimp only
  rw [shapeCast_self]
  rfl

theorem pay11 (y : S256x2048.Idx) : k0_pay11 (F := Ideal) du h g dh y = dh y + grad du h g y :=
  congrArg (dh y + ·) (pay4 du h g y)

theorem pay10 (y : S1x2048.Idx) : k0_pay10 (F := Ideal) du h y = part du h y := by
  have hy : y = ix2 (0 : Fin 1) (y 1) := by
    funext a
    match a with
    | ⟨0, _⟩ => exact Subsingleton.elim (α := Fin 1) _ _
    | ⟨1, _⟩ => rfl
  rw [hy]
  refine (colsum_apply reduces_S256x2048_S2048 shapeCasts_S2048_S1x2048 (mulf du (k0_pay9 h)) (y 1)).trans (Finset.sum_congr rfl fun p _ => ?_)
  exact congrArg (du (ix2 p (y 1)) * ·) (bnorm_apply 0x45000000#32 0x358637BD#32 reduces_S256x2048_S256 shapeCasts_S256_S256x1 broadcasts_S256x1_S256x2048 h p (y 1))

theorem pay1 (y : S1x2048.Idx) : k0_pay1 (F := Ideal) (k0_pay10 du h) (k0_pay12 a) y = a y + part du h y := by
  refine Eq.trans ?_ (congrArg (a y + ·) (pay10 du h y))
  unfold k0_pay12
  rw [shapeCast_self]
  rfl

theorem pay5 (y : S1x2048.Idx) : k0_pay5 (F := Ideal) dh o a y = a y + part dh o y := by
  refine Eq.trans ?_ (congrArg (a y + ·) (pay10 dh o y))
  unfold k0_pay5
  try dsimp only
  rw [shapeCast_self]
  rfl

theorem pay6 (y : S1x2048.Idx) : k0_pay6 (F := Ideal) y = 0 := Ideal.ofBits_zero_f32
theorem pay7 (y : S1x2048.Idx) : k0_pay7 (F := Ideal) y = 0 := Ideal.ofBits_zero_f32

end Point

variable (m : (ℓ : Loc nD τ sig) → Buf (Elt Ideal) ℓ) (c : Dev nD)

/-! ## The arrays -/

/-- The gradient from above, the gradient of the branch, the two inputs and the two gains. -/
def A0 : S2048x2048.Idx → EReal := m ((c : Thread nD τ).loc main_arg0)
def A1 : S2048x2048.Idx → EReal := m ((c : Thread nD τ).loc main_arg1)
def A2 : S2048x2048.Idx → EReal := m ((c : Thread nD τ).loc main_arg2)
def A3 : S2048x2048.Idx → EReal := m ((c : Thread nD τ).loc main_arg3)
def A4 : S2048.Idx → EReal := m ((c : Thread nD τ).loc main_arg4)
def A5 : S2048.Idx → EReal := m ((c : Thread nD τ).loc main_arg5)

/-- The row a row of a block is. -/
def rowOf (t : Fin cfg0.N) (r : Fin 256) : Fin 2048 := ⟨t.val * 256 + r.val, by have := lt_of_lt_of_eq t.isLt N_0; omega⟩

/-- The blocks of the arrays. -/
theorem blk_0 (t : Fin cfg0.N) (r : Fin 256) (k : Fin 2048) : iblk m c 0 t (ix2 r k) = A0 m c (ix2 (rowOf t r) k) := by
  unfold iblk
  rw [View.read_apply]
  exact (congrFun (V_main_arg0 m c) _).trans (congrArg (A0 m c) (at_block _ _ _ (index t).1.1 (index t).1.2 rfl rfl rfl rfl))
theorem blk_1 (t : Fin cfg0.N) (r : Fin 256) (k : Fin 2048) : iblk m c 1 t (ix2 r k) = A1 m c (ix2 (rowOf t r) k) := by
  unfold iblk
  rw [View.read_apply]
  exact (congrFun (V_main_arg1 m c) _).trans (congrArg (A1 m c) (at_block _ _ _ (index t).2.1.1 (index t).2.1.2 rfl rfl rfl rfl))
theorem blk_2 (t : Fin cfg0.N) (r : Fin 256) (k : Fin 2048) : iblk m c 2 t (ix2 r k) = A2 m c (ix2 (rowOf t r) k) := by
  unfold iblk
  rw [View.read_apply]
  exact (congrFun (V_main_arg2 m c) _).trans (congrArg (A2 m c) (at_block _ _ _ (index t).2.2.1.1 (index t).2.2.1.2 rfl rfl rfl rfl))
theorem blk_4 (t : Fin cfg0.N) (r : Fin 256) (k : Fin 2048) : iblk m c 4 t (ix2 r k) = A3 m c (ix2 (rowOf t r) k) := by
  unfold iblk
  rw [View.read_apply]
  exact (congrFun (V_main_arg3 m c) _).trans (congrArg (A3 m c) (at_block _ _ _ (index t).2.2.2.1.1 (index t).2.2.2.1.2 rfl rfl rfl rfl))
theorem blk_3 (t : Fin cfg0.N) (k : Fin 2048) : iblk m c 3 t (ix2 (0 : Fin 1) k) = A4 m c (ix1 k) := by
  unfold iblk
  rw [View.read_apply]
  unfold V
  simp only [hostOps0]
  after_results_simp
  exact row_block _ _ _ k (index t).2.2.2.2.2.2.1 rfl
theorem blk_5 (t : Fin cfg0.N) (k : Fin 2048) : iblk m c 5 t (ix2 (0 : Fin 1) k) = A5 m c (ix1 k) := by
  unfold iblk
  rw [View.read_apply]
  unfold V
  simp only [hostOps0]
  after_results_simp
  exact row_block _ _ _ k (index t).2.2.2.2.2.2.2.1 rfl

/-! ## The results -/

/-- The gradient of the norm's input, added to the gradient from above; -/
def Dh (i : S2048x2048.Idx) : EReal :=
  A0 m c i + kgrad n e (fun k : Fin 2048 => A2 m c (ix2 (i 0) k)) (fun k => A1 m c (ix2 (i 0) k) * A4 m c (ix1 k)) (i 1)
/-- the gradient of the earlier norm's input; -/
def Do (i : S2048x2048.Idx) : EReal :=
  kgrad n e (fun k : Fin 2048 => A3 m c (ix2 (i 0) k)) (fun k => Dh m c (ix2 (i 0) k) * A5 m c (ix1 k)) (i 1)
/-- the gradient of a norm's gains. -/
def Dg (dy x : S2048x2048.Idx → EReal) (i : S1x2048.Idx) : EReal :=
  ∑ p : Fin 2048, dy (ix2 p (i 1)) * (x (ix2 p (i 1)) * rms n e (fun k : Fin 2048 => x (ix2 p k)))

theorem grad_blk (t : Fin cfg0.N) (y : S256x2048.Idx) :
    k0_pay11 (iblk m c 1 t) (iblk m c 2 t) (iblk m c 3 t) (iblk m c 0 t) y = Dh m c (ix2 (rowOf t (y 0)) (y 1)) := by
  refine (pay11 _ _ _ _ _).trans ?_
  refine congrArg₂ (· + ·) ((congrArg (iblk m c 0 t) (eq_ix2 y)).trans (blk_0 m c t (y 0) (y 1))) ?_
  exact congrArg₂ (fun x w => kgrad n e x w (y 1)) (funext fun k => blk_2 m c t (y 0) k) (funext fun k => congrArg₂ (· * ·) (blk_1 m c t (y 0) k) (blk_3 m c t k))

/-- What a point leaves of the rows' gradient, -/
theorem out6 (t : Fin cfg0.N) : (outsAt0 m c t.val t.isLt).1 = k0_pay11 (iblk m c 1 t) (iblk m c 2 t) (iblk m c 3 t) (iblk m c 0 t) := by
  by_cases h : t.val % 8 = 0
  · rw [outsAt0_A m c t h]
    frame_out
  · rw [outsAt0_B m c t h]
    frame_out

/-- and of the earlier norm's. -/
theorem out8 (t : Fin cfg0.N) : (outsAt0 m c t.val t.isLt).2.2.1
    = k0_pay4 (k0_pay11 (iblk m c 1 t) (iblk m c 2 t) (iblk m c 3 t) (iblk m c 0 t)) (iblk m c 4 t) (iblk m c 5 t) := by
  by_cases h : t.val % 8 = 0
  · rw [outsAt0_A m c t h]
    frame_out
  · rw [outsAt0_B m c t h]
    frame_out

/-- The block of the gradient of the gains, when it is written back: the sum of what the eight points add. -/
theorem block7 (t : Fin cfg0.N) (h : t.val % 8 = 7) (y : S1x2048.Idx) (hl : ∀ s : Fin 8, 8 * (t.val / 8) + s.val < cfg0.N) :
    (outsAt0 m c t.val t.isLt).2.1 y = ∑ s : Fin 8, part (iblk m c 1 ⟨8 * (t.val / 8) + s.val, hl s⟩) (iblk m c 2 ⟨8 * (t.val / 8) + s.val, hl s⟩) y := by
  refine (Pipeline.eq_sum_fin_of_reset_step_apply_of_flush (fun n h => (outsAt0 m c n h).2.1) 8 (fun _ => (0 : EReal)) (fun t y => part (iblk m c 1 t) (iblk m c 2 t) y)
    (fun t h y => ?_) (fun t h y => ?_) t h y).trans (zero_add _)
  · try dsimp only
    rw [outsAt0_A m c t h]
    frame_out
    exact (pay1 _ _ _ y).trans (congrArg (· + _) (pay6 y))
  · try dsimp only
    rw [outsAt0_B m c t (by omega)]
    frame_out
    exact pay1 _ _ _ y
theorem block9 (t : Fin cfg0.N) (h : t.val % 8 = 7) (y : S1x2048.Idx) (hl : ∀ s : Fin 8, 8 * (t.val / 8) + s.val < cfg0.N) :
    (outsAt0 m c t.val t.isLt).2.2.2 y = ∑ s : Fin 8, part (k0_pay11 (iblk m c 1 ⟨8 * (t.val / 8) + s.val, hl s⟩) (iblk m c 2 ⟨8 * (t.val / 8) + s.val, hl s⟩)
      (iblk m c 3 ⟨8 * (t.val / 8) + s.val, hl s⟩) (iblk m c 0 ⟨8 * (t.val / 8) + s.val, hl s⟩)) (iblk m c 4 ⟨8 * (t.val / 8) + s.val, hl s⟩) y := by
  refine (Pipeline.eq_sum_fin_of_reset_step_apply_of_flush (fun n h => (outsAt0 m c n h).2.2.2) 8 (fun _ => (0 : EReal))
    (fun t y => part (k0_pay11 (iblk m c 1 t) (iblk m c 2 t) (iblk m c 3 t) (iblk m c 0 t)) (iblk m c 4 t) y)
    (fun t h y => ?_) (fun t h y => ?_) t h y).trans (zero_add _)
  · try dsimp only
    rw [outsAt0_A m c t h]
    frame_out
    exact (pay5 _ _ _ y).trans (congrArg (· + _) (pay7 y))
  · try dsimp only
    rw [outsAt0_B m c t (by omega)]
    frame_out
    exact pay5 _ _ _ y

theorem pay11_blk (t : Fin cfg0.N) (r : Fin 256) (k : Fin 2048) :
    k0_pay11 (iblk m c 1 t) (iblk m c 2 t) (iblk m c 3 t) (iblk m c 0 t) (ix2 r k) = Dh m c (ix2 (rowOf t r) k) :=
  grad_blk m c t (ix2 r k)

theorem do_blk (t : Fin cfg0.N) (y : S256x2048.Idx) :
    k0_pay4 (k0_pay11 (iblk m c 1 t) (iblk m c 2 t) (iblk m c 3 t) (iblk m c 0 t)) (iblk m c 4 t) (iblk m c 5 t) y = Do m c (ix2 (rowOf t (y 0)) (y 1)) := by
  refine (pay4 _ _ _ _).trans ?_
  exact congrArg₂ (fun x w => kgrad n e x w (y 1)) (funext fun k => blk_4 m c t (y 0) k) (funext fun k => congrArg₂ (· * ·) (pay11_blk m c t (y 0) k) (blk_5 m c t k))

/-- The four result arrays. -/
theorem final6 : (dats m 0 c).arrAt 6 cfg0.N = Dh m c := by
  refine (dats m 0 c).arrAt_eq_of_covers 6 _ (by decide +kernel) fun t hf y => ?_
  refine (congrFun (after0_6 m c t) _).trans ?_
  rw [out6]
  exact (grad_blk m c t y).trans (congrArg (Dh m c) (at_block _ _ _ (index t).2.2.2.2.1.1 (index t).2.2.2.2.1.2 rfl rfl rfl rfl).symm)
theorem final8 : (dats m 0 c).arrAt 8 cfg0.N = Do m c := by
  refine (dats m 0 c).arrAt_eq_of_covers 8 _ (by decide +kernel) fun t hf y => ?_
  refine (congrFun (after0_8 m c t) _).trans ?_
  rw [out8]
  exact (do_blk m c t y).trans (congrArg (Do m c) (at_block _ _ _ (index t).2.2.2.2.2.1.1 (index t).2.2.2.2.2.1.2 rfl rfl rfl rfl).symm)

/-- A block's part of the gradient of the gains, over the rows of the array. -/
theorem part_blk (dy x : S2048x2048.Idx → EReal) (u v : Vec Ideal S256x2048 .f32) (t : Fin cfg0.N) (hu : ∀ r k, u (ix2 r k) = dy (ix2 (rowOf t r) k))
    (hv : ∀ r k, v (ix2 r k) = x (ix2 (rowOf t r) k)) (y : S1x2048.Idx) :
    part u v y = ∑ p : Fin 256, dy (ix2 (rowOf t p) (y 1)) * (x (ix2 (rowOf t p) (y 1)) * rms n e (fun k : Fin 2048 => x (ix2 (rowOf t p) k))) := by
  unfold part
  refine Finset.sum_congr rfl fun p _ => ?_
  exact congrArg₂ (· * ·) (hu p (y 1)) (congrArg₂ (· * ·) (hv p (y 1)) (congrArg (rms n e) (funext fun k => hv p k)))

/-- The eight points' rows are all the rows. -/
theorem sum_parts (dy x : S2048x2048.Idx → EReal) (t : Fin cfg0.N) (h7 : t.val % 8 = 7) (hl : ∀ s : Fin 8, 8 * (t.val / 8) + s.val < cfg0.N)
    (u v : Fin 8 → Vec Ideal S256x2048 .f32) (hu : ∀ s r k, u s (ix2 r k) = dy (ix2 (rowOf ⟨8 * (t.val / 8) + s.val, hl s⟩ r) k))
    (hv : ∀ s r k, v s (ix2 r k) = x (ix2 (rowOf ⟨8 * (t.val / 8) + s.val, hl s⟩ r) k)) (y : S1x2048.Idx) (i : S1x2048.Idx) (hi : (i 1).val = (y 1).val) :
    ∑ s : Fin 8, part (u s) (v s) y = Dg dy x i := by
  have hy : i 1 = y 1 := Fin.ext hi
  have ht : t.val < 8 := lt_of_lt_of_eq t.isLt N_0
  unfold Dg
  rw [hy]
  refine (Finset.sum_congr rfl fun s _ => part_blk dy x (u s) (v s) _ (hu s) (hv s) y).trans ?_
  refine Fin.sum_mul_add_congr (S := 8) (n := 256) fun s k hk => ?_
  have hr : rowOf ⟨8 * (t.val / 8) + s.val, hl s⟩ k = ⟨s.val * 256 + k.val, hk⟩ := Fin.ext (by
    show (8 * (t.val / 8) + s.val) * 256 + k.val = s.val * 256 + k.val
    omega)
  rw [hr]

theorem final7 : (dats m 0 c).arrAt 7 cfg0.N = Dg (A1 m c) (A2 m c) := by
  refine (dats m 0 c).arrAt_eq_of_covers 7 _ (by decide +kernel) fun t hf y => ?_
  refine (congrFun (after0_7 m c t) _).trans ?_
  have h7 : t.val % 8 = 7 := (flush0_7 t).mp hf
  have ht : t.val < 8 := lt_of_lt_of_eq t.isLt N_0
  have hl : ∀ s : Fin 8, 8 * (t.val / 8) + s.val < cfg0.N := fun s => lt_of_lt_of_eq (by omega : _ < 8) N_0.symm
  refine (block7 m c t h7 y hl).trans (sum_parts _ _ t h7 hl (fun s => iblk m c 1 ⟨8 * (t.val / 8) + s.val, hl s⟩) (fun s => iblk m c 2 ⟨8 * (t.val / 8) + s.val, hl s⟩)
    (fun s r k => blk_1 m c _ r k) (fun s r k => blk_2 m c _ r k) y _ ?_)
  have e := index t
  show win0_7.index t 1 * 2048 + 1 * (y 1).val = (y 1).val
  omega
theorem final9 : (dats m 0 c).arrAt 9 cfg0.N = Dg (Dh m c) (A3 m c) := by
  refine (dats m 0 c).arrAt_eq_of_covers 9 _ (by decide +kernel) fun t hf y => ?_
  refine (congrFun (after0_9 m c t) _).trans ?_
  have h7 : t.val % 8 = 7 := (flush0_9 t).mp hf
  have ht : t.val < 8 := lt_of_lt_of_eq t.isLt N_0
  have hl : ∀ s : Fin 8, 8 * (t.val / 8) + s.val < cfg0.N := fun s => lt_of_lt_of_eq (by omega : _ < 8) N_0.symm
  refine (block9 m c t h7 y hl).trans (sum_parts _ _ t h7 hl (fun s => k0_pay11 (iblk m c 1 ⟨8 * (t.val / 8) + s.val, hl s⟩) (iblk m c 2 ⟨8 * (t.val / 8) + s.val, hl s⟩)
      (iblk m c 3 ⟨8 * (t.val / 8) + s.val, hl s⟩) (iblk m c 0 ⟨8 * (t.val / 8) + s.val, hl s⟩)) (fun s => iblk m c 4 ⟨8 * (t.val / 8) + s.val, hl s⟩)
    (fun s r k => pay11_blk m c _ r k) (fun s r k => blk_4 m c _ r k) y _ ?_)
  have e := index t
  show win0_9.index t 1 * 2048 + 1 * (y 1).val = (y 1).val
  omega

end Cert.Kernel17Ideal.Norm

end
-- ==== Proof.Norm.K17.lean ====
/-
  The gradients of a norm and of the norm before it : the kernel's four results are the reference's.
-/
module

public import proofs.«01_k».proof.Defs
public import proofs.«01_k».proof.Proof.Norm.Host
public import proofs.«01_k».proof.Proof.Norm.K17Run
public import proofs.«01_k».proof.Proof.Gen.Reference17Ideal.Read

@[expose] public section

set_option maxRecDepth 16384

noncomputable section

namespace Cert.Reference17Ideal.Norm

open Idealize.ShloMosaic hiding ix1 ix2 ix3 eq_ix2
open Idealize.ShloMosaic.ValueIdx
open Cert.Reference17Ideal Cert.Reference17Ideal.Gen Cert.Reference17Ideal.Read Cert.Norm

variable (x0 x1 x2 x3 : S2048x2048.Idx → EReal) (x4 x5 : S2048.Idx → EReal)

/-- The width of a row, the small constant and minus one half. -/
abbrev n : EReal := Ideal.ofBits .f32 0x45000000#32
abbrev e : EReal := Ideal.ofBits .f32 0x358637BD#32
abbrev h : EReal := Ideal.ofBits .f32 0xBF000000#32

/-- The gradient of the normalised rows. -/
theorem back (p k : Fin 2048) : val_main_v20 (F := Ideal) x1 x4 (ix2 p k) = x1 (ix2 p k) * x4 (ix1 k) := by
  show x1 (ix2 p k) * val_main_v19 (F := Ideal) x4 (ix2 p k) = _
  refine congrArg (x1 (ix2 p k) * ·) ?_
  exact (rows_of_apply _ _ p k).trans (asRow_apply _ _ _ k)

/-- The gradient of the rows. -/
theorem grad (i : S2048x2048.Idx) : val_main_v35 (F := Ideal) x1 x2 x4 i
    = hgrad n e (fun k : Fin 2048 => x2 (ix2 (i 0) k)) (fun k => x1 (ix2 (i 0) k) * x4 (ix1 k)) h (i 1) := by
  have hg : val_main_v35 (F := Ideal) x1 x2 x4 = hbgrad 0x45000000#32 0x358637BD#32 0xBF000000#32 bcast_S2048_S2048x1_0 bcast_S_S2048x1 bcast_S2048x1_S2048x2048_0_1
      bcast_S2048_S2048x2048_0 reducesTo_S2048x2048_S2048_d1 reducesTo_S2048x1_S2048_d1 h_S_ shapeCasts_S2048_S2048x1 x2 (val_main_v20 (F := Ideal) x1 x4) := rfl
  rw [hg]
  refine (congrArg _ (eq_ix2 i)).trans ((hbgrad_apply 0x45000000#32 0x358637BD#32 0xBF000000#32 bcast_S2048_S2048x1_0 bcast_S_S2048x1 bcast_S2048x1_S2048x2048_0_1
      bcast_S2048_S2048x2048_0 reducesTo_S2048x2048_S2048_d1 reducesTo_S2048x1_S2048_d1 h_S_ shapeCasts_S2048_S2048x1 x2 (val_main_v20 (F := Ideal) x1 x4) (i 0) (i 1)).trans ?_)
  exact congrArg (fun w => hgrad n e _ w h (i 1)) (funext fun k => back x1 x4 (i 0) k)

/-- The gradient of the gains. -/
theorem gain (i : S1x2048.Idx) : val_main_v73 (F := Ideal) x1 x2 i
    = ∑ p : Fin 2048, (x2 (ix2 p (i 1)) * rms n e (fun k : Fin 2048 => x2 (ix2 p k))) * x1 (ix2 p (i 1)) := by
  have hi : i = ix2 (0 : Fin 1) (i 1) := by
    funext a
    match a with
    | ⟨0, _⟩ => exact Subsingleton.elim (α := Fin 1) _ _
    | ⟨1, _⟩ => rfl
  refine (congrArg (val_main_v73 (F := Ideal) x1 x2) hi).trans ((hcols_apply h_S_ reducesTo_S2048x2048_S2048_d0 reducesTo_S1x2048_S2048_d0 shapeCasts_S2048_S1x2048
    (val_main_v16 (F := Ideal) x1 x2) (i 1)).trans (Finset.sum_congr rfl fun p _ => ?_))
  refine congrArg (fun r => (x2 (ix2 p (i 1)) * r) * x1 (ix2 p (i 1))) ?_
  exact (cols_of_apply bcast_S2048x1_S2048x2048_0_1 (val_main_v7 (F := Ideal) x2) p (i 1)).trans
    (hbrms_apply 0x45000000#32 0x358637BD#32 bcast_S2048_S2048x1_0 bcast_S_S2048x1 reducesTo_S2048x2048_S2048_d1 h_S_ x2 p)

/-- The earlier norm's gradients are the same functions of its arguments. -/
theorem grad_prev : val_main_v74 (F := Ideal) x0 x1 x2 x3 x4 x5 = val_main_v35 (F := Ideal) (val_main_v36 (F := Ideal) x0 x1 x2 x4) x3 x5 := rfl
theorem gain_prev : val_main_v75 (F := Ideal) x0 x1 x2 x3 x4 = val_main_v73 (F := Ideal) (val_main_v36 (F := Ideal) x0 x1 x2 x4) x3 := rfl

end Cert.Reference17Ideal.Norm

namespace Cert.Kernel17Ideal.Norm

open Idealize.ShloMosaic hiding ix1 ix2 ix3 eq_ix2
open Idealize.ShloMosaic.TcCoe Idealize.SL.Sem
open Idealize.ShloMosaic.ValueIdx
open Cert.Kernel17Ideal Cert.Kernel17Ideal.Gen Cert.Norm
open Cert.Reference17Ideal.Read

variable (m : (ℓ : Loc nD τ sig) → Buf (Elt Ideal) ℓ) (c : Dev nD)

/-- The gains' gradients: the same products, their factors in another order. -/
theorem eq_gain (dy x : S2048x2048.Idx → EReal) : Dg dy x = val_main_v73 (F := Ideal) dy x :=
  funext fun i => (Finset.sum_congr rfl fun p _ => mul_comm (G := EReal) _ _).trans (Cert.Reference17Ideal.Norm.gain dy x i).symm

theorem eq_dh : Dh m c = val_main_v36 (F := Ideal) (A0 m c) (A1 m c) (A2 m c) (A4 m c) := funext fun i =>
  congrArg (A0 m c i + ·) ((grad_eq (n := n) (e := e) w2048 eps_pos neg_half (fun k : Fin 2048 => A2 m c (ix2 (i 0) k))
    (fun k => A1 m c (ix2 (i 0) k) * A4 m c (ix1 k)) (i 1)).trans (Cert.Reference17Ideal.Norm.grad _ _ _ i).symm)

theorem eq_do : Do m c = val_main_v74 (F := Ideal) (A0 m c) (A1 m c) (A2 m c) (A3 m c) (A4 m c) (A5 m c) := funext fun i => by
  refine (grad_eq (n := n) (e := e) w2048 eps_pos neg_half (fun k : Fin 2048 => A3 m c (ix2 (i 0) k)) (fun k => Dh m c (ix2 (i 0) k) * A5 m c (ix1 k)) (i 1)).trans ?_
  rw [Cert.Reference17Ideal.Norm.grad_prev, Cert.Reference17Ideal.Norm.grad, ← eq_dh]
  rfl

end Cert.Kernel17Ideal.Norm

namespace Cert.Proof

open Idealize.ShloMosaic Idealize.ShloMosaic.TcCoe Idealize.SL.Sem
open Cert.Kernel17Ideal.Norm Cert.Norm

/-- The two programs end with equal results. -/
theorem algebraic17 : Cert.algebraic_Kernel17Ideal_Reference17Ideal := by
  intro m ρ m' ρ' _ hagree
  refine ⟨fun c => Dh m c, _, _, _, (θ_run Cert.Kernel17Ideal.defs _ _).mono (fun _ h c => ⟨((h.1 c).1 6).trans (final6 m c), ((h.1 c).1 7).trans (final7 m c),
      ((h.1 c).1 8).trans (final8 m c), ((h.1 c).1 9).trans (final9 m c), h.2 c⟩)
    (θ_run_and (Cert.Kernel17Ideal.Gen.run_main m ρ) (Cert.Kernel17Ideal.Gen.unchanged m ρ)), ?_⟩
  refine (θ_run Cert.Reference17Ideal.defs _ _).mono (fun _ h c => ⟨(h c).1.trans ?_, (h c).2.1.trans ?_, (h c).2.2.1.trans ?_, (h c).2.2.2.1.trans ?_, (h c).2.2.2.2⟩)
    (Cert.Reference17Ideal.Value.run (F := Ideal) m' ρ')
  · rw [Cert.Reference17Ideal.Read.val_main_v36_eq, (hagree c).1, (hagree c).2.1, (hagree c).2.2.1, (hagree c).2.2.2.2.1]
    exact (eq_dh m c).symm
  · rw [Cert.Reference17Ideal.Read.val_main_v73_eq, (hagree c).2.1, (hagree c).2.2.1]
    exact (eq_gain _ _).symm
  · rw [Cert.Reference17Ideal.Read.val_main_v74_eq, (hagree c).1, (hagree c).2.1, (hagree c).2.2.1, (hagree c).2.2.2.1, (hagree c).2.2.2.2.1, (hagree c).2.2.2.2.2]
    exact (eq_do m c).symm
  · rw [Cert.Reference17Ideal.Read.val_main_v75_eq, (hagree c).1, (hagree c).2.1, (hagree c).2.2.1, (hagree c).2.2.2.1, (hagree c).2.2.2.2.1]
    rw [Cert.Reference17Ideal.Norm.gain_prev]
    exact ((congrArg (fun d => Dg d (A3 m c)) (eq_dh m c)).trans (eq_gain _ _)).symm

end Cert.Proof

end
-- ==== Proof.Norm.Layer.lean ====
/-
  The gradient of a layer norm, and of the swish after it, one row at a time: the form the kernels compute and the form
  differentiation gives, that the two agree for real numbers, and either at an entry of a block of rows.
-/
module

public import proofs.«01_k».proof.Proof.Norm.Host
public import Idealize.ShloMosaic.Lib.IdealHost

@[expose] public section

set_option maxRecDepth 16384

noncomputable section

namespace Cert.Norm

open Idealize.ShloMosaic hiding ix1 ix2 ix3 eq_ix2
open Idealize.ShloMosaic.ValueIdx

/-! ## One row -/

/-- The number one. -/
def one : EReal := Ideal.ofBits .f32 0x3F800000#32

section Row

variable {d : ℕ} (n e : EReal) (x g b u : Fin d → EReal)

/-- A row less its mean; -/
def cen (k : Fin d) : EReal := x k - Ideal.div (∑ k, x k) n
/-- the same divided by its deviation; -/
def xhat (k : Fin d) : EReal := cen n x k * rms n e (cen n x)
/-- the layer norm of the row. -/
def lin (k : Fin d) : EReal := xhat n e x k * g k + b k
/-- The logistic function; -/
def lgs (z : EReal) : EReal := Ideal.div one (one + Ideal.exp (-z))
/-- the gradient of the swish as the kernels compute it, from the gradient `dy` of its value; -/
def kact (dy z : EReal) : EReal := (dy * lgs z) * (one + z * (one - lgs z))
/-- and by the product rule. -/
def hact (dy z : EReal) : EReal := dy * lgs z + (z * dy) * (lgs z * (one - lgs z))
/-- The gradient of the row as the kernels compute it, from the gradient `u` of the normalised row; -/
def klayer (j : Fin d) : EReal :=
  rms n e (cen n x) * ((u j - Ideal.div (∑ k, u k) n) - xhat n e x j * Ideal.div (∑ k, u k * xhat n e x k) n)
/-- and by the chain rule: the gradient of the centred row, less its mean. -/
def hlayer (h : EReal) (j : Fin d) : EReal := hgrad n e (cen n x) u h j + Ideal.div (∑ k, -hgrad n e (cen n x) u h k) n

end Row

theorem one_eq : one = ((1 : ℝ) : EReal) := Ideal.ofBits_one_f32

theorem lgs_coe (g : ℝ) : Real' (lgs g) := by
  refine ⟨(1 + Real.exp (-g))⁻¹, ?_⟩
  rw [← Ideal.logistic_coe]
  unfold lgs Ideal.logistic one
  rw [Ideal.ofBits_one_f32]
theorem lgs_bot : lgs ⊥ = 0 := by
  unfold lgs
  rw [EReal.neg_bot, Ideal.exp_top, one_eq, EReal.coe_add_top]
  unfold Ideal.div
  rw [if_neg EReal.top_ne_zero, EReal.inv_top, mul_zero]
theorem lgs_top : lgs ⊤ = 1 := by
  unfold lgs
  rw [EReal.neg_top, Ideal.exp_bot, add_zero, one_eq, div_real _ one_ne_zero, div_one]
  rfl

/-- For a real gradient the product rule's two terms are the kernels' one product, at an infinite argument also. -/
theorem act_eq {dy : EReal} (hd : Real' dy) (z : EReal) : kact dy z = hact dy z ∧ Real' (kact dy z) := by
  obtain ⟨a, rfl⟩ := hd
  unfold kact hact
  induction z with
  | bot =>
    rw [lgs_bot]
    simp only [mul_zero, zero_mul, add_zero]
    exact ⟨trivial, 0, rfl⟩
  | top =>
    have h : (one : EReal) - 1 = 0 := by
      rw [one_eq]
      exact (EReal.coe_sub 1 1).symm.trans (congrArg _ (sub_self 1))
    rw [lgs_top, h]
    simp only [mul_zero, add_zero, mul_one]
    rw [one_eq]
    exact ⟨mul_one _, a, mul_one _⟩
  | coe z =>
    obtain ⟨s, hs⟩ := lgs_coe z
    rw [hs, one_eq]
    simp only [← EReal.coe_mul, ← EReal.coe_sub, ← EReal.coe_add]
    exact ⟨congrArg _ (by ring), _, rfl⟩

/-- A real difference is a difference of something real. -/
theorem real_of_sub {x y : EReal} (h : Real' (x - y)) : Real' x := by
  obtain ⟨r, hr⟩ := h
  induction x with
  | bot => exact (EReal.bot_ne_coe r ((EReal.bot_sub y).symm.trans hr)).elim
  | coe x => exact ⟨x, rfl⟩
  | top =>
    induction y with
    | bot => exact (EReal.top_ne_coe r hr).elim
    | coe y => exact (EReal.top_ne_coe r hr).elim
    | top => exact (EReal.bot_ne_coe r hr).elim

section Agree

variable {d : ℕ} {n e h : EReal} (hn : ∃ r : ℝ, 0 < r ∧ n = r) (he : ∃ r : ℝ, 0 < r ∧ e = r) {x g b u : Fin d → EReal}

include hn in
theorem div_real' {y : EReal} (hy : Real' y) : Real' (Ideal.div y n) := by
  obtain ⟨r, h0, rfl⟩ := hn
  obtain ⟨y, rfl⟩ := hy
  exact ⟨_, div_real y h0.ne'⟩

include hn he in
theorem rms_real (hx : ∀ k, Real' (x k)) : Real' (rms n e x) := by
  obtain ⟨n, hn, rfl⟩ := hn
  obtain ⟨e, he, rfl⟩ := he
  choose x' hx using hx
  obtain rfl : x = fun k => ((x' k : ℝ) : EReal) := funext hx
  obtain ⟨v, hv, hm⟩ := meansq_real hn he x'
  exact ⟨_, (congrArg Ideal.rsqrt hm).trans (rsqrt_real hv)⟩

include hn he in
/-- A row with an infinite entry has the factor zero. -/
theorem rms_zero (hx : ¬ ∀ k, Real' (x k)) : rms n e x = 0 := by
  obtain ⟨n, hn, rfl⟩ := hn
  obtain ⟨e, he, rfl⟩ := he
  obtain ⟨k, hk⟩ := not_forall.mp hx
  unfold rms
  rw [meansq_top hn he hk]
  rfl

include hn he in
/-- The gradient of any row is real, if that of the normalised row is. -/
theorem kgrad_real {w : Fin d → EReal} (hw : ∀ k, Real' (w k)) (j : Fin d) : Real' (kgrad n e x w j) := by
  by_cases hx : ∀ k, Real' (x k)
  · have hr := rms_real hn he hx
    exact hr.mul ((hw j).sub (((hx j).mul hr).mul (div_real' hn (Real'.sum fun k => (hw k).mul ((hx k).mul hr)))))
  · unfold kgrad
    rw [rms_zero hn he hx, zero_mul]
    exact ⟨0, rfl⟩

/-- For a real gradient the kernels' form is the one the chain rule gives: the centred row sums to zero. -/
theorem layer_eq (hd : 0 < d) (hn : n = ((d : ℝ) : EReal)) (he : ∃ r : ℝ, 0 < r ∧ e = r) (hh : h = ((-(1/2) : ℝ) : EReal))
    (hu : ∀ k, Real' (u k)) (j : Fin d) : klayer n e x u j = hlayer n e x u h j := by
  have d0 : (0 : ℝ) < d := Nat.cast_pos.mpr hd
  have hn' : ∃ r : ℝ, 0 < r ∧ n = r := ⟨d, d0, hn⟩
  have hq : ∀ k, hgrad n e (cen n x) u h k = kgrad n e (cen n x) u k := fun k => (grad_eq hn' he hh (cen n x) u k).symm
  unfold hlayer klayer xhat
  simp only [hq]
  unfold kgrad
  by_cases hc : ∀ k, Real' (cen n x k)
  swap
  · rw [rms_zero hn' he hc, hn]
    simp only [zero_mul, neg_zero, Finset.sum_const_zero, zero_add]
    exact ((div_real 0 d0.ne').trans (congrArg _ (zero_div _))).symm
  obtain ⟨r, hr⟩ := rms_real hn' he hc
  have h0 : ∑ k, cen n x k = 0 := by
    have hx : ∀ k, Real' (x k) := fun k => real_of_sub (hc k)
    choose x' hx using hx
    obtain rfl : x = fun k => ((x' k : ℝ) : EReal) := funext hx
    unfold cen
    rw [hn, AttnSpec.sum_coe, div_real _ d0.ne']
    simp only [← EReal.coe_sub]
    rw [AttnSpec.sum_coe, Finset.sum_sub_distrib, Finset.sum_const, Finset.card_univ, Fintype.card_fin, nsmul_eq_mul, mul_div_cancel₀ _ d0.ne', sub_self]
    rfl
  rw [hr]
  generalize cen n x = y at hc h0
  choose y' hy using hc
  obtain rfl : y = fun k => ((y' k : ℝ) : EReal) := funext hy
  choose u' hu using hu
  obtain rfl : u = fun k => ((u' k : ℝ) : EReal) := funext hu
  rw [AttnSpec.sum_coe] at h0
  have h0' : ∑ k, y' k = 0 := EReal.coe_eq_zero.mp h0
  rw [hn]
  simp only [← EReal.coe_mul, AttnSpec.sum_coe, div_real _ d0.ne', ← EReal.coe_sub, ← EReal.coe_add, ← EReal.coe_neg]
  refine congrArg _ ?_
  generalize (∑ k, u' k * (y' k * r)) / (d : ℝ) = s
  have hs : ∑ k, -(r * (u' k - y' k * r * s)) = -(r * ∑ k, u' k) := by
    have e1 : ∀ k, -(r * (u' k - y' k * r * s)) = r * r * s * y' k - r * u' k := fun k => by ring
    simp only [e1]
    rw [Finset.sum_sub_distrib, ← Finset.mul_sum, ← Finset.mul_sum, h0']
    ring
  rw [hs]
  ring

end Agree

/-! ## Blocks of rows, as the kernels compute them -/

section Block

variable {R C : ℕ} (n e : BitVec 32) (hr : (⟨2, ![R, C]⟩ : Shape).Reduces [1] ⟨1, ![R]⟩) (hc : (⟨1, ![R]⟩ : Shape).ShapeCasts ⟨2, ![R, 1]⟩)
  (hb : (⟨2, ![R, 1]⟩ : Shape).Broadcasts ⟨2, ![R, C]⟩) (hg : (⟨2, ![1, C]⟩ : Shape).Broadcasts ⟨2, ![R, C]⟩)

/-- The means of the rows, in every column; -/
def bmean (x : FVec Ideal ⟨2, ![R, C]⟩ .f32) : FVec Ideal ⟨2, ![R, C]⟩ .f32 :=
  broadcastTo ⟨2, ![R, C]⟩ (divf (rowsum hr hc x) (broadcast ⟨2, ![R, 1]⟩ (Scalar.ofBits .f32 n))) hb
/-- the rows less their means; -/
def bcen (x : FVec Ideal ⟨2, ![R, C]⟩ .f32) : FVec Ideal ⟨2, ![R, C]⟩ .f32 := subf x (bmean n hr hc hb x)
/-- the layer norm; -/
def blin (x : FVec Ideal ⟨2, ![R, C]⟩ .f32) (g b : FVec Ideal ⟨2, ![1, C]⟩ .f32) : FVec Ideal ⟨2, ![R, C]⟩ .f32 :=
  addf (mulf (bnorm n e hr hc hb (bcen n hr hc hb x)) (broadcastTo ⟨2, ![R, C]⟩ g hg)) (broadcastTo ⟨2, ![R, C]⟩ b hg)
/-- the logistic function; -/
def blgs (z : FVec Ideal ⟨2, ![R, C]⟩ .f32) : FVec Ideal ⟨2, ![R, C]⟩ .f32 :=
  divf (broadcast ⟨2, ![R, C]⟩ (Scalar.ofBits .f32 0x3F800000#32)) (addf (broadcast ⟨2, ![R, C]⟩ (Scalar.ofBits .f32 0x3F800000#32))
    (exp (subf (broadcast ⟨2, ![R, C]⟩ (Scalar.ofBits .f32 0x00000000#32)) z)))
/-- the gradient of the swish; -/
def bact (dy z : FVec Ideal ⟨2, ![R, C]⟩ .f32) : FVec Ideal ⟨2, ![R, C]⟩ .f32 :=
  mulf (mulf dy (blgs z)) (addf (broadcast ⟨2, ![R, C]⟩ (Scalar.ofBits .f32 0x3F800000#32))
    (mulf z (subf (broadcast ⟨2, ![R, C]⟩ (Scalar.ofBits .f32 0x3F800000#32)) (blgs z))))
/-- the gradient of the rows. -/
def blayer (x dln : FVec Ideal ⟨2, ![R, C]⟩ .f32) (g : FVec Ideal ⟨2, ![1, C]⟩ .f32) : FVec Ideal ⟨2, ![R, C]⟩ .f32 :=
  have u : FVec Ideal ⟨2, ![R, C]⟩ .f32 := mulf dln (broadcastTo ⟨2, ![R, C]⟩ g hg)
  have y : FVec Ideal ⟨2, ![R, C]⟩ .f32 := bnorm n e hr hc hb (bcen n hr hc hb x)
  mulf (broadcastTo ⟨2, ![R, C]⟩ (brms n e hr hc (bcen n hr hc hb x)) hb) (subf (subf u (bmean n hr hc hb u)) (mulf y (bmean n hr hc hb (mulf u y))))

variable (x dln dy z : FVec Ideal ⟨2, ![R, C]⟩ .f32) (g b : FVec Ideal ⟨2, ![1, C]⟩ .f32) (p : Fin R) (c : Fin C)

theorem bmean_apply : bmean n hr hc hb x (ix2 p c) = Ideal.div (∑ k, x (ix2 p k)) (Ideal.ofBits .f32 n) := by
  unfold bmean
  rw [spread_apply]
  exact congrArg (Ideal.div · _) (rowsum_apply hr hc x p)
theorem bcen_apply : bcen n hr hc hb x (ix2 p c) = cen (Ideal.ofBits .f32 n) (fun k => x (ix2 p k)) c :=
  congrArg (x (ix2 p c) - ·) (bmean_apply n hr hc hb x p c)
theorem bcen_rms : brms n e hr hc (bcen n hr hc hb x) (ix2 p (0 : Fin 1))
    = rms (Ideal.ofBits .f32 n) (Ideal.ofBits .f32 e) (cen (Ideal.ofBits .f32 n) (fun k => x (ix2 p k))) :=
  (brms_apply n e hr hc _ p).trans (congrArg (rms _ _) (funext fun k => bcen_apply n hr hc hb x p k))
theorem bxhat_apply : bnorm n e hr hc hb (bcen n hr hc hb x) (ix2 p c) = xhat (Ideal.ofBits .f32 n) (Ideal.ofBits .f32 e) (fun k => x (ix2 p k)) c :=
  congrArg₂ (· * ·) (bcen_apply n hr hc hb x p c) ((spread_apply _ hb p c).trans (bcen_rms n e hr hc hb x p))
theorem blin_apply : blin n e hr hc hb hg x g b (ix2 p c)
    = lin (Ideal.ofBits .f32 n) (Ideal.ofBits .f32 e) (fun k => x (ix2 p k)) (fun k => g (ix2 (0 : Fin 1) k)) (fun k => b (ix2 (0 : Fin 1) k)) c :=
  congrArg₂ (· + ·) (congrArg₂ (· * ·) (bxhat_apply n e hr hc hb x p c) (broadcastTo_1b_ab_apply g hg p c)) (broadcastTo_1b_ab_apply b hg p c)
theorem blgs_apply (i : (⟨2, ![R, C]⟩ : Shape).Idx) : blgs z i = lgs (z i) := by
  show Ideal.div _ (_ + Ideal.exp (Ideal.ofBits .f32 0x00000000#32 - z i)) = _
  rw [Ideal.ofBits_zero_f32, zero_sub]
  rfl
theorem bact_apply (i : (⟨2, ![R, C]⟩ : Shape).Idx) : bact dy z i = kact (dy i) (z i) :=
  congrArg (fun s => (dy i * s) * (one + z i * (one - s))) (blgs_apply z i)
theorem blayer_apply : blayer n e hr hc hb hg x dln g (ix2 p c)
    = klayer (Ideal.ofBits .f32 n) (Ideal.ofBits .f32 e) (fun k => x (ix2 p k)) (fun k => dln (ix2 p k) * g (ix2 (0 : Fin 1) k)) c := by
  have hu : ∀ k : Fin C, mulf dln (broadcastTo ⟨2, ![R, C]⟩ g hg) (ix2 p k) = dln (ix2 p k) * g (ix2 (0 : Fin 1) k) := fun k =>
    congrArg (dln (ix2 p k) * ·) (broadcastTo_1b_ab_apply g hg p k)
  refine congrArg₂ (· * ·) ((spread_apply _ hb p c).trans (bcen_rms n e hr hc hb x p)) (congrArg₂ (· - ·) (congrArg₂ (· - ·) (hu c) ?_)
    (congrArg₂ (· * ·) (bxhat_apply n e hr hc hb x p c) ?_))
  · exact (bmean_apply n hr hc hb _ p c).trans (congrArg (Ideal.div · _) (Finset.sum_congr rfl fun k _ => hu k))
  · exact (bmean_apply n hr hc hb _ p c).trans (congrArg (Ideal.div · _) (Finset.sum_congr rfl fun k _ => congrArg₂ (· * ·) (hu k) (bxhat_apply n e hr hc hb x p k)))

end Block

/-! ## Arrays of rows, as differentiation writes them out -/

section HostBlock

variable {R C : ℕ} (n e h : BitVec 32) (hs : (⟨1, ![R]⟩ : Shape).BroadcastsInDim ⟨2, ![R, 1]⟩ ![0]) (hk : S0.BroadcastsInDim ⟨2, ![R, 1]⟩ ![])
  (hb : (⟨2, ![R, 1]⟩ : Shape).BroadcastsInDim ⟨2, ![R, C]⟩ ![0, 1]) (hb1 : (⟨1, ![R]⟩ : Shape).BroadcastsInDim ⟨2, ![R, C]⟩ ![0])
  (hr : (⟨2, ![R, C]⟩ : Shape).ReducesTo [1] ⟨1, ![R]⟩) (hr1 : (⟨2, ![R, 1]⟩ : Shape).ReducesTo [1] ⟨1, ![R]⟩) (hS : 0 < S0.numel)
  (hc : (⟨1, ![R]⟩ : Shape).ShapeCasts ⟨2, ![R, 1]⟩) (hg : (⟨1, ![C]⟩ : Shape).BroadcastsInDim ⟨2, ![1, C]⟩ ![1])
  (hg2 : (⟨2, ![1, C]⟩ : Shape).BroadcastsInDim ⟨2, ![R, C]⟩ ![0, 1]) (hk2 : S0.BroadcastsInDim ⟨2, ![R, C]⟩ ![])
  (x q z : FVec Ideal ⟨2, ![R, C]⟩ .f32) (g b : FVec Ideal ⟨1, ![C]⟩ .f32) (p : Fin R) (c : Fin C)

/-- A vector in every row. -/
def hrows : FVec Ideal ⟨2, ![R, C]⟩ .f32 := broadcastInDim ⟨2, ![R, C]⟩ ![0, 1] hg2 (broadcastInDim ⟨2, ![1, C]⟩ ![1] hg g)
/-- The rows less their means; -/
def hcen : FVec Ideal ⟨2, ![R, C]⟩ .f32 :=
  subf x (broadcastInDim ⟨2, ![R, C]⟩ ![0, 1] hb (Host.divf (broadcastInDim ⟨2, ![R, 1]⟩ ![0] hs (Host.reduceAdd x (constant (F := Ideal) S0 .f32 0x00000000#32) hr hS))
    (broadcastInDim ⟨2, ![R, 1]⟩ ![] hk (constant (F := Ideal) S0 .f32 n))))
/-- divided by their deviations; -/
def hxhat : FVec Ideal ⟨2, ![R, C]⟩ .f32 :=
  mulf (hcen n hs hk hb hr hS x) (broadcastInDim ⟨2, ![R, C]⟩ ![0, 1] hb (hbrms n e hs hk hr hS (hcen n hs hk hb hr hS x)))
/-- the layer norm; -/
def hlin : FVec Ideal ⟨2, ![R, C]⟩ .f32 := addf (mulf (hxhat n e hs hk hb hr hS x) (hrows hg hg2 g)) (hrows hg hg2 b)
/-- the logistic function; -/
def hlgs : FVec Ideal ⟨2, ![R, C]⟩ .f32 :=
  Host.divf (broadcastInDim ⟨2, ![R, C]⟩ ![] hk2 (constant (F := Ideal) S0 .f32 0x3F800000#32))
    (addf (broadcastInDim ⟨2, ![R, C]⟩ ![] hk2 (constant (F := Ideal) S0 .f32 0x3F800000#32)) (Host.exp (Host.negf z)))
/-- from the gradient of the centred rows, the gradient of the rows. -/
def hdecen : FVec Ideal ⟨2, ![R, C]⟩ .f32 :=
  addf q (broadcastInDim ⟨2, ![R, C]⟩ ![0] hb1 (Host.reduceAdd (Host.divf (shapeCast ⟨2, ![R, 1]⟩ (Host.reduceAdd (Host.negf q) (constant (F := Ideal) S0 .f32 0x00000000#32) hr hS) hc)
    (broadcastInDim ⟨2, ![R, 1]⟩ ![] hk (constant (F := Ideal) S0 .f32 n))) (constant (F := Ideal) S0 .f32 0x00000000#32) hr1 hS))

theorem hrows_apply : hrows hg hg2 g (ix2 p c) = g (ix1 c) := (rows_of_apply hg2 _ p c).trans (asRow_apply hg g _ c)
theorem hcen_apply : hcen n hs hk hb hr hS x (ix2 p c) = cen (Ideal.ofBits .f32 n) (fun k => x (ix2 p k)) c := by
  refine congrArg (x (ix2 p c) - ·) ((cols_of_apply hb _ p c).trans ?_)
  exact congrArg₂ Ideal.div ((asCol_apply hs _ p).trans (hrow_apply hr hS x p)) (splat_apply hk n _)
theorem hxhat_apply : hxhat n e hs hk hb hr hS x (ix2 p c) = xhat (Ideal.ofBits .f32 n) (Ideal.ofBits .f32 e) (fun k => x (ix2 p k)) c :=
  congrArg₂ (· * ·) (hcen_apply n hs hk hb hr hS x p c) ((cols_of_apply hb _ p c).trans ((hbrms_apply n e hs hk hr hS _ p).trans
    (congrArg (rms _ _) (funext fun k => hcen_apply n hs hk hb hr hS x p k))))
theorem hlin_apply : hlin n e hs hk hb hr hS hg hg2 x g b (ix2 p c)
    = lin (Ideal.ofBits .f32 n) (Ideal.ofBits .f32 e) (fun k => x (ix2 p k)) (fun k => g (ix1 k)) (fun k => b (ix1 k)) c :=
  congrArg₂ (· + ·) (congrArg₂ (· * ·) (hxhat_apply n e hs hk hb hr hS x p c) (hrows_apply hg hg2 g p c)) (hrows_apply hg hg2 b p c)
theorem hlgs_apply (i : (⟨2, ![R, C]⟩ : Shape).Idx) : hlgs hk2 z i = lgs (z i) :=
  congrArg (fun o => Ideal.div o (o + Ideal.exp (-z i))) (splat_apply hk2 0x3F800000#32 i)
theorem hdecen_apply : hdecen n hk hb1 hr hr1 hS hc q (ix2 p c) = q (ix2 p c) + Ideal.div (∑ k, -q (ix2 p k)) (Ideal.ofBits .f32 n) := by
  refine congrArg (q (ix2 p c) + ·) ((asCols_apply hb1 _ p c).trans ((hrow_apply hr1 hS _ p).trans ((Fin.sum_univ_one _).trans ?_)))
  exact congrArg₂ Ideal.div ((reCol_apply hc _ p).trans (hrow_apply hr hS _ p)) (splat_apply hk n _)

end HostBlock

end Cert.Norm

end
-- ==== Proof.Norm.K19Run.lean ====
/-
  The gradients of the three group norms, and of the layer norm and swish before one of them: what the kernel leaves in its
  eight results, entry by entry.
-/
module

public import proofs.«01_k».proof.Proof.Norm.Layer
public import Idealize.ShloMosaic.Lib.Pipeline.ValueKit.Tiles
public import proofs.«01_k».proof.Proof.Gen.Kernel19Ideal.Frame

@[expose] public section

set_option maxRecDepth 16384

noncomputable section

namespace Cert.Kernel19Ideal.Norm

open Idealize.ShloMosaic hiding ix1 ix2 ix3 eq_ix2
open Idealize.ShloMosaic.TcCoe Idealize.SL.Sem
open Idealize.ShloMosaic.ValueIdx
open Cert.Kernel19Ideal Cert.Kernel19Ideal.Gen Cert.Norm

/-- Every row block is the block of the grid point's number, and there is one block of columns. -/
theorem index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_10.index t 0 = t.val ∧ win0_10.index t 1 = 0)
    ∧ (win0_11.index t 0 = t.val ∧ win0_11.index t 1 = 0) ∧ (win0_12.index t 0 = t.val ∧ win0_12.index t 1 = 0)
    ∧ win0_5.index t 1 = 0 ∧ win0_6.index t 1 = 0 ∧ win0_7.index t 1 = 0 ∧ win0_8.index t 1 = 0 ∧ win0_9.index t 1 = 0
    ∧ win0_13.index t 1 = 0 ∧ win0_14.index t 1 = 0 ∧ win0_15.index t 1 = 0 ∧ win0_16.index t 1 = 0 ∧ win0_17.index t 1 = 0 :=
  (by decide +kernel : ∀ t : Fin grid0.N, _)

/-! ## One row -/

/-- The widths of the groups and the small constant. -/
abbrev n10 : EReal := Ideal.ofBits .f32 0x44800000#32
abbrev n5 : EReal := Ideal.ofBits .f32 0x44000000#32
abbrev e : EReal := Ideal.ofBits .f32 0x358637BD#32

section Row

/-- A row of an array, and the entries of a vector. -/
def row {R C : ℕ} (x : (⟨2, ![R, C]⟩ : Shape).Idx → EReal) (p : Fin R) : Fin C → EReal := fun k => x (ix2 p k)
def vec {C : ℕ} (g : (⟨1, ![C]⟩ : Shape).Idx → EReal) : Fin C → EReal := fun k => g (ix1 k)
/-- The columns of a group. -/
def cols {C : ℕ} (o : ℕ) (h : o + C ≤ 2048) (d : Fin 2048 → EReal) : Fin C → EReal := fun k => d ⟨o + k.val, by omega⟩

variable {C : ℕ} (n : EReal) (o : ℕ) (h : o + C ≤ 2048) (dm : Fin 2048 → EReal) (x g : Fin C → EReal)

/-- A group's gradient, and what the row adds to the gradient of the group's gains. -/
def fgrad : Fin C → EReal := kgrad n e x (fun k => cols o h dm k * g k)
def fgain (j : Fin C) : EReal := cols o h dm j * (x j * rms n e x)

variable (yc c gc lg lb : Fin 512 → EReal)

/-- The gradient of the layer norm's value; -/
def fln (j : Fin 512) : EReal := kact (fgrad n5 1024 (by decide) dm yc gc j) (lin n5 e c lg lb j)
/-- what the row adds to the gradient of its gains; -/
def flg (j : Fin 512) : EReal := fln dm yc c gc lg lb j * xhat n5 e c j
/-- the gradient of its argument. -/
def fdc : Fin 512 → EReal := klayer n5 e c (fun k => fln dm yc c gc lg lb k * lg k)

end Row

/-! ## One grid point -/

section Point

variable (x0 : Vec Ideal S256x2048 .f32) (x1 : Vec Ideal S256x1024 .f32) (x2 x3 x4 : Vec Ideal S256x512 .f32) (x5 : Vec Ideal S1x1024 .f32)
  (x6 x7 x8 x9 : Vec Ideal S1x512 .f32)

/-- The three groups of columns of a block. -/
abbrev d0 : Vec Ideal S256x1024 .f32 := View.ld x0 (Rect.unit (s := S256x2048) ![0, 0] S256x1024.size inb_S256x2048_S256x1024_0_0)
abbrev d1 : Vec Ideal S256x512 .f32 := View.ld x0 (Rect.unit (s := S256x2048) ![0, 1024] S256x512.size inb_S256x2048_S256x512_0_1024)
abbrev d2 : Vec Ideal S256x512 .f32 := View.ld x0 (Rect.unit (s := S256x2048) ![0, 1536] S256x512.size inb_S256x2048_S256x512_0_1536)

theorem cols_apply {C o : ℕ} (h : o + C ≤ 2048) (inb : ∀ a, (![0, o] : Fin 2 → ℕ) a + (![256, C] : Fin 2 → ℕ) a ≤ S256x2048.size a) (p : Fin 256) (k : Fin C) :
    View.ld x0 (Rect.unit (s := S256x2048) ![0, o] ![256, C] inb) (ix2 p k) = cols o h (row x0 p) k := by
  refine View.ld_unit_apply_of _ _ _ _ _ (ix2 p (⟨o + k.val, by omega⟩ : Fin 2048)) fun a => ?_
  match a with
  | ⟨0, _⟩ => exact (Nat.zero_add _).symm
  | ⟨1, _⟩ => rfl

/-- The one row of a block of one row. -/
theorem one_row {C : ℕ} (y : (⟨2, ![1, C]⟩ : Shape).Idx) : y = ix2 (0 : Fin 1) (y 1) := by
  funext a
  match a with
  | ⟨0, _⟩ => exact Subsingleton.elim (α := Fin 1) _ _
  | ⟨1, _⟩ => rfl

/-- A group's gradient at an entry of a block, from the group's columns of the block. -/
theorem grad_of {C : ℕ} (n : BitVec 32) (hr : (⟨2, ![256, C]⟩ : Shape).Reduces [1] ⟨1, ![256]⟩) (hc : (⟨1, ![256]⟩ : Shape).ShapeCasts ⟨2, ![256, 1]⟩)
    (hb : (⟨2, ![256, 1]⟩ : Shape).Broadcasts ⟨2, ![256, C]⟩) (hg : (⟨2, ![1, C]⟩ : Shape).Broadcasts ⟨2, ![256, C]⟩) (d x : FVec Ideal ⟨2, ![256, C]⟩ .f32)
    (g : FVec Ideal ⟨2, ![1, C]⟩ .f32) (o : ℕ) (h : o + C ≤ 2048) (hd : ∀ p k, d (ix2 p k) = cols o h (row x0 p) k) (y : (⟨2, ![256, C]⟩ : Shape).Idx) :
    bgrad n 0x358637BD#32 hr hc hb hg d x g y = fgrad (Ideal.ofBits .f32 n) o h (row x0 (y 0)) (row x (y 0)) (row g 0) (y 1) := by
  refine (congrArg _ (eq_ix2 y)).trans ((bgrad_apply n 0x358637BD#32 hr hc hb hg d x g (y 0) (y 1)).trans ?_)
  exact congrArg (fun w => kgrad _ e (row x (y 0)) w (y 1)) (funext fun k => congrArg (· * row g 0 k) (hd (y 0) k))
/-- What a block adds to the gradient of a group's gains. -/
theorem gain_of {C : ℕ} (n : BitVec 32) (hr : (⟨2, ![256, C]⟩ : Shape).Reduces [1] ⟨1, ![256]⟩) (hc : (⟨1, ![256]⟩ : Shape).ShapeCasts ⟨2, ![256, 1]⟩)
    (hb : (⟨2, ![256, 1]⟩ : Shape).Broadcasts ⟨2, ![256, C]⟩) (hr0 : (⟨2, ![256, C]⟩ : Shape).Reduces [0] ⟨1, ![C]⟩) (hc0 : (⟨1, ![C]⟩ : Shape).ShapeCasts ⟨2, ![1, C]⟩)
    (d x : FVec Ideal ⟨2, ![256, C]⟩ .f32) (o : ℕ) (h : o + C ≤ 2048) (hd : ∀ p k, d (ix2 p k) = cols o h (row x0 p) k) (y : (⟨2, ![1, C]⟩ : Shape).Idx) :
    colsum hr0 hc0 (mulf d (bnorm n 0x358637BD#32 hr hc hb x)) y = ∑ r : Fin 256, fgain (Ideal.ofBits .f32 n) o h (row x0 r) (row x r) (y 1) := by
  refine (congrArg _ (one_row y)).trans ((colsum_apply hr0 hc0 _ (y 1)).trans (Finset.sum_congr rfl fun p _ => ?_))
  exact congrArg₂ (· * ·) (hd p (y 1)) (bnorm_apply n 0x358637BD#32 hr hc hb x p (y 1))

theorem pay10 (y : S256x1024.Idx) : k0_pay10 (F := Ideal) (d0 x0) x1 x5 y = fgrad n10 0 (by decide) (row x0 (y 0)) (row x1 (y 0)) (row x5 0) (y 1) := by
  refine Eq.trans ?_ (grad_of x0 0x44800000#32 reduces_S256x1024_S256 shapeCasts_S256_S256x1 broadcasts_S256x1_S256x1024 broadcasts_S1x1024_S256x1024 (d0 x0) x1 x5 0 (by decide) (cols_apply x0 _ _) y)
  unfold k0_pay10
  try dsimp only
  rw [shapeCast_self]
  rfl
theorem pay14 (y : S256x512.Idx) : k0_pay14 (F := Ideal) (d2 x0) x3 x7 y = fgrad n5 1536 (by decide) (row x0 (y 0)) (row x3 (y 0)) (row x7 0) (y 1) := by
  refine Eq.trans ?_ (grad_of x0 0x44000000#32 reduces_S256x512_S256 shapeCasts_S256_S256x1 broadcasts_S256x1_S256x512 broadcasts_S1x512_S256x512 (d2 x0) x3 x7 1536 (by decide) (cols_apply x0 _ _) y)
  unfold k0_pay14
  try dsimp only
  rw [shapeCast_self]
  rfl
theorem pay16 : k0_pay16 (F := Ideal) x2 = x2 := shapeCast_self _ _
theorem pay19 (y : S256x512.Idx) : k0_pay19 (F := Ideal) (d1 x0) x2 x6 y = fgrad n5 1024 (by decide) (row x0 (y 0)) (row x2 (y 0)) (row x6 0) (y 1) := by
  refine Eq.trans ?_ (grad_of x0 0x44000000#32 reduces_S256x512_S256 shapeCasts_S256_S256x1 broadcasts_S256x1_S256x512 broadcasts_S1x512_S256x512 (d1 x0) x2 x6 1024 (by decide) (cols_apply x0 _ _) y)
  unfold k0_pay19 k0_pay18 k0_pay17
  try dsimp only
  rw [shapeCast_self, pay16]
  rfl
theorem pay11 (a : Vec Ideal S1x1024 .f32) (y : S1x1024.Idx) :
    k0_pay11 (F := Ideal) (d0 x0) x1 a y = a y + ∑ r : Fin 256, fgain n10 0 (by decide) (row x0 r) (row x1 r) (y 1) := by
  refine Eq.trans ?_ (congrArg (a y + ·) (gain_of x0 0x44800000#32 reduces_S256x1024_S256 shapeCasts_S256_S256x1 broadcasts_S256x1_S256x1024 reduces_S256x1024_S1024 shapeCasts_S1024_S1x1024
    (d0 x0) x1 0 (by decide) (cols_apply x0 _ _) y))
  unfold k0_pay11
  try dsimp only
  rw [shapeCast_self]
  rfl
theorem pay15 (a : Vec Ideal S1x512 .f32) (y : S1x512.Idx) :
    k0_pay15 (F := Ideal) (d2 x0) x3 a y = a y + ∑ r : Fin 256, fgain n5 1536 (by decide) (row x0 r) (row x3 r) (y 1) := by
  refine Eq.trans ?_ (congrArg (a y + ·) (gain_of x0 0x44000000#32 reduces_S256x512_S256 shapeCasts_S256_S256x1 broadcasts_S256x1_S256x512 reduces_S256x512_S512 shapeCasts_S512_S1x512
    (d2 x0) x3 1536 (by decide) (cols_apply x0 _ _) y))
  unfold k0_pay15
  try dsimp only
  rw [shapeCast_self]
  rfl
theorem pay20 (a : Vec Ideal S1x512 .f32) (y : S1x512.Idx) :
    k0_pay20 (F := Ideal) (d1 x0) x2 a y = a y + ∑ r : Fin 256, fgain n5 1024 (by decide) (row x0 r) (row x2 r) (y 1) := by
  refine Eq.trans ?_ (congrArg (a y + ·) (gain_of x0 0x44000000#32 reduces_S256x512_S256 shapeCasts_S256_S256x1 broadcasts_S256x1_S256x512 reduces_S256x512_S512 shapeCasts_S512_S1x512
    (d1 x0) x2 1024 (by decide) (cols_apply x0 _ _) y))
  unfold k0_pay20 k0_pay18 k0_pay17
  try dsimp only
  rw [shapeCast_self, pay16]
  rfl

/-- The gradient of the layer norm's value, on a block; -/
abbrev dln : FVec Ideal S256x512 .f32 := k0_pay25 (F := Ideal) (k0_pay19 (d1 x0) x2 x6) (k0_pay21 x4) (k0_pay22 x4) x8 x9

theorem pay25 (y : S256x512.Idx) : dln x0 x2 x4 x6 x8 x9 y = fln (row x0 (y 0)) (row x2 (y 0)) (row x4 (y 0)) (row x6 0) (row x8 0) (row x9 0) (y 1) := by
  have h : dln x0 x2 x4 x6 x8 x9 = bact (k0_pay19 (F := Ideal) (d1 x0) x2 x6)
      (blin 0x44000000#32 0x358637BD#32 reduces_S256x512_S256 shapeCasts_S256_S256x1 broadcasts_S256x1_S256x512 broadcasts_S1x512_S256x512 x4 x8 x9) := by
    unfold dln k0_pay25
    try dsimp only
    rw [shapeCast_self, shapeCast_self]
    rfl
  rw [h, bact_apply]
  refine congrArg₂ kact (pay19 x0 x2 x6 y) ((congrArg _ (eq_ix2 y)).trans ?_)
  exact blin_apply 0x44000000#32 0x358637BD#32 reduces_S256x512_S256 shapeCasts_S256_S256x1 broadcasts_S256x1_S256x512 broadcasts_S1x512_S256x512 x4 x8 x9 (y 0) (y 1)

/-- the normalised rows; -/
theorem pay24 (p : Fin 256) (k : Fin 512) : k0_pay24 (F := Ideal) (k0_pay21 x4) (k0_pay22 x4) (ix2 p k) = xhat n5 e (row x4 p) k :=
  bxhat_apply 0x44000000#32 0x358637BD#32 reduces_S256x512_S256 shapeCasts_S256_S256x1 broadcasts_S256x1_S256x512 x4 p k

/-- the gradient of the rows. -/
theorem pay2 (y : S256x512.Idx) :
    k0_pay2 (F := Ideal) (k0_pay23 (k0_pay22 x4)) (k0_pay24 (k0_pay21 x4) (k0_pay22 x4)) (dln x0 x2 x4 x6 x8 x9) x8 y
      = fdc (row x0 (y 0)) (row x2 (y 0)) (row x4 (y 0)) (row x6 0) (row x8 0) (row x9 0) (y 1) := by
  have h : k0_pay2 (F := Ideal) (k0_pay23 (k0_pay22 x4)) (k0_pay24 (k0_pay21 x4) (k0_pay22 x4)) (dln x0 x2 x4 x6 x8 x9) x8
      = blayer 0x44000000#32 0x358637BD#32 reduces_S256x512_S256 shapeCasts_S256_S256x1 broadcasts_S256x1_S256x512 broadcasts_S1x512_S256x512 x4 (dln x0 x2 x4 x6 x8 x9) x8 := by
    unfold k0_pay2
    try dsimp only
    rw [shapeCast_self]
    rfl
  rw [h]
  refine (congrArg _ (eq_ix2 y)).trans ((blayer_apply 0x44000000#32 0x358637BD#32 reduces_S256x512_S256 shapeCasts_S256_S256x1 broadcasts_S256x1_S256x512 broadcasts_S1x512_S256x512
    x4 (dln x0 x2 x4 x6 x8 x9) x8 (y 0) (y 1)).trans ?_)
  exact congrArg (fun u => klayer n5 e (row x4 (y 0)) u (y 1)) (funext fun k => congrArg (· * row x8 0 k) (pay25 x0 x2 x4 x6 x8 x9 (ix2 (y 0) k)))

theorem pay26 (a : Vec Ideal S1x512 .f32) (y : S1x512.Idx) : k0_pay26 (F := Ideal) (k0_pay19 (d1 x0) x2 x6) (k0_pay21 x4) (k0_pay22 x4) x8 x9 a y
    = a y + ∑ r : Fin 256, flg (row x0 r) (row x2 r) (row x4 r) (row x6 0) (row x8 0) (row x9 0) (y 1) := by
  have h : ∀ y : S1x512.Idx, colsum reduces_S256x512_S512 shapeCasts_S512_S1x512 (mulf (dln x0 x2 x4 x6 x8 x9) (k0_pay24 (F := Ideal) (k0_pay21 x4) (k0_pay22 x4))) y
      = ∑ r : Fin 256, flg (row x0 r) (row x2 r) (row x4 r) (row x6 0) (row x8 0) (row x9 0) (y 1) := fun y =>
    (congrArg _ (one_row y)).trans ((colsum_apply reduces_S256x512_S512 shapeCasts_S512_S1x512 _ (y 1)).trans (Finset.sum_congr rfl fun p _ =>
      congrArg₂ (· * ·) (pay25 x0 x2 x4 x6 x8 x9 (ix2 p (y 1))) (pay24 x4 p (y 1))))
  refine Eq.trans ?_ (congrArg (a y + ·) (h y))
  unfold k0_pay26
  try dsimp only
  rw [shapeCast_self]
  rfl
theorem pay1 (a : Vec Ideal S1x512 .f32) (y : S1x512.Idx) :
    k0_pay1 (F := Ideal) (k0_pay27 a) (k0_pay28 (k0_pay19 (d1 x0) x2 x6) (k0_pay21 x4) (k0_pay22 x4) x8 x9) y
      = a y + ∑ r : Fin 256, fln (row x0 r) (row x2 r) (row x4 r) (row x6 0) (row x8 0) (row x9 0) (y 1) := by
  have h : ∀ y : S1x512.Idx, colsum reduces_S256x512_S512 shapeCasts_S512_S1x512 (dln x0 x2 x4 x6 x8 x9) y
      = ∑ r : Fin 256, fln (row x0 r) (row x2 r) (row x4 r) (row x6 0) (row x8 0) (row x9 0) (y 1) := fun y =>
    (congrArg _ (one_row y)).trans ((colsum_apply reduces_S256x512_S512 shapeCasts_S512_S1x512 _ (y 1)).trans (Finset.sum_congr rfl fun p _ => pay25 x0 x2 x4 x6 x8 x9 (ix2 p (y 1))))
  refine Eq.trans ?_ (congrArg (a y + ·) (h y))
  unfold k0_pay27
  rw [shapeCast_self]
  rfl

theorem zero3 (y : S1x1024.Idx) : k0_pay3 (F := Ideal) y = 0 := Ideal.ofBits_zero_f32
theorem zero4 (y : S1x512.Idx) : k0_pay4 (F := Ideal) y = 0 := Ideal.ofBits_zero_f32
theorem zero5 (y : S1x512.Idx) : k0_pay5 (F := Ideal) y = 0 := Ideal.ofBits_zero_f32
theorem zero6 (y : S1x512.Idx) : k0_pay6 (F := Ideal) y = 0 := Ideal.ofBits_zero_f32
theorem zero7 (y : S1x512.Idx) : k0_pay7 (F := Ideal) y = 0 := Ideal.ofBits_zero_f32

end Point

variable (m : (ℓ : Loc nD τ sig) → Buf (Elt Ideal) ℓ) (c : Dev nD)

/-! ## The arrays -/

/-- The gradient from above, the three groups' arguments before their norms, the three gains, and the layer norm's gain and bias. -/
def A0 : S2048x2048.Idx → EReal := m ((c : Thread nD τ).loc main_arg0)
def A1 : S2048x1024.Idx → EReal := m ((c : Thread nD τ).loc main_arg1)
def A2 : S2048x512.Idx → EReal := m ((c : Thread nD τ).loc main_arg2)
def A3 : S2048x512.Idx → EReal := m ((c : Thread nD τ).loc main_arg3)
def A4 : S1024.Idx → EReal := m ((c : Thread nD τ).loc main_arg4)
def A5 : S512.Idx → EReal := m ((c : Thread nD τ).loc main_arg5)
def A6 : S512.Idx → EReal := m ((c : Thread nD τ).loc main_arg6)
def A7 : S512.Idx → EReal := m ((c : Thread nD τ).loc main_arg7)
def A8 : S512.Idx → EReal := m ((c : Thread nD τ).loc main_arg8)

/-- The layer norm, and the swish of it: the middle group before its norm. -/
def Ln (p : Fin 2048) : Fin 512 → EReal := lin n5 e (row (A2 m c) p) (vec (A7 m c)) (vec (A8 m c))
def Yc (p : Fin 2048) (k : Fin 512) : EReal := Ln m c p k * lgs (Ln m c p k)

/-- The middle group, as the host lines compute it before the call. -/
theorem V_2 (p : Fin 2048) (k : Fin 512) : (V m c main_v22 : S2048x512.Idx → EReal) (ix2 p k) = Yc m c p k := by
  have h : (V m c main_v22 : S2048x512.Idx → EReal)
      = mulf (hlin 0x44000000#32 0x358637BD#32 bcast_S2048_S2048x1_0 bcast_S_S2048x1 bcast_S2048x1_S2048x512_0_1 reducesTo_S2048x512_S2048_d1 h_S_ bcast_S512_S1x512_1
          bcast_S1x512_S2048x512_0_1 (A2 m c) (A7 m c) (A8 m c))
        (hlgs bcast_S_S2048x512 (hlin 0x44000000#32 0x358637BD#32 bcast_S2048_S2048x1_0 bcast_S_S2048x1 bcast_S2048x1_S2048x512_0_1 reducesTo_S2048x512_S2048_d1 h_S_ bcast_S512_S1x512_1
          bcast_S1x512_S2048x512_0_1 (A2 m c) (A7 m c) (A8 m c))) := by
    unfold V
    simp only [hostOps0, hostOps0_1, hostOps0_2, List.flatten_cons, List.flatten_nil, List.append_nil, List.cons_append, List.nil_append]
    after_results_simp
    rfl
  have hl := hlin_apply 0x44000000#32 0x358637BD#32 bcast_S2048_S2048x1_0 bcast_S_S2048x1 bcast_S2048x1_S2048x512_0_1 reducesTo_S2048x512_S2048_d1 h_S_ bcast_S512_S1x512_1
    bcast_S1x512_S2048x512_0_1 (A2 m c) (A7 m c) (A8 m c) p k
  rw [h]
  exact congrArg₂ (· * ·) hl ((hlgs_apply bcast_S_S2048x512 _ (ix2 p k)).trans (congrArg lgs hl))

/-- The row a row of a block is. -/
def rowOf (t : Fin cfg0.N) (r : Fin 256) : Fin 2048 := ⟨t.val * 256 + r.val, by have := lt_of_lt_of_eq t.isLt N_0; omega⟩

/-- The rows of the blocks are rows of the arrays. -/
theorem blk_0 (t : Fin cfg0.N) (r : Fin 256) : row (R := 256) (C := 2048) (iblk m c 0 t) r = row (A0 m c) (rowOf t r) := funext fun k => by
  show iblk m c 0 t (ix2 r k) = _
  unfold iblk
  rw [View.read_apply]
  exact (congrFun (V_main_arg0 m c) _).trans (congrArg (A0 m c) (at_block _ _ _ (index t).1.1 (index t).1.2 rfl rfl rfl rfl))
theorem blk_1 (t : Fin cfg0.N) (r : Fin 256) : row (R := 256) (C := 1024) (iblk m c 1 t) r = row (A1 m c) (rowOf t r) := funext fun k => by
  show iblk m c 1 t (ix2 r k) = _
  unfold iblk
  rw [View.read_apply]
  exact (congrFun (V_main_arg1 m c) _).trans (congrArg (A1 m c) (at_block _ _ _ (index t).2.1.1 (index t).2.1.2 rfl rfl rfl rfl))
theorem blk_2 (t : Fin cfg0.N) (r : Fin 256) : row (R := 256) (C := 512) (iblk m c 2 t) r = Yc m c (rowOf t r) := funext fun k => by
  show iblk m c 2 t (ix2 r k) = _
  unfold iblk
  rw [View.read_apply]
  exact (congrArg (V m c main_v22 : S2048x512.Idx → EReal) (at_block _ _ _ (index t).2.2.1.1 (index t).2.2.1.2 rfl rfl rfl rfl)).trans (V_2 m c (rowOf t r) k)
theorem blk_3 (t : Fin cfg0.N) (r : Fin 256) : row (R := 256) (C := 512) (iblk m c 3 t) r = row (A3 m c) (rowOf t r) := funext fun k => by
  show iblk m c 3 t (ix2 r k) = _
  unfold iblk
  rw [View.read_apply]
  exact (congrFun (V_main_arg3 m c) _).trans (congrArg (A3 m c) (at_block _ _ _ (index t).2.2.2.1.1 (index t).2.2.2.1.2 rfl rfl rfl rfl))
theorem blk_4 (t : Fin cfg0.N) (r : Fin 256) : row (R := 256) (C := 512) (iblk m c 4 t) r = row (A2 m c) (rowOf t r) := funext fun k => by
  show iblk m c 4 t (ix2 r k) = _
  unfold iblk
  rw [View.read_apply]
  exact (congrFun (V_main_arg2 m c) _).trans (congrArg (A2 m c) (at_block _ _ _ (index t).2.2.2.2.1.1 (index t).2.2.2.2.1.2 rfl rfl rfl rfl))
theorem blk_5 (t : Fin cfg0.N) : row (R := 1) (C := 1024) (iblk m c 5 t) 0 = vec (A4 m c) := funext fun k => by
  show iblk m c 5 t (ix2 0 k) = _
  unfold iblk
  rw [View.read_apply]
  unfold V
  simp only [hostOps0, hostOps0_1, hostOps0_2, List.flatten_cons, List.flatten_nil, List.append_nil, List.cons_append, List.nil_append]
  after_results_simp
  exact row_block _ _ _ k (index t).2.2.2.2.2.2.2.2.1 rfl
theorem blk_6 (t : Fin cfg0.N) : row (R := 1) (C := 512) (iblk m c 6 t) 0 = vec (A5 m c) := funext fun k => by
  show iblk m c 6 t (ix2 0 k) = _
  unfold iblk
  rw [View.read_apply]
  unfold V
  simp only [hostOps0, hostOps0_1, hostOps0_2, List.flatten_cons, List.flatten_nil, List.append_nil, List.cons_append, List.nil_append]
  after_results_simp
  exact row_block _ _ _ k (index t).2.2.2.2.2.2.2.2.2.1 rfl
theorem blk_7 (t : Fin cfg0.N) : row (R := 1) (C := 512) (iblk m c 7 t) 0 = vec (A6 m c) := funext fun k => by
  show iblk m c 7 t (ix2 0 k) = _
  unfold iblk
  rw [View.read_apply]
  unfold V
  simp only [hostOps0, hostOps0_1, hostOps0_2, List.flatten_cons, List.flatten_nil, List.append_nil, List.cons_append, List.nil_append]
  after_results_simp
  exact row_block _ _ _ k (index t).2.2.2.2.2.2.2.2.2.2.1 rfl
theorem blk_8 (t : Fin cfg0.N) : row (R := 1) (C := 512) (iblk m c 8 t) 0 = vec (A7 m c) := funext fun k => by
  show iblk m c 8 t (ix2 0 k) = _
  unfold iblk
  rw [View.read_apply]
  unfold V
  simp only [hostOps0, hostOps0_1, hostOps0_2, List.flatten_cons, List.flatten_nil, List.append_nil, List.cons_append, List.nil_append]
  after_results_simp
  exact row_block _ _ _ k (index t).2.2.2.2.2.2.2.2.2.2.2.1 rfl
theorem blk_9 (t : Fin cfg0.N) : row (R := 1) (C := 512) (iblk m c 9 t) 0 = vec (A8 m c) := funext fun k => by
  show iblk m c 9 t (ix2 0 k) = _
  unfold iblk
  rw [View.read_apply]
  unfold V
  simp only [hostOps0, hostOps0_1, hostOps0_2, List.flatten_cons, List.flatten_nil, List.append_nil, List.cons_append, List.nil_append]
  after_results_simp
  exact row_block _ _ _ k (index t).2.2.2.2.2.2.2.2.2.2.2.2.1 rfl

/-! ## The results -/

/-- The gradients of the first group's argument, of the layer norm's argument and of the last group's; -/
def Da (i : S2048x1024.Idx) : EReal := fgrad n10 0 (by decide) (row (A0 m c) (i 0)) (row (A1 m c) (i 0)) (vec (A4 m c)) (i 1)
def Dc (i : S2048x512.Idx) : EReal := fdc (row (A0 m c) (i 0)) (Yc m c (i 0)) (row (A2 m c) (i 0)) (vec (A5 m c)) (vec (A7 m c)) (vec (A8 m c)) (i 1)
def Dl (i : S2048x512.Idx) : EReal := fgrad n5 1536 (by decide) (row (A0 m c) (i 0)) (row (A3 m c) (i 0)) (vec (A6 m c)) (i 1)
/-- the gradients of the three gains; -/
def Dga (i : S1x1024.Idx) : EReal := ∑ p : Fin 2048, fgain n10 0 (by decide) (row (A0 m c) p) (row (A1 m c) p) (i 1)
def Dgc (i : S1x512.Idx) : EReal := ∑ p : Fin 2048, fgain n5 1024 (by decide) (row (A0 m c) p) (Yc m c p) (i 1)
def Dgl (i : S1x512.Idx) : EReal := ∑ p : Fin 2048, fgain n5 1536 (by decide) (row (A0 m c) p) (row (A3 m c) p) (i 1)
/-- the gradients of the layer norm's gain and bias. -/
def Dlg (i : S1x512.Idx) : EReal := ∑ p : Fin 2048, flg (row (A0 m c) p) (Yc m c p) (row (A2 m c) p) (vec (A5 m c)) (vec (A7 m c)) (vec (A8 m c)) (i 1)
def Dlb (i : S1x512.Idx) : EReal := ∑ p : Fin 2048, fln (row (A0 m c) p) (Yc m c p) (row (A2 m c) p) (vec (A5 m c)) (vec (A7 m c)) (vec (A8 m c)) (i 1)

/-- What a point leaves of the three blocks of rows. -/
theorem out10 (t : Fin cfg0.N) : (outsAt0 m c t.val t.isLt).1 = k0_pay10 (d0 (iblk m c 0 t)) (iblk m c 1 t) (iblk m c 5 t) := by
  by_cases h : t.val % 8 = 0
  · rw [outsAt0_A m c t h]
    frame_out
  · rw [outsAt0_B m c t h]
    frame_out
theorem out11 (t : Fin cfg0.N) : (outsAt0 m c t.val t.isLt).2.1 = k0_pay2 (k0_pay23 (k0_pay22 (iblk m c 4 t))) (k0_pay24 (k0_pay21 (iblk m c 4 t)) (k0_pay22 (iblk m c 4 t)))
    (dln (iblk m c 0 t) (iblk m c 2 t) (iblk m c 4 t) (iblk m c 6 t) (iblk m c 8 t) (iblk m c 9 t)) (iblk m c 8 t) := by
  by_cases h : t.val % 8 = 0
  · rw [outsAt0_A m c t h]
    frame_out
  · rw [outsAt0_B m c t h]
    frame_out
theorem out12 (t : Fin cfg0.N) : (outsAt0 m c t.val t.isLt).2.2.1 = k0_pay14 (d2 (iblk m c 0 t)) (iblk m c 3 t) (iblk m c 7 t) := by
  by_cases h : t.val % 8 = 0
  · rw [outsAt0_A m c t h]
    frame_out
  · rw [outsAt0_B m c t h]
    frame_out

/-- The same, in the arrays' terms. -/
theorem rows10 (t : Fin cfg0.N) (r : Fin 256) (k : Fin 1024) : k0_pay10 (d0 (iblk m c 0 t)) (iblk m c 1 t) (iblk m c 5 t) (ix2 r k) = Da m c (ix2 (rowOf t r) k) := by
  refine (pay10 _ _ _ _).trans ?_
  show fgrad n10 0 (by decide) (row (R := 256) (C := 2048) (iblk m c 0 t) r) (row (R := 256) (C := 1024) (iblk m c 1 t) r) (row (R := 1) (C := 1024) (iblk m c 5 t) 0) k = _
  rw [blk_0, blk_1, blk_5]
  rfl
theorem rows11 (t : Fin cfg0.N) (r : Fin 256) (k : Fin 512) : k0_pay2 (k0_pay23 (k0_pay22 (iblk m c 4 t))) (k0_pay24 (k0_pay21 (iblk m c 4 t)) (k0_pay22 (iblk m c 4 t)))
    (dln (iblk m c 0 t) (iblk m c 2 t) (iblk m c 4 t) (iblk m c 6 t) (iblk m c 8 t) (iblk m c 9 t)) (iblk m c 8 t) (ix2 r k) = Dc m c (ix2 (rowOf t r) k) := by
  refine (pay2 _ _ _ _ _ _ _).trans ?_
  show fdc (row (R := 256) (C := 2048) (iblk m c 0 t) r) (row (R := 256) (C := 512) (iblk m c 2 t) r) (row (R := 256) (C := 512) (iblk m c 4 t) r) (row (R := 1) (C := 512) (iblk m c 6 t) 0)
    (row (R := 1) (C := 512) (iblk m c 8 t) 0) (row (R := 1) (C := 512) (iblk m c 9 t) 0) k = _
  rw [blk_0, blk_2, blk_4, blk_6, blk_8, blk_9]
  rfl
theorem rows12 (t : Fin cfg0.N) (r : Fin 256) (k : Fin 512) : k0_pay14 (d2 (iblk m c 0 t)) (iblk m c 3 t) (iblk m c 7 t) (ix2 r k) = Dl m c (ix2 (rowOf t r) k) := by
  refine (pay14 _ _ _ _).trans ?_
  show fgrad n5 1536 (by decide) (row (R := 256) (C := 2048) (iblk m c 0 t) r) (row (R := 256) (C := 512) (iblk m c 3 t) r) (row (R := 1) (C := 512) (iblk m c 7 t) 0) k = _
  rw [blk_0, blk_3, blk_7]
  rfl

theorem final10 : (dats m 0 c).arrAt 10 cfg0.N = Da m c := by
  refine (dats m 0 c).arrAt_eq_of_covers 10 _ (by decide +kernel) fun t hf y => ?_
  refine (congrFun (after0_10 m c t) _).trans ?_
  rw [out10]
  exact (congrArg _ (eq_ix2 y)).trans ((rows10 m c t (y 0) (y 1)).trans (congrArg (Da m c) (at_block _ _ _ (index t).2.2.2.2.2.1.1 (index t).2.2.2.2.2.1.2 rfl rfl rfl rfl).symm))
theorem final11 : (dats m 0 c).arrAt 11 cfg0.N = Dc m c := by
  refine (dats m 0 c).arrAt_eq_of_covers 11 _ (by decide +kernel) fun t hf y => ?_
  refine (congrFun (after0_11 m c t) _).trans ?_
  rw [out11]
  exact (congrArg _ (eq_ix2 y)).trans ((rows11 m c t (y 0) (y 1)).trans (congrArg (Dc m c) (at_block _ _ _ (index t).2.2.2.2.2.2.1.1 (index t).2.2.2.2.2.2.1.2 rfl rfl rfl rfl).symm))
theorem final12 : (dats m 0 c).arrAt 12 cfg0.N = Dl m c := by
  refine (dats m 0 c).arrAt_eq_of_covers 12 _ (by decide +kernel) fun t hf y => ?_
  refine (congrFun (after0_12 m c t) _).trans ?_
  rw [out12]
  exact (congrArg _ (eq_ix2 y)).trans ((rows12 m c t (y 0) (y 1)).trans (congrArg (Dl m c) (at_block _ _ _ (index t).2.2.2.2.2.2.2.1.1 (index t).2.2.2.2.2.2.2.1.2 rfl rfl rfl rfl).symm))

/-- A block that the first point clears and every point adds its rows' terms to ends as the sum over all rows. -/
theorem total {C : ℕ} (o : ∀ n, n < cfg0.N → (⟨2, ![1, C]⟩ : Shape).Idx → EReal) (q : Fin 2048 → Fin C → EReal)
    (hA : ∀ (t : Fin cfg0.N) y, t.val % 8 = 0 → o t.val t.isLt y = 0 + ∑ r : Fin 256, q (rowOf t r) (y 1))
    (hB : ∀ (t : Fin cfg0.N) y, ¬ t.val % 8 = 0 → o t.val t.isLt y = o (t.val - 1) (Nat.lt_of_le_of_lt (Nat.sub_le _ _) t.isLt) y + ∑ r : Fin 256, q (rowOf t r) (y 1))
    (t : Fin cfg0.N) (h7 : t.val % 8 = 7) (y : (⟨2, ![1, C]⟩ : Shape).Idx) (j : Fin C) {b : ℕ} (hb : b = 0) (hj : j.val = b * C + 1 * (y 1).val) : o t.val t.isLt y = ∑ p : Fin 2048, q p j := by
  have ht : t.val < 8 := lt_of_lt_of_eq t.isLt N_0
  subst hb
  obtain rfl : j = y 1 := Fin.ext (by omega)
  refine (Pipeline.eq_sum_fin_of_reset_step_apply_of_flush o 8 (fun _ => (0 : EReal)) (fun t y => ∑ r : Fin 256, q (rowOf t r) (y 1))
    (fun t h y => hA t y h) (fun t h y => hB t y (by omega)) t h7 y).trans ((zero_add _).trans ?_)
  refine Fin.sum_mul_add_congr (S := 8) (n := 256) fun s k hk => ?_
  exact congrArg (fun p => q p (y 1)) (Fin.ext (by
    show (8 * (t.val / 8) + s.val) * 256 + k.val = s.val * 256 + k.val
    omega))

theorem final13 : (dats m 0 c).arrAt 13 cfg0.N = Dga m c := by
  refine (dats m 0 c).arrAt_eq_of_covers 13 _ (by decide +kernel) fun t hf y => ?_
  refine (congrFun (after0_13 m c t) _).trans ?_
  refine total (C := 1024) (fun n h => (outsAt0 m c n h).2.2.2.1) (fun p => fgain n10 0 (by decide) (row (A0 m c) p) (row (A1 m c) p)) (fun t y h => ?_) (fun t y h => ?_)
    t ((flush0_13 t).mp hf) y _ (index t).2.2.2.2.2.2.2.2.2.2.2.2.2.1 rfl
  · try dsimp only
    rw [outsAt0_A m c t h]
    frame_out
    refine (pay11 _ _ _ y).trans (congrArg₂ (· + ·) (zero3 y) (Finset.sum_congr rfl fun r _ => ?_))
    rw [blk_0, blk_1]
  · try dsimp only
    rw [outsAt0_B m c t h]
    frame_out
    refine (pay11 _ _ _ y).trans (congrArg (_ + ·) (Finset.sum_congr rfl fun r _ => ?_))
    rw [blk_0, blk_1]
theorem final14 : (dats m 0 c).arrAt 14 cfg0.N = Dgc m c := by
  refine (dats m 0 c).arrAt_eq_of_covers 14 _ (by decide +kernel) fun t hf y => ?_
  refine (congrFun (after0_14 m c t) _).trans ?_
  refine total (C := 512) (fun n h => (outsAt0 m c n h).2.2.2.2.1) (fun p => fgain n5 1024 (by decide) (row (A0 m c) p) (Yc m c p)) (fun t y h => ?_) (fun t y h => ?_)
    t ((flush0_14 t).mp hf) y _ (index t).2.2.2.2.2.2.2.2.2.2.2.2.2.2.1 rfl
  · try dsimp only
    rw [outsAt0_A m c t h]
    frame_out
    refine (pay20 _ _ _ y).trans (congrArg₂ (· + ·) (zero4 y) (Finset.sum_congr rfl fun r _ => ?_))
    rw [blk_0, blk_2]
  · try dsimp only
    rw [outsAt0_B m c t h]
    frame_out
    refine (pay20 _ _ _ y).trans (congrArg (_ + ·) (Finset.sum_congr rfl fun r _ => ?_))
    rw [blk_0, blk_2]
theorem final15 : (dats m 0 c).arrAt 15 cfg0.N = Dgl m c := by
  refine (dats m 0 c).arrAt_eq_of_covers 15 _ (by decide +kernel) fun t hf y => ?_
  refine (congrFun (after0_15 m c t) _).trans ?_
  refine total (C := 512) (fun n h => (outsAt0 m c n h).2.2.2.2.2.1) (fun p => fgain n5 1536 (by decide) (row (A0 m c) p) (row (A3 m c) p)) (fun t y h => ?_) (fun t y h => ?_)
    t ((flush0_15 t).mp hf) y _ (index t).2.2.2.2.2.2.2.2.2.2.2.2.2.2.2.1 rfl
  · try dsimp only
    rw [outsAt0_A m c t h]
    frame_out
    refine (pay15 _ _ _ y).trans (congrArg₂ (· + ·) (zero5 y) (Finset.sum_congr rfl fun r _ => ?_))
    rw [blk_0, blk_3]
  · try dsimp only
    rw [outsAt0_B m c t h]
    frame_out
    refine (pay15 _ _ _ y).trans (congrArg (_ + ·) (Finset.sum_congr rfl fun r _ => ?_))
    rw [blk_0, blk_3]
theorem final16 : (dats m 0 c).arrAt 16 cfg0.N = Dlg m c := by
  refine (dats m 0 c).arrAt_eq_of_covers 16 _ (by decide +kernel) fun t hf y => ?_
  refine (congrFun (after0_16 m c t) _).trans ?_
  refine total (C := 512) (fun n h => (outsAt0 m c n h).2.2.2.2.2.2.1) (fun p => flg (row (A0 m c) p) (Yc m c p) (row (A2 m c) p) (vec (A5 m c)) (vec (A7 m c)) (vec (A8 m c)))
    (fun t y h => ?_) (fun t y h => ?_) t ((flush0_16 t).mp hf) y _ (index t).2.2.2.2.2.2.2.2.2.2.2.2.2.2.2.2.1 rfl
  · try dsimp only
    rw [outsAt0_A m c t h]
    frame_out
    refine (pay26 _ _ _ _ _ _ _ y).trans (congrArg₂ (· + ·) (zero6 y) (Finset.sum_congr rfl fun r _ => ?_))
    rw [blk_0, blk_2, blk_4, blk_6, blk_8, blk_9]
  · try dsimp only
    rw [outsAt0_B m c t h]
    frame_out
    refine (pay26 _ _ _ _ _ _ _ y).trans (congrArg (_ + ·) (Finset.sum_congr rfl fun r _ => ?_))
    rw [blk_0, blk_2, blk_4, blk_6, blk_8, blk_9]
theorem final17 : (dats m 0 c).arrAt 17 cfg0.N = Dlb m c := by
  refine (dats m 0 c).arrAt_eq_of_covers 17 _ (by decide +kernel) fun t hf y => ?_
  refine (congrFun (after0_17 m c t) _).trans ?_
  refine total (C := 512) (fun n h => (outsAt0 m c n h).2.2.2.2.2.2.2) (fun p => fln (row (A0 m c) p) (Yc m c p) (row (A2 m c) p) (vec (A5 m c)) (vec (A7 m c)) (vec (A8 m c)))
    (fun t y h => ?_) (fun t y h => ?_) t ((flush0_17 t).mp hf) y _ (index t).2.2.2.2.2.2.2.2.2.2.2.2.2.2.2.2.2 rfl
  · try dsimp only
    rw [outsAt0_A m c t h]
    frame_out
    refine (pay1 _ _ _ _ _ _ _ y).trans (congrArg₂ (· + ·) (zero7 y) (Finset.sum_congr rfl fun r _ => ?_))
    rw [blk_0, blk_2, blk_4, blk_6, blk_8, blk_9]
  · try dsimp only
    rw [outsAt0_B m c t h]
    frame_out
    refine (pay1 _ _ _ _ _ _ _ y).trans (congrArg (_ + ·) (Finset.sum_congr rfl fun r _ => ?_))
    rw [blk_0, blk_2, blk_4, blk_6, blk_8, blk_9]

end Cert.Kernel19Ideal.Norm

end
-- ==== Proof.Norm.K19.lean ====
/-
  The gradients of the three group norms, and of the layer norm and swish before one of them: the kernel's eight results are
  the reference's.
-/
module

public import proofs.«01_k».proof.Defs
public import proofs.«01_k».proof.Proof.Attn.Claims
public import proofs.«01_k».proof.Proof.Norm.Host
public import proofs.«01_k».proof.Proof.Norm.K19Run
public import proofs.«01_k».proof.Proof.Gen.Reference19Ideal.Read

@[expose] public section

set_option maxRecDepth 16384

noncomputable section

namespace Cert.Reference19Ideal.Norm

open Idealize.ShloMosaic hiding ix1 ix2 ix3 eq_ix2
open Idealize.ShloMosaic.ValueIdx
open Cert.Reference19Ideal Cert.Reference19Ideal.Gen Cert.Reference19Ideal.Read Cert.Norm
open Cert.Kernel19Ideal.Norm (n10 n5 e row vec cols one_row)

variable (x0 : S2048x2048.Idx → EReal) (x1 : S2048x1024.Idx → EReal) (x2 x3 : S2048x512.Idx → EReal) (x4 : S1024.Idx → EReal)
  (x5 x6 x7 x8 : S512.Idx → EReal)

/-- Minus one half. -/
abbrev h : EReal := Ideal.ofBits .f32 0xBF000000#32

/-! ## Norms of rows of 512 and of 1024 entries -/

/-- The gradient of the rows. -/
theorem grad5 (x w : S2048x512.Idx → EReal) (i : S2048x512.Idx) :
    hbgrad 0x44000000#32 0x358637BD#32 0xBF000000#32 bcast_S2048_S2048x1_0 bcast_S_S2048x1 bcast_S2048x1_S2048x512_0_1 bcast_S2048_S2048x512_0
      reducesTo_S2048x512_S2048_d1 reducesTo_S2048x1_S2048_d1 h_S_ shapeCasts_S2048_S2048x1 x w i = hgrad n5 e (row (C := 512) x (i 0)) (row w (i 0)) h (i 1) :=
  (congrArg _ (eq_ix2 i)).trans (hbgrad_apply _ _ _ _ _ _ _ _ _ _ _ x w (i 0) (i 1))
theorem grad10 (x w : S2048x1024.Idx → EReal) (i : S2048x1024.Idx) :
    hbgrad 0x44800000#32 0x358637BD#32 0xBF000000#32 bcast_S2048_S2048x1_0 bcast_S_S2048x1 bcast_S2048x1_S2048x1024_0_1 bcast_S2048_S2048x1024_0
      reducesTo_S2048x1024_S2048_d1 reducesTo_S2048x1_S2048_d1 h_S_ shapeCasts_S2048_S2048x1 x w i = hgrad n10 e (row (C := 1024) x (i 0)) (row w (i 0)) h (i 1) :=
  (congrArg _ (eq_ix2 i)).trans (hbgrad_apply _ _ _ _ _ _ _ _ _ _ _ x w (i 0) (i 1))

/-- The rows divided by their deviations. -/
theorem norm5 (x : S2048x512.Idx → EReal) (p : Fin 2048) (j : Fin 512) :
    x (ix2 p j) * broadcastInDim S2048x512 ![0, 1] bcast_S2048x1_S2048x512_0_1 (hbrms 0x44000000#32 0x358637BD#32 bcast_S2048_S2048x1_0 bcast_S_S2048x1
      reducesTo_S2048x512_S2048_d1 h_S_ x) (ix2 p j) = row x p j * rms n5 e (row x p) :=
  congrArg (x (ix2 p j) * ·) ((cols_of_apply bcast_S2048x1_S2048x512_0_1 _ p j).trans
    (hbrms_apply 0x44000000#32 0x358637BD#32 bcast_S2048_S2048x1_0 bcast_S_S2048x1 reducesTo_S2048x512_S2048_d1 h_S_ x p))
theorem norm10 (x : S2048x1024.Idx → EReal) (p : Fin 2048) (j : Fin 1024) :
    x (ix2 p j) * broadcastInDim S2048x1024 ![0, 1] bcast_S2048x1_S2048x1024_0_1 (hbrms 0x44800000#32 0x358637BD#32 bcast_S2048_S2048x1_0 bcast_S_S2048x1
      reducesTo_S2048x1024_S2048_d1 h_S_ x) (ix2 p j) = row x p j * rms n10 e (row x p) :=
  congrArg (x (ix2 p j) * ·) ((cols_of_apply bcast_S2048x1_S2048x1024_0_1 _ p j).trans
    (hbrms_apply 0x44800000#32 0x358637BD#32 bcast_S2048_S2048x1_0 bcast_S_S2048x1 reducesTo_S2048x1024_S2048_d1 h_S_ x p))

/-- The sums of the columns, as one row. -/
theorem sums5 (v : S2048x512.Idx → EReal) (i : S1x512.Idx) :
    shapeCast S1x512 (Host.reduceAdd (F := Ideal) (φ := .f32) (shapeCast S1x512 (Host.reduceAdd (F := Ideal) (φ := .f32) v (constant (F := Ideal) S_ .f32 0x00000000#32) reducesTo_S2048x512_S512_d0 h_S_)
      shapeCasts_S512_S1x512) (constant (F := Ideal) S_ .f32 0x00000000#32) reducesTo_S1x512_S512_d0 h_S_) shapeCasts_S512_S1x512 i = ∑ p : Fin 2048, v (ix2 p (i 1)) :=
  (congrArg _ (one_row i)).trans (hcols_apply h_S_ reducesTo_S2048x512_S512_d0 reducesTo_S1x512_S512_d0 shapeCasts_S512_S1x512 v (i 1))
theorem sums10 (v : S2048x1024.Idx → EReal) (i : S1x1024.Idx) :
    shapeCast S1x1024 (Host.reduceAdd (F := Ideal) (φ := .f32) (shapeCast S1x1024 (Host.reduceAdd (F := Ideal) (φ := .f32) v (constant (F := Ideal) S_ .f32 0x00000000#32) reducesTo_S2048x1024_S1024_d0 h_S_)
      shapeCasts_S1024_S1x1024) (constant (F := Ideal) S_ .f32 0x00000000#32) reducesTo_S1x1024_S1024_d0 h_S_) shapeCasts_S1024_S1x1024 i = ∑ p : Fin 2048, v (ix2 p (i 1)) :=
  (congrArg _ (one_row i)).trans (hcols_apply h_S_ reducesTo_S2048x1024_S1024_d0 reducesTo_S1x1024_S1024_d0 shapeCasts_S1024_S1x1024 v (i 1))

/-! ## The groups' columns of the gradient -/

theorem part_a (p : Fin 2048) (k : Fin 1024) : val_main_v75 (F := Ideal) x0 (ix2 p k) = cols 0 (by decide) (row x0 p) k := by
  refine (val_main_v75_apply (F := Ideal) x0 _).trans (congrArg x0 (funext fun a => ?_))
  match a with
  | ⟨0, _⟩ => exact Fin.ext (by simp [idx_main_v75, ix2])
  | ⟨1, _⟩ => exact Fin.ext (by simp [idx_main_v75, ix2])
theorem part_c (p : Fin 2048) (k : Fin 512) : val_main_v76 (F := Ideal) x0 (ix2 p k) = cols 1024 (by decide) (row x0 p) k := by
  refine (val_main_v76_apply (F := Ideal) x0 _).trans (congrArg x0 (funext fun a => ?_))
  match a with
  | ⟨0, _⟩ => exact Fin.ext (by simp [idx_main_v76, ix2])
  | ⟨1, _⟩ => exact Fin.ext (by simp [idx_main_v76, ix2])
theorem part_l (p : Fin 2048) (k : Fin 512) : val_main_v77 (F := Ideal) x0 (ix2 p k) = cols 1536 (by decide) (row x0 p) k := by
  refine (val_main_v77_apply (F := Ideal) x0 _).trans (congrArg x0 (funext fun a => ?_))
  match a with
  | ⟨0, _⟩ => exact Fin.ext (by simp [idx_main_v77, ix2])
  | ⟨1, _⟩ => exact Fin.ext (by simp [idx_main_v77, ix2])

theorem back_a (p : Fin 2048) : row (val_main_v154 (F := Ideal) x0 x4) p = fun k => cols 0 (by decide) (row x0 p) k * vec x4 k :=
  funext fun k => congrArg₂ (· * ·) (part_a x0 p k) (hrows_apply bcast_S1024_S1x1024_1 bcast_S1x1024_S2048x1024_0_1 x4 p k)
theorem back_c (p : Fin 2048) : row (val_main_v102 (F := Ideal) x0 x5) p = fun k => cols 1024 (by decide) (row x0 p) k * vec x5 k :=
  funext fun k => congrArg₂ (· * ·) (part_c x0 p k) (hrows_apply bcast_S512_S1x512_1 bcast_S1x512_S2048x512_0_1 x5 p k)
theorem back_l (p : Fin 2048) : row (val_main_v82 (F := Ideal) x0 x6) p = fun k => cols 1536 (by decide) (row x0 p) k * vec x6 k :=
  funext fun k => congrArg₂ (· * ·) (part_l x0 p k) (hrows_apply bcast_S512_S1x512_1 bcast_S1x512_S2048x512_0_1 x6 p k)

/-! ## The groups -/

theorem grad_a (i : S2048x1024.Idx) : val_main_v169 (F := Ideal) x0 x1 x4 i
    = hgrad n10 e (row (C := 1024) x1 (i 0)) (fun k => cols 0 (by decide) (row (C := 2048) x0 (i 0)) k * vec x4 k) h (i 1) :=
  (grad10 x1 (val_main_v154 (F := Ideal) x0 x4) i).trans (congrArg (fun w => hgrad n10 e _ w h (i 1)) (back_a x0 x4 (i 0)))
theorem grad_l (i : S2048x512.Idx) : val_main_v97 (F := Ideal) x0 x3 x6 i
    = hgrad n5 e (row (C := 512) x3 (i 0)) (fun k => cols 1536 (by decide) (row (C := 2048) x0 (i 0)) k * vec x6 k) h (i 1) :=
  (grad5 x3 (val_main_v82 (F := Ideal) x0 x6) i).trans (congrArg (fun w => hgrad n5 e _ w h (i 1)) (back_l x0 x6 (i 0)))
theorem gain_a (i : S1x1024.Idx) : val_main_v170 (F := Ideal) x0 x1 i
    = ∑ p : Fin 2048, (row x1 p (i 1) * rms n10 e (row x1 p)) * cols 0 (by decide) (row x0 p) (i 1) :=
  (sums10 (val_main_v150 (F := Ideal) x0 x1) i).trans (Finset.sum_congr rfl fun p _ => congrArg₂ (· * ·) (norm10 x1 p (i 1)) (part_a x0 p (i 1)))
theorem gain_l (i : S1x512.Idx) : val_main_v172 (F := Ideal) x0 x3 i
    = ∑ p : Fin 2048, (row x3 p (i 1) * rms n5 e (row x3 p)) * cols 1536 (by decide) (row x0 p) (i 1) :=
  (sums5 (val_main_v78 (F := Ideal) x0 x3) i).trans (Finset.sum_congr rfl fun p _ => congrArg₂ (· * ·) (norm5 x3 p (i 1)) (part_l x0 p (i 1)))

/-! ## The middle group: its norm follows a swish, and that a layer norm -/

/-- The layer norm, -/
theorem lin_row (p : Fin 2048) : row (val_main_v40 (F := Ideal) x2 x7 x8) p = lin n5 e (row x2 p) (vec x7) (vec x8) :=
  funext fun k => hlin_apply 0x44000000#32 0x358637BD#32 bcast_S2048_S2048x1_0 bcast_S_S2048x1 bcast_S2048x1_S2048x512_0_1 reducesTo_S2048x512_S2048_d1 h_S_
    bcast_S512_S1x512_1 bcast_S1x512_S2048x512_0_1 x2 x7 x8 p k
/-- the logistic function of it, -/
theorem lgs_at (i : S2048x512.Idx) : val_main_v41_2 (F := Ideal) x2 x7 x8 i = lgs (val_main_v40 (F := Ideal) x2 x7 x8 i) :=
  hlgs_apply bcast_S_S2048x512 (val_main_v40 (F := Ideal) x2 x7 x8) i
/-- and the swish. -/
theorem act_row (p : Fin 2048) : row (val_main_v41_0 (F := Ideal) x2 x7 x8) p
    = fun k => lin n5 e (row x2 p) (vec x7) (vec x8) k * lgs (lin n5 e (row x2 p) (vec x7) (vec x8) k) := funext fun k => by
  have hl : val_main_v40 (F := Ideal) x2 x7 x8 (ix2 p k) = lin n5 e (row x2 p) (vec x7) (vec x8) k := congrFun (lin_row x2 x7 x8 p) k
  refine congrArg₂ (· * ·) hl ((lgs_at x2 x7 x8 (ix2 p k)).trans (congrArg lgs hl))

theorem grad_c (i : S2048x512.Idx) : val_main_v117 (F := Ideal) x0 x2 x5 x7 x8 i
    = hgrad n5 e (row (C := 512) (val_main_v41_0 (F := Ideal) x2 x7 x8) (i 0)) (fun k => cols 1024 (by decide) (row (C := 2048) x0 (i 0)) k * vec x5 k) h (i 1) :=
  (grad5 (val_main_v41_0 (F := Ideal) x2 x7 x8) (val_main_v102 (F := Ideal) x0 x5) i).trans (congrArg (fun w => hgrad n5 e _ w h (i 1)) (back_c x0 x5 (i 0)))
theorem gain_c (i : S1x512.Idx) : val_main_v171 (F := Ideal) x0 x2 x7 x8 i
    = ∑ p : Fin 2048, (row (val_main_v41_0 (F := Ideal) x2 x7 x8) p (i 1) * rms n5 e (row (val_main_v41_0 (F := Ideal) x2 x7 x8) p))
      * cols 1024 (by decide) (row x0 p) (i 1) :=
  (sums5 (val_main_v98 (F := Ideal) x0 x2 x7 x8) i).trans
    (Finset.sum_congr rfl fun p _ => congrArg₂ (· * ·) (norm5 (val_main_v41_0 (F := Ideal) x2 x7 x8) p (i 1)) (part_c x0 p (i 1)))

/-- The gradient of the swish. -/
theorem act_grad (i : S2048x512.Idx) : val_main_v118 (F := Ideal) x0 x2 x5 x7 x8 i
    = hact (val_main_v117 (F := Ideal) x0 x2 x5 x7 x8 i) (val_main_v40 (F := Ideal) x2 x7 x8 i) := by
  have hs := lgs_at x2 x7 x8 i
  have ho : val_main_call0_v7 (F := Ideal) x2 x7 x8 i = one - lgs (val_main_v40 (F := Ideal) x2 x7 x8 i) :=
    congrArg₂ (· - ·) (splat_apply bcast_S_S2048x512 0x3F800000#32 i) hs
  exact congrArg₂ (· + ·) (congrArg (val_main_v117 (F := Ideal) x0 x2 x5 x7 x8 i * ·) hs)
    (congrArg (val_main_v40 (F := Ideal) x2 x7 x8 i * val_main_v117 (F := Ideal) x0 x2 x5 x7 x8 i * ·) (congrArg₂ (· * ·) hs ho))

/-- The layer norm's rows, their gradient, -/
theorem cen_row (p : Fin 2048) : row (val_main_v21 (F := Ideal) x2) p = cen n5 (row x2 p) :=
  funext fun k => hcen_apply 0x44000000#32 bcast_S2048_S2048x1_0 bcast_S_S2048x1 bcast_S2048x1_S2048x512_0_1 reducesTo_S2048x512_S2048_d1 h_S_ x2 p k
theorem grad_cen (p : Fin 2048) (k : Fin 512) : val_main_v141 (F := Ideal) x0 x2 x5 x7 x8 (ix2 p k)
    = hgrad n5 e (cen n5 (row x2 p)) (fun k => row (val_main_v118 (F := Ideal) x0 x2 x5 x7 x8) p k * vec x7 k) h k := by
  refine (grad5 (val_main_v21 (F := Ideal) x2) (val_main_v126 (F := Ideal) x0 x2 x5 x7 x8) (ix2 p k)).trans ?_
  refine congrArg₂ (fun x w => hgrad n5 e x w h k) (cen_row x2 p) (funext fun k => ?_)
  exact congrArg (val_main_v118 (F := Ideal) x0 x2 x5 x7 x8 (ix2 p k) * ·) (hrows_apply bcast_S512_S1x512_1 bcast_S1x512_S2048x512_0_1 x7 p k)
theorem grad_lin (p : Fin 2048) (k : Fin 512) : val_main_v149 (F := Ideal) x0 x2 x5 x7 x8 (ix2 p k)
    = hlayer n5 e (row x2 p) (fun k => row (val_main_v118 (F := Ideal) x0 x2 x5 x7 x8) p k * vec x7 k) h k := by
  refine (hdecen_apply 0x44000000#32 bcast_S_S2048x1 bcast_S2048_S2048x512_0 reducesTo_S2048x512_S2048_d1 reducesTo_S2048x1_S2048_d1 h_S_
    shapeCasts_S2048_S2048x1 (val_main_v141 (F := Ideal) x0 x2 x5 x7 x8) p k).trans ?_
  exact congrArg₂ (· + ·) (grad_cen x0 x2 x5 x7 x8 p k) (congrArg (Ideal.div · n5) (Finset.sum_congr rfl fun j _ => congrArg (- ·) (grad_cen x0 x2 x5 x7 x8 p j)))
/-- and the gradients of its gain and bias. -/
theorem gain_lin (i : S1x512.Idx) : val_main_v173 (F := Ideal) x0 x2 x5 x7 x8 i
    = ∑ p : Fin 2048, xhat n5 e (row x2 p) (i 1) * row (val_main_v118 (F := Ideal) x0 x2 x5 x7 x8) p (i 1) :=
  (sums5 (val_main_v122 (F := Ideal) x0 x2 x5 x7 x8) i).trans (Finset.sum_congr rfl fun p _ =>
    congrArg (· * val_main_v118 (F := Ideal) x0 x2 x5 x7 x8 (ix2 p (i 1))) (hxhat_apply 0x44000000#32 0x358637BD#32 bcast_S2048_S2048x1_0 bcast_S_S2048x1
      bcast_S2048x1_S2048x512_0_1 reducesTo_S2048x512_S2048_d1 h_S_ x2 p (i 1)))
theorem bias_lin (i : S1x512.Idx) : val_main_v174 (F := Ideal) x0 x2 x5 x7 x8 i
    = ∑ p : Fin 2048, row (val_main_v118 (F := Ideal) x0 x2 x5 x7 x8) p (i 1) := sums5 (val_main_v118 (F := Ideal) x0 x2 x5 x7 x8) i

end Cert.Reference19Ideal.Norm

namespace Cert.Kernel19Ideal.Norm

open Idealize.ShloMosaic hiding ix1 ix2 ix3 eq_ix2
open Idealize.ShloMosaic.TcCoe Idealize.SL.Sem
open Idealize.ShloMosaic.ValueIdx
open Cert.Kernel19Ideal Cert.Kernel19Ideal.Gen Cert.Norm
open Cert.Reference19Ideal.Read Cert.Reference19Ideal.Norm

theorem w1024 : ∃ r : ℝ, 0 < r ∧ n10 = r := by
  refine ⟨_, ?_, by simp [n10, Ideal.ofBits, Ideal.ieee]; rfl⟩
  positivity
theorem w512 : n5 = (((512 : ℕ) : ℝ) : EReal) := by
  simp only [n5, Ideal.ofBits, Ideal.ieee]
  simp
  rw [← EReal.coe_mul]
  norm_num
theorem w512' : ∃ r : ℝ, 0 < r ∧ n5 = r := ⟨_, by norm_num, w512⟩

variable (m : (ℓ : Loc nD τ sig) → Buf (Elt Ideal) ℓ) (c : Dev nD)

/-! ## For any arguments -/

theorem eq_da : Da m c = val_main_v169 (F := Ideal) (A0 m c) (A1 m c) (A4 m c) := funext fun i =>
  (grad_eq w1024 eps_pos neg_half _ _ (i 1)).trans (grad_a _ _ _ i).symm
theorem eq_dl : Dl m c = val_main_v97 (F := Ideal) (A0 m c) (A3 m c) (A6 m c) := funext fun i =>
  (grad_eq w512' eps_pos neg_half _ _ (i 1)).trans (grad_l _ _ _ i).symm

/-- The gains' gradients: the same products, their factors in another order. -/
theorem eq_dga : Dga m c = val_main_v170 (F := Ideal) (A0 m c) (A1 m c) := funext fun i =>
  (Finset.sum_congr rfl fun p _ => mul_comm (G := EReal) _ _).trans (gain_a _ _ i).symm
theorem eq_dgl : Dgl m c = val_main_v172 (F := Ideal) (A0 m c) (A3 m c) := funext fun i =>
  (Finset.sum_congr rfl fun p _ => mul_comm (G := EReal) _ _).trans (gain_l _ _ i).symm
theorem eq_yc (p : Fin 2048) : row (val_main_v41_0 (F := Ideal) (A2 m c) (A7 m c) (A8 m c)) p = Yc m c p := act_row _ _ _ p
theorem eq_dgc : Dgc m c = val_main_v171 (F := Ideal) (A0 m c) (A2 m c) (A7 m c) (A8 m c) := funext fun i => by
  refine (Finset.sum_congr rfl fun p _ => ?_).trans (gain_c _ _ _ _ i).symm
  rw [eq_yc]
  exact mul_comm (G := EReal) _ _

/-! ## Where the gradient from above and two of the gains are finite -/

section Finite

variable (hd : ∀ i, Real' (A0 m c i)) (hg : ∀ i, Real' (A5 m c i)) (hl : ∀ i, Real' (A7 m c i))

/-- The gradient of the layer norm's values. -/
def Gz (p : Fin 2048) : Fin 512 → EReal := fln (row (A0 m c) p) (Yc m c p) (row (A2 m c) p) (vec (A5 m c)) (vec (A7 m c)) (vec (A8 m c))

include hd hg in
theorem fgrad_real (p : Fin 2048) (k : Fin 512) : Real' (fgrad n5 1024 (by decide) (row (A0 m c) p) (Yc m c p) (vec (A5 m c)) k) :=
  kgrad_real w512' eps_pos (fun k => (hd _).mul (hg _)) k

include hd hg in
/-- It is finite, -/
theorem gz_real (p : Fin 2048) (k : Fin 512) : Real' (Gz m c p k) := (act_eq (fgrad_real m c hd hg p k) _).2

include hd hg in
/-- and the reference's. -/
theorem eq_gz (p : Fin 2048) : Gz m c p = row (val_main_v118 (F := Ideal) (A0 m c) (A2 m c) (A5 m c) (A7 m c) (A8 m c)) p := funext fun k => by
  refine (act_eq (fgrad_real m c hd hg p k) _).1.trans (Eq.trans ?_ (act_grad _ _ _ _ _ (ix2 p k)).symm)
  refine congrArg₂ hact ?_ (congrFun (lin_row (A2 m c) (A7 m c) (A8 m c) p) k).symm
  refine (grad_eq w512' eps_pos neg_half _ _ k).trans (Eq.trans ?_ (grad_c _ _ _ _ _ (ix2 p k)).symm)
  exact congrArg (fun x => hgrad n5 e x _ h k) (eq_yc m c p).symm

include hd hg in
theorem eq_dlb : Dlb m c = val_main_v174 (F := Ideal) (A0 m c) (A2 m c) (A5 m c) (A7 m c) (A8 m c) := funext fun i =>
  (Finset.sum_congr rfl fun p _ => congrFun (eq_gz m c hd hg p) (i 1)).trans (bias_lin _ _ _ _ _ i).symm

include hd hg in
theorem eq_dlg : Dlg m c = val_main_v173 (F := Ideal) (A0 m c) (A2 m c) (A5 m c) (A7 m c) (A8 m c) := funext fun i =>
  (Finset.sum_congr rfl fun p _ => (congrArg (· * xhat n5 e (row (A2 m c) p) (i 1)) (congrFun (eq_gz m c hd hg p) (i 1))).trans (mul_comm (G := EReal) _ _)).trans
    (gain_lin _ _ _ _ _ i).symm

include hd hg hl in
theorem eq_dc : Dc m c = val_main_v149 (F := Ideal) (A0 m c) (A2 m c) (A5 m c) (A7 m c) (A8 m c) := funext fun i => by
  refine (layer_eq (h := h) (u := fun k => Gz m c (i 0) k * vec (A7 m c) k) (by decide : 0 < 512) w512 eps_pos neg_half
    (fun k => (gz_real m c hd hg _ k).mul (hl _)) (i 1)).trans ?_
  refine (congrArg (fun z => hlayer n5 e (row (C := 512) (A2 m c) (i 0)) (fun k => z k * vec (A7 m c) k) h (i 1)) (eq_gz m c hd hg (i 0))).trans ?_
  exact ((congrArg _ (eq_ix2 i)).trans (grad_lin _ _ _ _ _ (i 0) (i 1))).symm

end Finite

end Cert.Kernel19Ideal.Norm

namespace Cert.Proof

open Idealize.ShloMosaic Idealize.ShloMosaic.TcCoe Idealize.SL.Sem
open Cert.Kernel19Ideal.Norm Cert.Norm

/-- The shapes of the precondition's broadcasts of a scalar. -/
theorem finite19_facts : Cert.Pre_finite19.Facts where
  bcast_S_S2048x2048 := by decide
  bcast_S_S512 := by decide

/-- Where the gradient from above and the gains of the two norms are finite the two programs end with equal results. -/
theorem algebraic19 : Cert.algebraic_Kernel19Ideal_Reference19Ideal_pre_finite19 (hPre_finite19 := finite19_facts) := by
  intro m ρ m' ρ' hfin hagree
  have real : ∀ x : EReal, Ideal.cmp .olt (max x (-x)) (FloatOps.ofBits (F := Ideal) .f32 0x7F800000#32 : EReal) = 1#1 → Real' x :=
    fun x h => ⟨_, real_of_finite x (by rw [Cert.AttnSpec.inf_word] at h; exact h)⟩
  have hd : ∀ c i, Real' (A0 m c i) := fun c i => real _ (congrFun (hfin c).1 i)
  have hg : ∀ c i, Real' (A5 m c i) := fun c i => real _ (congrFun (hfin c).2.1 i)
  have hl : ∀ c i, Real' (A7 m c i) := fun c i => real _ (congrFun (hfin c).2.2 i)
  have a0 : ∀ c, StableHlo.launchContents m' c (Proc.devRef .tc Cert.Reference19Ideal.main_arg0) = A0 m c := fun c => (hagree c).1
  have a1 : ∀ c, StableHlo.launchContents m' c (Proc.devRef .tc Cert.Reference19Ideal.main_arg1) = A1 m c := fun c => (hagree c).2.1
  have a2 : ∀ c, StableHlo.launchContents m' c (Proc.devRef .tc Cert.Reference19Ideal.main_arg2) = A2 m c := fun c => (hagree c).2.2.1
  have a3 : ∀ c, StableHlo.launchContents m' c (Proc.devRef .tc Cert.Reference19Ideal.main_arg3) = A3 m c := fun c => (hagree c).2.2.2.1
  have a4 : ∀ c, StableHlo.launchContents m' c (Proc.devRef .tc Cert.Reference19Ideal.main_arg4) = A4 m c := fun c => (hagree c).2.2.2.2.1
  have a5 : ∀ c, StableHlo.launchContents m' c (Proc.devRef .tc Cert.Reference19Ideal.main_arg5) = A5 m c := fun c => (hagree c).2.2.2.2.2.1
  have a6 : ∀ c, StableHlo.launchContents m' c (Proc.devRef .tc Cert.Reference19Ideal.main_arg6) = A6 m c := fun c => (hagree c).2.2.2.2.2.2.1
  have a7 : ∀ c, StableHlo.launchContents m' c (Proc.devRef .tc Cert.Reference19Ideal.main_arg7) = A7 m c := fun c => (hagree c).2.2.2.2.2.2.2.1
  have a8 : ∀ c, StableHlo.launchContents m' c (Proc.devRef .tc Cert.Reference19Ideal.main_arg8) = A8 m c := fun c => (hagree c).2.2.2.2.2.2.2.2
  refine ⟨fun c => Da m c, _, _, _, _, _, _, _, (θ_run Cert.Kernel19Ideal.defs _ _).mono (fun _ h c => ⟨((h.1 c).1 10).trans (final10 m c),
      ((h.1 c).1 11).trans (final11 m c), ((h.1 c).1 12).trans (final12 m c), ((h.1 c).1 13).trans (final13 m c), ((h.1 c).1 14).trans (final14 m c),
      ((h.1 c).1 15).trans (final15 m c), ((h.1 c).1 16).trans (final16 m c), ((h.1 c).1 17).trans (final17 m c), h.2 c⟩)
    (θ_run_and (Cert.Kernel19Ideal.Gen.run_main m ρ) (Cert.Kernel19Ideal.Gen.unchanged m ρ)), ?_⟩
  refine (θ_run Cert.Reference19Ideal.defs _ _).mono (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2.1.trans ?_, (h c).2.2.2.2.2.2.2.1.trans ?_, (h c).2.2.2.2.2.2.2.2⟩)
    (Cert.Reference19Ideal.Value.run (F := Ideal) m' ρ')
  · rw [Cert.Reference19Ideal.Read.val_main_v169_eq, a0 c, a1 c, a4 c]
    exact (eq_da m c).symm
  · rw [Cert.Reference19Ideal.Read.val_main_v149_eq, a0 c, a2 c, a5 c, a7 c, a8 c]
    exact (eq_dc m c (hd c) (hg c) (hl c)).symm
  · rw [Cert.Reference19Ideal.Read.val_main_v97_eq, a0 c, a3 c, a6 c]
    exact (eq_dl m c).symm
  · rw [Cert.Reference19Ideal.Read.val_main_v170_eq, a0 c, a1 c]
    exact (eq_dga m c).symm
  · rw [Cert.Reference19Ideal.Read.val_main_v171_eq, a0 c, a2 c, a7 c, a8 c]
    exact (eq_dgc m c).symm
  · rw [Cert.Reference19Ideal.Read.val_main_v172_eq, a0 c, a3 c]
    exact (eq_dgl m c).symm
  · rw [Cert.Reference19Ideal.Read.val_main_v173_eq, a0 c, a2 c, a5 c, a7 c, a8 c]
    exact (eq_dlg m c (hd c) (hg c)).symm
  · rw [Cert.Reference19Ideal.Read.val_main_v174_eq, a0 c, a2 c, a5 c, a7 c, a8 c]
    exact (eq_dlb m c (hd c) (hg c)).symm

end Cert.Proof

end
-- ==== Proof.Norm.K18.lean ====
/-
  The gradient of the first norm: what the kernel leaves in its two results, entry by entry, and that they are the reference's. One
  grid point computes what a point of the kernel of two norms does, and the reference is that kernel's reference for its first norm.
-/
module

public import proofs.«01_k».proof.Proof.Norm.K17
public import proofs.«01_k».proof.Proof.Gen.Kernel18Ideal.Frame
public import proofs.«01_k».proof.Proof.Gen.Reference18Ideal.Read

@[expose] public section

set_option maxRecDepth 16384

noncomputable section

namespace Cert.Kernel18Ideal.Norm

open Idealize.ShloMosaic hiding ix1 ix2 ix3 eq_ix2
open Idealize.ShloMosaic.TcCoe Idealize.SL.Sem
open Idealize.ShloMosaic.ValueIdx
open Cert.Kernel18Ideal Cert.Kernel18Ideal.Gen Cert.Norm
open Cert.Kernel17Ideal.Norm (n e grad part Dg)

/-- Every row block is the block of the grid point's number, and there is one block of columns. -/
theorem index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_4.index t 0 = t.val ∧ win0_4.index t 1 = 0) ∧ win0_3.index t 1 = 0 ∧ win0_5.index t 1 = 0 :=
  (by decide +kernel : ∀ t : Fin grid0.N, _)

/-! ## One grid point -/

section Point

variable (dh du h : Vec Ideal S256x2048 .f32) (g a : Vec Ideal S1x2048 .f32)

theorem pay6 (y : S256x2048.Idx) : k0_pay6 (F := Ideal) du h g dh y = dh y + grad du h g y := Cert.Kernel17Ideal.Norm.pay11 dh du h g y
theorem pay1 (y : S1x2048.Idx) : k0_pay1 (F := Ideal) (k0_pay5 du h) (k0_pay7 a) y = a y + part du h y := Cert.Kernel17Ideal.Norm.pay1 du h a y
theorem pay2 (y : S1x2048.Idx) : k0_pay2 (F := Ideal) y = 0 := Ideal.ofBits_zero_f32

end Point

variable (m : (ℓ : Loc nD τ sig) → Buf (Elt Ideal) ℓ) (c : Dev nD)

/-! ## The arrays -/

/-- The gradient from above, the gradient of the branch, the input and the gains. -/
def A0 : S2048x2048.Idx → EReal := m ((c : Thread nD τ).loc main_arg0)
def A1 : S2048x2048.Idx → EReal := m ((c : Thread nD τ).loc main_arg1)
def A2 : S2048x2048.Idx → EReal := m ((c : Thread nD τ).loc main_arg2)
def A3 : S2048.Idx → EReal := m ((c : Thread nD τ).loc main_arg3)

/-- The row a row of a block is. -/
def rowOf (t : Fin cfg0.N) (r : Fin 256) : Fin 2048 := ⟨t.val * 256 + r.val, by have := lt_of_lt_of_eq t.isLt N_0; omega⟩

/-- The blocks of the arrays. -/
theorem blk_0 (t : Fin cfg0.N) (r : Fin 256) (k : Fin 2048) : iblk m c 0 t (ix2 r k) = A0 m c (ix2 (rowOf t r) k) := by
  unfold iblk
  rw [View.read_apply]
  exact (congrFun (V_main_arg0 m c) _).trans (congrArg (A0 m c) (at_block _ _ _ (index t).1.1 (index t).1.2 rfl rfl rfl rfl))
theorem blk_1 (t : Fin cfg0.N) (r : Fin 256) (k : Fin 2048) : iblk m c 1 t (ix2 r k) = A1 m c (ix2 (rowOf t r) k) := by
  unfold iblk
  rw [View.read_apply]
  exact (congrFun (V_main_arg1 m c) _).trans (congrArg (A1 m c) (at_block _ _ _ (index t).2.1.1 (index t).2.1.2 rfl rfl rfl rfl))
theorem blk_2 (t : Fin cfg0.N) (r : Fin 256) (k : Fin 2048) : iblk m c 2 t (ix2 r k) = A2 m c (ix2 (rowOf t r) k) := by
  unfold iblk
  rw [View.read_apply]
  exact (congrFun (V_main_arg2 m c) _).trans (congrArg (A2 m c) (at_block _ _ _ (index t).2.2.1.1 (index t).2.2.1.2 rfl rfl rfl rfl))
theorem blk_3 (t : Fin cfg0.N) (k : Fin 2048) : iblk m c 3 t (ix2 (0 : Fin 1) k) = A3 m c (ix1 k) := by
  unfold iblk
  rw [View.read_apply]
  unfold V
  simp only [hostOps0]
  after_results_simp
  exact row_block _ _ _ k (index t).2.2.2.2.1 rfl

/-! ## The results -/

/-- The gradient of the norm's input, added to the gradient from above. -/
def Dh (i : S2048x2048.Idx) : EReal :=
  A0 m c i + kgrad n e (fun k : Fin 2048 => A2 m c (ix2 (i 0) k)) (fun k => A1 m c (ix2 (i 0) k) * A3 m c (ix1 k)) (i 1)

theorem grad_blk (t : Fin cfg0.N) (y : S256x2048.Idx) :
    k0_pay6 (iblk m c 1 t) (iblk m c 2 t) (iblk m c 3 t) (iblk m c 0 t) y = Dh m c (ix2 (rowOf t (y 0)) (y 1)) := by
  refine (pay6 _ _ _ _ _).trans ?_
  refine congrArg₂ (· + ·) ((congrArg (iblk m c 0 t) (eq_ix2 y)).trans (blk_0 m c t (y 0) (y 1))) ?_
  exact congrArg₂ (fun x w => kgrad n e x w (y 1)) (funext fun k => blk_2 m c t (y 0) k) (funext fun k => congrArg₂ (· * ·) (blk_1 m c t (y 0) k) (blk_3 m c t k))

/-- What a point leaves of the rows' gradient. -/
theorem out4 (t : Fin cfg0.N) : (outsAt0 m c t.val t.isLt).1 = k0_pay6 (iblk m c 1 t) (iblk m c 2 t) (iblk m c 3 t) (iblk m c 0 t) := by
  by_cases h : t.val % 8 = 0
  · rw [outsAt0_A m c t h]
    frame_out
  · rw [outsAt0_B m c t h]
    frame_out

/-- The block of the gradient of the gains, when it is written back: the sum of what the eight points add. -/
theorem block5 (t : Fin cfg0.N) (h : t.val % 8 = 7) (y : S1x2048.Idx) (hl : ∀ s : Fin 8, 8 * (t.val / 8) + s.val < cfg0.N) :
    (outsAt0 m c t.val t.isLt).2 y = ∑ s : Fin 8, part (iblk m c 1 ⟨8 * (t.val / 8) + s.val, hl s⟩) (iblk m c 2 ⟨8 * (t.val / 8) + s.val, hl s⟩) y := by
  refine (Pipeline.eq_sum_fin_of_reset_step_apply_of_flush (fun n h => (outsAt0 m c n h).2) 8 (fun _ => (0 : EReal)) (fun t y => part (iblk m c 1 t) (iblk m c 2 t) y)
    (fun t h y => ?_) (fun t h y => ?_) t h y).trans (zero_add _)
  · try dsimp only
    rw [outsAt0_A m c t h]
    frame_out
    exact (pay1 _ _ _ y).trans (congrArg (· + _) (pay2 y))
  · try dsimp only
    rw [outsAt0_B m c t (by omega)]
    frame_out
    exact pay1 _ _ _ y

/-- The two result arrays. -/
theorem final4 : (dats m 0 c).arrAt 4 cfg0.N = Dh m c := by
  refine (dats m 0 c).arrAt_eq_of_covers 4 _ (by decide +kernel) fun t hf y => ?_
  refine (congrFun (after0_4 m c t) _).trans ?_
  rw [out4]
  exact (grad_blk m c t y).trans (congrArg (Dh m c) (at_block _ _ _ (index t).2.2.2.1.1 (index t).2.2.2.1.2 rfl rfl rfl rfl).symm)
theorem final5 : (dats m 0 c).arrAt 5 cfg0.N = Dg (A1 m c) (A2 m c) := by
  refine (dats m 0 c).arrAt_eq_of_covers 5 _ (by decide +kernel) fun t hf y => ?_
  refine (congrFun (after0_5 m c t) _).trans ?_
  have h7 : t.val % 8 = 7 := (flush0_5 t).mp hf
  have ht : t.val < 8 := lt_of_lt_of_eq t.isLt N_0
  have hl : ∀ s : Fin 8, 8 * (t.val / 8) + s.val < cfg0.N := fun s => lt_of_lt_of_eq (by omega : _ < 8) N_0.symm
  refine (block5 m c t h7 y hl).trans (Cert.Kernel17Ideal.Norm.sum_parts (A1 m c) (A2 m c) ⟨t.val, ht⟩ h7 hl (fun s => iblk m c 1 ⟨8 * (t.val / 8) + s.val, hl s⟩) (fun s => iblk m c 2 ⟨8 * (t.val / 8) + s.val, hl s⟩)
    (fun s r k => blk_1 m c _ r k) (fun s r k => blk_2 m c _ r k) y _ ?_)
  have e := index t
  show win0_5.index t 1 * 2048 + 1 * (y 1).val = (y 1).val
  omega

/-- The results are the reference's. -/
theorem eq_dh : Dh m c = Cert.Reference18Ideal.Read.val_main_v36 (F := Ideal) (A0 m c) (A1 m c) (A2 m c) (A3 m c) := funext fun i =>
  congrArg (A0 m c i + ·) ((grad_eq (n := n) (e := e) w2048 eps_pos neg_half (fun k : Fin 2048 => A2 m c (ix2 (i 0) k))
    (fun k => A1 m c (ix2 (i 0) k) * A3 m c (ix1 k)) (i 1)).trans (Cert.Reference17Ideal.Norm.grad _ _ _ i).symm)
theorem eq_gain (dy x : S2048x2048.Idx → EReal) : Dg dy x = Cert.Reference18Ideal.Read.val_main_v37 (F := Ideal) dy x :=
  Cert.Kernel17Ideal.Norm.eq_gain dy x

end Cert.Kernel18Ideal.Norm

namespace Cert.Proof

open Idealize.ShloMosaic Idealize.ShloMosaic.TcCoe Idealize.SL.Sem
open Cert.Kernel18Ideal.Norm Cert.Norm

/-- The two programs end with equal results. -/
theorem algebraic18 : Cert.algebraic_Kernel18Ideal_Reference18Ideal := by
  intro m ρ m' ρ' _ hagree
  refine ⟨fun c => Dh m c, _, (θ_run Cert.Kernel18Ideal.defs _ _).mono (fun _ h c => ⟨((h.1 c).1 4).trans (final4 m c), ((h.1 c).1 5).trans (final5 m c), h.2 c⟩)
    (θ_run_and (Cert.Kernel18Ideal.Gen.run_main m ρ) (Cert.Kernel18Ideal.Gen.unchanged m ρ)), ?_⟩
  refine (θ_run Cert.Reference18Ideal.defs _ _).mono (fun _ h c => ⟨(h c).1.trans ?_, (h c).2.1.trans ?_, (h c).2.2⟩)
    (Cert.Reference18Ideal.Value.run (F := Ideal) m' ρ')
  · rw [Cert.Reference18Ideal.Read.val_main_v36_eq, (hagree c).1, (hagree c).2.1, (hagree c).2.2.1, (hagree c).2.2.2]
    exact (eq_dh m c).symm
  · rw [Cert.Reference18Ideal.Read.val_main_v37_eq, (hagree c).2.1, (hagree c).2.2.1]
    exact (eq_gain _ _).symm

end Cert.Proof

end
-- ==== Proof.Norm.K20.lean ====
/-
  The loss and its gradients: what the kernel leaves in its four results, entry by entry, and that they are the reference's. The
  gradients of the norm and of its gains are those of the kernel of two norms.
-/
module

public import proofs.«01_k».proof.Proof.Norm.K17
public import proofs.«01_k».proof.Proof.Gen.Kernel20Ideal.Frame
public import proofs.«01_k».proof.Proof.Gen.Reference20Ideal.Read

@[expose] public section

set_option maxRecDepth 16384

noncomputable section

namespace Cert.Kernel20Ideal.Norm

open Idealize.ShloMosaic hiding ix1 ix2 ix3 eq_ix2
open Idealize.ShloMosaic.TcCoe Idealize.SL.Sem
open Idealize.ShloMosaic.ValueIdx
open Cert.Kernel20Ideal Cert.Kernel20Ideal.Gen Cert.Norm
open Cert.Kernel17Ideal.Norm (n e grad part Dg)

/-- Every row block is the block of the grid point's number, and there is one block of columns. -/
theorem index : ∀ t : Fin cfg0.N, (win0_0.index t 0 = t.val ∧ win0_0.index t 1 = 0) ∧ (win0_1.index t 0 = t.val ∧ win0_1.index t 1 = 0) ∧ (win0_3.index t 0 = t.val ∧ win0_3.index t 1 = 0)
    ∧ (win0_5.index t 0 = t.val ∧ win0_5.index t 1 = 0) ∧ (win0_6.index t 0 = t.val ∧ win0_6.index t 1 = 0) ∧ win0_2.index t 1 = 0 ∧ win0_7.index t 1 = 0 :=
  (by decide +kernel : ∀ t : Fin grid0.N, _)

/-- One part in 2048, and one half. -/
def w : EReal := Ideal.ofBits .f32 0x3A000000#32
def half : EReal := Ideal.ofBits .f32 0x3F000000#32

/-! ## One grid point -/

section Point

variable (d h t : Vec Ideal S256x2048 .f32) (g a : Vec Ideal S1x2048 .f32) (l : Vec Ideal S1x1 .f32)

/-- An entry of the difference between the output and the target. -/
def delta (y : S256x2048.Idx) : EReal :=
  h y + (d y * rms n e (fun k : Fin 2048 => d (ix2 (y 0) k))) * g (ix2 (0 : Fin 1) (y 1)) - t y

/-- What a block adds to the sum of squares. -/
def squares : EReal := ∑ p : Fin 256, ∑ k : Fin 2048, delta d h t g (ix2 p k) * delta d h t g (ix2 p k)

theorem pay8 (y : S256x2048.Idx) : k0_pay8 (F := Ideal) d g h t y = delta d h t g y := by
  rw [eq_ix2 y]
  refine congrArg (h (ix2 (y 0) (y 1)) + · - t (ix2 (y 0) (y 1))) (congrArg₂ (· * ·)
    (bnorm_apply 0x45000000#32 0x358637BD#32 reduces_S256x2048_S256 shapeCasts_S256_S256x1 broadcasts_S256x1_S256x2048 d (y 0) (y 1)) ?_)
  refine (broadcastTo_1b_ab_apply _ broadcasts_S1x2048_S256x2048 (y 0) (y 1)).trans ?_
  unfold k0_pay7
  rw [shapeCast_self]

theorem pay10 (y : S256x2048.Idx) : k0_pay10 (F := Ideal) d g h t y = delta d h t g y * w := congrArg (· * w) (pay8 d h t g y)

theorem pay3 (y : S256x2048.Idx) : k0_pay3 (F := Ideal) d (k0_pay7 g) h y = grad h d g y := Cert.Kernel17Ideal.Norm.pay4 h d g y
theorem pay4 (y : S1x2048.Idx) : k0_pay4 (F := Ideal) d h a y = a y + part h d y := Cert.Kernel17Ideal.Norm.pay5 h d a y

theorem pay9 (y : S1x1.Idx) : k0_pay9 (F := Ideal) d g h t l y = l y + squares d h t g := by
  have hy : y = ix2 (0 : Fin 1) (0 : Fin 1) := by
    funext a
    match a with
    | ⟨0, _⟩ => exact Subsingleton.elim (α := Fin 1) _ _
    | ⟨1, _⟩ => exact Subsingleton.elim (α := Fin 1) _ _
  have hs : colsum reduces_S256x1_S1 shapeCasts_S1_S1x1 (rowsum reduces_S256x2048_S256 shapeCasts_S256_S256x1 (mulf (k0_pay8 (F := Ideal) d g h t) (k0_pay8 d g h t))) y
      = squares d h t g := by
    rw [hy]
    refine (colsum_apply reduces_S256x1_S1 shapeCasts_S1_S1x1 _ (0 : Fin 1)).trans (Finset.sum_congr rfl fun p _ => ?_)
    refine (rowsum_apply reduces_S256x2048_S256 shapeCasts_S256_S256x1 _ p).trans (Finset.sum_congr rfl fun k _ => ?_)
    exact congrArg₂ (· * ·) (pay8 d h t g (ix2 p k)) (pay8 d h t g (ix2 p k))
  refine Eq.trans ?_ (congrArg (l y + ·) hs)
  unfold k0_pay9
  try dsimp only
  rw [shapeCast_self]
  rfl

theorem pay5 (y : S1x1.Idx) : k0_pay5 (F := Ideal) y = 0 := Ideal.ofBits_zero_f32
theorem pay6 (y : S1x2048.Idx) : k0_pay6 (F := Ideal) y = 0 := Ideal.ofBits_zero_f32

end Point

variable (m : (ℓ : Loc nD τ sig) → Buf (Elt Ideal) ℓ) (c : Dev nD)

/-! ## The arrays -/

/-- The layer's output before its last norm is added, the input of that norm, its gains and the target. -/
def A0 : S2048x2048.Idx → EReal := m ((c : Thread nD τ).loc main_arg0)
def A1 : S2048x2048.Idx → EReal := m ((c : Thread nD τ).loc main_arg1)
def A2 : S2048.Idx → EReal := m ((c : Thread nD τ).loc main_arg2)
def A3 : S2048x2048.Idx → EReal := m ((c : Thread nD τ).loc main_arg3)

/-- The row a row of a block is. -/
def rowOf (t : Fin cfg0.N) (r : Fin 256) : Fin 2048 := ⟨t.val * 256 + r.val, by have := lt_of_lt_of_eq t.isLt N_0; omega⟩

/-- The blocks of the arrays. -/
theorem blk_0 (t : Fin cfg0.N) (r : Fin 256) (k : Fin 2048) : iblk m c 0 t (ix2 r k) = A0 m c (ix2 (rowOf t r) k) := by
  unfold iblk
  rw [View.read_apply]
  exact (congrFun (V_main_arg0 m c) _).trans (congrArg (A0 m c) (at_block _ _ _ (index t).1.1 (index t).1.2 rfl rfl rfl rfl))
theorem blk_1 (t : Fin cfg0.N) (r : Fin 256) (k : Fin 2048) : iblk m c 1 t (ix2 r k) = A1 m c (ix2 (rowOf t r) k) := by
  unfold iblk
  rw [View.read_apply]
  exact (congrFun (V_main_arg1 m c) _).trans (congrArg (A1 m c) (at_block _ _ _ (index t).2.1.1 (index t).2.1.2 rfl rfl rfl rfl))
theorem blk_3 (t : Fin cfg0.N) (r : Fin 256) (k : Fin 2048) : iblk m c 3 t (ix2 r k) = A3 m c (ix2 (rowOf t r) k) := by
  unfold iblk
  rw [View.read_apply]
  exact (congrFun (V_main_arg3 m c) _).trans (congrArg (A3 m c) (at_block _ _ _ (index t).2.2.1.1 (index t).2.2.1.2 rfl rfl rfl rfl))
theorem blk_2 (t : Fin cfg0.N) (k : Fin 2048) : iblk m c 2 t (ix2 (0 : Fin 1) k) = A2 m c (ix1 k) := by
  unfold iblk
  rw [View.read_apply]
  unfold V V0
  simp only [hostOps0, List.flatten_cons, List.flatten_nil, List.append_nil]
  after_results_simp
  exact row_block _ _ _ k (index t).2.2.2.2.2.1 rfl

/-! ## The results -/

/-- The difference between the output and the target; -/
def Df (i : S2048x2048.Idx) : EReal :=
  A0 m c i + (A1 m c i * rms n e (fun k : Fin 2048 => A1 m c (ix2 (i 0) k))) * A2 m c (ix1 (i 1)) - A3 m c i
/-- the gradient of the output; -/
def Dy (i : S2048x2048.Idx) : EReal := Df m c i * w
/-- the gradient of the norm's input; -/
def Dd (i : S2048x2048.Idx) : EReal :=
  kgrad n e (fun k : Fin 2048 => A1 m c (ix2 (i 0) k)) (fun k => Dy m c (ix2 (i 0) k) * A2 m c (ix1 k)) (i 1)
/-- the sum of squares and the loss. -/
def Sq : EReal := ∑ p : Fin 2048, ∑ k : Fin 2048, Df m c (ix2 p k) * Df m c (ix2 p k)
def Loss (i : S_.Idx) : EReal := Ideal.div (half * Sq m c) n

theorem delta_blk (t : Fin cfg0.N) (y : S256x2048.Idx) :
    delta (iblk m c 1 t) (iblk m c 0 t) (iblk m c 3 t) (iblk m c 2 t) y = Df m c (ix2 (rowOf t (y 0)) (y 1)) := by
  rw [eq_ix2 y]
  refine congrArg₂ (· - ·) (congrArg₂ (· + ·) (blk_0 m c t (y 0) (y 1)) ?_) (blk_3 m c t (y 0) (y 1))
  exact congrArg₂ (· * ·) (congrArg₂ (· * ·) (blk_1 m c t (y 0) (y 1)) (congrArg (rms n e) (funext fun k => blk_1 m c t (y 0) k))) (blk_2 m c t (y 1))

theorem dy_blk (t : Fin cfg0.N) (y : S256x2048.Idx) :
    k0_pay10 (iblk m c 1 t) (iblk m c 2 t) (iblk m c 0 t) (iblk m c 3 t) y = Dy m c (ix2 (rowOf t (y 0)) (y 1)) :=
  (pay10 _ _ _ _ y).trans (congrArg (· * w) (delta_blk m c t y))
theorem dy_row (t : Fin cfg0.N) (r : Fin 256) (k : Fin 2048) :
    k0_pay10 (iblk m c 1 t) (iblk m c 2 t) (iblk m c 0 t) (iblk m c 3 t) (ix2 r k) = Dy m c (ix2 (rowOf t r) k) := dy_blk m c t (ix2 r k)

theorem dd_blk (t : Fin cfg0.N) (y : S256x2048.Idx) :
    k0_pay3 (iblk m c 1 t) (k0_pay7 (iblk m c 2 t)) (k0_pay10 (iblk m c 1 t) (iblk m c 2 t) (iblk m c 0 t) (iblk m c 3 t)) y = Dd m c (ix2 (rowOf t (y 0)) (y 1)) := by
  refine (pay3 _ _ _ _).trans ?_
  exact congrArg₂ (fun x w => kgrad n e x w (y 1)) (funext fun k => blk_1 m c t (y 0) k) (funext fun k => congrArg₂ (· * ·) (dy_row m c t (y 0) k) (blk_2 m c t k))

/-- What a point leaves of the gradients of the rows. -/
theorem out5 (t : Fin cfg0.N) : (outsAt0 m c t.val t.isLt).2.1 = k0_pay10 (iblk m c 1 t) (iblk m c 2 t) (iblk m c 0 t) (iblk m c 3 t) := by
  by_cases h : t.val % 8 = 0
  · rw [outsAt0_A m c t h]
    frame_out
  · rw [outsAt0_B m c t h]
    frame_out
theorem out6 (t : Fin cfg0.N) : (outsAt0 m c t.val t.isLt).2.2.1
    = k0_pay3 (iblk m c 1 t) (k0_pay7 (iblk m c 2 t)) (k0_pay10 (iblk m c 1 t) (iblk m c 2 t) (iblk m c 0 t) (iblk m c 3 t)) := by
  by_cases h : t.val % 8 = 0
  · rw [outsAt0_A m c t h]
    frame_out
  · rw [outsAt0_B m c t h]
    frame_out

/-- The sums, when they are written back: the sums of what the eight points add. -/
theorem block4 (t : Fin cfg0.N) (h : t.val % 8 = 7) (y : S1x1.Idx) (hl : ∀ s : Fin 8, 8 * (t.val / 8) + s.val < cfg0.N) :
    (outsAt0 m c t.val t.isLt).1 y = ∑ s : Fin 8, squares (iblk m c 1 ⟨8 * (t.val / 8) + s.val, hl s⟩) (iblk m c 0 ⟨8 * (t.val / 8) + s.val, hl s⟩)
      (iblk m c 3 ⟨8 * (t.val / 8) + s.val, hl s⟩) (iblk m c 2 ⟨8 * (t.val / 8) + s.val, hl s⟩) := by
  refine (Pipeline.eq_sum_fin_of_reset_step_apply_of_flush (fun n h => (outsAt0 m c n h).1) 8 (fun _ => (0 : EReal))
    (fun t y => squares (iblk m c 1 t) (iblk m c 0 t) (iblk m c 3 t) (iblk m c 2 t)) (fun t h y => ?_) (fun t h y => ?_) t h y).trans (zero_add _)
  · try dsimp only
    rw [outsAt0_A m c t h]
    frame_out
    exact (pay9 _ _ _ _ _ y).trans (congrArg (· + _) (pay5 y))
  · try dsimp only
    rw [outsAt0_B m c t (by omega)]
    frame_out
    exact pay9 _ _ _ _ _ y
theorem block7 (t : Fin cfg0.N) (h : t.val % 8 = 7) (y : S1x2048.Idx) (hl : ∀ s : Fin 8, 8 * (t.val / 8) + s.val < cfg0.N) :
    (outsAt0 m c t.val t.isLt).2.2.2 y = ∑ s : Fin 8, part (k0_pay10 (iblk m c 1 ⟨8 * (t.val / 8) + s.val, hl s⟩) (iblk m c 2 ⟨8 * (t.val / 8) + s.val, hl s⟩)
      (iblk m c 0 ⟨8 * (t.val / 8) + s.val, hl s⟩) (iblk m c 3 ⟨8 * (t.val / 8) + s.val, hl s⟩)) (iblk m c 1 ⟨8 * (t.val / 8) + s.val, hl s⟩) y := by
  refine (Pipeline.eq_sum_fin_of_reset_step_apply_of_flush (fun n h => (outsAt0 m c n h).2.2.2) 8 (fun _ => (0 : EReal))
    (fun t y => part (k0_pay10 (iblk m c 1 t) (iblk m c 2 t) (iblk m c 0 t) (iblk m c 3 t)) (iblk m c 1 t) y)
    (fun t h y => ?_) (fun t h y => ?_) t h y).trans (zero_add _)
  · try dsimp only
    rw [outsAt0_A m c t h]
    frame_out
    exact (pay4 _ _ _ y).trans (congrArg (· + _) (pay6 y))
  · try dsimp only
    rw [outsAt0_B m c t (by omega)]
    frame_out
    exact pay4 _ _ _ y

/-- The four result arrays. -/
theorem final4 : (dats m 0 c).arrAt 4 cfg0.N = fun _ => Sq m c := by
  refine (dats m 0 c).arrAt_eq_of_covers 4 _ (by decide +kernel) fun t hf y => ?_
  refine (congrFun (after0_4 m c t) _).trans ?_
  have h7 : t.val % 8 = 7 := (flush0_4 t).mp hf
  have ht : t.val < 8 := lt_of_lt_of_eq t.isLt N_0
  have hl : ∀ s : Fin 8, 8 * (t.val / 8) + s.val < cfg0.N := fun s => lt_of_lt_of_eq (by omega : _ < 8) N_0.symm
  refine (block4 m c t h7 y hl).trans ?_
  show _ = Sq m c
  refine (Finset.sum_congr rfl fun s _ => Finset.sum_congr rfl fun p _ => Finset.sum_congr rfl fun k _ =>
    congrArg₂ (· * ·) (delta_blk m c _ (ix2 p k)) (delta_blk m c _ (ix2 p k))).trans ?_
  unfold Sq
  refine Fin.sum_mul_add_congr (S := 8) (n := 256) fun s p hp => ?_
  have hr : rowOf ⟨8 * (t.val / 8) + s.val, hl s⟩ p = ⟨s.val * 256 + p.val, hp⟩ := Fin.ext (by
    show (8 * (t.val / 8) + s.val) * 256 + p.val = s.val * 256 + p.val
    omega)
  exact congrArg (fun q : Fin 2048 => ∑ k : Fin 2048, Df m c (ix2 q k) * Df m c (ix2 q k)) hr
theorem final5 : (dats m 0 c).arrAt 5 cfg0.N = Dy m c := by
  refine (dats m 0 c).arrAt_eq_of_covers 5 _ (by decide +kernel) fun t hf y => ?_
  refine (congrFun (after0_5 m c t) _).trans ?_
  rw [out5]
  exact (dy_blk m c t y).trans (congrArg (Dy m c) (at_block _ _ _ (index t).2.2.2.1.1 (index t).2.2.2.1.2 rfl rfl rfl rfl).symm)
theorem final6 : (dats m 0 c).arrAt 6 cfg0.N = Dd m c := by
  refine (dats m 0 c).arrAt_eq_of_covers 6 _ (by decide +kernel) fun t hf y => ?_
  refine (congrFun (after0_6 m c t) _).trans ?_
  rw [out6]
  exact (dd_blk m c t y).trans (congrArg (Dd m c) (at_block _ _ _ (index t).2.2.2.2.1.1 (index t).2.2.2.2.1.2 rfl rfl rfl rfl).symm)
theorem final7 : (dats m 0 c).arrAt 7 cfg0.N = Dg (Dy m c) (A1 m c) := by
  refine (dats m 0 c).arrAt_eq_of_covers 7 _ (by decide +kernel) fun t hf y => ?_
  refine (congrFun (after0_7 m c t) _).trans ?_
  have h7 : t.val % 8 = 7 := (flush0_7 t).mp hf
  have ht : t.val < 8 := lt_of_lt_of_eq t.isLt N_0
  have hl : ∀ s : Fin 8, 8 * (t.val / 8) + s.val < cfg0.N := fun s => lt_of_lt_of_eq (by omega : _ < 8) N_0.symm
  refine (block7 m c t h7 y hl).trans (Cert.Kernel17Ideal.Norm.sum_parts (Dy m c) (A1 m c) ⟨t.val, ht⟩ h7 hl
    (fun s => k0_pay10 (iblk m c 1 ⟨8 * (t.val / 8) + s.val, hl s⟩) (iblk m c 2 ⟨8 * (t.val / 8) + s.val, hl s⟩)
      (iblk m c 0 ⟨8 * (t.val / 8) + s.val, hl s⟩) (iblk m c 3 ⟨8 * (t.val / 8) + s.val, hl s⟩)) (fun s => iblk m c 1 ⟨8 * (t.val / 8) + s.val, hl s⟩)
    (fun s r k => dy_row m c _ r k) (fun s r k => blk_1 m c _ r k) y _ ?_)
  have e := index t
  show win0_7.index t 1 * 2048 + 1 * (y 1).val = (y 1).val
  omega

/-- What the lines after the call make of the sum of squares. -/
theorem loss : Pipeline.afterTail₀ cfgs (dats m) 0 (V0 m) [hostOps1] c main_v4 = Loss m c := by
  unfold Pipeline.afterTail₀
  have h4 := Pipeline.withArrays_arr spec0 (by decide) c (V0 m c) (fun w => (dats m 0 c).arrAt w cfg0.N) 4
  rw [final4] at h4
  show StableHlo.after hostOps1 _ (Proc.devRef .tc main_v4) = _
  simp only [hostOps1]
  after_results_simp
  funext i
  exact congrArg (fun f : S1x1.Idx → EReal => Ideal.div (half * shapeCast S_ f shapeCasts_S1x1_S_ i) n) h4

/-! ## The reference's results -/

section Reference

open Cert.Reference20Ideal.Read

/-- The difference. -/
theorem eq_df : Df m c = val_main_v17 (F := Ideal) (A0 m c) (A1 m c) (A2 m c) (A3 m c) := funext fun i => by
  rw [eq_ix2 i]
  refine congrArg (A0 m c (ix2 (i 0) (i 1)) + · - A3 m c (ix2 (i 0) (i 1))) (congrArg₂ (· * ·) (congrArg (A1 m c (ix2 (i 0) (i 1)) * ·) ?_) ?_)
  · exact ((cols_of_apply Cert.Reference20Ideal.Gen.bcast_S2048x1_S2048x2048_0_1 (val_main_v7 (F := Ideal) (A1 m c)) (i 0) (i 1)).trans
      (hbrms_apply 0x45000000#32 0x358637BD#32 Cert.Reference20Ideal.Gen.bcast_S2048_S2048x1_0 Cert.Reference20Ideal.Gen.bcast_S_S2048x1
        Cert.Reference20Ideal.Gen.reducesTo_S2048x2048_S2048_d1 Cert.Reference20Ideal.Gen.h_S_ (A1 m c) (i 0))).symm
  · exact ((rows_of_apply _ _ (i 0) (i 1)).trans (asRow_apply _ _ _ (i 1))).symm

/-- The constants. -/
theorem n_eq : n = ((2048 : ℝ) : EReal) := by
  simp only [n, Ideal.ofBits, Ideal.ieee]
  simp
  rw [← EReal.coe_mul]
  norm_num
theorem scale : Ideal.div (half * Ideal.ofBits .f32 0x3F800000#32) n * Ideal.ofBits .f32 0x40000000#32 = w := by
  have h1 : half = ((1/2 : ℝ) : EReal) := by
    simp only [half, Ideal.ofBits, Ideal.ieee]
    simp
    rw [← EReal.coe_mul]
    norm_num
  have h2 : Ideal.ofBits .f32 0x3F800000#32 = ((1 : ℝ) : EReal) := by
    simp only [Ideal.ofBits, Ideal.ieee]
    simp
    rw [← EReal.coe_mul]
    norm_num
  have h3 : Ideal.ofBits .f32 0x40000000#32 = ((2 : ℝ) : EReal) := by
    simp only [Ideal.ofBits, Ideal.ieee]
    simp
    rw [← EReal.coe_mul]
    norm_num
  have h4 : w = ((1/2048 : ℝ) : EReal) := by
    simp only [w, Ideal.ofBits, Ideal.ieee]
    simp
    rw [← EReal.coe_mul]
    norm_num
  rw [h1, h2, h3, h4, n_eq, ← EReal.coe_mul, div_real _ (by norm_num), ← EReal.coe_mul]
  norm_num

/-- The gradients: of the output, -/
theorem eq_dy : Dy m c = val_main_v31 (F := Ideal) (A0 m c) (A1 m c) (A2 m c) (A3 m c) := funext fun i => by
  have h30 : val_main_v30 (F := Ideal) i = Ideal.div (half * Ideal.ofBits .f32 0x3F800000#32) n := by
    rw [val_main_v30_apply, val_main_v29_apply, val_main_v28_apply, val_main_v27_apply]
    rfl
  have h19 : val_main_v19 (F := Ideal) i = Ideal.ofBits .f32 0x40000000#32 := by
    rw [val_main_v19_apply]
    rfl
  have h : val_main_v31 (F := Ideal) (A0 m c) (A1 m c) (A2 m c) (A3 m c) i
      = val_main_v30 (F := Ideal) i * (val_main_v19 (F := Ideal) i * val_main_v17 (F := Ideal) (A0 m c) (A1 m c) (A2 m c) (A3 m c) i) := rfl
  rw [h, h30, h19, ← eq_df, ← mul_assoc, scale, mul_comm]
  rfl

/-- of the norm's input and of its gains. -/
theorem eq_dd : Dd m c = val_main_v52 (F := Ideal) (A0 m c) (A1 m c) (A2 m c) (A3 m c) := funext fun i => by
  refine (grad_eq (n := n) (e := e) w2048 eps_pos neg_half (fun k : Fin 2048 => A1 m c (ix2 (i 0) k)) (fun k => Dy m c (ix2 (i 0) k) * A2 m c (ix1 k)) (i 1)).trans ?_
  refine (Cert.Reference17Ideal.Norm.grad (Dy m c) (A1 m c) (A2 m c) i).symm.trans ?_
  rw [eq_dy]
  rfl
theorem eq_dg : Dg (Dy m c) (A1 m c) = val_main_v53 (F := Ideal) (A0 m c) (A1 m c) (A2 m c) (A3 m c) := by
  rw [Cert.Kernel17Ideal.Norm.eq_gain, eq_dy]
  rfl

/-- The loss: the reference divides each row's sum. -/
theorem eq_loss : Loss m c = val_main_v25 (F := Ideal) (A0 m c) (A1 m c) (A2 m c) (A3 m c) := funext fun i => by
  have h23 : ∀ p : Fin 2048, val_main_v23 (F := Ideal) (A0 m c) (A1 m c) (A2 m c) (A3 m c) (ix1 p)
      = (∑ k : Fin 2048, Df m c (ix2 p k) * Df m c (ix2 p k)) * ((1 / 2048 : ℝ) : EReal) := fun p => by
    refine Eq.trans ?_ (Ideal.div_coe (by norm_num : (2048 : ℝ) ≠ 0) _)
    refine congrArg₂ Ideal.div ?_ n_eq
    rw [eq_df]
    exact hrow_apply Cert.Reference20Ideal.Gen.reducesTo_S2048x2048_S2048_d1 Cert.Reference20Ideal.Gen.h_S_ (val_main_v18 (F := Ideal) (A0 m c) (A1 m c) (A2 m c) (A3 m c)) p
  have h24 : val_main_v24 (F := Ideal) (A0 m c) (A1 m c) (A2 m c) (A3 m c) i = Sq m c * ((1 / 2048 : ℝ) : EReal) := by
    rw [val_main_v24_apply]
    refine (congrArg (· + _) Ideal.ofBits_zero_f32).trans ((zero_add _).trans ?_)
    refine (sum_idx1 (n0 := 2048) _).trans ((Finset.sum_congr rfl fun p _ => h23 p).trans ?_)
    exact sum_mul_coe (by norm_num) _
  have h : val_main_v25 (F := Ideal) (A0 m c) (A1 m c) (A2 m c) (A3 m c) i = half * val_main_v24 (F := Ideal) (A0 m c) (A1 m c) (A2 m c) (A3 m c) i := rfl
  rw [h, h24, ← mul_assoc]
  unfold Loss
  rw [n_eq]
  exact (Ideal.div_coe (by norm_num : (2048 : ℝ) ≠ 0) _)

end Reference

end Cert.Kernel20Ideal.Norm

namespace Cert.Proof

open Idealize.ShloMosaic Idealize.ShloMosaic.TcCoe Idealize.SL.Sem
open Cert.Kernel20Ideal.Norm Cert.Norm

/-- The two programs end with equal results. -/
theorem algebraic20 : Cert.algebraic_Kernel20Ideal_Reference20Ideal := by
  intro m ρ m' ρ' _ hagree
  refine ⟨fun c => Loss m c, _, _, _, (θ_run Cert.Kernel20Ideal.defs _ _).mono (fun _ h c =>
      ⟨((h.1 c).2 Cert.Kernel20Ideal.main_v4 (Pipeline.mem_restRefs_of Cert.Kernel20Ideal.main_v4 (by decide) (by decide))).trans (loss m c),
        ((h.1 c).1 5).trans (final5 m c), ((h.1 c).1 6).trans (final6 m c), ((h.1 c).1 7).trans (final7 m c), h.2 c⟩)
    (θ_run_and (Cert.Kernel20Ideal.Gen.run_main m ρ) (Cert.Kernel20Ideal.Gen.unchanged m ρ)), ?_⟩
  refine (θ_run Cert.Reference20Ideal.defs _ _).mono (fun _ h c => ⟨(h c).1.trans ?_, (h c).2.1.trans ?_, (h c).2.2.1.trans ?_, (h c).2.2.2.1.trans ?_, (h c).2.2.2.2⟩)
    (Cert.Reference20Ideal.Value.run (F := Ideal) m' ρ')
  · rw [Cert.Reference20Ideal.Read.val_main_v25_eq, (hagree c).1, (hagree c).2.1, (hagree c).2.2.1, (hagree c).2.2.2]
    exact (eq_loss m c).symm
  · rw [Cert.Reference20Ideal.Read.val_main_v31_eq, (hagree c).1, (hagree c).2.1, (hagree c).2.2.1, (hagree c).2.2.2]
    exact (eq_dy m c).symm
  · rw [Cert.Reference20Ideal.Read.val_main_v52_eq, (hagree c).1, (hagree c).2.1, (hagree c).2.2.1, (hagree c).2.2.2]
    exact (eq_dd m c).symm
  · rw [Cert.Reference20Ideal.Read.val_main_v53_eq, (hagree c).1, (hagree c).2.1, (hagree c).2.2.1, (hagree c).2.2.2]
    exact (eq_dg m c).symm

end Cert.Proof

end
-- ==== Proof.Norm.K21.lean ====
/-
  The forward pass of a norm: what the kernel leaves, entry by entry, and that it is the reference's.
-/
module

public import proofs.«01_k».proof.Proof.Norm.K17
public import proofs.«01_k».proof.Proof.Gen.Kernel21Ideal.Frame
public import proofs.«01_k».proof.Proof.Gen.Reference21Ideal.Read

@[expose] public section

set_option maxRecDepth 16384

noncomputable section

namespace Cert.Kernel21Ideal.Norm

open Idealize.ShloMosaic hiding ix1 ix2 ix3 eq_ix2
open Idealize.ShloMosaic.TcCoe Idealize.SL.Sem
open Idealize.ShloMosaic.ValueIdx
open Cert.Kernel21Ideal Cert.Kernel21Ideal.Gen Cert.Norm
open Cert.Kernel17Ideal.Norm (n e)

/-- The rows of an array, each divided by its root mean square and multiplied by the gains. -/
def norm (x : S2048x2048.Idx → EReal) (g : S2048.Idx → EReal) (i : S2048x2048.Idx) : EReal :=
  x i * rms n e (fun k : Fin 2048 => x (ix2 (i 0) k)) * g (ix1 (i 1))

/-- A block of rows is normalised like the array. -/
theorem pay (x : Vec Ideal S256x2048 .f32) (g : Vec Ideal S1x2048 .f32) (y : S256x2048.Idx) :
    k0_pay1 (F := Ideal) x g y = x y * rms n e (fun k : Fin 2048 => x (ix2 (y 0) k)) * g (ix2 (0 : Fin 1) (y 1)) := by
  rw [eq_ix2 y]
  refine congrArg₂ (· * ·) (bnorm_apply 0x45000000#32 0x358637BD#32 reduces_S256x2048_S256 shapeCasts_S256_S256x1 broadcasts_S256x1_S256x2048 x (y 0) (y 1)) ?_
  refine (broadcastTo_1b_ab_apply _ broadcasts_S1x2048_S256x2048 (y 0) (y 1)).trans ?_
  rw [shapeCast_self]

theorem pay_of (a : S2048x2048.Idx → EReal) (b : S2048.Idx → EReal) (x : Vec Ideal S256x2048 .f32) (g : Vec Ideal S1x2048 .f32) (y : S256x2048.Idx) (i : Fin 2048)
    (hx : ∀ k, x (ix2 (y 0) k) = a (ix2 i k)) (hg : ∀ k, g (ix2 (0 : Fin 1) k) = b (ix1 k)) : k0_pay1 (F := Ideal) x g y = norm a b (ix2 i (y 1)) :=
  (pay x g y).trans (congrArg₂ (· * ·) (congrArg₂ (· * ·) ((congrArg x (eq_ix2 y)).trans (hx (y 1))) (congrArg (rms n e) (funext hx))) (hg (y 1)))

/-- The reference's norm. -/
theorem reference (x : S2048x2048.Idx → EReal) (g : S2048.Idx → EReal) : Cert.Reference21Ideal.Read.val_main_v12 (F := Ideal) x g = norm x g := funext fun i => by
  rw [eq_ix2 i]
  refine congrArg₂ (· * ·) (congrArg (x (ix2 (i 0) (i 1)) * ·) ((cols_of_apply _ _ (i 0) (i 1)).trans (hbrms_apply 0x45000000#32 0x358637BD#32 _ _ _ _ x (i 0))))
    ((rows_of_apply _ _ (i 0) (i 1)).trans (asRow_apply _ _ _ (i 1)))

/-- The row a row of a block is. -/
def rowOf (t : Fin cfg0.N) (r : Fin 256) : Fin 2048 := ⟨t.val * 256 + r.val, by have := lt_of_lt_of_eq t.isLt N_0; omega⟩

theorem index : ∀ t : Fin cfg0.N, (win0_0.index t 0 = t.val ∧ win0_0.index t 1 = 0) ∧ (win0_2.index t 0 = t.val ∧ win0_2.index t 1 = 0) ∧ win0_1.index t 1 = 0 :=
  (by decide +kernel : ∀ t : Fin grid0.N, _)

variable (m : (ℓ : Loc nD τ sig) → Buf (Elt Ideal) ℓ) (c : Dev nD)

/-- The rows and the gains. -/
def A0 : S2048x2048.Idx → EReal := m ((c : Thread nD τ).loc main_arg0)
def A1 : S2048.Idx → EReal := m ((c : Thread nD τ).loc main_arg1)

theorem blk_0 (t : Fin cfg0.N) (r : Fin 256) (k : Fin 2048) : iblk m c 0 t (ix2 r k) = A0 m c (ix2 (rowOf t r) k) := by
  unfold iblk
  rw [View.read_apply]
  exact (congrFun (V_main_arg0 m c) _).trans (congrArg (A0 m c) (at_block _ _ _ (index t).1.1 (index t).1.2 rfl rfl rfl rfl))
theorem blk_1 (t : Fin cfg0.N) (k : Fin 2048) : iblk m c 1 t (ix2 (0 : Fin 1) k) = A1 m c (ix1 k) := by
  unfold iblk
  rw [View.read_apply]
  unfold V
  simp only [hostOps0]
  after_results_simp
  exact row_block _ _ _ k (index t).2.2 rfl

/-- The result array. -/
theorem final : (dats m 0 c).arrAt 2 cfg0.N = norm (A0 m c) (A1 m c) := by
  refine (dats m 0 c).arrAt_eq_of_covers 2 _ (by decide +kernel) fun t hf (y : S256x2048.Idx) => ?_
  refine (congrFun (after0_2 m c t) _).trans ?_
  unfold out0_2
  frame_out
  exact (pay_of (A0 m c) (A1 m c) _ _ y (rowOf t (y 0)) (blk_0 m c t (y 0)) (blk_1 m c t)).trans (congrArg (norm (A0 m c) (A1 m c)) (at_block _ _ _ (index t).2.1.1 (index t).2.1.2 rfl rfl rfl rfl).symm)

end Cert.Kernel21Ideal.Norm

namespace Cert.Proof

open Idealize.ShloMosaic Idealize.ShloMosaic.TcCoe Idealize.SL.Sem
open Cert.Kernel21Ideal.Norm

/-- The two programs end with equal results. -/
theorem algebraic21 : Cert.algebraic_Kernel21Ideal_Reference21Ideal := by
  intro m ρ m' ρ' _ hagree
  refine ⟨fun c => norm (A0 m c) (A1 m c), (θ_run Cert.Kernel21Ideal.defs _ _).mono (fun _ h c => ⟨((h.1 c).1 2).trans (final m c), h.2 c⟩)
    (θ_run_and (Cert.Kernel21Ideal.Gen.run_main m ρ) (Cert.Kernel21Ideal.Gen.unchanged m ρ)), ?_⟩
  refine (θ_run Cert.Reference21Ideal.defs _ _).mono (fun _ h c => ⟨(h c).1.trans ?_, (h c).2⟩) (Cert.Reference21Ideal.Value.run (F := Ideal) m' ρ')
  rw [Cert.Reference21Ideal.Read.val_main_v13_eq, (hagree c).1, (hagree c).2]
  exact reference _ _

end Cert.Proof

end
-- ==== Proof.Norm.K22.lean ====
/-
  A norm added to its branch's input, and the norm of the sum: what the kernel leaves in its two results, entry by entry, and that
  they are the reference's.
-/
module

public import proofs.«01_k».proof.Proof.Norm.K21
public import proofs.«01_k».proof.Proof.Gen.Kernel22Ideal.Frame
public import proofs.«01_k».proof.Proof.Gen.Reference22Ideal.Read

@[expose] public section

set_option maxRecDepth 16384

noncomputable section

namespace Cert.Kernel22Ideal.Norm

open Idealize.ShloMosaic hiding ix1 ix2 ix3 eq_ix2
open Idealize.ShloMosaic.TcCoe Idealize.SL.Sem
open Idealize.ShloMosaic.ValueIdx
open Cert.Kernel22Ideal Cert.Kernel22Ideal.Gen Cert.Norm
open Cert.Kernel21Ideal.Norm (norm pay_of)

/-- The row a row of a block is. -/
def rowOf (t : Fin cfg0.N) (r : Fin 256) : Fin 2048 := ⟨t.val * 256 + r.val, by have := lt_of_lt_of_eq t.isLt N_0; omega⟩

theorem index : ∀ t : Fin cfg0.N, (win0_0.index t 0 = t.val ∧ win0_0.index t 1 = 0) ∧ (win0_1.index t 0 = t.val ∧ win0_1.index t 1 = 0)
    ∧ (win0_4.index t 0 = t.val ∧ win0_4.index t 1 = 0) ∧ (win0_5.index t 0 = t.val ∧ win0_5.index t 1 = 0) ∧ win0_2.index t 1 = 0 ∧ win0_3.index t 1 = 0 :=
  (by decide +kernel : ∀ t : Fin grid0.N, _)

variable (m : (ℓ : Loc nD τ sig) → Buf (Elt Ideal) ℓ) (c : Dev nD)

/-- The branch's input, its output, and the gains of the two norms. -/
def A0 : S2048x2048.Idx → EReal := m ((c : Thread nD τ).loc main_arg0)
def A1 : S2048x2048.Idx → EReal := m ((c : Thread nD τ).loc main_arg1)
def A2 : S2048.Idx → EReal := m ((c : Thread nD τ).loc main_arg2)
def A3 : S2048.Idx → EReal := m ((c : Thread nD τ).loc main_arg3)

theorem blk_0 (t : Fin cfg0.N) (r : Fin 256) (k : Fin 2048) : iblk m c 0 t (ix2 r k) = A0 m c (ix2 (rowOf t r) k) := by
  unfold iblk
  rw [View.read_apply]
  exact (congrFun (V_main_arg0 m c) _).trans (congrArg (A0 m c) (at_block _ _ _ (index t).1.1 (index t).1.2 rfl rfl rfl rfl))
theorem blk_1 (t : Fin cfg0.N) (r : Fin 256) (k : Fin 2048) : iblk m c 1 t (ix2 r k) = A1 m c (ix2 (rowOf t r) k) := by
  unfold iblk
  rw [View.read_apply]
  exact (congrFun (V_main_arg1 m c) _).trans (congrArg (A1 m c) (at_block _ _ _ (index t).2.1.1 (index t).2.1.2 rfl rfl rfl rfl))
theorem blk_2 (t : Fin cfg0.N) (k : Fin 2048) : iblk m c 2 t (ix2 (0 : Fin 1) k) = A2 m c (ix1 k) := by
  unfold iblk
  rw [View.read_apply]
  unfold V
  simp only [hostOps0]
  after_results_simp
  exact row_block _ _ _ k (index t).2.2.2.2.1 rfl
theorem blk_3 (t : Fin cfg0.N) (k : Fin 2048) : iblk m c 3 t (ix2 (0 : Fin 1) k) = A3 m c (ix1 k) := by
  unfold iblk
  rw [View.read_apply]
  unfold V
  simp only [hostOps0]
  after_results_simp
  exact row_block _ _ _ k (index t).2.2.2.2.2 rfl

/-- The sum of the branch's input and the norm of its output, -/
def H (i : S2048x2048.Idx) : EReal := A0 m c i + norm (A1 m c) (A2 m c) i

theorem sum_blk (t : Fin cfg0.N) (y : S256x2048.Idx) : k0_pay1 (F := Ideal) (iblk m c 1 t) (iblk m c 0 t) (iblk m c 2 t) y = H m c (ix2 (rowOf t (y 0)) (y 1)) :=
  congrArg₂ (· + ·) ((congrArg (iblk m c 0 t) (eq_ix2 y)).trans (blk_0 m c t (y 0) (y 1)))
    (pay_of (A1 m c) (A2 m c) (iblk m c 1 t) (iblk m c 2 t) y (rowOf t (y 0)) (blk_1 m c t (y 0)) (blk_2 m c t))

/-- and its norm. -/
theorem norm_blk (t : Fin cfg0.N) (y : S256x2048.Idx) :
    k0_pay2 (F := Ideal) (iblk m c 1 t) (iblk m c 0 t) (iblk m c 2 t) (iblk m c 3 t) y = norm (H m c) (A3 m c) (ix2 (rowOf t (y 0)) (y 1)) :=
  pay_of (H m c) (A3 m c) (k0_pay1 (iblk m c 1 t) (iblk m c 0 t) (iblk m c 2 t)) (iblk m c 3 t) y (rowOf t (y 0)) (fun k => sum_blk m c t (ix2 (y 0) k)) (blk_3 m c t)

/-- The two result arrays. -/
theorem final4 : (dats m 0 c).arrAt 4 cfg0.N = H m c := by
  refine (dats m 0 c).arrAt_eq_of_covers 4 _ (by decide +kernel) fun t hf (y : S256x2048.Idx) => ?_
  refine (congrFun (after0_4 m c t) _).trans ?_
  unfold out0_4
  frame_out
  exact (sum_blk m c t y).trans (congrArg (H m c) (at_block _ _ _ (index t).2.2.1.1 (index t).2.2.1.2 rfl rfl rfl rfl).symm)
theorem final5 : (dats m 0 c).arrAt 5 cfg0.N = norm (H m c) (A3 m c) := by
  refine (dats m 0 c).arrAt_eq_of_covers 5 _ (by decide +kernel) fun t hf (y : S256x2048.Idx) => ?_
  refine (congrFun (after0_5 m c t) _).trans ?_
  unfold out0_5
  frame_out
  exact (norm_blk m c t y).trans (congrArg (norm (H m c) (A3 m c)) (at_block _ _ _ (index t).2.2.2.1.1 (index t).2.2.2.1.2 rfl rfl rfl rfl).symm)

/-- The reference's results are the same. -/
theorem reference (h o : S2048x2048.Idx → EReal) (g : S2048.Idx → EReal) :
    Cert.Reference22Ideal.Read.val_main_v13 (F := Ideal) h o g = fun i => h i + norm o g i := funext fun i =>
  congrArg (h i + ·) (congrFun (Cert.Kernel21Ideal.Norm.reference o g) i)

end Cert.Kernel22Ideal.Norm

namespace Cert.Proof

open Idealize.ShloMosaic Idealize.ShloMosaic.TcCoe Idealize.SL.Sem
open Cert.Kernel22Ideal.Norm

/-- The two programs end with equal results. -/
theorem algebraic22 : Cert.algebraic_Kernel22Ideal_Reference22Ideal := by
  intro m ρ m' ρ' _ hagree
  refine ⟨fun c => H m c, fun c => Cert.Kernel21Ideal.Norm.norm (H m c) (A3 m c), (θ_run Cert.Kernel22Ideal.defs _ _).mono
      (fun _ h c => ⟨((h.1 c).1 4).trans (final4 m c), ((h.1 c).1 5).trans (final5 m c), h.2 c⟩)
    (θ_run_and (Cert.Kernel22Ideal.Gen.run_main m ρ) (Cert.Kernel22Ideal.Gen.unchanged m ρ)), ?_⟩
  refine (θ_run Cert.Reference22Ideal.defs _ _).mono (fun _ h c => ⟨(h c).1.trans ?_, (h c).2.1.trans ?_, (h c).2.2⟩)
    (Cert.Reference22Ideal.Value.run (F := Ideal) m' ρ')
  · rw [Cert.Reference22Ideal.Read.val_main_v13_eq, (hagree c).1, (hagree c).2.1, (hagree c).2.2.1]
    exact reference _ _ _
  · rw [Cert.Reference22Ideal.Read.val_main_v27_eq, (hagree c).1, (hagree c).2.1, (hagree c).2.2.1, (hagree c).2.2.2]
    exact (Cert.Kernel21Ideal.Norm.reference _ _).trans (congrArg (Cert.Kernel21Ideal.Norm.norm · _) (reference _ _ _))

end Cert.Proof

end
-- ==== Proof.Norm.K23.lean ====
/-
  The norms of the three groups of columns: the kernel leaves each group's block in its columns of the result, and the result is the
  reference's three norms side by side.
-/
module

public import Idealize.ShloMosaic.Lib.Pipeline.ValueKit.Tiles
public import proofs.«01_k».proof.Proof.Norm.K17
public import proofs.«01_k».proof.Proof.Gen.Kernel23Ideal.Frame
public import proofs.«01_k».proof.Proof.Gen.Reference23Ideal.Read

@[expose] public section

set_option maxRecDepth 16384

noncomputable section

namespace Cert.Kernel23Ideal.Norm

open Idealize.ShloMosaic hiding ix1 ix2 ix3 eq_ix2
open Idealize.ShloMosaic.TcCoe Idealize.SL.Sem
open Idealize.ShloMosaic.ValueIdx
open Cert.Kernel23Ideal Cert.Kernel23Ideal.Gen Cert.Norm
open Cert.Reference23Ideal.Read (val_main_v12 val_main_v25 val_main_v38 val_main_v39 val_main_v40)

/-- An entry of the norm of a group `C` columns wide; `n` is the width as a constant of the program. -/
def norm {R C : ℕ} (n : BitVec 32) (x : (⟨2, ![R, C]⟩ : Shape).Idx → EReal) (g : Fin C → EReal) (p : Fin R) (k : Fin C) : EReal :=
  x (ix2 p k) * rms (Ideal.ofBits .f32 n) (Ideal.ofBits .f32 0x358637BD#32) (fun k => x (ix2 p k)) * g k

/-- A block of rows of a group is normalised like the group. -/
theorem block_of {R S C : ℕ} (n : BitVec 32) (x : (⟨2, ![R, C]⟩ : Shape).Idx → EReal) (a : (⟨2, ![S, C]⟩ : Shape).Idx → EReal) (g b : Fin C → EReal)
    (p : Fin R) (i : Fin S) (k : Fin C) (hx : ∀ k, x (ix2 p k) = a (ix2 i k)) (hg : ∀ k, g k = b k) : norm n x g p k = norm n a b i k := by
  unfold norm
  rw [hx, hg]
  exact congrArg (a (ix2 i k) * rms _ _ · * b k) (funext hx)

/-- The payloads. -/
theorem pay {C : ℕ} (n : BitVec 32) (hr : (⟨2, ![256, C]⟩ : Shape).Reduces [1] ⟨1, ![256]⟩) (hc : (⟨1, ![256]⟩ : Shape).ShapeCasts ⟨2, ![256, 1]⟩)
    (hb : (⟨2, ![256, 1]⟩ : Shape).Broadcasts ⟨2, ![256, C]⟩) (hg : (⟨2, ![1, C]⟩ : Shape).Broadcasts ⟨2, ![256, C]⟩) (h1 : (⟨2, ![1, C]⟩ : Shape).ShapeCasts ⟨2, ![1, C]⟩)
    (x : FVec Ideal ⟨2, ![256, C]⟩ .f32) (g : FVec Ideal ⟨2, ![1, C]⟩ .f32) (p : Fin 256) (k : Fin C) :
    mulf (bnorm n 0x358637BD#32 hr hc hb x) (broadcastTo ⟨2, ![256, C]⟩ (shapeCast ⟨2, ![1, C]⟩ g h1) hg) (ix2 p k) = norm n x (fun k => g (ix2 (0 : Fin 1) k)) p k := by
  refine congrArg₂ (· * ·) (bnorm_apply n 0x358637BD#32 hr hc hb x p k) ((broadcastTo_1b_ab_apply _ hg p k).trans ?_)
  rw [shapeCast_self]
theorem pay2 (x : Vec Ideal S256x1024 .f32) (g : Vec Ideal S1x1024 .f32) (p : Fin 256) (k : Fin 1024) :
    k0_pay2 (F := Ideal) x g (ix2 p k) = norm 0x44800000#32 x (fun k => g (ix2 (0 : Fin 1) k)) p k :=
  pay 0x44800000#32 reduces_S256x1024_S256 shapeCasts_S256_S256x1 broadcasts_S256x1_S256x1024 broadcasts_S1x1024_S256x1024 shapeCasts_S1x1024_S1x1024 x g p k
theorem pay3 (x : Vec Ideal S256x512 .f32) (g : Vec Ideal S1x512 .f32) (p : Fin 256) (k : Fin 512) :
    k0_pay3 (F := Ideal) x g (ix2 p k) = norm 0x44000000#32 x (fun k => g (ix2 (0 : Fin 1) k)) p k :=
  pay 0x44000000#32 reduces_S256x512_S256 shapeCasts_S256_S256x1 broadcasts_S256x1_S256x512 broadcasts_S1x512_S256x512 shapeCasts_S1x512_S1x512 x g p k
theorem pay1 (x : Vec Ideal S256x512 .f32) (g : Vec Ideal S1x512 .f32) : k0_pay1 (F := Ideal) x (k0_pay4 x) g = k0_pay3 x g := rfl

/-- The reference's norms. -/
theorem reference_a (x : S2048x1024.Idx → EReal) (g : S1024.Idx → EReal) (p : Fin 2048) (k : Fin 1024) :
    val_main_v12 (F := Ideal) x g (ix2 p k) = norm 0x44800000#32 x (fun k => g (ix1 k)) p k :=
  congrArg₂ (· * ·) (congrArg (x (ix2 p k) * ·) ((cols_of_apply _ _ p k).trans (hbrms_apply 0x44800000#32 0x358637BD#32 _ _ _ _ x p)))
    ((rows_of_apply _ _ p k).trans (asRow_apply _ _ _ k))
theorem reference_c (x : S2048x512.Idx → EReal) (g : S512.Idx → EReal) (p : Fin 2048) (k : Fin 512) :
    val_main_v25 (F := Ideal) x g (ix2 p k) = norm 0x44000000#32 x (fun k => g (ix1 k)) p k :=
  congrArg₂ (· * ·) (congrArg (x (ix2 p k) * ·) ((cols_of_apply _ _ p k).trans (hbrms_apply 0x44000000#32 0x358637BD#32 _ _ _ _ x p)))
    ((rows_of_apply _ _ p k).trans (asRow_apply _ _ _ k))
theorem reference_l : val_main_v38 (F := Ideal) = val_main_v25 (F := Ideal) := rfl

/-- The row a row of a block is. -/
def rowOf (t : Fin cfg0.N) (r : Fin 256) : Fin 2048 := ⟨t.val * 256 + r.val, by have := lt_of_lt_of_eq t.isLt N_0; omega⟩

theorem index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_6.index t 0 = t.val ∧ win0_6.index t 1 = 0) ∧ win0_3.index t 1 = 0 ∧ win0_4.index t 1 = 0 ∧ win0_5.index t 1 = 0 :=
  (by decide +kernel : ∀ t : Fin grid0.N, _)

variable (m : (ℓ : Loc nD τ sig) → Buf (Elt Ideal) ℓ) (c : Dev nD)

/-- The three groups and their gains. -/
def A0 : S2048x1024.Idx → EReal := m ((c : Thread nD τ).loc main_arg0)
def A1 : S2048x512.Idx → EReal := m ((c : Thread nD τ).loc main_arg1)
def A2 : S2048x512.Idx → EReal := m ((c : Thread nD τ).loc main_arg2)
def A3 : S1024.Idx → EReal := m ((c : Thread nD τ).loc main_arg3)
def A4 : S512.Idx → EReal := m ((c : Thread nD τ).loc main_arg4)
def A5 : S512.Idx → EReal := m ((c : Thread nD τ).loc main_arg5)

theorem blk_0 (t : Fin cfg0.N) (r : Fin 256) (k : Fin 1024) : iblk m c 0 t (ix2 r k) = A0 m c (ix2 (rowOf t r) k) := by
  unfold iblk
  rw [View.read_apply]
  exact (congrFun (V_main_arg0 m c) _).trans (congrArg (A0 m c) (at_block _ _ _ (index t).1.1 (index t).1.2 rfl rfl rfl rfl))
theorem blk_1 (t : Fin cfg0.N) (r : Fin 256) (k : Fin 512) : iblk m c 1 t (ix2 r k) = A1 m c (ix2 (rowOf t r) k) := by
  unfold iblk
  rw [View.read_apply]
  exact (congrFun (V_main_arg1 m c) _).trans (congrArg (A1 m c) (at_block _ _ _ (index t).2.1.1 (index t).2.1.2 rfl rfl rfl rfl))
theorem blk_2 (t : Fin cfg0.N) (r : Fin 256) (k : Fin 512) : iblk m c 2 t (ix2 r k) = A2 m c (ix2 (rowOf t r) k) := by
  unfold iblk
  rw [View.read_apply]
  exact (congrFun (V_main_arg2 m c) _).trans (congrArg (A2 m c) (at_block _ _ _ (index t).2.2.1.1 (index t).2.2.1.2 rfl rfl rfl rfl))
theorem blk_3 (t : Fin cfg0.N) (k : Fin 1024) : iblk m c 3 t (ix2 (0 : Fin 1) k) = A3 m c (ix1 k) := by
  unfold iblk
  rw [View.read_apply]
  unfold V
  simp only [hostOps0]
  after_results_simp
  exact row_block _ _ _ k (index t).2.2.2.2.1 rfl
theorem blk_4 (t : Fin cfg0.N) (k : Fin 512) : iblk m c 4 t (ix2 (0 : Fin 1) k) = A4 m c (ix1 k) := by
  unfold iblk
  rw [View.read_apply]
  unfold V
  simp only [hostOps0]
  after_results_simp
  exact row_block _ _ _ k (index t).2.2.2.2.2.1 rfl
theorem blk_5 (t : Fin cfg0.N) (k : Fin 512) : iblk m c 5 t (ix2 (0 : Fin 1) k) = A5 m c (ix1 k) := by
  unfold iblk
  rw [View.read_apply]
  unfold V
  simp only [hostOps0]
  after_results_simp
  exact row_block _ _ _ k (index t).2.2.2.2.2.2 rfl

/-- The reference's result. -/
def Res : S2048x2048.Idx → EReal := val_main_v40 (F := Ideal) (A0 m c) (A1 m c) (A2 m c) (A3 m c) (A4 m c) (A5 m c)

/-- Its columns are the columns of the three norms. -/
theorem side {α : Type} {C : ℕ} (L : List ((s : Shape) × (s.Idx → α))) (h : Shape.Concatenates (L.map (·.1)) (⟨2, ![2048, 2048]⟩ : Shape) 1) (q : ℕ) (hq : q < L.length)
    (f : (⟨2, ![2048, C]⟩ : Shape).Idx → α) (hf : L[q] = ⟨⟨2, ![2048, C]⟩, f⟩) (o : ℕ)
    (ho : (((L.take q).map (·.1)).map fun s => if h : s.rank = 2 then s.size (Fin.cast h.symm 1) else 0).sum = o)
    (p : Fin 2048) (j : Fin 2048) (k : Fin C) (hj : j.val = o + k.val) : concatenate (⟨2, ![2048, 2048]⟩ : Shape) 1 L h (ix2 p j) = f (ix2 p k) := by
  refine concatenate_apply_piece _ L h _ q hq _ f hf rfl o ho (ix2 p k) (fun b hb => ?_) hj.symm
  match b with
  | ⟨0, _⟩ => rfl
  | ⟨1, _⟩ => exact absurd rfl hb

theorem res_a (p j : Fin 2048) (k : Fin 1024) (hj : j.val = 0 + k.val) : Res m c (ix2 p j) = val_main_v12 (F := Ideal) (A0 m c) (A3 m c) (ix2 p k) :=
  side _ (by exact Cert.Reference23Ideal.Gen.concatenates_S2048x1024_S2048x512_S2048x512_S2048x2048_d1) 0 (by exact (show 0 < 3 by decide)) _ rfl 0 rfl p j k hj
theorem res_c (p j : Fin 2048) (k : Fin 512) (hj : j.val = 1024 + k.val) : Res m c (ix2 p j) = val_main_v25 (F := Ideal) (A1 m c) (A4 m c) (ix2 p k) :=
  side _ (by exact Cert.Reference23Ideal.Gen.concatenates_S2048x1024_S2048x512_S2048x512_S2048x2048_d1) 1 (by exact (show 1 < 3 by decide)) _ rfl 1024 rfl p j k hj
theorem res_l (p j : Fin 2048) (k : Fin 512) (hj : j.val = 1536 + k.val) : Res m c (ix2 p j) = val_main_v25 (F := Ideal) (A2 m c) (A5 m c) (ix2 p k) :=
  side _ (by exact Cert.Reference23Ideal.Gen.concatenates_S2048x1024_S2048x512_S2048x512_S2048x2048_d1) 2 (by exact (show 2 < 3 by decide)) _ rfl 1536 rfl p j k hj

/-- What a point leaves. -/
theorem out (t : Fin cfg0.N) (y : S256x2048.Idx) : outsAt0 m c t y = Res m c (ix2 (rowOf t (y 0)) (y 1)) := by
  have tile : ∀ (C o : ℕ) (w : (⟨2, ![256, C]⟩ : Shape).Idx → EReal),
      (∀ (p : Fin 256) (k : Fin C) (j : Fin 2048), j.val = o + k.val → w (ix2 p k) = Res m c (ix2 (rowOf t p) j)) →
      View.TileAt (Val := Elt Ideal) (S := S256x2048) (e := .bf16) y ![0, o] ![256, C] w (Res m c (ix2 (rowOf t (y 0)) (y 1))) := fun C o w hw x hx => by
    have h0 : y 0 = x 0 := Fin.ext ((hx 0).trans (Nat.zero_add _))
    rw [h0]
    exact (congrArg w (eq_ix2 x)).trans (hw (x 0) (x 1) (y 1) (hx 1))
  unfold outsAt0 out0_A_6
  refine (View.read_writes_junk_apply_eq_canon _ _ _).trans ?_
  refine View.canon_eq_of_allAt _ y _ (cover0_A_6 _ _ _ _ _ _ _ _ _ _ _ _ _ _ _ _ _ _ _ _ _ _ y) ?_
  unfold kernelRun0_A
  frame_out
  refine View.allAt_cons_unit _ _ _ _ _ (tile 512 1536 _ fun p k j hj => ?_) (View.allAt_cons_unit _ _ _ _ _ (tile 512 1024 _ fun p k j hj => ?_)
    (View.allAt_cons_unit _ _ _ _ _ (tile 1024 0 _ fun p k j hj => ?_) (View.allAt_nil _ _)))
  · exact (pay3 _ _ p k).trans ((block_of _ _ _ _ _ p (rowOf t p) k (blk_2 m c t p) (blk_5 m c t)).trans ((res_l m c _ j k hj).trans (reference_c _ _ _ k)).symm)
  · exact (pay3 _ _ p k).trans ((block_of _ _ _ _ _ p (rowOf t p) k (blk_1 m c t p) (blk_4 m c t)).trans ((res_c m c _ j k hj).trans (reference_c _ _ _ k)).symm)
  · exact (pay2 _ _ p k).trans ((block_of _ _ _ _ _ p (rowOf t p) k (blk_0 m c t p) (blk_3 m c t)).trans ((res_a m c _ j k hj).trans (reference_a _ _ _ k)).symm)

/-- The result array. -/
theorem final : (dats m 0 c).arrAt 6 cfg0.N = Res m c := by
  refine (dats m 0 c).arrAt_eq_of_covers 6 _ (by decide +kernel) fun t hf (y : S256x2048.Idx) => ?_
  refine (congrFun (after0_6 m c t) _).trans ?_
  exact (out m c t y).trans (congrArg (Res m c) (at_block _ _ _ (index t).2.2.2.1.1 (index t).2.2.2.1.2 rfl rfl rfl rfl).symm)

end Cert.Kernel23Ideal.Norm

namespace Cert.Proof

open Idealize.ShloMosaic Idealize.ShloMosaic.TcCoe Idealize.SL.Sem
open Cert.Kernel23Ideal.Norm

/-- The two programs end with equal results. -/
theorem algebraic23 : Cert.algebraic_Kernel23Ideal_Reference23Ideal := by
  intro m ρ m' ρ' _ hagree
  refine ⟨fun c => Res m c, (θ_run Cert.Kernel23Ideal.defs _ _).mono (fun _ h c => ⟨((h.1 c).1 6).trans (final m c), h.2 c⟩)
    (θ_run_and (Cert.Kernel23Ideal.Gen.run_main m ρ) (Cert.Kernel23Ideal.Gen.unchanged m ρ)), ?_⟩
  refine (θ_run Cert.Reference23Ideal.defs _ _).mono (fun _ h c => ⟨(h c).1.trans ?_, (h c).2⟩) (Cert.Reference23Ideal.Value.run (F := Ideal) m' ρ')
  rw [Cert.Reference23Ideal.Read.val_main_v40_eq, (hagree c).1, (hagree c).2.1, (hagree c).2.2.1, (hagree c).2.2.2.1, (hagree c).2.2.2.2.1, (hagree c).2.2.2.2.2]
  rfl

end Cert.Proof

end
-- ==== Proof.Adam.K24.lean ====
/-
  The optimiser's step: what the kernel leaves in its three results, entry by entry, and that they are the reference's.
-/
module

public import proofs.«01_k».proof.Defs
public import proofs.«01_k».proof.Proof.Norm.Row
public import proofs.«01_k».proof.Proof.Gen.Kernel24Ideal.Frame
public import proofs.«01_k».proof.Proof.Gen.Reference24Ideal.Read

@[expose] public section

set_option maxRecDepth 16384

noncomputable section

namespace Cert.Kernel24Ideal.Adam

open Idealize.ShloMosaic Idealize.ShloMosaic.TcCoe Idealize.SL.Sem
open Cert.Kernel24Ideal Cert.Kernel24Ideal.Gen
open Cert.Norm (at_block)
open Cert.Reference24Ideal.Read (val_main_v4 val_main_v10 val_main_v23)

/-- Every window's block is the block of rows of the grid point's number. -/
theorem index : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0) ∧ (win0_6.index t 0 = t.val ∧ win0_6.index t 1 = 0) :=
  (by decide +kernel : ∀ t : Fin grid0.N, _)

variable (m : (ℓ : Loc nD τ sig) → Buf (Elt Ideal) ℓ) (c : Dev nD)

/-- The weights, the two moments and the gradient. -/
def W : S4608x128.Idx → EReal := m ((c : Thread nD τ).loc main_arg0)
def M : S4608x128.Idx → EReal := m ((c : Thread nD τ).loc main_arg1)
def U : S4608x128.Idx → EReal := m ((c : Thread nD τ).loc main_arg2)
def G : S4608x128.Idx → EReal := m ((c : Thread nD τ).loc main_arg3)

/-- The entry of an array at an entry of a block. -/
def at_ (t : Fin cfg0.N) (y : S512x128.Idx) : S4608x128.Idx :=
  ValueIdx.ix2 ⟨t.val * 512 + (y 0).val, by have h := lt_of_lt_of_eq t.isLt N_0; have g : (y 0).val < 512 := (y 0).isLt; omega⟩ (y 1)

theorem blk_0 (t : Fin cfg0.N) (y : S512x128.Idx) : iblk m c 0 t y = W m c (at_ t y) := by
  unfold iblk
  rw [View.read_apply]
  exact (congrFun (V_main_arg0 m c) _).trans (congrArg (W m c) (at_block _ _ _ (index t).1.1 (index t).1.2 rfl rfl rfl rfl))
theorem blk_1 (t : Fin cfg0.N) (y : S512x128.Idx) : iblk m c 1 t y = M m c (at_ t y) := by
  unfold iblk
  rw [View.read_apply]
  exact (congrFun (V_main_arg1 m c) _).trans (congrArg (M m c) (at_block _ _ _ (index t).2.1.1 (index t).2.1.2 rfl rfl rfl rfl))
theorem blk_2 (t : Fin cfg0.N) (y : S512x128.Idx) : iblk m c 2 t y = U m c (at_ t y) := by
  unfold iblk
  rw [View.read_apply]
  exact (congrFun (V_main_arg2 m c) _).trans (congrArg (U m c) (at_block _ _ _ (index t).2.2.1.1 (index t).2.2.1.2 rfl rfl rfl rfl))
theorem blk_3 (t : Fin cfg0.N) (y : S512x128.Idx) : iblk m c 3 t y = G m c (at_ t y) := by
  unfold iblk
  rw [View.read_apply]
  exact (congrFun (V_main_arg3 m c) _).trans (congrArg (G m c) (at_block _ _ _ (index t).2.2.2.1.1 (index t).2.2.2.1.2 rfl rfl rfl rfl))

/-- The step at an entry depends on that entry alone, by the same operations in both programs. -/
theorem moment1 (x1 x3 : S4608x128.Idx → EReal) (g u : Vec Ideal S512x128 .f32) (y : S512x128.Idx) (i : S4608x128.Idx) (h1 : u y = x1 i) (h3 : g y = x3 i) :
    k0_pay1 (F := Ideal) g u y = val_main_v4 (F := Ideal) x1 x3 i := by
  show Ideal.ofBits .f32 0x3F666666#32 * u y + Ideal.ofBits .f32 0x3DCCCCCD#32 * g y = Ideal.ofBits .f32 0x3F666666#32 * x1 i + Ideal.ofBits .f32 0x3DCCCCCD#32 * x3 i
  rw [h1, h3]
theorem moment2 (x2 x3 : S4608x128.Idx → EReal) (g u : Vec Ideal S512x128 .f32) (y : S512x128.Idx) (i : S4608x128.Idx) (h2 : u y = x2 i) (h3 : g y = x3 i) :
    k0_pay2 (F := Ideal) g u y = val_main_v10 (F := Ideal) x2 x3 i := by
  show Ideal.ofBits .f32 0x3F7FBE77#32 * u y + Ideal.ofBits .f32 0x3A83126F#32 * (g y * g y) = Ideal.ofBits .f32 0x3F7FBE77#32 * x2 i + Ideal.ofBits .f32 0x3A83126F#32 * (x3 i * x3 i)
  rw [h2, h3]
/-- The change of a weight, from its two moments. -/
def step (w a b : EReal) : EReal :=
  Ideal.ofBits .f32 0xBA83126F#32 * (Ideal.div (Ideal.div a (Ideal.ofBits .f32 0x3F26BD02#32)) (Ideal.sqrt (Ideal.div b (Ideal.ofBits .f32 0x3C231ACC#32)) + Ideal.ofBits .f32 0x322BCC77#32)
    + Ideal.ofBits .f32 0x3C23D70A#32 * w)
theorem change (x0 x1 x2 x3 : S4608x128.Idx → EReal) (w g u v : Vec Ideal S512x128 .f32) (y : S512x128.Idx) (i : S4608x128.Idx) (h0 : w y = x0 i) (h1 : u y = x1 i) (h2 : v y = x2 i) (h3 : g y = x3 i) :
    k0_pay3 (F := Ideal) w g u v y = val_main_v23 (F := Ideal) x0 x1 x2 x3 i := by
  show step (w y) (k0_pay1 (F := Ideal) g u y) (k0_pay2 (F := Ideal) g v y) = step (x0 i) (val_main_v4 (F := Ideal) x1 x3 i) (val_main_v10 (F := Ideal) x2 x3 i)
  rw [h0, moment1 x1 x3 g u y i h1 h3, moment2 x2 x3 g v y i h2 h3]

/-- The three result arrays. -/
theorem final4 : (dats m 0 c).arrAt 4 cfg0.N = val_main_v23 (F := Ideal) (W m c) (M m c) (U m c) (G m c) := by
  refine (dats m 0 c).arrAt_eq_of_covers 4 _ (by decide +kernel) fun t hf (y : S512x128.Idx) => ?_
  refine (congrFun (after0_4 m c t) _).trans ?_
  unfold out0_4
  frame_out
  exact (change _ _ _ _ _ _ _ _ y (at_ t y) (blk_0 m c t y) (blk_1 m c t y) (blk_2 m c t y) (blk_3 m c t y)).trans (congrArg (val_main_v23 (F := Ideal) (W m c) (M m c) (U m c) (G m c)) (at_block _ _ _ (index t).2.2.2.2.1.1 (index t).2.2.2.2.1.2 rfl rfl rfl rfl).symm)
theorem final5 : (dats m 0 c).arrAt 5 cfg0.N = val_main_v4 (F := Ideal) (M m c) (G m c) := by
  refine (dats m 0 c).arrAt_eq_of_covers 5 _ (by decide +kernel) fun t hf (y : S512x128.Idx) => ?_
  refine (congrFun (after0_5 m c t) _).trans ?_
  unfold out0_5
  frame_out
  exact (moment1 _ _ _ _ y (at_ t y) (blk_1 m c t y) (blk_3 m c t y)).trans (congrArg (val_main_v4 (F := Ideal) (M m c) (G m c)) (at_block _ _ _ (index t).2.2.2.2.2.1.1 (index t).2.2.2.2.2.1.2 rfl rfl rfl rfl).symm)
theorem final6 : (dats m 0 c).arrAt 6 cfg0.N = val_main_v10 (F := Ideal) (U m c) (G m c) := by
  refine (dats m 0 c).arrAt_eq_of_covers 6 _ (by decide +kernel) fun t hf (y : S512x128.Idx) => ?_
  refine (congrFun (after0_6 m c t) _).trans ?_
  unfold out0_6
  frame_out
  exact (moment2 _ _ _ _ y (at_ t y) (blk_2 m c t y) (blk_3 m c t y)).trans (congrArg (val_main_v10 (F := Ideal) (U m c) (G m c)) (at_block _ _ _ (index t).2.2.2.2.2.2.1 (index t).2.2.2.2.2.2.2 rfl rfl rfl rfl).symm)

end Cert.Kernel24Ideal.Adam

namespace Cert.Proof

open Idealize.ShloMosaic Idealize.ShloMosaic.TcCoe Idealize.SL.Sem
open Cert.Kernel24Ideal.Adam

/-- The two programs end with equal results. -/
theorem algebraic24 : Cert.algebraic_Kernel24Ideal_Reference24Ideal := by
  intro m ρ m' ρ' _ hagree
  refine ⟨_, _, _, (θ_run Cert.Kernel24Ideal.defs _ _).mono
      (fun _ h c => ⟨((h.1 c).1 4).trans (final4 m c), ((h.1 c).1 5).trans (final5 m c), ((h.1 c).1 6).trans (final6 m c), h.2 c⟩)
    (θ_run_and (Cert.Kernel24Ideal.Gen.run_main m ρ) (Cert.Kernel24Ideal.Gen.unchanged m ρ)), ?_⟩
  refine (θ_run Cert.Reference24Ideal.defs _ _).mono (fun _ h c => ⟨(h c).1.trans ?_, (h c).2.1.trans ?_, (h c).2.2.1.trans ?_, (h c).2.2.2⟩)
    (Cert.Reference24Ideal.Value.run (F := Ideal) m' ρ')
  · rw [Cert.Reference24Ideal.Read.val_main_v23_eq, (hagree c).1, (hagree c).2.1, (hagree c).2.2.1, (hagree c).2.2.2]
    rfl
  · rw [Cert.Reference24Ideal.Read.val_main_v4_eq, (hagree c).2.1, (hagree c).2.2.2]
    rfl
  · rw [Cert.Reference24Ideal.Read.val_main_v10_eq, (hagree c).2.2.1, (hagree c).2.2.2]
    rfl

end Cert.Proof

end
-- ==== Proof.Adam.K25.lean ====
/-
  The sum of the eight parts of the packed gradient: what the kernel leaves in its result, entry by entry, and that it is the reference's.
-/
module

public import proofs.«01_k».proof.Defs
public import proofs.«01_k».proof.Proof.Norm.Row
public import proofs.«01_k».proof.Proof.Gen.Kernel25Ideal.Frame
public import Idealize.ShloMosaic.Lib.Pipeline.ValueKit.Tiles
public import proofs.«01_k».proof.Proof.Gen.Reference25Ideal.Read

@[expose] public section

set_option maxRecDepth 16384

noncomputable section

namespace Cert.Kernel25Ideal.Adam

open Idealize.ShloMosaic hiding ix1 ix2 ix3 eq_ix2
open Idealize.ShloMosaic.TcCoe Idealize.SL.Sem
open Idealize.ShloMosaic.ValueIdx
open Cert.Kernel25Ideal Cert.Kernel25Ideal.Gen
open Cert.Norm (at_block)

/-- One part's block, read without its axis of parts. -/
theorem part_apply (x : Vec Ideal S8x512x128 .f32) (p : Fin 8) (inb) (y : S512x128.Idx) :
    shapeCast S512x128 (View.ld x (Rect.unit (s := S8x512x128) ![p.val, 0, 0] S1x512x128.size inb)) shapeCasts_S1x512x128_S512x128 y = x (ix3 p (y 0) (y 1)) := by
  refine (congrArg _ (eq_ix2 y)).trans ((Cert.Dense.plane_apply _ _ (y 0) (y 1)).trans (View.ld_unit_apply_of _ _ _ _ _ _ fun a => ?_))
  match a with
  | ⟨0, _⟩ => rfl
  | ⟨1, _⟩ => exact (Nat.zero_add _).symm
  | ⟨2, _⟩ => exact (Nat.zero_add _).symm

/-- The kernel's body adds the parts from the first to the last. -/
theorem pay (x : Vec Ideal S8x512x128 .f32) (y : S512x128.Idx) :
    k0_pay1 (F := Ideal) (View.ld x r0_0) (View.ld x r0_1) (View.ld x r0_2) (View.ld x r0_3) (View.ld x r0_4) (View.ld x r0_5) (View.ld x r0_6) (View.ld x r0_7) y
      = ∑ p : Fin 8, x (ix3 p (y 0) (y 1)) := by
  rw [Fin.sum_univ_eight]
  exact congrArg₂ (· + ·) (congrArg₂ (· + ·) (congrArg₂ (· + ·) (congrArg₂ (· + ·) (congrArg₂ (· + ·) (congrArg₂ (· + ·) (congrArg₂ (· + ·)
    (part_apply x 0 _ y) (part_apply x 1 _ y)) (part_apply x 2 _ y)) (part_apply x 3 _ y)) (part_apply x 4 _ y)) (part_apply x 5 _ y)) (part_apply x 6 _ y)) (part_apply x 7 _ y)

/-- A grid point's blocks are the block of rows of its number. -/
theorem index : ∀ t : Fin cfg0.N, (win0_0.index t 0 = 0 ∧ win0_0.index t 1 = t.val ∧ win0_0.index t 2 = 0) ∧ win0_1.index t 0 = t.val ∧ win0_1.index t 1 = 0 :=
  (by decide +kernel : ∀ t : Fin grid0.N, _)

/-- The row a row of a block is. -/
def rowOf (t : Fin cfg0.N) (r : Fin 512) : Fin 5120 := ⟨t.val * 512 + r.val, by have := lt_of_lt_of_eq t.isLt N_0; omega⟩

variable (m : (ℓ : Loc nD τ sig) → Buf (Elt Ideal) ℓ) (c : Dev nD)

/-- The parts, and their sum. -/
def A : S8x5120x128.Idx → EReal := m ((c : Thread nD τ).loc main_arg0)
def total (x : S8x5120x128.Idx → EReal) (i : S5120x128.Idx) : EReal := ∑ p : Fin 8, x (ix3 p (i 0) (i 1))

theorem blk (t : Fin cfg0.N) (p : Fin 8) (r : Fin 512) (k : Fin 128) : iblk m c 0 t (ix3 p r k) = A m c (ix3 p (rowOf t r) k) := by
  unfold iblk
  rw [View.read_apply]
  refine (congrFun (V_main_arg0 m c) _).trans (congrArg (A m c) (funext fun x => Fin.ext ?_))
  have e := index t
  match x with
  | ⟨0, _⟩ =>
      show win0_0.index t 0 * 8 + 1 * p.val = p.val
      omega
  | ⟨1, _⟩ =>
      show win0_0.index t 1 * 512 + 1 * r.val = t.val * 512 + r.val
      omega
  | ⟨2, _⟩ =>
      show win0_0.index t 2 * 128 + 1 * k.val = k.val
      omega

/-- The result array. -/
theorem final : (dats m 0 c).arrAt 1 cfg0.N = total (A m c) := by
  refine (dats m 0 c).arrAt_eq_of_covers 1 _ (by decide +kernel) fun t hf (y : S512x128.Idx) => ?_
  refine (congrFun (after0_1 m c t) _).trans ?_
  unfold out0_1
  frame_out
  refine (pay (iblk m c 0 t) y).trans ((Finset.sum_congr (M := EReal) rfl fun p _ => blk m c t p (y 0) (y 1)).trans
    (congrArg (total (A m c)) (a₁ := ix2 (rowOf t (y 0)) (y 1)) (funext fun x => Fin.ext ?_)))
  have e := index t
  match x with
  | ⟨0, _⟩ =>
      show t.val * 512 + (y 0).val = win0_1.index t 0 * 512 + 1 * (y 0).val
      omega
  | ⟨1, _⟩ =>
      show (y 1).val = win0_1.index t 1 * 128 + 1 * (y 1).val
      omega

/-- The reference's sum starts from zero. -/
theorem reference (x : S8x5120x128.Idx → EReal) : Cert.Reference25Ideal.Read.val_main_v0 (F := Ideal) x = total x := funext fun i => by
  refine (Cert.Reference25Ideal.Read.val_main_v0_apply x i).trans ((congrArg (· + _) Ideal.ofBits_zero_f32).trans ((zero_add _).trans ?_))
  refine Finset.sum_congr rfl fun p _ => congrArg x (funext fun a => ?_)
  match a with
  | ⟨0, _⟩ => rfl
  | ⟨1, _⟩ => rfl
  | ⟨2, _⟩ => rfl

end Cert.Kernel25Ideal.Adam

namespace Cert.Proof

open Idealize.ShloMosaic Idealize.ShloMosaic.TcCoe Idealize.SL.Sem
open Cert.Kernel25Ideal.Adam

/-- The two programs end with equal results. -/
theorem algebraic25 : Cert.algebraic_Kernel25Ideal_Reference25Ideal := by
  intro m ρ m' ρ' _ hagree
  refine ⟨fun c => total (A m c), (θ_run Cert.Kernel25Ideal.defs _ _).mono (fun _ h c => ⟨((h.1 c).1 1).trans (final m c), h.2 c⟩)
    (θ_run_and (Cert.Kernel25Ideal.Gen.run_main m ρ) (Cert.Kernel25Ideal.Gen.unchanged m ρ)), ?_⟩
  refine (θ_run Cert.Reference25Ideal.defs _ _).mono (fun _ h c => ⟨(h c).1.trans ?_, (h c).2⟩) (Cert.Reference25Ideal.Value.run (F := Ideal) m' ρ')
  have a0 := hagree c
  rw [Cert.Reference25Ideal.Read.val_main_v0_eq, a0]
  exact reference _

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Attn.Claims
public import proofs.«01_k».proof.Proof.Dense.Frames
public import proofs.«01_k».proof.Proof.Dense.K2
public import proofs.«01_k».proof.Proof.Dense.K3
public import proofs.«01_k».proof.Proof.Dense.K4
public import proofs.«01_k».proof.Proof.Dense.K5
public import proofs.«01_k».proof.Proof.Dense.K6
public import proofs.«01_k».proof.Proof.Dense.K7
public import proofs.«01_k».proof.Proof.Dense.K8
public import proofs.«01_k».proof.Proof.Dense.K9
public import proofs.«01_k».proof.Proof.Dense.K10
public import proofs.«01_k».proof.Proof.Dense.K11
public import proofs.«01_k».proof.Proof.Dense.K12
public import proofs.«01_k».proof.Proof.Dense.K13
public import proofs.«01_k».proof.Proof.Dense.K14
public import proofs.«01_k».proof.Proof.Dense.K15
public import proofs.«01_k».proof.Proof.Dense.K16
public import proofs.«01_k».proof.Proof.Norm.K17
public import proofs.«01_k».proof.Proof.Norm.K19
public import proofs.«01_k».proof.Proof.Norm.K18
public import proofs.«01_k».proof.Proof.Norm.K20
public import proofs.«01_k».proof.Proof.Norm.K21
public import proofs.«01_k».proof.Proof.Norm.K22
public import proofs.«01_k».proof.Proof.Norm.K23
public import proofs.«01_k».proof.Proof.Adam.K24
public import proofs.«01_k».proof.Proof.Adam.K25

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel19.Gen.facts, Cert.Kernel19Ideal.Gen.facts, Cert.Reference19Ideal.Gen.facts,
    Cert.Kernel18.Gen.facts, Cert.Kernel18Ideal.Gen.facts, Cert.Reference18Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    finite_facts, finite2_facts, finite19_facts,
    frame_kernel, frame_ideal, fun m ρ _ => frame_ideal m ρ trivial, frame_reference,
    fun m ρ _ => frame_reference m ρ trivial,
    frame_kernel2, frame_ideal2, fun m ρ _ => frame_ideal2 m ρ trivial, frame_reference2,
    fun m ρ _ => frame_reference2 m ρ trivial,
    frame_kernel3, frame_ideal3, frame_reference3,
    frame_kernel4, frame_ideal4, frame_reference4,
    frame_kernel5, frame_ideal5, frame_reference5,
    frame_kernel6, frame_ideal6, frame_reference6,
    frame_kernel7, frame_ideal7, frame_reference7,
    frame_kernel8, frame_ideal8, frame_reference8,
    frame_kernel9, frame_ideal9, frame_reference9,
    frame_kernel10, frame_ideal10, frame_reference10,
    frame_kernel11, frame_ideal11, frame_reference11,
    frame_kernel12, frame_ideal12, frame_reference12,
    frame_kernel13, frame_ideal13, frame_reference13,
    frame_kernel14, frame_ideal14, frame_reference14,
    frame_kernel15, frame_ideal15, frame_reference15,
    frame_kernel16, frame_ideal16, frame_reference16,
    frame_kernel17, frame_ideal17, frame_reference17,
    frame_kernel19, frame_ideal19, fun m ρ _ => frame_ideal19 m ρ trivial, frame_reference19,
    fun m ρ _ => frame_reference19 m ρ trivial,
    frame_kernel18, frame_ideal18, frame_reference18,
    frame_kernel20, frame_ideal20, frame_reference20,
    frame_kernel21, frame_ideal21, frame_reference21,
    frame_kernel22, frame_ideal22, frame_reference22,
    frame_kernel23, frame_ideal23, frame_reference23,
    frame_kernel24, frame_ideal24, frame_reference24,
    frame_kernel25, frame_ideal25, frame_reference25,
    trivial, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17, trivial, algebraic19, trivial, algebraic18, trivial, algebraic20, trivial, algebraic21, trivial, algebraic22, trivial, algebraic23, trivial, algebraic24, trivial, algebraic25⟩

end Cert.Proof

end
